-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_v167) = v1 c
          ∧ r.2.mem ((c.tc : Thread Cert.ReferenceIdeal.nD Cert.ReferenceIdeal.τ).loc Cert.ReferenceIdeal.main_v168) = v2 c
          ∧ r.2.mem ((c.tc : Thread Cert.ReferenceIdeal.nD Cert.ReferenceIdeal.τ).loc Cert.ReferenceIdeal.main_v103) = v3 c
          ∧ r.2.mem ((c.tc : Thread Cert.ReferenceIdeal.nD Cert.ReferenceIdeal.τ).loc Cert.ReferenceIdeal.main_v169) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v18_0)) (v1 : (c : Dev Cert.Kernel2Ideal.nD) → Buf (Elt Ideal) ((c.tc : Thread Cert.Kernel2Ideal.nD Cert.Kernel2Ideal.τ).loc Cert.Kernel2Ideal.main_v18_2)) (v2 : (c : Dev Cert.Kernel2Ideal.nD) → Buf (Elt Ideal) ((c.tc : Thread Cert.Kernel2Ideal.nD Cert.Kernel2Ideal.τ).loc Cert.Kernel2Ideal.main_v17)) (v3 : (c : Dev Cert.Kernel2Ideal.nD) → Buf (Elt Ideal) ((c.tc : Thread Cert.Kernel2Ideal.nD Cert.Kernel2Ideal.τ).loc Cert.Kernel2Ideal.main_v16)) (v4 : (c : Dev Cert.Kernel2Ideal.nD) → Buf (Elt Ideal) ((c.tc : Thread Cert.Kernel2Ideal.nD Cert.Kernel2Ideal.τ).loc Cert.Kernel2Ideal.main_v18_3)) (v5 : (c : Dev Cert.Kernel2Ideal.nD) → Buf (Elt Ideal) ((c.tc : Thread Cert.Kernel2Ideal.nD Cert.Kernel2Ideal.τ).loc Cert.Kernel2Ideal.main_v18_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18_0) = v0 c
          ∧ r.2.mem ((c.tc : Thread Cert.Kernel2Ideal.nD Cert.Kernel2Ideal.τ).loc Cert.Kernel2Ideal.main_v18_2) = v1 c
          ∧ r.2.mem ((c.tc : Thread Cert.Kernel2Ideal.nD Cert.Kernel2Ideal.τ).loc Cert.Kernel2Ideal.main_v17) = v2 c
          ∧ r.2.mem ((c.tc : Thread Cert.Kernel2Ideal.nD Cert.Kernel2Ideal.τ).loc Cert.Kernel2Ideal.main_v16) = v3 c
          ∧ r.2.mem ((c.tc : Thread Cert.Kernel2Ideal.nD Cert.Kernel2Ideal.τ).loc Cert.Kernel2Ideal.main_v18_3) = v4 c
          ∧ r.2.mem ((c.tc : Thread Cert.Kernel2Ideal.nD Cert.Kernel2Ideal.τ).loc Cert.Kernel2Ideal.main_v18_1) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v62) = v0 c
          ∧ r.2.mem ((c.tc : Thread Cert.Reference2Ideal.nD Cert.Reference2Ideal.τ).loc Cert.Reference2Ideal.main_v66) = v1 c
          ∧ r.2.mem ((c.tc : Thread Cert.Reference2Ideal.nD Cert.Reference2Ideal.τ).loc Cert.Reference2Ideal.main_v65) = v2 c
          ∧ r.2.mem ((c.tc : Thread Cert.Reference2Ideal.nD Cert.Reference2Ideal.τ).loc Cert.Reference2Ideal.main_v67) = v3 c
          ∧ r.2.mem ((c.tc : Thread Cert.Reference2Ideal.nD Cert.Reference2Ideal.τ).loc Cert.Reference2Ideal.main_v69) = v4 c
          ∧ r.2.mem ((c.tc : Thread Cert.Reference2Ideal.nD Cert.Reference2Ideal.τ).loc Cert.Reference2Ideal.main_v70) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v1)) (v3 : (c : Dev Cert.Kernel3Ideal.nD) → Buf (Elt Ideal) ((c.tc : Thread Cert.Kernel3Ideal.nD Cert.Kernel3Ideal.τ).loc Cert.Kernel3Ideal.main_v2)) (v4 : (c : Dev Cert.Kernel3Ideal.nD) → Buf (Elt Ideal) ((c.tc : Thread Cert.Kernel3Ideal.nD Cert.Kernel3Ideal.τ).loc Cert.Kernel3Ideal.main_v3)) (v5 : (c : Dev Cert.Kernel3Ideal.nD) → Buf (Elt Ideal) ((c.tc : Thread Cert.Kernel3Ideal.nD Cert.Kernel3Ideal.τ).loc Cert.Kernel3Ideal.main_v5_0)) (v6 : (c : Dev Cert.Kernel3Ideal.nD) → Buf (Elt Ideal) ((c.tc : Thread Cert.Kernel3Ideal.nD Cert.Kernel3Ideal.τ).loc Cert.Kernel3Ideal.main_v5_2)) (v7 : (c : Dev Cert.Kernel3Ideal.nD) → Buf (Elt Ideal) ((c.tc : Thread Cert.Kernel3Ideal.nD Cert.Kernel3Ideal.τ).loc Cert.Kernel3Ideal.main_v5_3)) (v8 : (c : Dev Cert.Kernel3Ideal.nD) → Buf (Elt Ideal) ((c.tc : Thread Cert.Kernel3Ideal.nD Cert.Kernel3Ideal.τ).loc Cert.Kernel3Ideal.main_v5_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v1) = v2 c
          ∧ r.2.mem ((c.tc : Thread Cert.Kernel3Ideal.nD Cert.Kernel3Ideal.τ).loc Cert.Kernel3Ideal.main_v2) = v3 c
          ∧ r.2.mem ((c.tc : Thread Cert.Kernel3Ideal.nD Cert.Kernel3Ideal.τ).loc Cert.Kernel3Ideal.main_v3) = v4 c
          ∧ r.2.mem ((c.tc : Thread Cert.Kernel3Ideal.nD Cert.Kernel3Ideal.τ).loc Cert.Kernel3Ideal.main_v5_0) = v5 c
          ∧ r.2.mem ((c.tc : Thread Cert.Kernel3Ideal.nD Cert.Kernel3Ideal.τ).loc Cert.Kernel3Ideal.main_v5_2) = v6 c
          ∧ r.2.mem ((c.tc : Thread Cert.Kernel3Ideal.nD Cert.Kernel3Ideal.τ).loc Cert.Kernel3Ideal.main_v5_3) = v7 c
          ∧ r.2.mem ((c.tc : Thread Cert.Kernel3Ideal.nD Cert.Kernel3Ideal.τ).loc Cert.Kernel3Ideal.main_v5_1) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v65) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_v20) = v2 c
          ∧ r.2.mem ((c.tc : Thread Cert.Reference3Ideal.nD Cert.Reference3Ideal.τ).loc Cert.Reference3Ideal.main_v66) = v3 c
          ∧ r.2.mem ((c.tc : Thread Cert.Reference3Ideal.nD Cert.Reference3Ideal.τ).loc Cert.Reference3Ideal.main_v67) = v4 c
          ∧ r.2.mem ((c.tc : Thread Cert.Reference3Ideal.nD Cert.Reference3Ideal.τ).loc Cert.Reference3Ideal.main_v50) = v5 c
          ∧ r.2.mem ((c.tc : Thread Cert.Reference3Ideal.nD Cert.Reference3Ideal.τ).loc Cert.Reference3Ideal.main_v68) = v6 c
          ∧ r.2.mem ((c.tc : Thread Cert.Reference3Ideal.nD Cert.Reference3Ideal.τ).loc Cert.Reference3Ideal.main_v70) = v7 c
          ∧ r.2.mem ((c.tc : Thread Cert.Reference3Ideal.nD Cert.Reference3Ideal.τ).loc Cert.Reference3Ideal.main_v71) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v2_0)) (v2 : (c : Dev Cert.Kernel4Ideal.nD) → Buf (Elt Ideal) ((c.tc : Thread Cert.Kernel4Ideal.nD Cert.Kernel4Ideal.τ).loc Cert.Kernel4Ideal.main_v2_1)) (v3 : (c : Dev Cert.Kernel4Ideal.nD) → Buf (Elt Ideal) ((c.tc : Thread Cert.Kernel4Ideal.nD Cert.Kernel4Ideal.τ).loc Cert.Kernel4Ideal.main_v3)) (v4 : (c : Dev Cert.Kernel4Ideal.nD) → Buf (Elt Ideal) ((c.tc : Thread Cert.Kernel4Ideal.nD Cert.Kernel4Ideal.τ).loc Cert.Kernel4Ideal.main_v4)) (v5 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v2_0) = v1 c
          ∧ r.2.mem ((c.tc : Thread Cert.Kernel4Ideal.nD Cert.Kernel4Ideal.τ).loc Cert.Kernel4Ideal.main_v2_1) = v2 c
          ∧ r.2.mem ((c.tc : Thread Cert.Kernel4Ideal.nD Cert.Kernel4Ideal.τ).loc Cert.Kernel4Ideal.main_v3) = v3 c
          ∧ r.2.mem ((c.tc : Thread Cert.Kernel4Ideal.nD Cert.Kernel4Ideal.τ).loc Cert.Kernel4Ideal.main_v4) = v4 c
          ∧ r.2.mem ((c.tc : Thread Cert.Kernel4Ideal.nD Cert.Kernel4Ideal.τ).loc Cert.Kernel4Ideal.main_v5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v32) = v1 c
          ∧ r.2.mem ((c.tc : Thread Cert.Reference4Ideal.nD Cert.Reference4Ideal.τ).loc Cert.Reference4Ideal.main_v47) = v2 c
          ∧ r.2.mem ((c.tc : Thread Cert.Reference4Ideal.nD Cert.Reference4Ideal.τ).loc Cert.Reference4Ideal.main_v54) = v3 c
          ∧ r.2.mem ((c.tc : Thread Cert.Reference4Ideal.nD Cert.Reference4Ideal.τ).loc Cert.Reference4Ideal.main_v7) = v4 c
          ∧ r.2.mem ((c.tc : Thread Cert.Reference4Ideal.nD Cert.Reference4Ideal.τ).loc Cert.Reference4Ideal.main_v55) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v2_0)) (v2 : (c : Dev Cert.Kernel5Ideal.nD) → Buf (Elt Ideal) ((c.tc : Thread Cert.Kernel5Ideal.nD Cert.Kernel5Ideal.τ).loc Cert.Kernel5Ideal.main_v2_1)) (v3 : (c : Dev Cert.Kernel5Ideal.nD) → Buf (Elt Ideal) ((c.tc : Thread Cert.Kernel5Ideal.nD Cert.Kernel5Ideal.τ).loc Cert.Kernel5Ideal.main_v2_2)) (v4 : (c : Dev Cert.Kernel5Ideal.nD) → Buf (Elt Ideal) ((c.tc : Thread Cert.Kernel5Ideal.nD Cert.Kernel5Ideal.τ).loc Cert.Kernel5Ideal.main_v2_3)) (v5 : (c : Dev Cert.Kernel5Ideal.nD) → Buf (Elt Ideal) ((c.tc : Thread Cert.Kernel5Ideal.nD Cert.Kernel5Ideal.τ).loc Cert.Kernel5Ideal.main_v3)) (v6 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v2_0) = v1 c
          ∧ r.2.mem ((c.tc : Thread Cert.Kernel5Ideal.nD Cert.Kernel5Ideal.τ).loc Cert.Kernel5Ideal.main_v2_1) = v2 c
          ∧ r.2.mem ((c.tc : Thread Cert.Kernel5Ideal.nD Cert.Kernel5Ideal.τ).loc Cert.Kernel5Ideal.main_v2_2) = v3 c
          ∧ r.2.mem ((c.tc : Thread Cert.Kernel5Ideal.nD Cert.Kernel5Ideal.τ).loc Cert.Kernel5Ideal.main_v2_3) = v4 c
          ∧ r.2.mem ((c.tc : Thread Cert.Kernel5Ideal.nD Cert.Kernel5Ideal.τ).loc Cert.Kernel5Ideal.main_v3) = v5 c
          ∧ r.2.mem ((c.tc : Thread Cert.Kernel5Ideal.nD Cert.Kernel5Ideal.τ).loc Cert.Kernel5Ideal.main_v4) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_v88) = v1 c
          ∧ r.2.mem ((c.tc : Thread Cert.Reference5Ideal.nD Cert.Reference5Ideal.τ).loc Cert.Reference5Ideal.main_v87) = v2 c
          ∧ r.2.mem ((c.tc : Thread Cert.Reference5Ideal.nD Cert.Reference5Ideal.τ).loc Cert.Reference5Ideal.main_v89) = v3 c
          ∧ r.2.mem ((c.tc : Thread Cert.Reference5Ideal.nD Cert.Reference5Ideal.τ).loc Cert.Reference5Ideal.main_v90) = v4 c
          ∧ r.2.mem ((c.tc : Thread Cert.Reference5Ideal.nD Cert.Reference5Ideal.τ).loc Cert.Reference5Ideal.main_v91) = v5 c
          ∧ r.2.mem ((c.tc : Thread Cert.Reference5Ideal.nD Cert.Reference5Ideal.τ).loc Cert.Reference5Ideal.main_v11) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v13_0)) (v1 : (c : Dev Cert.Kernel6Ideal.nD) → Buf (Elt Ideal) ((c.tc : Thread Cert.Kernel6Ideal.nD Cert.Kernel6Ideal.τ).loc Cert.Kernel6Ideal.main_v13_1)) (v2 : (c : Dev Cert.Kernel6Ideal.nD) → Buf (Elt Ideal) ((c.tc : Thread Cert.Kernel6Ideal.nD Cert.Kernel6Ideal.τ).loc Cert.Kernel6Ideal.main_v14_0)) (v3 : (c : Dev Cert.Kernel6Ideal.nD) → Buf (Elt Ideal) ((c.tc : Thread Cert.Kernel6Ideal.nD Cert.Kernel6Ideal.τ).loc Cert.Kernel6Ideal.main_v14_2)) (v4 : (c : Dev Cert.Kernel6Ideal.nD) → Buf (Elt Ideal) ((c.tc : Thread Cert.Kernel6Ideal.nD Cert.Kernel6Ideal.τ).loc Cert.Kernel6Ideal.main_v14_3)) (v5 : (c : Dev Cert.Kernel6Ideal.nD) → Buf (Elt Ideal) ((c.tc : Thread Cert.Kernel6Ideal.nD Cert.Kernel6Ideal.τ).loc Cert.Kernel6Ideal.main_v15)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v13_0) = v0 c
          ∧ r.2.mem ((c.tc : Thread Cert.Kernel6Ideal.nD Cert.Kernel6Ideal.τ).loc Cert.Kernel6Ideal.main_v13_1) = v1 c
          ∧ r.2.mem ((c.tc : Thread Cert.Kernel6Ideal.nD Cert.Kernel6Ideal.τ).loc Cert.Kernel6Ideal.main_v14_0) = v2 c
          ∧ r.2.mem ((c.tc : Thread Cert.Kernel6Ideal.nD Cert.Kernel6Ideal.τ).loc Cert.Kernel6Ideal.main_v14_2) = v3 c
          ∧ r.2.mem ((c.tc : Thread Cert.Kernel6Ideal.nD Cert.Kernel6Ideal.τ).loc Cert.Kernel6Ideal.main_v14_3) = v4 c
          ∧ r.2.mem ((c.tc : Thread Cert.Kernel6Ideal.nD Cert.Kernel6Ideal.τ).loc Cert.Kernel6Ideal.main_v15) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v69) = v0 c
          ∧ r.2.mem ((c.tc : Thread Cert.Reference6Ideal.nD Cert.Reference6Ideal.τ).loc Cert.Reference6Ideal.main_v70) = v1 c
          ∧ r.2.mem ((c.tc : Thread Cert.Reference6Ideal.nD Cert.Reference6Ideal.τ).loc Cert.Reference6Ideal.main_v52) = v2 c
          ∧ r.2.mem ((c.tc : Thread Cert.Reference6Ideal.nD Cert.Reference6Ideal.τ).loc Cert.Reference6Ideal.main_v71) = v3 c
          ∧ r.2.mem ((c.tc : Thread Cert.Reference6Ideal.nD Cert.Reference6Ideal.τ).loc Cert.Reference6Ideal.main_v73) = v4 c
          ∧ r.2.mem ((c.tc : Thread Cert.Reference6Ideal.nD Cert.Reference6Ideal.τ).loc Cert.Reference6Ideal.main_v74) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v70) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_v26) = v1 c
          ∧ r.2.mem ((c.tc : Thread Cert.Reference8Ideal.nD Cert.Reference8Ideal.τ).loc Cert.Reference8Ideal.main_v7) = v2 c
          ∧ r.2.mem ((c.tc : Thread Cert.Reference8Ideal.nD Cert.Reference8Ideal.τ).loc Cert.Reference8Ideal.main_v13) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Kernel.lean ====
abbrev S4096x2048 : Shape := ⟨2, ![4096, 2048]⟩
abbrev S1x1024 : Shape := ⟨2, ![1, 1024]⟩
abbrev S1x8x128x128 : Shape := ⟨4, ![1, 8, 128, 128]⟩
abbrev S1x8x128 : Shape := ⟨3, ![1, 8, 128]⟩
abbrev S8x128x128 : Shape := ⟨3, ![8, 128, 128]⟩
abbrev S8x128 : Shape := ⟨2, ![8, 128]⟩
abbrev S8x128x1 : Shape := ⟨3, ![8, 128, 1]⟩
abbrev S128x1024 : Shape := ⟨2, ![128, 1024]⟩
abbrev S128x2048 : Shape := ⟨2, ![128, 2048]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S1x128x1 : Shape := ⟨3, ![1, 128, 1]⟩
abbrev S128x896 : Shape := ⟨2, ![128, 896]⟩
abbrev S7x128x1 : Shape := ⟨3, ![7, 128, 1]⟩
abbrev S7x128x128 : Shape := ⟨3, ![7, 128, 128]⟩
abbrev S128x768 : Shape := ⟨2, ![128, 768]⟩
abbrev S6x128x1 : Shape := ⟨3, ![6, 128, 1]⟩
abbrev S6x128x128 : Shape := ⟨3, ![6, 128, 128]⟩
abbrev S128x640 : Shape := ⟨2, ![128, 640]⟩
abbrev S128x256 : Shape := ⟨2, ![128, 256]⟩
abbrev S5x128x1 : Shape := ⟨3, ![5, 128, 1]⟩
abbrev S2x128x1 : Shape := ⟨3, ![2, 128, 1]⟩
abbrev S5x128x128 : Shape := ⟨3, ![5, 128, 128]⟩
abbrev S2x128x128 : Shape := ⟨3, ![2, 128, 128]⟩
abbrev S128x512 : Shape := ⟨2, ![128, 512]⟩
abbrev S128x384 : Shape := ⟨2, ![128, 384]⟩
abbrev S4x128x1 : Shape := ⟨3, ![4, 128, 1]⟩
abbrev S3x128x1 : Shape := ⟨3, ![3, 128, 1]⟩
abbrev S4x128x128 : Shape := ⟨3, ![4, 128, 128]⟩
abbrev S3x128x128 : Shape := ⟨3, ![3, 128, 128]⟩
abbrev S1024 : Shape := ⟨1, ![1024]⟩

abbrev nBuf : Space → Nat
  | .hbm => 14
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x1024, .f32⟩
  | .hbm, ⟨3, _⟩ => ⟨S1x1024, .f32⟩
  | .hbm, ⟨4, _⟩ => ⟨S1x8x128x128, .f32⟩
  | .hbm, ⟨5, _⟩ => ⟨S1x8x128, .f32⟩
  | .hbm, ⟨6, _⟩ => ⟨S8x128x128, .f32⟩
  | .hbm, ⟨7, _⟩ => ⟨S8x128, .f32⟩
  | .hbm, ⟨8, _⟩ => ⟨S8x128x1, .f32⟩
  | .hbm, ⟨9, _⟩ => ⟨S4096x2048, .bf16⟩
  | .hbm, ⟨10, _⟩ => ⟨S1x1024, .f32⟩
  | .hbm, ⟨11, _⟩ => ⟨S1x1024, .f32⟩
  | .hbm, ⟨12, _⟩ => ⟨S8x128x128, .f32⟩
  | .hbm, ⟨13, _⟩ => ⟨S8x128x1, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S8x128x1, .f32⟩
  | .local _ .vmem, ⟨10, _⟩ => ⟨S128x2048, .bf16⟩
  | .local _ .vmem, ⟨11, _⟩ => ⟨S128x2048, .bf16⟩
  | .local _ .vmem, ⟨12, _⟩ => ⟨S1x1024, .f32⟩
  | .local _ .vmem, ⟨13, _⟩ => ⟨S1x1024, .f32⟩
  | .local _ .vmem, ⟨14, _⟩ => ⟨S8x128x128, .f32⟩
  | .local _ .vmem, ⟨15, _⟩ => ⟨S8x128x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S4096x2048 : Shape := ⟨2, ![4096, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x4096x2048 : Shape := ⟨3, ![1, 4096, 2048]⟩
abbrev S1x4096x1024 : Shape := ⟨3, ![1, 4096, 1024]⟩
abbrev S4096x1024 : Shape := ⟨2, ![4096, 1024]⟩
abbrev S1024 : Shape := ⟨1, ![1024]⟩
abbrev S8x128x128 : Shape := ⟨3, ![8, 128, 128]⟩
abbrev S8x128 : Shape := ⟨2, ![8, 128]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x32x128x8x128 : Shape := ⟨5, ![1, 32, 128, 8, 128]⟩
abbrev S128x128 : Shape := ⟨2, ![128, 128]⟩
abbrev S8x1x32x128x128 : Shape := ⟨5, ![8, 1, 32, 128, 128]⟩
abbrev S128x8 : Shape := ⟨2, ![128, 8]⟩
abbrev S1x1x128x8x1 : Shape := ⟨5, ![1, 1, 128, 8, 1]⟩
abbrev S1x128x8 : Shape := ⟨3, ![1, 128, 8]⟩
abbrev S4096 : Shape := ⟨1, ![4096]⟩
abbrev S8x128x1 : Shape := ⟨3, ![8, 128, 1]⟩

abbrev nBuf : Space → Nat
  | .hbm => 233
  | .vmem => 0
  | .smem => 0
  | _ => 0

abbrev hbmTy0_0 (i : Nat) : BufTy := match i % 128 with
  | 0 => ⟨S4096x2048, .f32⟩
  | 1 => ⟨S4096x2048, .f32⟩
  | 2 => ⟨S1x1024, .f32⟩
  | 3 => ⟨S1x1024, .f32⟩
  | 4 => ⟨S1x8x128x128, .f32⟩
  | 5 => ⟨S1x8x128, .f32⟩
  | 6 => ⟨S1x4096x2048, .f32⟩
  | 7 => ⟨S1x4096x1024, .f32⟩
  | 8 => ⟨S1x4096x1024, .f32⟩
  | 9 => ⟨S4096x1024, .f32⟩
  | 10 => ⟨S1x4096x1024, .f32⟩
  | 11 => ⟨S1024, .f32⟩
  | 12 => ⟨S1024, .f32⟩
  | 13 => ⟨S8x128x128, .f32⟩
  | 14 => ⟨S8x128, .f32⟩
  | 15 => ⟨S1x4096x1024, .f32⟩
  | 16 => ⟨S1x4096x1024, .f32⟩
  | 17 => ⟨S1x4096x1024, .f32⟩
  | 18 => ⟨S_, .f32⟩
  | 19 => ⟨S1x4096x1024, .f32⟩
  | 20 => ⟨S1x4096x1024, .f32⟩
  | 21 => ⟨S_, .f32⟩
  | 22 => ⟨S1x4096x1024, .f32⟩
  | 23 => ⟨S1x4096x1024, .f32⟩
  | 24 => ⟨S1x4096x1024, .f32⟩
  | 25 => ⟨S_, .f32⟩
  | 26 => ⟨S1x4096x1024, .f32⟩
  | 27 => ⟨S1x4096x1024, .f32⟩
  | 28 => ⟨S1x4096x1024, .f32⟩
  | 29 => ⟨S_, .f32⟩
  | 30 => ⟨S1x4096x1024, .f32⟩
  | 31 => ⟨S1x4096x1024, .f32⟩
  | 32 => ⟨S_, .f32⟩
  | 33 => ⟨S1x4096x1024, .f32⟩
  | 34 => ⟨S1x4096x1024, .f32⟩
  | 35 => ⟨S1x4096x1024, .f32⟩
  | 36 => ⟨S_, .f32⟩
  | 37 => ⟨S1x4096x1024, .f32⟩
  | 38 => ⟨S1x4096x1024, .f32⟩
  | 39 => ⟨S_, .f32⟩
  | 40 => ⟨S1x4096x1024, .f32⟩
  | 41 => ⟨S1x4096x1024, .f32⟩
  | 42 => ⟨S1x4096x1024, .f32⟩
  | 43 => ⟨S1x4096x1024, .f32⟩
  | 44 => ⟨S1x4096x1024, .f32⟩
  | 45 => ⟨S1x4096x1024, .f32⟩
  | 46 => ⟨S_, .f32⟩
  | 47 => ⟨S1x4096x1024, .f32⟩
  | 48 => ⟨S1x4096x1024, .f32⟩
  | 49 => ⟨S_, .f32⟩
  | 50 => ⟨S1x4096x1024, .f32⟩
  | 51 => ⟨S1x4096x1024, .f32⟩
  | 52 => ⟨S1x4096x1024, .f32⟩
  | 53 => ⟨S_, .f32⟩
  | 54 => ⟨S1x4096x1024, .f32⟩
  | 55 => ⟨S1x4096x1024, .f32⟩
  | 56 => ⟨S1x4096x1024, .f32⟩
  | 57 => ⟨S_, .f32⟩
  | 58 => ⟨S1x4096x1024, .f32⟩
  | 59 => ⟨S1x4096x1024, .f32⟩
  | 60 => ⟨S_, .f32⟩
  | 61 => ⟨S1x4096x1024, .f32⟩
  | 62 => ⟨S1x4096x1024, .f32⟩
  | 63 => ⟨S1x4096x1024, .f32⟩
  | 64 => ⟨S_, .f32⟩
  | 65 => ⟨S1x4096x1024, .f32⟩
  | 66 => ⟨S1x4096x1024, .f32⟩
  | 67 => ⟨S_, .f32⟩
  | 68 => ⟨S1x4096x1024, .f32⟩
  | 69 => ⟨S1x4096x1024, .f32⟩
  | 70 => ⟨S1x4096x1024, .f32⟩
  | 71 => ⟨S_, .f32⟩
  | 72 => ⟨S1x4096, .f32⟩
  | 73 => ⟨S1x4096x1, .f32⟩
  | 74 => ⟨S_, .f32⟩
  | 75 => ⟨S1x4096x1, .f32⟩
  | 76 => ⟨S1x4096x1, .f32⟩
  | 77 => ⟨S1x4096x1024, .f32⟩
  | 78 => ⟨S1x4096x1024, .f32⟩
  | 79 => ⟨S1x4096x1024, .f32⟩
  | 80 => ⟨S_, .f32⟩
  | 81 => ⟨S1x4096x1024, .f32⟩
  | 82 => ⟨S1x4096x1024, .f32⟩
  | 83 => ⟨S_, .f32⟩
  | 84 => ⟨S1x4096, .f32⟩
  | 85 => ⟨S1x4096x1, .f32⟩
  | 86 => ⟨S_, .f32⟩
  | 87 => ⟨S1x4096x1, .f32⟩
  | 88 => ⟨S1x4096x1, .f32⟩
  | 89 => ⟨S1x4096x1024, .f32⟩
  | 90 => ⟨S1x4096x1024, .f32⟩
  | 91 => ⟨S_, .f32⟩
  | 92 => ⟨S1x4096x1, .f32⟩
  | 93 => ⟨S1x4096x1, .f32⟩
  | 94 => ⟨S1x4096x1, .f32⟩
  | 95 => ⟨S1x4096x1, .f32⟩
  | 96 => ⟨S_, .f32⟩
  | 97 => ⟨S1x4096x1, .f32⟩
  | 98 => ⟨S1x4096x1, .f32⟩
  | 99 => ⟨S1x4096x1024, .f32⟩
  | 100 => ⟨S1x4096x1024, .f32⟩
  | 101 => ⟨S1x1x1024, .f32⟩
  | 102 => ⟨S1x4096x1024, .f32⟩
  | 103 => ⟨S1x4096x1024, .f32⟩
  | 104 => ⟨S1x1x1024, .f32⟩
  | 105 => ⟨S1x4096x1024, .f32⟩
  | 106 => ⟨S1x4096x1024, .f32⟩
  | 107 => ⟨S1x32x128x8x128, .f32⟩
  | 108 => ⟨S_, .i1⟩
  | 109 => ⟨S128x128, .i1⟩
  | 110 => ⟨S128x128, .i32⟩
  | 111 => ⟨S_, .i32⟩
  | 112 => ⟨S128x128, .i32⟩
  | 113 => ⟨S128x128, .i32⟩
  | 114 => ⟨S128x128, .i32⟩
  | 115 => ⟨S128x128, .i1⟩
  | 116 => ⟨S_, .i1⟩
  | 117 => ⟨S128x128, .i1⟩
  | 118 => ⟨S128x128, .i1⟩
  | 119 => ⟨S_, .f32⟩
  | 120 => ⟨S_, .f32⟩
  | 121 => ⟨S8x128x128, .i1⟩
  | 122 => ⟨S8x128x128, .f32⟩
  | 123 => ⟨S8x128x128, .f32⟩
  | 124 => ⟨S_, .f32⟩
  | 125 => ⟨S8x128x128, .f32⟩
  | 126 => ⟨S8x1x32x128x128, .f32⟩
  | 127 => ⟨S1x32x128x8x128, .f32⟩
  | _ => ⟨S4096x2048, .f32⟩

abbrev hbmTy0_1 (i : Nat) : BufTy := match i % 128 with
  | 0 => ⟨S128x8, .f32⟩
  | 1 => ⟨S1x1x128x8x1, .f32⟩
  | 2 => ⟨S1x32x128x8x128, .f32⟩
  | 3 => ⟨S1x32x128x8x128, .f32⟩
  | 4 => ⟨S1x4096x1024, .f32⟩
  | 5 => ⟨S1x4096x1024, .f32⟩
  | 6 => ⟨S1x4096x1024, .f32⟩
  | 7 => ⟨S1x4096x1024, .f32⟩
  | 8 => ⟨S1x32x128x8x128, .f32⟩
  | 9 => ⟨S_, .f32⟩
  | 10 => ⟨S1x128x8, .f32⟩
  | 11 => ⟨S1x1x128x8x1, .f32⟩
  | 12 => ⟨S_, .f32⟩
  | 13 => ⟨S128x8, .f32⟩
  | 14 => ⟨S8x128, .f32⟩
  | 15 => ⟨S8x1x32x128x128, .f32⟩
  | 16 => ⟨S8x128x128, .f32⟩
  | 17 => ⟨S8x1x32x128x128, .f32⟩
  | 18 => ⟨S1x32x128x8x128, .f32⟩
  | 19 => ⟨S_, .f32⟩
  | 20 => ⟨S8x128x128, .f32⟩
  | 21 => ⟨S8x128x128, .f32⟩
  | 22 => ⟨S1x4096x1024, .f32⟩
  | 23 => ⟨S_, .f32⟩
  | 24 => ⟨S1x1024, .f32⟩
  | 25 => ⟨S1x1x1024, .f32⟩
  | 26 => ⟨S_, .f32⟩
  | 27 => ⟨S1024, .f32⟩
  | 28 => ⟨S1x4096x1024, .f32⟩
  | 29 => ⟨S_, .f32⟩
  | 30 => ⟨S1x1024, .f32⟩
  | 31 => ⟨S1x1x1024, .f32⟩
  | 32 => ⟨S1x4096x1024, .f32⟩
  | 33 => ⟨S1x4096x1024, .f32⟩
  | 34 => ⟨S_, .f32⟩
  | 35 => ⟨S1024, .f32⟩
  | 36 => ⟨S1x4096x1024, .f32⟩
  | 37 => ⟨S_, .f32⟩
  | 38 => ⟨S1x4096, .f32⟩
  | 39 => ⟨S1x4096x1, .f32⟩
  | 40 => ⟨S1x4096x1024, .f32⟩
  | 41 => ⟨S1x4096x1024, .f32⟩
  | 42 => ⟨S1x4096x1, .f32⟩
  | 43 => ⟨S1x4096x1024, .f32⟩
  | 44 => ⟨S_, .f32⟩
  | 45 => ⟨S1x4096, .f32⟩
  | 46 => ⟨S1x4096x1, .f32⟩
  | 47 => ⟨S_, .f32⟩
  | 48 => ⟨S1x4096x1, .f32⟩
  | 49 => ⟨S1x4096x1, .f32⟩
  | 50 => ⟨S_, .f32⟩
  | 51 => ⟨S4096, .f32⟩
  | 52 => ⟨S1x4096, .f32⟩
  | 53 => ⟨S1x4096x1024, .f32⟩
  | 54 => ⟨S1x4096x1024, .f32⟩
  | 55 => ⟨S1x4096x1024, .f32⟩
  | 56 => ⟨S_, .f32⟩
  | 57 => ⟨S1x4096, .f32⟩
  | 58 => ⟨S1x4096x1, .f32⟩
  | 59 => ⟨S1x4096x1024, .f32⟩
  | 60 => ⟨S1x4096x1, .f32⟩
  | 61 => ⟨S_, .f32⟩
  | 62 => ⟨S1x4096x1, .f32⟩
  | 63 => ⟨S1x4096x1, .f32⟩
  | 64 => ⟨S_, .f32⟩
  | 65 => ⟨S4096, .f32⟩
  | 66 => ⟨S1x4096, .f32⟩
  | 67 => ⟨S1x4096x1024, .f32⟩
  | 68 => ⟨S1x4096x1024, .f32⟩
  | 69 => ⟨S1x4096x1024, .f32⟩
  | 70 => ⟨S1x4096x1024, .f32⟩
  | 71 => ⟨S_, .f32⟩
  | 72 => ⟨S1x4096x1024, .f32⟩
  | 73 => ⟨S1x4096x1024, .f32⟩
  | 74 => ⟨S1x4096x1024, .f32⟩
  | 75 => ⟨S_, .f32⟩
  | 76 => ⟨S1x4096x1024, .f32⟩
  | 77 => ⟨S1x4096x1024, .f32⟩
  | 78 => ⟨S1x4096x1024, .f32⟩
  | 79 => ⟨S_, .f32⟩
  | 80 => ⟨S1x4096x1024, .f32⟩
  | 81 => ⟨S1x4096x1024, .f32⟩
  | 82 => ⟨S1x4096x1024, .f32⟩
  | 83 => ⟨S1x4096x1024, .f32⟩
  | 84 => ⟨S1x4096x1024, .f32⟩
  | 85 => ⟨S1x4096x1024, .f32⟩
  | 86 => ⟨S_, .f32⟩
  | 87 => ⟨S1x4096x1024, .f32⟩
  | 88 => ⟨S1x4096x1024, .f32⟩
  | 89 => ⟨S1x4096x1024, .f32⟩
  | 90 => ⟨S_, .f32⟩
  | 91 => ⟨S1x4096x1024, .f32⟩
  | 92 => ⟨S1x4096x1024, .f32⟩
  | 93 => ⟨S1x4096x1024, .f32⟩
  | 94 => ⟨S_, .f32⟩
  | 95 => ⟨S1x4096x1024, .f32⟩
  | 96 => ⟨S1x4096x1024, .f32⟩
  | 97 => ⟨S1x4096x1024, .f32⟩
  | 98 => ⟨S1x4096x1024, .f32⟩
  | 99 => ⟨S1x4096x2048, .f32⟩
  | 100 => ⟨S4096x2048, .f32⟩
  | 101 => ⟨S4096x2048, .bf16⟩
  | 102 => ⟨S1x1024, .f32⟩
  | 103 => ⟨S1x1024, .f32⟩
  | 104 => ⟨S8x128x1, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_v52 : Ref sig .tc := ⟨.hbm, 73, rfl⟩
abbrev main_cst_14 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_v59 : Ref sig .tc := ⟨.hbm, 82, rfl⟩
abbrev main_cst_16 : Ref sig .tc := ⟨.hbm, 83, rfl⟩
abbrev main_v60 : Ref sig .tc := ⟨.hbm, 84, rfl⟩
abbrev main_v61 : Ref sig .tc := ⟨.hbm, 85, rfl⟩
abbrev main_cst_17 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_18 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_19 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_c : Ref sig .tc := ⟨.hbm, 108, rfl⟩
abbrev main_v81 : Ref sig .tc := ⟨.hbm, 109, rfl⟩
abbrev main_call0_v0 : Ref sig .tc := ⟨.hbm, 110, rfl⟩
abbrev main_call0_c : Ref sig .tc := ⟨.hbm, 111, rfl⟩
abbrev main_call0_v1 : Ref sig .tc := ⟨.hbm, 112, rfl⟩
abbrev main_call0_v2 : Ref sig .tc := ⟨.hbm, 113, rfl⟩
abbrev main_call0_v3 : Ref sig .tc := ⟨.hbm, 114, rfl⟩
abbrev main_call0_v4 : Ref sig .tc := ⟨.hbm, 115, rfl⟩
abbrev main_call0_c_0 : Ref sig .tc := ⟨.hbm, 116, rfl⟩
abbrev main_call0_v5 : Ref sig .tc := ⟨.hbm, 117, rfl⟩
abbrev main_v82 : Ref sig .tc := ⟨.hbm, 118, rfl⟩
abbrev main_cst_20 : Ref sig .tc := ⟨.hbm, 119, rfl⟩
abbrev main_call1_v0 : Ref sig .tc := ⟨.hbm, 120, rfl⟩
abbrev main_v83_1 : Ref sig .tc := ⟨.hbm, 121, rfl⟩
abbrev main_call1_v2 : Ref sig .tc := ⟨.hbm, 122, rfl⟩
abbrev main_v83_0 : Ref sig .tc := ⟨.hbm, 123, rfl⟩
abbrev main_call1_cst : Ref sig .tc := ⟨.hbm, 124, rfl⟩
abbrev main_v83_2 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_21 : Ref sig .tc := ⟨.hbm, 137, rfl⟩
abbrev main_v95 : Ref sig .tc := ⟨.hbm, 138, rfl⟩
abbrev main_v96 : Ref sig .tc := ⟨.hbm, 139, rfl⟩
abbrev main_cst_22 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_call2_cst : Ref sig .tc := ⟨.hbm, 147, rfl⟩
abbrev main_call2_v0 : Ref sig .tc := ⟨.hbm, 148, rfl⟩
abbrev main_v103 : Ref sig .tc := ⟨.hbm, 149, rfl⟩
abbrev main_v104 : Ref sig .tc := ⟨.hbm, 150, rfl⟩
abbrev main_cst_23 : Ref sig .tc := ⟨.hbm, 151, rfl⟩
abbrev main_v105 : Ref sig .tc := ⟨.hbm, 152, rfl⟩
abbrev main_v106 : Ref sig .tc := ⟨.hbm, 153, rfl⟩
abbrev main_cst_24 : Ref sig .tc := ⟨.hbm, 154, rfl⟩
abbrev main_v107 : Ref sig .tc := ⟨.hbm, 155, rfl⟩
abbrev main_v108 : Ref sig .tc := ⟨.hbm, 156, rfl⟩
abbrev main_cst_25 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_cst_26 : Ref sig .tc := ⟨.hbm, 162, rfl⟩
abbrev main_v113 : Ref sig .tc := ⟨.hbm, 163, rfl⟩
abbrev main_v114 : Ref sig .tc := ⟨.hbm, 164, rfl⟩
abbrev main_cst_27 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_cst_28 : Ref sig .tc := ⟨.hbm, 172, rfl⟩
abbrev main_v121 : Ref sig .tc := ⟨.hbm, 173, rfl⟩
abbrev main_v122 : Ref sig .tc := ⟨.hbm, 174, rfl⟩
abbrev main_cst_29 : Ref sig .tc := ⟨.hbm, 175, rfl⟩
abbrev main_v123 : Ref sig .tc := ⟨.hbm, 176, rfl⟩
abbrev main_v124 : Ref sig .tc := ⟨.hbm, 177, rfl⟩
abbrev main_cst_30 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_cst_31 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_cst_32 : Ref sig .tc := ⟨.hbm, 189, rfl⟩
abbrev main_v134 : Ref sig .tc := ⟨.hbm, 190, rfl⟩
abbrev main_v135 : Ref sig .tc := ⟨.hbm, 191, rfl⟩
abbrev main_cst_33 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_cst_34 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_cst_35 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_cst_36 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_cst_37 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_cst_38 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_cst_39 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S8x1024x512 : Shape := ⟨3, ![8, 1024, 512]⟩
abbrev S8x512x1024 : Shape := ⟨3, ![8, 512, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S512x1024 : Shape := ⟨2, ![512, 1024]⟩
abbrev S512x4096 : Shape := ⟨2, ![512, 4096]⟩
abbrev S1x1024x512 : Shape := ⟨3, ![1, 1024, 512]⟩
abbrev S1024x512 : Shape := ⟨2, ![1024, 512]⟩
abbrev S512x512 : Shape := ⟨2, ![512, 512]⟩
abbrev S1x512x1024 : Shape := ⟨3, ![1, 512, 1024]⟩
abbrev S4096x512 : Shape := ⟨2, ![4096, 512]⟩
abbrev S512 : Shape := ⟨1, ![512]⟩
abbrev S512x1 : Shape := ⟨2, ![512, 1]⟩
abbrev S1024 : Shape := ⟨1, ![1024]⟩

abbrev nBuf : Space → Nat
  | .hbm => 30
  | .vmem => 36
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S8x1024x512, .bf16⟩
  | .hbm, ⟨3, _⟩ => ⟨S8x512x1024, .bf16⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S4096x4096, .bf16⟩
  | .hbm, ⟨22, _⟩ => ⟨S4096x1024, .bf16⟩
  | .hbm, ⟨23, _⟩ => ⟨S4096x4096, .bf16⟩
  | .hbm, ⟨24, _⟩ => ⟨S4096x1024, .bf16⟩
  | .hbm, ⟨25, _⟩ => ⟨S8x1024x512, .bf16⟩
  | .hbm, ⟨26, _⟩ => ⟨S4096x1024, .f32⟩
  | .hbm, ⟨27, _⟩ => ⟨S4096x1024, .bf16⟩
  | .hbm, ⟨28, _⟩ => ⟨S1x1024, .f32⟩
  | .hbm, ⟨29, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S8x1024x512, .bf16⟩
  | .local _ .vmem, ⟨3, _⟩ => ⟨S512x4096, .bf16⟩
  | .local _ .vmem, ⟨4, _⟩ => ⟨S512x4096, .bf16⟩
  | .local _ .vmem, ⟨5, _⟩ => ⟨S512x1024, .bf16⟩
  | .local _ .vmem, ⟨6, _⟩ => ⟨S512x1024, .bf16⟩
  | .local _ .vmem, ⟨7, _⟩ => ⟨S8x512x1024, .bf16⟩
  | .local _ .vmem, ⟨8, _⟩ => ⟨S512x4096, .bf16⟩
  | .local _ .vmem, ⟨9, _⟩ => ⟨S512x4096, .bf16⟩
  | .local _ .vmem, ⟨10, _⟩ => ⟨S512x4096, .bf16⟩
  | .local _ .vmem, ⟨11, _⟩ => ⟨S512x4096, .bf16⟩
  | .local _ .vmem, ⟨12, _⟩ => ⟨S4096x512, .bf16⟩
  | .local _ .vmem, ⟨13, _⟩ => ⟨S4096x512, .bf16⟩
  | .local _ .vmem, ⟨14, _⟩ => ⟨S4096x1024, .bf16⟩
  | .local _ .vmem, ⟨15, _⟩ => ⟨S512x1024, .bf16⟩
  | .local _ .vmem, ⟨16, _⟩ => ⟨S512x1024, .bf16⟩
  | .local _ .vmem, ⟨17, _⟩ => ⟨S4096x1024, .bf16⟩
  | .local _ .vmem, ⟨18, _⟩ => ⟨S4096x512, .bf16⟩
  | .local _ .vmem, ⟨19, _⟩ => ⟨S4096x512, .bf16⟩
  | .local _ .vmem, ⟨20, _⟩ => ⟨S1x1024x512, .bf16⟩
  | .local _ .vmem, ⟨21, _⟩ => ⟨S1x1024x512, .bf16⟩
  | .local _ .vmem, ⟨22, _⟩ => ⟨S512x4096, .bf16⟩
  | .local _ .vmem, ⟨23, _⟩ => ⟨S512x4096, .bf16⟩
  | .local _ .vmem, ⟨24, _⟩ => ⟨S8x1024x512, .bf16⟩
  | .local _ .vmem, ⟨25, _⟩ => ⟨S512x1024, .f32⟩
  | .local _ .vmem, ⟨26, _⟩ => ⟨S512x1024, .f32⟩
  | .local _ .vmem, ⟨27, _⟩ => ⟨S1x1024, .f32⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | .local _ .vmem, ⟨32, _⟩ => ⟨S512x1024, .bf16⟩
  | .local _ .vmem, ⟨33, _⟩ => ⟨S512x1024, .bf16⟩
  | .local _ .vmem, ⟨34, _⟩ => ⟨S1x1024, .f32⟩
  | .local _ .vmem, ⟨35, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev main_v18_2 : Ref sig .tc := ⟨.hbm, 28, rfl⟩
abbrev main_v18_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc4_stg3_0 : Ref sig .tc := ⟨.vmem, 27, rfl⟩
abbrev cc4_stg4_0 : Ref sig .tc := ⟨.vmem, 28, rfl⟩
abbrev cc4_stg4_1 : Ref sig .tc := ⟨.vmem, 29, rfl⟩
abbrev cc4_stg5_0 : Ref sig .tc := ⟨.vmem, 30, rfl⟩
abbrev cc4_stg5_1 : Ref sig .tc := ⟨.vmem, 31, rfl⟩
abbrev cc4_stg6_0 : Ref sig .tc := ⟨.vmem, 32, rfl⟩
abbrev cc4_stg6_1 : Ref sig .tc := ⟨.vmem, 33, rfl⟩
abbrev cc4_stg7_0 : Ref sig .tc := ⟨.vmem, 34, rfl⟩
abbrev cc4_stg8_0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc4_sem3_0 : DmaSem sig := 27
abbrev cc4_sem4_0 : DmaSem sig := 28
abbrev cc4_sem4_1 : DmaSem sig := 29
abbrev cc4_sem5_0 : DmaSem sig := 30
abbrev cc4_sem5_1 : DmaSem sig := 31
abbrev cc4_sem6_0 : DmaSem sig := 32
abbrev cc4_sem6_1 : DmaSem sig := 33
abbrev cc4_sem7_0 : DmaSem sig := 34
abbrev cc4_sem8_0 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x512x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 1 → Memref sig .tc .vmem S4096x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1024x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S512x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S8x1024x512 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x1024 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S512x1024 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S512x1024 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S512x1024 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x1024 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x1024 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]
-- ==== Reference2Ideal.lean ====
abbrev S4096x1024 : Shape := ⟨2, ![4096, 1024]⟩
abbrev S1x1024 : Shape := ⟨2, ![1, 1024]⟩
abbrev S8x1024x512 : Shape := ⟨3, ![8, 1024, 512]⟩
abbrev S8x512x1024 : Shape := ⟨3, ![8, 512, 1024]⟩
abbrev S1024x8x512 : Shape := ⟨3, ![1024, 8, 512]⟩
abbrev S1024x4096 : Shape := ⟨2, ![1024, 4096]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 92
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S8x1024x512, .bf16⟩
  | .hbm, ⟨3, _⟩ => ⟨S8x512x1024, .bf16⟩
  | .hbm, ⟨4, _⟩ => ⟨S4096x1024, .f32⟩
  | .hbm, ⟨5, _⟩ => ⟨S8x1024x512, .f32⟩
  | .hbm, ⟨6, _⟩ => ⟨S1024x8x512, .f32⟩
  | .hbm, ⟨7, _⟩ => ⟨S1024x4096, .f32⟩
  | .hbm, ⟨8, _⟩ => ⟨S1024, .f32⟩
  | .hbm, ⟨9, _⟩ => ⟨S8x512x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .i1⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S1024x4096, .f32⟩
  | .hbm, ⟨48, _⟩ => ⟨S4096x1024, .f32⟩
  | .hbm, ⟨49, _⟩ => ⟨S4096x4096, .f32⟩
  | .hbm, ⟨50, _⟩ => ⟨S4096x4096, .f32⟩
  | .hbm, ⟨51, _⟩ => ⟨S_, .f32⟩
  | .hbm, ⟨52, _⟩ => ⟨S4096x4096, .f32⟩
  | .hbm, ⟨53, _⟩ => ⟨S4096x4096, .f32⟩
  | .hbm, ⟨54, _⟩ => ⟨S4096x1024, .f32⟩
  | .hbm, ⟨55, _⟩ => ⟨S1024x4096, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S4096x1024, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S_, .f32⟩
  | .hbm, ⟨77, _⟩ => ⟨S4096, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S1024x8x512, .f32⟩
  | .hbm, ⟨84, _⟩ => ⟨S8x1024x512, .f32⟩
  | .hbm, ⟨85, _⟩ => ⟨S8x1024x512, .bf16⟩
  | .hbm, ⟨86, _⟩ => ⟨S1x1024, .f32⟩
  | .hbm, ⟨87, _⟩ => ⟨S4096x1024, .bf16⟩
  | .hbm, ⟨88, _⟩ => ⟨S_, .f32⟩
  | .hbm, ⟨89, _⟩ => ⟨S1024, .f32⟩
  | .hbm, ⟨90, _⟩ => ⟨S1x1024, .f32⟩
  | .hbm, ⟨91, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_cst : Ref sig .tc := ⟨.hbm, 32, rfl⟩
abbrev main_call0_v0 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_12 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S1024x2048 : Shape := ⟨2, ![1024, 2048]⟩
abbrev S1024x3200 : Shape := ⟨2, ![1024, 3200]⟩
abbrev S4096x2048 : Shape := ⟨2, ![4096, 2048]⟩
abbrev S4096x3200 : Shape := ⟨2, ![4096, 3200]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S512x3200 : Shape := ⟨2, ![512, 3200]⟩
abbrev S4096x512 : Shape := ⟨2, ![4096, 512]⟩
abbrev S1024x512 : Shape := ⟨2, ![1024, 512]⟩
abbrev S4096x640 : Shape := ⟨2, ![4096, 640]⟩
abbrev S1024x640 : Shape := ⟨2, ![1024, 640]⟩
abbrev S1024 : Shape := ⟨1, ![1024]⟩

abbrev nBuf : Space → Nat
  | .hbm => 17
  | .vmem => 45
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2048, .bf16⟩
  | .hbm, ⟨3, _⟩ => ⟨S1024x3200, .bf16⟩
  | .hbm, ⟨4, _⟩ => ⟨S4096x2048, .bf16⟩
  | .hbm, ⟨5, _⟩ => ⟨S4096x3200, .bf16⟩
  | .hbm, ⟨6, _⟩ => ⟨S4096x1024, .f32⟩
  | .hbm, ⟨7, _⟩ => ⟨S4096x1024, .bf16⟩
  | .hbm, ⟨8, _⟩ => ⟨S4096x2048, .f32⟩
  | .hbm, ⟨9, _⟩ => ⟨S4096x3200, .f32⟩
  | .hbm, ⟨10, _⟩ => ⟨S1024x2048, .bf16⟩
  | .hbm, ⟨11, _⟩ => ⟨S1024x3200, .bf16⟩
  | .hbm, ⟨12, _⟩ => ⟨S4096x1024, .f32⟩
  | .hbm, ⟨13, _⟩ => ⟨S4096x1024, .f32⟩
  | .hbm, ⟨14, _⟩ => ⟨S4096x1024, .bf16⟩
  | .hbm, ⟨15, _⟩ => ⟨S1x1024, .f32⟩
  | .hbm, ⟨16, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .f32⟩
  | .local _ .vmem, ⟨7, _⟩ => ⟨S512x2048, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1024x3200, .bf16⟩
  | .local _ .vmem, ⟨12, _⟩ => ⟨S512x3200, .f32⟩
  | .local _ .vmem, ⟨13, _⟩ => ⟨S512x3200, .f32⟩
  | .local _ .vmem, ⟨14, _⟩ => ⟨S4096x1024, .bf16⟩
  | .local _ .vmem, ⟨15, _⟩ => ⟨S4096x512, .bf16⟩
  | .local _ .vmem, ⟨16, _⟩ => ⟨S4096x512, .bf16⟩
  | .local _ .vmem, ⟨17, _⟩ => ⟨S1024x512, .bf16⟩
  | .local _ .vmem, ⟨18, _⟩ => ⟨S1024x512, .bf16⟩
  | .local _ .vmem, ⟨19, _⟩ => ⟨S4096x1024, .bf16⟩
  | .local _ .vmem, ⟨20, _⟩ => ⟨S4096x640, .bf16⟩
  | .local _ .vmem, ⟨21, _⟩ => ⟨S4096x640, .bf16⟩
  | .local _ .vmem, ⟨22, _⟩ => ⟨S1024x640, .bf16⟩
  | .local _ .vmem, ⟨23, _⟩ => ⟨S1024x640, .bf16⟩
  | .local _ .vmem, ⟨24, _⟩ => ⟨S512x2048, .bf16⟩
  | .local _ .vmem, ⟨25, _⟩ => ⟨S512x2048, .bf16⟩
  | .local _ .vmem, ⟨26, _⟩ => ⟨S1024x2048, .bf16⟩
  | .local _ .vmem, ⟨27, _⟩ => ⟨S512x1024, .f32⟩
  | .local _ .vmem, ⟨28, _⟩ => ⟨S512x1024, .f32⟩
  | .local _ .vmem, ⟨29, _⟩ => ⟨S512x3200, .bf16⟩
  | .local _ .vmem, ⟨30, _⟩ => ⟨S512x3200, .bf16⟩
  | .local _ .vmem, ⟨31, _⟩ => ⟨S1024x3200, .bf16⟩
  | .local _ .vmem, ⟨32, _⟩ => ⟨S512x1024, .f32⟩
  | .local _ .vmem, ⟨33, _⟩ => ⟨S512x1024, .f32⟩
  | .local _ .vmem, ⟨34, _⟩ => ⟨S1x1024, .f32⟩
  | .local _ .vmem, ⟨35, _⟩ => ⟨S512x1024, .f32⟩
  | .local _ .vmem, ⟨36, _⟩ => ⟨S512x1024, .f32⟩
  | .local _ .vmem, ⟨37, _⟩ => ⟨S512x1024, .f32⟩
  | .local _ .vmem, ⟨38, _⟩ => ⟨S512x1024, .f32⟩
  | .local _ .vmem, ⟨39, _⟩ => ⟨S512x1024, .f32⟩
  | .local _ .vmem, ⟨40, _⟩ => ⟨S512x1024, .f32⟩
  | .local _ .vmem, ⟨41, _⟩ => ⟨S512x1024, .bf16⟩
  | .local _ .vmem, ⟨42, _⟩ => ⟨S512x1024, .bf16⟩
  | .local _ .vmem, ⟨43, _⟩ => ⟨S1x1024, .f32⟩
  | .local _ .vmem, ⟨44, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg2_1 : Ref sig .tc := ⟨.vmem, 33, rfl⟩
abbrev cc5_stg3_0 : Ref sig .tc := ⟨.vmem, 34, rfl⟩
abbrev cc5_stg4_0 : Ref sig .tc := ⟨.vmem, 35, rfl⟩
abbrev cc5_stg4_1 : Ref sig .tc := ⟨.vmem, 36, rfl⟩
abbrev cc5_stg5_0 : Ref sig .tc := ⟨.vmem, 37, rfl⟩
abbrev cc5_stg5_1 : Ref sig .tc := ⟨.vmem, 38, rfl⟩
abbrev cc5_stg6_0 : Ref sig .tc := ⟨.vmem, 39, rfl⟩
abbrev cc5_stg6_1 : Ref sig .tc := ⟨.vmem, 40, rfl⟩
abbrev cc5_stg7_0 : Ref sig .tc := ⟨.vmem, 41, rfl⟩
abbrev cc5_stg7_1 : Ref sig .tc := ⟨.vmem, 42, rfl⟩
abbrev cc5_stg8_0 : Ref sig .tc := ⟨.vmem, 43, rfl⟩
abbrev cc5_stg9_0 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem1_0 : DmaSem sig := 15
abbrev cc2_sem1_1 : DmaSem sig := 16
abbrev cc2_sem2_0 : DmaSem sig := 17
abbrev cc2_sem2_1 : DmaSem sig := 18
abbrev cc3_sem0_0 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem2_1 : DmaSem sig := 33
abbrev cc5_sem3_0 : DmaSem sig := 34
abbrev cc5_sem4_0 : DmaSem sig := 35
abbrev cc5_sem4_1 : DmaSem sig := 36
abbrev cc5_sem5_0 : DmaSem sig := 37
abbrev cc5_sem5_1 : DmaSem sig := 38
abbrev cc5_sem6_0 : DmaSem sig := 39
abbrev cc5_sem6_1 : DmaSem sig := 40
abbrev cc5_sem7_0 : DmaSem sig := 41
abbrev cc5_sem7_1 : DmaSem sig := 42
abbrev cc5_sem8_0 : DmaSem sig := 43
abbrev cc5_sem9_0 : DmaSem sig := 44

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x3200 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x3200 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S4096x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S4096x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S4096x640 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1024x640 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x2048 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S512x3200 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1024x3200 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S512x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x1024 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S512x1024 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S512x1024 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S512x1024 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S512x1024 .bf16 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 1 → Memref sig .tc .vmem S1x1024 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1x1024 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]
-- ==== Reference3Ideal.lean ====
abbrev S4096x1024 : Shape := ⟨2, ![4096, 1024]⟩
abbrev S1x1024 : Shape := ⟨2, ![1, 1024]⟩
abbrev S1024x2048 : Shape := ⟨2, ![1024, 2048]⟩
abbrev S1024x3200 : Shape := ⟨2, ![1024, 3200]⟩
abbrev S4096x2048 : Shape := ⟨2, ![4096, 2048]⟩
abbrev S4096x3200 : Shape := ⟨2, ![4096, 3200]⟩
abbrev S1024 : Shape := ⟨1, ![1024]⟩
abbrev S_ : Shape := ⟨0, ![]⟩
abbrev S4096 : Shape := ⟨1, ![4096]⟩
abbrev S4096x1 : Shape := ⟨2, ![4096, 1]⟩
abbrev S3200x1024 : Shape := ⟨2, ![3200, 1024]⟩
abbrev S2048x1024 : Shape := ⟨2, ![2048, 1024]⟩

abbrev nBuf : Space → Nat
  | .hbm => 92
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2048, .bf16⟩
  | .hbm, ⟨3, _⟩ => ⟨S1024x3200, .bf16⟩
  | .hbm, ⟨4, _⟩ => ⟨S4096x2048, .bf16⟩
  | .hbm, ⟨5, _⟩ => ⟨S4096x3200, .bf16⟩
  | .hbm, ⟨6, _⟩ => ⟨S4096x1024, .f32⟩
  | .hbm, ⟨7, _⟩ => ⟨S1024x2048, .f32⟩
  | .hbm, ⟨8, _⟩ => ⟨S1024x3200, .f32⟩
  | .hbm, ⟨9, _⟩ => ⟨S1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x2048, .f32⟩
  | .hbm, ⟨31, _⟩ => ⟨S4096x3200, .f32⟩
  | .hbm, ⟨32, _⟩ => ⟨S4096x2048, .f32⟩
  | .hbm, ⟨33, _⟩ => ⟨S4096x3200, .f32⟩
  | .hbm, ⟨34, _⟩ => ⟨S3200x1024, .f32⟩
  | .hbm, ⟨35, _⟩ => ⟨S1024x3200, .f32⟩
  | .hbm, ⟨36, _⟩ => ⟨S4096x1024, .f32⟩
  | .hbm, ⟨37, _⟩ => ⟨S2048x1024, .f32⟩
  | .hbm, ⟨38, _⟩ => ⟨S1024x2048, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S4096x1024, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S1024, .f32⟩
  | .hbm, ⟨68, _⟩ => ⟨S4096x1024, .f32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S_, .f32⟩
  | .hbm, ⟨76, _⟩ => ⟨S4096x1, .f32⟩
  | .hbm, ⟨77, _⟩ => ⟨S4096x1, .f32⟩
  | .hbm, ⟨78, _⟩ => ⟨S4096x1, .f32⟩
  | .hbm, ⟨79, _⟩ => ⟨S4096x1024, .f32⟩
  | .hbm, ⟨80, _⟩ => ⟨S4096x1024, .f32⟩
  | .hbm, ⟨81, _⟩ => ⟨S1x1024, .f32⟩
  | .hbm, ⟨82, _⟩ => ⟨S4096x1024, .f32⟩
  | .hbm, ⟨83, _⟩ => ⟨S4096x1024, .f32⟩
  | .hbm, ⟨84, _⟩ => ⟨S4096x1024, .bf16⟩
  | .hbm, ⟨85, _⟩ => ⟨S1024x2048, .bf16⟩
  | .hbm, ⟨86, _⟩ => ⟨S1024x3200, .bf16⟩
  | .hbm, ⟨87, _⟩ => ⟨S1x1024, .f32⟩
  | .hbm, ⟨88, _⟩ => ⟨S_, .f32⟩
  | .hbm, ⟨89, _⟩ => ⟨S1024, .f32⟩
  | .hbm, ⟨90, _⟩ => ⟨S1x1024, .f32⟩
  | .hbm, ⟨91, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_8 : Ref sig .tc := ⟨.hbm, 69, rfl⟩
abbrev main_v53 : Ref sig .tc := ⟨.hbm, 70, rfl⟩
abbrev main_v54 : Ref sig .tc := ⟨.hbm, 71, rfl⟩
abbrev main_cst_9 : Ref sig .tc := ⟨.hbm, 72, rfl⟩
abbrev main_v55 : Ref sig .tc := ⟨.hbm, 73, rfl⟩
abbrev main_v56 : Ref sig .tc := ⟨.hbm, 74, rfl⟩
abbrev main_cst_10 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_11 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩

abbrev nD : Nat := 1
abbrev τ : Topo := Topo.v7x

variable {F : FTy → Type} [FloatOps F]
-- ==== Kernel4.lean ====
abbrev S4096x2048 : Shape := ⟨2, ![4096, 2048]⟩
abbrev S2048x1024 : Shape := ⟨2, ![2048, 1024]⟩
abbrev S4096x1024 : Shape := ⟨2, ![4096, 1024]⟩
abbrev S1x1024 : Shape := ⟨2, ![1, 1024]⟩
abbrev S8x1024x512 : Shape := ⟨3, ![8, 1024, 512]⟩
abbrev S8x256x1024 : Shape := ⟨3, ![8, 256, 1024]⟩
abbrev S1280x1024 : Shape := ⟨2, ![1280, 1024]⟩
abbrev S1x1280 : Shape := ⟨2, ![1, 1280]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S4096x4096 : Shape := ⟨2, ![4096, 4096]⟩
abbrev S512x4096 : Shape := ⟨2, ![512, 4096]⟩
abbrev S1x1024x512 : Shape := ⟨3, ![1, 1024, 512]⟩
abbrev S1024x512 : Shape := ⟨2, ![1024, 512]⟩
abbrev S512x512 : Shape := ⟨2, ![512, 512]⟩
abbrev S1x256x1024 : Shape := ⟨3, ![1, 256, 1024]⟩
abbrev S256x1024 : Shape := ⟨2, ![256, 1024]⟩
abbrev S512x256 : Shape := ⟨2, ![512, 256]⟩
abbrev S4096x1280 : Shape := ⟨2, ![4096, 1280]⟩
abbrev S512x1280 : Shape := ⟨2, ![512, 1280]⟩
abbrev S4096x512 : Shape := ⟨2, ![4096, 512]⟩

abbrev nBuf : Space → Nat
  | .hbm => 19
  | .vmem => 42
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S1x1024, .f32⟩
  | .hbm, ⟨4, _⟩ => ⟨S8x1024x512, .bf16⟩
  | .hbm, ⟨5, _⟩ => ⟨S8x256x1024, .bf16⟩
  | .hbm, ⟨6, _⟩ => ⟨S8x256x1024, .bf16⟩
  | .hbm, ⟨7, _⟩ => ⟨S1x1024, .f32⟩
  | .hbm, ⟨8, _⟩ => ⟨S1280x1024, .bf16⟩
  | .hbm, ⟨9, _⟩ => ⟨S1x1280, .f32⟩
  | .hbm, ⟨10, _⟩ => ⟨S4096x1024, .bf16⟩
  | .hbm, ⟨11, _⟩ => ⟨S4096x1024, .f32⟩
  | .hbm, ⟨12, _⟩ => ⟨S4096x1024, .bf16⟩
  | .hbm, ⟨13, _⟩ => ⟨S4096x4096, .bf16⟩
  | .hbm, ⟨14, _⟩ => ⟨S4096x1024, .f32⟩
  | .hbm, ⟨15, _⟩ => ⟨S4096x1024, .bf16⟩
  | .hbm, ⟨16, _⟩ => ⟨S4096x1280, .f32⟩
  | .hbm, ⟨17, _⟩ => ⟨S4096x2048, .f32⟩
  | .hbm, ⟨18, _⟩ => ⟨S2048x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S8x1024x512, .bf16⟩
  | .local _ .vmem, ⟨13, _⟩ => ⟨S512x4096, .bf16⟩
  | .local _ .vmem, ⟨14, _⟩ => ⟨S512x4096, .bf16⟩
  | .local _ .vmem, ⟨15, _⟩ => ⟨S512x4096, .bf16⟩
  | .local _ .vmem, ⟨16, _⟩ => ⟨S512x4096, .bf16⟩
  | .local _ .vmem, ⟨17, _⟩ => ⟨S8x256x1024, .bf16⟩
  | .local _ .vmem, ⟨18, _⟩ => ⟨S8x256x1024, .bf16⟩
  | .local _ .vmem, ⟨19, _⟩ => ⟨S512x1024, .f32⟩
  | .local _ .vmem, ⟨20, _⟩ => ⟨S512x1024, .f32⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S1280x1024, .bf16⟩
  | .local _ .vmem, ⟨29, _⟩ => ⟨S1x1280, .f32⟩
  | .local _ .vmem, ⟨30, _⟩ => ⟨S512x1280, .f32⟩
  | .local _ .vmem, ⟨31, _⟩ => ⟨S512x1280, .f32⟩
  | .local _ .vmem, ⟨32, _⟩ => ⟨S512x1024, .bf16⟩
  | .local _ .vmem, ⟨33, _⟩ => ⟨S512x1024, .bf16⟩
  | .local _ .vmem, ⟨34, _⟩ => ⟨S2048x1024, .bf16⟩
  | .local _ .vmem, ⟨35, _⟩ => ⟨S512x2048, .f32⟩
  | .local _ .vmem, ⟨36, _⟩ => ⟨S512x2048, .f32⟩
  | .local _ .vmem, ⟨37, _⟩ => ⟨S4096x512, .bf16⟩
  | .local _ .vmem, ⟨38, _⟩ => ⟨S4096x512, .bf16⟩
  | .local _ .vmem, ⟨39, _⟩ => ⟨S4096x1024, .bf16⟩
  | .local _ .vmem, ⟨40, _⟩ => ⟨S512x1024, .bf16⟩
  | .local _ .vmem, ⟨41, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v1 : Ref sig .tc := ⟨.hbm, 13, rfl⟩
abbrev main_v2_0 : Ref sig .tc := ⟨.hbm, 14, rfl⟩
abbrev main_v2_1 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg6_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg2_0 : Ref sig .tc := ⟨.vmem, 40, rfl⟩
abbrev cc5_stg2_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc2_sem4_0 : DmaSem sig := 21
abbrev cc2_sem5_0 : DmaSem sig := 22
abbrev cc2_sem5_1 : DmaSem sig := 23
abbrev cc2_sem6_0 : DmaSem sig := 24
abbrev cc2_sem6_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc5_sem0_0 : DmaSem sig := 37
abbrev cc5_sem0_1 : DmaSem sig := 38
abbrev cc5_sem1_0 : DmaSem sig := 39
abbrev cc5_sem2_0 : DmaSem sig := 40
abbrev cc5_sem2_1 : DmaSem sig := 41

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x1024x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x256x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S8x256x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x1024 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1280x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1280 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S512x1280 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2048x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4096x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S4096x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S512x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]
-- ==== Reference4Ideal.lean ====
abbrev S4096x2048 : Shape := ⟨2, ![4096, 2048]⟩
abbrev S2048x1024 : Shape := ⟨2, ![2048, 1024]⟩
abbrev S4096x1024 : Shape := ⟨2, ![4096, 1024]⟩
abbrev S1x1024 : Shape := ⟨2, ![1, 1024]⟩
abbrev S8x1024x512 : Shape := ⟨3, ![8, 1024, 512]⟩
abbrev S8x256x1024 : Shape := ⟨3, ![8, 256, 1024]⟩
abbrev S1280x1024 : Shape := ⟨2, ![1280, 1024]⟩
abbrev S1x1280 : Shape := ⟨2, ![1, 1280]⟩
abbrev S1024x2048 : Shape := ⟨2, ![1024, 2048]⟩
abbrev S1024x8x512 : Shape := ⟨3, ![1024, 8, 512]⟩
abbrev S1024x4096 : Shape := ⟨2, ![1024, 4096]⟩
abbrev S8x512x1024 : Shape := ⟨3, ![8, 512, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024x1280 : Shape := ⟨2, ![1024, 1280]⟩
abbrev S4096x1280 : Shape := ⟨2, ![4096, 1280]⟩
abbrev S1280 : Shape := ⟨1, ![1280]⟩

abbrev nBuf : Space → Nat
  | .hbm => 75
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S1x1024, .f32⟩
  | .hbm, ⟨4, _⟩ => ⟨S8x1024x512, .bf16⟩
  | .hbm, ⟨5, _⟩ => ⟨S8x256x1024, .bf16⟩
  | .hbm, ⟨6, _⟩ => ⟨S8x256x1024, .bf16⟩
  | .hbm, ⟨7, _⟩ => ⟨S1x1024, .f32⟩
  | .hbm, ⟨8, _⟩ => ⟨S1280x1024, .bf16⟩
  | .hbm, ⟨9, _⟩ => ⟨S1x1280, .f32⟩
  | .hbm, ⟨10, _⟩ => ⟨S4096x1024, .bf16⟩
  | .hbm, ⟨11, _⟩ => ⟨S4096x2048, .f32⟩
  | .hbm, ⟨12, _⟩ => ⟨S2048x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S1024x2048, .f32⟩
  | .hbm, ⟨17, _⟩ => ⟨S2048x1024, .f32⟩
  | .hbm, ⟨18, _⟩ => ⟨S4096x2048, .f32⟩
  | .hbm, ⟨19, _⟩ => ⟨S8x1024x512, .f32⟩
  | .hbm, ⟨20, _⟩ => ⟨S1024x8x512, .f32⟩
  | .hbm, ⟨21, _⟩ => ⟨S1024x4096, .f32⟩
  | .hbm, ⟨22, _⟩ => ⟨S8x512x1024, .bf16⟩
  | .hbm, ⟨23, _⟩ => ⟨S8x512x1024, .f32⟩
  | .hbm, ⟨24, _⟩ => ⟨S4096x1024, .f32⟩
  | .hbm, ⟨25, _⟩ => ⟨S1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x1024, .f32⟩
  | .hbm, ⟨48, _⟩ => ⟨S4096x1024, .f32⟩
  | .hbm, ⟨49, _⟩ => ⟨S1024, .f32⟩
  | .hbm, ⟨50, _⟩ => ⟨S4096x1024, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S1x1024, .f32⟩
  | .hbm, ⟨64, _⟩ => ⟨S4096x1024, .f32⟩
  | .hbm, ⟨65, _⟩ => ⟨S4096x1024, .f32⟩
  | .hbm, ⟨66, _⟩ => ⟨S4096x1024, .bf16⟩
  | .hbm, ⟨67, _⟩ => ⟨S1280x1024, .f32⟩
  | .hbm, ⟨68, _⟩ => ⟨S1024x1280, .f32⟩
  | .hbm, ⟨69, _⟩ => ⟨S4096x1280, .f32⟩
  | .hbm, ⟨70, _⟩ => ⟨S1280, .f32⟩
  | .hbm, ⟨71, _⟩ => ⟨S1x1280, .f32⟩
  | .hbm, ⟨72, _⟩ => ⟨S4096x1280, .f32⟩
  | .hbm, ⟨73, _⟩ => ⟨S4096x1280, .f32⟩
  | .hbm, ⟨74, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_2 : Ref sig .tc := ⟨.hbm, 51, rfl⟩
abbrev main_v35 : Ref sig .tc := ⟨.hbm, 52, rfl⟩
abbrev main_v36 : Ref sig .tc := ⟨.hbm, 53, rfl⟩
abbrev main_cst_3 : Ref sig .tc := ⟨.hbm, 54, rfl⟩
abbrev main_v37 : Ref sig .tc := ⟨.hbm, 55, rfl⟩
abbrev main_v38 : Ref sig .tc := ⟨.hbm, 56, rfl⟩
abbrev main_cst_4 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]
-- ==== Kernel5.lean ====
abbrev S4096x1024 : Shape := ⟨2, ![4096, 1024]⟩
abbrev S1024x1024 : Shape := ⟨2, ![1024, 1024]⟩
abbrev S1x1024 : Shape := ⟨2, ![1, 1024]⟩
abbrev S8x1024x512 : Shape := ⟨3, ![8, 1024, 512]⟩
abbrev S8x512x1024 : Shape := ⟨3, ![8, 512, 1024]⟩
abbrev S512x1024 : Shape := ⟨2, ![512, 1024]⟩
abbrev S512 : Shape := ⟨1, ![512]⟩
abbrev S512x1 : Shape := ⟨2, ![512, 1]⟩
abbrev S4096x4096 : Shape := ⟨2, ![4096, 4096]⟩
abbrev S512x4096 : Shape := ⟨2, ![512, 4096]⟩
abbrev S1x1024x512 : Shape := ⟨3, ![1, 1024, 512]⟩
abbrev S1024x512 : Shape := ⟨2, ![1024, 512]⟩
abbrev S512x512 : Shape := ⟨2, ![512, 512]⟩
abbrev S8x128 : Shape := ⟨2, ![8, 128]⟩
abbrev S1x512x1024 : Shape := ⟨3, ![1, 512, 1024]⟩
abbrev S1 : Shape := ⟨1, ![1]⟩
abbrev S1x1 : Shape := ⟨2, ![1, 1]⟩
abbrev S1x1x1 : Shape := ⟨3, ![1, 1, 1]⟩
abbrev S1024 : Shape := ⟨1, ![1024]⟩
abbrev S4096x512 : Shape := ⟨2, ![4096, 512]⟩

abbrev nBuf : Space → Nat
  | .hbm => 19
  | .vmem => 40
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S8x1024x512, .bf16⟩
  | .hbm, ⟨6, _⟩ => ⟨S8x512x1024, .bf16⟩
  | .hbm, ⟨7, _⟩ => ⟨S1x1024, .f32⟩
  | .hbm, ⟨8, _⟩ => ⟨S4096x1024, .f32⟩
  | .hbm, ⟨9, _⟩ => ⟨S4096x1024, .bf16⟩
  | .hbm, ⟨10, _⟩ => ⟨S4096x1024, .f32⟩
  | .hbm, ⟨11, _⟩ => ⟨S4096x1024, .bf16⟩
  | .hbm, ⟨12, _⟩ => ⟨S4096x4096, .bf16⟩
  | .hbm, ⟨13, _⟩ => ⟨S8x128, .f32⟩
  | .hbm, ⟨14, _⟩ => ⟨S4096x1024, .f32⟩
  | .hbm, ⟨15, _⟩ => ⟨S4096x1024, .bf16⟩
  | .hbm, ⟨16, _⟩ => ⟨S1x1024, .f32⟩
  | .hbm, ⟨17, _⟩ => ⟨S1024x1024, .bf16⟩
  | .hbm, ⟨18, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S8x1024x512, .bf16⟩
  | .local _ .vmem, ⟨14, _⟩ => ⟨S512x4096, .bf16⟩
  | .local _ .vmem, ⟨15, _⟩ => ⟨S512x4096, .bf16⟩
  | .local _ .vmem, ⟨16, _⟩ => ⟨S512x4096, .bf16⟩
  | .local _ .vmem, ⟨17, _⟩ => ⟨S512x4096, .bf16⟩
  | .local _ .vmem, ⟨18, _⟩ => ⟨S8x512x1024, .bf16⟩
  | .local _ .vmem, ⟨19, _⟩ => ⟨S512x1024, .f32⟩
  | .local _ .vmem, ⟨20, _⟩ => ⟨S512x1024, .f32⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | .local _ .vmem, ⟨24, _⟩ => ⟨S8x128, .f32⟩
  | .local _ .vmem, ⟨25, _⟩ => ⟨S512x1024, .f32⟩
  | .local _ .vmem, ⟨26, _⟩ => ⟨S512x1024, .f32⟩
  | .local _ .vmem, ⟨27, _⟩ => ⟨S512x1024, .bf16⟩
  | .local _ .vmem, ⟨28, _⟩ => ⟨S512x1024, .bf16⟩
  | .local _ .vmem, ⟨29, _⟩ => ⟨S1x1024, .f32⟩
  | .local _ .vmem, ⟨30, _⟩ => ⟨S4096x1024, .bf16⟩
  | .local _ .vmem, ⟨31, _⟩ => ⟨S4096x512, .bf16⟩
  | .local _ .vmem, ⟨32, _⟩ => ⟨S4096x512, .bf16⟩
  | .local _ .vmem, ⟨33, _⟩ => ⟨S1024x512, .bf16⟩
  | .local _ .vmem, ⟨34, _⟩ => ⟨S1024x512, .bf16⟩
  | .local _ .vmem, ⟨35, _⟩ => ⟨S512x1024, .bf16⟩
  | .local _ .vmem, ⟨36, _⟩ => ⟨S512x1024, .bf16⟩
  | .local _ .vmem, ⟨37, _⟩ => ⟨S1024x1024, .bf16⟩
  | .local _ .vmem, ⟨38, _⟩ => ⟨S512x1024, .f32⟩
  | .local _ .vmem, ⟨39, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev main_v2_3 : Ref sig .tc := ⟨.hbm, 16, rfl⟩
abbrev main_v3 : Ref sig .tc := ⟨.hbm, 17, rfl⟩
abbrev main_v4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg6_1 : Ref sig .tc := ⟨.vmem, 26, rfl⟩
abbrev cc2_stg7_0 : Ref sig .tc := ⟨.vmem, 27, rfl⟩
abbrev cc2_stg7_1 : Ref sig .tc := ⟨.vmem, 28, rfl⟩
abbrev cc2_stg8_0 : Ref sig .tc := ⟨.vmem, 29, rfl⟩
abbrev cc3_stg0_0 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23
abbrev cc2_sem5_0 : DmaSem sig := 24
abbrev cc2_sem6_0 : DmaSem sig := 25
abbrev cc2_sem6_1 : DmaSem sig := 26
abbrev cc2_sem7_0 : DmaSem sig := 27
abbrev cc2_sem7_1 : DmaSem sig := 28
abbrev cc2_sem8_0 : DmaSem sig := 29
abbrev cc3_sem0_0 : DmaSem sig := 30
abbrev cc3_sem1_0 : DmaSem sig := 31
abbrev cc3_sem1_1 : DmaSem sig := 32
abbrev cc3_sem2_0 : DmaSem sig := 33
abbrev cc3_sem2_1 : DmaSem sig := 34
abbrev cc4_sem0_0 : DmaSem sig := 35
abbrev cc4_sem0_1 : DmaSem sig := 36
abbrev cc4_sem1_0 : DmaSem sig := 37
abbrev cc4_sem2_0 : DmaSem sig := 38
abbrev cc4_sem2_1 : DmaSem sig := 39

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x1024x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x512x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S8x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S512x1024 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S1x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![2], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S4096x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1024x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]
-- ==== Reference5Ideal.lean ====
abbrev S4096x1024 : Shape := ⟨2, ![4096, 1024]⟩
abbrev S1024x1024 : Shape := ⟨2, ![1024, 1024]⟩
abbrev S1x1024 : Shape := ⟨2, ![1, 1024]⟩
abbrev S8x1024x512 : Shape := ⟨3, ![8, 1024, 512]⟩
abbrev S8x512x1024 : Shape := ⟨3, ![8, 512, 1024]⟩
abbrev S1024 : Shape := ⟨1, ![1024]⟩
abbrev S1024x8x512 : Shape := ⟨3, ![1024, 8, 512]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S8x128 : Shape := ⟨2, ![8, 128]⟩

abbrev nBuf : Space → Nat
  | .hbm => 124
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S8x1024x512, .bf16⟩
  | .hbm, ⟨6, _⟩ => ⟨S8x512x1024, .bf16⟩
  | .hbm, ⟨7, _⟩ => ⟨S1x1024, .f32⟩
  | .hbm, ⟨8, _⟩ => ⟨S4096x1024, .f32⟩
  | .hbm, ⟨9, _⟩ => ⟨S4096x1024, .bf16⟩
  | .hbm, ⟨10, _⟩ => ⟨S4096x1024, .f32⟩
  | .hbm, ⟨11, _⟩ => ⟨S1024x1024, .f32⟩
  | .hbm, ⟨12, _⟩ => ⟨S1024, .f32⟩
  | .hbm, ⟨13, _⟩ => ⟨S4096x1024, .f32⟩
  | .hbm, ⟨14, _⟩ => ⟨S1x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S1024x1024, .f32⟩
  | .hbm, ⟨20, _⟩ => ⟨S1024x1024, .f32⟩
  | .hbm, ⟨21, _⟩ => ⟨S4096x1024, .f32⟩
  | .hbm, ⟨22, _⟩ => ⟨S8x1024x512, .f32⟩
  | .hbm, ⟨23, _⟩ => ⟨S1024x8x512, .f32⟩
  | .hbm, ⟨24, _⟩ => ⟨S1024x4096, .f32⟩
  | .hbm, ⟨25, _⟩ => ⟨S1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S8x512x1024, .f32⟩
  | .hbm, ⟨43, _⟩ => ⟨S4096x1024, .f32⟩
  | .hbm, ⟨44, _⟩ => ⟨S4096x4096, .f32⟩
  | .hbm, ⟨45, _⟩ => ⟨S_, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x1024, .f32⟩
  | .hbm, ⟨50, _⟩ => ⟨S4096x1024, .f32⟩
  | .hbm, ⟨51, _⟩ => ⟨S1024, .f32⟩
  | .hbm, ⟨52, _⟩ => ⟨S4096x1024, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S4096x1024, .f32⟩
  | .hbm, ⟨68, _⟩ => ⟨S4096x1024, .f32⟩
  | .hbm, ⟨69, _⟩ => ⟨S1x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096x1024, .f32⟩
  | .hbm, ⟨76, _⟩ => ⟨S4096x1024, .f32⟩
  | .hbm, ⟨77, _⟩ => ⟨S_, .f32⟩
  | .hbm, ⟨78, _⟩ => ⟨S4096, .f32⟩
  | .hbm, ⟨79, _⟩ => ⟨S_, .f32⟩
  | .hbm, ⟨80, _⟩ => ⟨S4096, .f32⟩
  | .hbm, ⟨81, _⟩ => ⟨S4096, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S4096, .f32⟩
  | .hbm, ⟨90, _⟩ => ⟨S_, .f32⟩
  | .hbm, ⟨91, _⟩ => ⟨S4096, .f32⟩
  | .hbm, ⟨92, _⟩ => ⟨S4096, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S_, .f32⟩
  | .hbm, ⟨97, _⟩ => ⟨S1024, .f32⟩
  | .hbm, ⟨98, _⟩ => ⟨S1x1024, .f32⟩
  | .hbm, ⟨99, _⟩ => ⟨S4096x1024, .f32⟩
  | .hbm, ⟨100, _⟩ => ⟨S4096x1024, .f32⟩
  | .hbm, ⟨101, _⟩ => ⟨S_, .f32⟩
  | .hbm, ⟨102, _⟩ => ⟨S1024, .f32⟩
  | .hbm, ⟨103, _⟩ => ⟨S4096x1024, .f32⟩
  | .hbm, ⟨104, _⟩ => ⟨S_, .f32⟩
  | .hbm, ⟨105, _⟩ => ⟨S4096, .f32⟩
  | .hbm, ⟨106, _⟩ => ⟨S4096x1, .f32⟩
  | .hbm, ⟨107, _⟩ => ⟨S4096x1024, .f32⟩
  | .hbm, ⟨108, _⟩ => ⟨S4096x1024, .f32⟩
  | .hbm, ⟨109, _⟩ => ⟨S4096x1, .f32⟩
  | .hbm, ⟨110, _⟩ => ⟨S_, .f32⟩
  | .hbm, ⟨111, _⟩ => ⟨S4096x1, .f32⟩
  | .hbm, ⟨112, _⟩ => ⟨S4096x1, .f32⟩
  | .hbm, ⟨113, _⟩ => ⟨S_, .f32⟩
  | .hbm, ⟨114, _⟩ => ⟨S4096, .f32⟩
  | .hbm, ⟨115, _⟩ => ⟨S4096x1024, .f32⟩
  | .hbm, ⟨116, _⟩ => ⟨S4096x1024, .f32⟩
  | .hbm, ⟨117, _⟩ => ⟨S4096x1024, .f32⟩
  | .hbm, ⟨118, _⟩ => ⟨S4096x1024, .f32⟩
  | .hbm, ⟨119, _⟩ => ⟨S4096x1024, .f32⟩
  | .hbm, ⟨120, _⟩ => ⟨S8x128, .f32⟩
  | .hbm, ⟨121, _⟩ => ⟨S4096x1024, .bf16⟩
  | .hbm, ⟨122, _⟩ => ⟨S1x1024, .f32⟩
  | .hbm, ⟨123, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call0_cst : Ref sig .tc := ⟨.hbm, 45, rfl⟩
abbrev main_call0_v0 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_2 : Ref sig .tc := ⟨.hbm, 53, rfl⟩
abbrev main_v38 : Ref sig .tc := ⟨.hbm, 54, rfl⟩
abbrev main_v39 : Ref sig .tc := ⟨.hbm, 55, rfl⟩
abbrev main_cst_3 : Ref sig .tc := ⟨.hbm, 56, rfl⟩
abbrev main_v40 : Ref sig .tc := ⟨.hbm, 57, rfl⟩
abbrev main_v41 : Ref sig .tc := ⟨.hbm, 58, rfl⟩
abbrev main_cst_4 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_5 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_6 : Ref sig .tc := ⟨.hbm, 74, rfl⟩
abbrev main_v55 : Ref sig .tc := ⟨.hbm, 75, rfl⟩
abbrev main_v56 : Ref sig .tc := ⟨.hbm, 76, rfl⟩
abbrev main_cst_7 : Ref sig .tc := ⟨.hbm, 77, rfl⟩
abbrev main_v57 : Ref sig .tc := ⟨.hbm, 78, rfl⟩
abbrev main_cst_8 : Ref sig .tc := ⟨.hbm, 79, rfl⟩
abbrev main_v58 : Ref sig .tc := ⟨.hbm, 80, rfl⟩
abbrev main_v59 : Ref sig .tc := ⟨.hbm, 81, rfl⟩
abbrev main_cst_9 : Ref sig .tc := ⟨.hbm, 82, rfl⟩
abbrev main_v60 : Ref sig .tc := ⟨.hbm, 83, rfl⟩
abbrev main_cst_10 : Ref sig .tc := ⟨.hbm, 84, rfl⟩
abbrev main_v61 : Ref sig .tc := ⟨.hbm, 85, rfl⟩
abbrev main_cst_11 : Ref sig .tc := ⟨.hbm, 86, rfl⟩
abbrev main_cst_12 : Ref sig .tc := ⟨.hbm, 87, rfl⟩
abbrev main_v62 : Ref sig .tc := ⟨.hbm, 88, rfl⟩
abbrev main_v63 : Ref sig .tc := ⟨.hbm, 89, rfl⟩
abbrev main_cst_13 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_14 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_15 : Ref sig .tc := ⟨.hbm, 101, rfl⟩
abbrev main_v73 : Ref sig .tc := ⟨.hbm, 102, rfl⟩
abbrev main_v74 : Ref sig .tc := ⟨.hbm, 103, rfl⟩
abbrev main_cst_16 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_cst_18 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩

abbrev nD : Nat := 1
abbrev τ : Topo := Topo.v7x

variable {F : FTy → Type} [FloatOps F]
-- ==== Kernel6.lean ====
abbrev S4096x1280 : Shape := ⟨2, ![4096, 1280]⟩
abbrev S4096x1024 : Shape := ⟨2, ![4096, 1024]⟩
abbrev S1x1024 : Shape := ⟨2, ![1, 1024]⟩
abbrev S1280x1024 : Shape := ⟨2, ![1280, 1024]⟩
abbrev S8x256x1024 : Shape := ⟨3, ![8, 256, 1024]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x1280 : Shape := ⟨2, ![1, 1280]⟩
abbrev S4096x640 : Shape := ⟨2, ![4096, 640]⟩
abbrev S640x1024 : Shape := ⟨2, ![640, 1024]⟩
abbrev S1x640 : Shape := ⟨2, ![1, 640]⟩
abbrev S640 : Shape := ⟨1, ![640]⟩
abbrev S512x1280 : Shape := ⟨2, ![512, 1280]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S512x4096 : Shape := ⟨2, ![512, 4096]⟩
abbrev S1x256x1024 : Shape := ⟨3, ![1, 256, 1024]⟩
abbrev S256x1024 : Shape := ⟨2, ![256, 1024]⟩
abbrev S512x256 : Shape := ⟨2, ![512, 256]⟩

abbrev nBuf : Space → Nat
  | .hbm => 31
  | .vmem => 29
  | .smem => 0
  | _ => 0

abbrev bufTy : (tb : Table) → Fin (tcTables nBuf tb) → BufTy
  | .hbm, ⟨0, _⟩ => ⟨S4096x1280, .f32⟩
  | .hbm, ⟨1, _⟩ => ⟨S4096x1024, .f32⟩
  | .hbm, ⟨2, _⟩ => ⟨S1x1024, .f32⟩
  | .hbm, ⟨3, _⟩ => ⟨S1280x1024, .bf16⟩
  | .hbm, ⟨4, _⟩ => ⟨S4096x1024, .f32⟩
  | .hbm, ⟨5, _⟩ => ⟨S8x256x1024, .bf16⟩
  | .hbm, ⟨6, _⟩ => ⟨S8x256x1024, .bf16⟩
  | .hbm, ⟨7, _⟩ => ⟨S4096x4096, .bf16⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | .hbm, ⟨24, _⟩ => ⟨S1280x1024, .bf16⟩
  | .hbm, ⟨25, _⟩ => ⟨S1x1280, .f32⟩
  | .hbm, ⟨26, _⟩ => ⟨S4096x1024, .f32⟩
  | .hbm, ⟨27, _⟩ => ⟨S4096x1024, .bf16⟩
  | .hbm, ⟨28, _⟩ => ⟨S1x1024, .f32⟩
  | .hbm, ⟨29, _⟩ => ⟨S1x1024, .f32⟩
  | .hbm, ⟨30, _⟩ => ⟨S4096x4096, .bf16⟩
  | .local _ .vmem, ⟨0, _⟩ => ⟨S4096x640, .f32⟩
  | .local _ .vmem, ⟨1, _⟩ => ⟨S4096x640, .f32⟩
  | .local _ .vmem, ⟨2, _⟩ => ⟨S4096x1024, .bf16⟩
  | .local _ .vmem, ⟨3, _⟩ => ⟨S640x1024, .bf16⟩
  | .local _ .vmem, ⟨4, _⟩ => ⟨S640x1024, .bf16⟩
  | .local _ .vmem, ⟨5, _⟩ => ⟨S1x640, .f32⟩
  | .local _ .vmem, ⟨6, _⟩ => ⟨S1x640, .f32⟩
  | .local _ .vmem, ⟨7, _⟩ => ⟨S512x1280, .f32⟩
  | .local _ .vmem, ⟨8, _⟩ => ⟨S512x1280, .f32⟩
  | .local _ .vmem, ⟨9, _⟩ => ⟨S1280x1024, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S1x1024, .f32⟩
  | .local _ .vmem, ⟨20, _⟩ => ⟨S1x1024, .f32⟩
  | .local _ .vmem, ⟨21, _⟩ => ⟨S512x1024, .bf16⟩
  | .local _ .vmem, ⟨22, _⟩ => ⟨S512x1024, .bf16⟩
  | .local _ .vmem, ⟨23, _⟩ => ⟨S8x256x1024, .bf16⟩
  | .local _ .vmem, ⟨24, _⟩ => ⟨S8x256x1024, .bf16⟩
  | .local _ .vmem, ⟨25, _⟩ => ⟨S512x4096, .bf16⟩
  | .local _ .vmem, ⟨26, _⟩ => ⟨S512x4096, .bf16⟩
  | .local _ .vmem, ⟨27, _⟩ => ⟨S512x4096, .bf16⟩
  | .local _ .vmem, ⟨28, _⟩ => ⟨S512x4096, .bf16⟩
  | _, _ => ⟨S4096x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v14_0 : Ref sig .tc := ⟨.hbm, 26, rfl⟩
abbrev main_v14_1 : Ref sig .tc := ⟨.hbm, 27, rfl⟩
abbrev main_v14_2 : Ref sig .tc := ⟨.hbm, 28, rfl⟩
abbrev main_v14_3 : Ref sig .tc := ⟨.hbm, 29, rfl⟩
abbrev main_v15 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg8_0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem8_0 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem3_0 : DmaSem sig := 25
abbrev cc2_sem3_1 : DmaSem sig := 26
abbrev cc2_sem4_0 : DmaSem sig := 27
abbrev cc2_sem4_1 : DmaSem sig := 28

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1280 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1280x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x256x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S8x256x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x4096 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x4096 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== Reference6Ideal.lean ====
abbrev S4096x1280 : Shape := ⟨2, ![4096, 1280]⟩
abbrev S4096x1024 : Shape := ⟨2, ![4096, 1024]⟩
abbrev S1x1024 : Shape := ⟨2, ![1, 1024]⟩
abbrev S1280x1024 : Shape := ⟨2, ![1280, 1024]⟩
abbrev S8x256x1024 : Shape := ⟨3, ![8, 256, 1024]⟩
abbrev S4096x4096 : Shape := ⟨2, ![4096, 4096]⟩
abbrev S1024 : Shape := ⟨1, ![1024]⟩
abbrev S_ : Shape := ⟨0, ![]⟩
abbrev S1280 : Shape := ⟨1, ![1280]⟩
abbrev S4096 : Shape := ⟨1, ![4096]⟩
abbrev S4096x1 : Shape := ⟨2, ![4096, 1]⟩
abbrev S1024x1280 : Shape := ⟨2, ![1024, 1280]⟩
abbrev S1x1280 : Shape := ⟨2, ![1, 1280]⟩
abbrev S8x512x1024 : Shape := ⟨3, ![8, 512, 1024]⟩

abbrev nBuf : Space → Nat
  | .hbm => 102
  | .vmem => 0
  | .smem => 0
  | _ => 0

abbrev bufTy : (tb : Table) → Fin (tcTables nBuf tb) → BufTy
  | .hbm, ⟨0, _⟩ => ⟨S4096x1280, .f32⟩
  | .hbm, ⟨1, _⟩ => ⟨S4096x1024, .f32⟩
  | .hbm, ⟨2, _⟩ => ⟨S1x1024, .f32⟩
  | .hbm, ⟨3, _⟩ => ⟨S1280x1024, .bf16⟩
  | .hbm, ⟨4, _⟩ => ⟨S4096x1024, .f32⟩
  | .hbm, ⟨5, _⟩ => ⟨S8x256x1024, .bf16⟩
  | .hbm, ⟨6, _⟩ => ⟨S8x256x1024, .bf16⟩
  | .hbm, ⟨7, _⟩ => ⟨S4096x4096, .bf16⟩
  | .hbm, ⟨8, _⟩ => ⟨S1024, .f32⟩
  | .hbm, ⟨9, _⟩ => ⟨S1280x1024, .f32⟩
  | .hbm, ⟨10, _⟩ => ⟨S_, .f32⟩
  | .hbm, ⟨11, _⟩ => ⟨S1280, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S1024x1280, .f32⟩
  | .hbm, ⟨33, _⟩ => ⟨S4096x1280, .f32⟩
  | .hbm, ⟨34, _⟩ => ⟨S1x1280, .f32⟩
  | .hbm, ⟨35, _⟩ => ⟨S4096x1280, .f32⟩
  | .hbm, ⟨36, _⟩ => ⟨S4096x1280, .f32⟩
  | .hbm, ⟨37, _⟩ => ⟨S4096x1280, .f32⟩
  | .hbm, ⟨38, _⟩ => ⟨S_, .f32⟩
  | .hbm, ⟨39, _⟩ => ⟨S1280, .f32⟩
  | .hbm, ⟨40, _⟩ => ⟨S1x1280, .f32⟩
  | .hbm, ⟨41, _⟩ => ⟨S_, .f32⟩
  | .hbm, ⟨42, _⟩ => ⟨S1280, .f32⟩
  | .hbm, ⟨43, _⟩ => ⟨S1280x1024, .f32⟩
  | .hbm, ⟨44, _⟩ => ⟨S1024x1280, .f32⟩
  | .hbm, ⟨45, _⟩ => ⟨S4096x1024, .f32⟩
  | .hbm, ⟨46, _⟩ => ⟨S1280x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S8x512x1024, .bf16⟩
  | .hbm, ⟨74, _⟩ => ⟨S8x512x1024, .f32⟩
  | .hbm, ⟨75, _⟩ => ⟨S4096x1024, .f32⟩
  | .hbm, ⟨76, _⟩ => ⟨S4096x4096, .f32⟩
  | .hbm, ⟨77, _⟩ => ⟨S_, .f32⟩
  | .hbm, ⟨78, _⟩ => ⟨S4096x4096, .f32⟩
  | .hbm, ⟨79, _⟩ => ⟨S4096x4096, .f32⟩
  | .hbm, ⟨80, _⟩ => ⟨S_, .f32⟩
  | .hbm, ⟨81, _⟩ => ⟨S4096x4096, .f32⟩
  | .hbm, ⟨82, _⟩ => ⟨S4096x4096, .i1⟩
  | .hbm, ⟨83, _⟩ => ⟨S_, .f32⟩
  | .hbm, ⟨84, _⟩ => ⟨S4096x4096, .f32⟩
  | .hbm, ⟨85, _⟩ => ⟨S4096x4096, .f32⟩
  | .hbm, ⟨86, _⟩ => ⟨S_, .f32⟩
  | .hbm, ⟨87, _⟩ => ⟨S4096x4096, .f32⟩
  | .hbm, ⟨88, _⟩ => ⟨S4096x4096, .f32⟩
  | .hbm, ⟨89, _⟩ => ⟨S4096x1024, .f32⟩
  | .hbm, ⟨90, _⟩ => ⟨S4096x4096, .f32⟩
  | .hbm, ⟨91, _⟩ => ⟨S4096x4096, .f32⟩
  | .hbm, ⟨92, _⟩ => ⟨S_, .f32⟩
  | .hbm, ⟨93, _⟩ => ⟨S4096x4096, .f32⟩
  | .hbm, ⟨94, _⟩ => ⟨S4096x4096, .f32⟩
  | .hbm, ⟨95, _⟩ => ⟨S1280x1024, .bf16⟩
  | .hbm, ⟨96, _⟩ => ⟨S1x1280, .f32⟩
  | .hbm, ⟨97, _⟩ => ⟨S1x1024, .f32⟩
  | .hbm, ⟨98, _⟩ => ⟨S_, .f32⟩
  | .hbm, ⟨99, _⟩ => ⟨S1024, .f32⟩
  | .hbm, ⟨100, _⟩ => ⟨S1x1024, .f32⟩
  | .hbm, ⟨101, _⟩ => ⟨S4096x4096, .bf16⟩
  | _, _ => ⟨S4096x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_call0_cst : Ref sig .tc := ⟨.hbm, 77, rfl⟩
abbrev main_call0_v0 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_cst_13 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_14 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_15 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩

abbrev nD : Nat := 1
abbrev τ : Topo := Topo.v7x

variable {F : FTy → Type} [FloatOps F]
-- ==== Kernel7.lean ====
abbrev S4096x2048 : Shape := ⟨2, ![4096, 2048]⟩
abbrev S1x1024 : Shape := ⟨2, ![1, 1024]⟩
abbrev S1x8x128x128 : Shape := ⟨4, ![1, 8, 128, 128]⟩
abbrev S1x8x128 : Shape := ⟨3, ![1, 8, 128]⟩
abbrev S8x128x128 : Shape := ⟨3, ![8, 128, 128]⟩
abbrev S8x128 : Shape := ⟨2, ![8, 128]⟩
abbrev S8x128x1 : Shape := ⟨3, ![8, 128, 1]⟩
abbrev S128x1024 : Shape := ⟨2, ![128, 1024]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S1x128x1 : Shape := ⟨3, ![1, 128, 1]⟩
abbrev S4096x1024 : Shape := ⟨2, ![4096, 1024]⟩

abbrev nBuf : Space → Nat
  | .hbm => 10
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S1x1024, .f32⟩
  | .hbm, ⟨2, _⟩ => ⟨S1x1024, .f32⟩
  | .hbm, ⟨3, _⟩ => ⟨S1x8x128x128, .f32⟩
  | .hbm, ⟨4, _⟩ => ⟨S1x8x128, .f32⟩
  | .hbm, ⟨5, _⟩ => ⟨S8x128x128, .f32⟩
  | .hbm, ⟨6, _⟩ => ⟨S8x128, .f32⟩
  | .hbm, ⟨7, _⟩ => ⟨S8x128x1, .f32⟩
  | .hbm, ⟨8, _⟩ => ⟨S4096x2048, .bf16⟩
  | .hbm, ⟨9, _⟩ => ⟨S4096x1024, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S8x128x1, .f32⟩
  | .local _ .vmem, ⟨8, _⟩ => ⟨S128x1024, .bf16⟩
  | .local _ .vmem, ⟨9, _⟩ => ⟨S128x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S4096x2048 : Shape := ⟨2, ![4096, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x4096x2048 : Shape := ⟨3, ![1, 4096, 2048]⟩
abbrev S1x4096x1024 : Shape := ⟨3, ![1, 4096, 1024]⟩
abbrev S1024 : Shape := ⟨1, ![1024]⟩
abbrev S8x128x128 : Shape := ⟨3, ![8, 128, 128]⟩
abbrev S8x128 : Shape := ⟨2, ![8, 128]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x32x128x8x128 : Shape := ⟨5, ![1, 32, 128, 8, 128]⟩
abbrev S128x128 : Shape := ⟨2, ![128, 128]⟩
abbrev S8x1x32x128x128 : Shape := ⟨5, ![8, 1, 32, 128, 128]⟩
abbrev S128x8 : Shape := ⟨2, ![128, 8]⟩
abbrev S1x1x128x8x1 : Shape := ⟨5, ![1, 1, 128, 8, 1]⟩
abbrev S4096x1024 : Shape := ⟨2, ![4096, 1024]⟩

abbrev nBuf : Space → Nat
  | .hbm => 102
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x1024, .f32⟩
  | .hbm, ⟨2, _⟩ => ⟨S1x1024, .f32⟩
  | .hbm, ⟨3, _⟩ => ⟨S1x8x128x128, .f32⟩
  | .hbm, ⟨4, _⟩ => ⟨S1x8x128, .f32⟩
  | .hbm, ⟨5, _⟩ => ⟨S1x4096x2048, .f32⟩
  | .hbm, ⟨6, _⟩ => ⟨S1x4096x1024, .f32⟩
  | .hbm, ⟨7, _⟩ => ⟨S1x4096x1024, .f32⟩
  | .hbm, ⟨8, _⟩ => ⟨S1024, .f32⟩
  | .hbm, ⟨9, _⟩ => ⟨S1024, .f32⟩
  | .hbm, ⟨10, _⟩ => ⟨S8x128x128, .f32⟩
  | .hbm, ⟨11, _⟩ => ⟨S8x128, .f32⟩
  | .hbm, ⟨12, _⟩ => ⟨S1x4096x1024, .f32⟩
  | .hbm, ⟨13, _⟩ => ⟨S1x4096x1024, .f32⟩
  | .hbm, ⟨14, _⟩ => ⟨S_, .f32⟩
  | .hbm, ⟨15, _⟩ => ⟨S1x4096x1024, .f32⟩
  | .hbm, ⟨16, _⟩ => ⟨S1x4096x1024, .f32⟩
  | .hbm, ⟨17, _⟩ => ⟨S1x4096x1024, .f32⟩
  | .hbm, ⟨18, _⟩ => ⟨S_, .f32⟩
  | .hbm, ⟨19, _⟩ => ⟨S1x4096x1024, .f32⟩
  | .hbm, ⟨20, _⟩ => ⟨S1x4096x1024, .f32⟩
  | .hbm, ⟨21, _⟩ => ⟨S1x4096x1024, .f32⟩
  | .hbm, ⟨22, _⟩ => ⟨S_, .f32⟩
  | .hbm, ⟨23, _⟩ => ⟨S1x4096x1024, .f32⟩
  | .hbm, ⟨24, _⟩ => ⟨S1x4096x1024, .f32⟩
  | .hbm, ⟨25, _⟩ => ⟨S_, .f32⟩
  | .hbm, ⟨26, _⟩ => ⟨S1x4096x1024, .f32⟩
  | .hbm, ⟨27, _⟩ => ⟨S1x4096x1024, .f32⟩
  | .hbm, ⟨28, _⟩ => ⟨S1x4096x1024, .f32⟩
  | .hbm, ⟨29, _⟩ => ⟨S1x4096x1024, .f32⟩
  | .hbm, ⟨30, _⟩ => ⟨S1x4096x1024, .f32⟩
  | .hbm, ⟨31, _⟩ => ⟨S_, .f32⟩
  | .hbm, ⟨32, _⟩ => ⟨S1x4096x1024, .f32⟩
  | .hbm, ⟨33, _⟩ => ⟨S1x4096x1024, .f32⟩
  | .hbm, ⟨34, _⟩ => ⟨S1x4096x1024, .f32⟩
  | .hbm, ⟨35, _⟩ => ⟨S_, .f32⟩
  | .hbm, ⟨36, _⟩ => ⟨S1x4096x1024, .f32⟩
  | .hbm, ⟨37, _⟩ => ⟨S1x4096x1024, .f32⟩
  | .hbm, ⟨38, _⟩ => ⟨S1x4096x1024, .f32⟩
  | .hbm, ⟨39, _⟩ => ⟨S_, .f32⟩
  | .hbm, ⟨40, _⟩ => ⟨S1x4096x1024, .f32⟩
  | .hbm, ⟨41, _⟩ => ⟨S1x4096x1024, .f32⟩
  | .hbm, ⟨42, _⟩ => ⟨S_, .f32⟩
  | .hbm, ⟨43, _⟩ => ⟨S1x4096x1024, .f32⟩
  | .hbm, ⟨44, _⟩ => ⟨S1x4096x1024, .f32⟩
  | .hbm, ⟨45, _⟩ => ⟨S1x4096x1024, .f32⟩
  | .hbm, ⟨46, _⟩ => ⟨S_, .f32⟩
  | .hbm, ⟨47, _⟩ => ⟨S1x4096, .f32⟩
  | .hbm, ⟨48, _⟩ => ⟨S1x4096x1, .f32⟩
  | .hbm, ⟨49, _⟩ => ⟨S_, .f32⟩
  | .hbm, ⟨50, _⟩ => ⟨S1x4096x1, .f32⟩
  | .hbm, ⟨51, _⟩ => ⟨S1x4096x1, .f32⟩
  | .hbm, ⟨52, _⟩ => ⟨S1x4096x1024, .f32⟩
  | .hbm, ⟨53, _⟩ => ⟨S1x4096x1024, .f32⟩
  | .hbm, ⟨54, _⟩ => ⟨S1x4096x1024, .f32⟩
  | .hbm, ⟨55, _⟩ => ⟨S_, .f32⟩
  | .hbm, ⟨56, _⟩ => ⟨S1x4096, .f32⟩
  | .hbm, ⟨57, _⟩ => ⟨S1x4096x1, .f32⟩
  | .hbm, ⟨58, _⟩ => ⟨S_, .f32⟩
  | .hbm, ⟨59, _⟩ => ⟨S1x4096x1, .f32⟩
  | .hbm, ⟨60, _⟩ => ⟨S1x4096x1, .f32⟩
  | .hbm, ⟨61, _⟩ => ⟨S1x4096x1024, .f32⟩
  | .hbm, ⟨62, _⟩ => ⟨S1x4096x1024, .f32⟩
  | .hbm, ⟨63, _⟩ => ⟨S_, .f32⟩
  | .hbm, ⟨64, _⟩ => ⟨S1x4096x1, .f32⟩
  | .hbm, ⟨65, _⟩ => ⟨S1x4096x1, .f32⟩
  | .hbm, ⟨66, _⟩ => ⟨S1x4096x1, .f32⟩
  | .hbm, ⟨67, _⟩ => ⟨S1x4096x1024, .f32⟩
  | .hbm, ⟨68, _⟩ => ⟨S1x4096x1024, .f32⟩
  | .hbm, ⟨69, _⟩ => ⟨S1x1x1024, .f32⟩
  | .hbm, ⟨70, _⟩ => ⟨S1x4096x1024, .f32⟩
  | .hbm, ⟨71, _⟩ => ⟨S1x4096x1024, .f32⟩
  | .hbm, ⟨72, _⟩ => ⟨S1x1x1024, .f32⟩
  | .hbm, ⟨73, _⟩ => ⟨S1x4096x1024, .f32⟩
  | .hbm, ⟨74, _⟩ => ⟨S1x4096x1024, .f32⟩
  | .hbm, ⟨75, _⟩ => ⟨S1x32x128x8x128, .f32⟩
  | .hbm, ⟨76, _⟩ => ⟨S_, .i1⟩
  | .hbm, ⟨77, _⟩ => ⟨S128x128, .i1⟩
  | .hbm, ⟨78, _⟩ => ⟨S128x128, .i32⟩
  | .hbm, ⟨79, _⟩ => ⟨S_, .i32⟩
  | .hbm, ⟨80, _⟩ => ⟨S128x128, .i32⟩
  | .hbm, ⟨81, _⟩ => ⟨S128x128, .i32⟩
  | .hbm, ⟨82, _⟩ => ⟨S128x128, .i32⟩
  | .hbm, ⟨83, _⟩ => ⟨S128x128, .i1⟩
  | .hbm, ⟨84, _⟩ => ⟨S_, .i1⟩
  | .hbm, ⟨85, _⟩ => ⟨S128x128, .i1⟩
  | .hbm, ⟨86, _⟩ => ⟨S128x128, .i1⟩
  | .hbm, ⟨87, _⟩ => ⟨S_, .f32⟩
  | .hbm, ⟨88, _⟩ => ⟨S_, .f32⟩
  | .hbm, ⟨89, _⟩ => ⟨S8x128x128, .i1⟩
  | .hbm, ⟨90, _⟩ => ⟨S8x128x128, .f32⟩
  | .hbm, ⟨91, _⟩ => ⟨S8x128x128, .f32⟩
  | .hbm, ⟨92, _⟩ => ⟨S8x1x32x128x128, .f32⟩
  | .hbm, ⟨93, _⟩ => ⟨S1x32x128x8x128, .f32⟩
  | .hbm, ⟨94, _⟩ => ⟨S128x8, .f32⟩
  | .hbm, ⟨95, _⟩ => ⟨S1x1x128x8x1, .f32⟩
  | .hbm, ⟨96, _⟩ => ⟨S1x32x128x8x128, .f32⟩
  | .hbm, ⟨97, _⟩ => ⟨S1x32x128x8x128, .f32⟩
  | .hbm, ⟨98, _⟩ => ⟨S1x4096x1024, .f32⟩
  | .hbm, ⟨99, _⟩ => ⟨S1x4096x1024, .f32⟩
  | .hbm, ⟨100, _⟩ => ⟨S4096x1024, .f32⟩
  | .hbm, ⟨101, _⟩ => ⟨S4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_cst_10 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_11 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_c : Ref sig .tc := ⟨.hbm, 76, rfl⟩
abbrev main_v58 : Ref sig .tc := ⟨.hbm, 77, rfl⟩
abbrev main_call0_v0 : Ref sig .tc := ⟨.hbm, 78, rfl⟩
abbrev main_call0_c : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_c_0 : Ref sig .tc := ⟨.hbm, 84, rfl⟩
abbrev main_call0_v5 : Ref sig .tc := ⟨.hbm, 85, rfl⟩
abbrev main_v59 : Ref sig .tc := ⟨.hbm, 86, rfl⟩
abbrev main_cst_12 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩

abbrev nD : Nat := 1
abbrev τ : Topo := Topo.v7x

variable {F : FTy → Type} [FloatOps F]
-- ==== Kernel8.lean ====
abbrev S4x256x1024 : Shape := ⟨3, ![4, 256, 1024]⟩
abbrev S1x256x1024 : Shape := ⟨3, ![1, 256, 1024]⟩
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x256x1024, .bf16⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .local _ .vmem, ⟨0, _⟩ => ⟨S4x256x1024, .bf16⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S4x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c1_i32 : BitVec 32 := 1#32
  let v1 : BitVec 32 := Scalar.muli v0 c1_i32
  let v2 : BitVec 32 := Scalar.addi arg1 v1
  let c0_i32_0 : BitVec 32 := 0#32
  let c0_i32_1 : BitVec 32 := 0#32
  let v3 : BitVec 32 := Scalar.maxsi c0_i32_0 v2
  let v4 : BitVec 32 := Scalar.minsi c0_i32_1 v3
  let c0_i32_2 : BitVec 32 := 0#32
  let c0_i32_3 : BitVec 32 := 0#32
  let c0_i32_4 : BitVec 32 := 0#32
  ![c0_i32_2.toNat, v4.toNat, c0_i32_3.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S4x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference8Ideal.lean ====
abbrev S4x256x1024 : Shape := ⟨3, ![4, 256, 1024]⟩
abbrev S1x256x1024 : Shape := ⟨3, ![1, 256, 1024]⟩
abbrev S_ : Shape := ⟨0, ![]⟩
abbrev S256x1024 : Shape := ⟨2, ![256, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x256x1024, .bf16⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S4x256x1024, .f32⟩
  | .hbm, ⟨5, _⟩ => ⟨S_, .f32⟩
  | .hbm, ⟨6, _⟩ => ⟨S256x1024, .f32⟩
  | .hbm, ⟨7, _⟩ => ⟨S1x256x1024, .f32⟩
  | .hbm, ⟨8, _⟩ => ⟨S_, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S1x256x1024, .f32⟩
  | .hbm, ⟨23, _⟩ => ⟨S_, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | .hbm, ⟨37, _⟩ => ⟨S1x256x1024, .f32⟩
  | .hbm, ⟨38, _⟩ => ⟨S_, .f32⟩
  | .hbm, ⟨39, _⟩ => ⟨S1x256x1024, .f32⟩
  | .hbm, ⟨40, _⟩ => ⟨S1x256x1024, .f32⟩
  | _, _ => ⟨S4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Proof.Spec.lean ====
/-
  The mathematics of the gating's gradient, over extended reals and over plain coordinates: what one row and what one
  chunk of 128 rows gives. Both programs are read at these functions. No printed program is mentioned here.
-/
module

public import Idealize.ShloMosaic.Lib.Pointwise

@[expose] public section

noncomputable section

namespace Cert.Gmlp

open Idealize.ShloMosaic

/-- The literal `0.5`. -/
abbrev cHalf : EReal := Ideal.ofBits .f32 0x3F000000#32
/-- The literal `-0.5`. -/
abbrev cNegHalf : EReal := Ideal.ofBits .f32 0xBF000000#32
/-- The literal `0.044715` of the tanh form of gelu. -/
abbrev cCube : EReal := Ideal.ofBits .f32 0x3D372713#32
/-- The literal `sqrt(2 / pi)`, rounded, of the tanh form of gelu. -/
abbrev cScale : EReal := Ideal.ofBits .f32 0x3F4C422A#32
/-- The literal `1024`, a row's length. -/
abbrev cLen : EReal := Ideal.ofBits .f32 0x44800000#32
/-- The literal `2`. -/
abbrev cTwo : EReal := Ideal.ofBits .f32 0x40000000#32
/-- The literal `3`. -/
abbrev cThree : EReal := Ideal.ofBits .f32 0x40400000#32
/-- The literal `1e-5` added to a row's variance. -/
abbrev cEps : EReal := Ideal.ofBits .f32 0x3727C5AC#32

/-! ### gelu -/

/-- The tanh inside gelu. -/
def th (x : EReal) : EReal := Ideal.tanh (cScale * (x + cCube * (x * x * x)))

/-- gelu, tanh form, in the kernel's order of factors. -/
def gel (x : EReal) : EReal := cHalf * x * (1 + th x)

/-- gelu's derivative at `x` applied to `d`, in the kernel's form. -/
def gelD (x d : EReal) : EReal :=
  cScale * (cHalf * x * d * ((1 + th x) * (1 - th x)))
    + x * x * (cCube * (cScale * (cHalf * x * d * ((1 + th x) * (1 - th x)))))
    + x * (cCube * (cScale * (cHalf * x * d * ((1 + th x) * (1 - th x)))) * x)
    + cCube * (cScale * (cHalf * x * d * ((1 + th x) * (1 - th x)))) * x * x
    + cHalf * (d * (1 + th x))

/-- gelu in the reference's order of factors. -/
theorem gel_eq (x : EReal) : x * (cHalf * (1 + th x)) = gel x := by
  unfold gel; rw [← mul_assoc, mul_comm x]

theorem cThree_eq : cThree = ((3 : ℝ) : EReal) := by
  simp [cThree, Ideal.ofBits, Ideal.ieee, -EReal.coe_mul]; norm_num

/-- Three times an extended real is the sum of three copies of it. -/
theorem three_mul_eq (w : EReal) : cThree * w = w + w + w := by
  rw [cThree_eq]
  induction w with
  | bot => rw [EReal.coe_mul_bot_of_pos (by norm_num)]; rfl
  | top => rw [EReal.coe_mul_top_of_pos (by norm_num)]; rfl
  | coe r => norm_cast; ring

/-- gelu's derivative in the reference's form. -/
theorem gelD_eq (x d : EReal) :
    d * (cHalf * (1 + th x)) + cScale * (cHalf * (x * d) * ((1 + th x) * (1 - th x)))
      + cCube * (cScale * (cHalf * (x * d) * ((1 + th x) * (1 - th x)))) * (cThree * (x * x)) = gelD x d := by
  unfold gelD
  rw [← mul_assoc cHalf x d]
  generalize cScale * (cHalf * x * d * ((1 + th x) * (1 - th x))) = e
  rw [show cCube * e * (cThree * (x * x)) = cThree * (x * x * (cCube * e)) by ac_rfl, three_mul_eq,
    show x * (cCube * e * x) = x * x * (cCube * e) by ac_rfl,
    show cCube * e * x * x = x * x * (cCube * e) by ac_rfl,
    show d * (cHalf * (1 + th x)) = cHalf * (d * (1 + th x)) by ac_rfl]
  ac_rfl

/-! ### Layer norm of one row, and its gradient -/

/-- A row's mean. -/
def mean (v : Fin 1024 → EReal) : EReal := Ideal.div (∑ k, v k) cLen
/-- A row less its mean. -/
def cen (v : Fin 1024 → EReal) (c : Fin 1024) : EReal := v c - mean v
/-- A row's variance plus `1e-5`. -/
def var (v : Fin 1024 → EReal) : EReal := Ideal.div (∑ k, cen v k * cen v k) cLen + cEps
/-- The reciprocal standard deviation of a row. -/
def rsd (v : Fin 1024 → EReal) : EReal := Ideal.rsqrt (var v)
/-- The normalised row. -/
def xh (v : Fin 1024 → EReal) (c : Fin 1024) : EReal := cen v c * rsd v
/-- The layer norm of a row, with scale `g` and shift `b`. -/
def nrm (v g b : Fin 1024 → EReal) (c : Fin 1024) : EReal := xh v c * g c + b c
/-- The derivative of the reciprocal root at a row's variance. -/
def coef (v : Fin 1024 → EReal) : EReal := cNegHalf * Ideal.div (rsd v) (var v)
/-- The part of a row's gradient that goes through the normalised row directly. -/
def dDir (v p : Fin 1024 → EReal) (c : Fin 1024) : EReal := p c * rsd v
/-- The part of a row's gradient that goes through the variance. -/
def dVar (v p : Fin 1024 → EReal) (c : Fin 1024) : EReal :=
  Ideal.div ((∑ k, cen v k * p k) * coef v) cLen * (cTwo * cen v c)
/-- The part of a row's gradient that goes through the mean. -/
def dMean (v p : Fin 1024 → EReal) : EReal := Ideal.div ((∑ k, -dDir v p k) + ∑ k, -dVar v p k) cLen
/-- The gradient of the layer norm with respect to its row, `p` the cotangent times the scale. -/
def dRow (v p : Fin 1024 → EReal) (c : Fin 1024) : EReal := dDir v p c + dVar v p c + dMean v p

/-! ### One chunk -/

/-- The group of a column: eight groups of 128 columns. -/
def grp (c : Fin 1024) : Fin 8 := ⟨c.val / 128, by omega⟩
/-- Column `k` of group `g`. -/
def col (g : Fin 8) (k : Fin 128) : Fin 1024 := ⟨128 * g.val + k.val, by omega⟩
theorem grp_col (g : Fin 8) (k : Fin 128) : grp (col g k) = g := Fin.ext (by simp only [grp, col]; omega)
theorem col_surj (c : Fin 1024) : ∃ g k, c = col g k :=
  ⟨grp c, ⟨c.val % 128, by omega⟩, Fin.ext (by simp only [grp, col]; omega)⟩

/-- A chunk's arguments: the two halves of the input before gelu, the cotangent, the layer norm's scale and shift, the
    mixing matrices and their biases. -/
structure Arg where
  u : Fin 128 → Fin 1024 → EReal
  v : Fin 128 → Fin 1024 → EReal
  d : Fin 128 → Fin 1024 → EReal
  g : Fin 1024 → EReal
  b : Fin 1024 → EReal
  w : Fin 8 → Fin 128 → Fin 128 → EReal
  bs : Fin 8 → Fin 128 → EReal

variable (A : Arg)

/-- Row `r` of the second half after gelu. -/
def gv (r : Fin 128) (c : Fin 1024) : EReal := gel (A.v r c)
/-- The layer norm's rows. -/
def nr (r : Fin 128) (c : Fin 1024) : EReal := nrm (gv A r) A.g A.b c
/-- A group's mixing matrix, kept at and under the diagonal. -/
def wm (g : Fin 8) (i j : Fin 128) : EReal := if j ≤ i then A.w g i j else 0
/-- The mixed rows: what the first half is multiplied by. -/
def mix (i : Fin 128) (c : Fin 1024) : EReal := (∑ j, wm A (grp c) i j * nr A j c) + A.bs (grp c) i
/-- The cotangent of the mixed rows. -/
def dmx (i : Fin 128) (c : Fin 1024) : EReal := gel (A.u i c) * A.d i c
/-- The cotangent of the layer norm's rows. -/
def dn (j : Fin 128) (c : Fin 1024) : EReal := ∑ i, wm A (grp c) i j * dmx A i c
/-- The gradient with respect to the first half. -/
def dU (i : Fin 128) (c : Fin 1024) : EReal := gelD (A.u i c) (A.d i c * mix A i c)
/-- The gradient with respect to the second half. -/
def dV (i : Fin 128) (c : Fin 1024) : EReal :=
  gelD (A.v i c) (dRow (gv A i) (fun k => dn A i k * A.g k) c)
/-- The chunk's part of the scale's gradient. -/
def dG (c : Fin 1024) : EReal := ∑ r, xh (gv A r) c * dn A r c
/-- The chunk's part of the shift's gradient. -/
def dB (c : Fin 1024) : EReal := ∑ r, dn A r c
/-- The chunk's part of the mixing matrices' gradient. -/
def dW (g : Fin 8) (i j : Fin 128) : EReal := if j ≤ i then ∑ k, dmx A i (col g k) * nr A j (col g k) else 0
/-- The chunk's part of the biases' gradient. -/
def dBs (g : Fin 8) (i : Fin 128) : EReal := ∑ k, dmx A i (col g k)

/-- The two halves' gradients at one chunk, side by side. -/
def dUV (r : Fin 128) (c : Fin 2048) : EReal :=
  if h : c.val < 1024 then dU A r ⟨c.val, h⟩ else dV A r ⟨c.val - 1024, by omega⟩

end Cert.Gmlp

end
-- ==== Proof.Chunk.lean ====
/-
  The kernel's body at one chunk, over the extended reals: each value that the body carries from one stretch of its text
  to the next, as a function of the chunk's input blocks.
-/
module

public import proofs.«01_k».proof.Proof.Spec
public import proofs.«01_k».proof.Proof.Gen.KernelIdeal.Skeleton

@[expose] public section

noncomputable section

namespace Cert.KernelIdeal.Chunk

open Cert.KernelIdeal Idealize.ShloMosaic

/-- The input blocks of one grid point. -/
structure In where
  u : Vec Ideal S128x1024 .f32
  v : Vec Ideal S128x1024 .f32
  d : Vec Ideal S128x1024 .f32
  g : Vec Ideal S1x1024 .f32
  b : Vec Ideal S1x1024 .f32
  w : Vec Ideal S8x128x128 .f32
  bs : Vec Ideal S8x128x1 .f32

/-- The blocks over plain coordinates. -/
def In.arg (I : In) : Gmlp.Arg where
  u r c := I.u (ix2 r c)
  v r c := I.v (ix2 r c)
  d r c := I.d (ix2 r c)
  g c := I.g (ix2 0 c)
  b c := I.b (ix2 0 c)
  w g i j := I.w (ix3 g i j)
  bs g i := I.bs (ix3 g i 0)

variable (I : In)

/-- The value `%5` of the kernel's body at one chunk. -/
def v5 : FVec Ideal S8x128x128 .f32 := Gen.k0_pay5 I.w
/-- The value `%7` of the kernel's body at one chunk. -/
def v7 : FVec Ideal S8x128x1 .f32 := Gen.k0_pay6 I.bs
/-- The value `%9` of the kernel's body at one chunk. -/
def v9 : FVec Ideal S128x1024 .f32 := Gen.k0_pay7 I.u
/-- The value `%10` of the kernel's body at one chunk. -/
def v10 : FVec Ideal S128x1024 .f32 := Gen.k0_pay8 I.u
/-- The value `%22` of the kernel's body at one chunk. -/
def v22 : FVec Ideal S128x1024 .f32 := Gen.k0_pay10 I.u
/-- The value `%24` of the kernel's body at one chunk. -/
def v24 : FVec Ideal S128x1024 .f32 := Gen.k0_pay11 I.u
/-- The value `%25` of the kernel's body at one chunk. -/
def v25 : FVec Ideal S128x1024 .f32 := Gen.k0_pay12 I.u
/-- The value `%27` of the kernel's body at one chunk. -/
def v27 : FVec Ideal S128x1024 .f32 := Gen.k0_pay13 I.v
/-- The value `%28` of the kernel's body at one chunk. -/
def v28 : FVec Ideal S128x1024 .f32 := Gen.k0_pay14 I.v
/-- The value `%35` of the kernel's body at one chunk. -/
def v35 : FVec Ideal S128x1024 .f32 := Gen.k0_pay15 I.v
/-- The value `%40` of the kernel's body at one chunk. -/
def v40 : FVec Ideal S128x1024 .f32 := Gen.k0_pay16 (v35 I)
/-- The value `%42` of the kernel's body at one chunk. -/
def v42 : FVec Ideal S128x1024 .f32 := Gen.k0_pay17 (v35 I)
/-- The value `%52` of the kernel's body at one chunk. -/
def v52 : FVec Ideal S128x1024 .f32 := Gen.k0_pay21 (v27 I) (v35 I)
/-- The value `%58` of the kernel's body at one chunk. -/
def v58 : FVec Ideal S128x1024 .f32 := Gen.k0_pay22 (v27 I) (v35 I)
/-- The value `%61` of the kernel's body at one chunk. -/
def v61 : FVec Ideal S128x1 .f32 := Gen.k0_pay24 (v27 I) (v35 I)
/-- The value `%64` of the kernel's body at one chunk. -/
def v64 : FVec Ideal S128x1 .f32 := Gen.k0_pay25 (v27 I) (v35 I)
/-- The value `%66` of the kernel's body at one chunk. -/
def v66 : FVec Ideal S128x1024 .f32 := Gen.k0_pay26 (v27 I) (v35 I)
/-- The value `%70` of the kernel's body at one chunk. -/
def v70 : FVec Ideal S128x1024 .f32 := Gen.k0_pay27 I.g I.b (v27 I) (v35 I)
/-- The value `%73` of the kernel's body at one chunk. -/
def v73 : IVec S128x128 1 := Gen.k0_pay28
/-- The value `%77` of the kernel's body at one chunk. -/
def v77 : FVec Ideal S128x128 .f32 := Gen.k0_pay29 (v5 I)
/-- The value `%78` of the kernel's body at one chunk. -/
def v78 : FVec Ideal S128x128 .f32 := Gen.k0_pay30 I.g I.b (v27 I) (v35 I)
/-- The value `%81` of the kernel's body at one chunk. -/
def v81 : FVec Ideal S128x128 .f32 := Gen.k0_pay31 I.g I.b (v5 I) (v27 I) (v35 I)
/-- The value `%83` of the kernel's body at one chunk. -/
def v83 : FVec Ideal S128x1 .f32 := Gen.k0_pay32 (v7 I)
/-- The value `%85` of the kernel's body at one chunk. -/
def v85 : FVec Ideal S128x128 .f32 := Gen.k0_pay33 (v81 I) (v83 I)
/-- The value `%86` of the kernel's body at one chunk. -/
def v86 : FVec Ideal S128x128 .f32 := Gen.k0_pay34 (v25 I)
/-- The value `%90` of the kernel's body at one chunk. -/
def v90 : FVec Ideal S128x128 .f32 := Gen.k0_pay35 (v5 I) v73
/-- The value `%91` of the kernel's body at one chunk. -/
def v91 : FVec Ideal S128x128 .f32 := Gen.k0_pay36 (v70 I)
/-- The value `%98` of the kernel's body at one chunk. -/
def v98 : FVec Ideal S128x128 .f32 := Gen.k0_pay37 (v5 I) (v7 I) (v70 I) v73
/-- The value `%99` of the kernel's body at one chunk. -/
def v99 : FVec Ideal S128x128 .f32 := Gen.k0_pay38 (v25 I)
/-- The value `%103` of the kernel's body at one chunk. -/
def v103 : FVec Ideal S128x128 .f32 := Gen.k0_pay39 (v5 I) v73
/-- The value `%104` of the kernel's body at one chunk. -/
def v104 : FVec Ideal S128x128 .f32 := Gen.k0_pay40 (v70 I)
/-- The value `%111` of the kernel's body at one chunk. -/
def v111 : FVec Ideal S128x128 .f32 := Gen.k0_pay41 (v5 I) (v7 I) (v70 I) v73
/-- The value `%112` of the kernel's body at one chunk. -/
def v112 : FVec Ideal S128x128 .f32 := Gen.k0_pay42 (v25 I)
/-- The value `%116` of the kernel's body at one chunk. -/
def v116 : FVec Ideal S128x128 .f32 := Gen.k0_pay43 (v5 I) v73
/-- The value `%117` of the kernel's body at one chunk. -/
def v117 : FVec Ideal S128x128 .f32 := Gen.k0_pay44 (v70 I)
/-- The value `%124` of the kernel's body at one chunk. -/
def v124 : FVec Ideal S128x128 .f32 := Gen.k0_pay45 (v5 I) (v7 I) (v70 I) v73
/-- The value `%125` of the kernel's body at one chunk. -/
def v125 : FVec Ideal S128x128 .f32 := Gen.k0_pay46 (v25 I)
/-- The value `%129` of the kernel's body at one chunk. -/
def v129 : FVec Ideal S128x128 .f32 := Gen.k0_pay47 (v5 I) v73
/-- The value `%130` of the kernel's body at one chunk. -/
def v130 : FVec Ideal S128x128 .f32 := Gen.k0_pay48 (v70 I)
/-- The value `%133` of the kernel's body at one chunk. -/
def v133 : FVec Ideal S128x128 .f32 := Gen.k0_pay49 (v5 I) (v70 I) v73
/-- The value `%135` of the kernel's body at one chunk. -/
def v135 : FVec Ideal S128x1 .f32 := Gen.k0_pay50 (v7 I)
/-- The value `%137` of the kernel's body at one chunk. -/
def v137 : FVec Ideal S128x128 .f32 := Gen.k0_pay51 (v133 I) (v135 I)
/-- The value `%138` of the kernel's body at one chunk. -/
def v138 : FVec Ideal S128x128 .f32 := Gen.k0_pay52 (v25 I)
/-- The value `%142` of the kernel's body at one chunk. -/
def v142 : FVec Ideal S128x128 .f32 := Gen.k0_pay53 (v5 I) v73
/-- The value `%143` of the kernel's body at one chunk. -/
def v143 : FVec Ideal S128x128 .f32 := Gen.k0_pay54 (v70 I)
/-- The value `%150` of the kernel's body at one chunk. -/
def v150 : FVec Ideal S128x128 .f32 := Gen.k0_pay55 (v5 I) (v7 I) (v70 I) v73
/-- The value `%151` of the kernel's body at one chunk. -/
def v151 : FVec Ideal S128x128 .f32 := Gen.k0_pay56 (v25 I)
/-- The value `%155` of the kernel's body at one chunk. -/
def v155 : FVec Ideal S128x128 .f32 := Gen.k0_pay57 (v5 I) v73
/-- The value `%156` of the kernel's body at one chunk. -/
def v156 : FVec Ideal S128x128 .f32 := Gen.k0_pay58 (v70 I)
/-- The value `%163` of the kernel's body at one chunk. -/
def v163 : FVec Ideal S128x128 .f32 := Gen.k0_pay59 (v5 I) (v7 I) (v70 I) v73
/-- The value `%164` of the kernel's body at one chunk. -/
def v164 : FVec Ideal S128x128 .f32 := Gen.k0_pay60 (v25 I)
/-- The value `%168` of the kernel's body at one chunk. -/
def v168 : FVec Ideal S128x128 .f32 := Gen.k0_pay61 (v5 I) v73
/-- The value `%169` of the kernel's body at one chunk. -/
def v169 : FVec Ideal S128x128 .f32 := Gen.k0_pay62 (v70 I)
/-- The value `%176` of the kernel's body at one chunk. -/
def v176 : FVec Ideal S128x128 .f32 := Gen.k0_pay63 (v5 I) (v7 I) (v70 I) v73
/-- The value `%179` of the kernel's body at one chunk. -/
def v179 : FVec Ideal S128x128 .f32 := Gen.k0_pay64 I.d
/-- The value `%180` of the kernel's body at one chunk. -/
def v180 : FVec Ideal S128x128 .f32 := Gen.k0_pay65 I.d
/-- The value `%181` of the kernel's body at one chunk. -/
def v181 : FVec Ideal S128x128 .f32 := Gen.k0_pay66 I.d
/-- The value `%182` of the kernel's body at one chunk. -/
def v182 : FVec Ideal S128x128 .f32 := Gen.k0_pay67 I.d
/-- The value `%183` of the kernel's body at one chunk. -/
def v183 : FVec Ideal S128x128 .f32 := Gen.k0_pay68 I.d
/-- The value `%184` of the kernel's body at one chunk. -/
def v184 : FVec Ideal S128x128 .f32 := Gen.k0_pay69 I.d
/-- The value `%185` of the kernel's body at one chunk. -/
def v185 : FVec Ideal S128x128 .f32 := Gen.k0_pay70 I.d
/-- The value `%186` of the kernel's body at one chunk. -/
def v186 : FVec Ideal S128x128 .f32 := Gen.k0_pay71 I.d
/-- The value `%187` of the kernel's body at one chunk. -/
def v187 : FVec Ideal S128x128 .f32 := Gen.k0_pay72 (v25 I) I.d
/-- The value `%203` of the kernel's body at one chunk. -/
def v203 : FVec Ideal S128x1024 .f32 := Gen.k0_pay73 (v168 I) (v187 I)
/-- The value `%208` of the kernel's body at one chunk. -/
def v208 : FVec Ideal S8x128x128 .f32 := Gen.k0_pay74 v73 (v169 I) (v187 I)
/-- The value `%215` of the kernel's body at one chunk. -/
def v215 : FVec Ideal S128x1024 .f32 := Gen.k0_pay76 (v163 I) (v176 I) (v185 I) (v186 I)
/-- The value `%223` of the kernel's body at one chunk. -/
def v223 : FVec Ideal S8x128x1 .f32 := Gen.k0_pay77 (v164 I) (v185 I) (v187 I)
/-- The value `%226` of the kernel's body at one chunk. -/
def v226 : FVec Ideal S128x128 .f32 := Gen.k0_pay78 (v156 I) (v164 I) (v185 I)
/-- The value `%233` of the kernel's body at one chunk. -/
def v233 : FVec Ideal S128x1024 .f32 := Gen.k0_pay79 (v155 I) (v164 I) (v185 I)
/-- The value `%249` of the kernel's body at one chunk. -/
def v249 : FVec Ideal S128x1024 .f32 := Gen.k0_pay81 (v150 I) (v184 I) (v215 I)
/-- The value `%257` of the kernel's body at one chunk. -/
def v257 : FVec Ideal S8x128x1 .f32 := Gen.k0_pay82 (v151 I) (v184 I) (v223 I)
/-- The value `%268` of the kernel's body at one chunk. -/
def v268 : FVec Ideal S128x1024 .f32 := Gen.k0_pay83 (v142 I) (v151 I) (v184 I) (v203 I) (v233 I)
/-- The value `%276` of the kernel's body at one chunk. -/
def v276 : FVec Ideal S8x128x128 .f32 := Gen.k0_pay84 v73 (v143 I) (v151 I) (v184 I) (v208 I) (v226 I)
/-- The value `%277` of the kernel's body at one chunk. -/
def v277 : FVec Ideal S128x128 .f32 := Gen.k0_pay85 (v138 I) (v183 I)
/-- The value `%282` of the kernel's body at one chunk. -/
def v282 : FVec Ideal S128x1024 .f32 := Gen.k0_pay86 (v137 I) (v183 I)
/-- The value `%302` of the kernel's body at one chunk. -/
def v302 : FVec Ideal S128x1024 .f32 := Gen.k0_pay87 (v129 I) (v268 I) (v277 I)
/-- The value `%310` of the kernel's body at one chunk. -/
def v310 : FVec Ideal S8x128x128 .f32 := Gen.k0_pay88 v73 (v130 I) (v276 I) (v277 I)
/-- The value `%317` of the kernel's body at one chunk. -/
def v317 : FVec Ideal S128x1024 .f32 := Gen.k0_pay90 (v124 I) (v182 I) (v249 I) (v282 I)
/-- The value `%325` of the kernel's body at one chunk. -/
def v325 : FVec Ideal S8x128x1 .f32 := Gen.k0_pay91 (v125 I) (v182 I) (v257 I) (v277 I)
/-- The value `%328` of the kernel's body at one chunk. -/
def v328 : FVec Ideal S128x128 .f32 := Gen.k0_pay92 (v117 I) (v125 I) (v182 I)
/-- The value `%329` of the kernel's body at one chunk. -/
def v329 : FVec Ideal S128x128 .bf16 := Gen.k0_pay93 (v116 I)
/-- The value `%330` of the kernel's body at one chunk. -/
def v330 : FVec Ideal S128x128 .bf16 := Gen.k0_pay94 (v125 I) (v182 I)
/-- The value `%351` of the kernel's body at one chunk. -/
def v351 : FVec Ideal S128x1024 .f32 := Gen.k0_pay96 (v111 I) (v181 I) (v317 I)
/-- The value `%359` of the kernel's body at one chunk. -/
def v359 : FVec Ideal S8x128x1 .f32 := Gen.k0_pay97 (v112 I) (v181 I) (v325 I)
/-- The value `%370` of the kernel's body at one chunk. -/
def v370 : FVec Ideal S128x1024 .f32 := Gen.k0_pay98 (v103 I) (v112 I) (v181 I) (v302 I) (v329 I) (v330 I) (constant S128x128 .f32 0x00000000#32)
/-- The value `%378` of the kernel's body at one chunk. -/
def v378 : FVec Ideal S8x128x128 .f32 := Gen.k0_pay99 v73 (v104 I) (v112 I) (v181 I) (v310 I) (v328 I)
/-- The value `%379` of the kernel's body at one chunk. -/
def v379 : FVec Ideal S128x128 .f32 := Gen.k0_pay100 (v99 I) (v180 I)
/-- The value `%404` of the kernel's body at one chunk. -/
def v404 : FVec Ideal S128x1024 .f32 := Gen.k0_pay101 (v90 I) (v370 I) (v379 I)
/-- The value `%412` of the kernel's body at one chunk. -/
def v412 : FVec Ideal S8x128x128 .f32 := Gen.k0_pay102 v73 (v91 I) (v378 I) (v379 I)
/-- The value `%413` of the kernel's body at one chunk. -/
def v413 : FVec Ideal S128x128 .f32 := Gen.k0_pay103 (v86 I) (v179 I)
/-- The value `%417` of the kernel's body at one chunk. -/
def v417 : FVec Ideal S128x1024 .f32 := Gen.k0_pay104 (v85 I) (v98 I) (v179 I) (v180 I) (v351 I)
/-- The value `%423` of the kernel's body at one chunk. -/
def v423 : FVec Ideal S8x128x1 .f32 := Gen.k0_pay105 (v86 I) (v179 I) (v359 I) (v379 I)
/-- The value `%426` of the kernel's body at one chunk. -/
def v426 : FVec Ideal S128x128 .f32 := Gen.k0_pay106 (v78 I) (v86 I) (v179 I)
/-- The value `%427` of the kernel's body at one chunk. -/
def v427 : FVec Ideal S128x128 .bf16 := Gen.k0_pay107 (v77 I)
/-- The value `%438` of the kernel's body at one chunk. -/
def v438 : FVec Ideal S8x128x128 .f32 := Gen.k0_pay109 v73 (v412 I) (v426 I)
/-- The value `%440` of the kernel's body at one chunk. -/
def v440 : FVec Ideal S1x1024 .f32 := Gen.k0_pay110 (v404 I) (v413 I) (v427 I)
/-- The value `%443` of the kernel's body at one chunk. -/
def v443 : FVec Ideal S1x1024 .f32 := Gen.k0_pay111 (v66 I) (v404 I) (v413 I) (v427 I)
/-- The value `%466` of the kernel's body at one chunk. -/
def v466 : FVec Ideal S128x1024 .f32 := Gen.k0_pay115 I.g (v52 I) (v58 I) (v61 I) (v64 I) (v404 I) (v413 I) (v427 I)
/-- The value `%472` of the kernel's body at one chunk. -/
def v472 : FVec Ideal S128x1024 .f32 := Gen.k0_pay116 I.g (v52 I) (v58 I) (v61 I) (v64 I) (v404 I) (v413 I) (v427 I)

end Cert.KernelIdeal.Chunk

end
-- ==== Proof.ChunkAt.lean ====
/-
  The kernel's body at one chunk, read at an index: gelu, the layer norm, and each group's mixing product.
-/
module

public import proofs.«01_k».proof.Proof.Chunk

@[expose] public section

noncomputable section

namespace Cert.KernelIdeal.Chunk

open Cert.KernelIdeal Idealize.ShloMosaic Cert.Gmlp

variable (I : In)

/-- Half of the `u` block. -/
theorem v9_at (r : Fin 128) (c : Fin 1024) : v9 I (ix2 r c) = cHalf * I.arg.u r c := by
  unfold v9; unfold_payloads; pointwise; rfl

/-- Half of the `v` block. -/
theorem v27_at (r : Fin 128) (c : Fin 1024) : v27 I (ix2 r c) = cHalf * I.arg.v r c := by
  unfold v27; unfold_payloads; pointwise; rfl

/-- The `u` block squared. -/
theorem v10_at (r : Fin 128) (c : Fin 1024) : v10 I (ix2 r c) = I.arg.u r c * I.arg.u r c := by
  unfold v10; unfold_payloads; pointwise; rfl

/-- The `v` block squared. -/
theorem v28_at (r : Fin 128) (c : Fin 1024) : v28 I (ix2 r c) = I.arg.v r c * I.arg.v r c := by
  unfold v28; unfold_payloads; pointwise; rfl

/-- The tanh of the `v` block. -/
theorem v35_at (r : Fin 128) (c : Fin 1024) : v35 I (ix2 r c) = th (I.arg.v r c) := by
  unfold v35; unfold_payloads; pointwise; rfl

/-- The derivative of the tanh at the `u` block. -/
theorem v22_at (r : Fin 128) (c : Fin 1024) : v22 I (ix2 r c) = (1 + th (I.arg.u r c)) * (1 - th (I.arg.u r c)) := by
  unfold v22; unfold_payloads; pointwise; rfl

/-- One plus the tanh of the `u` block. -/
theorem v24_at (r : Fin 128) (c : Fin 1024) : v24 I (ix2 r c) = 1 + th (I.arg.u r c) := by
  unfold v24; unfold_payloads; pointwise; rfl

/-- gelu of the `u` block. -/
theorem v25_at (r : Fin 128) (c : Fin 1024) : v25 I (ix2 r c) = gel (I.arg.u r c) := by
  unfold v25; unfold_payloads; pointwise; rfl

/-- The derivative of the tanh at the `v` block. -/
theorem v40_at (r : Fin 128) (c : Fin 1024) : v40 I (ix2 r c) = (1 + th (I.arg.v r c)) * (1 - th (I.arg.v r c)) := by
  unfold v40; unfold_payloads; pointwise; simp only [v35_at]

/-- One plus the tanh of the `v` block. -/
theorem v42_at (r : Fin 128) (c : Fin 1024) : v42 I (ix2 r c) = 1 + th (I.arg.v r c) := by
  unfold v42; unfold_payloads; pointwise; simp only [v35_at]

/-- gelu of the `v` block. -/
theorem v43_at (r : Fin 128) (c : Fin 1024) : Gen.k0_pay18 (v27 I) (v35 I) (ix2 r c) = gv I.arg r c := by
  unfold Gen.k0_pay18 Gen.k0_pay17; pointwise; simp only [v27_at, v35_at]; rfl

/-- A row's mean. -/
theorem v47_at (r : Fin 128) : Gen.k0_pay19 (v27 I) (v35 I) (ix2 r 0) = mean (gv I.arg r) := by
  unfold Gen.k0_pay19; pointwise; simp only [v43_at]; rfl

/-- A row less its mean. -/
theorem v49_at (r : Fin 128) (c : Fin 1024) : Gen.k0_pay20 (v27 I) (v35 I) (ix2 r c) = cen (gv I.arg r) c := by
  unfold Gen.k0_pay20; pointwise; simp only [v43_at, v47_at]; rfl

/-- A row less its mean, a second time. -/
theorem v58_at (r : Fin 128) (c : Fin 1024) : v58 I (ix2 r c) = cen (gv I.arg r) c := by
  unfold v58 Gen.k0_pay22; pointwise; simp only [v43_at, v47_at]; rfl

/-- Twice a row less its mean. -/
theorem v52_at (r : Fin 128) (c : Fin 1024) : v52 I (ix2 r c) = cTwo * cen (gv I.arg r) c := by
  unfold v52 Gen.k0_pay21; pointwise; simp only [v49_at]

/-- A row's variance plus `1e-5`. -/
theorem v60_at (r : Fin 128) : Gen.k0_pay23 (v27 I) (v35 I) (ix2 r 0) = var (gv I.arg r) := by
  unfold Gen.k0_pay23; pointwise; simp only [v49_at]; rfl

/-- A row's reciprocal standard deviation. -/
theorem v61_at (r : Fin 128) : v61 I (ix2 r 0) = rsd (gv I.arg r) := by
  unfold v61 Gen.k0_pay24; pointwise; simp only [v60_at]; rfl

/-- The derivative of the reciprocal root. -/
theorem v64_at (r : Fin 128) : v64 I (ix2 r 0) = coef (gv I.arg r) := by
  unfold v64 Gen.k0_pay25 Gen.k0_pay24; pointwise; simp only [v60_at]; rfl

/-- The normalised row. -/
theorem v66_at (r : Fin 128) (c : Fin 1024) : v66 I (ix2 r c) = xh (gv I.arg r) c := by
  unfold v66 Gen.k0_pay26; pointwise; rw [show Gen.k0_pay22 (v27 I) (v35 I) (ix2 r c) = v58 I (ix2 r c) from rfl, show Gen.k0_pay24 (v27 I) (v35 I) (ix2 r 0) = v61 I (ix2 r 0) from rfl, v58_at, v61_at]; rfl

/-- The layer norm. -/
theorem v70_at (r : Fin 128) (c : Fin 1024) : v70 I (ix2 r c) = nr I.arg r c := by
  unfold v70 Gen.k0_pay27; pointwise; rw [show Gen.k0_pay26 (v27 I) (v35 I) (ix2 r c) = v66 I (ix2 r c) from rfl, v66_at]; rfl

/-- The diagonal's mask: set at and under the diagonal. -/
theorem v73_sel (i j : Fin 128) (x y : EReal) : Scalar.select (v73 (ix2 i j)) x y = if j ≤ i then x else y := by
  have h : v73 (ix2 i j) = if j ≤ i then 1#1 else 0#1 := by
    unfold v73; unfold_payloads; pointwise
    revert i j; decide +kernel
  rw [h]; split_ifs <;> rfl

/-- The mixing matrices. -/
theorem v5_at (g : Fin 8) (i j : Fin 128) : v5 I (ix3 g i j) = I.arg.w g i j := by
  unfold v5; unfold_payloads; pointwise; rfl

/-- The biases. -/
theorem v7_at (g : Fin 8) (i : Fin 128) : v7 I (ix3 g i 0) = I.arg.bs g i := by
  unfold v7; unfold_payloads; pointwise; rfl

/-- The first group's columns are the first 128. -/
theorem col_zero (j : Fin 128) (h : j.val < 1024) : (⟨j.val, h⟩ : Fin 1024) = col 0 j :=
  Fin.ext (by simp [col])

/-- Group 0's mixing matrix. -/
theorem v77_at (i j : Fin 128) : v77 I (ix2 i j) = wm I.arg 0 i j := by
  unfold v77 Gen.k0_pay29; pointwise; rw [show Gen.k0_pay28 (ix2 i j) = v73 (ix2 i j) from rfl, v73_sel, v5_at]; rfl

/-- Group 0's columns of the layer norm. -/
theorem v78_at (i j : Fin 128) : v78 I (ix2 i j) = nr I.arg i (col 0 j) := by
  unfold v78 Gen.k0_pay30; pointwise; rw [col_zero]; exact v70_at I i (col 0 j)

/-- Group 0's columns of the mixed rows. -/
theorem v85_at (i j : Fin 128) : v85 I (ix2 i j) = mix I.arg i (col 0 j) := by
  unfold v85 v81 v83 Gen.k0_pay33 Gen.k0_pay31 Gen.k0_pay32; pointwise
  simp only [show ∀ x y, Gen.k0_pay29 (v5 I) (ix2 x y) = v77 I (ix2 x y) from fun _ _ => rfl, show ∀ x y, Gen.k0_pay30 I.g I.b (v27 I) (v35 I) (ix2 x y) = v78 I (ix2 x y) from fun _ _ => rfl, v77_at, v78_at, v7_at]
  unfold mix; rw [grp_col]

/-- Group 0's columns of gelu of the `u` block. -/
theorem v86_at (i j : Fin 128) : v86 I (ix2 i j) = gel (I.arg.u i (col 0 j)) := by
  unfold v86 Gen.k0_pay34; pointwise; rw [col_zero]; exact v25_at I i (col 0 j)

/-- Group 0's columns of the cotangent. -/
theorem v179_at (i j : Fin 128) : v179 I (ix2 i j) = I.arg.d i (col 0 j) := by
  unfold v179 Gen.k0_pay64; pointwise; rw [col_zero]; rfl

/-- Group 1's mixing matrix. -/
theorem v90_at (i j : Fin 128) : v90 I (ix2 i j) = wm I.arg 1 i j := by
  unfold v90 Gen.k0_pay35; pointwise; rw [v73_sel, v5_at]; rfl

/-- Group 1's columns of the layer norm. -/
theorem v91_at (i j : Fin 128) : v91 I (ix2 i j) = nr I.arg i (col 1 j) := by
  unfold v91 Gen.k0_pay36; pointwise; exact v70_at I i (col 1 j)

/-- Group 1's columns of the mixed rows. -/
theorem v98_at (i j : Fin 128) : v98 I (ix2 i j) = mix I.arg i (col 1 j) := by
  unfold v98 Gen.k0_pay37; pointwise
  simp only [show ∀ x y, Gen.k0_pay35 (v5 I) v73 (ix2 x y) = v90 I (ix2 x y) from fun _ _ => rfl, show ∀ x y, Gen.k0_pay36 (v70 I) (ix2 x y) = v91 I (ix2 x y) from fun _ _ => rfl, v90_at, v91_at, v7_at]
  unfold mix; rw [grp_col]

/-- Group 1's columns of gelu of the `u` block. -/
theorem v99_at (i j : Fin 128) : v99 I (ix2 i j) = gel (I.arg.u i (col 1 j)) := by
  unfold v99 Gen.k0_pay38; pointwise; exact v25_at I i (col 1 j)

/-- Group 1's columns of the cotangent. -/
theorem v180_at (i j : Fin 128) : v180 I (ix2 i j) = I.arg.d i (col 1 j) := by
  unfold v180 Gen.k0_pay65; pointwise; rfl

/-- Group 2's mixing matrix. -/
theorem v103_at (i j : Fin 128) : v103 I (ix2 i j) = wm I.arg 2 i j := by
  unfold v103 Gen.k0_pay39; pointwise; rw [v73_sel, v5_at]; rfl

/-- Group 2's columns of the layer norm. -/
theorem v104_at (i j : Fin 128) : v104 I (ix2 i j) = nr I.arg i (col 2 j) := by
  unfold v104 Gen.k0_pay40; pointwise; exact v70_at I i (col 2 j)

/-- Group 2's columns of the mixed rows. -/
theorem v111_at (i j : Fin 128) : v111 I (ix2 i j) = mix I.arg i (col 2 j) := by
  unfold v111 Gen.k0_pay41; pointwise
  simp only [show ∀ x y, Gen.k0_pay39 (v5 I) v73 (ix2 x y) = v103 I (ix2 x y) from fun _ _ => rfl, show ∀ x y, Gen.k0_pay40 (v70 I) (ix2 x y) = v104 I (ix2 x y) from fun _ _ => rfl, v103_at, v104_at, v7_at]
  unfold mix; rw [grp_col]

/-- Group 2's columns of gelu of the `u` block. -/
theorem v112_at (i j : Fin 128) : v112 I (ix2 i j) = gel (I.arg.u i (col 2 j)) := by
  unfold v112 Gen.k0_pay42; pointwise; exact v25_at I i (col 2 j)

/-- Group 2's columns of the cotangent. -/
theorem v181_at (i j : Fin 128) : v181 I (ix2 i j) = I.arg.d i (col 2 j) := by
  unfold v181 Gen.k0_pay66; pointwise; rfl

/-- Group 3's mixing matrix. -/
theorem v116_at (i j : Fin 128) : v116 I (ix2 i j) = wm I.arg 3 i j := by
  unfold v116 Gen.k0_pay43; pointwise; rw [v73_sel, v5_at]; rfl

/-- Group 3's columns of the layer norm. -/
theorem v117_at (i j : Fin 128) : v117 I (ix2 i j) = nr I.arg i (col 3 j) := by
  unfold v117 Gen.k0_pay44; pointwise; exact v70_at I i (col 3 j)

/-- Group 3's columns of the mixed rows. -/
theorem v124_at (i j : Fin 128) : v124 I (ix2 i j) = mix I.arg i (col 3 j) := by
  unfold v124 Gen.k0_pay45; pointwise
  simp only [show ∀ x y, Gen.k0_pay43 (v5 I) v73 (ix2 x y) = v116 I (ix2 x y) from fun _ _ => rfl, show ∀ x y, Gen.k0_pay44 (v70 I) (ix2 x y) = v117 I (ix2 x y) from fun _ _ => rfl, v116_at, v117_at, v7_at]
  unfold mix; rw [grp_col]

/-- Group 3's columns of gelu of the `u` block. -/
theorem v125_at (i j : Fin 128) : v125 I (ix2 i j) = gel (I.arg.u i (col 3 j)) := by
  unfold v125 Gen.k0_pay46; pointwise; exact v25_at I i (col 3 j)

/-- Group 3's columns of the cotangent. -/
theorem v182_at (i j : Fin 128) : v182 I (ix2 i j) = I.arg.d i (col 3 j) := by
  unfold v182 Gen.k0_pay67; pointwise; rfl

/-- Group 4's mixing matrix. -/
theorem v129_at (i j : Fin 128) : v129 I (ix2 i j) = wm I.arg 4 i j := by
  unfold v129 Gen.k0_pay47; pointwise; rw [v73_sel, v5_at]; rfl

/-- Group 4's columns of the layer norm. -/
theorem v130_at (i j : Fin 128) : v130 I (ix2 i j) = nr I.arg i (col 4 j) := by
  unfold v130 Gen.k0_pay48; pointwise; exact v70_at I i (col 4 j)

/-- Group 4's columns of the mixed rows. -/
theorem v137_at (i j : Fin 128) : v137 I (ix2 i j) = mix I.arg i (col 4 j) := by
  unfold v137 v133 v135 Gen.k0_pay51 Gen.k0_pay49 Gen.k0_pay50; pointwise
  simp only [show ∀ x y, Gen.k0_pay47 (v5 I) v73 (ix2 x y) = v129 I (ix2 x y) from fun _ _ => rfl, show ∀ x y, Gen.k0_pay48 (v70 I) (ix2 x y) = v130 I (ix2 x y) from fun _ _ => rfl, v129_at, v130_at, v7_at]
  unfold mix; rw [grp_col]

/-- Group 4's columns of gelu of the `u` block. -/
theorem v138_at (i j : Fin 128) : v138 I (ix2 i j) = gel (I.arg.u i (col 4 j)) := by
  unfold v138 Gen.k0_pay52; pointwise; exact v25_at I i (col 4 j)

/-- Group 4's columns of the cotangent. -/
theorem v183_at (i j : Fin 128) : v183 I (ix2 i j) = I.arg.d i (col 4 j) := by
  unfold v183 Gen.k0_pay68; pointwise; rfl

/-- Group 5's mixing matrix. -/
theorem v142_at (i j : Fin 128) : v142 I (ix2 i j) = wm I.arg 5 i j := by
  unfold v142 Gen.k0_pay53; pointwise; rw [v73_sel, v5_at]; rfl

/-- Group 5's columns of the layer norm. -/
theorem v143_at (i j : Fin 128) : v143 I (ix2 i j) = nr I.arg i (col 5 j) := by
  unfold v143 Gen.k0_pay54; pointwise; exact v70_at I i (col 5 j)

/-- Group 5's columns of the mixed rows. -/
theorem v150_at (i j : Fin 128) : v150 I (ix2 i j) = mix I.arg i (col 5 j) := by
  unfold v150 Gen.k0_pay55; pointwise
  simp only [show ∀ x y, Gen.k0_pay53 (v5 I) v73 (ix2 x y) = v142 I (ix2 x y) from fun _ _ => rfl, show ∀ x y, Gen.k0_pay54 (v70 I) (ix2 x y) = v143 I (ix2 x y) from fun _ _ => rfl, v142_at, v143_at, v7_at]
  unfold mix; rw [grp_col]

/-- Group 5's columns of gelu of the `u` block. -/
theorem v151_at (i j : Fin 128) : v151 I (ix2 i j) = gel (I.arg.u i (col 5 j)) := by
  unfold v151 Gen.k0_pay56; pointwise; exact v25_at I i (col 5 j)

/-- Group 5's columns of the cotangent. -/
theorem v184_at (i j : Fin 128) : v184 I (ix2 i j) = I.arg.d i (col 5 j) := by
  unfold v184 Gen.k0_pay69; pointwise; rfl

/-- Group 6's mixing matrix. -/
theorem v155_at (i j : Fin 128) : v155 I (ix2 i j) = wm I.arg 6 i j := by
  unfold v155 Gen.k0_pay57; pointwise; rw [v73_sel, v5_at]; rfl

/-- Group 6's columns of the layer norm. -/
theorem v156_at (i j : Fin 128) : v156 I (ix2 i j) = nr I.arg i (col 6 j) := by
  unfold v156 Gen.k0_pay58; pointwise; exact v70_at I i (col 6 j)

/-- Group 6's columns of the mixed rows. -/
theorem v163_at (i j : Fin 128) : v163 I (ix2 i j) = mix I.arg i (col 6 j) := by
  unfold v163 Gen.k0_pay59; pointwise
  simp only [show ∀ x y, Gen.k0_pay57 (v5 I) v73 (ix2 x y) = v155 I (ix2 x y) from fun _ _ => rfl, show ∀ x y, Gen.k0_pay58 (v70 I) (ix2 x y) = v156 I (ix2 x y) from fun _ _ => rfl, v155_at, v156_at, v7_at]
  unfold mix; rw [grp_col]

/-- Group 6's columns of gelu of the `u` block. -/
theorem v164_at (i j : Fin 128) : v164 I (ix2 i j) = gel (I.arg.u i (col 6 j)) := by
  unfold v164 Gen.k0_pay60; pointwise; exact v25_at I i (col 6 j)

/-- Group 6's columns of the cotangent. -/
theorem v185_at (i j : Fin 128) : v185 I (ix2 i j) = I.arg.d i (col 6 j) := by
  unfold v185 Gen.k0_pay70; pointwise; rfl

/-- Group 7's mixing matrix. -/
theorem v168_at (i j : Fin 128) : v168 I (ix2 i j) = wm I.arg 7 i j := by
  unfold v168 Gen.k0_pay61; pointwise; rw [v73_sel, v5_at]; rfl

/-- Group 7's columns of the layer norm. -/
theorem v169_at (i j : Fin 128) : v169 I (ix2 i j) = nr I.arg i (col 7 j) := by
  unfold v169 Gen.k0_pay62; pointwise; exact v70_at I i (col 7 j)

/-- Group 7's columns of the mixed rows. -/
theorem v176_at (i j : Fin 128) : v176 I (ix2 i j) = mix I.arg i (col 7 j) := by
  unfold v176 Gen.k0_pay63; pointwise
  simp only [show ∀ x y, Gen.k0_pay61 (v5 I) v73 (ix2 x y) = v168 I (ix2 x y) from fun _ _ => rfl, show ∀ x y, Gen.k0_pay62 (v70 I) (ix2 x y) = v169 I (ix2 x y) from fun _ _ => rfl, v168_at, v169_at, v7_at]
  unfold mix; rw [grp_col]

/-- Group 7's columns of the cotangent. -/
theorem v186_at (i j : Fin 128) : v186 I (ix2 i j) = I.arg.d i (col 7 j) := by
  unfold v186 Gen.k0_pay71; pointwise; rfl

end Cert.KernelIdeal.Chunk

end
-- ==== Proof.ChunkSum.lean ====
/-
  The kernel's body at one chunk, read at an index: the sums over the eight groups. Each group's piece is padded with
  zeros to the full extent and added; after each addition the running sum is the chunk's value at the columns of the
  groups already added, and zero elsewhere.
-/
module

public import proofs.«01_k».proof.Proof.ChunkAt

@[expose] public section

noncomputable section

namespace Cert.KernelIdeal.Chunk

open Cert.KernelIdeal Idealize.ShloMosaic Cert.Gmlp

variable (I : In)

/-- The cotangent of the first half after gelu. -/
def du0 (A : Arg) (i : Fin 128) (c : Fin 1024) : EReal := A.d i c * mix A i c

variable (A : Arg)

/-- One group's piece of the cotangent of the first half. -/
theorem du_lit (g : Fin 8) (i k : Fin 128) : A.d i (col g k) * mix A i (col g k) = du0 A i (col g k) := rfl

/-- One group's piece of the cotangent of the layer norm's rows. -/
theorem dn_lit (g : Fin 8) (j k : Fin 128) :
    ∑ x, wm A g x j * (gel (A.u x (col g k)) * A.d x (col g k)) = dn A j (col g k) := by
  unfold dn; rw [grp_col]; rfl

/-- One group's mixing matrix's gradient. -/
theorem dW_lit (g : Fin 8) (i j : Fin 128) :
    (if j ≤ i then ∑ x, gel (A.u i (col g x)) * A.d i (col g x) * nr A j (col g x) else 0) = dW A g i j := rfl

/-- One group's bias' gradient. -/
theorem dBs_lit (g : Fin 8) (i : Fin 128) :
    ∑ x, gel (A.u i (col g x)) * A.d i (col g x) = dBs A g i := rfl

/-- Group 7's columns of the cotangent of the mixed rows. -/
theorem v187_at (i j : Fin 128) : v187 I (ix2 i j) = gel (I.arg.u i (col 7 j)) * I.arg.d i (col 7 j) := by
  unfold v187; unfold_payloads; pointwise; exact congrArg₂ (· * ·) (v25_at I i (col 7 j)) rfl

/-- Group 4's columns of the cotangent of the mixed rows. -/
theorem v277_at (i j : Fin 128) : v277 I (ix2 i j) = gel (I.arg.u i (col 4 j)) * I.arg.d i (col 4 j) := by
  unfold v277; unfold_payloads; pointwise; simp only [v77_at, v78_at, v85_at, v86_at, v179_at, v90_at, v91_at, v98_at, v99_at, v180_at, v103_at, v104_at, v111_at, v112_at, v181_at, v116_at, v117_at, v124_at, v125_at, v182_at, v129_at, v130_at, v137_at, v138_at, v183_at, v142_at, v143_at, v150_at, v151_at, v184_at, v155_at, v156_at, v163_at, v164_at, v185_at, v168_at, v169_at, v176_at, v186_at]

/-- Group 1's columns of the cotangent of the mixed rows. -/
theorem v379_at (i j : Fin 128) : v379 I (ix2 i j) = gel (I.arg.u i (col 1 j)) * I.arg.d i (col 1 j) := by
  unfold v379; unfold_payloads; pointwise; simp only [v77_at, v78_at, v85_at, v86_at, v179_at, v90_at, v91_at, v98_at, v99_at, v180_at, v103_at, v104_at, v111_at, v112_at, v181_at, v116_at, v117_at, v124_at, v125_at, v182_at, v129_at, v130_at, v137_at, v138_at, v183_at, v142_at, v143_at, v150_at, v151_at, v184_at, v155_at, v156_at, v163_at, v164_at, v185_at, v168_at, v169_at, v176_at, v186_at]

/-- Group 0's columns of the cotangent of the mixed rows. -/
theorem v413_at (i j : Fin 128) : v413 I (ix2 i j) = gel (I.arg.u i (col 0 j)) * I.arg.d i (col 0 j) := by
  unfold v413; unfold_payloads; pointwise; simp only [v77_at, v78_at, v85_at, v86_at, v179_at, v90_at, v91_at, v98_at, v99_at, v180_at, v103_at, v104_at, v111_at, v112_at, v181_at, v116_at, v117_at, v124_at, v125_at, v182_at, v129_at, v130_at, v137_at, v138_at, v183_at, v142_at, v143_at, v150_at, v151_at, v184_at, v155_at, v156_at, v163_at, v164_at, v185_at, v168_at, v169_at, v176_at, v186_at]

/-- Group 3's columns of the cotangent of the mixed rows. -/
theorem v330_at (i j : Fin 128) : v330 I (ix2 i j) = gel (I.arg.u i (col 3 j)) * I.arg.d i (col 3 j) := by
  unfold v330; unfold_payloads; pointwise; simp only [v77_at, v78_at, v85_at, v86_at, v179_at, v90_at, v91_at, v98_at, v99_at, v180_at, v103_at, v104_at, v111_at, v112_at, v181_at, v116_at, v117_at, v124_at, v125_at, v182_at, v129_at, v130_at, v137_at, v138_at, v183_at, v142_at, v143_at, v150_at, v151_at, v184_at, v155_at, v156_at, v163_at, v164_at, v185_at, v168_at, v169_at, v176_at, v186_at]

/-- Group 3's mixing matrix, in the narrow format. -/
theorem v329_at (i j : Fin 128) : v329 I (ix2 i j) = wm I.arg 3 i j := by
  unfold v329; unfold_payloads; pointwise; exact v116_at I i j

/-- Group 0's mixing matrix, in the narrow format. -/
theorem v427_at (i j : Fin 128) : v427 I (ix2 i j) = wm I.arg 0 i j := by
  unfold v427; unfold_payloads; pointwise; exact v77_at I i j

/-- Group 6's product for the mixing matrix' gradient, before the mask. -/
theorem v226_at (i j : Fin 128) : v226 I (ix2 i j) = ∑ x, gel (I.arg.u i (col 6 x)) * I.arg.d i (col 6 x) * nr I.arg j (col 6 x) := by
  unfold v226; unfold_payloads; pointwise; simp only [v77_at, v78_at, v85_at, v86_at, v179_at, v90_at, v91_at, v98_at, v99_at, v180_at, v103_at, v104_at, v111_at, v112_at, v181_at, v116_at, v117_at, v124_at, v125_at, v182_at, v129_at, v130_at, v137_at, v138_at, v183_at, v142_at, v143_at, v150_at, v151_at, v184_at, v155_at, v156_at, v163_at, v164_at, v185_at, v168_at, v169_at, v176_at, v186_at]

/-- Group 3's product for the mixing matrix' gradient, before the mask. -/
theorem v328_at (i j : Fin 128) : v328 I (ix2 i j) = ∑ x, gel (I.arg.u i (col 3 x)) * I.arg.d i (col 3 x) * nr I.arg j (col 3 x) := by
  unfold v328; unfold_payloads; pointwise; simp only [v77_at, v78_at, v85_at, v86_at, v179_at, v90_at, v91_at, v98_at, v99_at, v180_at, v103_at, v104_at, v111_at, v112_at, v181_at, v116_at, v117_at, v124_at, v125_at, v182_at, v129_at, v130_at, v137_at, v138_at, v183_at, v142_at, v143_at, v150_at, v151_at, v184_at, v155_at, v156_at, v163_at, v164_at, v185_at, v168_at, v169_at, v176_at, v186_at]

/-- Group 0's product for the mixing matrix' gradient, before the mask. -/
theorem v426_at (i j : Fin 128) : v426 I (ix2 i j) = ∑ x, gel (I.arg.u i (col 0 x)) * I.arg.d i (col 0 x) * nr I.arg j (col 0 x) := by
  unfold v426; unfold_payloads; pointwise; simp only [v77_at, v78_at, v85_at, v86_at, v179_at, v90_at, v91_at, v98_at, v99_at, v180_at, v103_at, v104_at, v111_at, v112_at, v181_at, v116_at, v117_at, v124_at, v125_at, v182_at, v129_at, v130_at, v137_at, v138_at, v183_at, v142_at, v143_at, v150_at, v151_at, v184_at, v155_at, v156_at, v163_at, v164_at, v185_at, v168_at, v169_at, v176_at, v186_at]

/-- The cotangent of the first half, groups 6 to 7 added. -/
theorem v215_at (i : Fin 128) (c : Fin 1024) : v215 I (ix2 i c) = if 768 ≤ c.val then du0 I.arg i c else 0 := by
  unfold v215; unfold_payloads; pointwise; simp only [v77_at, v78_at, v85_at, v86_at, v179_at, v90_at, v91_at, v98_at, v99_at, v180_at, v103_at, v104_at, v111_at, v112_at, v181_at, v116_at, v117_at, v124_at, v125_at, v182_at, v129_at, v130_at, v137_at, v138_at, v183_at, v142_at, v143_at, v150_at, v151_at, v184_at, v155_at, v156_at, v163_at, v164_at, v185_at, v168_at, v169_at, v176_at, v186_at, v187_at, v277_at, v379_at, v413_at, v330_at, v329_at, v427_at, v226_at, v328_at, v426_at, du_lit, dite_true, eq_self]; split_ifs <;> (try (generalize_proofs; split_ifs)) <;> first | omega | (simp only [zero_add, add_zero]; done) | (simp only [zero_add, add_zero]; congr 1; apply Fin.ext; simp only [col]; omega) | (congr 1; apply Fin.ext; simp only [col]; omega)

/-- The cotangent of the first half, groups 5 to 7 added. -/
theorem v249_at (i : Fin 128) (c : Fin 1024) : v249 I (ix2 i c) = if 640 ≤ c.val then du0 I.arg i c else 0 := by
  unfold v249; unfold_payloads; pointwise; simp only [v215_at, v77_at, v78_at, v85_at, v86_at, v179_at, v90_at, v91_at, v98_at, v99_at, v180_at, v103_at, v104_at, v111_at, v112_at, v181_at, v116_at, v117_at, v124_at, v125_at, v182_at, v129_at, v130_at, v137_at, v138_at, v183_at, v142_at, v143_at, v150_at, v151_at, v184_at, v155_at, v156_at, v163_at, v164_at, v185_at, v168_at, v169_at, v176_at, v186_at, v187_at, v277_at, v379_at, v413_at, v330_at, v329_at, v427_at, v226_at, v328_at, v426_at, du_lit, dite_true, eq_self]; split_ifs <;> (try (generalize_proofs; split_ifs)) <;> first | omega | (simp only [zero_add, add_zero]; done) | (simp only [zero_add, add_zero]; congr 1; apply Fin.ext; simp only [col]; omega) | (congr 1; apply Fin.ext; simp only [col]; omega)

/-- The cotangent of the first half, group 4 alone. -/
theorem v282_at (i : Fin 128) (c : Fin 1024) : v282 I (ix2 i c) = if 512 ≤ c.val ∧ c.val < 640 then du0 I.arg i c else 0 := by
  unfold v282; unfold_payloads; pointwise; simp only [v77_at, v78_at, v85_at, v86_at, v179_at, v90_at, v91_at, v98_at, v99_at, v180_at, v103_at, v104_at, v111_at, v112_at, v181_at, v116_at, v117_at, v124_at, v125_at, v182_at, v129_at, v130_at, v137_at, v138_at, v183_at, v142_at, v143_at, v150_at, v151_at, v184_at, v155_at, v156_at, v163_at, v164_at, v185_at, v168_at, v169_at, v176_at, v186_at, v187_at, v277_at, v379_at, v413_at, v330_at, v329_at, v427_at, v226_at, v328_at, v426_at, du_lit, dite_true, eq_self]; split_ifs <;> (try (generalize_proofs; split_ifs)) <;> first | omega | (simp only [zero_add, add_zero]; done) | (simp only [zero_add, add_zero]; congr 1; apply Fin.ext; simp only [col]; omega) | (congr 1; apply Fin.ext; simp only [col]; omega)

/-- The cotangent of the first half, groups 3 to 7 added. -/
theorem v317_at (i : Fin 128) (c : Fin 1024) : v317 I (ix2 i c) = if 384 ≤ c.val then du0 I.arg i c else 0 := by
  unfold v317; unfold_payloads; pointwise; simp only [v249_at, v282_at, v77_at, v78_at, v85_at, v86_at, v179_at, v90_at, v91_at, v98_at, v99_at, v180_at, v103_at, v104_at, v111_at, v112_at, v181_at, v116_at, v117_at, v124_at, v125_at, v182_at, v129_at, v130_at, v137_at, v138_at, v183_at, v142_at, v143_at, v150_at, v151_at, v184_at, v155_at, v156_at, v163_at, v164_at, v185_at, v168_at, v169_at, v176_at, v186_at, v187_at, v277_at, v379_at, v413_at, v330_at, v329_at, v427_at, v226_at, v328_at, v426_at, du_lit, dite_true, eq_self]; split_ifs <;> (try (generalize_proofs; split_ifs)) <;> first | omega | (simp only [zero_add, add_zero]; done) | (simp only [zero_add, add_zero]; congr 1; apply Fin.ext; simp only [col]; omega) | (congr 1; apply Fin.ext; simp only [col]; omega)

/-- The cotangent of the first half, groups 2 to 7 added. -/
theorem v351_at (i : Fin 128) (c : Fin 1024) : v351 I (ix2 i c) = if 256 ≤ c.val then du0 I.arg i c else 0 := by
  unfold v351; unfold_payloads; pointwise; simp only [v317_at, v77_at, v78_at, v85_at, v86_at, v179_at, v90_at, v91_at, v98_at, v99_at, v180_at, v103_at, v104_at, v111_at, v112_at, v181_at, v116_at, v117_at, v124_at, v125_at, v182_at, v129_at, v130_at, v137_at, v138_at, v183_at, v142_at, v143_at, v150_at, v151_at, v184_at, v155_at, v156_at, v163_at, v164_at, v185_at, v168_at, v169_at, v176_at, v186_at, v187_at, v277_at, v379_at, v413_at, v330_at, v329_at, v427_at, v226_at, v328_at, v426_at, du_lit, dite_true, eq_self]; split_ifs <;> (try (generalize_proofs; split_ifs)) <;> first | omega | (simp only [zero_add, add_zero]; done) | (simp only [zero_add, add_zero]; congr 1; apply Fin.ext; simp only [col]; omega) | (congr 1; apply Fin.ext; simp only [col]; omega)

/-- The cotangent of the first half, all groups added. -/
theorem v417_at (i : Fin 128) (c : Fin 1024) : v417 I (ix2 i c) = du0 I.arg i c := by
  unfold v417; unfold_payloads; pointwise; simp only [v351_at, v77_at, v78_at, v85_at, v86_at, v179_at, v90_at, v91_at, v98_at, v99_at, v180_at, v103_at, v104_at, v111_at, v112_at, v181_at, v116_at, v117_at, v124_at, v125_at, v182_at, v129_at, v130_at, v137_at, v138_at, v183_at, v142_at, v143_at, v150_at, v151_at, v184_at, v155_at, v156_at, v163_at, v164_at, v185_at, v168_at, v169_at, v176_at, v186_at, v187_at, v277_at, v379_at, v413_at, v330_at, v329_at, v427_at, v226_at, v328_at, v426_at, du_lit, dite_true, eq_self]; split_ifs <;> (try (generalize_proofs; split_ifs)) <;> first | omega | (simp only [zero_add, add_zero]; done) | (simp only [zero_add, add_zero]; congr 1; apply Fin.ext; simp only [col]; omega) | (congr 1; apply Fin.ext; simp only [col]; omega)

/-- The cotangent of the layer norm's rows, groups 7 to 7 added. -/
theorem v203_at (i : Fin 128) (c : Fin 1024) : v203 I (ix2 i c) = if 896 ≤ c.val then dn I.arg i c else 0 := by
  unfold v203; unfold_payloads; pointwise; simp only [v77_at, v78_at, v85_at, v86_at, v179_at, v90_at, v91_at, v98_at, v99_at, v180_at, v103_at, v104_at, v111_at, v112_at, v181_at, v116_at, v117_at, v124_at, v125_at, v182_at, v129_at, v130_at, v137_at, v138_at, v183_at, v142_at, v143_at, v150_at, v151_at, v184_at, v155_at, v156_at, v163_at, v164_at, v185_at, v168_at, v169_at, v176_at, v186_at, v187_at, v277_at, v379_at, v413_at, v330_at, v329_at, v427_at, v226_at, v328_at, v426_at, dn_lit, dite_true, eq_self]; split_ifs <;> (try (generalize_proofs; split_ifs)) <;> first | omega | (simp only [zero_add, add_zero]; done) | (simp only [zero_add, add_zero]; congr 1; apply Fin.ext; simp only [col]; omega) | (congr 1; apply Fin.ext; simp only [col]; omega)

/-- The cotangent of the layer norm's rows, group 6 alone. -/
theorem v233_at (i : Fin 128) (c : Fin 1024) : v233 I (ix2 i c) = if 768 ≤ c.val ∧ c.val < 896 then dn I.arg i c else 0 := by
  unfold v233; unfold_payloads; pointwise; simp only [v77_at, v78_at, v85_at, v86_at, v179_at, v90_at, v91_at, v98_at, v99_at, v180_at, v103_at, v104_at, v111_at, v112_at, v181_at, v116_at, v117_at, v124_at, v125_at, v182_at, v129_at, v130_at, v137_at, v138_at, v183_at, v142_at, v143_at, v150_at, v151_at, v184_at, v155_at, v156_at, v163_at, v164_at, v185_at, v168_at, v169_at, v176_at, v186_at, v187_at, v277_at, v379_at, v413_at, v330_at, v329_at, v427_at, v226_at, v328_at, v426_at, dn_lit, dite_true, eq_self]; split_ifs <;> (try (generalize_proofs; split_ifs)) <;> first | omega | (simp only [zero_add, add_zero]; done) | (simp only [zero_add, add_zero]; congr 1; apply Fin.ext; simp only [col]; omega) | (congr 1; apply Fin.ext; simp only [col]; omega)

/-- The cotangent of the layer norm's rows, groups 5 to 7 added. -/
theorem v268_at (i : Fin 128) (c : Fin 1024) : v268 I (ix2 i c) = if 640 ≤ c.val then dn I.arg i c else 0 := by
  unfold v268; unfold_payloads; pointwise; simp only [v203_at, v233_at, v77_at, v78_at, v85_at, v86_at, v179_at, v90_at, v91_at, v98_at, v99_at, v180_at, v103_at, v104_at, v111_at, v112_at, v181_at, v116_at, v117_at, v124_at, v125_at, v182_at, v129_at, v130_at, v137_at, v138_at, v183_at, v142_at, v143_at, v150_at, v151_at, v184_at, v155_at, v156_at, v163_at, v164_at, v185_at, v168_at, v169_at, v176_at, v186_at, v187_at, v277_at, v379_at, v413_at, v330_at, v329_at, v427_at, v226_at, v328_at, v426_at, dn_lit, dite_true, eq_self]; split_ifs <;> (try (generalize_proofs; split_ifs)) <;> first | omega | (simp only [zero_add, add_zero]; done) | (simp only [zero_add, add_zero]; congr 1; apply Fin.ext; simp only [col]; omega) | (congr 1; apply Fin.ext; simp only [col]; omega)

/-- The cotangent of the layer norm's rows, groups 4 to 7 added. -/
theorem v302_at (i : Fin 128) (c : Fin 1024) : v302 I (ix2 i c) = if 512 ≤ c.val then dn I.arg i c else 0 := by
  unfold v302; unfold_payloads; pointwise; simp only [v268_at, v77_at, v78_at, v85_at, v86_at, v179_at, v90_at, v91_at, v98_at, v99_at, v180_at, v103_at, v104_at, v111_at, v112_at, v181_at, v116_at, v117_at, v124_at, v125_at, v182_at, v129_at, v130_at, v137_at, v138_at, v183_at, v142_at, v143_at, v150_at, v151_at, v184_at, v155_at, v156_at, v163_at, v164_at, v185_at, v168_at, v169_at, v176_at, v186_at, v187_at, v277_at, v379_at, v413_at, v330_at, v329_at, v427_at, v226_at, v328_at, v426_at, dn_lit, dite_true, eq_self]; split_ifs <;> (try (generalize_proofs; split_ifs)) <;> first | omega | (simp only [zero_add, add_zero]; done) | (simp only [zero_add, add_zero]; congr 1; apply Fin.ext; simp only [col]; omega) | (congr 1; apply Fin.ext; simp only [col]; omega)

/-- The cotangent of the layer norm's rows, groups 2 to 7 added. -/
theorem v370_at (i : Fin 128) (c : Fin 1024) : v370 I (ix2 i c) = if 256 ≤ c.val then dn I.arg i c else 0 := by
  unfold v370; unfold_payloads; pointwise; simp only [v302_at, v77_at, v78_at, v85_at, v86_at, v179_at, v90_at, v91_at, v98_at, v99_at, v180_at, v103_at, v104_at, v111_at, v112_at, v181_at, v116_at, v117_at, v124_at, v125_at, v182_at, v129_at, v130_at, v137_at, v138_at, v183_at, v142_at, v143_at, v150_at, v151_at, v184_at, v155_at, v156_at, v163_at, v164_at, v185_at, v168_at, v169_at, v176_at, v186_at, v187_at, v277_at, v379_at, v413_at, v330_at, v329_at, v427_at, v226_at, v328_at, v426_at, dn_lit, dite_true, eq_self]; split_ifs <;> (try (generalize_proofs; split_ifs)) <;> first | omega | (simp only [zero_add, add_zero]; done) | (simp only [zero_add, add_zero]; congr 1; apply Fin.ext; simp only [col]; omega) | (congr 1; apply Fin.ext; simp only [col]; omega)

/-- The cotangent of the layer norm's rows, groups 1 to 7 added. -/
theorem v404_at (i : Fin 128) (c : Fin 1024) : v404 I (ix2 i c) = if 128 ≤ c.val then dn I.arg i c else 0 := by
  unfold v404; unfold_payloads; pointwise; simp only [v370_at, v77_at, v78_at, v85_at, v86_at, v179_at, v90_at, v91_at, v98_at, v99_at, v180_at, v103_at, v104_at, v111_at, v112_at, v181_at, v116_at, v117_at, v124_at, v125_at, v182_at, v129_at, v130_at, v137_at, v138_at, v183_at, v142_at, v143_at, v150_at, v151_at, v184_at, v155_at, v156_at, v163_at, v164_at, v185_at, v168_at, v169_at, v176_at, v186_at, v187_at, v277_at, v379_at, v413_at, v330_at, v329_at, v427_at, v226_at, v328_at, v426_at, dn_lit, dite_true, eq_self]; split_ifs <;> (try (generalize_proofs; split_ifs)) <;> first | omega | (simp only [zero_add, add_zero]; done) | (simp only [zero_add, add_zero]; congr 1; apply Fin.ext; simp only [col]; omega) | (congr 1; apply Fin.ext; simp only [col]; omega)

/-- The mixing matrices' gradient, groups 7 to 7 added. -/
theorem v208_at (g : Fin 8) (i j : Fin 128) : v208 I (ix3 g i j) = if 7 ≤ g.val then dW I.arg g i j else 0 := by
  unfold v208; unfold_payloads; pointwise; simp only [v77_at, v78_at, v85_at, v86_at, v179_at, v90_at, v91_at, v98_at, v99_at, v180_at, v103_at, v104_at, v111_at, v112_at, v181_at, v116_at, v117_at, v124_at, v125_at, v182_at, v129_at, v130_at, v137_at, v138_at, v183_at, v142_at, v143_at, v150_at, v151_at, v184_at, v155_at, v156_at, v163_at, v164_at, v185_at, v168_at, v169_at, v176_at, v186_at, v187_at, v277_at, v379_at, v413_at, v330_at, v329_at, v427_at, v226_at, v328_at, v426_at, v73_sel, dW_lit, dite_true, eq_self]; split_ifs <;> (try (generalize_proofs; split_ifs)) <;> first | omega | (simp only [zero_add, add_zero]; done) | (simp only [zero_add, add_zero]; congr 1; apply Fin.ext; simp; omega) | (congr 1; apply Fin.ext; simp; omega)

/-- The mixing matrices' gradient, groups 5 to 7 added. -/
theorem v276_at (g : Fin 8) (i j : Fin 128) : v276 I (ix3 g i j) = if 5 ≤ g.val then dW I.arg g i j else 0 := by
  unfold v276; unfold_payloads; pointwise; simp only [v208_at, v77_at, v78_at, v85_at, v86_at, v179_at, v90_at, v91_at, v98_at, v99_at, v180_at, v103_at, v104_at, v111_at, v112_at, v181_at, v116_at, v117_at, v124_at, v125_at, v182_at, v129_at, v130_at, v137_at, v138_at, v183_at, v142_at, v143_at, v150_at, v151_at, v184_at, v155_at, v156_at, v163_at, v164_at, v185_at, v168_at, v169_at, v176_at, v186_at, v187_at, v277_at, v379_at, v413_at, v330_at, v329_at, v427_at, v226_at, v328_at, v426_at, v73_sel, dW_lit, dite_true, eq_self]; split_ifs <;> (try (generalize_proofs; split_ifs)) <;> first | omega | (simp only [zero_add, add_zero]; done) | (simp only [zero_add, add_zero]; congr 1; apply Fin.ext; simp; omega) | (congr 1; apply Fin.ext; simp; omega)

/-- The mixing matrices' gradient, groups 4 to 7 added. -/
theorem v310_at (g : Fin 8) (i j : Fin 128) : v310 I (ix3 g i j) = if 4 ≤ g.val then dW I.arg g i j else 0 := by
  unfold v310; unfold_payloads; pointwise; simp only [v276_at, v77_at, v78_at, v85_at, v86_at, v179_at, v90_at, v91_at, v98_at, v99_at, v180_at, v103_at, v104_at, v111_at, v112_at, v181_at, v116_at, v117_at, v124_at, v125_at, v182_at, v129_at, v130_at, v137_at, v138_at, v183_at, v142_at, v143_at, v150_at, v151_at, v184_at, v155_at, v156_at, v163_at, v164_at, v185_at, v168_at, v169_at, v176_at, v186_at, v187_at, v277_at, v379_at, v413_at, v330_at, v329_at, v427_at, v226_at, v328_at, v426_at, v73_sel, dW_lit, dite_true, eq_self]; split_ifs <;> (try (generalize_proofs; split_ifs)) <;> first | omega | (simp only [zero_add, add_zero]; done) | (simp only [zero_add, add_zero]; congr 1; apply Fin.ext; simp; omega) | (congr 1; apply Fin.ext; simp; omega)

/-- The mixing matrices' gradient, groups 2 to 7 added. -/
theorem v378_at (g : Fin 8) (i j : Fin 128) : v378 I (ix3 g i j) = if 2 ≤ g.val then dW I.arg g i j else 0 := by
  unfold v378; unfold_payloads; pointwise; simp only [v310_at, v77_at, v78_at, v85_at, v86_at, v179_at, v90_at, v91_at, v98_at, v99_at, v180_at, v103_at, v104_at, v111_at, v112_at, v181_at, v116_at, v117_at, v124_at, v125_at, v182_at, v129_at, v130_at, v137_at, v138_at, v183_at, v142_at, v143_at, v150_at, v151_at, v184_at, v155_at, v156_at, v163_at, v164_at, v185_at, v168_at, v169_at, v176_at, v186_at, v187_at, v277_at, v379_at, v413_at, v330_at, v329_at, v427_at, v226_at, v328_at, v426_at, v73_sel, dW_lit, dite_true, eq_self]; split_ifs <;> (try (generalize_proofs; split_ifs)) <;> first | omega | (simp only [zero_add, add_zero]; done) | (simp only [zero_add, add_zero]; congr 1; apply Fin.ext; simp; omega) | (congr 1; apply Fin.ext; simp; omega)

/-- The mixing matrices' gradient, groups 1 to 7 added. -/
theorem v412_at (g : Fin 8) (i j : Fin 128) : v412 I (ix3 g i j) = if 1 ≤ g.val then dW I.arg g i j else 0 := by
  unfold v412; unfold_payloads; pointwise; simp only [v378_at, v77_at, v78_at, v85_at, v86_at, v179_at, v90_at, v91_at, v98_at, v99_at, v180_at, v103_at, v104_at, v111_at, v112_at, v181_at, v116_at, v117_at, v124_at, v125_at, v182_at, v129_at, v130_at, v137_at, v138_at, v183_at, v142_at, v143_at, v150_at, v151_at, v184_at, v155_at, v156_at, v163_at, v164_at, v185_at, v168_at, v169_at, v176_at, v186_at, v187_at, v277_at, v379_at, v413_at, v330_at, v329_at, v427_at, v226_at, v328_at, v426_at, v73_sel, dW_lit, dite_true, eq_self]; split_ifs <;> (try (generalize_proofs; split_ifs)) <;> first | omega | (simp only [zero_add, add_zero]; done) | (simp only [zero_add, add_zero]; congr 1; apply Fin.ext; simp; omega) | (congr 1; apply Fin.ext; simp; omega)

/-- The mixing matrices' gradient, all groups added. -/
theorem v438_at (g : Fin 8) (i j : Fin 128) : v438 I (ix3 g i j) = dW I.arg g i j := by
  unfold v438; unfold_payloads; pointwise; simp only [v412_at, v77_at, v78_at, v85_at, v86_at, v179_at, v90_at, v91_at, v98_at, v99_at, v180_at, v103_at, v104_at, v111_at, v112_at, v181_at, v116_at, v117_at, v124_at, v125_at, v182_at, v129_at, v130_at, v137_at, v138_at, v183_at, v142_at, v143_at, v150_at, v151_at, v184_at, v155_at, v156_at, v163_at, v164_at, v185_at, v168_at, v169_at, v176_at, v186_at, v187_at, v277_at, v379_at, v413_at, v330_at, v329_at, v427_at, v226_at, v328_at, v426_at, v73_sel, dW_lit, dite_true, eq_self]; split_ifs <;> (try (generalize_proofs; split_ifs)) <;> first | omega | (simp only [zero_add, add_zero]; done) | (simp only [zero_add, add_zero]; congr 1; apply Fin.ext; simp; omega) | (congr 1; apply Fin.ext; simp; omega)

/-- The biases' gradient, groups 6 to 7 added. -/
theorem v223_at (g : Fin 8) (i : Fin 128) : v223 I (ix3 g i 0) = if 6 ≤ g.val then dBs I.arg g i else 0 := by
  unfold v223; unfold_payloads; pointwise; simp only [v77_at, v78_at, v85_at, v86_at, v179_at, v90_at, v91_at, v98_at, v99_at, v180_at, v103_at, v104_at, v111_at, v112_at, v181_at, v116_at, v117_at, v124_at, v125_at, v182_at, v129_at, v130_at, v137_at, v138_at, v183_at, v142_at, v143_at, v150_at, v151_at, v184_at, v155_at, v156_at, v163_at, v164_at, v185_at, v168_at, v169_at, v176_at, v186_at, v187_at, v277_at, v379_at, v413_at, v330_at, v329_at, v427_at, v226_at, v328_at, v426_at, dBs_lit, dite_true, eq_self]; split_ifs <;> (try (generalize_proofs; split_ifs)) <;> first | omega | (simp only [zero_add, add_zero]; done) | (simp only [zero_add, add_zero]; congr 1; apply Fin.ext; simp; omega) | (congr 1; apply Fin.ext; simp; omega)

/-- The biases' gradient, groups 5 to 7 added. -/
theorem v257_at (g : Fin 8) (i : Fin 128) : v257 I (ix3 g i 0) = if 5 ≤ g.val then dBs I.arg g i else 0 := by
  unfold v257; unfold_payloads; pointwise; simp only [v223_at, v77_at, v78_at, v85_at, v86_at, v179_at, v90_at, v91_at, v98_at, v99_at, v180_at, v103_at, v104_at, v111_at, v112_at, v181_at, v116_at, v117_at, v124_at, v125_at, v182_at, v129_at, v130_at, v137_at, v138_at, v183_at, v142_at, v143_at, v150_at, v151_at, v184_at, v155_at, v156_at, v163_at, v164_at, v185_at, v168_at, v169_at, v176_at, v186_at, v187_at, v277_at, v379_at, v413_at, v330_at, v329_at, v427_at, v226_at, v328_at, v426_at, dBs_lit, dite_true, eq_self]; split_ifs <;> (try (generalize_proofs; split_ifs)) <;> first | omega | (simp only [zero_add, add_zero]; done) | (simp only [zero_add, add_zero]; congr 1; apply Fin.ext; simp; omega) | (congr 1; apply Fin.ext; simp; omega)

/-- The biases' gradient, groups 3 to 7 added. -/
theorem v325_at (g : Fin 8) (i : Fin 128) : v325 I (ix3 g i 0) = if 3 ≤ g.val then dBs I.arg g i else 0 := by
  unfold v325; unfold_payloads; pointwise; simp only [v257_at, v77_at, v78_at, v85_at, v86_at, v179_at, v90_at, v91_at, v98_at, v99_at, v180_at, v103_at, v104_at, v111_at, v112_at, v181_at, v116_at, v117_at, v124_at, v125_at, v182_at, v129_at, v130_at, v137_at, v138_at, v183_at, v142_at, v143_at, v150_at, v151_at, v184_at, v155_at, v156_at, v163_at, v164_at, v185_at, v168_at, v169_at, v176_at, v186_at, v187_at, v277_at, v379_at, v413_at, v330_at, v329_at, v427_at, v226_at, v328_at, v426_at, dBs_lit, dite_true, eq_self]; split_ifs <;> (try (generalize_proofs; split_ifs)) <;> first | omega | (simp only [zero_add, add_zero]; done) | (simp only [zero_add, add_zero]; congr 1; apply Fin.ext; simp; omega) | (congr 1; apply Fin.ext; simp; omega)

/-- The biases' gradient, groups 2 to 7 added. -/
theorem v359_at (g : Fin 8) (i : Fin 128) : v359 I (ix3 g i 0) = if 2 ≤ g.val then dBs I.arg g i else 0 := by
  unfold v359; unfold_payloads; pointwise; simp only [v325_at, v77_at, v78_at, v85_at, v86_at, v179_at, v90_at, v91_at, v98_at, v99_at, v180_at, v103_at, v104_at, v111_at, v112_at, v181_at, v116_at, v117_at, v124_at, v125_at, v182_at, v129_at, v130_at, v137_at, v138_at, v183_at, v142_at, v143_at, v150_at, v151_at, v184_at, v155_at, v156_at, v163_at, v164_at, v185_at, v168_at, v169_at, v176_at, v186_at, v187_at, v277_at, v379_at, v413_at, v330_at, v329_at, v427_at, v226_at, v328_at, v426_at, dBs_lit, dite_true, eq_self]; split_ifs <;> (try (generalize_proofs; split_ifs)) <;> first | omega | (simp only [zero_add, add_zero]; done) | (simp only [zero_add, add_zero]; congr 1; apply Fin.ext; simp; omega) | (congr 1; apply Fin.ext; simp; omega)

/-- The biases' gradient, all groups added. -/
theorem v423_at (g : Fin 8) (i : Fin 128) : v423 I (ix3 g i 0) = dBs I.arg g i := by
  unfold v423; unfold_payloads; pointwise; simp only [v359_at, v77_at, v78_at, v85_at, v86_at, v179_at, v90_at, v91_at, v98_at, v99_at, v180_at, v103_at, v104_at, v111_at, v112_at, v181_at, v116_at, v117_at, v124_at, v125_at, v182_at, v129_at, v130_at, v137_at, v138_at, v183_at, v142_at, v143_at, v150_at, v151_at, v184_at, v155_at, v156_at, v163_at, v164_at, v185_at, v168_at, v169_at, v176_at, v186_at, v187_at, v277_at, v379_at, v413_at, v330_at, v329_at, v427_at, v226_at, v328_at, v426_at, dBs_lit, dite_true, eq_self]; split_ifs <;> (try (generalize_proofs; split_ifs)) <;> first | omega | (simp only [zero_add, add_zero]; done) | (simp only [zero_add, add_zero]; congr 1; apply Fin.ext; simp; omega) | (congr 1; apply Fin.ext; simp; omega)

end Cert.KernelIdeal.Chunk

end
-- ==== Proof.ChunkOut.lean ====
/-
  What the kernel's body stores at one chunk, read at an index: the two halves' gradients, and what is added to each of the
  four accumulators.
-/
module

public import proofs.«01_k».proof.Proof.ChunkSum

@[expose] public section

noncomputable section

namespace Cert.KernelIdeal.Chunk

open Cert.KernelIdeal Idealize.ShloMosaic Cert.Gmlp

variable (I : In)

/-- The cotangent of the layer norm's rows, all groups added. -/
theorem v432_at (i : Fin 128) (c : Fin 1024) : Gen.k0_pay108 (v404 I) (v413 I) (v427 I) (ix2 i c) = dn I.arg i c := by
  unfold Gen.k0_pay108; pointwise
  simp only [v404_at, v413_at, v427_at, dn_lit]
  split_ifs <;> (try (generalize_proofs; split_ifs)) <;> first
    | omega
    | (simp only [zero_add, add_zero]; done)
    | (simp only [zero_add, add_zero]; congr 1; apply Fin.ext; simp [col])

/-- What is added to the shift's gradient. -/
theorem v440_at (c : Fin 1024) : v440 I (ix2 0 c) = dB I.arg c := by
  unfold v440 Gen.k0_pay110; pointwise; simp only [v432_at]; rfl

/-- What is added to the scale's gradient. -/
theorem v443_at (c : Fin 1024) : v443 I (ix2 0 c) = dG I.arg c := by
  unfold v443 Gen.k0_pay111; pointwise; simp only [v432_at, v66_at]; rfl

/-- The cotangent of the normalised rows. -/
def dxh (A : Arg) (i : Fin 128) (c : Fin 1024) : EReal := dn A i c * A.g c

theorem v445_at (i : Fin 128) (c : Fin 1024) :
    Gen.k0_pay112 I.g (v404 I) (v413 I) (v427 I) (ix2 i c) = dxh I.arg i c := by
  unfold Gen.k0_pay112; pointwise; simp only [v432_at]; rfl

/-- The part of the rows' gradient through the normalised row. -/
theorem v450_at (i : Fin 128) (c : Fin 1024) :
    Gen.k0_pay113 I.g (v61 I) (v404 I) (v413 I) (v427 I) (ix2 i c) = dDir (gv I.arg i) (dxh I.arg i) c := by
  unfold Gen.k0_pay113; pointwise; simp only [v445_at, v61_at]; rfl

/-- The part of the rows' gradient through the variance. -/
theorem v461_at (i : Fin 128) (c : Fin 1024) :
    Gen.k0_pay114 I.g (v52 I) (v58 I) (v64 I) (v404 I) (v413 I) (v427 I) (ix2 i c)
      = dVar (gv I.arg i) (dxh I.arg i) c := by
  unfold Gen.k0_pay114; pointwise
  simp only [Fin.sum_univ_one, v445_at, v58_at, v52_at, v64_at]; rfl

theorem v466_at (i : Fin 128) (c : Fin 1024) :
    v466 I (ix2 i c) = dDir (gv I.arg i) (dxh I.arg i) c + dVar (gv I.arg i) (dxh I.arg i) c := by
  unfold v466 Gen.k0_pay115; pointwise; simp only [v450_at, v461_at]

/-- The part of the rows' gradient through the mean. -/
theorem v472_at (i : Fin 128) (c : Fin 1024) : v472 I (ix2 i c) = dMean (gv I.arg i) (dxh I.arg i) := by
  unfold v472 Gen.k0_pay116; pointwise
  simp only [Fin.sum_univ_one, v450_at, v461_at, zero_sub]; rfl

/-- What is stored of the first half's gradient. -/
theorem v508_at (i : Fin 128) (c : Fin 1024) :
    Gen.k0_pay117 I.u (v9 I) (v10 I) (v22 I) (v24 I) (v417 I) (ix2 i c) = dU I.arg i c := by
  unfold Gen.k0_pay117; pointwise; simp only [v9_at, v10_at, v22_at, v24_at, v417_at]; rfl

/-- What is stored of the second half's gradient. -/
theorem v510_at (i : Fin 128) (c : Fin 1024) :
    Gen.k0_pay118 I.v (v27 I) (v28 I) (v40 I) (v42 I) (v466 I) (v472 I) (ix2 i c) = dV I.arg i c := by
  unfold Gen.k0_pay118; pointwise; simp only [v27_at, v28_at, v40_at, v42_at, v466_at, v472_at]; rfl

/-- The scale's accumulator after a chunk. -/
theorem v446acc_at (old : FVec Ideal S1x1024 .f32) (c : Fin 1024) :
    Gen.k0_pay1 (v443 I) old (ix2 0 c) = old (ix2 0 c) + dG I.arg c := by
  unfold Gen.k0_pay1; pointwise; rw [v443_at]

/-- The shift's accumulator after a chunk. -/
theorem v440acc_at (old : FVec Ideal S1x1024 .f32) (c : Fin 1024) :
    Gen.k0_pay2 (v440 I) old (ix2 0 c) = old (ix2 0 c) + dB I.arg c := by
  unfold Gen.k0_pay2; pointwise; rw [v440_at]

/-- The mixing matrices' accumulator after a chunk. -/
theorem v438acc_at (old : FVec Ideal S8x128x128 .f32) (g : Fin 8) (i j : Fin 128) :
    Gen.k0_pay3 (v438 I) old (ix3 g i j) = old (ix3 g i j) + dW I.arg g i j := by
  unfold Gen.k0_pay3; pointwise; rw [v438_at]

/-- The biases' accumulator after a chunk. -/
theorem v423acc_at (old : FVec Ideal S8x128x1 .f32) (g : Fin 8) (i : Fin 128) :
    Gen.k0_pay4 (v423 I) old (ix3 g i 0) = old (ix3 g i 0) + dBs I.arg g i := by
  unfold Gen.k0_pay4; pointwise; rw [v423_at]

/-- The accumulators start at zero. -/
theorem zero_at :
    (∀ c, Gen.k0_pay119 (F := Ideal) (ix2 0 c) = 0) ∧ (∀ c, Gen.k0_pay120 (F := Ideal) (ix2 0 c) = 0)
      ∧ (∀ g i j, Gen.k0_pay121 (F := Ideal) (ix3 g i j) = 0) ∧ ∀ g i, Gen.k0_pay122 (F := Ideal) (ix3 g i 0) = 0 := by
  refine ⟨?_, ?_, ?_, ?_⟩ <;> intros <;> unfold_payloads <;> pointwise

end Cert.KernelIdeal.Chunk

end
-- ==== Proof.Outs.lean ====
/-
  What the body leaves in the five outputs' staging buffers at one chunk: each accumulator's old contents (zero at the
  first chunk) plus the chunk's part, and the two halves' gradients side by side.
-/
module

public import proofs.«01_k».proof.Proof.Gen.KernelIdeal.Frame
public import proofs.«01_k».proof.Proof.ChunkOut
public import Idealize.ShloMosaic.Lib.Tactic

@[expose] public section

noncomputable section

namespace Cert.KernelIdeal.Chunk

open Cert.KernelIdeal Cert.KernelIdeal.Gen Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

variable (I : In)

/-- The left half. -/
theorem dUV_left (A : Gmlp.Arg) (a : Fin 128) (b : Fin 1024) (h) :
    Gmlp.dUV A ((Rect.unit (s := S128x2048) ![0, 0] ![128, 1024] h).emb (ix2 a b) 0)
      ((Rect.unit (s := S128x2048) ![0, 0] ![128, 1024] h).emb (ix2 a b) 1) = Gmlp.dU A a b := by
  have e0 : (Rect.unit (s := S128x2048) ![0, 0] ![128, 1024] h).emb (ix2 a b) 0 = a :=
    Fin.ext (by show 0 + 1 * a.val = a.val; omega)
  have e1 : ((Rect.unit (s := S128x2048) ![0, 0] ![128, 1024] h).emb (ix2 a b) 1).val = b.val := by
    show 0 + 1 * b.val = b.val; omega
  unfold Gmlp.dUV
  rw [e0, dif_pos (by rw [e1]; omega)]
  congr 1; exact Fin.ext e1

/-- The right half. -/
theorem dUV_right (A : Gmlp.Arg) (a : Fin 128) (b : Fin 1024) (h) :
    Gmlp.dUV A ((Rect.unit (s := S128x2048) ![0, 1024] ![128, 1024] h).emb (ix2 a b) 0)
      ((Rect.unit (s := S128x2048) ![0, 1024] ![128, 1024] h).emb (ix2 a b) 1) = Gmlp.dV A a b := by
  have e0 : (Rect.unit (s := S128x2048) ![0, 1024] ![128, 1024] h).emb (ix2 a b) 0 = a :=
    Fin.ext (by show 0 + 1 * a.val = a.val; omega)
  have e1 : ((Rect.unit (s := S128x2048) ![0, 1024] ![128, 1024] h).emb (ix2 a b) 1).val = 1024 + b.val := by
    show 1024 + 1 * b.val = 1024 + b.val; omega
  unfold Gmlp.dUV
  rw [e0, dif_neg (by rw [e1]; omega)]
  congr 1; exact Fin.ext (by show _ - 1024 = b.val; exact (congrArg (· - 1024) e1).trans (by simp))

/-- The two halves' gradients after the first chunk. -/
theorem outA7 (c : Dev nD) (i : grid0.Coords) (a1 : Memref sig .tc .vmem S128x1024 .f32) (h1 : a1.IsWhole) (a2 : Memref sig .tc .vmem S128x1024 .f32) (h2 : a2.IsWhole) (a3 : Memref sig .tc .vmem S128x1024 .f32) (h3 : a3.IsWhole) (a4 : Memref sig .tc .vmem S1x1024 .f32) (h4 : a4.IsWhole) (a5 : Memref sig .tc .vmem S1x1024 .f32) (h5 : a5.IsWhole) (a6 : Memref sig .tc .vmem S8x128x128 .f32) (h6 : a6.IsWhole) (a7 : Memref sig .tc .vmem S8x128x1 .f32) (h7 : a7.IsWhole) (a8 : Memref sig .tc .vmem S128x2048 .bf16) (h8 : a8.IsWhole) (a9 : Memref sig .tc .vmem S1x1024 .f32) (h9 : a9.IsWhole) (a10 : Memref sig .tc .vmem S1x1024 .f32) (h10 : a10.IsWhole) (a11 : Memref sig .tc .vmem S8x128x128 .f32) (h11 : a11.IsWhole) (a12 : Memref sig .tc .vmem S8x128x1 .f32) (h12 : a12.IsWhole) (hc : cond0_0 i) (y : S128x2048.Idx) :
    out0_A_7 c i a1 h1 a2 h2 a3 h3 a4 h4 a5 h5 a6 h6 a7 h7 a8 h8 a9 h9 a10 h10 a11 h11 a12 h12 hc I.u I.v I.d I.g I.b I.w I.bs y = Gmlp.dUV I.arg (y 0) (y 1) := by
  unfold out0_A_7
  rw [View.read_writes_eq_canon _ _ _ (cover0_A_7 c i a1 h1 a2 h2 a3 h3 a4 h4 a5 h5 a6 h6 a7 h7 a8 h8 a9 h9 a10 h10 a11 h11 a12 h12 hc I.u I.v I.d I.g I.b I.w I.bs)]
  refine View.canon_apply_of_pieces (fun y => Gmlp.dUV I.arg (y 0) (y 1)) _ ?_ y (cover0_A_7 c i a1 h1 a2 h2 a3 h3 a4 h4 a5 h5 a6 h6 a7 h7 a8 h8 a9 h9 a10 h10 a11 h11 a12 h12 hc I.u I.v I.d I.g I.b I.w I.bs y)
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S128x1024) hz2, View.ld_unit_zero (S := S1x1024) hz2, View.ld_unit_zero (S := S8x128x128) hz3, View.ld_unit_zero (S := S8x128x1) hz3, shapeCast_self]
  intro p hp x
  rcases List.mem_cons.1 hp with rfl | hp
  · obtain ⟨a, b, rfl⟩ : ∃ (a : Fin 128) (b : Fin 1024), x = ix2 a b := ⟨x 0, x 1, funext fun d => by fin_cases d <;> rfl⟩
    exact (v510_at I a b).trans (dUV_right I.arg a b inb_S128x2048_S128x1024_0_1024).symm
  · obtain rfl := List.mem_singleton.1 hp
    obtain ⟨a, b, rfl⟩ : ∃ (a : Fin 128) (b : Fin 1024), x = ix2 a b := ⟨x 0, x 1, funext fun d => by fin_cases d <;> rfl⟩
    exact (v508_at I a b).trans (dUV_left I.arg a b inb_S128x2048_S128x1024_0_0).symm

/-- The two halves' gradients after a chunk that is not the first. -/
theorem outB7 (c : Dev nD) (i : grid0.Coords) (a1 : Memref sig .tc .vmem S128x1024 .f32) (h1 : a1.IsWhole) (a2 : Memref sig .tc .vmem S128x1024 .f32) (h2 : a2.IsWhole) (a3 : Memref sig .tc .vmem S128x1024 .f32) (h3 : a3.IsWhole) (a4 : Memref sig .tc .vmem S1x1024 .f32) (h4 : a4.IsWhole) (a5 : Memref sig .tc .vmem S1x1024 .f32) (h5 : a5.IsWhole) (a6 : Memref sig .tc .vmem S8x128x128 .f32) (h6 : a6.IsWhole) (a7 : Memref sig .tc .vmem S8x128x1 .f32) (h7 : a7.IsWhole) (a8 : Memref sig .tc .vmem S128x2048 .bf16) (h8 : a8.IsWhole) (a9 : Memref sig .tc .vmem S1x1024 .f32) (h9 : a9.IsWhole) (a10 : Memref sig .tc .vmem S1x1024 .f32) (h10 : a10.IsWhole) (a11 : Memref sig .tc .vmem S8x128x128 .f32) (h11 : a11.IsWhole) (a12 : Memref sig .tc .vmem S8x128x1 .f32) (h12 : a12.IsWhole) (hc : ¬cond0_0 i) (o8 o9 : Vec Ideal S1x1024 .f32) (o10 : Vec Ideal S8x128x128 .f32) (o11 : Vec Ideal S8x128x1 .f32) (y : S128x2048.Idx) :
    out0_B_7 c i a1 h1 a2 h2 a3 h3 a4 h4 a5 h5 a6 h6 a7 h7 a8 h8 a9 h9 a10 h10 a11 h11 a12 h12 hc I.u I.v I.d I.g I.b I.w I.bs o8 o9 o10 o11 y = Gmlp.dUV I.arg (y 0) (y 1) := by
  unfold out0_B_7
  rw [View.read_writes_eq_canon _ _ _ (cover0_B_7 c i a1 h1 a2 h2 a3 h3 a4 h4 a5 h5 a6 h6 a7 h7 a8 h8 a9 h9 a10 h10 a11 h11 a12 h12 hc I.u I.v I.d I.g I.b I.w I.bs o8 o9 o10 o11)]
  refine View.canon_apply_of_pieces (fun y => Gmlp.dUV I.arg (y 0) (y 1)) _ ?_ y (cover0_B_7 c i a1 h1 a2 h2 a3 h3 a4 h4 a5 h5 a6 h6 a7 h7 a8 h8 a9 h9 a10 h10 a11 h11 a12 h12 hc I.u I.v I.d I.g I.b I.w I.bs o8 o9 o10 o11 y)
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S128x1024) hz2, View.ld_unit_zero (S := S1x1024) hz2, View.ld_unit_zero (S := S8x128x128) hz3, View.ld_unit_zero (S := S8x128x1) hz3, shapeCast_self]
  intro p hp x
  rcases List.mem_cons.1 hp with rfl | hp
  · obtain ⟨a, b, rfl⟩ : ∃ (a : Fin 128) (b : Fin 1024), x = ix2 a b := ⟨x 0, x 1, funext fun d => by fin_cases d <;> rfl⟩
    exact (v510_at I a b).trans (dUV_right I.arg a b inb_S128x2048_S128x1024_0_1024).symm
  · obtain rfl := List.mem_singleton.1 hp
    obtain ⟨a, b, rfl⟩ : ∃ (a : Fin 128) (b : Fin 1024), x = ix2 a b := ⟨x 0, x 1, funext fun d => by fin_cases d <;> rfl⟩
    exact (v508_at I a b).trans (dUV_left I.arg a b inb_S128x2048_S128x1024_0_0).symm

/-- The scale's gradient after the first chunk. -/
theorem outA8 (c : Dev nD) (i : grid0.Coords) (a1 : Memref sig .tc .vmem S128x1024 .f32) (h1 : a1.IsWhole) (a2 : Memref sig .tc .vmem S128x1024 .f32) (h2 : a2.IsWhole) (a3 : Memref sig .tc .vmem S128x1024 .f32) (h3 : a3.IsWhole) (a4 : Memref sig .tc .vmem S1x1024 .f32) (h4 : a4.IsWhole) (a5 : Memref sig .tc .vmem S1x1024 .f32) (h5 : a5.IsWhole) (a6 : Memref sig .tc .vmem S8x128x128 .f32) (h6 : a6.IsWhole) (a7 : Memref sig .tc .vmem S8x128x1 .f32) (h7 : a7.IsWhole) (a8 : Memref sig .tc .vmem S128x2048 .bf16) (h8 : a8.IsWhole) (a9 : Memref sig .tc .vmem S1x1024 .f32) (h9 : a9.IsWhole) (a10 : Memref sig .tc .vmem S1x1024 .f32) (h10 : a10.IsWhole) (a11 : Memref sig .tc .vmem S8x128x128 .f32) (h11 : a11.IsWhole) (a12 : Memref sig .tc .vmem S8x128x1 .f32) (h12 : a12.IsWhole) (hc : cond0_0 i) :
    out0_A_8 c i a1 h1 a2 h2 a3 h3 a4 h4 a5 h5 a6 h6 a7 h7 a8 h8 a9 h9 a10 h10 a11 h11 a12 h12 hc I.u I.v I.d I.g I.b I.w I.bs = k0_pay1 (v443 I) (k0_pay119 (F := Ideal)) := by
  unfold out0_A_8
  rw [View.read_writes_eq_canon _ _ _ (cover0_A_8 c i a1 h1 a2 h2 a3 h3 a4 h4 a5 h5 a6 h6 a7 h7 a8 h8 a9 h9 a10 h10 a11 h11 a12 h12 hc I.u I.v I.d I.g I.b I.w I.bs)]
  unfold kernelRun0_A
  dsimp only
  sl_unfold_words
  rw [View.canon_cons_unit_zero (S := S1x1024) hz2, View.readCov_unit_zero (S := S1x1024) _ hz2]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S128x1024) hz2, View.ld_unit_zero (S := S1x1024) hz2, View.ld_unit_zero (S := S8x128x128) hz3, View.ld_unit_zero (S := S8x128x1) hz3, shapeCast_self]
  rfl

/-- The shift's gradient after the first chunk. -/
theorem outA9 (c : Dev nD) (i : grid0.Coords) (a1 : Memref sig .tc .vmem S128x1024 .f32) (h1 : a1.IsWhole) (a2 : Memref sig .tc .vmem S128x1024 .f32) (h2 : a2.IsWhole) (a3 : Memref sig .tc .vmem S128x1024 .f32) (h3 : a3.IsWhole) (a4 : Memref sig .tc .vmem S1x1024 .f32) (h4 : a4.IsWhole) (a5 : Memref sig .tc .vmem S1x1024 .f32) (h5 : a5.IsWhole) (a6 : Memref sig .tc .vmem S8x128x128 .f32) (h6 : a6.IsWhole) (a7 : Memref sig .tc .vmem S8x128x1 .f32) (h7 : a7.IsWhole) (a8 : Memref sig .tc .vmem S128x2048 .bf16) (h8 : a8.IsWhole) (a9 : Memref sig .tc .vmem S1x1024 .f32) (h9 : a9.IsWhole) (a10 : Memref sig .tc .vmem S1x1024 .f32) (h10 : a10.IsWhole) (a11 : Memref sig .tc .vmem S8x128x128 .f32) (h11 : a11.IsWhole) (a12 : Memref sig .tc .vmem S8x128x1 .f32) (h12 : a12.IsWhole) (hc : cond0_0 i) :
    out0_A_9 c i a1 h1 a2 h2 a3 h3 a4 h4 a5 h5 a6 h6 a7 h7 a8 h8 a9 h9 a10 h10 a11 h11 a12 h12 hc I.u I.v I.d I.g I.b I.w I.bs = k0_pay2 (v440 I) (k0_pay120 (F := Ideal)) := by
  unfold out0_A_9
  rw [View.read_writes_eq_canon _ _ _ (cover0_A_9 c i a1 h1 a2 h2 a3 h3 a4 h4 a5 h5 a6 h6 a7 h7 a8 h8 a9 h9 a10 h10 a11 h11 a12 h12 hc I.u I.v I.d I.g I.b I.w I.bs)]
  unfold kernelRun0_A
  dsimp only
  sl_unfold_words
  rw [View.canon_cons_unit_zero (S := S1x1024) hz2, View.readCov_unit_zero (S := S1x1024) _ hz2]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S128x1024) hz2, View.ld_unit_zero (S := S1x1024) hz2, View.ld_unit_zero (S := S8x128x128) hz3, View.ld_unit_zero (S := S8x128x1) hz3, shapeCast_self]
  rfl

/-- The mixing matrices' gradient after the first chunk. -/
theorem outA10 (c : Dev nD) (i : grid0.Coords) (a1 : Memref sig .tc .vmem S128x1024 .f32) (h1 : a1.IsWhole) (a2 : Memref sig .tc .vmem S128x1024 .f32) (h2 : a2.IsWhole) (a3 : Memref sig .tc .vmem S128x1024 .f32) (h3 : a3.IsWhole) (a4 : Memref sig .tc .vmem S1x1024 .f32) (h4 : a4.IsWhole) (a5 : Memref sig .tc .vmem S1x1024 .f32) (h5 : a5.IsWhole) (a6 : Memref sig .tc .vmem S8x128x128 .f32) (h6 : a6.IsWhole) (a7 : Memref sig .tc .vmem S8x128x1 .f32) (h7 : a7.IsWhole) (a8 : Memref sig .tc .vmem S128x2048 .bf16) (h8 : a8.IsWhole) (a9 : Memref sig .tc .vmem S1x1024 .f32) (h9 : a9.IsWhole) (a10 : Memref sig .tc .vmem S1x1024 .f32) (h10 : a10.IsWhole) (a11 : Memref sig .tc .vmem S8x128x128 .f32) (h11 : a11.IsWhole) (a12 : Memref sig .tc .vmem S8x128x1 .f32) (h12 : a12.IsWhole) (hc : cond0_0 i) :
    out0_A_10 c i a1 h1 a2 h2 a3 h3 a4 h4 a5 h5 a6 h6 a7 h7 a8 h8 a9 h9 a10 h10 a11 h11 a12 h12 hc I.u I.v I.d I.g I.b I.w I.bs = k0_pay3 (v438 I) (k0_pay121 (F := Ideal)) := by
  unfold out0_A_10
  rw [View.read_writes_eq_canon _ _ _ (cover0_A_10 c i a1 h1 a2 h2 a3 h3 a4 h4 a5 h5 a6 h6 a7 h7 a8 h8 a9 h9 a10 h10 a11 h11 a12 h12 hc I.u I.v I.d I.g I.b I.w I.bs)]
  unfold kernelRun0_A
  dsimp only
  sl_unfold_words
  rw [View.canon_cons_unit_zero (S := S8x128x128) hz3, View.readCov_unit_zero (S := S8x128x128) _ hz3]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S128x1024) hz2, View.ld_unit_zero (S := S1x1024) hz2, View.ld_unit_zero (S := S8x128x128) hz3, View.ld_unit_zero (S := S8x128x1) hz3, shapeCast_self]
  rfl

/-- The biases' gradient after the first chunk. -/
theorem outA11 (c : Dev nD) (i : grid0.Coords) (a1 : Memref sig .tc .vmem S128x1024 .f32) (h1 : a1.IsWhole) (a2 : Memref sig .tc .vmem S128x1024 .f32) (h2 : a2.IsWhole) (a3 : Memref sig .tc .vmem S128x1024 .f32) (h3 : a3.IsWhole) (a4 : Memref sig .tc .vmem S1x1024 .f32) (h4 : a4.IsWhole) (a5 : Memref sig .tc .vmem S1x1024 .f32) (h5 : a5.IsWhole) (a6 : Memref sig .tc .vmem S8x128x128 .f32) (h6 : a6.IsWhole) (a7 : Memref sig .tc .vmem S8x128x1 .f32) (h7 : a7.IsWhole) (a8 : Memref sig .tc .vmem S128x2048 .bf16) (h8 : a8.IsWhole) (a9 : Memref sig .tc .vmem S1x1024 .f32) (h9 : a9.IsWhole) (a10 : Memref sig .tc .vmem S1x1024 .f32) (h10 : a10.IsWhole) (a11 : Memref sig .tc .vmem S8x128x128 .f32) (h11 : a11.IsWhole) (a12 : Memref sig .tc .vmem S8x128x1 .f32) (h12 : a12.IsWhole) (hc : cond0_0 i) :
    out0_A_11 c i a1 h1 a2 h2 a3 h3 a4 h4 a5 h5 a6 h6 a7 h7 a8 h8 a9 h9 a10 h10 a11 h11 a12 h12 hc I.u I.v I.d I.g I.b I.w I.bs = k0_pay4 (v423 I) (k0_pay122 (F := Ideal)) := by
  unfold out0_A_11
  rw [View.read_writes_eq_canon _ _ _ (cover0_A_11 c i a1 h1 a2 h2 a3 h3 a4 h4 a5 h5 a6 h6 a7 h7 a8 h8 a9 h9 a10 h10 a11 h11 a12 h12 hc I.u I.v I.d I.g I.b I.w I.bs)]
  unfold kernelRun0_A
  dsimp only
  sl_unfold_words
  rw [View.canon_cons_unit_zero (S := S8x128x1) hz3, View.readCov_unit_zero (S := S8x128x1) _ hz3]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S128x1024) hz2, View.ld_unit_zero (S := S1x1024) hz2, View.ld_unit_zero (S := S8x128x128) hz3, View.ld_unit_zero (S := S8x128x1) hz3, shapeCast_self]
  rfl

/-- The scale's gradient after a chunk that is not the first. -/
theorem outB8 (c : Dev nD) (i : grid0.Coords) (a1 : Memref sig .tc .vmem S128x1024 .f32) (h1 : a1.IsWhole) (a2 : Memref sig .tc .vmem S128x1024 .f32) (h2 : a2.IsWhole) (a3 : Memref sig .tc .vmem S128x1024 .f32) (h3 : a3.IsWhole) (a4 : Memref sig .tc .vmem S1x1024 .f32) (h4 : a4.IsWhole) (a5 : Memref sig .tc .vmem S1x1024 .f32) (h5 : a5.IsWhole) (a6 : Memref sig .tc .vmem S8x128x128 .f32) (h6 : a6.IsWhole) (a7 : Memref sig .tc .vmem S8x128x1 .f32) (h7 : a7.IsWhole) (a8 : Memref sig .tc .vmem S128x2048 .bf16) (h8 : a8.IsWhole) (a9 : Memref sig .tc .vmem S1x1024 .f32) (h9 : a9.IsWhole) (a10 : Memref sig .tc .vmem S1x1024 .f32) (h10 : a10.IsWhole) (a11 : Memref sig .tc .vmem S8x128x128 .f32) (h11 : a11.IsWhole) (a12 : Memref sig .tc .vmem S8x128x1 .f32) (h12 : a12.IsWhole) (hc : ¬cond0_0 i) (o8 o9 : Vec Ideal S1x1024 .f32) (o10 : Vec Ideal S8x128x128 .f32) (o11 : Vec Ideal S8x128x1 .f32) :
    out0_B_8 c i a1 h1 a2 h2 a3 h3 a4 h4 a5 h5 a6 h6 a7 h7 a8 h8 a9 h9 a10 h10 a11 h11 a12 h12 hc I.u I.v I.d I.g I.b I.w I.bs o8 o9 o10 o11 = k0_pay1 (v443 I) o8 := by
  unfold out0_B_8
  rw [View.read_writes_eq_canon _ _ _ (cover0_B_8 c i a1 h1 a2 h2 a3 h3 a4 h4 a5 h5 a6 h6 a7 h7 a8 h8 a9 h9 a10 h10 a11 h11 a12 h12 hc I.u I.v I.d I.g I.b I.w I.bs o8 o9 o10 o11)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S128x1024) hz2, View.ld_unit_zero (S := S1x1024) hz2, View.ld_unit_zero (S := S8x128x128) hz3, View.ld_unit_zero (S := S8x128x1) hz3, shapeCast_self]
  rfl

/-- The shift's gradient after a chunk that is not the first. -/
theorem outB9 (c : Dev nD) (i : grid0.Coords) (a1 : Memref sig .tc .vmem S128x1024 .f32) (h1 : a1.IsWhole) (a2 : Memref sig .tc .vmem S128x1024 .f32) (h2 : a2.IsWhole) (a3 : Memref sig .tc .vmem S128x1024 .f32) (h3 : a3.IsWhole) (a4 : Memref sig .tc .vmem S1x1024 .f32) (h4 : a4.IsWhole) (a5 : Memref sig .tc .vmem S1x1024 .f32) (h5 : a5.IsWhole) (a6 : Memref sig .tc .vmem S8x128x128 .f32) (h6 : a6.IsWhole) (a7 : Memref sig .tc .vmem S8x128x1 .f32) (h7 : a7.IsWhole) (a8 : Memref sig .tc .vmem S128x2048 .bf16) (h8 : a8.IsWhole) (a9 : Memref sig .tc .vmem S1x1024 .f32) (h9 : a9.IsWhole) (a10 : Memref sig .tc .vmem S1x1024 .f32) (h10 : a10.IsWhole) (a11 : Memref sig .tc .vmem S8x128x128 .f32) (h11 : a11.IsWhole) (a12 : Memref sig .tc .vmem S8x128x1 .f32) (h12 : a12.IsWhole) (hc : ¬cond0_0 i) (o8 o9 : Vec Ideal S1x1024 .f32) (o10 : Vec Ideal S8x128x128 .f32) (o11 : Vec Ideal S8x128x1 .f32) :
    out0_B_9 c i a1 h1 a2 h2 a3 h3 a4 h4 a5 h5 a6 h6 a7 h7 a8 h8 a9 h9 a10 h10 a11 h11 a12 h12 hc I.u I.v I.d I.g I.b I.w I.bs o8 o9 o10 o11 = k0_pay2 (v440 I) o9 := by
  unfold out0_B_9
  rw [View.read_writes_eq_canon _ _ _ (cover0_B_9 c i a1 h1 a2 h2 a3 h3 a4 h4 a5 h5 a6 h6 a7 h7 a8 h8 a9 h9 a10 h10 a11 h11 a12 h12 hc I.u I.v I.d I.g I.b I.w I.bs o8 o9 o10 o11)]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S128x1024) hz2, View.ld_unit_zero (S := S1x1024) hz2, View.ld_unit_zero (S := S8x128x128) hz3, View.ld_unit_zero (S := S8x128x1) hz3, shapeCast_self]
  rfl

/-- The mixing matrices' gradient after a chunk that is not the first. -/
theorem outB10 (c : Dev nD) (i : grid0.Coords) (a1 : Memref sig .tc .vmem S128x1024 .f32) (h1 : a1.IsWhole) (a2 : Memref sig .tc .vmem S128x1024 .f32) (h2 : a2.IsWhole) (a3 : Memref sig .tc .vmem S128x1024 .f32) (h3 : a3.IsWhole) (a4 : Memref sig .tc .vmem S1x1024 .f32) (h4 : a4.IsWhole) (a5 : Memref sig .tc .vmem S1x1024 .f32) (h5 : a5.IsWhole) (a6 : Memref sig .tc .vmem S8x128x128 .f32) (h6 : a6.IsWhole) (a7 : Memref sig .tc .vmem S8x128x1 .f32) (h7 : a7.IsWhole) (a8 : Memref sig .tc .vmem S128x2048 .bf16) (h8 : a8.IsWhole) (a9 : Memref sig .tc .vmem S1x1024 .f32) (h9 : a9.IsWhole) (a10 : Memref sig .tc .vmem S1x1024 .f32) (h10 : a10.IsWhole) (a11 : Memref sig .tc .vmem S8x128x128 .f32) (h11 : a11.IsWhole) (a12 : Memref sig .tc .vmem S8x128x1 .f32) (h12 : a12.IsWhole) (hc : ¬cond0_0 i) (o8 o9 : Vec Ideal S1x1024 .f32) (o10 : Vec Ideal S8x128x128 .f32) (o11 : Vec Ideal S8x128x1 .f32) :
    out0_B_10 c i a1 h1 a2 h2 a3 h3 a4 h4 a5 h5 a6 h6 a7 h7 a8 h8 a9 h9 a10 h10 a11 h11 a12 h12 hc I.u I.v I.d I.g I.b I.w I.bs o8 o9 o10 o11 = k0_pay3 (v438 I) o10 := by
  unfold out0_B_10
  rw [View.read_writes_eq_canon _ _ _ (cover0_B_10 c i a1 h1 a2 h2 a3 h3 a4 h4 a5 h5 a6 h6 a7 h7 a8 h8 a9 h9 a10 h10 a11 h11 a12 h12 hc I.u I.v I.d I.g I.b I.w I.bs o8 o9 o10 o11)]
  unfold kernelRun0_B
  dsimp only
  sl_unfold_words
  rw [View.canon_unit_zero hz3]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S128x1024) hz2, View.ld_unit_zero (S := S1x1024) hz2, View.ld_unit_zero (S := S8x128x128) hz3, View.ld_unit_zero (S := S8x128x1) hz3, shapeCast_self]
  rfl

/-- The biases' gradient after a chunk that is not the first. -/
theorem outB11 (c : Dev nD) (i : grid0.Coords) (a1 : Memref sig .tc .vmem S128x1024 .f32) (h1 : a1.IsWhole) (a2 : Memref sig .tc .vmem S128x1024 .f32) (h2 : a2.IsWhole) (a3 : Memref sig .tc .vmem S128x1024 .f32) (h3 : a3.IsWhole) (a4 : Memref sig .tc .vmem S1x1024 .f32) (h4 : a4.IsWhole) (a5 : Memref sig .tc .vmem S1x1024 .f32) (h5 : a5.IsWhole) (a6 : Memref sig .tc .vmem S8x128x128 .f32) (h6 : a6.IsWhole) (a7 : Memref sig .tc .vmem S8x128x1 .f32) (h7 : a7.IsWhole) (a8 : Memref sig .tc .vmem S128x2048 .bf16) (h8 : a8.IsWhole) (a9 : Memref sig .tc .vmem S1x1024 .f32) (h9 : a9.IsWhole) (a10 : Memref sig .tc .vmem S1x1024 .f32) (h10 : a10.IsWhole) (a11 : Memref sig .tc .vmem S8x128x128 .f32) (h11 : a11.IsWhole) (a12 : Memref sig .tc .vmem S8x128x1 .f32) (h12 : a12.IsWhole) (hc : ¬cond0_0 i) (o8 o9 : Vec Ideal S1x1024 .f32) (o10 : Vec Ideal S8x128x128 .f32) (o11 : Vec Ideal S8x128x1 .f32) :
    out0_B_11 c i a1 h1 a2 h2 a3 h3 a4 h4 a5 h5 a6 h6 a7 h7 a8 h8 a9 h9 a10 h10 a11 h11 a12 h12 hc I.u I.v I.d I.g I.b I.w I.bs o8 o9 o10 o11 = k0_pay4 (v423 I) o11 := by
  unfold out0_B_11
  rw [View.read_writes_eq_canon _ _ _ (cover0_B_11 c i a1 h1 a2 h2 a3 h3 a4 h4 a5 h5 a6 h6 a7 h7 a8 h8 a9 h9 a10 h10 a11 h11 a12 h12 hc I.u I.v I.d I.g I.b I.w I.bs o8 o9 o10 o11)]
  unfold kernelRun0_B
  dsimp only
  sl_unfold_words
  rw [View.canon_unit_zero hz3]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S128x1024) hz2, View.ld_unit_zero (S := S1x1024) hz2, View.ld_unit_zero (S := S8x128x128) hz3, View.ld_unit_zero (S := S8x128x1) hz3, shapeCast_self]
  rfl

end Cert.KernelIdeal.Chunk

end
-- ==== Proof.Rows.lean ====
/-
  The 4096 rows as 32 chunks of 128, and the arguments of a chunk from the six argument arrays. Both programs' results are
  stated over these.
-/
module

public import proofs.«01_k».proof.Proof.Spec

@[expose] public section

noncomputable section

namespace Cert.Gmlp

open Idealize.ShloMosaic

/-- Row `r` of chunk `t` among the 4096 rows. -/
def row (t : Fin 32) (r : Fin 128) : Fin 4096 := ⟨128 * t.val + r.val, by omega⟩
/-- A column of the left half. -/
def lft (c : Fin 1024) : Fin 2048 := ⟨c.val, by omega⟩
/-- A column of the right half. -/
def rgt (c : Fin 1024) : Fin 2048 := ⟨1024 + c.val, by omega⟩

/-- The arguments of chunk `t`, from the six argument arrays. -/
def argOf (X D : (⟨2, ![4096, 2048]⟩ : Shape).Idx → EReal) (g b : (⟨2, ![1, 1024]⟩ : Shape).Idx → EReal)
    (w : (⟨4, ![1, 8, 128, 128]⟩ : Shape).Idx → EReal) (bs : (⟨3, ![1, 8, 128]⟩ : Shape).Idx → EReal) (t : Fin 32) : Arg where
  u r c := X (ix2 (row t r) (lft c))
  v r c := X (ix2 (row t r) (rgt c))
  d r c := D (ix2 (row t r) (lft c))
  g c := g (ix2 0 c)
  b c := b (ix2 0 c)
  w h i j := w (ix4 0 h i j)
  bs h i := bs (ix3 0 h i)

/-- The chunk and the row within it, and the head and the lane of a column, are found again from the number. -/
theorem row_div (t : Fin 32) (r : Fin 128) (h : (row t r).val / 128 < 32) : (⟨(row t r).val / 128, h⟩ : Fin 32) = t :=
  Fin.ext (by simp only [row]; omega)
theorem row_mod (t : Fin 32) (r : Fin 128) (h : (row t r).val % 128 < 128) : (⟨(row t r).val % 128, h⟩ : Fin 128) = r :=
  Fin.ext (by simp only [row]; omega)
theorem row_mk (t : Fin 32) (r : Fin 128) (h : t.val * 128 + r.val < 4096) : (⟨t.val * 128 + r.val, h⟩ : Fin 4096) = row t r :=
  Fin.ext (by simp only [row]; omega)
theorem col_div (k : Fin 8) (l : Fin 128) (h : (col k l).val / 128 < 8) : (⟨(col k l).val / 128, h⟩ : Fin 8) = k :=
  Fin.ext (by simp only [col]; omega)
theorem col_mod (k : Fin 8) (l : Fin 128) (h : (col k l).val % 128 < 128) : (⟨(col k l).val % 128, h⟩ : Fin 128) = l :=
  Fin.ext (by simp only [col]; omega)
theorem col_mk (k : Fin 8) (l : Fin 128) (h : k.val * 128 + l.val < 1024) : (⟨k.val * 128 + l.val, h⟩ : Fin 1024) = col k l :=
  Fin.ext (by simp only [col]; omega)
/-- Every row is a row of a chunk. -/
theorem row_surj (R : Fin 4096) : row ⟨R.val / 128, by omega⟩ ⟨R.val % 128, by omega⟩ = R :=
  Fin.ext (by simp only [row]; omega)

/-- A sum over the rows is the sum over the chunks of the sums over a chunk's rows. -/
theorem sum_rows (f : Fin 4096 → EReal) : ∑ R, f R = ∑ t : Fin 32, ∑ r : Fin 128, f (row t r) := by
  rw [← Fintype.sum_prod_type' (f := fun (t : Fin 32) (r : Fin 128) => f (row t r))]
  refine (Fintype.sum_bijective (fun p : Fin 32 × Fin 128 => row p.1 p.2) ⟨fun p q e => ?_, fun R => ?_⟩ _ _ fun _ => rfl).symm
  · have := congrArg Fin.val e
    simp only [row] at this
    exact Prod.ext (Fin.ext (by omega)) (Fin.ext (by omega))
  · exact ⟨(_, _), row_surj R⟩

end Cert.Gmlp

end
-- ==== Proof.Final.lean ====
/-
  What the kernel's five result arrays hold after the run, as functions of the six argument arrays: each row block of the
  first is one chunk's two gradients, and the other four are sums over the 32 chunks.
-/
module

public import proofs.«01_k».proof.Proof.Outs
public import proofs.«01_k».proof.Proof.Rows
public import Idealize.ShloMosaic.Lib.Pipeline.ValueKit

@[expose] public section

set_option maxRecDepth 16384

noncomputable section

namespace Cert.KernelIdeal.Chunk

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The input blocks of grid point `t`. -/
def chunk (c : Dev nD) (t : Fin cfg0.N) : In :=
  ⟨iblk m c 0 t, iblk m c 1 t, iblk m c 2 t, iblk m c 3 t, iblk m c 4 t, iblk m c 5 t, iblk m c 6 t⟩

/-- The index maps of the staged windows. -/
theorem idx : ∀ t : Fin cfg0.N, win0_0.index t = ![t.val, 0] ∧ win0_1.index t = ![t.val, 1] ∧ win0_2.index t = ![t.val, 0]
    ∧ win0_3.index t = ![0, 0] ∧ win0_4.index t = ![0, 0] ∧ win0_5.index t = ![0, 0, 0] ∧ win0_6.index t = ![0, 0, 0]
    ∧ win0_7.index t = ![t.val, 0] :=
  (by decide +kernel : ∀ t : Fin grid0.N, _)

/-- A grid point's number, below 32. -/
def pt (t : Fin cfg0.N) : Fin 32 := ⟨t.val, t.isLt⟩

/-- The six argument arrays, cut into chunks. -/
abbrev args (c : Dev nD) : Fin 32 → Gmlp.Arg :=
  Gmlp.argOf (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- The input blocks of a point are the chunk's arguments. -/
theorem chunk_arg (c : Dev nD) (t : Fin cfg0.N) : (chunk m c t).arg = args m c (pt t) := by
  unfold In.arg chunk args Gmlp.argOf
  dsimp only
  congr 1
  · funext r k; blk_ext! [iblk, V, idx t, Gmlp.row, Gmlp.lft, pt]
  · funext r k; blk_ext! [iblk, V, idx t, Gmlp.row, Gmlp.rgt, pt]
  · funext r k; blk_ext! [iblk, V, idx t, Gmlp.row, Gmlp.lft, pt]
  · funext k; blk_ext! [iblk, V, idx t]
  · funext k; blk_ext! [iblk, V, idx t]
  · funext g i j; blk_ext! [iblk, idx t]
  · funext g i; blk_ext! [iblk, idx t]

/-- The scale' accumulator after the first chunk. -/
theorem first8 (c : Dev nD) (t : Fin cfg0.N) (h : t.val % 32 = 0) (k : Fin 1024) :
    (outsAt0 m c t.val t.isLt).2.1 (ix2 0 k) = Gmlp.dG (chunk m c t).arg k := by
  have e : (outsAt0 m c t.val t.isLt).2.1 = k0_pay1 (v443 (chunk m c t)) (k0_pay119 (F := Ideal)) := by
    rw [outsAt0_A m c t h]
    dsimp only
    exact outA8 (chunk m c t) ..
  rw [e, v446acc_at, zero_at.1, zero_add]

/-- The scale' accumulator after a later chunk: one more summand. -/
theorem next8 (c : Dev nD) (t : Fin cfg0.N) (h : ¬t.val % 32 = 0) (k : Fin 1024) :
    (outsAt0 m c t.val t.isLt).2.1 (ix2 0 k) = (outsAt0 m c (t.val - 1) (Nat.lt_of_le_of_lt (Nat.sub_le _ _) t.isLt)).2.1 (ix2 0 k)
      + Gmlp.dG (chunk m c t).arg k := by
  have e : (outsAt0 m c t.val t.isLt).2.1
      = k0_pay1 (v443 (chunk m c t)) (outsAt0 m c (t.val - 1) (Nat.lt_of_le_of_lt (Nat.sub_le _ _) t.isLt)).2.1 := by
    rw [outsAt0_B m c t h]
    dsimp only
    exact outB8 (chunk m c t) ..
  rw [e, v446acc_at]

/-- The scale' accumulator after point `n`: the sum over the chunks up to `n`. -/
theorem sum8 (c : Dev nD) (k : Fin 1024) : ∀ (n : ℕ) (h : n < cfg0.N),
    (outsAt0 m c n h).2.1 (ix2 0 k) = ∑ s : Fin (n + 1), Gmlp.dG (chunk m c ⟨s, Nat.lt_of_le_of_lt (Nat.le_of_lt_succ s.isLt) h⟩).arg k
  | 0, h => by
    refine (first8 m c ⟨0, h⟩ rfl k).trans ?_
    simp
  | n + 1, h => by
    have hN : cfg0.N = 32 := N_0
    refine (next8 m c ⟨n + 1, h⟩ (by dsimp only; omega) k).trans ?_
    rw [Fin.sum_univ_castSucc]
    exact congrArg (· + _) (sum8 c k n (Nat.lt_of_succ_lt h))

/-- The shift' accumulator after the first chunk. -/
theorem first9 (c : Dev nD) (t : Fin cfg0.N) (h : t.val % 32 = 0) (k : Fin 1024) :
    (outsAt0 m c t.val t.isLt).2.2.1 (ix2 0 k) = Gmlp.dB (chunk m c t).arg k := by
  have e : (outsAt0 m c t.val t.isLt).2.2.1 = k0_pay2 (v440 (chunk m c t)) (k0_pay120 (F := Ideal)) := by
    rw [outsAt0_A m c t h]
    dsimp only
    exact outA9 (chunk m c t) ..
  rw [e, v440acc_at, zero_at.2.1, zero_add]

/-- The shift' accumulator after a later chunk: one more summand. -/
theorem next9 (c : Dev nD) (t : Fin cfg0.N) (h : ¬t.val % 32 = 0) (k : Fin 1024) :
    (outsAt0 m c t.val t.isLt).2.2.1 (ix2 0 k) = (outsAt0 m c (t.val - 1) (Nat.lt_of_le_of_lt (Nat.sub_le _ _) t.isLt)).2.2.1 (ix2 0 k)
      + Gmlp.dB (chunk m c t).arg k := by
  have e : (outsAt0 m c t.val t.isLt).2.2.1
      = k0_pay2 (v440 (chunk m c t)) (outsAt0 m c (t.val - 1) (Nat.lt_of_le_of_lt (Nat.sub_le _ _) t.isLt)).2.2.1 := by
    rw [outsAt0_B m c t h]
    dsimp only
    exact outB9 (chunk m c t) ..
  rw [e, v440acc_at]

/-- The shift' accumulator after point `n`: the sum over the chunks up to `n`. -/
theorem sum9 (c : Dev nD) (k : Fin 1024) : ∀ (n : ℕ) (h : n < cfg0.N),
    (outsAt0 m c n h).2.2.1 (ix2 0 k) = ∑ s : Fin (n + 1), Gmlp.dB (chunk m c ⟨s, Nat.lt_of_le_of_lt (Nat.le_of_lt_succ s.isLt) h⟩).arg k
  | 0, h => by
    refine (first9 m c ⟨0, h⟩ rfl k).trans ?_
    simp
  | n + 1, h => by
    have hN : cfg0.N = 32 := N_0
    refine (next9 m c ⟨n + 1, h⟩ (by dsimp only; omega) k).trans ?_
    rw [Fin.sum_univ_castSucc]
    exact congrArg (· + _) (sum9 c k n (Nat.lt_of_succ_lt h))

/-- The mixing matrices' accumulator after the first chunk. -/
theorem first10 (c : Dev nD) (t : Fin cfg0.N) (h : t.val % 32 = 0) (g : Fin 8) (i j : Fin 128) :
    (outsAt0 m c t.val t.isLt).2.2.2.1 (ix3 g i j) = Gmlp.dW (chunk m c t).arg g i j := by
  have e : (outsAt0 m c t.val t.isLt).2.2.2.1 = k0_pay3 (v438 (chunk m c t)) (k0_pay121 (F := Ideal)) := by
    rw [outsAt0_A m c t h]
    dsimp only
    exact outA10 (chunk m c t) ..
  rw [e, v438acc_at, zero_at.2.2.1, zero_add]

/-- The mixing matrices' accumulator after a later chunk: one more summand. -/
theorem next10 (c : Dev nD) (t : Fin cfg0.N) (h : ¬t.val % 32 = 0) (g : Fin 8) (i j : Fin 128) :
    (outsAt0 m c t.val t.isLt).2.2.2.1 (ix3 g i j) = (outsAt0 m c (t.val - 1) (Nat.lt_of_le_of_lt (Nat.sub_le _ _) t.isLt)).2.2.2.1 (ix3 g i j)
      + Gmlp.dW (chunk m c t).arg g i j := by
  have e : (outsAt0 m c t.val t.isLt).2.2.2.1
      = k0_pay3 (v438 (chunk m c t)) (outsAt0 m c (t.val - 1) (Nat.lt_of_le_of_lt (Nat.sub_le _ _) t.isLt)).2.2.2.1 := by
    rw [outsAt0_B m c t h]
    dsimp only
    exact outB10 (chunk m c t) ..
  rw [e, v438acc_at]

/-- The mixing matrices' accumulator after point `n`: the sum over the chunks up to `n`. -/
theorem sum10 (c : Dev nD) (g : Fin 8) (i j : Fin 128) : ∀ (n : ℕ) (h : n < cfg0.N),
    (outsAt0 m c n h).2.2.2.1 (ix3 g i j) = ∑ s : Fin (n + 1), Gmlp.dW (chunk m c ⟨s, Nat.lt_of_le_of_lt (Nat.le_of_lt_succ s.isLt) h⟩).arg g i j
  | 0, h => by
    refine (first10 m c ⟨0, h⟩ rfl g i j).trans ?_
    simp
  | n + 1, h => by
    have hN : cfg0.N = 32 := N_0
    refine (next10 m c ⟨n + 1, h⟩ (by dsimp only; omega) g i j).trans ?_
    rw [Fin.sum_univ_castSucc]
    exact congrArg (· + _) (sum10 c g i j n (Nat.lt_of_succ_lt h))

/-- The biases' accumulator after the first chunk. -/
theorem first11 (c : Dev nD) (t : Fin cfg0.N) (h : t.val % 32 = 0) (g : Fin 8) (i : Fin 128) :
    (outsAt0 m c t.val t.isLt).2.2.2.2 (ix3 g i 0) = Gmlp.dBs (chunk m c t).arg g i := by
  have e : (outsAt0 m c t.val t.isLt).2.2.2.2 = k0_pay4 (v423 (chunk m c t)) (k0_pay122 (F := Ideal)) := by
    rw [outsAt0_A m c t h]
    dsimp only
    exact outA11 (chunk m c t) ..
  rw [e, v423acc_at, zero_at.2.2.2, zero_add]

/-- The biases' accumulator after a later chunk: one more summand. -/
theorem next11 (c : Dev nD) (t : Fin cfg0.N) (h : ¬t.val % 32 = 0) (g : Fin 8) (i : Fin 128) :
    (outsAt0 m c t.val t.isLt).2.2.2.2 (ix3 g i 0) = (outsAt0 m c (t.val - 1) (Nat.lt_of_le_of_lt (Nat.sub_le _ _) t.isLt)).2.2.2.2 (ix3 g i 0)
      + Gmlp.dBs (chunk m c t).arg g i := by
  have e : (outsAt0 m c t.val t.isLt).2.2.2.2
      = k0_pay4 (v423 (chunk m c t)) (outsAt0 m c (t.val - 1) (Nat.lt_of_le_of_lt (Nat.sub_le _ _) t.isLt)).2.2.2.2 := by
    rw [outsAt0_B m c t h]
    dsimp only
    exact outB11 (chunk m c t) ..
  rw [e, v423acc_at]

/-- The biases' accumulator after point `n`: the sum over the chunks up to `n`. -/
theorem sum11 (c : Dev nD) (g : Fin 8) (i : Fin 128) : ∀ (n : ℕ) (h : n < cfg0.N),
    (outsAt0 m c n h).2.2.2.2 (ix3 g i 0) = ∑ s : Fin (n + 1), Gmlp.dBs (chunk m c ⟨s, Nat.lt_of_le_of_lt (Nat.le_of_lt_succ s.isLt) h⟩).arg g i
  | 0, h => by
    refine (first11 m c ⟨0, h⟩ rfl g i).trans ?_
    simp
  | n + 1, h => by
    have hN : cfg0.N = 32 := N_0
    refine (next11 m c ⟨n + 1, h⟩ (by dsimp only; omega) g i).trans ?_
    rw [Fin.sum_univ_castSucc]
    exact congrArg (· + _) (sum11 c g i n (Nat.lt_of_succ_lt h))

/-- What the first output's block holds after a point: the chunk's two gradients. -/
theorem outs7_eq (c : Dev nD) (t : Fin cfg0.N) (y : S128x2048.Idx) :
    (outsAt0 m c t.val t.isLt).1 y = Gmlp.dUV (args m c (pt t)) (y 0) (y 1) := by
  rw [← chunk_arg]
  by_cases h : t.val % 32 = 0
  · rw [outsAt0_A m c t h]
    dsimp only
    exact outA7 (chunk m c t) ..
  · rw [outsAt0_B m c t h]
    dsimp only
    exact outB7 (chunk m c t) ..

/-- The two halves' gradients: every row block is its chunk's. -/
theorem final7 (c : Dev nD) : (dats m 0 c).arrAt 7 cfg0.N = fun i : S4096x2048.Idx =>
    Gmlp.dUV (args m c ⟨(i 0).val / 128, by have := (i 0).isLt; simp at this; omega⟩)
      ⟨(i 0).val % 128, Nat.mod_lt _ (by norm_num)⟩ (i 1) := by
  refine (dats m 0 c).arrAt_eq_of_covers 7 _ (by decide +kernel) fun t hf y => ?_
  blk_simp
  rw [after0_7, outs7_eq]
  have h0 : (y 0).val < 128 := (y 0).isLt
  congr 1
  · congr 1; apply Fin.ext; blk_simp [idx t, pt]; simp; omega
  · apply Fin.ext; blk_simp [idx t]; simp; omega
  · apply Fin.ext; blk_simp [idx t]

/-- The last grid point. -/
def lastPt : Fin cfg0.N := ⟨31, by rw [show cfg0.N = 32 from N_0]; norm_num⟩

/-- The sum over the points is the sum over the chunks. -/
theorem sum_pts (c : Dev nD) (f : Gmlp.Arg → EReal) (t : Fin cfg0.N) (h : t.val = 31) :
    ∑ s : Fin (t.val + 1), f (chunk m c ⟨s, Nat.lt_of_le_of_lt (Nat.le_of_lt_succ s.isLt) t.isLt⟩).arg = ∑ s : Fin 32, f (args m c s) := by
  obtain ⟨n, hn⟩ := t
  simp only at h
  subst h
  exact Finset.sum_congr rfl fun s _ => congrArg f (chunk_arg m c _)

/-- The scale' gradient: the sum over the 32 chunks. -/
theorem final8 (c : Dev nD) : (dats m 0 c).arrAt 8 cfg0.N = fun i : S1x1024.Idx => ∑ t : Fin 32, Gmlp.dG (args m c t) (i 1) := by
  refine (dats m 0 c).arrAt_eq_of_after_last 8 lastPt (by decide +kernel) _ fun j => ?_
  rw [after0_8]
  have hj : ∀ h : ∀ a, (j a).val < _, (fun a => ⟨j a, h a⟩ : S1x1024.Idx) = ix2 0 (j 1) := fun h => by
    funext a; fin_cases a
    · exact Fin.ext (by have := (j 0).isLt; simp at this ⊢)
    · rfl
  refine (congrArg (outsAt0 m c lastPt.val lastPt.isLt).2.1 (hj _)).trans ((sum8 m c (j 1) _ _).trans ?_)
  exact sum_pts m c (fun A => Gmlp.dG A (j 1)) lastPt rfl

/-- The shift' gradient: the sum over the 32 chunks. -/
theorem final9 (c : Dev nD) : (dats m 0 c).arrAt 9 cfg0.N = fun i : S1x1024.Idx => ∑ t : Fin 32, Gmlp.dB (args m c t) (i 1) := by
  refine (dats m 0 c).arrAt_eq_of_after_last 9 lastPt (by decide +kernel) _ fun j => ?_
  rw [after0_9]
  have hj : ∀ h : ∀ a, (j a).val < _, (fun a => ⟨j a, h a⟩ : S1x1024.Idx) = ix2 0 (j 1) := fun h => by
    funext a; fin_cases a
    · exact Fin.ext (by have := (j 0).isLt; simp at this ⊢)
    · rfl
  refine (congrArg (outsAt0 m c lastPt.val lastPt.isLt).2.2.1 (hj _)).trans ((sum9 m c (j 1) _ _).trans ?_)
  exact sum_pts m c (fun A => Gmlp.dB A (j 1)) lastPt rfl

/-- The mixing matrices' gradient: the sum over the 32 chunks. -/
theorem final10 (c : Dev nD) : (dats m 0 c).arrAt 10 cfg0.N = fun i : S8x128x128.Idx => ∑ t : Fin 32, Gmlp.dW (args m c t) (i 0) (i 1) (i 2) := by
  refine (dats m 0 c).arrAt_eq_of_after_last 10 lastPt (by decide +kernel) _ fun j => ?_
  rw [after0_10]
  have hj : ∀ h : ∀ a, (j a).val < _, (fun a => ⟨j a, h a⟩ : S8x128x128.Idx) = ix3 (j 0) (j 1) (j 2) := fun h => by
    funext a; fin_cases a
    · rfl
    · rfl
    · rfl
  refine (congrArg (outsAt0 m c lastPt.val lastPt.isLt).2.2.2.1 (hj _)).trans ((sum10 m c (j 0) (j 1) (j 2) _ _).trans ?_)
  exact sum_pts m c (fun A => Gmlp.dW A (j 0) (j 1) (j 2)) lastPt rfl

/-- The biases' gradient: the sum over the 32 chunks. -/
theorem final11 (c : Dev nD) : (dats m 0 c).arrAt 11 cfg0.N = fun i : S8x128x1.Idx => ∑ t : Fin 32, Gmlp.dBs (args m c t) (i 0) (i 1) := by
  refine (dats m 0 c).arrAt_eq_of_after_last 11 lastPt (by decide +kernel) _ fun j => ?_
  rw [after0_11]
  have hj : ∀ h : ∀ a, (j a).val < _, (fun a => ⟨j a, h a⟩ : S8x128x1.Idx) = ix3 (j 0) (j 1) 0 := fun h => by
    funext a; fin_cases a
    · rfl
    · rfl
    · exact Fin.ext (by have := (j 2).isLt; simp at this ⊢)
  refine (congrArg (outsAt0 m c lastPt.val lastPt.isLt).2.2.2.2 (hj _)).trans ((sum11 m c (j 0) (j 1) _ _).trans ?_)
  exact sum_pts m c (fun A => Gmlp.dBs A (j 0) (j 1)) lastPt rfl

end Cert.KernelIdeal.Chunk

end
-- ==== Proof.RefSum.lean ====
/-
  The reference's sums over several axes at once, read at an index.
-/
module

public import proofs.«01_k».proof.Proof.Spec
public import proofs.«01_k».proof.Proof.Gen.ReferenceIdeal.Read

@[expose] public section

set_option maxRecDepth 16384

noncomputable section

namespace Cert.ReferenceIdeal.At

open Cert.ReferenceIdeal Cert.ReferenceIdeal.Gen Cert.ReferenceIdeal.Read Idealize.ShloMosaic Cert.Gmlp

variable (X D : Vec Ideal S4096x2048 .f32) (g b : Vec Ideal S1x1024 .f32) (w : Vec Ideal S1x8x128x128 .f32) (bs : Vec Ideal S1x8x128 .f32)

/-! ### Sums over several axes -/

/-- A sum over the two unit axes around a row axis. -/
theorem sum_d02 (h : S1x4096x1.ReducesTo [0, 2] S4096) (v : S1x4096x1.Idx → EReal) (init : EReal) (R : Fin 4096) :
    Ideal.hostReduceAdd h v init (ix1 R) = init + v (ix3 0 R 0) := by
  refine congrArg (init + ·) ((Finset.sum_filter_eq_sum_of_fiber _ (fun _ : Fin 1 => ix3 0 R 0)
    (fun _ _ _ => Subsingleton.elim _ _) (fun i => ?_) v).trans (by simp))
  constructor
  · intro e
    refine ⟨0, ?_⟩
    funext a
    match a with
    | ⟨0, _⟩ => exact (Subsingleton.elim (α := Fin 1) _ _)
    | ⟨1, _⟩ => exact Fin.ext (congrArg Fin.val (congrFun e 0)).symm
    | ⟨2, _⟩ => exact (Subsingleton.elim (α := Fin 1) _ _)
  · rintro ⟨_, rfl⟩
    funext a
    match a with
    | ⟨0, _⟩ => rfl

/-- A sum over two leading unit axes. -/
theorem sum_d01 (h : S1x1x1024.ReducesTo [0, 1] S1024) (v : S1x1x1024.Idx → EReal) (init : EReal) (c : Fin 1024) :
    Ideal.hostReduceAdd h v init (ix1 c) = init + v (ix3 0 0 c) := by
  refine congrArg (init + ·) ((Finset.sum_filter_eq_sum_of_fiber _ (fun _ : Fin 1 => ix3 0 0 c)
    (fun _ _ _ => Subsingleton.elim _ _) (fun i => ?_) v).trans (by simp))
  constructor
  · intro e
    refine ⟨0, ?_⟩
    funext a
    match a with
    | ⟨0, _⟩ => exact (Subsingleton.elim (α := Fin 1) _ _)
    | ⟨1, _⟩ => exact (Subsingleton.elim (α := Fin 1) _ _)
    | ⟨2, _⟩ => exact Fin.ext (congrArg Fin.val (congrFun e 0)).symm
  · rintro ⟨_, rfl⟩
    funext a
    match a with
    | ⟨0, _⟩ => rfl

/-- A sum over three unit axes. -/
theorem sum_d014 (h : S1x1x128x8x1.ReducesTo [0, 1, 4] S128x8) (v : S1x1x128x8x1.Idx → EReal) (init : EReal) (r : Fin 128) (k : Fin 8) :
    Ideal.hostReduceAdd h v init (ix2 r k) = init + v (ix5 0 0 r k 0) := by
  refine congrArg (init + ·) ((Finset.sum_filter_eq_sum_of_fiber _ (fun _ : Fin 1 => ix5 0 0 r k 0)
    (fun _ _ _ => Subsingleton.elim _ _) (fun i => ?_) v).trans (by simp))
  constructor
  · intro e
    refine ⟨0, ?_⟩
    funext a
    match a with
    | ⟨0, _⟩ => exact (Subsingleton.elim (α := Fin 1) _ _)
    | ⟨1, _⟩ => exact (Subsingleton.elim (α := Fin 1) _ _)
    | ⟨2, _⟩ => exact Fin.ext (congrArg Fin.val (congrFun e 0)).symm
    | ⟨3, _⟩ => exact Fin.ext (congrArg Fin.val (congrFun e 1)).symm
    | ⟨4, _⟩ => exact (Subsingleton.elim (α := Fin 1) _ _)
  · rintro ⟨_, rfl⟩
    funext a
    match a with
    | ⟨0, _⟩ => rfl
    | ⟨1, _⟩ => rfl

/-- A sum over the chunks and a group's columns. -/
theorem sum_d14 (h : S1x32x128x8x128.ReducesTo [1, 4] S1x128x8) (v : S1x32x128x8x128.Idx → EReal) (init : EReal) (r : Fin 128) (k : Fin 8) :
    Ideal.hostReduceAdd h v init (ix3 0 r k) = init + ∑ t : Fin 32, ∑ l : Fin 128, v (ix5 0 t r k l) := by
  refine congrArg (init + ·) ((Finset.sum_filter_eq_sum_of_fiber _ (fun p : Fin 32 × Fin 128 => ix5 (0 : Fin 1) p.1 r k p.2)
    (fun _ _ e => Prod.ext (congrFun e 1) (congrFun e 4)) (fun i => ?_) v).trans (by simp only [Fintype.sum_prod_type]))
  constructor
  · intro e
    refine ⟨(i 1, i 4), ?_⟩
    funext a
    match a with
    | ⟨0, _⟩ => exact (Subsingleton.elim (α := Fin 1) _ _)
    | ⟨1, _⟩ => rfl
    | ⟨2, _⟩ => exact Fin.ext (congrArg Fin.val (congrFun e 1)).symm
    | ⟨3, _⟩ => exact Fin.ext (congrArg Fin.val (congrFun e 2)).symm
    | ⟨4, _⟩ => rfl
  · rintro ⟨_, rfl⟩
    funext a
    match a with
    | ⟨0, _⟩ => rfl
    | ⟨1, _⟩ => rfl
    | ⟨2, _⟩ => rfl

/-- The product over chunks and a group's columns: the mixing matrices' gradient before its mask. -/
theorem dot3 (x : S8x1x32x128x128.Idx → EReal) (y : S1x32x128x8x128.Idx → EReal) (acc : S8x128x128.Idx → EReal) (h : Fin 8) (i j : Fin 128) :
    Ideal.matmul dot_S8x1x32x128x128_S1x32x128x8x128_S8x128x128_123_014_4_2_0_3 x y acc (ix3 h i j)
      = acc (ix3 h i j) + ∑ t : Fin 32, ∑ l : Fin 128, x (ix5 h 0 t l i) * y (ix5 0 t j h l) := by
  refine congrArg (acc (ix3 h i j) + ·) ?_
  let f : Fin 32 × Fin 128 → dot_S8x1x32x128x128_S1x32x128x8x128_S8x128x128_123_014_4_2_0_3.contr.Idx := fun p a => match a with
    | ⟨0, _⟩ => (0 : Fin 1)
    | ⟨1, _⟩ => p.1
    | ⟨2, _⟩ => p.2
  rw [← Fintype.sum_prod_type' (f := fun (t : Fin 32) (l : Fin 128) => x (ix5 h 0 t l i) * y (ix5 0 t j h l))]
  refine (Fintype.sum_bijective f ⟨fun p q e => ?_, fun q => ?_⟩ _ _ fun p => ?_).symm
  · exact Prod.ext (congrFun e ⟨1, show 1 < 3 by decide⟩) (congrFun e ⟨2, show 2 < 3 by decide⟩)
  · refine ⟨(q ⟨1, show 1 < 3 by decide⟩, q ⟨2, show 2 < 3 by decide⟩), ?_⟩
    funext a
    match a with
    | ⟨0, _⟩ => exact (Subsingleton.elim (α := Fin 1) _ _)
    | ⟨1, _⟩ => rfl
    | ⟨2, _⟩ => rfl
  · congr 2
    · funext a
      match a with
      | ⟨0, _⟩ => rfl
      | ⟨1, _⟩ => rfl
      | ⟨2, _⟩ => rfl
      | ⟨3, _⟩ => rfl
      | ⟨4, _⟩ => rfl
    · funext a
      match a with
      | ⟨0, _⟩ => rfl
      | ⟨1, _⟩ => rfl
      | ⟨2, _⟩ => rfl
      | ⟨3, _⟩ => rfl
      | ⟨4, _⟩ => rfl

end Cert.ReferenceIdeal.At

end
-- ==== Proof.RefAt.lean ====
/-
  What the reference computes, read at an index: its rows are cut into 32 chunks of 128, and each buffer of the gradient at
  row `r` of chunk `t` is the chunk function of that chunk's arguments.
-/
module

public import proofs.«01_k».proof.Proof.Rows
public import proofs.«01_k».proof.Proof.RefSum

@[expose] public section

set_option maxRecDepth 16384

noncomputable section

namespace Cert.ReferenceIdeal.At

open Cert.ReferenceIdeal Cert.ReferenceIdeal.Gen Cert.ReferenceIdeal.Read Idealize.ShloMosaic Cert.Gmlp

variable (X D : Vec Ideal S4096x2048 .f32) (g b : Vec Ideal S1x1024 .f32) (w : Vec Ideal S1x8x128x128 .f32) (bs : Vec Ideal S1x8x128 .f32)

/-! ### gelu of the two halves -/

/-- The left half of the input. -/
theorem v1_at (R : Fin 4096) (c : Fin 1024) : val_main_v1 X (ix3 0 R c) = X (ix2 R (lft c)) := by
  unfold val_main_v1 val_main_v0; pointwise; rfl
/-- The right half of the input. -/
theorem v2_at (R : Fin 4096) (c : Fin 1024) : val_main_v2 X (ix3 0 R c) = X (ix2 R (rgt c)) := by
  unfold val_main_v2 val_main_v0; pointwise; rfl
/-- The gate's cotangent: the left half of the cotangent array. -/
theorem v4_at (R : Fin 4096) (c : Fin 1024) : val_main_v4 D (ix3 0 R c) = D (ix2 R (lft c)) := by
  unfold val_main_v4 val_main_v3; pointwise; rfl
/-- The tanh of the left half's gelu. -/
theorem v19_at (R : Fin 4096) (c : Fin 1024) : val_main_v19 X (ix3 0 R c) = th (X (ix2 R (lft c))) := by
  unfold val_main_v19 val_main_v18 val_main_v17 val_main_cst_1 val_main_v16 val_main_v15 val_main_v14 val_main_cst_0 val_main_v10 val_main_v9
  pointwise; rw [v1_at]; rfl
/-- The tanh of the right half's gelu. -/
theorem v40_at (R : Fin 4096) (c : Fin 1024) : val_main_v40 X (ix3 0 R c) = th (X (ix2 R (rgt c))) := by
  unfold val_main_v40 val_main_v39 val_main_v38 val_main_cst_8 val_main_v37 val_main_v36 val_main_v35 val_main_cst_7 val_main_v31 val_main_v30
  pointwise; rw [v2_at]; rfl
/-- The left half's factor `(1 + tanh)/2`. -/
theorem v28_at (R : Fin 4096) (c : Fin 1024) : val_main_v28 X (ix3 0 R c) = cHalf * (1 + th (X (ix2 R (lft c)))) := by
  unfold val_main_v28 val_main_v27 val_main_cst_5 val_main_v26 val_main_v25 val_main_cst_4; pointwise; rw [v19_at]
/-- The right half's factor `(1 + tanh)/2`. -/
theorem v49_at (R : Fin 4096) (c : Fin 1024) : val_main_v49 X (ix3 0 R c) = cHalf * (1 + th (X (ix2 R (rgt c)))) := by
  unfold val_main_v49 val_main_v48 val_main_cst_12 val_main_v47 val_main_v46 val_main_cst_11; pointwise; rw [v40_at]
/-- One minus the square of the left half's tanh, as a product. -/
theorem v24_at (R : Fin 4096) (c : Fin 1024) :
    val_main_v24 X (ix3 0 R c) = (1 + th (X (ix2 R (lft c)))) * (1 - th (X (ix2 R (lft c)))) := by
  unfold val_main_v24 val_main_v21 val_main_v20 val_main_cst_2 val_main_v23 val_main_v22 val_main_cst_3; pointwise; rw [v19_at]
/-- One minus the square of the right half's tanh, as a product. -/
theorem v45_at (R : Fin 4096) (c : Fin 1024) :
    val_main_v45 X (ix3 0 R c) = (1 + th (X (ix2 R (rgt c)))) * (1 - th (X (ix2 R (rgt c)))) := by
  unfold val_main_v45 val_main_v42 val_main_v41 val_main_cst_9 val_main_v44 val_main_v43 val_main_cst_10; pointwise; rw [v40_at]
/-- The derivative of the cube, on the left half. -/
theorem v13_at (R : Fin 4096) (c : Fin 1024) :
    val_main_v13 X (ix3 0 R c) = cThree * (X (ix2 R (lft c)) * X (ix2 R (lft c))) := by
  unfold val_main_v13 val_main_v12 val_main_cst val_main_v11; pointwise; rw [v1_at]
/-- The derivative of the cube, on the right half. -/
theorem v34_at (R : Fin 4096) (c : Fin 1024) :
    val_main_v34 X (ix3 0 R c) = cThree * (X (ix2 R (rgt c)) * X (ix2 R (rgt c))) := by
  unfold val_main_v34 val_main_v33 val_main_cst_6 val_main_v32; pointwise; rw [v2_at]
/-- The left half after gelu. -/
theorem v29_at (R : Fin 4096) (c : Fin 1024) : val_main_v29 X (ix3 0 R c) = gel (X (ix2 R (lft c))) := by
  unfold val_main_v29; pointwise; rw [v1_at, v28_at, gel_eq]
/-- The second half after gelu, at row `r` of chunk `t`. -/
theorem v50_at (t : Fin 32) (r : Fin 128) (c : Fin 1024) :
    val_main_v50 X (ix3 0 (row t r) c) = gv (argOf X D g b w bs t) r c := by
  unfold val_main_v50; pointwise; rw [v2_at, v49_at, gel_eq]; rfl

/-! ### The layer norm's rows -/

/-- The mean of a row of the second half after gelu. -/
theorem v54_at (t : Fin 32) (r : Fin 128) : val_main_v54 X (ix3 0 (row t r) 0) = mean (gv (argOf X D g b w bs t) r) := by
  unfold val_main_v54 val_main_v52 val_main_v51 val_main_cst_13 val_main_v53 val_main_cst_14
  pointwise; simp only [v50_at X D g b w bs, zero_add]; rfl
/-- The centred row. -/
theorem v56_at (t : Fin 32) (r : Fin 128) (c : Fin 1024) :
    val_main_v56 X (ix3 0 (row t r) c) = cen (gv (argOf X D g b w bs t) r) c := by
  unfold val_main_v56 val_main_v55; pointwise; rw [v50_at X D g b w bs, v54_at X D g b w bs]; rfl
/-- The centred row, again. -/
theorem v65_at (t : Fin 32) (r : Fin 128) (c : Fin 1024) :
    val_main_v65 X (ix3 0 (row t r) c) = cen (gv (argOf X D g b w bs t) r) c := by
  unfold val_main_v65 val_main_v64; pointwise; rw [v50_at X D g b w bs, v54_at X D g b w bs]; rfl
/-- Twice the centred row. -/
theorem v59_at (t : Fin 32) (r : Fin 128) (c : Fin 1024) :
    val_main_v59 X (ix3 0 (row t r) c) = cTwo * cen (gv (argOf X D g b w bs t) r) c := by
  unfold val_main_v59 val_main_v58 val_main_cst_15; pointwise; rw [v56_at X D g b w bs]
/-- The variance of a row. -/
theorem v67_at (t : Fin 32) (r : Fin 128) : val_main_v67 X (ix3 0 (row t r) 0) = var (gv (argOf X D g b w bs t) r) := by
  unfold val_main_v67 val_main_v63 val_main_v61 val_main_v60 val_main_cst_16 val_main_v57 val_main_v62 val_main_cst_17 val_main_v66 val_main_cst_18
  pointwise; simp only [v56_at X D g b w bs, zero_add]; rfl
/-- The reciprocal root of a row's variance. -/
theorem v68_at (t : Fin 32) (r : Fin 128) : val_main_v68 X (ix3 0 (row t r) 0) = rsd (gv (argOf X D g b w bs t) r) := by
  unfold val_main_v68; pointwise; rw [v67_at X D g b w bs]; rfl
/-- The derivative of the reciprocal root. -/
theorem v71_at (t : Fin 32) (r : Fin 128) : val_main_v71 X (ix3 0 (row t r) 0) = coef (gv (argOf X D g b w bs t) r) := by
  unfold val_main_v71 val_main_v70 val_main_cst_19 val_main_v69; pointwise; rw [v67_at X D g b w bs, v68_at X D g b w bs]; rfl
/-- The normalised row. -/
theorem v73_at (t : Fin 32) (r : Fin 128) (c : Fin 1024) :
    val_main_v73 X (ix3 0 (row t r) c) = xh (gv (argOf X D g b w bs t) r) c := by
  unfold val_main_v73 val_main_v72; pointwise; rw [v65_at X D g b w bs, v68_at X D g b w bs]; rfl
/-- The layer norm of a row. -/
theorem v79_at (t : Fin 32) (r : Fin 128) (c : Fin 1024) :
    val_main_v79 X g b (ix3 0 (row t r) c) = nr (argOf X D g b w bs t) r c := by
  unfold val_main_v79 val_main_v76 val_main_v75 val_main_v74 val_main_v5 val_main_v78 val_main_v77 val_main_v6
  pointwise; rw [v73_at X D g b w bs]; rfl

/-! ### The mixing -/

/-- The layer norm, by chunk and head. -/
theorem v80_at (t : Fin 32) (r : Fin 128) (h : Fin 8) (k : Fin 128) :
    val_main_v80 X g b (ix5 0 t r h k) = nr (argOf X D g b w bs t) r (col h k) := by
  unfold val_main_v80; pointwise; rw [row_mk, col_mk, v79_at X D g b w bs]
/-- The mask: the entries at and under the diagonal. -/
theorem mask_at (h : Fin 8) (i j : Fin 128) : val_main_v83_1 (F := Ideal) (ix3 h i j) = if j ≤ i then 1#1 else 0#1 := by
  unfold val_main_v83_1 val_main_v82 val_main_v81 val_main_c val_main_call0_v5 val_main_call0_c_0 val_main_call0_v4 val_main_call0_v3
    val_main_call0_v2 val_main_call0_v1 val_main_call0_c val_main_call0_v0
  pointwise
  revert i j; decide +kernel
/-- The masked mixing weights. -/
theorem v83_at (t : Fin 32) (h : Fin 8) (i j : Fin 128) :
    val_main_v83_0 w (ix3 h i j) = wm (argOf X D g b w bs t) h i j := by
  unfold val_main_v83_0; pointwise; rw [mask_at]; unfold val_main_v7 val_main_call1_v2 val_main_call1_v0 val_main_cst_20; pointwise
  unfold wm; split_ifs
  · rfl
  · exact Ideal.ofBits_zero_f32
/-- The mixed rows. -/
theorem v90_at (t : Fin 32) (r : Fin 128) (c : Fin 1024) :
    val_main_v90 X g b w bs (ix3 0 (row t r) c) = mix (argOf X D g b w bs t) r c := by
  obtain ⟨h, k, rfl⟩ := col_surj c
  unfold val_main_v90 val_main_v89 val_main_v85 val_main_v84 val_main_v88 val_main_v87 val_main_v86 val_main_v8; pointwise
  simp only [row_div, row_mod, col_div, col_mod, v80_at X D g b w bs, v83_at X D g b w bs t, mul_comm (nr _ _ _)]
  unfold mix; rw [grp_col]
  rfl
/-- The cotangent of the mixed rows. -/
theorem v92_at (t : Fin 32) (r : Fin 128) (c : Fin 1024) :
    val_main_v92 X D (ix3 0 (row t r) c) = dmx (argOf X D g b w bs t) r c := by
  unfold val_main_v92; pointwise; rw [v29_at, v4_at]; rfl
/-- The cotangent of the first half after gelu. -/
theorem v93_at (t : Fin 32) (r : Fin 128) (c : Fin 1024) :
    val_main_v93 X D g b w bs (ix3 0 (row t r) c) = D (ix2 (row t r) (lft c)) * mix (argOf X D g b w bs t) r c := by
  unfold val_main_v93; pointwise; rw [v4_at, v90_at X D g b w bs]
/-- The cotangent of the mixed rows, by chunk and head. -/
theorem v94_at (t : Fin 32) (r : Fin 128) (h : Fin 8) (k : Fin 128) :
    val_main_v94 X D (ix5 0 t r h k) = dmx (argOf X D g b w bs t) r (col h k) := by
  unfold val_main_v94; pointwise; rw [row_mk, col_mk, v92_at X D g b w bs]
/-- The same, transposed. -/
theorem v99_at (t : Fin 32) (r : Fin 128) (h : Fin 8) (k : Fin 128) :
    val_main_v99 X D (ix5 h 0 t k r) = dmx (argOf X D g b w bs t) r (col h k) := by
  unfold val_main_v99; pointwise; rw [v94_at X D g b w bs]
/-- The cotangent of the layer norm's output. -/
theorem v104_at (t : Fin 32) (r : Fin 128) (c : Fin 1024) :
    val_main_v104 X D w (ix3 0 (row t r) c) = dn (argOf X D g b w bs t) r c := by
  obtain ⟨h, k, rfl⟩ := col_surj c
  unfold val_main_v104 val_main_v102 val_main_v101; pointwise
  simp only [row_div, row_mod, col_div, col_mod, v99_at X D g b w bs, v83_at X D g b w bs t, mul_comm (dmx _ _ _)]
  unfold dn; rw [grp_col]

/-! ### The layer norm's gradient -/

/-- The cotangent of the normalised rows. -/
theorem v112_at (t : Fin 32) (r : Fin 128) (c : Fin 1024) :
    val_main_v112 X D g w (ix3 0 (row t r) c) = dn (argOf X D g b w bs t) r c * g (ix2 0 c) := by
  unfold val_main_v112 val_main_v111 val_main_v74 val_main_v5; pointwise; rw [v104_at X D g b w bs]
/-- The cotangent of a row's normalised values: that of the layer norm's row times the scale. -/
def pr (t : Fin 32) (r : Fin 128) (c : Fin 1024) : EReal := dn (argOf X D g b w bs t) r c * (argOf X D g b w bs t).g c
/-- The direct term of the layer norm's derivative. -/
theorem v118_at (t : Fin 32) (r : Fin 128) (c : Fin 1024) :
    val_main_v118 X D g w (ix3 0 (row t r) c) = dDir (gv (argOf X D g b w bs t) r) (pr X D g b w bs t r) c := by
  unfold val_main_v118 val_main_v117; pointwise; rw [v112_at X D g b w bs, v68_at X D g b w bs]; rfl
/-- The variance's term of the layer norm's derivative. -/
theorem v128_at (t : Fin 32) (r : Fin 128) (c : Fin 1024) :
    val_main_v128 X D g w (ix3 0 (row t r) c) = dVar (gv (argOf X D g b w bs t) r) (pr X D g b w bs t r) c := by
  unfold val_main_v128 val_main_v127 val_main_v126 val_main_v125; pointwise
  rw [sum_d02, v59_at X D g b w bs]
  unfold val_main_cst_30 val_main_v124 val_main_v123 val_main_cst_29 val_main_v119 val_main_v116 val_main_v115 val_main_cst_27 val_main_v114; pointwise
  simp only [v65_at X D g b w bs, v112_at X D g b w bs, v71_at X D g b w bs, zero_add]; rfl
/-- The mean's term of the layer norm's derivative. -/
theorem v138_at (t : Fin 32) (r : Fin 128) (c : Fin 1024) :
    val_main_v138 X D g w (ix3 0 (row t r) c) = dMean (gv (argOf X D g b w bs t) r) (pr X D g b w bs t r) := by
  unfold val_main_v138 val_main_v137 val_main_v136; pointwise
  rw [sum_d02]
  unfold val_main_cst_33 val_main_v135 val_main_v134 val_main_cst_32 val_main_v133 val_main_v131 val_main_v130 val_main_cst_31 val_main_v129
    val_main_v122 val_main_v121 val_main_cst_28 val_main_v120; pointwise
  simp only [v118_at X D g b w bs, v128_at X D g b w bs, zero_add]; rfl
/-- The layer norm's derivative, its three terms added. -/
theorem v139_at (t : Fin 32) (r : Fin 128) (c : Fin 1024) :
    val_main_v139 X D g w (ix3 0 (row t r) c) = dRow (gv (argOf X D g b w bs t) r) (pr X D g b w bs t r) c := by
  unfold val_main_v139 val_main_v132; pointwise
  rw [v118_at X D g b w bs, v128_at X D g b w bs, v138_at X D g b w bs]; rfl

/-! ### The results -/

/-- The gradient of the right half of the input. -/
theorem v151_at (t : Fin 32) (r : Fin 128) (c : Fin 1024) :
    val_main_v151 X D g w (ix3 0 (row t r) c) = dV (argOf X D g b w bs t) r c := by
  unfold val_main_v151 val_main_v147 val_main_v141 val_main_v150 val_main_v149 val_main_v148 val_main_cst_36 val_main_v146 val_main_v145
    val_main_cst_35 val_main_v144 val_main_v143 val_main_v142 val_main_cst_34 val_main_v140; pointwise
  rw [v139_at X D g b w bs, v49_at, v45_at, v34_at, v2_at, gelD_eq]; rfl
/-- The gradient of the left half of the input. -/
theorem v163_at (t : Fin 32) (r : Fin 128) (c : Fin 1024) :
    val_main_v163 X D g b w bs (ix3 0 (row t r) c) = dU (argOf X D g b w bs t) r c := by
  unfold val_main_v163 val_main_v159 val_main_v153 val_main_v162 val_main_v161 val_main_v160 val_main_cst_39 val_main_v158 val_main_v157
    val_main_cst_38 val_main_v156 val_main_v155 val_main_v154 val_main_cst_37 val_main_v152; pointwise
  rw [v93_at, v28_at, v24_at, v13_at, v1_at, gelD_eq]; rfl
/-- The first result: the two halves' gradients side by side. -/
theorem v166_at (t : Fin 32) (r : Fin 128) (c : Fin 2048) :
    val_main_v166 X D g b w bs (ix2 (row t r) c) = dUV (argOf X D g b w bs t) r c := by
  unfold val_main_v166 val_main_v165 val_main_v164; pointwise
  unfold dUV
  by_cases h : c.val < 1024
  · rw [dif_pos h, dif_pos h, v163_at]
  · rw [dif_neg h, dif_neg h, v151_at X D g b w bs]
/-- The scale's gradient. -/
theorem v167_at (c : Fin 1024) : val_main_v167 X D w (ix2 0 c) = ∑ t, dG (argOf X D g b w bs t) c := by
  unfold val_main_v167 val_main_v113; pointwise
  rw [sum_d01]
  unfold val_main_cst_26 val_main_v110 val_main_v109 val_main_cst_25 val_main_v108; pointwise
  rw [sum_rows]
  simp only [v73_at X D g b w bs, v104_at X D g b w bs, zero_add]; rfl
/-- The shift's gradient. -/
theorem v168_at (c : Fin 1024) : val_main_v168 X D w (ix2 0 c) = ∑ t, dB (argOf X D g b w bs t) c := by
  unfold val_main_v168 val_main_v107; pointwise
  rw [sum_d01]
  unfold val_main_cst_24 val_main_v106 val_main_v105 val_main_cst_23; pointwise
  rw [sum_rows]
  simp only [v104_at X D g b w bs, zero_add]; rfl
/-- The mixing matrices' gradient. -/
theorem v103_at (h : Fin 8) (i j : Fin 128) : val_main_v103 X D g b (ix3 h i j) = ∑ t, dW (argOf X D g b w bs t) h i j := by
  unfold val_main_v103; pointwise
  rw [mask_at]
  unfold val_main_v100 val_main_call2_v0 val_main_call2_cst; pointwise
  rw [dot3]
  simp only [v99_at X D g b w bs, v80_at X D g b w bs, zero_add]
  unfold dW
  split_ifs
  · rfl
  · rw [Finset.sum_const_zero]; rfl
/-- The biases' gradient. -/
theorem v169_at (h : Fin 8) (i : Fin 128) : val_main_v169 X D (ix3 h i 0) = ∑ t, dBs (argOf X D g b w bs t) h i := by
  unfold val_main_v169 val_main_v98 val_main_v97; pointwise
  rw [sum_d014]
  unfold val_main_cst_22 val_main_v96 val_main_v95; pointwise
  rw [sum_d14]
  unfold val_main_cst_21; pointwise
  simp only [v94_at X D g b w bs, zero_add]; rfl

end Cert.ReferenceIdeal.At
end
-- ==== Proof.RefWhole.lean ====
/-
  The reference's five results as whole arrays, in the form in which the kernel's final arrays are stated.
-/
module

public import proofs.«01_k».proof.Proof.RefAt

@[expose] public section

noncomputable section

namespace Cert.ReferenceIdeal.At

open Cert.ReferenceIdeal Cert.ReferenceIdeal.Gen Cert.ReferenceIdeal.Read Idealize.ShloMosaic Cert.Gmlp

variable (X D : Vec Ideal S4096x2048 .f32) (g b : Vec Ideal S1x1024 .f32) (w : Vec Ideal S1x8x128x128 .f32) (bs : Vec Ideal S1x8x128 .f32)

/-- The index of an axis of extent one. -/
theorem one0 (a : Fin 1) : a = 0 := Subsingleton.elim a 0

/-- The gradient of the projected input: each row's is its chunk's. -/
theorem v166_eq : val_main_v166 X D g b w bs = fun i : S4096x2048.Idx =>
    dUV (argOf X D g b w bs ⟨(i 0).val / 128, by have := (i 0).isLt; simp at this; omega⟩)
      ⟨(i 0).val % 128, Nat.mod_lt _ (by norm_num)⟩ (i 1) := by
  funext i
  have e := v166_at X D g b w bs ⟨(i 0).val / 128, by have : (i 0).val < 4096 := (i 0).isLt; omega⟩
    ⟨(i 0).val % 128, Nat.mod_lt _ (by norm_num)⟩ (i 1)
  rw [row_surj (i 0), ← eq_ix2 i] at e
  exact e

/-- The gradient of the layer norm's scale, a sum over the chunks. -/
theorem v167_eq : val_main_v167 X D w = fun i : S1x1024.Idx => ∑ t, dG (argOf X D g b w bs t) (i 1) := by
  funext i
  have e := v167_at X D g b w bs (i 1)
  have hi : i = ix2 (0 : Fin 1) (i 1) := (eq_ix2 i).trans (congrArg (fun a : Fin 1 => ix2 a (i 1)) (one0 (i 0)))
  exact (congrArg _ hi).trans e

/-- The gradient of the layer norm's shift. -/
theorem v168_eq : val_main_v168 X D w = fun i : S1x1024.Idx => ∑ t, dB (argOf X D g b w bs t) (i 1) := by
  funext i
  have e := v168_at X D g b w bs (i 1)
  have hi : i = ix2 (0 : Fin 1) (i 1) := (eq_ix2 i).trans (congrArg (fun a : Fin 1 => ix2 a (i 1)) (one0 (i 0)))
  exact (congrArg _ hi).trans e

/-- The gradient of the causal mixing weights. -/
theorem v103_eq : val_main_v103 X D g b = fun i : S8x128x128.Idx => ∑ t, dW (argOf X D g b w bs t) (i 0) (i 1) (i 2) := by
  funext i
  have e := v103_at X D g b w bs (i 0) (i 1) (i 2)
  rw [← eq_ix3 i] at e
  exact e

/-- The gradient of the mixing bias. -/
theorem v169_eq : val_main_v169 X D = fun i : S8x128x1.Idx => ∑ t, dBs (argOf X D g b w bs t) (i 0) (i 1) := by
  funext i
  have e := v169_at X D g b w bs (i 0) (i 1)
  have hi : i = ix3 (i 0) (i 1) (0 : Fin 1) := (eq_ix3 i).trans (congrArg (fun a : Fin 1 => ix3 (i 0) (i 1) a) (one0 (i 2)))
  exact (congrArg _ hi).trans e

end Cert.ReferenceIdeal.At

end
-- ==== Proof.MlpRun.lean ====
/-
  The run of the layer's MLP, forward and backward, from the launch to the end: every buffer of the device ends at the
  contents that the fold over the host operations and the five pipelines names.
-/
module

public import proofs.«01_k».proof.Proof.Gen.Kernel2Ideal.Frame
public import Idealize.ShloMosaic.Lib.Pointwise

@[expose] public section

set_option maxRecDepth 16384

noncomputable section

namespace Cert.Kernel2Ideal.Body

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- Every weakly fair execution ends, faults nowhere, and leaves every buffer at the fold's last contents. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W7 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => h)

end Cert.Kernel2Ideal.Body

end
-- ==== Proof.MlpSpec.lean ====
/-
  The mathematics of the layer's MLP and of its gradients, over extended reals and over plain coordinates. Both programs
  are read at these functions. No printed program is mentioned here.
-/
module

public import proofs.«01_k».proof.Proof.Spec

@[expose] public section

noncomputable section

namespace Cert.Mlp

open Idealize.ShloMosaic Cert.Gmlp

/-! ### Blocks of 512 -/

/-- Entry `j` of block `b`, among 4096 columns or rows. -/
def at512 (b : Fin 8) (j : Fin 512) : Fin 4096 := ⟨512 * b.val + j.val, by omega⟩
/-- The block of 512 that an entry is in. -/
def blk (c : Fin 4096) : Fin 8 := ⟨c.val / 512, by omega⟩
/-- An entry's place in its block of 512. -/
def lane (c : Fin 4096) : Fin 512 := ⟨c.val % 512, by omega⟩

theorem at512_blk_lane (c : Fin 4096) : at512 (blk c) (lane c) = c := Fin.ext (by simp only [at512, blk, lane]; omega)
theorem blk_at512 (b : Fin 8) (j : Fin 512) : blk (at512 b j) = b := Fin.ext (by simp only [at512, blk]; omega)
theorem lane_at512 (b : Fin 8) (j : Fin 512) : lane (at512 b j) = j := Fin.ext (by simp only [at512, lane]; omega)

/-- A sum over 4096 entries is the sum over the blocks of the sums over a block's entries. -/
theorem sum_at512 (f : Fin 4096 → EReal) : ∑ c, f c = ∑ b : Fin 8, ∑ j : Fin 512, f (at512 b j) := by
  rw [← Fintype.sum_prod_type' (f := fun (b : Fin 8) (j : Fin 512) => f (at512 b j))]
  refine (Fintype.sum_bijective (fun p : Fin 8 × Fin 512 => at512 p.1 p.2) ⟨fun p q e => ?_, fun c => ?_⟩ _ _ fun _ => rfl).symm
  · have := congrArg Fin.val e
    simp only [at512] at this
    exact Prod.ext (Fin.ext (by omega)) (Fin.ext (by omega))
  · exact ⟨(_, _), at512_blk_lane c⟩

/-! ### One row -/

/-- The mean square of a row, with the literal added. -/
def msq (h : Fin 1024 → EReal) : EReal := Ideal.div (∑ k, h k * h k) cLen + cEps
/-- The reciprocal square root of that. -/
def rs (h : Fin 1024 → EReal) : EReal := Ideal.rsqrt (msq h)
/-- The row scaled to unit mean square. -/
def unit (h : Fin 1024 → EReal) (k : Fin 1024) : EReal := h k * rs h
/-- The row scaled to unit mean square and by the gain. -/
def norm (h g : Fin 1024 → EReal) (k : Fin 1024) : EReal := unit h k * g k
/-- The cotangent of the mean square's square, from the cotangent `d` of the normalised row. -/
def csq (h g d : Fin 1024 → EReal) : EReal :=
  Ideal.div ((∑ k, h k * (d k * g k)) * (cNegHalf * Ideal.div (rs h) (msq h))) cLen
/-- The cotangent of the row, from the cotangent `d` of the normalised row and the cotangent `e` that passes it by. -/
def dRow (h g d e : Fin 1024 → EReal) (k : Fin 1024) : EReal :=
  d k * g k * rs h + h k * csq h g d + csq h g d * h k + e k

/-- The same, added in another order. -/
theorem dRow_eq (h g d e : Fin 1024 → EReal) (k : Fin 1024) :
    e k + d k * g k * rs h + h k * csq h g d + csq h g d * h k = dRow h g d e k := by
  unfold dRow; abel

/-! ### All rows -/

/-- The arguments over plain coordinates: the residual stream, the gain, the two weights and the cotangent. -/
structure Arg where
  h : Fin 4096 → Fin 1024 → EReal
  g : Fin 1024 → EReal
  wu : Fin 8 → Fin 1024 → Fin 512 → EReal
  wd : Fin 8 → Fin 512 → Fin 1024 → EReal
  dh : Fin 4096 → Fin 1024 → EReal

variable (A : Arg)

/-- The hidden rows before the square of the positive part. -/
def up (r : Fin 4096) (b : Fin 8) (j : Fin 512) : EReal := ∑ k, norm (A.h r) A.g k * A.wu b k j
/-- Their positive part. -/
def act (r : Fin 4096) (b : Fin 8) (j : Fin 512) : EReal := max (up A r b j) 0
/-- Their cotangent. -/
def dup (r : Fin 4096) (b : Fin 8) (j : Fin 512) : EReal := (∑ k, A.dh r k * A.wd b j k) * (cTwo * act A r b j)
/-- The cotangent of the second weight. -/
def gDown (b : Fin 8) (j : Fin 512) (k : Fin 1024) : EReal := ∑ t, act A t b j * act A t b j * A.dh t k
/-- The cotangent of the first weight. -/
def gUp (b : Fin 8) (k : Fin 1024) (j : Fin 512) : EReal := ∑ t, norm (A.h t) A.g k * dup A t b j
/-- The cotangent of the normalised rows. -/
def dNorm (r : Fin 4096) (k : Fin 1024) : EReal := ∑ b, ∑ j, dup A r b j * A.wu b k j
/-- The cotangent of the residual stream. -/
def dH (r : Fin 4096) (k : Fin 1024) : EReal := dRow (A.h r) A.g (dNorm A r) (A.dh r) k
/-- The cotangent of the gain. -/
def dGain (k : Fin 1024) : EReal := ∑ r, unit (A.h r) k * dNorm A r k
/-- The column sums of the residual stream's cotangent. -/
def colSum (k : Fin 1024) : EReal := ∑ r, dH A r k

/-- The positive part's derivative by a test on the sign: where the entry is not positive, the factor is zero. -/
theorem gate (x d : EReal) : (if 0 < x then d * (cTwo * max x 0) else 0) = d * (cTwo * max x 0) := by
  split
  · rfl
  · rename_i h
    rw [max_eq_right (not_lt.1 h), mul_zero, mul_zero]

end Cert.Mlp

end
-- ==== Proof.MlpBody.lean ====
/-
  The kernels of the layer's MLP at one grid point, over the extended reals, read at an index.
-/
module

public import proofs.«01_k».proof.Proof.MlpSpec
public import proofs.«01_k».proof.Proof.Gen.Kernel2Ideal.Frame
public import Idealize.ShloMosaic.Lib.Pipeline.ValueKit

@[expose] public section

set_option maxRecDepth 16384

noncomputable section

namespace Cert.Kernel2Ideal.Body

open Cert.Kernel2Ideal Cert.Kernel2Ideal.Gen Idealize.ShloMosaic Cert.Mlp

/-! ### The first weight's product -/

/-- One block of columns of the product, at the array's index. -/
theorem up_tile (x0 : Vec Ideal S512x1024 .bf16) (x1 : Vec Ideal S8x1024x512 .bf16) (y : S512x4096.Idx) (x : S512x512.Idx) (n : ℕ)
    (hn : n < 8) (h0 : (y 0).val = (x 0).val) (h1 : (y 1).val = 512 * n + (x 1).val) :
    ∑ k : Fin 1024, x0 (ix2 (x 0) k) * x1 (ix3 ⟨n, hn⟩ k (x 1)) = ∑ k, x0 (ix2 (y 0) k) * x1 (ix3 (blk (y 1)) k (lane (y 1))) := by
  have hx : (x 1).val < 512 := (x 1).isLt
  have e0 : (y 0 : Fin 512) = x 0 := Fin.ext h0
  have e1 : blk (y 1) = ⟨n, hn⟩ := Fin.ext (by show (y 1).val / 512 = n; omega)
  have e2 : lane (y 1) = (x 1 : Fin 512) := Fin.ext (by show (y 1).val % 512 = (x 1).val; omega)
  refine Finset.sum_congr rfl fun k _ => ?_
  exact congrArg₂ (· * ·) (congrArg (fun a : Fin 512 => x0 (ix2 a k)) e0.symm)
    (congrArg₂ (fun (a : Fin 8) (b : Fin 512) => x1 (ix3 a k b)) e1.symm e2.symm)

/-- What one point of the first kernel writes. -/
theorem out0_at (x0 : Vec Ideal S512x1024 .bf16) (x1 : Vec Ideal S8x1024x512 .bf16) (y : S512x4096.Idx) :
    out0_2 x0 x1 y = ∑ k, x0 (ix2 (y 0) k) * x1 (ix3 (blk (y 1)) k (lane (y 1))) := by
  unfold_out out0_2
  canon_tiles x h
  · refine Eq.trans ?_ (up_tile x0 x1 y x 7 (by decide) h0 h1); unfold_payloads; pointwise
  · refine Eq.trans ?_ (up_tile x0 x1 y x 6 (by decide) h0 h1); unfold_payloads; pointwise
  · refine Eq.trans ?_ (up_tile x0 x1 y x 5 (by decide) h0 h1); unfold_payloads; pointwise
  · refine Eq.trans ?_ (up_tile x0 x1 y x 4 (by decide) h0 h1); unfold_payloads; pointwise
  · refine Eq.trans ?_ (up_tile x0 x1 y x 3 (by decide) h0 h1); unfold_payloads; pointwise
  · refine Eq.trans ?_ (up_tile x0 x1 y x 2 (by decide) h0 h1); unfold_payloads; pointwise
  · refine Eq.trans ?_ (up_tile x0 x1 y x 1 (by decide) h0 h1); unfold_payloads; pointwise
  · refine Eq.trans ?_ (up_tile x0 x1 y x 0 (by decide) h0 (by omega)); unfold_payloads; pointwise

/-! ### The cotangent of the hidden rows -/

/-- One block of columns of the hidden rows' cotangent, at the array's index. -/
theorem dup_tile (x0 : Vec Ideal S512x1024 .bf16) (x1 : Vec Ideal S8x512x1024 .bf16) (x2 : Vec Ideal S512x4096 .bf16) (y : S512x4096.Idx)
    (x : S512x512.Idx) (n : ℕ) (hn : n < 8) (h0 : (y 0).val = (x 0).val) (h1 : (y 1).val = 512 * n + (x 1).val)
    (hc : 512 * n + (x 1).val < 4096) :
    (∑ k : Fin 1024, x0 (ix2 (x 0) k) * x1 (ix3 ⟨n, hn⟩ (x 1) k)) * (Gmlp.cTwo * max (x2 (ix2 (x 0) ⟨512 * n + (x 1).val, hc⟩)) 0)
      = (∑ k, x0 (ix2 (y 0) k) * x1 (ix3 (blk (y 1)) (lane (y 1)) k)) * (Gmlp.cTwo * max (x2 y) 0) := by
  have hx : (x 1).val < 512 := (x 1).isLt
  have e0 : (x 0 : Fin 512) = y 0 := Fin.ext h0.symm
  have e1 : (⟨n, hn⟩ : Fin 8) = blk (y 1) := Fin.ext (by show n = (y 1).val / 512; omega)
  have e2 : (x 1 : Fin 512) = lane (y 1) := Fin.ext (by show (x 1).val = (y 1).val % 512; omega)
  have e3 : (⟨512 * n + (x 1).val, hc⟩ : Fin 4096) = y 1 := Fin.ext h1.symm
  have ey : (ix2 (x 0) ⟨512 * n + (x 1).val, hc⟩ : S512x4096.Idx) = y :=
    (congrArg₂ (fun (a : Fin 512) (b : Fin 4096) => (ix2 a b : S512x4096.Idx)) e0 e3).trans (eq_ix2 y).symm
  refine congrArg₂ (· * ·) (Finset.sum_congr rfl fun k _ => ?_) (congrArg (fun z => Gmlp.cTwo * max (x2 z) 0) ey)
  exact congrArg₂ (· * ·) (congrArg (fun a : Fin 512 => x0 (ix2 a k)) e0)
    (congrArg₂ (fun (a : Fin 8) (b : Fin 512) => x1 (ix3 a b k)) e1 e2)

/-- What one point of the second kernel writes. -/
theorem out1_at (x0 : Vec Ideal S512x1024 .bf16) (x1 : Vec Ideal S8x512x1024 .bf16) (x2 : Vec Ideal S512x4096 .bf16) (y : S512x4096.Idx) :
    out1_3 x0 x1 x2 y = (∑ k, x0 (ix2 (y 0) k) * x1 (ix3 (blk (y 1)) (lane (y 1)) k)) * (Gmlp.cTwo * max (x2 y) 0) := by
  unfold_out out1_3
  canon_tiles x h
  · refine Eq.trans ?_ (dup_tile x0 x1 x2 y x 7 (by decide) h0 h1 (by omega)); unfold_payloads; pointwise
  · refine Eq.trans ?_ (dup_tile x0 x1 x2 y x 6 (by decide) h0 h1 (by omega)); unfold_payloads; pointwise
  · refine Eq.trans ?_ (dup_tile x0 x1 x2 y x 5 (by decide) h0 h1 (by omega)); unfold_payloads; pointwise
  · refine Eq.trans ?_ (dup_tile x0 x1 x2 y x 4 (by decide) h0 h1 (by omega)); unfold_payloads; pointwise
  · refine Eq.trans ?_ (dup_tile x0 x1 x2 y x 3 (by decide) h0 h1 (by omega)); unfold_payloads; pointwise
  · refine Eq.trans ?_ (dup_tile x0 x1 x2 y x 2 (by decide) h0 h1 (by omega)); unfold_payloads; pointwise
  · refine Eq.trans ?_ (dup_tile x0 x1 x2 y x 1 (by decide) h0 h1 (by omega)); unfold_payloads; pointwise
  · refine Eq.trans ?_ (dup_tile x0 x1 x2 y x 0 (by decide) h0 (by omega) (by omega)); unfold_payloads; pointwise

/-! ### The weights' cotangents -/

/-- What one point of the third kernel writes. -/
theorem out2_at (x0 : Vec Ideal S4096x512 .bf16) (x1 : Vec Ideal S4096x1024 .bf16) (j : Fin 512) (k : Fin 1024) :
    out2_2 x0 x1 (ix2 j k) = ∑ t, max (x0 (ix2 t j)) 0 * max (x0 (ix2 t j)) 0 * x1 (ix2 t k) := by
  unfold out2_2
  frame_out
  unfold_payloads; pointwise

/-- What one point of the fourth kernel writes. -/
theorem out3_at (x0 : Vec Ideal S4096x1024 .bf16) (x1 : Vec Ideal S4096x512 .bf16) (k : Fin 1024) (j : Fin 512) :
    out3_2 x0 x1 (ix3 0 k j) = ∑ t, x0 (ix2 t k) * x1 (ix2 t j) := by
  unfold out3_2
  frame_out
  unfold_payloads; pointwise

/-! ### The rows' cotangent -/

/-- The input blocks of one grid point of the fifth kernel. -/
structure In where
  du : Vec Ideal S512x4096 .bf16
  wu : Vec Ideal S8x1024x512 .bf16
  h : Vec Ideal S512x1024 .f32
  g : Vec Ideal S1x1024 .f32
  dh : Vec Ideal S512x1024 .f32

variable (I : In)

/-- The cotangent of the normalised rows, from a point's blocks. -/
def dyI (r : Fin 512) (k : Fin 1024) : EReal := ∑ b, ∑ j, I.du (ix2 r (at512 b j)) * I.wu (ix3 b k j)
/-- A row of the residual stream, the gain and a row of the cotangent that passes by. -/
def hI (r : Fin 512) (k : Fin 1024) : EReal := I.h (ix2 r k)
def gI (k : Fin 1024) : EReal := I.g (ix2 0 k)
def eI (r : Fin 512) (k : Fin 1024) : EReal := I.dh (ix2 r k)

/-- The value `%48` of the kernel's body at one point. -/
def v48 : FVec Ideal S512x1024 .f32 :=
  k4_pay5 (k4_pay2 (View.ld I.du (Rect.unit (s := S512x4096) ![0, 0] S512x512.size inb_S512x4096_S512x512_0_0)) (View.ld I.wu (Rect.unit (s := S8x1024x512) ![0, 0, 0] S1x1024x512.size inb_S8x1024x512_S1x1024x512_0_0_0))
    (View.ld I.du (Rect.unit (s := S512x4096) ![0, 512] S512x512.size inb_S512x4096_S512x512_0_512)) (View.ld I.wu (Rect.unit (s := S8x1024x512) ![1, 0, 0] S1x1024x512.size inb_S8x1024x512_S1x1024x512_1_0_0))
    (View.ld I.du (Rect.unit (s := S512x4096) ![0, 1024] S512x512.size inb_S512x4096_S512x512_0_1024)) (View.ld I.wu (Rect.unit (s := S8x1024x512) ![2, 0, 0] S1x1024x512.size inb_S8x1024x512_S1x1024x512_2_0_0))
    (View.ld I.du (Rect.unit (s := S512x4096) ![0, 1536] S512x512.size inb_S512x4096_S512x512_0_1536)) (View.ld I.wu (Rect.unit (s := S8x1024x512) ![3, 0, 0] S1x1024x512.size inb_S8x1024x512_S1x1024x512_3_0_0)))
    (k4_pay3 (View.ld I.du (Rect.unit (s := S512x4096) ![0, 2048] S512x512.size inb_S512x4096_S512x512_0_2048))) (k4_pay4 (View.ld I.wu (Rect.unit (s := S8x1024x512) ![4, 0, 0] S1x1024x512.size inb_S8x1024x512_S1x1024x512_4_0_0)))
    (View.ld I.du (Rect.unit (s := S512x4096) ![0, 2560] S512x512.size inb_S512x4096_S512x512_0_2560)) (View.ld I.wu (Rect.unit (s := S8x1024x512) ![5, 0, 0] S1x1024x512.size inb_S8x1024x512_S1x1024x512_5_0_0))
    (View.ld I.du (Rect.unit (s := S512x4096) ![0, 3072] S512x512.size inb_S512x4096_S512x512_0_3072)) (View.ld I.wu (Rect.unit (s := S8x1024x512) ![6, 0, 0] S1x1024x512.size inb_S8x1024x512_S1x1024x512_6_0_0))
    (View.ld I.du (Rect.unit (s := S512x4096) ![0, 3584] S512x512.size inb_S512x4096_S512x512_0_3584)) (View.ld I.wu (Rect.unit (s := S8x1024x512) ![7, 0, 0] S1x1024x512.size inb_S8x1024x512_S1x1024x512_7_0_0))

/-- It is the cotangent of the normalised rows. -/
theorem v48_at (r : Fin 512) (k : Fin 1024) : v48 I (ix2 r k) = dyI I r k := by
  unfold v48; unfold_payloads; pointwise
  unfold dyI
  simp only [Fin.sum_univ_eight]
  rfl

/-- The value `%57`: the mean square with the literal added. -/
theorem v57_at (r : Fin 512) : k4_pay6 I.h (ix2 r 0) = msq (hI I r) := by
  unfold_payloads; pointwise; rfl

theorem v58_at (r : Fin 512) : k4_pay7 I.h (ix2 r 0) = rs (hI I r) := by
  unfold k4_pay7; pointwise; rw [v57_at]; rfl

theorem v61_at (r : Fin 512) : k4_pay8 I.h (ix2 r 0) = Gmlp.cNegHalf * Ideal.div (rs (hI I r)) (msq (hI I r)) := by
  unfold k4_pay8; pointwise; rw [v58_at, v57_at]

/-- The value `%85` of the kernel's body at one point. -/
def v85 : FVec Ideal S512x1024 .f32 := k4_pay9 (v48 I) I.h I.g (k4_pay7 I.h) (k4_pay8 I.h) I.dh

/-- It is the cotangent of the rows. -/
theorem v85_at (r : Fin 512) (k : Fin 1024) : v85 I (ix2 r k) = dRow (hI I r) (gI I) (dyI I r) (eI I r) k := by
  unfold v85 k4_pay9; pointwise; simp only [Fin.sum_univ_one, v48_at, v58_at, v61_at]; rfl

theorem v87_at (r : Fin 512) (k : Fin 1024) :
    k4_pay10 (v48 I) I.h I.g (k4_pay7 I.h) (k4_pay8 I.h) I.dh (ix2 r k) = dRow (hI I r) (gI I) (dyI I r) (eI I r) k := by
  unfold k4_pay10; pointwise; exact v85_at I r k

theorem zero7_at (k : Fin 1024) : k4_pay11 (F := Ideal) (ix2 0 k) = 0 := by
  unfold k4_pay11; pointwise
theorem zero8_at (k : Fin 1024) : k4_pay12 (F := Ideal) (ix2 0 k) = 0 := by
  unfold k4_pay12; pointwise

/-- The gain's accumulator, one point added. -/
theorem v94_at (a : Vec Ideal S1x1024 .f32) (k : Fin 1024) :
    k4_pay13 (v48 I) I.h (k4_pay7 I.h) a (ix2 0 k) = a (ix2 0 k) + ∑ r, unit (hI I r) k * dyI I r k := by
  unfold k4_pay13; pointwise; simp only [v48_at, v58_at]; rfl

/-- The column sums' accumulator, one point added. -/
theorem v100_at (a : Vec Ideal S1x1024 .f32) (k : Fin 1024) :
    k4_pay1 (k4_pay14 a) (k4_pay15 (v48 I) I.h I.g (k4_pay7 I.h) (k4_pay8 I.h) I.dh) (ix2 0 k)
      = a (ix2 0 k) + ∑ r, dRow (hI I r) (gI I) (dyI I r) (eI I r) k := by
  unfold k4_pay1 k4_pay14 k4_pay15; pointwise
  exact congrArg (_ + ·) (Finset.sum_congr rfl fun r _ => v85_at I r k)

end Cert.Kernel2Ideal.Body

end
-- ==== Proof.MlpFinal.lean ====
/-
  What each of the five pipelines of the layer's MLP leaves in its output arrays, as functions of what its input arrays
  held when it began.
-/
module

public import proofs.«01_k».proof.Proof.MlpBody
public import Idealize.ShloMosaic.Lib.Pipeline.ValueKit

@[expose] public section

set_option maxRecDepth 16384

noncomputable section

namespace Cert.Kernel2Ideal.Body

open Cert.Kernel2Ideal Cert.Kernel2Ideal.Gen Idealize.ShloMosaic Idealize.ShloMosaic.TcCoe Idealize.SL.Sem Cert.Mlp
open Idealize.ShloMosaic.Pipeline (Dat)

variable (V : (c : Dev nD) → (b : Ref sig .tc) → Buf (Elt Ideal) ((c : Thread nD τ).loc b))

/-- The index maps of the staged windows. -/
theorem idx0 : ∀ t : Fin cfg0.N, win0_0.index t = ![t.val, 0] ∧ win0_1.index t = ![0, 0, 0] ∧ win0_2.index t = ![t.val, 0] :=
  (by decide +kernel : ∀ t : Fin grid0.N, _)
theorem idx1 : ∀ t : Fin cfg1.N, win1_0.index t = ![t.val, 0] ∧ win1_1.index t = ![0, 0, 0] ∧ win1_2.index t = ![t.val, 0]
    ∧ win1_3.index t = ![t.val, 0] :=
  (by decide +kernel : ∀ t : Fin grid1.N, _)
theorem idx2 : ∀ t : Fin cfg2.N, win2_0.index t = ![0, t.val] ∧ win2_1.index t = ![0, 0] ∧ win2_2.index t = ![t.val, 0] :=
  (by decide +kernel : ∀ t : Fin grid2.N, _)
theorem idx3 : ∀ t : Fin cfg3.N, win3_0.index t = ![0, 0] ∧ win3_1.index t = ![0, t.val] ∧ win3_2.index t = ![t.val, 0, 0] :=
  (by decide +kernel : ∀ t : Fin grid3.N, _)

/-- The arrays the pipelines leave, as functions of the arrays they take. -/
def fUp (Y : Vec Ideal S4096x1024 .bf16) (W : Vec Ideal S8x1024x512 .bf16) (r : Fin 4096) (b : Fin 8) (j : Fin 512) : EReal :=
  ∑ k : Fin 1024, Y (ix2 r k) * W (ix3 b k j)
def fDup (D : Vec Ideal S4096x1024 .bf16) (W : Vec Ideal S8x512x1024 .bf16) (U : Vec Ideal S4096x4096 .bf16) (r : Fin 4096) (b : Fin 8)
    (j : Fin 512) : EReal :=
  (∑ k : Fin 1024, D (ix2 r k) * W (ix3 b j k)) * (Gmlp.cTwo * max (U (ix2 r (at512 b j))) 0)
def fDown (U : Vec Ideal S4096x4096 .bf16) (D : Vec Ideal S4096x1024 .bf16) (j : Fin 4096) (k : Fin 1024) : EReal :=
  ∑ t : Fin 4096, max (U (ix2 t j)) 0 * max (U (ix2 t j)) 0 * D (ix2 t k)
def fGUp (Y : Vec Ideal S4096x1024 .bf16) (D : Vec Ideal S4096x4096 .bf16) (b : Fin 8) (k : Fin 1024) (j : Fin 512) : EReal :=
  ∑ t : Fin 4096, Y (ix2 t k) * D (ix2 t (at512 b j))

/-! ### Blocks of the input arrays -/

/-- A grid point's number, below 8. -/
def pt0 (t : Fin cfg0.N) : Fin 8 := ⟨t.val, t.isLt⟩
def pt1 (t : Fin cfg1.N) : Fin 8 := ⟨t.val, t.isLt⟩
def pt2 (t : Fin cfg2.N) : Fin 8 := ⟨t.val, t.isLt⟩
def pt3 (t : Fin cfg3.N) : Fin 8 := ⟨t.val, t.isLt⟩

theorem blk0_0 (c : Dev nD) (t : Fin cfg0.N) (r : Fin 512) (k : Fin 1024) :
    (iblk0 V c 0 t : Vec Ideal S512x1024 .bf16) (ix2 r k) = (V c main_v12 : Vec Ideal S4096x1024 .bf16) (ix2 (at512 (pt0 t) r) k) := by
  blk_ext! [iblk0, idx0 t, at512, pt0]
theorem blk0_1 (c : Dev nD) (t : Fin cfg0.N) (b : Fin 8) (k : Fin 1024) (j : Fin 512) :
    (iblk0 V c 1 t : Vec Ideal S8x1024x512 .bf16) (ix3 b k j) = (V c main_arg2 : Vec Ideal S8x1024x512 .bf16) (ix3 b k j) := by
  blk_ext! [iblk0, idx0 t]
theorem blk1_0 (c : Dev nD) (t : Fin cfg1.N) (r : Fin 512) (k : Fin 1024) :
    (iblk1 V c 0 t : Vec Ideal S512x1024 .bf16) (ix2 r k) = (V c main_v14 : Vec Ideal S4096x1024 .bf16) (ix2 (at512 (pt1 t) r) k) := by
  blk_ext! [iblk1, idx1 t, at512, pt1]
theorem blk1_1 (c : Dev nD) (t : Fin cfg1.N) (b : Fin 8) (j : Fin 512) (k : Fin 1024) :
    (iblk1 V c 1 t : Vec Ideal S8x512x1024 .bf16) (ix3 b j k) = (V c main_arg3 : Vec Ideal S8x512x1024 .bf16) (ix3 b j k) := by
  blk_ext! [iblk1, idx1 t]
theorem blk1_2 (c : Dev nD) (t : Fin cfg1.N) (r : Fin 512) (k : Fin 4096) :
    (iblk1 V c 2 t : Vec Ideal S512x4096 .bf16) (ix2 r k) = (V c main_v13 : Vec Ideal S4096x4096 .bf16) (ix2 (at512 (pt1 t) r) k) := by
  blk_ext! [iblk1, idx1 t, at512, pt1]
theorem blk2_0 (c : Dev nD) (t : Fin cfg2.N) (r : Fin 4096) (j : Fin 512) :
    (iblk2 V c 0 t : Vec Ideal S4096x512 .bf16) (ix2 r j) = (V c main_v13 : Vec Ideal S4096x4096 .bf16) (ix2 r (at512 (pt2 t) j)) := by
  blk_ext! [iblk2, idx2 t, at512, pt2]
theorem blk2_1 (c : Dev nD) (t : Fin cfg2.N) (r : Fin 4096) (k : Fin 1024) :
    (iblk2 V c 1 t : Vec Ideal S4096x1024 .bf16) (ix2 r k) = (V c main_v14 : Vec Ideal S4096x1024 .bf16) (ix2 r k) := by
  blk_ext! [iblk2, idx2 t]
theorem blk3_0 (c : Dev nD) (t : Fin cfg3.N) (r : Fin 4096) (k : Fin 1024) :
    (iblk3 V c 0 t : Vec Ideal S4096x1024 .bf16) (ix2 r k) = (V c main_v12 : Vec Ideal S4096x1024 .bf16) (ix2 r k) := by
  blk_ext! [iblk3, idx3 t]
theorem blk3_1 (c : Dev nD) (t : Fin cfg3.N) (r : Fin 4096) (j : Fin 512) :
    (iblk3 V c 1 t : Vec Ideal S4096x512 .bf16) (ix2 r j) = (V c main_v15 : Vec Ideal S4096x4096 .bf16) (ix2 r (at512 (pt3 t) j)) := by
  blk_ext! [iblk3, idx3 t, at512, pt3]

/-! ### What one point writes -/

theorem point0 (c : Dev nD) (t : Fin cfg0.N) (y : S512x4096.Idx) : out0_2 (iblk0 V c 0 t) (iblk0 V c 1 t) y
    = fUp (V c main_v12) (V c main_arg2) (at512 (pt0 t) (y 0)) (blk (y 1)) (lane (y 1)) :=
  (out0_at _ _ y).trans (Finset.sum_congr rfl fun k _ => congrArg₂ (· * ·) (blk0_0 V c t (y 0) k) (blk0_1 V c t _ k _))

theorem point1 (c : Dev nD) (t : Fin cfg1.N) (y : S512x4096.Idx) : out1_3 (iblk1 V c 0 t) (iblk1 V c 1 t) (iblk1 V c 2 t) y
    = fDup (V c main_v14) (V c main_arg3) (V c main_v13) (at512 (pt1 t) (y 0)) (blk (y 1)) (lane (y 1)) := by
  refine (out1_at _ _ _ y).trans (congrArg₂ (· * ·)
    (Finset.sum_congr rfl fun k _ => congrArg₂ (· * ·) (blk1_0 V c t (y 0) k) (blk1_1 V c t _ _ k)) (congrArg (fun z => Gmlp.cTwo * max z 0) ?_))
  exact (congrArg (iblk1 V c 2 t : Vec Ideal S512x4096 .bf16) (eq_ix2 y)).trans ((blk1_2 V c t (y 0) (y 1)).trans
    (congrArg (fun a : Fin 4096 => (V c main_v13 : Vec Ideal S4096x4096 .bf16) (ix2 (at512 (pt1 t) (y 0)) a)) (at512_blk_lane (y 1)).symm))

theorem point2 (c : Dev nD) (t : Fin cfg2.N) (y : S512x1024.Idx) : out2_2 (iblk2 V c 0 t) (iblk2 V c 1 t) y
    = fDown (V c main_v13) (V c main_v14) (at512 (pt2 t) (y 0)) (y 1) :=
  (congrArg (out2_2 (F := Ideal) (iblk2 V c 0 t) (iblk2 V c 1 t)) (eq_ix2 y)).trans ((out2_at _ _ (y 0) (y 1)).trans
    (Finset.sum_congr rfl fun r _ => congrArg₂ (· * ·) (congrArg (fun z => max z 0 * max z 0) (blk2_0 V c t r (y 0))) (blk2_1 V c t r (y 1))))

theorem eq_ix3_0 (y : S1x1024x512.Idx) : y = ix3 0 (y 1) (y 2) := by
  funext a; fin_cases a
  · exact Fin.ext (by have := (y 0).isLt; simp at this ⊢)
  · rfl
  · rfl

theorem point3 (c : Dev nD) (t : Fin cfg3.N) (y : S1x1024x512.Idx) : out3_2 (iblk3 V c 0 t) (iblk3 V c 1 t) y
    = fGUp (V c main_v12) (V c main_v15) (pt3 t) (y 1) (y 2) :=
  (congrArg (out3_2 (F := Ideal) (iblk3 V c 0 t) (iblk3 V c 1 t)) (eq_ix3_0 y)).trans ((out3_at _ _ (y 1) (y 2)).trans
    (Finset.sum_congr rfl fun r _ => congrArg₂ (· * ·) (blk3_0 V c t r (y 1)) (blk3_1 V c t r (y 2))))

/-! ### What the arrays hold at the end -/

/-- The first pipeline: the hidden rows. -/
theorem final0 (c : Dev nD) : (dat0 V c).arrAt 2 cfg0.N
    = fun y : S4096x4096.Idx => fUp (V c main_v12) (V c main_arg2) (y 0) (blk (y 1)) (lane (y 1)) := by
  refine (dat0 V c).arrAt_eq_of_covers 2 _ (by decide +kernel) fun t hf y => ?_
  blk_simp
  rw [after0_2]
  refine (point0 V c t y).trans ?_
  congr 1
  · apply Fin.ext; blk_simp [idx0 t, at512, pt0]; simp; try omega
  · congr 1; apply Fin.ext; blk_simp [idx0 t]
  · congr 1; apply Fin.ext; blk_simp [idx0 t]

/-- The second pipeline: the hidden rows' cotangent. -/
theorem final1 (c : Dev nD) : (dat1 V c).arrAt 3 cfg1.N
    = fun y : S4096x4096.Idx => fDup (V c main_v14) (V c main_arg3) (V c main_v13) (y 0) (blk (y 1)) (lane (y 1)) := by
  refine (dat1 V c).arrAt_eq_of_covers 3 _ (by decide +kernel) fun t hf y => ?_
  blk_simp
  rw [after1_3]
  refine (point1 V c t y).trans ?_
  congr 1
  · apply Fin.ext; blk_simp [idx1 t, at512, pt1]; simp; try omega
  · congr 1; apply Fin.ext; blk_simp [idx1 t]
  · congr 1; apply Fin.ext; blk_simp [idx1 t]

/-- The third pipeline: the second weight's cotangent. -/
theorem final2 (c : Dev nD) : (dat2 V c).arrAt 2 cfg2.N
    = fun y : S4096x1024.Idx => fDown (V c main_v13) (V c main_v14) (y 0) (y 1) := by
  refine (dat2 V c).arrAt_eq_of_covers 2 _ (by decide +kernel) fun t hf y => ?_
  blk_simp
  rw [after2_2]
  refine (point2 V c t y).trans ?_
  congr 1
  · apply Fin.ext; blk_simp [idx2 t, at512, pt2]; simp; try omega
  · apply Fin.ext; blk_simp [idx2 t]

/-- The fourth pipeline: the first weight's cotangent. -/
theorem final3 (c : Dev nD) : (dat3 V c).arrAt 2 cfg3.N
    = fun y : S8x1024x512.Idx => fGUp (V c main_v12) (V c main_v15) (y 0) (y 1) (y 2) := by
  refine (dat3 V c).arrAt_eq_of_covers 2 _ (by decide +kernel) fun t hf y => ?_
  blk_simp
  rw [after3_2]
  refine (point3 V c t y).trans ?_
  have h0 : (y 0).val < 1 := (y 0).isLt
  congr 1
  · apply Fin.ext; blk_simp [idx3 t, pt3]; try simp; try omega
  · apply Fin.ext; blk_simp [idx3 t]
  · apply Fin.ext; blk_simp [idx3 t]

end Cert.Kernel2Ideal.Body

end
-- ==== Proof.MlpOuts.lean ====
/-
  What the fifth kernel's body leaves in its four outputs' staging buffers at one grid point: the rows' cotangent in two
  formats, and two accumulators (zero before the first point) with the point's part added.
-/
module

public import proofs.«01_k».proof.Proof.MlpBody
public import Idealize.ShloMosaic.Lib.Tactic

@[expose] public section

set_option maxRecDepth 16384

noncomputable section

namespace Cert.Kernel2Ideal.Body

open Cert.Kernel2Ideal Cert.Kernel2Ideal.Gen Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

variable (I : In)

/-- The rows' cotangent at the first point. -/
theorem outA5 (c : Dev nD) (i : grid4.Coords) (a1 : Memref sig .tc .vmem S512x4096 .bf16) (h1 : a1.IsWhole) (a2 : Memref sig .tc .vmem S8x1024x512 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole) (a9 : Memref sig .tc .vmem S1x1024 .f32) (h9 : a9.IsWhole) (hc : cond4_0 i) :
    out4_A_5 c i a1 h1 a2 h2 a3 h3 a4 h4 a5 h5 a6 h6 a7 h7 a8 h8 a9 h9 hc I.du I.wu I.h I.g I.dh = v85 I := by
  unfold out4_A_5
  rw [View.read_writes_eq_canon _ _ _ (cover4_A_5 c i a1 h1 a2 h2 a3 h3 a4 h4 a5 h5 a6 h6 a7 h7 a8 h8 a9 h9 hc I.du I.wu I.h I.g I.dh)]
  unfold kernelRun4_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, View.ld_unit_zero (S := S512x1024) hz2, View.ld_unit_zero (S := S1x1024) hz2, shapeCast_self]
  rfl

/-- The rows' cotangent in the narrow format at the first point. -/
theorem outA6 (c : Dev nD) (i : grid4.Coords) (a1 : Memref sig .tc .vmem S512x4096 .bf16) (h1 : a1.IsWhole) (a2 : Memref sig .tc .vmem S8x1024x512 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole) (a9 : Memref sig .tc .vmem S1x1024 .f32) (h9 : a9.IsWhole) (hc : cond4_0 i) :
    out4_A_6 c i a1 h1 a2 h2 a3 h3 a4 h4 a5 h5 a6 h6 a7 h7 a8 h8 a9 h9 hc I.du I.wu I.h I.g I.dh = k4_pay10 (v48 I) I.h I.g (k4_pay7 I.h) (k4_pay8 I.h) I.dh := by
  unfold out4_A_6
  rw [View.read_writes_eq_canon _ _ _ (cover4_A_6 c i a1 h1 a2 h2 a3 h3 a4 h4 a5 h5 a6 h6 a7 h7 a8 h8 a9 h9 hc I.du I.wu I.h I.g I.dh)]
  unfold kernelRun4_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, View.ld_unit_zero (S := S512x1024) hz2, View.ld_unit_zero (S := S1x1024) hz2, shapeCast_self]
  rfl

/-- The gain's accumulator at the first point. -/
theorem outA7 (c : Dev nD) (i : grid4.Coords) (a1 : Memref sig .tc .vmem S512x4096 .bf16) (h1 : a1.IsWhole) (a2 : Memref sig .tc .vmem S8x1024x512 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole) (a9 : Memref sig .tc .vmem S1x1024 .f32) (h9 : a9.IsWhole) (hc : cond4_0 i) :
    out4_A_7 c i a1 h1 a2 h2 a3 h3 a4 h4 a5 h5 a6 h6 a7 h7 a8 h8 a9 h9 hc I.du I.wu I.h I.g I.dh = k4_pay13 (v48 I) I.h (k4_pay7 I.h) (k4_pay11 (F := Ideal)) := by
  unfold out4_A_7
  rw [View.read_writes_eq_canon _ _ _ (cover4_A_7 c i a1 h1 a2 h2 a3 h3 a4 h4 a5 h5 a6 h6 a7 h7 a8 h8 a9 h9 hc I.du I.wu I.h I.g I.dh)]
  unfold kernelRun4_A
  dsimp only
  sl_unfold_words
  rw [View.canon_cons_unit_zero (S := S1x1024) hz2, View.readCov_unit_zero (S := S1x1024) _ hz2]
  simp only [View.readAt_eq_ld, h1.read_unread, h2.read_unread, h3.read_unread, h4.read_unread, h5.read_unread, h6.read_unread, h7.read_unread, h8.read_unread, h9.read_unread, View.ld_unit_zero (S := S512x1024) hz2, View.ld_unit_zero (S := S1x1024) hz2, shapeCast_self]
  rfl

/-- The column sums' accumulator at the first point. -/
theorem outA8 (c : Dev nD) (i : grid4.Coords) (a1 : Memref sig .tc .vmem S512x4096 .bf16) (h1 : a1.IsWhole) (a2 : Memref sig .tc .vmem S8x1024x512 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole) (a9 : Memref sig .tc .vmem S1x1024 .f32) (h9 : a9.IsWhole) (hc : cond4_0 i) :
    out4_A_8 c i a1 h1 a2 h2 a3 h3 a4 h4 a5 h5 a6 h6 a7 h7 a8 h8 a9 h9 hc I.du I.wu I.h I.g I.dh = k4_pay1 (k4_pay14 (k4_pay12 (F := Ideal))) (k4_pay15 (v48 I) I.h I.g (k4_pay7 I.h) (k4_pay8 I.h) I.dh) := by
  unfold out4_A_8
  rw [View.read_writes_eq_canon _ _ _ (cover4_A_8 c i a1 h1 a2 h2 a3 h3 a4 h4 a5 h5 a6 h6 a7 h7 a8 h8 a9 h9 hc I.du I.wu I.h I.g I.dh)]
  unfold kernelRun4_A
  dsimp only
  sl_unfold_words
  rw [View.canon_cons_unit_zero (S := S1x1024) hz2, View.readCov_unit_zero (S := S1x1024) _ hz2]
  simp only [View.readAt_eq_ld, h1.read_unread, h2.read_unread, h3.read_unread, h4.read_unread, h5.read_unread, h6.read_unread, h7.read_unread, h8.read_unread, h9.read_unread, View.ld_unit_zero (S := S512x1024) hz2, View.ld_unit_zero (S := S1x1024) hz2, shapeCast_self]
  rfl

/-- The rows' cotangent at a later point. -/
theorem outB5 (c : Dev nD) (i : grid4.Coords) (a1 : Memref sig .tc .vmem S512x4096 .bf16) (h1 : a1.IsWhole) (a2 : Memref sig .tc .vmem S8x1024x512 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole) (a9 : Memref sig .tc .vmem S1x1024 .f32) (h9 : a9.IsWhole) (hc : ¬cond4_0 i) (o7 o8 : Vec Ideal S1x1024 .f32) :
    out4_B_5 c i a1 h1 a2 h2 a3 h3 a4 h4 a5 h5 a6 h6 a7 h7 a8 h8 a9 h9 hc I.du I.wu I.h I.g I.dh o7 o8 = v85 I := by
  unfold out4_B_5
  rw [View.read_writes_eq_canon _ _ _ (cover4_B_5 c i a1 h1 a2 h2 a3 h3 a4 h4 a5 h5 a6 h6 a7 h7 a8 h8 a9 h9 hc I.du I.wu I.h I.g I.dh o7 o8)]
  unfold kernelRun4_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, View.ld_unit_zero (S := S512x1024) hz2, View.ld_unit_zero (S := S1x1024) hz2, shapeCast_self]
  rfl

/-- The rows' cotangent in the narrow format at a later point. -/
theorem outB6 (c : Dev nD) (i : grid4.Coords) (a1 : Memref sig .tc .vmem S512x4096 .bf16) (h1 : a1.IsWhole) (a2 : Memref sig .tc .vmem S8x1024x512 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole) (a9 : Memref sig .tc .vmem S1x1024 .f32) (h9 : a9.IsWhole) (hc : ¬cond4_0 i) (o7 o8 : Vec Ideal S1x1024 .f32) :
    out4_B_6 c i a1 h1 a2 h2 a3 h3 a4 h4 a5 h5 a6 h6 a7 h7 a8 h8 a9 h9 hc I.du I.wu I.h I.g I.dh o7 o8 = k4_pay10 (v48 I) I.h I.g (k4_pay7 I.h) (k4_pay8 I.h) I.dh := by
  unfold out4_B_6
  rw [View.read_writes_eq_canon _ _ _ (cover4_B_6 c i a1 h1 a2 h2 a3 h3 a4 h4 a5 h5 a6 h6 a7 h7 a8 h8 a9 h9 hc I.du I.wu I.h I.g I.dh o7 o8)]
  unfold kernelRun4_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, View.ld_unit_zero (S := S512x1024) hz2, View.ld_unit_zero (S := S1x1024) hz2, shapeCast_self]
  rfl

/-- The gain's accumulator at a later point. -/
theorem outB7 (c : Dev nD) (i : grid4.Coords) (a1 : Memref sig .tc .vmem S512x4096 .bf16) (h1 : a1.IsWhole) (a2 : Memref sig .tc .vmem S8x1024x512 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole) (a9 : Memref sig .tc .vmem S1x1024 .f32) (h9 : a9.IsWhole) (hc : ¬cond4_0 i) (o7 o8 : Vec Ideal S1x1024 .f32) :
    out4_B_7 c i a1 h1 a2 h2 a3 h3 a4 h4 a5 h5 a6 h6 a7 h7 a8 h8 a9 h9 hc I.du I.wu I.h I.g I.dh o7 o8 = k4_pay13 (v48 I) I.h (k4_pay7 I.h) o7 := by
  unfold out4_B_7
  rw [View.read_writes_eq_canon _ _ _ (cover4_B_7 c i a1 h1 a2 h2 a3 h3 a4 h4 a5 h5 a6 h6 a7 h7 a8 h8 a9 h9 hc I.du I.wu I.h I.g I.dh o7 o8)]
  unfold kernelRun4_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, View.ld_unit_zero (S := S512x1024) hz2, View.ld_unit_zero (S := S1x1024) hz2, shapeCast_self]
  rfl

/-- The column sums' accumulator at a later point. -/
theorem outB8 (c : Dev nD) (i : grid4.Coords) (a1 : Memref sig .tc .vmem S512x4096 .bf16) (h1 : a1.IsWhole) (a2 : Memref sig .tc .vmem S8x1024x512 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole) (a9 : Memref sig .tc .vmem S1x1024 .f32) (h9 : a9.IsWhole) (hc : ¬cond4_0 i) (o7 o8 : Vec Ideal S1x1024 .f32) :
    out4_B_8 c i a1 h1 a2 h2 a3 h3 a4 h4 a5 h5 a6 h6 a7 h7 a8 h8 a9 h9 hc I.du I.wu I.h I.g I.dh o7 o8 = k4_pay1 (k4_pay14 o8) (k4_pay15 (v48 I) I.h I.g (k4_pay7 I.h) (k4_pay8 I.h) I.dh) := by
  unfold out4_B_8
  rw [View.read_writes_eq_canon _ _ _ (cover4_B_8 c i a1 h1 a2 h2 a3 h3 a4 h4 a5 h5 a6 h6 a7 h7 a8 h8 a9 h9 hc I.du I.wu I.h I.g I.dh o7 o8)]
  unfold kernelRun4_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, View.ld_unit_zero (S := S512x1024) hz2, View.ld_unit_zero (S := S1x1024) hz2, shapeCast_self]
  rfl

end Cert.Kernel2Ideal.Body

end
-- ==== Proof.MlpAcc.lean ====
/-
  What the fifth pipeline of the layer's MLP leaves in its four output arrays: the rows' cotangent, twice, and two sums
  over all rows that eight grid points add up.
-/
module

public import proofs.«01_k».proof.Proof.MlpOuts
public import Idealize.ShloMosaic.Lib.Pipeline.ValueKit

@[expose] public section

set_option maxRecDepth 16384

noncomputable section

namespace Cert.Kernel2Ideal.Body

open Cert.Kernel2Ideal Cert.Kernel2Ideal.Gen Idealize.ShloMosaic Idealize.ShloMosaic.TcCoe Idealize.SL.Sem Cert.Mlp
open Idealize.ShloMosaic.Pipeline (Dat)

variable (V : (c : Dev nD) → (b : Ref sig .tc) → Buf (Elt Ideal) ((c : Thread nD τ).loc b))

/-- The index maps of the staged windows. -/
theorem idx4 : ∀ t : Fin cfg4.N, win4_0.index t = ![t.val, 0] ∧ win4_1.index t = ![0, 0, 0] ∧ win4_2.index t = ![t.val, 0]
    ∧ win4_3.index t = ![0, 0] ∧ win4_4.index t = ![t.val, 0] ∧ win4_5.index t = ![t.val, 0] ∧ win4_6.index t = ![t.val, 0] :=
  (by decide +kernel : ∀ t : Fin grid4.N, _)

/-- A grid point's number, below 8. -/
def pt4 (t : Fin cfg4.N) : Fin 8 := ⟨t.val, t.isLt⟩

/-- The arrays the pipeline leaves, as functions of the arrays it takes. -/
def fDy (D : Vec Ideal S4096x4096 .bf16) (W : Vec Ideal S8x1024x512 .bf16) (r : Fin 4096) (k : Fin 1024) : EReal :=
  ∑ b : Fin 8, ∑ j : Fin 512, D (ix2 r (at512 b j)) * W (ix3 b k j)
def fRow (X : Vec Ideal S4096x1024 .f32) (r : Fin 4096) (k : Fin 1024) : EReal := X (ix2 r k)
def fGain (g : Vec Ideal S1x1024 .f32) (k : Fin 1024) : EReal := g (ix2 0 k)

/-- The input blocks of grid point `t`. -/
def inp (c : Dev nD) (t : Fin cfg4.N) : In := ⟨iblk4 V c 0 t, iblk4 V c 1 t, iblk4 V c 2 t, iblk4 V c 3 t, iblk4 V c 4 t⟩

/-- The row's cotangent, from the arrays. -/
abbrev rowAt (c : Dev nD) (r : Fin 4096) (k : Fin 1024) : EReal :=
  dRow (fRow (V c main_arg0) r) (fGain (V c main_arg1)) (fDy (V c main_v15) (V c main_arg2) r) (fRow (V c main_arg4) r) k
/-- One row's part of the gain's cotangent, from the arrays. -/
abbrev gainAt (c : Dev nD) (r : Fin 4096) (k : Fin 1024) : EReal :=
  Mlp.unit (fRow (V c main_arg0) r) k * fDy (V c main_v15) (V c main_arg2) r k

theorem blk4_0 (c : Dev nD) (t : Fin cfg4.N) (r : Fin 512) (k : Fin 4096) :
    (iblk4 V c 0 t : Vec Ideal S512x4096 .bf16) (ix2 r k) = (V c main_v15 : Vec Ideal S4096x4096 .bf16) (ix2 (at512 (pt4 t) r) k) := by
  blk_ext! [iblk4, idx4 t, at512, pt4]
theorem blk4_1 (c : Dev nD) (t : Fin cfg4.N) (b : Fin 8) (k : Fin 1024) (j : Fin 512) :
    (iblk4 V c 1 t : Vec Ideal S8x1024x512 .bf16) (ix3 b k j) = (V c main_arg2 : Vec Ideal S8x1024x512 .bf16) (ix3 b k j) := by
  blk_ext! [iblk4, idx4 t]
theorem blk4_2 (c : Dev nD) (t : Fin cfg4.N) (r : Fin 512) (k : Fin 1024) :
    (iblk4 V c 2 t : Vec Ideal S512x1024 .f32) (ix2 r k) = (V c main_arg0 : Vec Ideal S4096x1024 .f32) (ix2 (at512 (pt4 t) r) k) := by
  blk_ext! [iblk4, idx4 t, at512, pt4]
theorem blk4_3 (c : Dev nD) (t : Fin cfg4.N) (k : Fin 1024) :
    (iblk4 V c 3 t : Vec Ideal S1x1024 .f32) (ix2 0 k) = (V c main_arg1 : Vec Ideal S1x1024 .f32) (ix2 0 k) := by
  blk_ext! [iblk4, idx4 t]
theorem blk4_4 (c : Dev nD) (t : Fin cfg4.N) (r : Fin 512) (k : Fin 1024) :
    (iblk4 V c 4 t : Vec Ideal S512x1024 .f32) (ix2 r k) = (V c main_arg4 : Vec Ideal S4096x1024 .f32) (ix2 (at512 (pt4 t) r) k) := by
  blk_ext! [iblk4, idx4 t, at512, pt4]

theorem inp_dy (c : Dev nD) (t : Fin cfg4.N) (r : Fin 512) :
    dyI (inp V c t) r = fDy (V c main_v15) (V c main_arg2) (at512 (pt4 t) r) :=
  funext fun k => Finset.sum_congr rfl fun b _ => Finset.sum_congr rfl fun j _ =>
    congrArg₂ (· * ·) (blk4_0 V c t r (at512 b j)) (blk4_1 V c t b k j)
theorem inp_h (c : Dev nD) (t : Fin cfg4.N) (r : Fin 512) : hI (inp V c t) r = fRow (V c main_arg0) (at512 (pt4 t) r) :=
  funext fun k => blk4_2 V c t r k
theorem inp_g (c : Dev nD) (t : Fin cfg4.N) : gI (inp V c t) = fGain (V c main_arg1) :=
  funext fun k => blk4_3 V c t k
theorem inp_e (c : Dev nD) (t : Fin cfg4.N) (r : Fin 512) : eI (inp V c t) r = fRow (V c main_arg4) (at512 (pt4 t) r) :=
  funext fun k => blk4_4 V c t r k

/-- A point's row, from the arrays. -/
theorem inp_row (c : Dev nD) (t : Fin cfg4.N) (r : Fin 512) (k : Fin 1024) :
    dRow (hI (inp V c t) r) (gI (inp V c t)) (dyI (inp V c t) r) (eI (inp V c t) r) k = rowAt V c (at512 (pt4 t) r) k := by
  rw [inp_dy, inp_h, inp_g, inp_e]
theorem inp_gain (c : Dev nD) (t : Fin cfg4.N) (r : Fin 512) (k : Fin 1024) :
    Mlp.unit (hI (inp V c t) r) k * dyI (inp V c t) r k = gainAt V c (at512 (pt4 t) r) k := by
  rw [inp_dy, inp_h]

/-! ### The rows' cotangent -/

theorem outs5 (c : Dev nD) (t : Fin cfg4.N) (y : S512x1024.Idx) :
    (outsAt4 V c t.val t.isLt).1 y = rowAt V c (at512 (pt4 t) (y 0)) (y 1) := by
  have e : (outsAt4 V c t.val t.isLt).1 = v85 (inp V c t) := by
    by_cases h : t.val % 8 = 0
    · rw [outsAt4_A V c t h]; dsimp only; exact outA5 (inp V c t) ..
    · rw [outsAt4_B V c t h]; dsimp only; exact outB5 (inp V c t) ..
  rw [e]
  exact (congrArg (v85 (inp V c t)) (eq_ix2 y)).trans ((v85_at (inp V c t) (y 0) (y 1)).trans (inp_row V c t (y 0) (y 1)))

theorem outs6 (c : Dev nD) (t : Fin cfg4.N) (y : S512x1024.Idx) :
    (outsAt4 V c t.val t.isLt).2.1 y = rowAt V c (at512 (pt4 t) (y 0)) (y 1) := by
  have e : (outsAt4 V c t.val t.isLt).2.1 = k4_pay10 (v48 (inp V c t)) (inp V c t).h (inp V c t).g (k4_pay7 (inp V c t).h)
      (k4_pay8 (inp V c t).h) (inp V c t).dh := by
    by_cases h : t.val % 8 = 0
    · rw [outsAt4_A V c t h]; dsimp only; exact outA6 (inp V c t) ..
    · rw [outsAt4_B V c t h]; dsimp only; exact outB6 (inp V c t) ..
  rw [e]
  exact (congrArg (k4_pay10 (v48 (inp V c t)) (inp V c t).h (inp V c t).g (k4_pay7 (inp V c t).h)
      (k4_pay8 (inp V c t).h) (inp V c t).dh) (eq_ix2 y)).trans ((v87_at (inp V c t) (y 0) (y 1)).trans (inp_row V c t (y 0) (y 1)))

/-- The rows' cotangent. -/
theorem final4_5 (c : Dev nD) : (dat4 V c).arrAt 5 cfg4.N = fun y : S4096x1024.Idx => rowAt V c (y 0) (y 1) := by
  refine (dat4 V c).arrAt_eq_of_covers 5 _ (by decide +kernel) fun t hf y => ?_
  blk_simp
  rw [after4_5]
  refine (outs5 V c t y).trans ?_
  refine congrArg₂ (rowAt V c) (Fin.ext ?_) (Fin.ext ?_)
  · blk_simp [idx4 t, at512, pt4]; try simp; try omega
  · blk_simp [idx4 t]

/-- The rows' cotangent in the narrow format. -/
theorem final4_6 (c : Dev nD) : (dat4 V c).arrAt 6 cfg4.N = fun y : S4096x1024.Idx => rowAt V c (y 0) (y 1) := by
  refine (dat4 V c).arrAt_eq_of_covers 6 _ (by decide +kernel) fun t hf y => ?_
  blk_simp
  rw [after4_6]
  refine (outs6 V c t y).trans ?_
  refine congrArg₂ (rowAt V c) (Fin.ext ?_) (Fin.ext ?_)
  · blk_simp [idx4 t, at512, pt4]; try simp; try omega
  · blk_simp [idx4 t]

/-! ### The two sums -/

theorem first7 (c : Dev nD) (t : Fin cfg4.N) (h : t.val % 8 = 0) (k : Fin 1024) :
    (outsAt4 V c t.val t.isLt).2.2.1 (ix2 0 k) = ∑ r, gainAt V c (at512 (pt4 t) r) k := by
  have e : (outsAt4 V c t.val t.isLt).2.2.1
      = k4_pay13 (v48 (inp V c t)) (inp V c t).h (k4_pay7 (inp V c t).h) (k4_pay11 (F := Ideal)) := by
    rw [outsAt4_A V c t h]; dsimp only; exact outA7 (inp V c t) ..
  rw [e, v94_at, zero7_at, zero_add]
  exact Finset.sum_congr rfl fun r _ => inp_gain V c t r k

theorem next7 (c : Dev nD) (t : Fin cfg4.N) (h : ¬t.val % 8 = 0) (k : Fin 1024) :
    (outsAt4 V c t.val t.isLt).2.2.1 (ix2 0 k)
      = (outsAt4 V c (t.val - 1) (Nat.lt_of_le_of_lt (Nat.sub_le _ _) t.isLt)).2.2.1 (ix2 0 k) + ∑ r, gainAt V c (at512 (pt4 t) r) k := by
  have e : (outsAt4 V c t.val t.isLt).2.2.1 = k4_pay13 (v48 (inp V c t)) (inp V c t).h (k4_pay7 (inp V c t).h)
      (outsAt4 V c (t.val - 1) (Nat.lt_of_le_of_lt (Nat.sub_le _ _) t.isLt)).2.2.1 := by
    rw [outsAt4_B V c t h]; dsimp only; exact outB7 (inp V c t) ..
  rw [e, v94_at]
  exact congrArg (_ + ·) (Finset.sum_congr rfl fun r _ => inp_gain V c t r k)

theorem first8 (c : Dev nD) (t : Fin cfg4.N) (h : t.val % 8 = 0) (k : Fin 1024) :
    (outsAt4 V c t.val t.isLt).2.2.2 (ix2 0 k) = ∑ r, rowAt V c (at512 (pt4 t) r) k := by
  have e : (outsAt4 V c t.val t.isLt).2.2.2 = k4_pay1 (k4_pay14 (k4_pay12 (F := Ideal)))
      (k4_pay15 (v48 (inp V c t)) (inp V c t).h (inp V c t).g (k4_pay7 (inp V c t).h) (k4_pay8 (inp V c t).h) (inp V c t).dh) := by
    rw [outsAt4_A V c t h]; dsimp only; exact outA8 (inp V c t) ..
  rw [e, v100_at, zero8_at, zero_add]
  exact Finset.sum_congr rfl fun r _ => inp_row V c t r k

theorem next8 (c : Dev nD) (t : Fin cfg4.N) (h : ¬t.val % 8 = 0) (k : Fin 1024) :
    (outsAt4 V c t.val t.isLt).2.2.2 (ix2 0 k)
      = (outsAt4 V c (t.val - 1) (Nat.lt_of_le_of_lt (Nat.sub_le _ _) t.isLt)).2.2.2 (ix2 0 k) + ∑ r, rowAt V c (at512 (pt4 t) r) k := by
  have e : (outsAt4 V c t.val t.isLt).2.2.2
      = k4_pay1 (k4_pay14 (outsAt4 V c (t.val - 1) (Nat.lt_of_le_of_lt (Nat.sub_le _ _) t.isLt)).2.2.2)
      (k4_pay15 (v48 (inp V c t)) (inp V c t).h (inp V c t).g (k4_pay7 (inp V c t).h) (k4_pay8 (inp V c t).h) (inp V c t).dh) := by
    rw [outsAt4_B V c t h]; dsimp only; exact outB8 (inp V c t) ..
  rw [e, v100_at]
  exact congrArg (_ + ·) (Finset.sum_congr rfl fun r _ => inp_row V c t r k)

theorem sum7 (c : Dev nD) (k : Fin 1024) : ∀ (n : ℕ) (h : n < cfg4.N), (outsAt4 V c n h).2.2.1 (ix2 0 k)
      = ∑ s : Fin (n + 1), ∑ r, gainAt V c (at512 (pt4 ⟨s, Nat.lt_of_le_of_lt (Nat.le_of_lt_succ s.isLt) h⟩) r) k
  | 0, h => by
    refine (first7 V c ⟨0, h⟩ rfl k).trans ?_
    rw [Fin.sum_univ_one]; rfl
  | n + 1, h => by
    have hN : cfg4.N = 8 := N_4
    refine (next7 V c ⟨n + 1, h⟩ (by dsimp only; omega) k).trans ?_
    refine .trans ?_ (Fin.sum_univ_castSucc _).symm
    exact congrArg (· + _) (sum7 c k n (Nat.lt_of_succ_lt h))

theorem sum8 (c : Dev nD) (k : Fin 1024) : ∀ (n : ℕ) (h : n < cfg4.N), (outsAt4 V c n h).2.2.2 (ix2 0 k)
      = ∑ s : Fin (n + 1), ∑ r, rowAt V c (at512 (pt4 ⟨s, Nat.lt_of_le_of_lt (Nat.le_of_lt_succ s.isLt) h⟩) r) k
  | 0, h => by
    refine (first8 V c ⟨0, h⟩ rfl k).trans ?_
    rw [Fin.sum_univ_one]; rfl
  | n + 1, h => by
    have hN : cfg4.N = 8 := N_4
    refine (next8 V c ⟨n + 1, h⟩ (by dsimp only; omega) k).trans ?_
    refine .trans ?_ (Fin.sum_univ_castSucc _).symm
    exact congrArg (· + _) (sum8 c k n (Nat.lt_of_succ_lt h))

/-- The last grid point. -/
def lastPt : Fin cfg4.N := ⟨7, by rw [show cfg4.N = 8 from N_4]; norm_num⟩

/-- The sum over the points' rows is the sum over all rows. -/
theorem sum_pts (f : Fin 4096 → EReal) (t : Fin cfg4.N) (h : t.val = 7) :
    ∑ s : Fin (t.val + 1), ∑ r, f (at512 (pt4 ⟨s, Nat.lt_of_le_of_lt (Nat.le_of_lt_succ s.isLt) t.isLt⟩) r) = ∑ r, f r := by
  rw [sum_at512]
  obtain ⟨n, hn⟩ := t
  simp only at h
  subst h
  rfl

/-- The gain's cotangent: the sum over all rows. -/
theorem final4_7 (c : Dev nD) : (dat4 V c).arrAt 7 cfg4.N = fun y : S1x1024.Idx => ∑ r, gainAt V c r (y 1) := by
  refine (dat4 V c).arrAt_eq_of_after_last 7 lastPt (by decide +kernel) _ fun j => ?_
  rw [after4_7]
  have hj : ∀ h : ∀ a, (j a).val < _, (fun a => ⟨j a, h a⟩ : S1x1024.Idx) = ix2 0 (j 1) := fun h => by
    funext a; fin_cases a
    · exact Fin.ext (by have := (j 0).isLt; simp at this ⊢)
    · rfl
  refine (congrArg (outsAt4 V c lastPt.val lastPt.isLt).2.2.1 (hj _)).trans ((sum7 V c (j 1) _ _).trans ?_)
  exact sum_pts (fun r => gainAt V c r (j 1)) lastPt rfl

/-- The column sums: the sum over all rows. -/
theorem final4_8 (c : Dev nD) : (dat4 V c).arrAt 8 cfg4.N = fun y : S1x1024.Idx => ∑ r, rowAt V c r (y 1) := by
  refine (dat4 V c).arrAt_eq_of_after_last 8 lastPt (by decide +kernel) _ fun j => ?_
  rw [after4_8]
  have hj : ∀ h : ∀ a, (j a).val < _, (fun a => ⟨j a, h a⟩ : S1x1024.Idx) = ix2 0 (j 1) := fun h => by
    funext a; fin_cases a
    · exact Fin.ext (by have := (j 0).isLt; simp at this ⊢)
    · rfl
  refine (congrArg (outsAt4 V c lastPt.val lastPt.isLt).2.2.2 (hj _)).trans ((sum8 V c (j 1) _ _).trans ?_)
  exact sum_pts (fun r => rowAt V c r (j 1)) lastPt rfl

end Cert.Kernel2Ideal.Body

end
-- ==== Proof.MlpArg.lean ====
/-
  The arguments of the layer's MLP, as the arrays of either program, over plain coordinates.
-/
module

public import proofs.«01_k».proof.Proof.MlpSpec
public import Idealize.ShloMosaic.Lib.Pointwise

@[expose] public section

noncomputable section

namespace Cert.Mlp

open Idealize.ShloMosaic

/-- The arguments over plain coordinates. -/
def argOf (x0 : Vec Ideal ⟨2, ![4096, 1024]⟩ .f32) (x1 : Vec Ideal ⟨2, ![1, 1024]⟩ .f32) (x2 : Vec Ideal ⟨3, ![8, 1024, 512]⟩ .bf16)
    (x3 : Vec Ideal ⟨3, ![8, 512, 1024]⟩ .bf16) (x4 : Vec Ideal ⟨2, ![4096, 1024]⟩ .f32) : Arg :=
  ⟨fun r k => x0 (ix2 r k), fun k => x1 (ix2 0 k), fun b k j => x2 (ix3 b k j), fun b j k => x3 (ix3 b j k), fun r k => x4 (ix2 r k)⟩

end Cert.Mlp

end
-- ==== Proof.MlpChain.lean ====
/-
  What the run of the layer's MLP leaves in its result buffers, as functions of the arguments: each pipeline's arrays are
  read back through the pipelines and host operations before it.
-/
module

public import proofs.«01_k».proof.Proof.MlpRun
public import proofs.«01_k».proof.Proof.MlpFinal
public import proofs.«01_k».proof.Proof.MlpAcc
public import proofs.«01_k».proof.Proof.MlpArg
public import Idealize.ShloMosaic.Lib.StableHlo.ReadAt

@[expose] public section

set_option maxRecDepth 16384

noncomputable section

namespace Cert.Kernel2Ideal.Body

open Cert.Kernel2Ideal Cert.Kernel2Ideal.Gen Idealize.ShloMosaic Idealize.ShloMosaic.TcCoe Idealize.SL.Sem Cert.Mlp

variable (m : (ℓ : Loc nD τ sig) → Buf (Elt Ideal) ℓ) (ρ : Dev nD → PrngReg)

/-- A device's arguments. -/
def args (c : Dev nD) : Arg :=
  argOf (m ((c : Thread nD τ).loc main_arg0)) (m ((c : Thread nD τ).loc main_arg1)) (m ((c : Thread nD τ).loc main_arg2))
    (m ((c : Thread nD τ).loc main_arg3)) (m ((c : Thread nD τ).loc main_arg4))

/-- The normalised rows, after the first host operations. -/
theorem y_at (c : Dev nD) (r : Fin 4096) (k : Fin 1024) :
    (V1 m ρ c main_v12 : Vec Ideal S4096x1024 .bf16) (ix2 r k) = norm ((args m c).h r) (args m c).g k := by
  show (W1 m ρ c (Proc.devRef .tc main_v12) : Vec Ideal S4096x1024 .bf16) (ix2 r k) = _
  unfold W1
  after_reads_at
  rfl

/-- The cotangent in the narrow format, after the second. -/
theorem d_at (c : Dev nD) (r : Fin 4096) (k : Fin 1024) :
    (V3 m ρ c main_v14 : Vec Ideal S4096x1024 .bf16) (ix2 r k) = (args m c).dh r k := by
  show (W3 m ρ c (Proc.devRef .tc main_v14) : Vec Ideal S4096x1024 .bf16) (ix2 r k) = _
  unfold W3
  after_reads_at
  exact congrFun (W2_args m ρ c main_arg4 (by decide)) (ix2 r k)

/-! ### The hidden rows -/

theorem up2 (c : Dev nD) : (V2 m ρ c main_v13 : Vec Ideal S4096x4096 .bf16)
    = fun y : S4096x4096.Idx => up (args m c) (y 0) (blk (y 1)) (lane (y 1)) :=
  (W2_arr m ρ c 2).trans ((final0 (V1 m ρ) c).trans (funext fun y => Finset.sum_congr rfl fun k _ =>
    congrArg₂ (· * ·) (y_at m ρ c (y 0) k) (congrFun (W1_args m ρ c main_arg2 (by decide)) (ix3 (blk (y 1)) k (lane (y 1))))))
theorem up3 (c : Dev nD) : (V3 m ρ c main_v13 : Vec Ideal S4096x4096 .bf16)
    = fun y : S4096x4096.Idx => up (args m c) (y 0) (blk (y 1)) (lane (y 1)) :=
  (W3_of m ρ c main_v13 (by decide)).trans (up2 m ρ c)
theorem up4 (c : Dev nD) : (V4 m ρ c main_v13 : Vec Ideal S4096x4096 .bf16)
    = fun y : S4096x4096.Idx => up (args m c) (y 0) (blk (y 1)) (lane (y 1)) :=
  (W4_of m ρ c main_v13 (by decide)).trans (up3 m ρ c)

/-- The hidden rows at an entry of a block. -/
theorem up_at {U : Vec Ideal S4096x4096 .bf16} {A : Arg} (h : U = fun y : S4096x4096.Idx => up A (y 0) (blk (y 1)) (lane (y 1)))
    (r : Fin 4096) (b : Fin 8) (j : Fin 512) : U (ix2 r (at512 b j)) = up A r b j :=
  (congrFun h _).trans (congrArg₂ (up A r) (blk_at512 b j) (lane_at512 b j))

/-! ### Their cotangent -/

theorem dup4 (c : Dev nD) : (V4 m ρ c main_v15 : Vec Ideal S4096x4096 .bf16)
    = fun y : S4096x4096.Idx => dup (args m c) (y 0) (blk (y 1)) (lane (y 1)) :=
  (W4_arr m ρ c 3).trans ((final1 (V3 m ρ) c).trans (funext fun y => congrArg₂ (· * ·)
    (Finset.sum_congr rfl fun k _ => congrArg₂ (· * ·) (d_at m ρ c (y 0) k)
      (congrFun (W3_args m ρ c main_arg3 (by decide)) (ix3 (blk (y 1)) (lane (y 1)) k)))
    (congrArg (fun x => Gmlp.cTwo * max x 0) (up_at (up3 m ρ c) (y 0) (blk (y 1)) (lane (y 1))))))
theorem dup5 (c : Dev nD) : (V5 m ρ c main_v15 : Vec Ideal S4096x4096 .bf16)
    = fun y : S4096x4096.Idx => dup (args m c) (y 0) (blk (y 1)) (lane (y 1)) :=
  (W5_of m ρ c main_v15 (by decide)).trans (dup4 m ρ c)
theorem dup6 (c : Dev nD) : (V6 m ρ c main_v15 : Vec Ideal S4096x4096 .bf16)
    = fun y : S4096x4096.Idx => dup (args m c) (y 0) (blk (y 1)) (lane (y 1)) :=
  (W6_of m ρ c main_v15 (by decide)).trans (dup5 m ρ c)

/-- Their cotangent at an entry of a block. -/
theorem dup_at {U : Vec Ideal S4096x4096 .bf16} {A : Arg} (h : U = fun y : S4096x4096.Idx => dup A (y 0) (blk (y 1)) (lane (y 1)))
    (r : Fin 4096) (b : Fin 8) (j : Fin 512) : U (ix2 r (at512 b j)) = dup A r b j :=
  (congrFun h _).trans (congrArg₂ (dup A r) (blk_at512 b j) (lane_at512 b j))

/-! ### The weights' cotangents -/

/-- The narrow cotangent is still there. -/
theorem d4 (c : Dev nD) (r : Fin 4096) (k : Fin 1024) :
    (V4 m ρ c main_v14 : Vec Ideal S4096x1024 .bf16) (ix2 r k) = (args m c).dh r k :=
  (congrFun (W4_of m ρ c main_v14 (by decide)) (ix2 r k)).trans (d_at m ρ c r k)
/-- The normalised rows are still there. -/
theorem y5 (c : Dev nD) (r : Fin 4096) (k : Fin 1024) :
    (V5 m ρ c main_v12 : Vec Ideal S4096x1024 .bf16) (ix2 r k) = norm ((args m c).h r) (args m c).g k :=
  (congrFun ((W5_of m ρ c main_v12 (by decide)).trans ((W4_of m ρ c main_v12 (by decide)).trans ((W3_of m ρ c main_v12 (by decide)).trans
    (W2_of m ρ c main_v12 (by decide))))) (ix2 r k)).trans (y_at m ρ c r k)

theorem down5 (c : Dev nD) : (V5 m ρ c main_v16 : Vec Ideal S4096x1024 .f32)
    = fun y : S4096x1024.Idx => gDown (args m c) (blk (y 0)) (lane (y 0)) (y 1) :=
  (W5_arr m ρ c 2).trans ((final2 (V4 m ρ) c).trans (funext fun y => Finset.sum_congr rfl fun t _ => by
    have e : (V4 m ρ c main_v13 : Vec Ideal S4096x4096 .bf16) (ix2 t (y 0)) = up (args m c) t (blk (y 0)) (lane (y 0)) :=
      congrFun (up4 m ρ c) (ix2 t (y 0))
    exact congrArg₂ (· * ·) (congrArg (fun x => max x 0 * max x 0) e) (d4 m ρ c t (y 1))))

theorem gup6 (c : Dev nD) : (V6 m ρ c main_v17 : Vec Ideal S8x1024x512 .f32)
    = fun y : S8x1024x512.Idx => gUp (args m c) (y 0) (y 1) (y 2) :=
  (W6_arr m ρ c 2).trans ((final3 (V5 m ρ) c).trans (funext fun y => Finset.sum_congr rfl fun t _ =>
    congrArg₂ (· * ·) (y5 m ρ c t (y 1)) (dup_at (dup5 m ρ c) t (y 0) (y 2))))

/-! ### The rows' cotangent and its sums -/

theorem dy6 (c : Dev nD) (r : Fin 4096) : fDy (V6 m ρ c main_v15) (V6 m ρ c main_arg2) r = dNorm (args m c) r :=
  funext fun k => Finset.sum_congr rfl fun b _ => Finset.sum_congr rfl fun j _ => congrArg₂ (· * ·) (dup_at (dup6 m ρ c) r b j)
    (congrFun (W6_args m ρ c main_arg2 (by decide)) (ix3 b k j))
theorem h6 (c : Dev nD) (r : Fin 4096) : fRow (V6 m ρ c main_arg0) r = (args m c).h r :=
  funext fun k => congrFun (W6_args m ρ c main_arg0 (by decide)) (ix2 r k)
theorem g6 (c : Dev nD) : fGain (V6 m ρ c main_arg1) = (args m c).g :=
  funext fun k => congrFun (W6_args m ρ c main_arg1 (by decide)) (ix2 0 k)
theorem e6 (c : Dev nD) (r : Fin 4096) : fRow (V6 m ρ c main_arg4) r = (args m c).dh r :=
  funext fun k => congrFun (W6_args m ρ c main_arg4 (by decide)) (ix2 r k)
theorem row6 (c : Dev nD) (r : Fin 4096) (k : Fin 1024) : rowAt (V6 m ρ) c r k = dH (args m c) r k := by
  unfold rowAt dH; rw [dy6, h6, g6, e6]
theorem gain6 (c : Dev nD) (r : Fin 4096) (k : Fin 1024) :
    gainAt (V6 m ρ) c r k = Mlp.unit ((args m c).h r) k * dNorm (args m c) r k := by
  unfold gainAt; rw [dy6, h6]

/-! ### The results at the end -/

theorem res0 (c : Dev nD) : (W7 m ρ c (Proc.devRef .tc main_v18_0) : Vec Ideal S4096x1024 .f32)
    = fun y : S4096x1024.Idx => dH (args m c) (y 0) (y 1) :=
  (W7_arr m ρ c 5).trans ((final4_5 (V6 m ρ) c).trans (funext fun y => row6 m ρ c (y 0) (y 1)))
theorem res1 (c : Dev nD) : (W7 m ρ c (Proc.devRef .tc main_v18_2) : Vec Ideal S1x1024 .f32)
    = fun y : S1x1024.Idx => dGain (args m c) (y 1) :=
  (W7_arr m ρ c 7).trans ((final4_7 (V6 m ρ) c).trans (funext fun y => Finset.sum_congr rfl fun r _ => gain6 m ρ c r (y 1)))
theorem res2 (c : Dev nD) : (W7 m ρ c (Proc.devRef .tc main_v17) : Vec Ideal S8x1024x512 .f32)
    = fun y : S8x1024x512.Idx => gUp (args m c) (y 0) (y 1) (y 2) :=
  (W7_of m ρ c main_v17 (by decide)).trans (gup6 m ρ c)
theorem res3 (c : Dev nD) : (W7 m ρ c (Proc.devRef .tc main_v16) : Vec Ideal S4096x1024 .f32)
    = fun y : S4096x1024.Idx => gDown (args m c) (blk (y 0)) (lane (y 0)) (y 1) :=
  (W7_of m ρ c main_v16 (by decide)).trans ((W6_of m ρ c main_v16 (by decide)).trans (down5 m ρ c))
theorem res4 (c : Dev nD) : (W7 m ρ c (Proc.devRef .tc main_v18_3) : Vec Ideal S1x1024 .f32)
    = fun y : S1x1024.Idx => colSum (args m c) (y 1) :=
  (W7_arr m ρ c 8).trans ((final4_8 (V6 m ρ) c).trans (funext fun y => Finset.sum_congr rfl fun r _ => row6 m ρ c r (y 1)))
theorem res5 (c : Dev nD) : (W7 m ρ c (Proc.devRef .tc main_v18_1) : Vec Ideal S4096x1024 .bf16)
    = fun y : S4096x1024.Idx => dH (args m c) (y 0) (y 1) :=
  (W7_arr m ρ c 6).trans ((final4_6 (V6 m ρ) c).trans (funext fun y => row6 m ρ c (y 0) (y 1)))

end Cert.Kernel2Ideal.Body

end
-- ==== Proof.ProjRun.lean ====
/-
  The run of the input projections, forward and backward, from the launch to the end: every buffer of the device ends at the
  contents that the fold over the six pipelines names.
-/
module

public import proofs.«01_k».proof.Proof.Gen.Kernel3Ideal.Frame
public import Idealize.ShloMosaic.Lib.Pointwise

@[expose] public section

set_option maxRecDepth 16384

noncomputable section

namespace Cert.Kernel3Ideal.Body

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- Every weakly fair execution ends, faults nowhere, and leaves every buffer at the fold's last contents. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

end Cert.Kernel3Ideal.Body

end
-- ==== Proof.ProjSpec.lean ====
/-
  The mathematics of an even layer's input projections and of their gradients, over extended reals and over plain
  coordinates. Both programs are read at these functions. No printed program is mentioned here.
-/
module

public import proofs.«01_k».proof.Proof.MlpSpec
public import Idealize.ShloMosaic.Lib.Pointwise

@[expose] public section

noncomputable section

namespace Cert.Proj

open Idealize.ShloMosaic Cert.Mlp

/-- The arguments over plain coordinates: the residual stream, the gain, the two weights, the two products' cotangents and the
    cotangent that passes the layer by. -/
structure Arg where
  h : Fin 4096 → Fin 1024 → EReal
  g : Fin 1024 → EReal
  wu : Fin 1024 → Fin 2048 → EReal
  wr : Fin 1024 → Fin 3200 → EReal
  du : Fin 4096 → Fin 2048 → EReal
  dr : Fin 4096 → Fin 3200 → EReal
  dh : Fin 4096 → Fin 1024 → EReal

/-- The arguments, as the arrays of either program. -/
def argOf (x0 : Vec Ideal ⟨2, ![4096, 1024]⟩ .f32) (x1 : Vec Ideal ⟨2, ![1, 1024]⟩ .f32) (x2 : Vec Ideal ⟨2, ![1024, 2048]⟩ .bf16)
    (x3 : Vec Ideal ⟨2, ![1024, 3200]⟩ .bf16) (x4 : Vec Ideal ⟨2, ![4096, 2048]⟩ .bf16) (x5 : Vec Ideal ⟨2, ![4096, 3200]⟩ .bf16)
    (x6 : Vec Ideal ⟨2, ![4096, 1024]⟩ .f32) : Arg :=
  ⟨fun r k => x0 (ix2 r k), fun k => x1 (ix2 0 k), fun k j => x2 (ix2 k j), fun k j => x3 (ix2 k j), fun r j => x4 (ix2 r j),
    fun r j => x5 (ix2 r j), fun r k => x6 (ix2 r k)⟩

variable (A : Arg)

/-- The normalised rows. -/
def y (r : Fin 4096) (k : Fin 1024) : EReal := norm (A.h r) A.g k
/-- The first product. -/
def uv (r : Fin 4096) (j : Fin 2048) : EReal := ∑ k, y A r k * A.wu k j
/-- The second product. -/
def rest (r : Fin 4096) (j : Fin 3200) : EReal := ∑ k, y A r k * A.wr k j
/-- The cotangent of the first weight. -/
def gU (k : Fin 1024) (j : Fin 2048) : EReal := ∑ t, y A t k * A.du t j
/-- The cotangent of the second weight. -/
def gR (k : Fin 1024) (j : Fin 3200) : EReal := ∑ t, y A t k * A.dr t j
/-- The cotangent of the normalised rows. -/
def dY (r : Fin 4096) (k : Fin 1024) : EReal := (∑ j, A.dr r j * A.wr k j) + ∑ j, A.du r j * A.wu k j
/-- The cotangent of the residual stream. -/
def dH (r : Fin 4096) (k : Fin 1024) : EReal := dRow (A.h r) A.g (dY A r) (A.dh r) k
/-- The cotangent of the gain. -/
def dGain (k : Fin 1024) : EReal := ∑ r, unit (A.h r) k * dY A r k
/-- The column sums of the residual stream's cotangent. -/
def colSum (k : Fin 1024) : EReal := ∑ r, dH A r k

end Cert.Proj

end
-- ==== Proof.ProjBody.lean ====
/-
  The kernels of the input projections at one grid point, over the extended reals, read at an index.
-/
module

public import proofs.«01_k».proof.Proof.ProjSpec
public import proofs.«01_k».proof.Proof.Gen.Kernel3Ideal.Frame
public import Idealize.ShloMosaic.Lib.Pipeline.ValueKit

@[expose] public section

set_option maxRecDepth 16384

noncomputable section

namespace Cert.Kernel3Ideal.Body

open Cert.Kernel3Ideal Cert.Kernel3Ideal.Gen Idealize.ShloMosaic Cert.Mlp

/-! ### The two products -/

/-- The normalised rows of the first kernel. -/
theorem norm0_at (x0 : Vec Ideal S512x1024 .f32) (x1 : Vec Ideal S1x1024 .f32) (r : Fin 512) (k : Fin 1024) :
    k0_pay1 x0 x1 (ix2 r k) = norm (fun a => x0 (ix2 r a)) (fun a => x1 (ix2 0 a)) k := by
  unfold k0_pay1; pointwise; rfl

/-- What one point of the first kernel writes: the normalised rows. -/
theorem out0_3_at (x0 : Vec Ideal S512x1024 .f32) (x1 : Vec Ideal S1x1024 .f32) (x2 : Vec Ideal S1024x2048 .bf16) (r : Fin 512)
    (k : Fin 1024) : out0_3 x0 x1 x2 (ix2 r k) = norm (fun a => x0 (ix2 r a)) (fun a => x1 (ix2 0 a)) k := by
  unfold out0_3
  frame_out
  exact norm0_at x0 x1 r k

/-- What one point of the first kernel writes: the product. -/
theorem out0_4_at (x0 : Vec Ideal S512x1024 .f32) (x1 : Vec Ideal S1x1024 .f32) (x2 : Vec Ideal S1024x2048 .bf16) (r : Fin 512)
    (j : Fin 2048) : out0_4 x0 x1 x2 (ix2 r j) = ∑ k, norm (fun a => x0 (ix2 r a)) (fun a => x1 (ix2 0 a)) k * x2 (ix2 k j) := by
  unfold out0_4
  frame_out
  unfold k0_pay2; pointwise
  simp only [norm0_at]

/-- What one point of the second kernel writes. -/
theorem out1_3_at (x0 : Vec Ideal S512x1024 .f32) (x1 : Vec Ideal S1x1024 .f32) (x2 : Vec Ideal S1024x3200 .bf16) (r : Fin 512)
    (j : Fin 3200) : out1_3 x0 x1 x2 (ix2 r j) = ∑ k, norm (fun a => x0 (ix2 r a)) (fun a => x1 (ix2 0 a)) k * x2 (ix2 k j) := by
  unfold out1_3
  frame_out
  unfold_payloads; pointwise; rfl

/-! ### The weights' cotangents -/

/-- What one point of the third kernel writes. -/
theorem out2_2_at (x0 : Vec Ideal S4096x1024 .bf16) (x1 : Vec Ideal S4096x512 .bf16) (k : Fin 1024) (j : Fin 512) :
    out2_2 x0 x1 (ix2 k j) = ∑ t, x0 (ix2 t k) * x1 (ix2 t j) := by
  unfold out2_2
  frame_out
  unfold_payloads; pointwise

/-- What one point of the fourth kernel writes. -/
theorem out3_2_at (x0 : Vec Ideal S4096x1024 .bf16) (x1 : Vec Ideal S4096x640 .bf16) (k : Fin 1024) (j : Fin 640) :
    out3_2 x0 x1 (ix2 k j) = ∑ t, x0 (ix2 t k) * x1 (ix2 t j) := by
  unfold out3_2
  frame_out
  unfold_payloads; pointwise

/-! ### The first product's part of the rows' cotangent -/

/-- What one point of the fifth kernel writes. -/
theorem out4_2_at (x0 : Vec Ideal S512x2048 .bf16) (x1 : Vec Ideal S1024x2048 .bf16) (r : Fin 512) (k : Fin 1024) :
    out4_2 x0 x1 (ix2 r k) = ∑ j, x0 (ix2 r j) * x1 (ix2 k j) := by
  unfold out4_2
  frame_out
  unfold_payloads; pointwise

/-! ### The rows' cotangent -/

/-- The input blocks of one grid point of the sixth kernel. -/
structure In where
  dr : Vec Ideal S512x3200 .bf16
  wr : Vec Ideal S1024x3200 .bf16
  h : Vec Ideal S512x1024 .f32
  g : Vec Ideal S1x1024 .f32
  dh : Vec Ideal S512x1024 .f32
  p : Vec Ideal S512x1024 .f32

variable (I : In)

/-- The cotangent of the normalised rows, from a point's blocks. -/
def dyI (r : Fin 512) (k : Fin 1024) : EReal := (∑ j, I.dr (ix2 r j) * I.wr (ix2 k j)) + I.p (ix2 r k)
/-- A row of the residual stream, the gain and a row of the cotangent that passes by. -/
def hI (r : Fin 512) (k : Fin 1024) : EReal := I.h (ix2 r k)
def gI (k : Fin 1024) : EReal := I.g (ix2 0 k)
def eI (r : Fin 512) (k : Fin 1024) : EReal := I.dh (ix2 r k)

/-- The value `%5` of the kernel's body at one point. -/
theorem v5_at (r : Fin 512) (k : Fin 1024) : k5_pay7 I.dr I.wr I.p (ix2 r k) = dyI I r k := by
  unfold k5_pay7; pointwise; rfl

/-- The value `%14`: the mean square with the literal added. -/
theorem v14_at (r : Fin 512) : k5_pay8 I.h (ix2 r 0) = msq (hI I r) := by
  unfold k5_pay8; pointwise; rfl

theorem v15_at (r : Fin 512) : k5_pay9 I.h (ix2 r 0) = rs (hI I r) := by
  unfold k5_pay9; pointwise; rw [v14_at]; rfl

/-- One point's part of the gain's cotangent. -/
theorem v23_at (k : Fin 1024) : k5_pay10 I.dr I.wr I.p I.h (ix2 0 k) = ∑ r, unit (hI I r) k * dyI I r k := by
  unfold k5_pay10; pointwise; simp only [v5_at, v15_at]; rfl

theorem v25_at (r : Fin 512) (k : Fin 1024) : k5_pay11 I.dr I.wr I.p I.g (ix2 r k) = dyI I r k * gI I k := by
  unfold k5_pay11; pointwise; rw [v5_at]; rfl

theorem v36_at (r : Fin 512) (k : Fin 1024) : k5_pay12 I.dr I.wr I.p I.h I.g (ix2 r k) = csq (hI I r) (gI I) (dyI I r) := by
  unfold k5_pay12; pointwise; simp only [Fin.sum_univ_one, v14_at, v15_at, v25_at]; rfl

theorem v38_at (r : Fin 512) (k : Fin 1024) : k5_pay13 I.dr I.wr I.p I.h I.g (ix2 r k)
    = dyI I r k * gI I k * rs (hI I r) + hI I r k * csq (hI I r) (gI I) (dyI I r) := by
  unfold k5_pay13; pointwise; rw [v25_at, v15_at, v36_at]; rfl

theorem v39_at (r : Fin 512) (k : Fin 1024) : k5_pay14 I.dr I.wr I.p I.h I.g (ix2 r k)
    = csq (hI I r) (gI I) (dyI I r) * hI I r k := by
  unfold k5_pay14; pointwise; rw [v36_at]; rfl

/-- The value `%42` of the kernel's body at one point. -/
def v42 : FVec Ideal S512x1024 .f32 := k5_pay1 (k5_pay13 I.dr I.wr I.p I.h I.g) (k5_pay14 I.dr I.wr I.p I.h I.g) I.dh
/-- The value `%44`: the same in the narrow format. -/
def v44 : FVec Ideal S512x1024 .bf16 := k5_pay2 (k5_pay13 I.dr I.wr I.p I.h I.g) (k5_pay14 I.dr I.wr I.p I.h I.g) I.dh
/-- The value `%51`: the gain's accumulator, one point added. -/
def v51 (a : Vec Ideal S1x1024 .f32) : FVec Ideal S1x1024 .f32 := k5_pay5 (k5_pay10 I.dr I.wr I.p I.h) a
/-- The value `%57`: the column sums' accumulator, one point added. -/
def v57 (a : Vec Ideal S1x1024 .f32) : FVec Ideal S1x1024 .f32 :=
  k5_pay6 (k5_pay13 I.dr I.wr I.p I.h I.g) (k5_pay14 I.dr I.wr I.p I.h I.g) I.dh a

theorem v42_at (r : Fin 512) (k : Fin 1024) : v42 I (ix2 r k) = dRow (hI I r) (gI I) (dyI I r) (eI I r) k := by
  unfold v42 k5_pay1; pointwise; rw [v38_at, v39_at]; rfl

theorem v44_at (r : Fin 512) (k : Fin 1024) : v44 I (ix2 r k) = dRow (hI I r) (gI I) (dyI I r) (eI I r) k := by
  unfold v44 k5_pay2; pointwise; exact v42_at I r k

theorem zero9_at (k : Fin 1024) : k5_pay3 (F := Ideal) (ix2 0 k) = 0 := by
  unfold k5_pay3; pointwise
theorem zero10_at (k : Fin 1024) : k5_pay4 (F := Ideal) (ix2 0 k) = 0 := by
  unfold k5_pay4; pointwise

theorem v51_at (a : Vec Ideal S1x1024 .f32) (k : Fin 1024) :
    v51 I a (ix2 0 k) = a (ix2 0 k) + ∑ r, unit (hI I r) k * dyI I r k := by
  unfold v51 k5_pay5; pointwise; rw [v23_at]

theorem v57_at (a : Vec Ideal S1x1024 .f32) (k : Fin 1024) :
    v57 I a (ix2 0 k) = a (ix2 0 k) + ∑ r, dRow (hI I r) (gI I) (dyI I r) (eI I r) k := by
  unfold v57 k5_pay6; pointwise
  exact congrArg (_ + ·) (Finset.sum_congr rfl fun r _ => v42_at I r k)

end Cert.Kernel3Ideal.Body

end
-- ==== Proof.ProjFinal.lean ====
/-
  What each of the first five pipelines of the input projections leaves in its output arrays, as functions of what its
  input arrays held when it began.
-/
module

public import proofs.«01_k».proof.Proof.ProjBody
public import Idealize.ShloMosaic.Lib.Pipeline.ValueKit

@[expose] public section

set_option maxRecDepth 16384

noncomputable section

namespace Cert.Kernel3Ideal.Body

open Cert.Kernel3Ideal Cert.Kernel3Ideal.Gen Idealize.ShloMosaic Idealize.ShloMosaic.TcCoe Idealize.SL.Sem Cert.Mlp
open Idealize.ShloMosaic.Pipeline (Dat)

variable (V : (c : Dev nD) → (b : Ref sig .tc) → Buf (Elt Ideal) ((c : Thread nD τ).loc b))

/-- The index maps of the staged windows. -/
theorem idx0 : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)
theorem idx1 : ∀ t : Fin cfg1.N, win1_0.index t = ![t.val, 0] ∧ win1_1.index t = ![0, 0] ∧ win1_2.index t = ![0, 0]
    ∧ win1_3.index t = ![t.val, 0] :=
  (by decide +kernel : ∀ t : Fin grid1.N, _)
theorem idx2 : ∀ t : Fin cfg2.N, win2_0.index t = ![0, 0] ∧ win2_1.index t = ![0, t.val] ∧ win2_2.index t = ![0, t.val] :=
  (by decide +kernel : ∀ t : Fin grid2.N, _)
theorem idx3 : ∀ t : Fin cfg3.N, win3_0.index t = ![0, 0] ∧ win3_1.index t = ![0, t.val] ∧ win3_2.index t = ![0, t.val] :=
  (by decide +kernel : ∀ t : Fin grid3.N, _)
theorem idx4 : ∀ t : Fin cfg4.N, win4_0.index t = ![t.val, 0] ∧ win4_1.index t = ![0, 0] ∧ win4_2.index t = ![t.val, 0] :=
  (by decide +kernel : ∀ t : Fin grid4.N, _)

/-- The arrays the pipelines leave, as functions of the arrays they take. -/
def fNorm (X : Vec Ideal S4096x1024 .f32) (g : Vec Ideal S1x1024 .f32) (r : Fin 4096) (k : Fin 1024) : EReal :=
  norm (fun a => X (ix2 r a)) (fun a => g (ix2 0 a)) k
def fUV (X : Vec Ideal S4096x1024 .f32) (g : Vec Ideal S1x1024 .f32) (W : Vec Ideal S1024x2048 .bf16) (r : Fin 4096) (j : Fin 2048) : EReal :=
  ∑ k : Fin 1024, fNorm X g r k * W (ix2 k j)
def fRest (X : Vec Ideal S4096x1024 .f32) (g : Vec Ideal S1x1024 .f32) (W : Vec Ideal S1024x3200 .bf16) (r : Fin 4096) (j : Fin 3200) : EReal :=
  ∑ k : Fin 1024, fNorm X g r k * W (ix2 k j)
def fGU (Y : Vec Ideal S4096x1024 .bf16) (D : Vec Ideal S4096x2048 .bf16) (k : Fin 1024) (j : Fin 2048) : EReal :=
  ∑ t : Fin 4096, Y (ix2 t k) * D (ix2 t j)
def fGR (Y : Vec Ideal S4096x1024 .bf16) (D : Vec Ideal S4096x3200 .bf16) (k : Fin 1024) (j : Fin 3200) : EReal :=
  ∑ t : Fin 4096, Y (ix2 t k) * D (ix2 t j)
def fDu (D : Vec Ideal S4096x2048 .bf16) (W : Vec Ideal S1024x2048 .bf16) (r : Fin 4096) (k : Fin 1024) : EReal :=
  ∑ j : Fin 2048, D (ix2 r j) * W (ix2 k j)

/-! ### Blocks of the input arrays -/

/-- A grid point's number. -/
def pt0 (t : Fin cfg0.N) : Fin 8 := ⟨t.val, t.isLt⟩
def pt1 (t : Fin cfg1.N) : Fin 8 := ⟨t.val, t.isLt⟩
def pt2 (t : Fin cfg2.N) : Fin 4 := ⟨t.val, t.isLt⟩
def pt3 (t : Fin cfg3.N) : Fin 5 := ⟨t.val, t.isLt⟩
def pt4 (t : Fin cfg4.N) : Fin 8 := ⟨t.val, t.isLt⟩

/-- Column `j` of block `b`, among 2048 in blocks of 512 and among 3200 in blocks of 640. -/
def colU (b : Fin 4) (j : Fin 512) : Fin 2048 := ⟨512 * b.val + j.val, by omega⟩
def colR (b : Fin 5) (j : Fin 640) : Fin 3200 := ⟨640 * b.val + j.val, by omega⟩

theorem blk0_0 (c : Dev nD) (t : Fin cfg0.N) (r : Fin 512) (k : Fin 1024) :
    (iblk0 V c 0 t : Vec Ideal S512x1024 .f32) (ix2 r k) = (V c main_arg0 : Vec Ideal S4096x1024 .f32) (ix2 (at512 (pt0 t) r) k) := by
  blk_ext! [iblk0, idx0 t, at512, pt0]
theorem blk0_1 (c : Dev nD) (t : Fin cfg0.N) (k : Fin 1024) :
    (iblk0 V c 1 t : Vec Ideal S1x1024 .f32) (ix2 0 k) = (V c main_arg1 : Vec Ideal S1x1024 .f32) (ix2 0 k) := by
  blk_ext! [iblk0, idx0 t]
theorem blk0_2 (c : Dev nD) (t : Fin cfg0.N) (k : Fin 1024) (j : Fin 2048) :
    (iblk0 V c 2 t : Vec Ideal S1024x2048 .bf16) (ix2 k j) = (V c main_arg2 : Vec Ideal S1024x2048 .bf16) (ix2 k j) := by
  blk_ext! [iblk0, idx0 t]
theorem blk1_0 (c : Dev nD) (t : Fin cfg1.N) (r : Fin 512) (k : Fin 1024) :
    (iblk1 V c 0 t : Vec Ideal S512x1024 .f32) (ix2 r k) = (V c main_arg0 : Vec Ideal S4096x1024 .f32) (ix2 (at512 (pt1 t) r) k) := by
  blk_ext! [iblk1, idx1 t, at512, pt1]
theorem blk1_1 (c : Dev nD) (t : Fin cfg1.N) (k : Fin 1024) :
    (iblk1 V c 1 t : Vec Ideal S1x1024 .f32) (ix2 0 k) = (V c main_arg1 : Vec Ideal S1x1024 .f32) (ix2 0 k) := by
  blk_ext! [iblk1, idx1 t]
theorem blk1_2 (c : Dev nD) (t : Fin cfg1.N) (k : Fin 1024) (j : Fin 3200) :
    (iblk1 V c 2 t : Vec Ideal S1024x3200 .bf16) (ix2 k j) = (V c main_arg3 : Vec Ideal S1024x3200 .bf16) (ix2 k j) := by
  blk_ext! [iblk1, idx1 t]
theorem blk2_0 (c : Dev nD) (t : Fin cfg2.N) (r : Fin 4096) (k : Fin 1024) :
    (iblk2 V c 0 t : Vec Ideal S4096x1024 .bf16) (ix2 r k) = (V c main_v0_0 : Vec Ideal S4096x1024 .bf16) (ix2 r k) := by
  blk_ext! [iblk2, idx2 t]
theorem blk2_1 (c : Dev nD) (t : Fin cfg2.N) (r : Fin 4096) (j : Fin 512) :
    (iblk2 V c 1 t : Vec Ideal S4096x512 .bf16) (ix2 r j) = (V c main_arg4 : Vec Ideal S4096x2048 .bf16) (ix2 r (colU (pt2 t) j)) := by
  blk_ext! [iblk2, idx2 t, colU, pt2]
theorem blk3_0 (c : Dev nD) (t : Fin cfg3.N) (r : Fin 4096) (k : Fin 1024) :
    (iblk3 V c 0 t : Vec Ideal S4096x1024 .bf16) (ix2 r k) = (V c main_v0_0 : Vec Ideal S4096x1024 .bf16) (ix2 r k) := by
  blk_ext! [iblk3, idx3 t]
theorem blk3_1 (c : Dev nD) (t : Fin cfg3.N) (r : Fin 4096) (j : Fin 640) :
    (iblk3 V c 1 t : Vec Ideal S4096x640 .bf16) (ix2 r j) = (V c main_arg5 : Vec Ideal S4096x3200 .bf16) (ix2 r (colR (pt3 t) j)) := by
  blk_ext! [iblk3, idx3 t, colR, pt3]
theorem blk4_0 (c : Dev nD) (t : Fin cfg4.N) (r : Fin 512) (j : Fin 2048) :
    (iblk4 V c 0 t : Vec Ideal S512x2048 .bf16) (ix2 r j) = (V c main_arg4 : Vec Ideal S4096x2048 .bf16) (ix2 (at512 (pt4 t) r) j) := by
  blk_ext! [iblk4, idx4 t, at512, pt4]
theorem blk4_1 (c : Dev nD) (t : Fin cfg4.N) (k : Fin 1024) (j : Fin 2048) :
    (iblk4 V c 1 t : Vec Ideal S1024x2048 .bf16) (ix2 k j) = (V c main_arg2 : Vec Ideal S1024x2048 .bf16) (ix2 k j) := by
  blk_ext! [iblk4, idx4 t]

/-! ### What one point writes -/

theorem norm0 (c : Dev nD) (t : Fin cfg0.N) (r : Fin 512) (k : Fin 1024) :
    norm (fun a => (iblk0 V c 0 t : Vec Ideal S512x1024 .f32) (ix2 r a)) (fun a => (iblk0 V c 1 t : Vec Ideal S1x1024 .f32) (ix2 0 a)) k
      = fNorm (V c main_arg0) (V c main_arg1) (at512 (pt0 t) r) k :=
  congrArg₂ (fun p q => norm p q k) (funext fun a => blk0_0 V c t r a) (funext fun a => blk0_1 V c t a)
theorem norm1 (c : Dev nD) (t : Fin cfg1.N) (r : Fin 512) (k : Fin 1024) :
    norm (fun a => (iblk1 V c 0 t : Vec Ideal S512x1024 .f32) (ix2 r a)) (fun a => (iblk1 V c 1 t : Vec Ideal S1x1024 .f32) (ix2 0 a)) k
      = fNorm (V c main_arg0) (V c main_arg1) (at512 (pt1 t) r) k :=
  congrArg₂ (fun p q => norm p q k) (funext fun a => blk1_0 V c t r a) (funext fun a => blk1_1 V c t a)

theorem point0_3 (c : Dev nD) (t : Fin cfg0.N) (y : S512x1024.Idx) : out0_3 (iblk0 V c 0 t) (iblk0 V c 1 t) (iblk0 V c 2 t) y
    = fNorm (V c main_arg0) (V c main_arg1) (at512 (pt0 t) (y 0)) (y 1) :=
  (congrArg (out0_3 (F := Ideal) (iblk0 V c 0 t) (iblk0 V c 1 t) (iblk0 V c 2 t)) (eq_ix2 y)).trans
    ((out0_3_at _ _ _ (y 0) (y 1)).trans (norm0 V c t (y 0) (y 1)))
theorem point0_4 (c : Dev nD) (t : Fin cfg0.N) (y : S512x2048.Idx) : out0_4 (iblk0 V c 0 t) (iblk0 V c 1 t) (iblk0 V c 2 t) y
    = fUV (V c main_arg0) (V c main_arg1) (V c main_arg2) (at512 (pt0 t) (y 0)) (y 1) :=
  (congrArg (out0_4 (F := Ideal) (iblk0 V c 0 t) (iblk0 V c 1 t) (iblk0 V c 2 t)) (eq_ix2 y)).trans
    ((out0_4_at _ _ _ (y 0) (y 1)).trans (Finset.sum_congr rfl fun k _ => congrArg₂ (· * ·) (norm0 V c t (y 0) k) (blk0_2 V c t k (y 1))))
theorem point1 (c : Dev nD) (t : Fin cfg1.N) (y : S512x3200.Idx) : out1_3 (iblk1 V c 0 t) (iblk1 V c 1 t) (iblk1 V c 2 t) y
    = fRest (V c main_arg0) (V c main_arg1) (V c main_arg3) (at512 (pt1 t) (y 0)) (y 1) :=
  (congrArg (out1_3 (F := Ideal) (iblk1 V c 0 t) (iblk1 V c 1 t) (iblk1 V c 2 t)) (eq_ix2 y)).trans
    ((out1_3_at _ _ _ (y 0) (y 1)).trans (Finset.sum_congr rfl fun k _ => congrArg₂ (· * ·) (norm1 V c t (y 0) k) (blk1_2 V c t k (y 1))))
theorem point2 (c : Dev nD) (t : Fin cfg2.N) (y : S1024x512.Idx) : out2_2 (iblk2 V c 0 t) (iblk2 V c 1 t) y
    = fGU (V c main_v0_0) (V c main_arg4) (y 0) (colU (pt2 t) (y 1)) :=
  (congrArg (out2_2 (F := Ideal) (iblk2 V c 0 t) (iblk2 V c 1 t)) (eq_ix2 y)).trans ((out2_2_at _ _ (y 0) (y 1)).trans
    (Finset.sum_congr rfl fun r _ => congrArg₂ (· * ·) (blk2_0 V c t r (y 0)) (blk2_1 V c t r (y 1))))
theorem point3 (c : Dev nD) (t : Fin cfg3.N) (y : S1024x640.Idx) : out3_2 (iblk3 V c 0 t) (iblk3 V c 1 t) y
    = fGR (V c main_v0_0) (V c main_arg5) (y 0) (colR (pt3 t) (y 1)) :=
  (congrArg (out3_2 (F := Ideal) (iblk3 V c 0 t) (iblk3 V c 1 t)) (eq_ix2 y)).trans ((out3_2_at _ _ (y 0) (y 1)).trans
    (Finset.sum_congr rfl fun r _ => congrArg₂ (· * ·) (blk3_0 V c t r (y 0)) (blk3_1 V c t r (y 1))))
theorem point4 (c : Dev nD) (t : Fin cfg4.N) (y : S512x1024.Idx) : out4_2 (iblk4 V c 0 t) (iblk4 V c 1 t) y
    = fDu (V c main_arg4) (V c main_arg2) (at512 (pt4 t) (y 0)) (y 1) :=
  (congrArg (out4_2 (F := Ideal) (iblk4 V c 0 t) (iblk4 V c 1 t)) (eq_ix2 y)).trans ((out4_2_at _ _ (y 0) (y 1)).trans
    (Finset.sum_congr rfl fun j _ => congrArg₂ (· * ·) (blk4_0 V c t (y 0) j) (blk4_1 V c t (y 1) j)))

/-! ### What the arrays hold at the end -/

/-- The first pipeline: the normalised rows. -/
theorem final0_3 (c : Dev nD) : (dat0 V c).arrAt 3 cfg0.N
    = fun y : S4096x1024.Idx => fNorm (V c main_arg0) (V c main_arg1) (y 0) (y 1) := by
  refine (dat0 V c).arrAt_eq_of_covers 3 _ (by decide +kernel) fun t hf y => ?_
  blk_simp
  rw [after0_3]
  refine (point0_3 V c t y).trans ?_
  refine congrArg₂ (fNorm (V c main_arg0) (V c main_arg1)) (Fin.ext ?_) (Fin.ext ?_)
  · blk_simp [idx0 t, at512, pt0]; try simp; try omega
  · blk_simp [idx0 t]

/-- The first pipeline: the first product. -/
theorem final0_4 (c : Dev nD) : (dat0 V c).arrAt 4 cfg0.N
    = fun y : S4096x2048.Idx => fUV (V c main_arg0) (V c main_arg1) (V c main_arg2) (y 0) (y 1) := by
  refine (dat0 V c).arrAt_eq_of_covers 4 _ (by decide +kernel) fun t hf y => ?_
  blk_simp
  rw [after0_4]
  refine (point0_4 V c t y).trans ?_
  refine congrArg₂ (fUV (V c main_arg0) (V c main_arg1) (V c main_arg2)) (Fin.ext ?_) (Fin.ext ?_)
  · blk_simp [idx0 t, at512, pt0]; try simp; try omega
  · blk_simp [idx0 t]

/-- The second pipeline: the second product. -/
theorem final1 (c : Dev nD) : (dat1 V c).arrAt 3 cfg1.N
    = fun y : S4096x3200.Idx => fRest (V c main_arg0) (V c main_arg1) (V c main_arg3) (y 0) (y 1) := by
  refine (dat1 V c).arrAt_eq_of_covers 3 _ (by decide +kernel) fun t hf y => ?_
  blk_simp
  rw [after1_3]
  refine (point1 V c t y).trans ?_
  refine congrArg₂ (fRest (V c main_arg0) (V c main_arg1) (V c main_arg3)) (Fin.ext ?_) (Fin.ext ?_)
  · blk_simp [idx1 t, at512, pt1]; try simp; try omega
  · blk_simp [idx1 t]

/-- The third pipeline: the first weight's cotangent. -/
theorem final2 (c : Dev nD) : (dat2 V c).arrAt 2 cfg2.N
    = fun y : S1024x2048.Idx => fGU (V c main_v0_0) (V c main_arg4) (y 0) (y 1) := by
  refine (dat2 V c).arrAt_eq_of_covers 2 _ (by decide +kernel) fun t hf y => ?_
  blk_simp
  rw [after2_2]
  refine (point2 V c t y).trans ?_
  refine congrArg₂ (fGU (V c main_v0_0) (V c main_arg4)) (Fin.ext ?_) (Fin.ext ?_)
  · blk_simp [idx2 t]
  · blk_simp [idx2 t, colU, pt2]; try simp; try omega

/-- The fourth pipeline: the second weight's cotangent. -/
theorem final3 (c : Dev nD) : (dat3 V c).arrAt 2 cfg3.N
    = fun y : S1024x3200.Idx => fGR (V c main_v0_0) (V c main_arg5) (y 0) (y 1) := by
  refine (dat3 V c).arrAt_eq_of_covers 2 _ (by decide +kernel) fun t hf y => ?_
  blk_simp
  rw [after3_2]
  refine (point3 V c t y).trans ?_
  refine congrArg₂ (fGR (V c main_v0_0) (V c main_arg5)) (Fin.ext ?_) (Fin.ext ?_)
  · blk_simp [idx3 t]
  · blk_simp [idx3 t, colR, pt3]; try simp; try omega

/-- The fifth pipeline: the first product's part of the normalised rows' cotangent. -/
theorem final4 (c : Dev nD) : (dat4 V c).arrAt 2 cfg4.N
    = fun y : S4096x1024.Idx => fDu (V c main_arg4) (V c main_arg2) (y 0) (y 1) := by
  refine (dat4 V c).arrAt_eq_of_covers 2 _ (by decide +kernel) fun t hf y => ?_
  blk_simp
  rw [after4_2]
  refine (point4 V c t y).trans ?_
  refine congrArg₂ (fDu (V c main_arg4) (V c main_arg2)) (Fin.ext ?_) (Fin.ext ?_)
  · blk_simp [idx4 t, at512, pt4]; try simp; try omega
  · blk_simp [idx4 t]

end Cert.Kernel3Ideal.Body

end
-- ==== Proof.ProjOuts.lean ====
/-
  What the sixth kernel's body leaves in its four outputs' staging buffers at one grid point: the rows' cotangent in two
  formats, and two accumulators (zero before the first point) with the point's part added.
-/
module

public import proofs.«01_k».proof.Proof.ProjBody
public import Idealize.ShloMosaic.Lib.Tactic

@[expose] public section

set_option maxRecDepth 16384

noncomputable section

namespace Cert.Kernel3Ideal.Body

open Cert.Kernel3Ideal Cert.Kernel3Ideal.Gen Idealize.ShloMosaic Idealize.ShloMosaic.TcCoe Idealize.SL.Sem

theorem hz2 : (![0, 0] : Fin 2 → Nat) = fun _ => 0 := funext fun a => by fin_cases a <;> rfl

variable (I : In)

/-- The rows' cotangent at the first point. -/
theorem outA6 (c : Dev nD) (i : grid5.Coords) (a1 : Memref sig .tc .vmem S512x3200 .bf16) (h1 : a1.IsWhole) (a2 : Memref sig .tc .vmem S1024x3200 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .f32) (h7 : a7.IsWhole) (a8 : Memref sig .tc .vmem S512x1024 .bf16) (h8 : a8.IsWhole) (a9 : Memref sig .tc .vmem S1x1024 .f32) (h9 : a9.IsWhole) (a10 : Memref sig .tc .vmem S1x1024 .f32) (h10 : a10.IsWhole) (hc : cond5_0 i) :
    out5_A_6 c i a1 h1 a2 h2 a3 h3 a4 h4 a5 h5 a6 h6 a7 h7 a8 h8 a9 h9 a10 h10 hc I.dr I.wr I.h I.g I.dh I.p = v42 I := by
  unfold out5_A_6
  rw [View.read_writes_eq_canon _ _ _ (cover5_A_6 c i a1 h1 a2 h2 a3 h3 a4 h4 a5 h5 a6 h6 a7 h7 a8 h8 a9 h9 a10 h10 hc I.dr I.wr I.h I.g I.dh I.p)]
  unfold kernelRun5_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, View.ld_unit_zero (S := S512x3200) hz2, View.ld_unit_zero (S := S1024x3200) hz2, View.ld_unit_zero (S := S512x1024) hz2, View.ld_unit_zero (S := S1x1024) hz2, shapeCast_self]
  rfl

/-- The rows' cotangent in the narrow format at the first point. -/
theorem outA7 (c : Dev nD) (i : grid5.Coords) (a1 : Memref sig .tc .vmem S512x3200 .bf16) (h1 : a1.IsWhole) (a2 : Memref sig .tc .vmem S1024x3200 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .f32) (h7 : a7.IsWhole) (a8 : Memref sig .tc .vmem S512x1024 .bf16) (h8 : a8.IsWhole) (a9 : Memref sig .tc .vmem S1x1024 .f32) (h9 : a9.IsWhole) (a10 : Memref sig .tc .vmem S1x1024 .f32) (h10 : a10.IsWhole) (hc : cond5_0 i) :
    out5_A_7 c i a1 h1 a2 h2 a3 h3 a4 h4 a5 h5 a6 h6 a7 h7 a8 h8 a9 h9 a10 h10 hc I.dr I.wr I.h I.g I.dh I.p = v44 I := by
  unfold out5_A_7
  rw [View.read_writes_eq_canon _ _ _ (cover5_A_7 c i a1 h1 a2 h2 a3 h3 a4 h4 a5 h5 a6 h6 a7 h7 a8 h8 a9 h9 a10 h10 hc I.dr I.wr I.h I.g I.dh I.p)]
  unfold kernelRun5_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, View.ld_unit_zero (S := S512x3200) hz2, View.ld_unit_zero (S := S1024x3200) hz2, View.ld_unit_zero (S := S512x1024) hz2, View.ld_unit_zero (S := S1x1024) hz2, shapeCast_self]
  rfl

/-- The gain's accumulator at the first point. -/
theorem outA8 (c : Dev nD) (i : grid5.Coords) (a1 : Memref sig .tc .vmem S512x3200 .bf16) (h1 : a1.IsWhole) (a2 : Memref sig .tc .vmem S1024x3200 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .f32) (h7 : a7.IsWhole) (a8 : Memref sig .tc .vmem S512x1024 .bf16) (h8 : a8.IsWhole) (a9 : Memref sig .tc .vmem S1x1024 .f32) (h9 : a9.IsWhole) (a10 : Memref sig .tc .vmem S1x1024 .f32) (h10 : a10.IsWhole) (hc : cond5_0 i) :
    out5_A_8 c i a1 h1 a2 h2 a3 h3 a4 h4 a5 h5 a6 h6 a7 h7 a8 h8 a9 h9 a10 h10 hc I.dr I.wr I.h I.g I.dh I.p = v51 I (k5_pay3 (F := Ideal)) := by
  unfold out5_A_8
  rw [View.read_writes_eq_canon _ _ _ (cover5_A_8 c i a1 h1 a2 h2 a3 h3 a4 h4 a5 h5 a6 h6 a7 h7 a8 h8 a9 h9 a10 h10 hc I.dr I.wr I.h I.g I.dh I.p)]
  unfold kernelRun5_A
  dsimp only
  sl_unfold_words
  rw [View.canon_cons_unit_zero (S := S1x1024) hz2, View.readCov_unit_zero (S := S1x1024) _ hz2]
  simp only [View.readAt_eq_ld, h1.read_unread, h2.read_unread, h3.read_unread, h4.read_unread, h5.read_unread, h6.read_unread, h7.read_unread, h8.read_unread, h9.read_unread, h10.read_unread, View.ld_unit_zero (S := S512x3200) hz2, View.ld_unit_zero (S := S1024x3200) hz2, View.ld_unit_zero (S := S512x1024) hz2, View.ld_unit_zero (S := S1x1024) hz2, shapeCast_self]
  rfl

/-- The column sums' accumulator at the first point. -/
theorem outA9 (c : Dev nD) (i : grid5.Coords) (a1 : Memref sig .tc .vmem S512x3200 .bf16) (h1 : a1.IsWhole) (a2 : Memref sig .tc .vmem S1024x3200 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .f32) (h7 : a7.IsWhole) (a8 : Memref sig .tc .vmem S512x1024 .bf16) (h8 : a8.IsWhole) (a9 : Memref sig .tc .vmem S1x1024 .f32) (h9 : a9.IsWhole) (a10 : Memref sig .tc .vmem S1x1024 .f32) (h10 : a10.IsWhole) (hc : cond5_0 i) :
    out5_A_9 c i a1 h1 a2 h2 a3 h3 a4 h4 a5 h5 a6 h6 a7 h7 a8 h8 a9 h9 a10 h10 hc I.dr I.wr I.h I.g I.dh I.p = v57 I (k5_pay4 (F := Ideal)) := by
  unfold out5_A_9
  rw [View.read_writes_eq_canon _ _ _ (cover5_A_9 c i a1 h1 a2 h2 a3 h3 a4 h4 a5 h5 a6 h6 a7 h7 a8 h8 a9 h9 a10 h10 hc I.dr I.wr I.h I.g I.dh I.p)]
  unfold kernelRun5_A
  dsimp only
  sl_unfold_words
  rw [View.canon_cons_unit_zero (S := S1x1024) hz2, View.readCov_unit_zero (S := S1x1024) _ hz2]
  simp only [View.readAt_eq_ld, h1.read_unread, h2.read_unread, h3.read_unread, h4.read_unread, h5.read_unread, h6.read_unread, h7.read_unread, h8.read_unread, h9.read_unread, h10.read_unread, View.ld_unit_zero (S := S512x3200) hz2, View.ld_unit_zero (S := S1024x3200) hz2, View.ld_unit_zero (S := S512x1024) hz2, View.ld_unit_zero (S := S1x1024) hz2, shapeCast_self]
  rfl

/-- The rows' cotangent at a later point. -/
theorem outB6 (c : Dev nD) (i : grid5.Coords) (a1 : Memref sig .tc .vmem S512x3200 .bf16) (h1 : a1.IsWhole) (a2 : Memref sig .tc .vmem S1024x3200 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .f32) (h7 : a7.IsWhole) (a8 : Memref sig .tc .vmem S512x1024 .bf16) (h8 : a8.IsWhole) (a9 : Memref sig .tc .vmem S1x1024 .f32) (h9 : a9.IsWhole) (a10 : Memref sig .tc .vmem S1x1024 .f32) (h10 : a10.IsWhole) (hc : ¬cond5_0 i) (o8 o9 : Vec Ideal S1x1024 .f32) :
    out5_B_6 c i a1 h1 a2 h2 a3 h3 a4 h4 a5 h5 a6 h6 a7 h7 a8 h8 a9 h9 a10 h10 hc I.dr I.wr I.h I.g I.dh I.p o8 o9 = v42 I := by
  unfold out5_B_6
  rw [View.read_writes_eq_canon _ _ _ (cover5_B_6 c i a1 h1 a2 h2 a3 h3 a4 h4 a5 h5 a6 h6 a7 h7 a8 h8 a9 h9 a10 h10 hc I.dr I.wr I.h I.g I.dh I.p o8 o9)]
  unfold kernelRun5_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, View.ld_unit_zero (S := S512x3200) hz2, View.ld_unit_zero (S := S1024x3200) hz2, View.ld_unit_zero (S := S512x1024) hz2, View.ld_unit_zero (S := S1x1024) hz2, shapeCast_self]
  rfl

/-- The rows' cotangent in the narrow format at a later point. -/
theorem outB7 (c : Dev nD) (i : grid5.Coords) (a1 : Memref sig .tc .vmem S512x3200 .bf16) (h1 : a1.IsWhole) (a2 : Memref sig .tc .vmem S1024x3200 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .f32) (h7 : a7.IsWhole) (a8 : Memref sig .tc .vmem S512x1024 .bf16) (h8 : a8.IsWhole) (a9 : Memref sig .tc .vmem S1x1024 .f32) (h9 : a9.IsWhole) (a10 : Memref sig .tc .vmem S1x1024 .f32) (h10 : a10.IsWhole) (hc : ¬cond5_0 i) (o8 o9 : Vec Ideal S1x1024 .f32) :
    out5_B_7 c i a1 h1 a2 h2 a3 h3 a4 h4 a5 h5 a6 h6 a7 h7 a8 h8 a9 h9 a10 h10 hc I.dr I.wr I.h I.g I.dh I.p o8 o9 = v44 I := by
  unfold out5_B_7
  rw [View.read_writes_eq_canon _ _ _ (cover5_B_7 c i a1 h1 a2 h2 a3 h3 a4 h4 a5 h5 a6 h6 a7 h7 a8 h8 a9 h9 a10 h10 hc I.dr I.wr I.h I.g I.dh I.p o8 o9)]
  unfold kernelRun5_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, View.ld_unit_zero (S := S512x3200) hz2, View.ld_unit_zero (S := S1024x3200) hz2, View.ld_unit_zero (S := S512x1024) hz2, View.ld_unit_zero (S := S1x1024) hz2, shapeCast_self]
  rfl

/-- The gain's accumulator at a later point. -/
theorem outB8 (c : Dev nD) (i : grid5.Coords) (a1 : Memref sig .tc .vmem S512x3200 .bf16) (h1 : a1.IsWhole) (a2 : Memref sig .tc .vmem S1024x3200 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .f32) (h7 : a7.IsWhole) (a8 : Memref sig .tc .vmem S512x1024 .bf16) (h8 : a8.IsWhole) (a9 : Memref sig .tc .vmem S1x1024 .f32) (h9 : a9.IsWhole) (a10 : Memref sig .tc .vmem S1x1024 .f32) (h10 : a10.IsWhole) (hc : ¬cond5_0 i) (o8 o9 : Vec Ideal S1x1024 .f32) :
    out5_B_8 c i a1 h1 a2 h2 a3 h3 a4 h4 a5 h5 a6 h6 a7 h7 a8 h8 a9 h9 a10 h10 hc I.dr I.wr I.h I.g I.dh I.p o8 o9 = v51 I o8 := by
  unfold out5_B_8
  rw [View.read_writes_eq_canon _ _ _ (cover5_B_8 c i a1 h1 a2 h2 a3 h3 a4 h4 a5 h5 a6 h6 a7 h7 a8 h8 a9 h9 a10 h10 hc I.dr I.wr I.h I.g I.dh I.p o8 o9)]
  unfold kernelRun5_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, View.ld_unit_zero (S := S512x3200) hz2, View.ld_unit_zero (S := S1024x3200) hz2, View.ld_unit_zero (S := S512x1024) hz2, View.ld_unit_zero (S := S1x1024) hz2, shapeCast_self]
  rfl

/-- The column sums' accumulator at a later point. -/
theorem outB9 (c : Dev nD) (i : grid5.Coords) (a1 : Memref sig .tc .vmem S512x3200 .bf16) (h1 : a1.IsWhole) (a2 : Memref sig .tc .vmem S1024x3200 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .f32) (h7 : a7.IsWhole) (a8 : Memref sig .tc .vmem S512x1024 .bf16) (h8 : a8.IsWhole) (a9 : Memref sig .tc .vmem S1x1024 .f32) (h9 : a9.IsWhole) (a10 : Memref sig .tc .vmem S1x1024 .f32) (h10 : a10.IsWhole) (hc : ¬cond5_0 i) (o8 o9 : Vec Ideal S1x1024 .f32) :
    out5_B_9 c i a1 h1 a2 h2 a3 h3 a4 h4 a5 h5 a6 h6 a7 h7 a8 h8 a9 h9 a10 h10 hc I.dr I.wr I.h I.g I.dh I.p o8 o9 = v57 I o9 := by
  unfold out5_B_9
  rw [View.read_writes_eq_canon _ _ _ (cover5_B_9 c i a1 h1 a2 h2 a3 h3 a4 h4 a5 h5 a6 h6 a7 h7 a8 h8 a9 h9 a10 h10 hc I.dr I.wr I.h I.g I.dh I.p o8 o9)]
  unfold kernelRun5_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, View.ld_unit_zero (S := S512x3200) hz2, View.ld_unit_zero (S := S1024x3200) hz2, View.ld_unit_zero (S := S512x1024) hz2, View.ld_unit_zero (S := S1x1024) hz2, shapeCast_self]
  rfl

end Cert.Kernel3Ideal.Body

end
-- ==== Proof.ProjAcc.lean ====
/-
  What the sixth pipeline of the input projections leaves in its four output arrays: the rows' cotangent, twice, and two sums
  over all rows that eight grid points add up.
-/
module

public import proofs.«01_k».proof.Proof.ProjOuts
public import Idealize.ShloMosaic.Lib.Pipeline.ValueKit

@[expose] public section

set_option maxRecDepth 16384

noncomputable section

namespace Cert.Kernel3Ideal.Body

open Cert.Kernel3Ideal Cert.Kernel3Ideal.Gen Idealize.ShloMosaic Idealize.ShloMosaic.TcCoe Idealize.SL.Sem Cert.Mlp
open Idealize.ShloMosaic.Pipeline (Dat)

variable (V : (c : Dev nD) → (b : Ref sig .tc) → Buf (Elt Ideal) ((c : Thread nD τ).loc b))

/-- The index maps of the staged windows. -/
theorem idx5 : ∀ t : Fin cfg5.N, win5_0.index t = ![t.val, 0] ∧ win5_1.index t = ![0, 0] ∧ win5_2.index t = ![t.val, 0]
    ∧ win5_3.index t = ![0, 0] ∧ win5_4.index t = ![t.val, 0] ∧ win5_5.index t = ![t.val, 0] ∧ win5_6.index t = ![t.val, 0]
    ∧ win5_7.index t = ![t.val, 0] :=
  (by decide +kernel : ∀ t : Fin grid5.N, _)

/-- A grid point's number, below 8. -/
def pt5 (t : Fin cfg5.N) : Fin 8 := ⟨t.val, t.isLt⟩

/-- The arrays the pipeline leaves, as functions of the arrays it takes. -/
def fDy (D : Vec Ideal S4096x3200 .bf16) (W : Vec Ideal S1024x3200 .bf16) (P : Vec Ideal S4096x1024 .f32) (r : Fin 4096) (k : Fin 1024) : EReal :=
  (∑ j : Fin 3200, D (ix2 r j) * W (ix2 k j)) + P (ix2 r k)
def fRow (X : Vec Ideal S4096x1024 .f32) (r : Fin 4096) (k : Fin 1024) : EReal := X (ix2 r k)
def fGain (g : Vec Ideal S1x1024 .f32) (k : Fin 1024) : EReal := g (ix2 0 k)

/-- The input blocks of grid point `t`. -/
def inp (c : Dev nD) (t : Fin cfg5.N) : In := ⟨iblk5 V c 0 t, iblk5 V c 1 t, iblk5 V c 2 t, iblk5 V c 3 t, iblk5 V c 4 t, iblk5 V c 5 t⟩

/-- The row's cotangent, from the arrays. -/
abbrev rowAt (c : Dev nD) (r : Fin 4096) (k : Fin 1024) : EReal :=
  dRow (fRow (V c main_arg0) r) (fGain (V c main_arg1)) (fDy (V c main_arg5) (V c main_arg3) (V c main_v4) r) (fRow (V c main_arg6) r) k
/-- One row's part of the gain's cotangent, from the arrays. -/
abbrev gainAt (c : Dev nD) (r : Fin 4096) (k : Fin 1024) : EReal :=
  Mlp.unit (fRow (V c main_arg0) r) k * fDy (V c main_arg5) (V c main_arg3) (V c main_v4) r k

theorem blk5_0 (c : Dev nD) (t : Fin cfg5.N) (r : Fin 512) (j : Fin 3200) :
    (iblk5 V c 0 t : Vec Ideal S512x3200 .bf16) (ix2 r j) = (V c main_arg5 : Vec Ideal S4096x3200 .bf16) (ix2 (at512 (pt5 t) r) j) := by
  blk_ext! [iblk5, idx5 t, at512, pt5]
theorem blk5_1 (c : Dev nD) (t : Fin cfg5.N) (k : Fin 1024) (j : Fin 3200) :
    (iblk5 V c 1 t : Vec Ideal S1024x3200 .bf16) (ix2 k j) = (V c main_arg3 : Vec Ideal S1024x3200 .bf16) (ix2 k j) := by
  blk_ext! [iblk5, idx5 t]
theorem blk5_2 (c : Dev nD) (t : Fin cfg5.N) (r : Fin 512) (k : Fin 1024) :
    (iblk5 V c 2 t : Vec Ideal S512x1024 .f32) (ix2 r k) = (V c main_arg0 : Vec Ideal S4096x1024 .f32) (ix2 (at512 (pt5 t) r) k) := by
  blk_ext! [iblk5, idx5 t, at512, pt5]
theorem blk5_3 (c : Dev nD) (t : Fin cfg5.N) (k : Fin 1024) :
    (iblk5 V c 3 t : Vec Ideal S1x1024 .f32) (ix2 0 k) = (V c main_arg1 : Vec Ideal S1x1024 .f32) (ix2 0 k) := by
  blk_ext! [iblk5, idx5 t]
theorem blk5_4 (c : Dev nD) (t : Fin cfg5.N) (r : Fin 512) (k : Fin 1024) :
    (iblk5 V c 4 t : Vec Ideal S512x1024 .f32) (ix2 r k) = (V c main_arg6 : Vec Ideal S4096x1024 .f32) (ix2 (at512 (pt5 t) r) k) := by
  blk_ext! [iblk5, idx5 t, at512, pt5]
theorem blk5_5 (c : Dev nD) (t : Fin cfg5.N) (r : Fin 512) (k : Fin 1024) :
    (iblk5 V c 5 t : Vec Ideal S512x1024 .f32) (ix2 r k) = (V c main_v4 : Vec Ideal S4096x1024 .f32) (ix2 (at512 (pt5 t) r) k) := by
  blk_ext! [iblk5, idx5 t, at512, pt5]

theorem inp_dy (c : Dev nD) (t : Fin cfg5.N) (r : Fin 512) :
    dyI (inp V c t) r = fDy (V c main_arg5) (V c main_arg3) (V c main_v4) (at512 (pt5 t) r) :=
  funext fun k => congrArg₂ (· + ·) (Finset.sum_congr rfl fun j _ => congrArg₂ (· * ·) (blk5_0 V c t r j) (blk5_1 V c t k j))
    (blk5_5 V c t r k)
theorem inp_h (c : Dev nD) (t : Fin cfg5.N) (r : Fin 512) : hI (inp V c t) r = fRow (V c main_arg0) (at512 (pt5 t) r) :=
  funext fun k => blk5_2 V c t r k
theorem inp_g (c : Dev nD) (t : Fin cfg5.N) : gI (inp V c t) = fGain (V c main_arg1) :=
  funext fun k => blk5_3 V c t k
theorem inp_e (c : Dev nD) (t : Fin cfg5.N) (r : Fin 512) : eI (inp V c t) r = fRow (V c main_arg6) (at512 (pt5 t) r) :=
  funext fun k => blk5_4 V c t r k

/-- A point's row, from the arrays. -/
theorem inp_row (c : Dev nD) (t : Fin cfg5.N) (r : Fin 512) (k : Fin 1024) :
    dRow (hI (inp V c t) r) (gI (inp V c t)) (dyI (inp V c t) r) (eI (inp V c t) r) k = rowAt V c (at512 (pt5 t) r) k := by
  rw [inp_dy, inp_h, inp_g, inp_e]
theorem inp_gain (c : Dev nD) (t : Fin cfg5.N) (r : Fin 512) (k : Fin 1024) :
    Mlp.unit (hI (inp V c t) r) k * dyI (inp V c t) r k = gainAt V c (at512 (pt5 t) r) k := by
  rw [inp_dy, inp_h]

/-! ### The rows' cotangent -/

theorem outs6 (c : Dev nD) (t : Fin cfg5.N) (y : S512x1024.Idx) :
    (outsAt5 V c t.val t.isLt).1 y = rowAt V c (at512 (pt5 t) (y 0)) (y 1) := by
  have e : (outsAt5 V c t.val t.isLt).1 = v42 (inp V c t) := by
    by_cases h : t.val % 8 = 0
    · rw [outsAt5_A V c t h]; dsimp only; exact outA6 (inp V c t) ..
    · rw [outsAt5_B V c t h]; dsimp only; exact outB6 (inp V c t) ..
  rw [e]
  exact (congrArg (v42 (inp V c t)) (eq_ix2 y)).trans ((v42_at (inp V c t) (y 0) (y 1)).trans (inp_row V c t (y 0) (y 1)))

theorem outs7 (c : Dev nD) (t : Fin cfg5.N) (y : S512x1024.Idx) :
    (outsAt5 V c t.val t.isLt).2.1 y = rowAt V c (at512 (pt5 t) (y 0)) (y 1) := by
  have e : (outsAt5 V c t.val t.isLt).2.1 = v44 (inp V c t) := by
    by_cases h : t.val % 8 = 0
    · rw [outsAt5_A V c t h]; dsimp only; exact outA7 (inp V c t) ..
    · rw [outsAt5_B V c t h]; dsimp only; exact outB7 (inp V c t) ..
  rw [e]
  exact (congrArg (v44 (inp V c t)) (eq_ix2 y)).trans ((v44_at (inp V c t) (y 0) (y 1)).trans (inp_row V c t (y 0) (y 1)))

/-- The rows' cotangent. -/
theorem final5_6 (c : Dev nD) : (dat5 V c).arrAt 6 cfg5.N = fun y : S4096x1024.Idx => rowAt V c (y 0) (y 1) := by
  refine (dat5 V c).arrAt_eq_of_covers 6 _ (by decide +kernel) fun t hf y => ?_
  blk_simp
  rw [after5_6]
  refine (outs6 V c t y).trans ?_
  refine congrArg₂ (rowAt V c) (Fin.ext ?_) (Fin.ext ?_)
  · blk_simp [idx5 t, at512, pt5]; try simp; try omega
  · blk_simp [idx5 t]

/-- The rows' cotangent in the narrow format. -/
theorem final5_7 (c : Dev nD) : (dat5 V c).arrAt 7 cfg5.N = fun y : S4096x1024.Idx => rowAt V c (y 0) (y 1) := by
  refine (dat5 V c).arrAt_eq_of_covers 7 _ (by decide +kernel) fun t hf y => ?_
  blk_simp
  rw [after5_7]
  refine (outs7 V c t y).trans ?_
  refine congrArg₂ (rowAt V c) (Fin.ext ?_) (Fin.ext ?_)
  · blk_simp [idx5 t, at512, pt5]; try simp; try omega
  · blk_simp [idx5 t]

/-! ### The two sums -/

theorem first8 (c : Dev nD) (t : Fin cfg5.N) (h : t.val % 8 = 0) (k : Fin 1024) :
    (outsAt5 V c t.val t.isLt).2.2.1 (ix2 0 k) = ∑ r, gainAt V c (at512 (pt5 t) r) k := by
  have e : (outsAt5 V c t.val t.isLt).2.2.1
      = v51 (inp V c t) (k5_pay3 (F := Ideal)) := by
    rw [outsAt5_A V c t h]; dsimp only; exact outA8 (inp V c t) ..
  rw [e, v51_at, zero9_at, zero_add]
  exact Finset.sum_congr rfl fun r _ => inp_gain V c t r k

theorem next8 (c : Dev nD) (t : Fin cfg5.N) (h : ¬t.val % 8 = 0) (k : Fin 1024) :
    (outsAt5 V c t.val t.isLt).2.2.1 (ix2 0 k)
      = (outsAt5 V c (t.val - 1) (Nat.lt_of_le_of_lt (Nat.sub_le _ _) t.isLt)).2.2.1 (ix2 0 k) + ∑ r, gainAt V c (at512 (pt5 t) r) k := by
  have e : (outsAt5 V c t.val t.isLt).2.2.1 = v51 (inp V c t)
      (outsAt5 V c (t.val - 1) (Nat.lt_of_le_of_lt (Nat.sub_le _ _) t.isLt)).2.2.1 := by
    rw [outsAt5_B V c t h]; dsimp only; exact outB8 (inp V c t) ..
  rw [e, v51_at]
  exact congrArg (_ + ·) (Finset.sum_congr rfl fun r _ => inp_gain V c t r k)

theorem first9 (c : Dev nD) (t : Fin cfg5.N) (h : t.val % 8 = 0) (k : Fin 1024) :
    (outsAt5 V c t.val t.isLt).2.2.2 (ix2 0 k) = ∑ r, rowAt V c (at512 (pt5 t) r) k := by
  have e : (outsAt5 V c t.val t.isLt).2.2.2 = v57 (inp V c t) (k5_pay4 (F := Ideal)) := by
    rw [outsAt5_A V c t h]; dsimp only; exact outA9 (inp V c t) ..
  rw [e, v57_at, zero10_at, zero_add]
  exact Finset.sum_congr rfl fun r _ => inp_row V c t r k

theorem next9 (c : Dev nD) (t : Fin cfg5.N) (h : ¬t.val % 8 = 0) (k : Fin 1024) :
    (outsAt5 V c t.val t.isLt).2.2.2 (ix2 0 k)
      = (outsAt5 V c (t.val - 1) (Nat.lt_of_le_of_lt (Nat.sub_le _ _) t.isLt)).2.2.2 (ix2 0 k) + ∑ r, rowAt V c (at512 (pt5 t) r) k := by
  have e : (outsAt5 V c t.val t.isLt).2.2.2
      = v57 (inp V c t) (outsAt5 V c (t.val - 1) (Nat.lt_of_le_of_lt (Nat.sub_le _ _) t.isLt)).2.2.2 := by
    rw [outsAt5_B V c t h]; dsimp only; exact outB9 (inp V c t) ..
  rw [e, v57_at]
  exact congrArg (_ + ·) (Finset.sum_congr rfl fun r _ => inp_row V c t r k)

theorem sum8 (c : Dev nD) (k : Fin 1024) : ∀ (n : ℕ) (h : n < cfg5.N), (outsAt5 V c n h).2.2.1 (ix2 0 k)
      = ∑ s : Fin (n + 1), ∑ r, gainAt V c (at512 (pt5 ⟨s, Nat.lt_of_le_of_lt (Nat.le_of_lt_succ s.isLt) h⟩) r) k
  | 0, h => by
    refine (first8 V c ⟨0, h⟩ rfl k).trans ?_
    rw [Fin.sum_univ_one]; rfl
  | n + 1, h => by
    have hN : cfg5.N = 8 := N_5
    refine (next8 V c ⟨n + 1, h⟩ (by dsimp only; omega) k).trans ?_
    refine .trans ?_ (Fin.sum_univ_castSucc _).symm
    exact congrArg (· + _) (sum8 c k n (Nat.lt_of_succ_lt h))

theorem sum9 (c : Dev nD) (k : Fin 1024) : ∀ (n : ℕ) (h : n < cfg5.N), (outsAt5 V c n h).2.2.2 (ix2 0 k)
      = ∑ s : Fin (n + 1), ∑ r, rowAt V c (at512 (pt5 ⟨s, Nat.lt_of_le_of_lt (Nat.le_of_lt_succ s.isLt) h⟩) r) k
  | 0, h => by
    refine (first9 V c ⟨0, h⟩ rfl k).trans ?_
    rw [Fin.sum_univ_one]; rfl
  | n + 1, h => by
    have hN : cfg5.N = 8 := N_5
    refine (next9 V c ⟨n + 1, h⟩ (by dsimp only; omega) k).trans ?_
    refine .trans ?_ (Fin.sum_univ_castSucc _).symm
    exact congrArg (· + _) (sum9 c k n (Nat.lt_of_succ_lt h))

/-- The last grid point. -/
def lastPt : Fin cfg5.N := ⟨7, by rw [show cfg5.N = 8 from N_5]; norm_num⟩

/-- The sum over the points' rows is the sum over all rows. -/
theorem sum_pts (f : Fin 4096 → EReal) (t : Fin cfg5.N) (h : t.val = 7) :
    ∑ s : Fin (t.val + 1), ∑ r, f (at512 (pt5 ⟨s, Nat.lt_of_le_of_lt (Nat.le_of_lt_succ s.isLt) t.isLt⟩) r) = ∑ r, f r := by
  rw [sum_at512]
  obtain ⟨n, hn⟩ := t
  simp only at h
  subst h
  rfl

/-- The gain's cotangent: the sum over all rows. -/
theorem final5_8 (c : Dev nD) : (dat5 V c).arrAt 8 cfg5.N = fun y : S1x1024.Idx => ∑ r, gainAt V c r (y 1) := by
  refine (dat5 V c).arrAt_eq_of_after_last 8 lastPt (by decide +kernel) _ fun j => ?_
  rw [after5_8]
  have hj : ∀ h : ∀ a, (j a).val < _, (fun a => ⟨j a, h a⟩ : S1x1024.Idx) = ix2 0 (j 1) := fun h => by
    funext a; fin_cases a
    · exact Fin.ext (by have := (j 0).isLt; simp at this ⊢)
    · rfl
  refine (congrArg (outsAt5 V c lastPt.val lastPt.isLt).2.2.1 (hj _)).trans ((sum8 V c (j 1) _ _).trans ?_)
  exact sum_pts (fun r => gainAt V c r (j 1)) lastPt rfl

/-- The column sums: the sum over all rows. -/
theorem final5_9 (c : Dev nD) : (dat5 V c).arrAt 9 cfg5.N = fun y : S1x1024.Idx => ∑ r, rowAt V c r (y 1) := by
  refine (dat5 V c).arrAt_eq_of_after_last 9 lastPt (by decide +kernel) _ fun j => ?_
  rw [after5_9]
  have hj : ∀ h : ∀ a, (j a).val < _, (fun a => ⟨j a, h a⟩ : S1x1024.Idx) = ix2 0 (j 1) := fun h => by
    funext a; fin_cases a
    · exact Fin.ext (by have := (j 0).isLt; simp at this ⊢)
    · rfl
  refine (congrArg (outsAt5 V c lastPt.val lastPt.isLt).2.2.2 (hj _)).trans ((sum9 V c (j 1) _ _).trans ?_)
  exact sum_pts (fun r => rowAt V c r (j 1)) lastPt rfl

end Cert.Kernel3Ideal.Body

end
-- ==== Proof.ProjChain.lean ====
/-
  What the run of the input projections leaves in its result buffers, as functions of the arguments: each pipeline's
  arrays are read back through the pipelines before it.
-/
module

public import proofs.«01_k».proof.Proof.ProjRun
public import proofs.«01_k».proof.Proof.ProjFinal
public import proofs.«01_k».proof.Proof.ProjAcc

@[expose] public section

set_option maxRecDepth 16384

noncomputable section

namespace Cert.Kernel3Ideal.Body

open Cert.Kernel3Ideal Cert.Kernel3Ideal.Gen Idealize.ShloMosaic Idealize.ShloMosaic.TcCoe Idealize.SL.Sem Cert.Mlp

variable (m : (ℓ : Loc nD τ sig) → Buf (Elt Ideal) ℓ) (ρ : Dev nD → PrngReg)

/-- A device's arguments. -/
def args (c : Dev nD) : Proj.Arg :=
  Proj.argOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-! ### The normalised rows and the two products -/

theorem y0 (c : Dev nD) (r : Fin 4096) (k : Fin 1024) : fNorm (V0 m ρ c main_arg0) (V0 m ρ c main_arg1) r k = Proj.y (args m c) r k := rfl

theorem y1 (c : Dev nD) : (V1 m ρ c main_v0_0 : Vec Ideal S4096x1024 .bf16) = fun i : S4096x1024.Idx => Proj.y (args m c) (i 0) (i 1) :=
  (W1_arr m ρ c 3).trans ((final0_3 (V0 m ρ) c).trans (funext fun i => y0 m ρ c (i 0) (i 1)))
theorem uv1 (c : Dev nD) : (V1 m ρ c main_v0_1 : Vec Ideal S4096x2048 .f32) = fun i : S4096x2048.Idx => Proj.uv (args m c) (i 0) (i 1) :=
  (W1_arr m ρ c 4).trans ((final0_4 (V0 m ρ) c).trans (funext fun i => Finset.sum_congr rfl fun k _ =>
    congrArg₂ (· * ·) (y0 m ρ c (i 0) k) rfl))

theorem yn1 (c : Dev nD) (r : Fin 4096) (k : Fin 1024) : fNorm (V1 m ρ c main_arg0) (V1 m ρ c main_arg1) r k = Proj.y (args m c) r k :=
  congrArg₂ (fun p q => norm p q k) (funext fun a => congrFun (W1_args m ρ c main_arg0 (by decide)) (ix2 r a))
    (funext fun a => congrFun (W1_args m ρ c main_arg1 (by decide)) (ix2 0 a))
theorem rest2 (c : Dev nD) : (V2 m ρ c main_v1 : Vec Ideal S4096x3200 .f32) = fun i : S4096x3200.Idx => Proj.rest (args m c) (i 0) (i 1) :=
  (W2_arr m ρ c 3).trans ((final1 (V1 m ρ) c).trans (funext fun i => Finset.sum_congr rfl fun k _ =>
    congrArg₂ (· * ·) (yn1 m ρ c (i 0) k) (congrFun (W1_args m ρ c main_arg3 (by decide)) (ix2 k (i 1)))))

/-! ### The weights' cotangents -/

theorem y2 (c : Dev nD) : (V2 m ρ c main_v0_0 : Vec Ideal S4096x1024 .bf16) = fun i : S4096x1024.Idx => Proj.y (args m c) (i 0) (i 1) :=
  (W2_of m ρ c main_v0_0 (by decide)).trans (y1 m ρ c)
theorem y3 (c : Dev nD) : (V3 m ρ c main_v0_0 : Vec Ideal S4096x1024 .bf16) = fun i : S4096x1024.Idx => Proj.y (args m c) (i 0) (i 1) :=
  (W3_of m ρ c main_v0_0 (by decide)).trans (y2 m ρ c)

theorem gu3 (c : Dev nD) : (V3 m ρ c main_v2 : Vec Ideal S1024x2048 .bf16) = fun i : S1024x2048.Idx => Proj.gU (args m c) (i 0) (i 1) :=
  (W3_arr m ρ c 2).trans ((final2 (V2 m ρ) c).trans (funext fun i => Finset.sum_congr rfl fun t _ =>
    congrArg₂ (· * ·) (congrFun (y2 m ρ c) (ix2 t (i 0))) (congrFun (W2_args m ρ c main_arg4 (by decide)) (ix2 t (i 1)))))
theorem gr4 (c : Dev nD) : (V4 m ρ c main_v3 : Vec Ideal S1024x3200 .bf16) = fun i : S1024x3200.Idx => Proj.gR (args m c) (i 0) (i 1) :=
  (W4_arr m ρ c 2).trans ((final3 (V3 m ρ) c).trans (funext fun i => Finset.sum_congr rfl fun t _ =>
    congrArg₂ (· * ·) (congrFun (y3 m ρ c) (ix2 t (i 0))) (congrFun (W3_args m ρ c main_arg5 (by decide)) (ix2 t (i 1)))))

/-! ### The rows' cotangent and its sums -/

theorem du5 (c : Dev nD) : (V5 m ρ c main_v4 : Vec Ideal S4096x1024 .f32)
    = fun i : S4096x1024.Idx => ∑ j, (args m c).du (i 0) j * (args m c).wu (i 1) j :=
  (W5_arr m ρ c 2).trans ((final4 (V4 m ρ) c).trans (funext fun i => Finset.sum_congr rfl fun j _ =>
    congrArg₂ (· * ·) (congrFun (W4_args m ρ c main_arg4 (by decide)) (ix2 (i 0) j))
      (congrFun (W4_args m ρ c main_arg2 (by decide)) (ix2 (i 1) j))))
theorem dy5 (c : Dev nD) (r : Fin 4096) : fDy (V5 m ρ c main_arg5) (V5 m ρ c main_arg3) (V5 m ρ c main_v4) r = Proj.dY (args m c) r :=
  funext fun k => congrArg₂ (· + ·) (Finset.sum_congr rfl fun j _ => congrArg₂ (· * ·)
    (congrFun (W5_args m ρ c main_arg5 (by decide)) (ix2 r j)) (congrFun (W5_args m ρ c main_arg3 (by decide)) (ix2 k j))) (congrFun (du5 m ρ c) (ix2 r k))
theorem h5 (c : Dev nD) (r : Fin 4096) : fRow (V5 m ρ c main_arg0) r = (args m c).h r :=
  funext fun k => congrFun (W5_args m ρ c main_arg0 (by decide)) (ix2 r k)
theorem g5 (c : Dev nD) : fGain (V5 m ρ c main_arg1) = (args m c).g :=
  funext fun k => congrFun (W5_args m ρ c main_arg1 (by decide)) (ix2 0 k)
theorem e5 (c : Dev nD) (r : Fin 4096) : fRow (V5 m ρ c main_arg6) r = (args m c).dh r :=
  funext fun k => congrFun (W5_args m ρ c main_arg6 (by decide)) (ix2 r k)
theorem row5 (c : Dev nD) (r : Fin 4096) (k : Fin 1024) : rowAt (V5 m ρ) c r k = Proj.dH (args m c) r k := by
  unfold rowAt Proj.dH; rw [dy5, h5, g5, e5]
theorem gain5 (c : Dev nD) (r : Fin 4096) (k : Fin 1024) :
    gainAt (V5 m ρ) c r k = Mlp.unit ((args m c).h r) k * Proj.dY (args m c) r k := by
  unfold gainAt; rw [dy5, h5]

/-! ### The results at the end -/

theorem res0 (c : Dev nD) : (W6 m ρ c (Proc.devRef .tc main_v0_0) : Vec Ideal S4096x1024 .bf16)
    = fun i : S4096x1024.Idx => Proj.y (args m c) (i 0) (i 1) :=
  (W6_of m ρ c main_v0_0 (by decide)).trans ((W5_of m ρ c main_v0_0 (by decide)).trans ((W4_of m ρ c main_v0_0 (by decide)).trans (y3 m ρ c)))
theorem res1 (c : Dev nD) : (W6 m ρ c (Proc.devRef .tc main_v0_1) : Vec Ideal S4096x2048 .f32)
    = fun i : S4096x2048.Idx => Proj.uv (args m c) (i 0) (i 1) :=
  (W6_of m ρ c main_v0_1 (by decide)).trans ((W5_of m ρ c main_v0_1 (by decide)).trans ((W4_of m ρ c main_v0_1 (by decide)).trans
    ((W3_of m ρ c main_v0_1 (by decide)).trans ((W2_of m ρ c main_v0_1 (by decide)).trans (uv1 m ρ c)))))
theorem res2 (c : Dev nD) : (W6 m ρ c (Proc.devRef .tc main_v1) : Vec Ideal S4096x3200 .f32)
    = fun i : S4096x3200.Idx => Proj.rest (args m c) (i 0) (i 1) :=
  (W6_of m ρ c main_v1 (by decide)).trans ((W5_of m ρ c main_v1 (by decide)).trans ((W4_of m ρ c main_v1 (by decide)).trans
    ((W3_of m ρ c main_v1 (by decide)).trans (rest2 m ρ c))))
theorem res3 (c : Dev nD) : (W6 m ρ c (Proc.devRef .tc main_v2) : Vec Ideal S1024x2048 .bf16)
    = fun i : S1024x2048.Idx => Proj.gU (args m c) (i 0) (i 1) :=
  (W6_of m ρ c main_v2 (by decide)).trans ((W5_of m ρ c main_v2 (by decide)).trans ((W4_of m ρ c main_v2 (by decide)).trans (gu3 m ρ c)))
theorem res4 (c : Dev nD) : (W6 m ρ c (Proc.devRef .tc main_v3) : Vec Ideal S1024x3200 .bf16)
    = fun i : S1024x3200.Idx => Proj.gR (args m c) (i 0) (i 1) :=
  (W6_of m ρ c main_v3 (by decide)).trans ((W5_of m ρ c main_v3 (by decide)).trans (gr4 m ρ c))
theorem res5 (c : Dev nD) : (W6 m ρ c (Proc.devRef .tc main_v5_0) : Vec Ideal S4096x1024 .f32)
    = fun i : S4096x1024.Idx => Proj.dH (args m c) (i 0) (i 1) :=
  (W6_arr m ρ c 6).trans ((final5_6 (V5 m ρ) c).trans (funext fun i => row5 m ρ c (i 0) (i 1)))
theorem res6 (c : Dev nD) : (W6 m ρ c (Proc.devRef .tc main_v5_2) : Vec Ideal S1x1024 .f32)
    = fun i : S1x1024.Idx => Proj.dGain (args m c) (i 1) :=
  (W6_arr m ρ c 8).trans ((final5_8 (V5 m ρ) c).trans (funext fun i => Finset.sum_congr rfl fun r _ => gain5 m ρ c r (i 1)))
theorem res7 (c : Dev nD) : (W6 m ρ c (Proc.devRef .tc main_v5_3) : Vec Ideal S1x1024 .f32)
    = fun i : S1x1024.Idx => Proj.colSum (args m c) (i 1) :=
  (W6_arr m ρ c 9).trans ((final5_9 (V5 m ρ) c).trans (funext fun i => Finset.sum_congr rfl fun r _ => row5 m ρ c r (i 1)))
theorem res8 (c : Dev nD) : (W6 m ρ c (Proc.devRef .tc main_v5_1) : Vec Ideal S4096x1024 .bf16)
    = fun i : S4096x1024.Idx => Proj.dH (args m c) (i 0) (i 1) :=
  (W6_arr m ρ c 7).trans ((final5_7 (V5 m ρ) c).trans (funext fun i => row5 m ρ c (i 0) (i 1)))

end Cert.Kernel3Ideal.Body

end
-- ==== Proof.ProjRef.lean ====
/-
  What the reference's differentiation of the input projections computes, read at an index, and its nine results as whole
  arrays.
-/
module

public import proofs.«01_k».proof.Proof.ProjSpec
public import proofs.«01_k».proof.Proof.Gen.Reference3Ideal.Read

@[expose] public section

set_option maxRecDepth 16384

noncomputable section

namespace Cert.Reference3Ideal.At

open Cert.Reference3Ideal Cert.Reference3Ideal.Gen Cert.Reference3Ideal.Read Idealize.ShloMosaic Cert.Mlp Cert.Gmlp Cert.Proj

variable (x0 : Vec Ideal S4096x1024 .f32) (x1 : Vec Ideal S1x1024 .f32) (x2 : Vec Ideal S1024x2048 .bf16) (x3 : Vec Ideal S1024x3200 .bf16)
  (x4 : Vec Ideal S4096x2048 .bf16) (x5 : Vec Ideal S4096x3200 .bf16) (x6 : Vec Ideal S4096x1024 .f32)

/-- A row of the residual stream, and the gain. -/
abbrev row (r : Fin 4096) : Fin 1024 → EReal := fun k => x0 (ix2 r k)
abbrev gain : Fin 1024 → EReal := fun k => x1 (ix2 0 k)

/-! ### The narrow arguments in the wide format -/

theorem v0_at (k : Fin 1024) (j : Fin 2048) : val_main_v0 x2 (ix2 k j) = x2 (ix2 k j) := by
  unfold val_main_v0; pointwise
theorem v1_at (k : Fin 1024) (j : Fin 3200) : val_main_v1 x3 (ix2 k j) = x3 (ix2 k j) := by
  unfold val_main_v1; pointwise
theorem v21_at (r : Fin 4096) (j : Fin 2048) : val_main_v21 x4 (ix2 r j) = x4 (ix2 r j) := by
  unfold val_main_v21; pointwise
theorem v22_at (r : Fin 4096) (j : Fin 3200) : val_main_v22 x5 (ix2 r j) = x5 (ix2 r j) := by
  unfold val_main_v22; pointwise

/-! ### The normalised rows -/

theorem v9_at (r : Fin 4096) : val_main_v9 x0 (ix2 r 0) = msq (row x0 r) := by
  unfold val_main_v9 val_main_v7 val_main_v5 val_main_v4 val_main_v3 val_main_cst val_main_v6 val_main_cst_0 val_main_v8 val_main_cst_1
  pointwise
  rfl
theorem v10_at (r : Fin 4096) : val_main_v10 x0 (ix2 r 0) = rs (row x0 r) := by
  unfold val_main_v10; pointwise
  rw [v9_at]; rfl
theorem v13_at (r : Fin 4096) : val_main_v13 x0 (ix2 r 0) = cNegHalf * Ideal.div (rs (row x0 r)) (msq (row x0 r)) := by
  unfold val_main_v13 val_main_v12 val_main_cst_2 val_main_v11; pointwise
  rw [v10_at, v9_at]
theorem v15_at (r : Fin 4096) (k : Fin 1024) : val_main_v15 x0 (ix2 r k) = Mlp.unit (row x0 r) k := by
  unfold val_main_v15 val_main_v14; pointwise
  rw [v10_at]; rfl
theorem v18_at (r : Fin 4096) (k : Fin 1024) : val_main_v18 x0 x1 (ix2 r k) = norm (row x0 r) (gain x1) k := by
  unfold val_main_v18 val_main_v17 val_main_v16 val_main_v2; pointwise
  rw [v15_at]; rfl
theorem v65_at (r : Fin 4096) (k : Fin 1024) : val_main_v65 x0 x1 (ix2 r k) = norm (row x0 r) (gain x1) k := by
  unfold val_main_v65 val_main_v64 val_main_v63 val_main_v62 val_main_v61 val_main_v60 val_main_v59 val_main_v58 val_main_v57 val_main_v56
    val_main_v55 val_main_v54 val_main_v53 val_main_v52 val_main_v51 val_main_cst_8 val_main_cst_9 val_main_cst_10
  pointwise
  rfl

/-! ### The products and the weights' cotangents -/

theorem v19_at (r : Fin 4096) (j : Fin 2048) : val_main_v19 x0 x1 x2 (ix2 r j) = uv (argOf x0 x1 x2 x3 x4 x5 x6) r j := by
  unfold val_main_v19; pointwise
  simp only [v18_at, v0_at]; rfl
theorem v20_at (r : Fin 4096) (j : Fin 3200) : val_main_v20 x0 x1 x3 (ix2 r j) = rest (argOf x0 x1 x2 x3 x4 x5 x6) r j := by
  unfold val_main_v20; pointwise
  simp only [v18_at, v1_at]; rfl
theorem v66_at (k : Fin 1024) (j : Fin 2048) : val_main_v66 x0 x1 x4 (ix2 k j) = gU (argOf x0 x1 x2 x3 x4 x5 x6) k j := by
  unfold val_main_v66 val_main_v27 val_main_v26; pointwise
  simp only [v18_at, v21_at]; exact Finset.sum_congr rfl fun t _ => mul_comm _ _
theorem v67_at (k : Fin 1024) (j : Fin 3200) : val_main_v67 x0 x1 x5 (ix2 k j) = gR (argOf x0 x1 x2 x3 x4 x5 x6) k j := by
  unfold val_main_v67 val_main_v24 val_main_v23; pointwise
  simp only [v18_at, v22_at]; exact Finset.sum_congr rfl fun t _ => mul_comm _ _

/-! ### The rows' cotangent -/

theorem v29_at (r : Fin 4096) (k : Fin 1024) : val_main_v29 x2 x3 x4 x5 (ix2 r k) = dY (argOf x0 x1 x2 x3 x4 x5 x6) r k := by
  unfold val_main_v29 val_main_v25 val_main_v28; pointwise
  simp only [v0_at, v1_at, v21_at, v22_at]; rfl
theorem v34_at (r : Fin 4096) (k : Fin 1024) : val_main_v34 x1 x2 x3 x4 x5 (ix2 r k)
    = dY (argOf x0 x1 x2 x3 x4 x5 x6) r k * gain x1 k := by
  unfold val_main_v34 val_main_v33 val_main_v16 val_main_v2; pointwise
  rw [v29_at x0 x1 x2 x3 x4 x5 x6]
theorem v45_at (r : Fin 4096) : val_main_v45 x0 x1 x2 x3 x4 x5 (ix1 r)
    = csq (row x0 r) (gain x1) (dY (argOf x0 x1 x2 x3 x4 x5 x6) r) := by
  unfold val_main_v45 val_main_v44 val_main_v43 val_main_v42 val_main_v38 val_main_v37 val_main_v36 val_main_cst_5 val_main_cst_6 val_main_cst_7
  pointwise
  rw [Fin.sum_univ_one]; simp only [v34_at x0 x1 x2 x3 x4 x5 x6]; rw [v13_at]; rfl
theorem v50_at (r : Fin 4096) (k : Fin 1024) : val_main_v50 x0 x1 x2 x3 x4 x5 x6 (ix2 r k) = dH (argOf x0 x1 x2 x3 x4 x5 x6) r k := by
  unfold val_main_v50 val_main_v49 val_main_v48 val_main_v47 val_main_v46 val_main_v41 val_main_v40 val_main_v39
  pointwise
  rw [v34_at x0 x1 x2 x3 x4 x5 x6, v10_at, v45_at x0 x1 x2 x3 x4 x5 x6]
  exact dRow_eq (row x0 r) (gain x1) (dY (argOf x0 x1 x2 x3 x4 x5 x6) r) ((argOf x0 x1 x2 x3 x4 x5 x6).dh r) k

theorem v68_at (k : Fin 1024) : val_main_v68 x0 x2 x3 x4 x5 (ix2 0 k) = dGain (argOf x0 x1 x2 x3 x4 x5 x6) k := by
  unfold val_main_v68 val_main_v35 val_main_v32 val_main_v31 val_main_v30 val_main_cst_3 val_main_cst_4; pointwise
  rw [Fin.sum_univ_one]; simp only [v15_at, v29_at x0 x1 x2 x3 x4 x5 x6]; rfl
theorem v70_at (k : Fin 1024) : val_main_v70 x0 x1 x2 x3 x4 x5 x6 (ix2 0 k) = colSum (argOf x0 x1 x2 x3 x4 x5 x6) k := by
  unfold val_main_v70 val_main_v69 val_main_cst_11; pointwise
  simp only [v50_at]; rfl

/-! ### The results as whole arrays -/

/-- The index of an axis of extent one. -/
theorem one0 (a : Fin 1) : a = 0 := Subsingleton.elim a 0

theorem v65_eq : val_main_v65 x0 x1 = fun i : S4096x1024.Idx => y (argOf x0 x1 x2 x3 x4 x5 x6) (i 0) (i 1) :=
  funext fun i => (congrArg (val_main_v65 x0 x1) (eq_ix2 i)).trans (v65_at x0 x1 (i 0) (i 1))
theorem v19_eq : val_main_v19 x0 x1 x2 = fun i : S4096x2048.Idx => uv (argOf x0 x1 x2 x3 x4 x5 x6) (i 0) (i 1) :=
  funext fun i => (congrArg (val_main_v19 x0 x1 x2) (eq_ix2 i)).trans (v19_at x0 x1 x2 x3 x4 x5 x6 (i 0) (i 1))
theorem v20_eq : val_main_v20 x0 x1 x3 = fun i : S4096x3200.Idx => rest (argOf x0 x1 x2 x3 x4 x5 x6) (i 0) (i 1) :=
  funext fun i => (congrArg (val_main_v20 x0 x1 x3) (eq_ix2 i)).trans (v20_at x0 x1 x2 x3 x4 x5 x6 (i 0) (i 1))
theorem v66_eq : val_main_v66 x0 x1 x4 = fun i : S1024x2048.Idx => gU (argOf x0 x1 x2 x3 x4 x5 x6) (i 0) (i 1) :=
  funext fun i => (congrArg (val_main_v66 x0 x1 x4) (eq_ix2 i)).trans (v66_at x0 x1 x2 x3 x4 x5 x6 (i 0) (i 1))
theorem v67_eq : val_main_v67 x0 x1 x5 = fun i : S1024x3200.Idx => gR (argOf x0 x1 x2 x3 x4 x5 x6) (i 0) (i 1) :=
  funext fun i => (congrArg (val_main_v67 x0 x1 x5) (eq_ix2 i)).trans (v67_at x0 x1 x2 x3 x4 x5 x6 (i 0) (i 1))
theorem v50_eq : val_main_v50 x0 x1 x2 x3 x4 x5 x6 = fun i : S4096x1024.Idx => dH (argOf x0 x1 x2 x3 x4 x5 x6) (i 0) (i 1) :=
  funext fun i => (congrArg (val_main_v50 x0 x1 x2 x3 x4 x5 x6) (eq_ix2 i)).trans (v50_at x0 x1 x2 x3 x4 x5 x6 (i 0) (i 1))
theorem v68_eq : val_main_v68 x0 x2 x3 x4 x5 = fun i : S1x1024.Idx => dGain (argOf x0 x1 x2 x3 x4 x5 x6) (i 1) :=
  funext fun i => (congrArg (val_main_v68 x0 x2 x3 x4 x5) ((eq_ix2 i).trans (congrArg (fun a : Fin 1 => ix2 a (i 1)) (one0 (i 0))))).trans
    (v68_at x0 x1 x2 x3 x4 x5 x6 (i 1))
theorem v70_eq : val_main_v70 x0 x1 x2 x3 x4 x5 x6 = fun i : S1x1024.Idx => colSum (argOf x0 x1 x2 x3 x4 x5 x6) (i 1) :=
  funext fun i => (congrArg (val_main_v70 x0 x1 x2 x3 x4 x5 x6) ((eq_ix2 i).trans (congrArg (fun a : Fin 1 => ix2 a (i 1)) (one0 (i 0))))).trans
    (v70_at x0 x1 x2 x3 x4 x5 x6 (i 1))
theorem v71_eq : val_main_v71 x0 x1 x2 x3 x4 x5 x6 = fun i : S4096x1024.Idx => dH (argOf x0 x1 x2 x3 x4 x5 x6) (i 0) (i 1) :=
  funext fun i => (congrFun (f := val_main_v71 x0 x1 x2 x3 x4 x5 x6) (g := val_main_v50 x0 x1 x2 x3 x4 x5 x6) (by unfold val_main_v71; rfl) i).trans
    (congrFun (v50_eq x0 x1 x2 x3 x4 x5 x6) i)

end Cert.Reference3Ideal.At

end
-- ==== Proof.LayRun.lean ====
/-
  The run of the fourth program from the launch to the end: every buffer of the device ends at the
  contents that the fold over the six pipelines names.
-/
module

public import proofs.«01_k».proof.Proof.Gen.Kernel4Ideal.Frame
public import Idealize.ShloMosaic.Lib.Pointwise

@[expose] public section

set_option maxRecDepth 16384

noncomputable section

namespace Cert.Kernel4Ideal.Body

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- Every weakly fair execution ends, faults nowhere, and leaves every buffer at the fold's last contents. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

end Cert.Kernel4Ideal.Body

end
-- ==== Proof.LaySpec.lean ====
/-
  The mathematics of a layer's output projection with its gradients, of the MLP after it and of the next layer's input
  projection, over extended reals and over plain coordinates. Both programs are read at these functions. No printed
  program is mentioned here.
-/
module

public import proofs.«01_k».proof.Proof.MlpSpec
public import Idealize.ShloMosaic.Lib.Pointwise

@[expose] public section

noncomputable section

namespace Cert.Lay

open Idealize.ShloMosaic Cert.Mlp

/-! ### Halves of a block of 512 -/

/-- Entry `j` of the first and of the second half of a block of 512. -/
def lo (j : Fin 256) : Fin 512 := ⟨j.val, by omega⟩
def hi (j : Fin 256) : Fin 512 := ⟨256 + j.val, by omega⟩

/-- A sum over a block is the sum over its halves. -/
theorem sum_halves (f : Fin 512 → EReal) : ∑ j, f j = (∑ j, f (lo j)) + ∑ j, f (hi j) :=
  Fin.sum_univ_add (a := 256) (b := 256) f

/-- Sixteen terms added one after the other are the sum of eight pairs. -/
theorem add16 (x : EReal) (a b : Fin 8 → EReal) :
    x + a 0 + b 0 + a 1 + b 1 + a 2 + b 2 + a 3 + b 3 + a 4 + b 4 + a 5 + b 5 + a 6 + b 6 + a 7 + b 7 = x + ∑ i, (a i + b i) := by
  rw [Fin.sum_univ_eight]; simp only [add_assoc]

/-- The square of the positive part. -/
def reluSq (u : EReal) : EReal := max u 0 * max u 0

/-! ### The arguments and the results -/

/-- The arguments over plain coordinates: the mixer's rows, the output projection's weight, the residual stream, the MLP's gain and
    its weights (the second one as the two halves of its blocks), the next mixer's gain, weight and bias, and the cotangent of
    the residual stream. -/
structure Arg where
  mix : Fin 4096 → Fin 2048 → EReal
  wo : Fin 2048 → Fin 1024 → EReal
  x : Fin 4096 → Fin 1024 → EReal
  gm : Fin 1024 → EReal
  wu : Fin 8 → Fin 1024 → Fin 512 → EReal
  wa : Fin 8 → Fin 256 → Fin 1024 → EReal
  wb : Fin 8 → Fin 256 → Fin 1024 → EReal
  gx : Fin 1024 → EReal
  wq : Fin 1280 → Fin 1024 → EReal
  bq : Fin 1280 → EReal
  dh : Fin 4096 → Fin 1024 → EReal

/-- The arguments, as the arrays of either program. -/
def argOf (x0 : Vec Ideal ⟨2, ![4096, 2048]⟩ .bf16) (x1 : Vec Ideal ⟨2, ![2048, 1024]⟩ .bf16) (x2 : Vec Ideal ⟨2, ![4096, 1024]⟩ .f32)
    (x3 : Vec Ideal ⟨2, ![1, 1024]⟩ .f32) (x4 : Vec Ideal ⟨3, ![8, 1024, 512]⟩ .bf16) (x5 x6 : Vec Ideal ⟨3, ![8, 256, 1024]⟩ .bf16)
    (x7 : Vec Ideal ⟨2, ![1, 1024]⟩ .f32) (x8 : Vec Ideal ⟨2, ![1280, 1024]⟩ .bf16) (x9 : Vec Ideal ⟨2, ![1, 1280]⟩ .f32)
    (x10 : Vec Ideal ⟨2, ![4096, 1024]⟩ .bf16) : Arg :=
  ⟨fun r j => x0 (ix2 r j), fun j k => x1 (ix2 j k), fun r k => x2 (ix2 r k), fun k => x3 (ix2 0 k), fun b k j => x4 (ix3 b k j),
    fun b j k => x5 (ix3 b j k), fun b j k => x6 (ix3 b j k), fun k => x7 (ix2 0 k), fun j k => x8 (ix2 j k), fun j => x9 (ix2 0 j),
    fun r k => x10 (ix2 r k)⟩

variable (A : Arg)

/-- The residual stream after the output projection. -/
def h1 (r : Fin 4096) (k : Fin 1024) : EReal := (∑ j, A.mix r j * A.wo j k) + A.x r k
/-- Its normalised rows. -/
def y1 (r : Fin 4096) (k : Fin 1024) : EReal := norm (h1 A r) A.gm k
/-- The MLP's hidden rows, by blocks of 512 columns. -/
def up (r : Fin 4096) (b : Fin 8) (j : Fin 512) : EReal := ∑ k, y1 A r k * A.wu b k j
/-- One block's part of the MLP. -/
def down (r : Fin 4096) (k : Fin 1024) (b : Fin 8) : EReal :=
  (∑ j, reluSq (up A r b (lo j)) * A.wa b j k) + ∑ j, reluSq (up A r b (hi j)) * A.wb b j k
/-- The residual stream after the MLP. -/
def h2 (r : Fin 4096) (k : Fin 1024) : EReal := h1 A r k + ∑ b, down A r k b
/-- Its normalised rows. -/
def y2 (r : Fin 4096) (k : Fin 1024) : EReal := norm (h2 A r) A.gx k
/-- The next mixer's input projection. -/
def qkv (r : Fin 4096) (j : Fin 1280) : EReal := (∑ k, y2 A r k * A.wq j k) + A.bq j
/-- The cotangent of the mixer's rows. -/
def dMix (r : Fin 4096) (j : Fin 2048) : EReal := ∑ k, A.dh r k * A.wo j k
/-- The cotangent of the output projection's weight. -/
def gOut (j : Fin 2048) (k : Fin 1024) : EReal := ∑ t, A.mix t j * A.dh t k

end Cert.Lay

end
-- ==== Proof.LayBody.lean ====
/-
  The kernels of the output projections, of the MLP and of the next input projection at one grid point, over the extended
  reals, read at an index.
-/
module

public import proofs.«01_k».proof.Proof.LaySpec
public import proofs.«01_k».proof.Proof.Gen.Kernel4Ideal.Frame
public import Idealize.ShloMosaic.Lib.Pipeline.ValueKit

@[expose] public section

set_option maxRecDepth 16384

noncomputable section

namespace Cert.Kernel4Ideal.Body

open Cert.Kernel4Ideal Cert.Kernel4Ideal.Gen Idealize.ShloMosaic Cert.Mlp Cert.Lay

/-! ### The output projection -/

/-- A row of the residual stream after the projection, from a point's blocks. -/
def hI (x0 : Vec Ideal S512x2048 .bf16) (x1 : Vec Ideal S2048x1024 .bf16) (x2 : Vec Ideal S512x1024 .f32) (r : Fin 512) (k : Fin 1024) : EReal :=
  (∑ j, x0 (ix2 r j) * x1 (ix2 j k)) + x2 (ix2 r k)

theorem h_at (x0 : Vec Ideal S512x2048 .bf16) (x1 : Vec Ideal S2048x1024 .bf16) (x2 : Vec Ideal S512x1024 .f32) (r : Fin 512) (k : Fin 1024) :
    k0_pay1 x0 x1 x2 (ix2 r k) = hI x0 x1 x2 r k := by
  unfold k0_pay1; pointwise; rfl

theorem out0_4_at (x0 : Vec Ideal S512x2048 .bf16) (x1 : Vec Ideal S2048x1024 .bf16) (x2 : Vec Ideal S512x1024 .f32)
    (x3 : Vec Ideal S1x1024 .f32) (r : Fin 512) (k : Fin 1024) : out0_4 x0 x1 x2 x3 (ix2 r k) = hI x0 x1 x2 r k := by
  unfold out0_4
  frame_out
  exact h_at x0 x1 x2 r k

theorem out0_5_at (x0 : Vec Ideal S512x2048 .bf16) (x1 : Vec Ideal S2048x1024 .bf16) (x2 : Vec Ideal S512x1024 .f32)
    (x3 : Vec Ideal S1x1024 .f32) (r : Fin 512) (k : Fin 1024) :
    out0_5 x0 x1 x2 x3 (ix2 r k) = norm (hI x0 x1 x2 r) (fun a => x3 (ix2 0 a)) k := by
  unfold out0_5
  frame_out
  unfold k0_pay2; pointwise
  simp only [h_at]; rfl

/-! ### The first weight's product -/

/-- One block of columns of the product, at the array's index. -/
theorem up_tile (x0 : Vec Ideal S512x1024 .bf16) (x1 : Vec Ideal S8x1024x512 .bf16) (y : S512x4096.Idx) (x : S512x512.Idx) (n : ℕ)
    (hn : n < 8) (h0 : (y 0).val = (x 0).val) (h1 : (y 1).val = 512 * n + (x 1).val) :
    ∑ k : Fin 1024, x0 (ix2 (x 0) k) * x1 (ix3 ⟨n, hn⟩ k (x 1)) = ∑ k, x0 (ix2 (y 0) k) * x1 (ix3 (blk (y 1)) k (lane (y 1))) := by
  have hx : (x 1).val < 512 := (x 1).isLt
  have e0 : (y 0 : Fin 512) = x 0 := Fin.ext h0
  have e1 : blk (y 1) = ⟨n, hn⟩ := Fin.ext (by show (y 1).val / 512 = n; omega)
  have e2 : lane (y 1) = (x 1 : Fin 512) := Fin.ext (by show (y 1).val % 512 = (x 1).val; omega)
  refine Finset.sum_congr rfl fun k _ => ?_
  exact congrArg₂ (· * ·) (congrArg (fun a : Fin 512 => x0 (ix2 a k)) e0.symm)
    (congrArg₂ (fun (a : Fin 8) (b : Fin 512) => x1 (ix3 a k b)) e1.symm e2.symm)

/-- What one point of the second kernel writes. -/
theorem out1_at (x0 : Vec Ideal S512x1024 .bf16) (x1 : Vec Ideal S8x1024x512 .bf16) (y : S512x4096.Idx) :
    out1_2 x0 x1 y = ∑ k, x0 (ix2 (y 0) k) * x1 (ix3 (blk (y 1)) k (lane (y 1))) := by
  unfold_out out1_2
  canon_tiles x h
  · refine Eq.trans ?_ (up_tile x0 x1 y x 7 (by decide) h0 h1); unfold_payloads; pointwise
  · refine Eq.trans ?_ (up_tile x0 x1 y x 6 (by decide) h0 h1); unfold_payloads; pointwise
  · refine Eq.trans ?_ (up_tile x0 x1 y x 5 (by decide) h0 h1); unfold_payloads; pointwise
  · refine Eq.trans ?_ (up_tile x0 x1 y x 4 (by decide) h0 h1); unfold_payloads; pointwise
  · refine Eq.trans ?_ (up_tile x0 x1 y x 3 (by decide) h0 h1); unfold_payloads; pointwise
  · refine Eq.trans ?_ (up_tile x0 x1 y x 2 (by decide) h0 h1); unfold_payloads; pointwise
  · refine Eq.trans ?_ (up_tile x0 x1 y x 1 (by decide) h0 h1); unfold_payloads; pointwise
  · refine Eq.trans ?_ (up_tile x0 x1 y x 0 (by decide) h0 (by omega)); unfold_payloads; pointwise

/-! ### The second weight's product -/

/-- Column `j` of the first and of the second half of block `b`. -/
def colA (b : Fin 8) (j : Fin 256) : Fin 4096 := ⟨512 * b.val + j.val, by omega⟩
def colB (b : Fin 8) (j : Fin 256) : Fin 4096 := ⟨512 * b.val + (256 + j.val), by omega⟩

/-- A half block's part of the product, from a point's blocks. -/
def partA (x0 : Vec Ideal S512x4096 .bf16) (x1 : Vec Ideal S8x256x1024 .bf16) (r : Fin 512) (k : Fin 1024) (b : Fin 8) : EReal :=
  ∑ j, reluSq (x0 (ix2 r (colA b j))) * x1 (ix3 b j k)
def partB (x0 : Vec Ideal S512x4096 .bf16) (x2 : Vec Ideal S8x256x1024 .bf16) (r : Fin 512) (k : Fin 1024) (b : Fin 8) : EReal :=
  ∑ j, reluSq (x0 (ix2 r (colB b j))) * x2 (ix3 b j k)

theorem partA_eq (x0 : Vec Ideal S512x4096 .bf16) (x1 : Vec Ideal S8x256x1024 .bf16) (r : Fin 512) (k : Fin 1024) (b : Fin 8)
    (f : Fin 256 → Fin 4096) (hf : ∀ j, (f j).val = 512 * b.val + j.val) :
    ∑ j, max (x0 (ix2 r (f j))) 0 * max (x0 (ix2 r (f j))) 0 * x1 (ix3 b j k) = partA x0 x1 r k b :=
  Finset.sum_congr rfl fun j _ => congrArg (fun a : Fin 4096 => reluSq (x0 (ix2 r a)) * x1 (ix3 b j k)) (Fin.ext (hf j))
theorem partB_eq (x0 : Vec Ideal S512x4096 .bf16) (x2 : Vec Ideal S8x256x1024 .bf16) (r : Fin 512) (k : Fin 1024) (b : Fin 8)
    (f : Fin 256 → Fin 4096) (hf : ∀ j, (f j).val = 512 * b.val + (256 + j.val)) :
    ∑ j, max (x0 (ix2 r (f j))) 0 * max (x0 (ix2 r (f j))) 0 * x2 (ix3 b j k) = partB x0 x2 r k b :=
  Finset.sum_congr rfl fun j _ => congrArg (fun a : Fin 4096 => reluSq (x0 (ix2 r a)) * x2 (ix3 b j k)) (Fin.ext (hf j))

/-- A row of the residual stream after the MLP, from a point's blocks. -/
def hJ (x0 : Vec Ideal S512x4096 .bf16) (x1 x2 : Vec Ideal S8x256x1024 .bf16) (x3 : Vec Ideal S512x1024 .f32) (r : Fin 512)
    (k : Fin 1024) : EReal := x3 (ix2 r k) + ∑ b, (partA x0 x1 r k b + partB x0 x2 r k b)

theorem hJ_at (x0 : Vec Ideal S512x4096 .bf16) (x1 x2 : Vec Ideal S8x256x1024 .bf16) (x3 : Vec Ideal S512x1024 .f32)
    (x4 : Vec Ideal S1x1024 .f32) (r : Fin 512) (k : Fin 1024) : k2_pay12 x0 x1 x2 x3 x4 (ix2 r k) = hJ x0 x1 x2 x3 r k := by
  unfold hJ
  rw [← add16]
  unfold_payloads; pointwise
  exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) rfl
    (partA_eq x0 x1 r k 0 (fun j => ⟨j.val, by omega⟩) (fun j => by show j.val = 512 * 0 + j.val; omega)))
    (partB_eq x0 x2 r k 0 (fun j => ⟨256 + j.val, by omega⟩) (fun j => by show 256 + j.val = 512 * 0 + (256 + j.val); omega)))
    (partA_eq x0 x1 r k 1 (fun j => ⟨512 + j.val, by omega⟩) (fun j => by show 512 + j.val = 512 * 1 + j.val; omega)))
    (partB_eq x0 x2 r k 1 (fun j => ⟨768 + j.val, by omega⟩) (fun j => by show 768 + j.val = 512 * 1 + (256 + j.val); omega)))
    (partA_eq x0 x1 r k 2 (fun j => ⟨1024 + j.val, by omega⟩) (fun j => by show 1024 + j.val = 512 * 2 + j.val; omega)))
    (partB_eq x0 x2 r k 2 (fun j => ⟨1280 + j.val, by omega⟩) (fun j => by show 1280 + j.val = 512 * 2 + (256 + j.val); omega)))
    (partA_eq x0 x1 r k 3 (fun j => ⟨1536 + j.val, by omega⟩) (fun j => by show 1536 + j.val = 512 * 3 + j.val; omega)))
    (partB_eq x0 x2 r k 3 (fun j => ⟨1792 + j.val, by omega⟩) (fun j => by show 1792 + j.val = 512 * 3 + (256 + j.val); omega)))
    (partA_eq x0 x1 r k 4 (fun j => ⟨2048 + j.val, by omega⟩) (fun j => by show 2048 + j.val = 512 * 4 + j.val; omega)))
    (partB_eq x0 x2 r k 4 (fun j => ⟨2304 + j.val, by omega⟩) (fun j => by show 2304 + j.val = 512 * 4 + (256 + j.val); omega)))
    (partA_eq x0 x1 r k 5 (fun j => ⟨2560 + j.val, by omega⟩) (fun j => by show 2560 + j.val = 512 * 5 + j.val; omega)))
    (partB_eq x0 x2 r k 5 (fun j => ⟨2816 + j.val, by omega⟩) (fun j => by show 2816 + j.val = 512 * 5 + (256 + j.val); omega)))
    (partA_eq x0 x1 r k 6 (fun j => ⟨3072 + j.val, by omega⟩) (fun j => by show 3072 + j.val = 512 * 6 + j.val; omega)))
    (partB_eq x0 x2 r k 6 (fun j => ⟨3328 + j.val, by omega⟩) (fun j => by show 3328 + j.val = 512 * 6 + (256 + j.val); omega)))
    (partA_eq x0 x1 r k 7 (fun j => ⟨3584 + j.val, by omega⟩) (fun j => by show 3584 + j.val = 512 * 7 + j.val; omega)))
    (partB_eq x0 x2 r k 7 (fun j => ⟨3840 + j.val, by omega⟩) (fun j => by show 3840 + j.val = 512 * 7 + (256 + j.val); omega))

theorem ms_at (v0 : FVec Ideal S512x1024 .f32) (v1 : Vec Ideal S1x256x1024 .bf16) (v2 : Vec Ideal S512x256 .bf16)
    (v3 : Vec Ideal S1x256x1024 .bf16) (v4 : Vec Ideal S512x256 .bf16) (v5 : Vec Ideal S1x256x1024 .bf16) (v6 : Vec Ideal S512x256 .bf16)
    (r : Fin 512) : k2_pay10 v0 v1 v2 v3 v4 v5 v6 (ix2 r 0)
      = ∑ a, k2_pay9 v0 v1 v2 v3 v4 v5 v6 (ix2 r a) * k2_pay9 v0 v1 v2 v3 v4 v5 v6 (ix2 r a) := by
  unfold k2_pay10; pointwise

theorem norm_at (h : FVec Ideal S512x1024 .f32) (g : Vec Ideal S1x1024 .f32) (s : FVec Ideal S512x1 .f32) (r : Fin 512) (k : Fin 1024)
    (hs : s (ix2 r 0) = ∑ a, h (ix2 r a) * h (ix2 r a)) :
    k2_pay1 h g s (ix2 r k) = norm (fun a => h (ix2 r a)) (fun a => g (ix2 0 a)) k := by
  unfold k2_pay1; pointwise
  rw [hs]; rfl

theorem out2_5_at (x0 : Vec Ideal S512x4096 .bf16) (x1 x2 : Vec Ideal S8x256x1024 .bf16) (x3 : Vec Ideal S512x1024 .f32)
    (x4 : Vec Ideal S1x1024 .f32) (r : Fin 512) (k : Fin 1024) : out2_5 x0 x1 x2 x3 x4 (ix2 r k) = hJ x0 x1 x2 x3 r k := by
  unfold out2_5
  frame_out
  exact hJ_at x0 x1 x2 x3 x4 r k

theorem out2_6_at (x0 : Vec Ideal S512x4096 .bf16) (x1 x2 : Vec Ideal S8x256x1024 .bf16) (x3 : Vec Ideal S512x1024 .f32)
    (x4 : Vec Ideal S1x1024 .f32) (r : Fin 512) (k : Fin 1024) :
    out2_6 x0 x1 x2 x3 x4 (ix2 r k) = norm (hJ x0 x1 x2 x3 r) (fun a => x4 (ix2 0 a)) k := by
  unfold out2_6
  frame_out
  exact (norm_at (k2_pay12 x0 x1 x2 x3 x4) x4 _ r k (ms_at _ _ _ _ _ _ _ r)).trans
    (congrArg (fun h => norm h (fun a => x4 (ix2 0 a)) k) (funext fun a => hJ_at x0 x1 x2 x3 x4 r a))

/-! ### The next input projection and the output projection's gradients -/

theorem out3_3_at (x0 : Vec Ideal S512x1024 .bf16) (x1 : Vec Ideal S1280x1024 .bf16) (x2 : Vec Ideal S1x1280 .f32) (r : Fin 512)
    (j : Fin 1280) : out3_3 x0 x1 x2 (ix2 r j) = (∑ k, x0 (ix2 r k) * x1 (ix2 j k)) + x2 (ix2 0 j) := by
  unfold out3_3
  frame_out
  unfold_payloads; pointwise

theorem out4_2_at (x0 : Vec Ideal S512x1024 .bf16) (x1 : Vec Ideal S2048x1024 .bf16) (r : Fin 512) (j : Fin 2048) :
    out4_2 x0 x1 (ix2 r j) = ∑ k, x0 (ix2 r k) * x1 (ix2 j k) := by
  unfold out4_2
  frame_out
  unfold_payloads; pointwise

theorem out5_2_at (x0 : Vec Ideal S4096x512 .bf16) (x1 : Vec Ideal S4096x1024 .bf16) (j : Fin 512) (k : Fin 1024) :
    out5_2 x0 x1 (ix2 j k) = ∑ t, x0 (ix2 t j) * x1 (ix2 t k) := by
  unfold out5_2
  frame_out
  unfold_payloads; pointwise

end Cert.Kernel4Ideal.Body

end
-- ==== Proof.LayFinal.lean ====
/-
  What each pipeline of the fourth program leaves in its output arrays, as functions of what its input arrays held when it
  began.
-/
module

public import proofs.«01_k».proof.Proof.LayBody
public import Idealize.ShloMosaic.Lib.Pipeline.ValueKit

@[expose] public section

set_option maxRecDepth 16384

noncomputable section

namespace Cert.Kernel4Ideal.Body

open Cert.Kernel4Ideal Cert.Kernel4Ideal.Gen Idealize.ShloMosaic Idealize.ShloMosaic.TcCoe Idealize.SL.Sem Cert.Mlp Cert.Lay
open Idealize.ShloMosaic.Pipeline (Dat)

variable (V : (c : Dev nD) → (b : Ref sig .tc) → Buf (Elt Ideal) ((c : Thread nD τ).loc b))

/-- The index maps of the staged windows. -/
theorem idx0 : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] :=
  (by decide +kernel : ∀ t : Fin grid0.N, _)
theorem idx1 : ∀ t : Fin cfg1.N, win1_0.index t = ![t.val, 0] ∧ win1_1.index t = ![0, 0, 0] ∧ win1_2.index t = ![t.val, 0] :=
  (by decide +kernel : ∀ t : Fin grid1.N, _)
theorem idx2 : ∀ t : Fin cfg2.N, win2_0.index t = ![t.val, 0] ∧ win2_1.index t = ![0, 0, 0] ∧ win2_2.index t = ![0, 0, 0] ∧ win2_3.index t = ![t.val, 0] ∧ win2_4.index t = ![0, 0] ∧ win2_5.index t = ![t.val, 0] ∧ win2_6.index t = ![t.val, 0] :=
  (by decide +kernel : ∀ t : Fin grid2.N, _)
theorem idx3 : ∀ t : Fin cfg3.N, win3_0.index t = ![t.val, 0] ∧ win3_1.index t = ![0, 0] ∧ win3_2.index t = ![0, 0] ∧ win3_3.index t = ![t.val, 0] :=
  (by decide +kernel : ∀ t : Fin grid3.N, _)
theorem idx4 : ∀ t : Fin cfg4.N, win4_0.index t = ![t.val, 0] ∧ win4_1.index t = ![0, 0] ∧ win4_2.index t = ![t.val, 0] :=
  (by decide +kernel : ∀ t : Fin grid4.N, _)
theorem idx5 : ∀ t : Fin cfg5.N, win5_0.index t = ![0, t.val] ∧ win5_1.index t = ![0, 0] ∧ win5_2.index t = ![t.val, 0] :=
  (by decide +kernel : ∀ t : Fin grid5.N, _)

/-- The arrays the pipelines leave, as functions of the arrays they take. -/
def fH1 (M : Vec Ideal S4096x2048 .bf16) (W : Vec Ideal S2048x1024 .bf16) (X : Vec Ideal S4096x1024 .f32) (r : Fin 4096) (k : Fin 1024) : EReal :=
  (∑ j : Fin 2048, M (ix2 r j) * W (ix2 j k)) + X (ix2 r k)
def fY1 (M : Vec Ideal S4096x2048 .bf16) (W : Vec Ideal S2048x1024 .bf16) (X : Vec Ideal S4096x1024 .f32) (g : Vec Ideal S1x1024 .f32)
    (r : Fin 4096) (k : Fin 1024) : EReal := norm (fH1 M W X r) (fun a => g (ix2 0 a)) k
def fUp (Y : Vec Ideal S4096x1024 .bf16) (W : Vec Ideal S8x1024x512 .bf16) (r : Fin 4096) (b : Fin 8) (j : Fin 512) : EReal :=
  ∑ k : Fin 1024, Y (ix2 r k) * W (ix3 b k j)
def fDown (U : Vec Ideal S4096x4096 .bf16) (Wa Wb : Vec Ideal S8x256x1024 .bf16) (r : Fin 4096) (k : Fin 1024) (b : Fin 8) : EReal :=
  (∑ j, reluSq (U (ix2 r (at512 b (lo j)))) * Wa (ix3 b j k)) + ∑ j, reluSq (U (ix2 r (at512 b (hi j)))) * Wb (ix3 b j k)
def fH2 (U : Vec Ideal S4096x4096 .bf16) (Wa Wb : Vec Ideal S8x256x1024 .bf16) (X : Vec Ideal S4096x1024 .f32) (r : Fin 4096)
    (k : Fin 1024) : EReal := X (ix2 r k) + ∑ b, fDown U Wa Wb r k b
def fY2 (U : Vec Ideal S4096x4096 .bf16) (Wa Wb : Vec Ideal S8x256x1024 .bf16) (X : Vec Ideal S4096x1024 .f32) (g : Vec Ideal S1x1024 .f32)
    (r : Fin 4096) (k : Fin 1024) : EReal := norm (fH2 U Wa Wb X r) (fun a => g (ix2 0 a)) k
def fQkv (Y : Vec Ideal S4096x1024 .bf16) (W : Vec Ideal S1280x1024 .bf16) (b : Vec Ideal S1x1280 .f32) (r : Fin 4096) (j : Fin 1280) : EReal :=
  (∑ k : Fin 1024, Y (ix2 r k) * W (ix2 j k)) + b (ix2 0 j)
def fDMix (D : Vec Ideal S4096x1024 .bf16) (W : Vec Ideal S2048x1024 .bf16) (r : Fin 4096) (j : Fin 2048) : EReal :=
  ∑ k : Fin 1024, D (ix2 r k) * W (ix2 j k)
def fGOut (M : Vec Ideal S4096x2048 .bf16) (D : Vec Ideal S4096x1024 .bf16) (j : Fin 2048) (k : Fin 1024) : EReal :=
  ∑ t : Fin 4096, M (ix2 t j) * D (ix2 t k)

/-! ### Blocks of the input arrays -/

/-- A grid point's number. -/
def pt0 (t : Fin cfg0.N) : Fin 8 := ⟨t.val, t.isLt⟩
def pt1 (t : Fin cfg1.N) : Fin 8 := ⟨t.val, t.isLt⟩
def pt2 (t : Fin cfg2.N) : Fin 8 := ⟨t.val, t.isLt⟩
def pt3 (t : Fin cfg3.N) : Fin 8 := ⟨t.val, t.isLt⟩
def pt4 (t : Fin cfg4.N) : Fin 8 := ⟨t.val, t.isLt⟩
def pt5 (t : Fin cfg5.N) : Fin 4 := ⟨t.val, t.isLt⟩

/-- Entry `j` of block `b`, among 2048 in blocks of 512. -/
def colO (b : Fin 4) (j : Fin 512) : Fin 2048 := ⟨512 * b.val + j.val, by omega⟩

theorem blk0_0 (c : Dev nD) (t : Fin cfg0.N) (r : Fin 512) (k : Fin 2048) :
    (iblk0 V c 0 t : Vec Ideal S512x2048 .bf16) (ix2 r k) = (V c main_arg0 : Vec Ideal S4096x2048 .bf16) (ix2 (at512 (pt0 t) r) k) := by
  blk_ext! [iblk0, idx0 t, at512, pt0]
theorem blk0_1 (c : Dev nD) (t : Fin cfg0.N) (r : Fin 2048) (k : Fin 1024) :
    (iblk0 V c 1 t : Vec Ideal S2048x1024 .bf16) (ix2 r k) = (V c main_arg1 : Vec Ideal S2048x1024 .bf16) (ix2 r k) := by
  blk_ext! [iblk0, idx0 t]
theorem blk0_2 (c : Dev nD) (t : Fin cfg0.N) (r : Fin 512) (k : Fin 1024) :
    (iblk0 V c 2 t : Vec Ideal S512x1024 .f32) (ix2 r k) = (V c main_arg2 : Vec Ideal S4096x1024 .f32) (ix2 (at512 (pt0 t) r) k) := by
  blk_ext! [iblk0, idx0 t, at512, pt0]
theorem blk0_3 (c : Dev nD) (t : Fin cfg0.N) (k : Fin 1024) :
    (iblk0 V c 3 t : Vec Ideal S1x1024 .f32) (ix2 0 k) = (V c main_arg3 : Vec Ideal S1x1024 .f32) (ix2 0 k) := by
  blk_ext! [iblk0, idx0 t]
theorem blk1_0 (c : Dev nD) (t : Fin cfg1.N) (r : Fin 512) (k : Fin 1024) :
    (iblk1 V c 0 t : Vec Ideal S512x1024 .bf16) (ix2 r k) = (V c main_v0_1 : Vec Ideal S4096x1024 .bf16) (ix2 (at512 (pt1 t) r) k) := by
  blk_ext! [iblk1, idx1 t, at512, pt1]
theorem blk1_1 (c : Dev nD) (t : Fin cfg1.N) (b : Fin 8) (k : Fin 1024) (j : Fin 512) :
    (iblk1 V c 1 t : Vec Ideal S8x1024x512 .bf16) (ix3 b k j) = (V c main_arg4 : Vec Ideal S8x1024x512 .bf16) (ix3 b k j) := by
  blk_ext! [iblk1, idx1 t]
theorem blk2_0 (c : Dev nD) (t : Fin cfg2.N) (r : Fin 512) (k : Fin 4096) :
    (iblk2 V c 0 t : Vec Ideal S512x4096 .bf16) (ix2 r k) = (V c main_v1 : Vec Ideal S4096x4096 .bf16) (ix2 (at512 (pt2 t) r) k) := by
  blk_ext! [iblk2, idx2 t, at512, pt2]
theorem blk2_1 (c : Dev nD) (t : Fin cfg2.N) (b : Fin 8) (k : Fin 256) (j : Fin 1024) :
    (iblk2 V c 1 t : Vec Ideal S8x256x1024 .bf16) (ix3 b k j) = (V c main_arg5 : Vec Ideal S8x256x1024 .bf16) (ix3 b k j) := by
  blk_ext! [iblk2, idx2 t]
theorem blk2_2 (c : Dev nD) (t : Fin cfg2.N) (b : Fin 8) (k : Fin 256) (j : Fin 1024) :
    (iblk2 V c 2 t : Vec Ideal S8x256x1024 .bf16) (ix3 b k j) = (V c main_arg6 : Vec Ideal S8x256x1024 .bf16) (ix3 b k j) := by
  blk_ext! [iblk2, idx2 t]
theorem blk2_3 (c : Dev nD) (t : Fin cfg2.N) (r : Fin 512) (k : Fin 1024) :
    (iblk2 V c 3 t : Vec Ideal S512x1024 .f32) (ix2 r k) = (V c main_v0_0 : Vec Ideal S4096x1024 .f32) (ix2 (at512 (pt2 t) r) k) := by
  blk_ext! [iblk2, idx2 t, at512, pt2]
theorem blk2_4 (c : Dev nD) (t : Fin cfg2.N) (k : Fin 1024) :
    (iblk2 V c 4 t : Vec Ideal S1x1024 .f32) (ix2 0 k) = (V c main_arg7 : Vec Ideal S1x1024 .f32) (ix2 0 k) := by
  blk_ext! [iblk2, idx2 t]
theorem blk3_0 (c : Dev nD) (t : Fin cfg3.N) (r : Fin 512) (k : Fin 1024) :
    (iblk3 V c 0 t : Vec Ideal S512x1024 .bf16) (ix2 r k) = (V c main_v2_1 : Vec Ideal S4096x1024 .bf16) (ix2 (at512 (pt3 t) r) k) := by
  blk_ext! [iblk3, idx3 t, at512, pt3]
theorem blk3_1 (c : Dev nD) (t : Fin cfg3.N) (r : Fin 1280) (k : Fin 1024) :
    (iblk3 V c 1 t : Vec Ideal S1280x1024 .bf16) (ix2 r k) = (V c main_arg8 : Vec Ideal S1280x1024 .bf16) (ix2 r k) := by
  blk_ext! [iblk3, idx3 t]
theorem blk3_2 (c : Dev nD) (t : Fin cfg3.N) (k : Fin 1280) :
    (iblk3 V c 2 t : Vec Ideal S1x1280 .f32) (ix2 0 k) = (V c main_arg9 : Vec Ideal S1x1280 .f32) (ix2 0 k) := by
  blk_ext! [iblk3, idx3 t]
theorem blk4_0 (c : Dev nD) (t : Fin cfg4.N) (r : Fin 512) (k : Fin 1024) :
    (iblk4 V c 0 t : Vec Ideal S512x1024 .bf16) (ix2 r k) = (V c main_arg10 : Vec Ideal S4096x1024 .bf16) (ix2 (at512 (pt4 t) r) k) := by
  blk_ext! [iblk4, idx4 t, at512, pt4]
theorem blk4_1 (c : Dev nD) (t : Fin cfg4.N) (r : Fin 2048) (k : Fin 1024) :
    (iblk4 V c 1 t : Vec Ideal S2048x1024 .bf16) (ix2 r k) = (V c main_arg1 : Vec Ideal S2048x1024 .bf16) (ix2 r k) := by
  blk_ext! [iblk4, idx4 t]
theorem blk5_0 (c : Dev nD) (t : Fin cfg5.N) (r : Fin 4096) (k : Fin 512) :
    (iblk5 V c 0 t : Vec Ideal S4096x512 .bf16) (ix2 r k) = (V c main_arg0 : Vec Ideal S4096x2048 .bf16) (ix2 r (colO (pt5 t) k)) := by
  blk_ext! [iblk5, idx5 t, colO, pt5]
theorem blk5_1 (c : Dev nD) (t : Fin cfg5.N) (r : Fin 4096) (k : Fin 1024) :
    (iblk5 V c 1 t : Vec Ideal S4096x1024 .bf16) (ix2 r k) = (V c main_arg10 : Vec Ideal S4096x1024 .bf16) (ix2 r k) := by
  blk_ext! [iblk5, idx5 t]

/-! ### What one point writes -/

theorem row0 (c : Dev nD) (t : Fin cfg0.N) (r : Fin 512) (k : Fin 1024) : hI (iblk0 V c 0 t) (iblk0 V c 1 t) (iblk0 V c 2 t) r k
    = fH1 (V c main_arg0) (V c main_arg1) (V c main_arg2) (at512 (pt0 t) r) k :=
  congrArg₂ (· + ·) (Finset.sum_congr rfl fun j _ => congrArg₂ (· * ·) (blk0_0 V c t r j) (blk0_1 V c t j k)) (blk0_2 V c t r k)

/-- The second kernel's halves of the columns are those of the mathematics. -/
theorem colA_eq (b : Fin 8) (j : Fin 256) : colA b j = at512 b (lo j) := rfl
theorem colB_eq (b : Fin 8) (j : Fin 256) : colB b j = at512 b (hi j) := rfl

theorem row2 (c : Dev nD) (t : Fin cfg2.N) (r : Fin 512) (k : Fin 1024) :
    hJ (iblk2 V c 0 t) (iblk2 V c 1 t) (iblk2 V c 2 t) (iblk2 V c 3 t) r k
      = fH2 (V c main_v1) (V c main_arg5) (V c main_arg6) (V c main_v0_0) (at512 (pt2 t) r) k :=
  congrArg₂ (· + ·) (blk2_3 V c t r k) (Finset.sum_congr rfl fun b _ => congrArg₂ (· + ·)
    (Finset.sum_congr rfl fun j _ => congrArg₂ (fun u w => reluSq u * w) (blk2_0 V c t r (colA b j)) (blk2_1 V c t b j k))
    (Finset.sum_congr rfl fun j _ => congrArg₂ (fun u w => reluSq u * w) (blk2_0 V c t r (colB b j)) (blk2_2 V c t b j k)))

theorem point0_4 (c : Dev nD) (t : Fin cfg0.N) (y : S512x1024.Idx) : out0_4 (iblk0 V c 0 t) (iblk0 V c 1 t) (iblk0 V c 2 t) (iblk0 V c 3 t) y
    = fH1 (V c main_arg0) (V c main_arg1) (V c main_arg2) (at512 (pt0 t) (y 0)) (y 1) :=
  (congrArg (out0_4 (F := Ideal) (iblk0 V c 0 t) (iblk0 V c 1 t) (iblk0 V c 2 t) (iblk0 V c 3 t)) (eq_ix2 y)).trans ((out0_4_at _ _ _ _ (y 0) (y 1)).trans
    (row0 V c t (y 0) (y 1)))
theorem point0_5 (c : Dev nD) (t : Fin cfg0.N) (y : S512x1024.Idx) : out0_5 (iblk0 V c 0 t) (iblk0 V c 1 t) (iblk0 V c 2 t) (iblk0 V c 3 t) y
    = fY1 (V c main_arg0) (V c main_arg1) (V c main_arg2) (V c main_arg3) (at512 (pt0 t) (y 0)) (y 1) :=
  (congrArg (out0_5 (F := Ideal) (iblk0 V c 0 t) (iblk0 V c 1 t) (iblk0 V c 2 t) (iblk0 V c 3 t)) (eq_ix2 y)).trans ((out0_5_at _ _ _ _ (y 0) (y 1)).trans
    (congrArg₂ (fun p q => norm p q (y 1)) (funext fun a => row0 V c t (y 0) a) (funext fun a => blk0_3 V c t a)))
theorem point1 (c : Dev nD) (t : Fin cfg1.N) (y : S512x4096.Idx) : out1_2 (iblk1 V c 0 t) (iblk1 V c 1 t) y
    = fUp (V c main_v0_1) (V c main_arg4) (at512 (pt1 t) (y 0)) (blk (y 1)) (lane (y 1)) :=
  (out1_at _ _ y).trans (Finset.sum_congr rfl fun k _ => congrArg₂ (· * ·) (blk1_0 V c t (y 0) k) (blk1_1 V c t _ k _))
theorem point2_5 (c : Dev nD) (t : Fin cfg2.N) (y : S512x1024.Idx) : out2_5 (iblk2 V c 0 t) (iblk2 V c 1 t) (iblk2 V c 2 t) (iblk2 V c 3 t) (iblk2 V c 4 t) y
    = fH2 (V c main_v1) (V c main_arg5) (V c main_arg6) (V c main_v0_0) (at512 (pt2 t) (y 0)) (y 1) :=
  (congrArg (out2_5 (F := Ideal) (iblk2 V c 0 t) (iblk2 V c 1 t) (iblk2 V c 2 t) (iblk2 V c 3 t) (iblk2 V c 4 t)) (eq_ix2 y)).trans ((out2_5_at _ _ _ _ _ (y 0) (y 1)).trans
    (row2 V c t (y 0) (y 1)))
theorem point2_6 (c : Dev nD) (t : Fin cfg2.N) (y : S512x1024.Idx) : out2_6 (iblk2 V c 0 t) (iblk2 V c 1 t) (iblk2 V c 2 t) (iblk2 V c 3 t) (iblk2 V c 4 t) y
    = fY2 (V c main_v1) (V c main_arg5) (V c main_arg6) (V c main_v0_0) (V c main_arg7) (at512 (pt2 t) (y 0)) (y 1) :=
  (congrArg (out2_6 (F := Ideal) (iblk2 V c 0 t) (iblk2 V c 1 t) (iblk2 V c 2 t) (iblk2 V c 3 t) (iblk2 V c 4 t)) (eq_ix2 y)).trans ((out2_6_at _ _ _ _ _ (y 0) (y 1)).trans
    (congrArg₂ (fun p q => norm p q (y 1)) (funext fun a => row2 V c t (y 0) a) (funext fun a => blk2_4 V c t a)))
theorem point3 (c : Dev nD) (t : Fin cfg3.N) (y : S512x1280.Idx) : out3_3 (iblk3 V c 0 t) (iblk3 V c 1 t) (iblk3 V c 2 t) y
    = fQkv (V c main_v2_1) (V c main_arg8) (V c main_arg9) (at512 (pt3 t) (y 0)) (y 1) :=
  (congrArg (out3_3 (F := Ideal) (iblk3 V c 0 t) (iblk3 V c 1 t) (iblk3 V c 2 t)) (eq_ix2 y)).trans ((out3_3_at _ _ _ (y 0) (y 1)).trans
    (congrArg₂ (· + ·) (Finset.sum_congr rfl fun k _ => congrArg₂ (· * ·) (blk3_0 V c t (y 0) k) (blk3_1 V c t (y 1) k)) (blk3_2 V c t (y 1))))
theorem point4 (c : Dev nD) (t : Fin cfg4.N) (y : S512x2048.Idx) : out4_2 (iblk4 V c 0 t) (iblk4 V c 1 t) y
    = fDMix (V c main_arg10) (V c main_arg1) (at512 (pt4 t) (y 0)) (y 1) :=
  (congrArg (out4_2 (F := Ideal) (iblk4 V c 0 t) (iblk4 V c 1 t)) (eq_ix2 y)).trans ((out4_2_at _ _ (y 0) (y 1)).trans
    (Finset.sum_congr rfl fun k _ => congrArg₂ (· * ·) (blk4_0 V c t (y 0) k) (blk4_1 V c t (y 1) k)))
theorem point5 (c : Dev nD) (t : Fin cfg5.N) (y : S512x1024.Idx) : out5_2 (iblk5 V c 0 t) (iblk5 V c 1 t) y
    = fGOut (V c main_arg0) (V c main_arg10) (colO (pt5 t) (y 0)) (y 1) :=
  (congrArg (out5_2 (F := Ideal) (iblk5 V c 0 t) (iblk5 V c 1 t)) (eq_ix2 y)).trans ((out5_2_at _ _ (y 0) (y 1)).trans
    (Finset.sum_congr rfl fun r _ => congrArg₂ (· * ·) (blk5_0 V c t r (y 0)) (blk5_1 V c t r (y 1))))

/-! ### What the arrays hold at the end -/

theorem final0_4 (c : Dev nD) : (dat0 V c).arrAt 4 cfg0.N
    = fun y : S4096x1024.Idx => fH1 (V c main_arg0) (V c main_arg1) (V c main_arg2) (y 0) (y 1) := by
  refine (dat0 V c).arrAt_eq_of_covers 4 _ (by decide +kernel) fun t hf y => ?_
  blk_simp
  rw [after0_4]
  refine (point0_4 V c t y).trans ?_
  refine congrArg₂ (fH1 (V c main_arg0) (V c main_arg1) (V c main_arg2)) (Fin.ext ?_) (Fin.ext ?_)
  · blk_simp [idx0 t, at512, pt0]; try simp; try omega
  · blk_simp [idx0 t]

theorem final0_5 (c : Dev nD) : (dat0 V c).arrAt 5 cfg0.N
    = fun y : S4096x1024.Idx => fY1 (V c main_arg0) (V c main_arg1) (V c main_arg2) (V c main_arg3) (y 0) (y 1) := by
  refine (dat0 V c).arrAt_eq_of_covers 5 _ (by decide +kernel) fun t hf y => ?_
  blk_simp
  rw [after0_5]
  refine (point0_5 V c t y).trans ?_
  refine congrArg₂ (fY1 (V c main_arg0) (V c main_arg1) (V c main_arg2) (V c main_arg3)) (Fin.ext ?_) (Fin.ext ?_)
  · blk_simp [idx0 t, at512, pt0]; try simp; try omega
  · blk_simp [idx0 t]

theorem final1 (c : Dev nD) : (dat1 V c).arrAt 2 cfg1.N
    = fun y : S4096x4096.Idx => fUp (V c main_v0_1) (V c main_arg4) (y 0) (blk (y 1)) (lane (y 1)) := by
  refine (dat1 V c).arrAt_eq_of_covers 2 _ (by decide +kernel) fun t hf y => ?_
  blk_simp
  rw [after1_2]
  refine (point1 V c t y).trans ?_
  congr 1
  · apply Fin.ext; blk_simp [idx1 t, at512, pt1]; simp; try omega
  · congr 1; apply Fin.ext; blk_simp [idx1 t]
  · congr 1; apply Fin.ext; blk_simp [idx1 t]

theorem final2_5 (c : Dev nD) : (dat2 V c).arrAt 5 cfg2.N
    = fun y : S4096x1024.Idx => fH2 (V c main_v1) (V c main_arg5) (V c main_arg6) (V c main_v0_0) (y 0) (y 1) := by
  refine (dat2 V c).arrAt_eq_of_covers 5 _ (by decide +kernel) fun t hf y => ?_
  blk_simp
  rw [after2_5]
  refine (point2_5 V c t y).trans ?_
  refine congrArg₂ (fH2 (V c main_v1) (V c main_arg5) (V c main_arg6) (V c main_v0_0)) (Fin.ext ?_) (Fin.ext ?_)
  · blk_simp [idx2 t, at512, pt2]; try simp; try omega
  · blk_simp [idx2 t]

theorem final2_6 (c : Dev nD) : (dat2 V c).arrAt 6 cfg2.N
    = fun y : S4096x1024.Idx => fY2 (V c main_v1) (V c main_arg5) (V c main_arg6) (V c main_v0_0) (V c main_arg7) (y 0) (y 1) := by
  refine (dat2 V c).arrAt_eq_of_covers 6 _ (by decide +kernel) fun t hf y => ?_
  blk_simp
  rw [after2_6]
  refine (point2_6 V c t y).trans ?_
  refine congrArg₂ (fY2 (V c main_v1) (V c main_arg5) (V c main_arg6) (V c main_v0_0) (V c main_arg7)) (Fin.ext ?_) (Fin.ext ?_)
  · blk_simp [idx2 t, at512, pt2]; try simp; try omega
  · blk_simp [idx2 t]

theorem final3 (c : Dev nD) : (dat3 V c).arrAt 3 cfg3.N
    = fun y : S4096x1280.Idx => fQkv (V c main_v2_1) (V c main_arg8) (V c main_arg9) (y 0) (y 1) := by
  refine (dat3 V c).arrAt_eq_of_covers 3 _ (by decide +kernel) fun t hf y => ?_
  blk_simp
  rw [after3_3]
  refine (point3 V c t y).trans ?_
  refine congrArg₂ (fQkv (V c main_v2_1) (V c main_arg8) (V c main_arg9)) (Fin.ext ?_) (Fin.ext ?_)
  · blk_simp [idx3 t, at512, pt3]; try simp; try omega
  · blk_simp [idx3 t]

theorem final4 (c : Dev nD) : (dat4 V c).arrAt 2 cfg4.N
    = fun y : S4096x2048.Idx => fDMix (V c main_arg10) (V c main_arg1) (y 0) (y 1) := by
  refine (dat4 V c).arrAt_eq_of_covers 2 _ (by decide +kernel) fun t hf y => ?_
  blk_simp
  rw [after4_2]
  refine (point4 V c t y).trans ?_
  refine congrArg₂ (fDMix (V c main_arg10) (V c main_arg1)) (Fin.ext ?_) (Fin.ext ?_)
  · blk_simp [idx4 t, at512, pt4]; try simp; try omega
  · blk_simp [idx4 t]

theorem final5 (c : Dev nD) : (dat5 V c).arrAt 2 cfg5.N
    = fun y : S2048x1024.Idx => fGOut (V c main_arg0) (V c main_arg10) (y 0) (y 1) := by
  refine (dat5 V c).arrAt_eq_of_covers 2 _ (by decide +kernel) fun t hf y => ?_
  blk_simp
  rw [after5_2]
  refine (point5 V c t y).trans ?_
  refine congrArg₂ (fGOut (V c main_arg0) (V c main_arg10)) (Fin.ext ?_) (Fin.ext ?_)
  · blk_simp [idx5 t, colO, pt5]; try simp; try omega
  · blk_simp [idx5 t]

end Cert.Kernel4Ideal.Body

end
-- ==== Proof.LayChain.lean ====
/-
  What the run of the fourth program leaves in its result buffers, as functions of the arguments: each pipeline's arrays
  are read back through the pipelines before it.
-/
module

public import proofs.«01_k».proof.Proof.LayRun
public import proofs.«01_k».proof.Proof.LayFinal

@[expose] public section

set_option maxRecDepth 16384

noncomputable section

namespace Cert.Kernel4Ideal.Body

open Cert.Kernel4Ideal Cert.Kernel4Ideal.Gen Idealize.ShloMosaic Idealize.ShloMosaic.TcCoe Idealize.SL.Sem Cert.Mlp

variable (m : (ℓ : Loc nD τ sig) → Buf (Elt Ideal) ℓ) (ρ : Dev nD → PrngReg)

/-- A device's arguments. -/
def args (c : Dev nD) : Lay.Arg :=
  Lay.argOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-! ### The output projection -/

theorem h1_1 (c : Dev nD) : (V1 m ρ c main_v0_0 : Vec Ideal S4096x1024 .f32) = fun i : S4096x1024.Idx => Lay.h1 (args m c) (i 0) (i 1) :=
  (W1_arr m ρ c 4).trans (final0_4 (V0 m ρ) c)
theorem y1_1 (c : Dev nD) : (V1 m ρ c main_v0_1 : Vec Ideal S4096x1024 .bf16) = fun i : S4096x1024.Idx => Lay.y1 (args m c) (i 0) (i 1) :=
  (W1_arr m ρ c 5).trans (final0_5 (V0 m ρ) c)

/-! ### The MLP -/

theorem up_2 (c : Dev nD) : (V2 m ρ c main_v1 : Vec Ideal S4096x4096 .bf16)
    = fun i : S4096x4096.Idx => Lay.up (args m c) (i 0) (blk (i 1)) (lane (i 1)) :=
  (W2_arr m ρ c 2).trans ((final1 (V1 m ρ) c).trans (funext fun i => Finset.sum_congr rfl fun k _ =>
    congrArg₂ (· * ·) (congrFun (y1_1 m ρ c) (ix2 (i 0) k)) (congrFun (W1_args m ρ c main_arg4 (by decide)) (ix3 (blk (i 1)) k (lane (i 1))))))
theorem h1_2 (c : Dev nD) : (V2 m ρ c main_v0_0 : Vec Ideal S4096x1024 .f32) = fun i : S4096x1024.Idx => Lay.h1 (args m c) (i 0) (i 1) :=
  (W2_of m ρ c main_v0_0 (by decide)).trans (h1_1 m ρ c)

theorem up_at (c : Dev nD) (r : Fin 4096) (b : Fin 8) (j : Fin 512) :
    (V2 m ρ c main_v1 : Vec Ideal S4096x4096 .bf16) (ix2 r (at512 b j)) = Lay.up (args m c) r b j :=
  (congrFun (up_2 m ρ c) (ix2 r (at512 b j))).trans
    (congrArg₂ (fun a d => Lay.up (args m c) r a d) (blk_at512 b j) (lane_at512 b j))
theorem rows_2 (c : Dev nD) (r : Fin 4096) (k : Fin 1024) :
    fH2 (V2 m ρ c main_v1) (V2 m ρ c main_arg5) (V2 m ρ c main_arg6) (V2 m ρ c main_v0_0) r k = Lay.h2 (args m c) r k :=
  congrArg₂ (· + ·) (congrFun (h1_2 m ρ c) (ix2 r k)) (Finset.sum_congr rfl fun b _ => congrArg₂ (· + ·)
    (Finset.sum_congr rfl fun j _ => congrArg₂ (fun u w => Lay.reluSq u * w) (up_at m ρ c r b (Lay.lo j))
      (congrFun (W2_args m ρ c main_arg5 (by decide)) (ix3 b j k)))
    (Finset.sum_congr rfl fun j _ => congrArg₂ (fun u w => Lay.reluSq u * w) (up_at m ρ c r b (Lay.hi j))
      (congrFun (W2_args m ρ c main_arg6 (by decide)) (ix3 b j k))))

theorem h2_3 (c : Dev nD) : (V3 m ρ c main_v2_0 : Vec Ideal S4096x1024 .f32) = fun i : S4096x1024.Idx => Lay.h2 (args m c) (i 0) (i 1) :=
  (W3_arr m ρ c 5).trans ((final2_5 (V2 m ρ) c).trans (funext fun i => rows_2 m ρ c (i 0) (i 1)))
theorem y2_3 (c : Dev nD) : (V3 m ρ c main_v2_1 : Vec Ideal S4096x1024 .bf16) = fun i : S4096x1024.Idx => Lay.y2 (args m c) (i 0) (i 1) :=
  (W3_arr m ρ c 6).trans ((final2_6 (V2 m ρ) c).trans (funext fun i => congrArg₂ (fun p q => norm p q (i 1))
    (funext fun a => rows_2 m ρ c (i 0) a) (funext fun a => congrFun (W2_args m ρ c main_arg7 (by decide)) (ix2 0 a))))

/-! ### The next input projection, and the output projection's gradients -/

theorem qkv_4 (c : Dev nD) : (V4 m ρ c main_v3 : Vec Ideal S4096x1280 .f32) = fun i : S4096x1280.Idx => Lay.qkv (args m c) (i 0) (i 1) :=
  (W4_arr m ρ c 3).trans ((final3 (V3 m ρ) c).trans (funext fun i => congrArg₂ (· + ·) (Finset.sum_congr rfl fun k _ =>
    congrArg₂ (· * ·) (congrFun (y2_3 m ρ c) (ix2 (i 0) k)) (congrFun (W3_args m ρ c main_arg8 (by decide)) (ix2 (i 1) k)))
    (congrFun (W3_args m ρ c main_arg9 (by decide)) (ix2 0 (i 1)))))
theorem dmix_5 (c : Dev nD) : (V5 m ρ c main_v4 : Vec Ideal S4096x2048 .f32) = fun i : S4096x2048.Idx => Lay.dMix (args m c) (i 0) (i 1) :=
  (W5_arr m ρ c 2).trans ((final4 (V4 m ρ) c).trans (funext fun i => Finset.sum_congr rfl fun k _ =>
    congrArg₂ (· * ·) (congrFun (W4_args m ρ c main_arg10 (by decide)) (ix2 (i 0) k))
      (congrFun (W4_args m ρ c main_arg1 (by decide)) (ix2 (i 1) k))))

/-! ### The results at the end -/

theorem res0 (c : Dev nD) : (W6 m ρ c (Proc.devRef .tc main_v0_0) : Vec Ideal S4096x1024 .f32)
    = fun i : S4096x1024.Idx => Lay.h1 (args m c) (i 0) (i 1) :=
  (W6_of m ρ c main_v0_0 (by decide)).trans ((W5_of m ρ c main_v0_0 (by decide)).trans ((W4_of m ρ c main_v0_0 (by decide)).trans
    ((W3_of m ρ c main_v0_0 (by decide)).trans (h1_2 m ρ c))))
theorem res1 (c : Dev nD) : (W6 m ρ c (Proc.devRef .tc main_v2_0) : Vec Ideal S4096x1024 .f32)
    = fun i : S4096x1024.Idx => Lay.h2 (args m c) (i 0) (i 1) :=
  (W6_of m ρ c main_v2_0 (by decide)).trans ((W5_of m ρ c main_v2_0 (by decide)).trans ((W4_of m ρ c main_v2_0 (by decide)).trans (h2_3 m ρ c)))
theorem res2 (c : Dev nD) : (W6 m ρ c (Proc.devRef .tc main_v2_1) : Vec Ideal S4096x1024 .bf16)
    = fun i : S4096x1024.Idx => Lay.y2 (args m c) (i 0) (i 1) :=
  (W6_of m ρ c main_v2_1 (by decide)).trans ((W5_of m ρ c main_v2_1 (by decide)).trans ((W4_of m ρ c main_v2_1 (by decide)).trans (y2_3 m ρ c)))
theorem res3 (c : Dev nD) : (W6 m ρ c (Proc.devRef .tc main_v3) : Vec Ideal S4096x1280 .f32)
    = fun i : S4096x1280.Idx => Lay.qkv (args m c) (i 0) (i 1) :=
  (W6_of m ρ c main_v3 (by decide)).trans ((W5_of m ρ c main_v3 (by decide)).trans (qkv_4 m ρ c))
theorem res4 (c : Dev nD) : (W6 m ρ c (Proc.devRef .tc main_v4) : Vec Ideal S4096x2048 .f32)
    = fun i : S4096x2048.Idx => Lay.dMix (args m c) (i 0) (i 1) :=
  (W6_of m ρ c main_v4 (by decide)).trans (dmix_5 m ρ c)
theorem res5 (c : Dev nD) : (W6 m ρ c (Proc.devRef .tc main_v5) : Vec Ideal S2048x1024 .bf16)
    = fun i : S2048x1024.Idx => Lay.gOut (args m c) (i 0) (i 1) :=
  (W6_arr m ρ c 2).trans ((final5 (V5 m ρ) c).trans (funext fun i => Finset.sum_congr rfl fun t _ =>
    congrArg₂ (· * ·) (congrFun (W5_args m ρ c main_arg0 (by decide)) (ix2 t (i 0)))
      (congrFun (W5_args m ρ c main_arg10 (by decide)) (ix2 t (i 1)))))

end Cert.Kernel4Ideal.Body

end
-- ==== Proof.LayRef.lean ====
/-
  What the reference of the fourth program computes, read at an index, and its six results as whole arrays.
-/
module

public import proofs.«01_k».proof.Proof.LaySpec
public import proofs.«01_k».proof.Proof.Gen.Reference4Ideal.Read
public import Idealize.ShloMosaic.Lib.Pipeline.Value

@[expose] public section

set_option maxRecDepth 16384

noncomputable section

namespace Cert.Reference4Ideal.At

open Cert.Reference4Ideal Cert.Reference4Ideal.Gen Cert.Reference4Ideal.Read Idealize.ShloMosaic Cert.Mlp Cert.Gmlp Cert.Lay

variable (x0 : Vec Ideal S4096x2048 .bf16) (x1 : Vec Ideal S2048x1024 .bf16) (x2 : Vec Ideal S4096x1024 .f32) (x3 : Vec Ideal S1x1024 .f32)
  (x4 : Vec Ideal S8x1024x512 .bf16) (x5 x6 : Vec Ideal S8x256x1024 .bf16) (x7 : Vec Ideal S1x1024 .f32) (x8 : Vec Ideal S1280x1024 .bf16)
  (x9 : Vec Ideal S1x1280 .f32) (x10 : Vec Ideal S4096x1024 .bf16)

/-! ### The weights by blocks, in the wide format -/

theorem v10_at (k : Fin 1024) (b : Fin 8) (j : Fin 512) : val_main_v10 x4 (ix2 k (at512 b j)) = x4 (ix3 b k j) := by
  unfold val_main_v10 val_main_v9 val_main_v8; pointwise
  exact congrArg₂ (fun a c => x4 (ix3 a k c)) (blk_at512 b j) (lane_at512 b j)
theorem v11_lo (b : Fin 8) (j : Fin 256) (k : Fin 1024) : val_main_v11 x5 x6 (ix3 b (lo j) k) = x5 (ix3 b j k) :=
  concatenate_pair_apply_left 1 x5 x6 concatenates_S8x256x1024_S8x256x1024_S8x512x1024_d1 _ rfl _ (fun a => by
    fin_cases a <;> rfl)
theorem v11_hi (b : Fin 8) (j : Fin 256) (k : Fin 1024) : val_main_v11 x5 x6 (ix3 b (hi j) k) = x6 (ix3 b j k) :=
  concatenate_pair_apply_right 1 x5 x6 concatenates_S8x256x1024_S8x256x1024_S8x512x1024_d1 _ rfl rfl _
    (fun a ha => by fin_cases a <;> first | rfl | exact absurd rfl ha) (by show j.val + 256 = 256 + j.val; omega)
theorem v13_at (b : Fin 8) (j : Fin 512) (k : Fin 1024) : val_main_v13 x5 x6 (ix2 (at512 b j) k) = val_main_v11 x5 x6 (ix3 b j k) := by
  unfold val_main_v13 val_main_v12; pointwise
  exact congrArg₂ (fun a c => val_main_v11 x5 x6 (ix3 a c k)) (blk_at512 b j) (lane_at512 b j)

/-! ### The output projection and its gradients -/

theorem v3_at (r : Fin 4096) (k : Fin 1024) : val_main_v3 x0 x1 x2 (ix2 r k) = h1 (argOf x0 x1 x2 x3 x4 x5 x6 x7 x8 x9 x10) r k := by
  unfold val_main_v3 val_main_v2 val_main_v1 val_main_v0; pointwise
  exact add_comm _ _
theorem v7_at (r : Fin 4096) (j : Fin 2048) : val_main_v7 x1 x10 (ix2 r j) = dMix (argOf x0 x1 x2 x3 x4 x5 x6 x7 x8 x9 x10) r j := by
  unfold val_main_v7 val_main_v4 val_main_v1; pointwise; rfl
theorem v55_at (j : Fin 2048) (k : Fin 1024) : val_main_v55 x0 x10 (ix2 j k) = gOut (argOf x0 x1 x2 x3 x4 x5 x6 x7 x8 x9 x10) j k := by
  unfold val_main_v55 val_main_v6 val_main_v5 val_main_v4 val_main_v0; pointwise
  exact Finset.sum_congr rfl fun t _ => mul_comm _ _

/-! ### The MLP -/

theorem v27_at (r : Fin 4096) (k : Fin 1024) : val_main_v27 x0 x1 x2 x3 (ix2 r k) = y1 (argOf x0 x1 x2 x3 x4 x5 x6 x7 x8 x9 x10) r k := by
  unfold val_main_v27 val_main_v26 val_main_v25 val_main_v14 val_main_v24 val_main_v23 val_main_v22 val_main_v21 val_main_v20 val_main_cst_1
    val_main_v19 val_main_v18 val_main_cst_0 val_main_v17 val_main_v16 val_main_cst val_main_v15
  pointwise
  simp only [v3_at x0 x1 x2 x3 x4 x5 x6 x7 x8 x9 x10]; rfl
theorem v28_at (r : Fin 4096) (b : Fin 8) (j : Fin 512) :
    val_main_v28 x0 x1 x2 x3 x4 (ix2 r (at512 b j)) = up (argOf x0 x1 x2 x3 x4 x5 x6 x7 x8 x9 x10) r b j := by
  unfold val_main_v28; pointwise
  simp only [v27_at x0 x1 x2 x3 x4 x5 x6 x7 x8 x9 x10, v10_at]; rfl
theorem v30_at (r : Fin 4096) (b : Fin 8) (j : Fin 512) :
    val_main_v30 x0 x1 x2 x3 x4 (ix2 r (at512 b j)) = reluSq (up (argOf x0 x1 x2 x3 x4 x5 x6 x7 x8 x9 x10) r b j) := by
  unfold val_main_v30 val_main_v29 val_main_call0_v0 val_main_call0_cst; pointwise
  rw [v28_at x0 x1 x2 x3 x4 x5 x6 x7 x8 x9 x10]; rfl
theorem v31_at (r : Fin 4096) (k : Fin 1024) :
    val_main_v31 x0 x1 x2 x3 x4 x5 x6 (ix2 r k) = ∑ b, down (argOf x0 x1 x2 x3 x4 x5 x6 x7 x8 x9 x10) r k b := by
  unfold val_main_v31; pointwise
  rw [sum_at512]
  refine Finset.sum_congr rfl fun b _ => (sum_halves _).trans ?_
  simp only [v30_at x0 x1 x2 x3 x4 x5 x6 x7 x8 x9 x10, v13_at, v11_lo, v11_hi]; rfl
theorem v32_at (r : Fin 4096) (k : Fin 1024) :
    val_main_v32 x0 x1 x2 x3 x4 x5 x6 (ix2 r k) = h2 (argOf x0 x1 x2 x3 x4 x5 x6 x7 x8 x9 x10) r k := by
  unfold val_main_v32; pointwise
  rw [v31_at x0 x1 x2 x3 x4 x5 x6 x7 x8 x9 x10, v3_at x0 x1 x2 x3 x4 x5 x6 x7 x8 x9 x10]; rfl

/-! ### The next input projection -/

theorem v46_at (r : Fin 4096) (k : Fin 1024) :
    val_main_v46 x0 x1 x2 x3 x4 x5 x6 x7 (ix2 r k) = y2 (argOf x0 x1 x2 x3 x4 x5 x6 x7 x8 x9 x10) r k := by
  unfold val_main_v46 val_main_v45 val_main_v44 val_main_v33 val_main_v43 val_main_v42 val_main_v41 val_main_v40 val_main_v39 val_main_cst_4
    val_main_v38 val_main_v37 val_main_cst_3 val_main_v36 val_main_v35 val_main_cst_2 val_main_v34
  pointwise
  simp only [v32_at x0 x1 x2 x3 x4 x5 x6 x7 x8 x9 x10]; rfl
theorem v47_at (r : Fin 4096) (k : Fin 1024) :
    val_main_v47 x0 x1 x2 x3 x4 x5 x6 x7 (ix2 r k) = y2 (argOf x0 x1 x2 x3 x4 x5 x6 x7 x8 x9 x10) r k := by
  unfold val_main_v47; pointwise
  exact v46_at x0 x1 x2 x3 x4 x5 x6 x7 x8 x9 x10 r k
theorem v54_at (r : Fin 4096) (j : Fin 1280) :
    val_main_v54 x0 x1 x2 x3 x4 x5 x6 x7 x8 x9 (ix2 r j) = qkv (argOf x0 x1 x2 x3 x4 x5 x6 x7 x8 x9 x10) r j := by
  unfold val_main_v54 val_main_v53 val_main_v52 val_main_v51 val_main_v50 val_main_v49 val_main_v48; pointwise
  simp only [v46_at x0 x1 x2 x3 x4 x5 x6 x7 x8 x9 x10]; rfl

/-! ### The results as whole arrays -/

theorem v3_eq : val_main_v3 x0 x1 x2 = fun i : S4096x1024.Idx => h1 (argOf x0 x1 x2 x3 x4 x5 x6 x7 x8 x9 x10) (i 0) (i 1) :=
  funext fun i => (congrArg (val_main_v3 x0 x1 x2) (eq_ix2 i)).trans (v3_at x0 x1 x2 x3 x4 x5 x6 x7 x8 x9 x10 (i 0) (i 1))
theorem v32_eq : val_main_v32 x0 x1 x2 x3 x4 x5 x6 = fun i : S4096x1024.Idx => h2 (argOf x0 x1 x2 x3 x4 x5 x6 x7 x8 x9 x10) (i 0) (i 1) :=
  funext fun i => (congrArg (val_main_v32 x0 x1 x2 x3 x4 x5 x6) (eq_ix2 i)).trans (v32_at x0 x1 x2 x3 x4 x5 x6 x7 x8 x9 x10 (i 0) (i 1))
theorem v47_eq : val_main_v47 x0 x1 x2 x3 x4 x5 x6 x7 = fun i : S4096x1024.Idx => y2 (argOf x0 x1 x2 x3 x4 x5 x6 x7 x8 x9 x10) (i 0) (i 1) :=
  funext fun i => (congrArg (val_main_v47 x0 x1 x2 x3 x4 x5 x6 x7) (eq_ix2 i)).trans (v47_at x0 x1 x2 x3 x4 x5 x6 x7 x8 x9 x10 (i 0) (i 1))
theorem v54_eq : val_main_v54 x0 x1 x2 x3 x4 x5 x6 x7 x8 x9 = fun i : S4096x1280.Idx => qkv (argOf x0 x1 x2 x3 x4 x5 x6 x7 x8 x9 x10) (i 0) (i 1) :=
  funext fun i => (congrArg (val_main_v54 x0 x1 x2 x3 x4 x5 x6 x7 x8 x9) (eq_ix2 i)).trans (v54_at x0 x1 x2 x3 x4 x5 x6 x7 x8 x9 x10 (i 0) (i 1))
theorem v7_eq : val_main_v7 x1 x10 = fun i : S4096x2048.Idx => dMix (argOf x0 x1 x2 x3 x4 x5 x6 x7 x8 x9 x10) (i 0) (i 1) :=
  funext fun i => (congrArg (val_main_v7 x1 x10) (eq_ix2 i)).trans (v7_at x0 x1 x2 x3 x4 x5 x6 x7 x8 x9 x10 (i 0) (i 1))
theorem v55_eq : val_main_v55 x0 x10 = fun i : S2048x1024.Idx => gOut (argOf x0 x1 x2 x3 x4 x5 x6 x7 x8 x9 x10) (i 0) (i 1) :=
  funext fun i => (congrArg (val_main_v55 x0 x10) (eq_ix2 i)).trans (v55_at x0 x1 x2 x3 x4 x5 x6 x7 x8 x9 x10 (i 0) (i 1))

end Cert.Reference4Ideal.At

end
-- ==== Proof.HeadRun.lean ====
/-
  The run of the fifth program from the launch to the end: every buffer of the device ends at the
  contents that the fold over the five pipelines names.
-/
module

public import proofs.«01_k».proof.Proof.Gen.Kernel5Ideal.Frame
public import Idealize.ShloMosaic.Lib.Pointwise

@[expose] public section

set_option maxRecDepth 16384

noncomputable section

namespace Cert.Kernel5Ideal.Body

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- Every weakly fair execution ends, faults nowhere, and leaves every buffer at the fold's last contents. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

end Cert.Kernel5Ideal.Body

end
-- ==== Proof.HeadSpec.lean ====
/-
  The mathematics of the last layer's output projection with its gradients, of its MLP, of the loss and of the loss's gradients,
  over extended reals and over plain coordinates. Both programs are read at these functions. No printed program is mentioned
  here.
-/
module

public import proofs.«01_k».proof.Proof.LaySpec
public import Idealize.ShloMosaic.Lib.IdealHost

@[expose] public section

noncomputable section

namespace Cert.Head

open Idealize.ShloMosaic Cert.Mlp Cert.Lay Cert.Gmlp

/-! ### Half of a sum -/

theorem cHalf_eq : cHalf = (((1 : ℝ) / 2 : ℝ) : EReal) := by
  simp [cHalf, Ideal.ofBits, Ideal.ieee, -EReal.coe_mul]; norm_num

theorem half_add (x y : EReal) : cHalf * (x + y) = cHalf * x + cHalf * y := by
  rw [cHalf_eq]
  exact EReal.left_distrib_of_nonneg_of_ne_top (EReal.coe_nonneg.mpr (by norm_num)) (EReal.coe_ne_top _) x y

/-- The halves of the blocks' sums add up to half of the whole sum. -/
theorem half_sum (f : Fin 4096 → EReal) : ∑ b : Fin 8, cHalf * ∑ r : Fin 512, f (at512 b r) = cHalf * ∑ r, f r := by
  rw [sum_at512, Fin.sum_univ_eight, Fin.sum_univ_eight]
  simp only [half_add]

/-! ### The arguments and the results -/

/-- The arguments over plain coordinates: the attention's rows, the output projection's weight, the residual stream, the
    projection's bias, the MLP's gain and weights, the last gain, the target and the cotangent of the residual stream. -/
structure Arg where
  a : Fin 4096 → Fin 1024 → EReal
  wo : Fin 1024 → Fin 1024 → EReal
  x : Fin 4096 → Fin 1024 → EReal
  bo : Fin 1024 → EReal
  gm : Fin 1024 → EReal
  wu : Fin 8 → Fin 1024 → Fin 512 → EReal
  wd : Fin 8 → Fin 512 → Fin 1024 → EReal
  gf : Fin 1024 → EReal
  t : Fin 4096 → Fin 1024 → EReal
  dh : Fin 4096 → Fin 1024 → EReal

/-- The arguments, as the arrays of either program. -/
def argOf (x0 : Vec Ideal ⟨2, ![4096, 1024]⟩ .bf16) (x1 : Vec Ideal ⟨2, ![1024, 1024]⟩ .bf16) (x2 : Vec Ideal ⟨2, ![4096, 1024]⟩ .f32)
    (x3 x4 : Vec Ideal ⟨2, ![1, 1024]⟩ .f32) (x5 : Vec Ideal ⟨3, ![8, 1024, 512]⟩ .bf16) (x6 : Vec Ideal ⟨3, ![8, 512, 1024]⟩ .bf16)
    (x7 : Vec Ideal ⟨2, ![1, 1024]⟩ .f32) (x8 : Vec Ideal ⟨2, ![4096, 1024]⟩ .f32) (x9 : Vec Ideal ⟨2, ![4096, 1024]⟩ .bf16) : Arg :=
  ⟨fun r j => x0 (ix2 r j), fun j k => x1 (ix2 j k), fun r k => x2 (ix2 r k), fun k => x3 (ix2 0 k), fun k => x4 (ix2 0 k),
    fun b k j => x5 (ix3 b k j), fun b j k => x6 (ix3 b j k), fun k => x7 (ix2 0 k), fun r k => x8 (ix2 r k), fun r k => x9 (ix2 r k)⟩

/-- One row's difference of the scaled row and the target. -/
def diff (h g t : Fin 1024 → EReal) (k : Fin 1024) : EReal := norm h g k - t k
/-- Its mean square. -/
def rowLoss (h g t : Fin 1024 → EReal) : EReal := Ideal.div (∑ k, diff h g t k * diff h g t k) cLen
/-- The cotangent of the scaled row. -/
def dOut (h g t : Fin 1024 → EReal) (k : Fin 1024) : EReal := Ideal.div cHalf cLen * (cTwo * diff h g t k)
/-- The cotangent of the row, from the cotangent `d` of the scaled row. -/
def dTop (h g d : Fin 1024 → EReal) (k : Fin 1024) : EReal := d k * g k * rs h + h k * csq h g d + csq h g d * h k

variable (A : Arg)

/-- The residual stream after the output projection. -/
def h3 (r : Fin 4096) (k : Fin 1024) : EReal := (∑ j, A.a r j * A.wo j k) + A.x r k + A.bo k
/-- Its normalised rows. -/
def y3 (r : Fin 4096) (k : Fin 1024) : EReal := norm (h3 A r) A.gm k
/-- The MLP's hidden rows, by blocks of 512 columns. -/
def up (r : Fin 4096) (b : Fin 8) (j : Fin 512) : EReal := ∑ k, y3 A r k * A.wu b k j
/-- The residual stream after the MLP. -/
def h4 (r : Fin 4096) (k : Fin 1024) : EReal := h3 A r k + ∑ b, ∑ j, reluSq (up A r b j) * A.wd b j k
/-- The loss. -/
def loss : EReal := cHalf * ∑ r, rowLoss (h4 A r) A.gf (A.t r)
/-- The cotangent of the residual stream after the MLP. -/
def dH4 (r : Fin 4096) (k : Fin 1024) : EReal := dTop (h4 A r) A.gf (dOut (h4 A r) A.gf (A.t r)) k
/-- The cotangent of the last gain. -/
def dGain (k : Fin 1024) : EReal := ∑ r, unit (h4 A r) k * dOut (h4 A r) A.gf (A.t r) k
/-- The cotangent of the output projection's weight. -/
def gOut (j k : Fin 1024) : EReal := ∑ t, A.a t j * A.dh t k
/-- The cotangent of the attention's rows. -/
def dAttn (r : Fin 4096) (j : Fin 1024) : EReal := ∑ k, A.dh r k * A.wo j k

end Cert.Head

end
-- ==== Proof.HeadBody.lean ====
/-
  The kernels of the last output projection with its gradients, of the last MLP and of the loss at one grid point, over the
  extended reals, read at an index.
-/
module

public import proofs.«01_k».proof.Proof.HeadSpec
public import proofs.«01_k».proof.Proof.Gen.Kernel5Ideal.Frame
public import Idealize.ShloMosaic.Lib.Pipeline.ValueKit

@[expose] public section

set_option maxRecDepth 16384

noncomputable section

namespace Cert.Kernel5Ideal.Body

open Cert.Kernel5Ideal Cert.Kernel5Ideal.Gen Idealize.ShloMosaic Cert.Mlp Cert.Lay Cert.Head

/-! ### The output projection -/

/-- A row of the residual stream after the projection, from a point's blocks. -/
def pI (x0 : Vec Ideal S512x1024 .bf16) (x1 : Vec Ideal S1024x1024 .bf16) (x2 : Vec Ideal S512x1024 .f32) (x3 : Vec Ideal S1x1024 .f32)
    (r : Fin 512) (k : Fin 1024) : EReal := (∑ j, x0 (ix2 r j) * x1 (ix2 j k)) + x2 (ix2 r k) + x3 (ix2 0 k)

theorem p_at (x0 : Vec Ideal S512x1024 .bf16) (x1 : Vec Ideal S1024x1024 .bf16) (x2 : Vec Ideal S512x1024 .f32)
    (x3 : Vec Ideal S1x1024 .f32) (r : Fin 512) (k : Fin 1024) : k0_pay1 x0 x1 x2 x3 (ix2 r k) = pI x0 x1 x2 x3 r k := by
  unfold k0_pay1; pointwise; rfl

theorem out0_5_at (x0 : Vec Ideal S512x1024 .bf16) (x1 : Vec Ideal S1024x1024 .bf16) (x2 : Vec Ideal S512x1024 .f32)
    (x3 x4 : Vec Ideal S1x1024 .f32) (r : Fin 512) (k : Fin 1024) : out0_5 x0 x1 x2 x3 x4 (ix2 r k) = pI x0 x1 x2 x3 r k := by
  unfold out0_5
  frame_out
  exact p_at x0 x1 x2 x3 r k

theorem out0_6_at (x0 : Vec Ideal S512x1024 .bf16) (x1 : Vec Ideal S1024x1024 .bf16) (x2 : Vec Ideal S512x1024 .f32)
    (x3 x4 : Vec Ideal S1x1024 .f32) (r : Fin 512) (k : Fin 1024) :
    out0_6 x0 x1 x2 x3 x4 (ix2 r k) = norm (pI x0 x1 x2 x3 r) (fun a => x4 (ix2 0 a)) k := by
  unfold out0_6
  frame_out
  unfold k0_pay2; pointwise
  simp only [p_at]; rfl

/-! ### The first weight's product -/

/-- One block of columns of the product, at the array's index. -/
theorem up_tile (x0 : Vec Ideal S512x1024 .bf16) (x1 : Vec Ideal S8x1024x512 .bf16) (y : S512x4096.Idx) (x : S512x512.Idx) (n : ℕ)
    (hn : n < 8) (h0 : (y 0).val = (x 0).val) (h1 : (y 1).val = 512 * n + (x 1).val) :
    ∑ k : Fin 1024, x0 (ix2 (x 0) k) * x1 (ix3 ⟨n, hn⟩ k (x 1)) = ∑ k, x0 (ix2 (y 0) k) * x1 (ix3 (blk (y 1)) k (lane (y 1))) := by
  have hx : (x 1).val < 512 := (x 1).isLt
  have e0 : (y 0 : Fin 512) = x 0 := Fin.ext h0
  have e1 : blk (y 1) = ⟨n, hn⟩ := Fin.ext (by show (y 1).val / 512 = n; omega)
  have e2 : lane (y 1) = (x 1 : Fin 512) := Fin.ext (by show (y 1).val % 512 = (x 1).val; omega)
  refine Finset.sum_congr rfl fun k _ => ?_
  exact congrArg₂ (· * ·) (congrArg (fun a : Fin 512 => x0 (ix2 a k)) e0.symm)
    (congrArg₂ (fun (a : Fin 8) (b : Fin 512) => x1 (ix3 a k b)) e1.symm e2.symm)

/-- What one point of the second kernel writes. -/
theorem out1_at (x0 : Vec Ideal S512x1024 .bf16) (x1 : Vec Ideal S8x1024x512 .bf16) (y : S512x4096.Idx) :
    out1_2 x0 x1 y = ∑ k, x0 (ix2 (y 0) k) * x1 (ix3 (blk (y 1)) k (lane (y 1))) := by
  unfold_out out1_2
  canon_tiles x h
  · refine Eq.trans ?_ (up_tile x0 x1 y x 7 (by decide) h0 h1); unfold_payloads; pointwise
  · refine Eq.trans ?_ (up_tile x0 x1 y x 6 (by decide) h0 h1); unfold_payloads; pointwise
  · refine Eq.trans ?_ (up_tile x0 x1 y x 5 (by decide) h0 h1); unfold_payloads; pointwise
  · refine Eq.trans ?_ (up_tile x0 x1 y x 4 (by decide) h0 h1); unfold_payloads; pointwise
  · refine Eq.trans ?_ (up_tile x0 x1 y x 3 (by decide) h0 h1); unfold_payloads; pointwise
  · refine Eq.trans ?_ (up_tile x0 x1 y x 2 (by decide) h0 h1); unfold_payloads; pointwise
  · refine Eq.trans ?_ (up_tile x0 x1 y x 1 (by decide) h0 h1); unfold_payloads; pointwise
  · refine Eq.trans ?_ (up_tile x0 x1 y x 0 (by decide) h0 (by omega)); unfold_payloads; pointwise

/-! ### The output projection's gradients -/

theorem out3_2_at (x0 : Vec Ideal S4096x1024 .bf16) (x1 : Vec Ideal S4096x512 .bf16) (j : Fin 1024) (k : Fin 512) :
    out3_2 x0 x1 (ix2 j k) = ∑ t, x0 (ix2 t j) * x1 (ix2 t k) := by
  unfold out3_2
  frame_out
  unfold_payloads; pointwise

theorem out4_2_at (x0 : Vec Ideal S512x1024 .bf16) (x1 : Vec Ideal S1024x1024 .bf16) (r : Fin 512) (j : Fin 1024) :
    out4_2 x0 x1 (ix2 r j) = ∑ k, x0 (ix2 r k) * x1 (ix2 j k) := by
  unfold out4_2
  frame_out
  unfold_payloads; pointwise

/-! ### The second weight's product, the loss and its gradients -/

/-- The input blocks of one grid point of the third kernel. -/
structure In where
  up : Vec Ideal S512x4096 .bf16
  wd : Vec Ideal S8x512x1024 .bf16
  h : Vec Ideal S512x1024 .f32
  g : Vec Ideal S1x1024 .f32
  t : Vec Ideal S512x1024 .f32

variable (I : In)

/-- A row of the residual stream after the MLP, from a point's blocks. -/
def hI (r : Fin 512) (k : Fin 1024) : EReal :=
  I.h (ix2 r k) + ∑ b, ∑ j, reluSq (I.up (ix2 r (at512 b j))) * I.wd (ix3 b j k)
/-- The gain and a row of the target. -/
def gI (k : Fin 1024) : EReal := I.g (ix2 0 k)
def tI (r : Fin 512) (k : Fin 1024) : EReal := I.t (ix2 r k)

/-- The values `%67` and `%69` of the kernel's body at one point, and the last blocks it loads. -/
def a67 : FVec Ideal S512x1024 .f32 :=
  k2_pay7 (k2_pay6 I.h (View.ld I.wd (Rect.unit (s := S8x512x1024) ![0, 0, 0] S1x512x1024.size inb_S8x512x1024_S1x512x1024_0_0_0)) (View.ld I.up (Rect.unit (s := S512x4096) ![0, 0] S512x512.size inb_S512x4096_S512x512_0_0))
    (View.ld I.wd (Rect.unit (s := S8x512x1024) ![1, 0, 0] S1x512x1024.size inb_S8x512x1024_S1x512x1024_1_0_0)) (View.ld I.up (Rect.unit (s := S512x4096) ![0, 512] S512x512.size inb_S512x4096_S512x512_0_512))
    (View.ld I.wd (Rect.unit (s := S8x512x1024) ![2, 0, 0] S1x512x1024.size inb_S8x512x1024_S1x512x1024_2_0_0)) (View.ld I.up (Rect.unit (s := S512x4096) ![0, 1024] S512x512.size inb_S512x4096_S512x512_0_1024)))
    (View.ld I.wd (Rect.unit (s := S8x512x1024) ![3, 0, 0] S1x512x1024.size inb_S8x512x1024_S1x512x1024_3_0_0)) (View.ld I.up (Rect.unit (s := S512x4096) ![0, 1536] S512x512.size inb_S512x4096_S512x512_0_1536))
    (View.ld I.wd (Rect.unit (s := S8x512x1024) ![4, 0, 0] S1x512x1024.size inb_S8x512x1024_S1x512x1024_4_0_0)) (View.ld I.up (Rect.unit (s := S512x4096) ![0, 2048] S512x512.size inb_S512x4096_S512x512_0_2048))
    (View.ld I.wd (Rect.unit (s := S8x512x1024) ![5, 0, 0] S1x512x1024.size inb_S8x512x1024_S1x512x1024_5_0_0)) (View.ld I.up (Rect.unit (s := S512x4096) ![0, 2560] S512x512.size inb_S512x4096_S512x512_0_2560))
def a69 : FVec Ideal S512x1024 .bf16 := k2_pay8 (View.ld I.wd (Rect.unit (s := S8x512x1024) ![6, 0, 0] S1x512x1024.size inb_S8x512x1024_S1x512x1024_6_0_0))
def u6 : Vec Ideal S512x512 .bf16 := View.ld I.up (Rect.unit (s := S512x4096) ![0, 3072] S512x512.size inb_S512x4096_S512x512_0_3072)
def w7 : Vec Ideal S1x512x1024 .bf16 := View.ld I.wd (Rect.unit (s := S8x512x1024) ![7, 0, 0] S1x512x1024.size inb_S8x512x1024_S1x512x1024_7_0_0)
def u7 : Vec Ideal S512x512 .bf16 := View.ld I.up (Rect.unit (s := S512x4096) ![0, 3584] S512x512.size inb_S512x4096_S512x512_0_3584)

/-- The value `%89`: the rows after the MLP. -/
theorem v89_at (r : Fin 512) (k : Fin 1024) : k2_pay9 (a67 I) (a69 I) (u6 I) (w7 I) (u7 I) (ix2 r k) = hI I r k := by
  unfold a67 a69 u6 w7 u7; unfold_payloads; pointwise
  unfold hI
  simp only [Fin.sum_univ_eight, ← add_assoc]
  rfl

theorem v97_at (r : Fin 512) : k2_pay10 (a67 I) (a69 I) (u6 I) (w7 I) (u7 I) (ix2 r 0) = msq (hI I r) := by
  unfold k2_pay10; pointwise; simp only [v89_at]; rfl

theorem v98_at (r : Fin 512) : k2_pay11 (a67 I) (a69 I) (u6 I) (w7 I) (u7 I) (ix2 r 0) = rs (hI I r) := by
  unfold k2_pay11; pointwise; rw [v97_at]; rfl

theorem v101_at (r : Fin 512) : k2_pay12 (a67 I) (a69 I) (u6 I) (w7 I) (u7 I) (ix2 r 0) = Gmlp.cNegHalf * Ideal.div (rs (hI I r)) (msq (hI I r)) := by
  unfold k2_pay12; pointwise; rw [v97_at, v98_at]

theorem v103_at (r : Fin 512) (k : Fin 1024) : k2_pay13 (a67 I) (a69 I) (u6 I) (w7 I) (u7 I) (ix2 r k) = Mlp.unit (hI I r) k := by
  unfold k2_pay13; pointwise; rw [v89_at, v98_at]; rfl

/-- The value `%107`: the difference of the scaled rows and the target. -/
theorem v107_at (r : Fin 512) (k : Fin 1024) :
    k2_pay14 (a67 I) (a69 I) (u6 I) (w7 I) (u7 I) I.g I.t (ix2 r k) = diff (hI I r) (gI I) (tI I r) k := by
  unfold k2_pay14; pointwise; rw [v103_at]; rfl

theorem v108_at (r : Fin 512) (k : Fin 1024) : k2_pay15 (a67 I) (a69 I) (u6 I) (w7 I) (u7 I) I.g I.t (ix2 r k)
    = diff (hI I r) (gI I) (tI I r) k * diff (hI I r) (gI I) (tI I r) k := by
  unfold k2_pay15; pointwise; rw [v107_at]

theorem v110_at (r : Fin 512) (k : Fin 1024) : k2_pay16 (a67 I) (a69 I) (u6 I) (w7 I) (u7 I) I.g I.t (ix2 r k)
    = Gmlp.cTwo * diff (hI I r) (gI I) (tI I r) k := by
  unfold k2_pay16; pointwise; rw [v107_at]

/-- The value `%118`: one point's part of the loss. -/
def v118 : FVec Ideal S1x1 .f32 := k2_pay17 (k2_pay15 (a67 I) (a69 I) (u6 I) (w7 I) (u7 I) I.g I.t)

theorem v118_at : v118 I (ix2 0 0) = Gmlp.cHalf * ∑ r, rowLoss (hI I r) (gI I) (tI I r) := by
  unfold v118 k2_pay17; pointwise; simp only [v108_at]; rfl

/-- The value `%134`: the cotangent of the scaled rows. -/
theorem v134_at (v : FVec Ideal S512x1024 .f32) (r : Fin 512) (k : Fin 1024) :
    k2_pay18 v (ix2 r k) = Ideal.div Gmlp.cHalf Gmlp.cLen * v (ix2 r k) := by
  unfold k2_pay18; pointwise
  simp

theorem dOut_at (r : Fin 512) (k : Fin 1024) : k2_pay18 (k2_pay16 (a67 I) (a69 I) (u6 I) (w7 I) (u7 I) I.g I.t) (ix2 r k)
    = dOut (hI I r) (gI I) (tI I r) k := by
  rw [v134_at, v110_at]; rfl

/-- The value `%137`: one point's part of the gain's cotangent. -/
def v137 : FVec Ideal S1x1024 .f32 := k2_pay19 (k2_pay13 (a67 I) (a69 I) (u6 I) (w7 I) (u7 I)) (k2_pay16 (a67 I) (a69 I) (u6 I) (w7 I) (u7 I) I.g I.t)

theorem v137_at (k : Fin 1024) :
    v137 I (ix2 0 k) = ∑ r, Mlp.unit (hI I r) k * dOut (hI I r) (gI I) (tI I r) k := by
  unfold v137 k2_pay19; pointwise; simp only [v103_at, dOut_at]

/-- The value `%154`: the cotangent of the rows after the MLP. -/
def v154 : FVec Ideal S512x1024 .f32 :=
  k2_pay20 (k2_pay9 (a67 I) (a69 I) (u6 I) (w7 I) (u7 I)) I.g (k2_pay11 (a67 I) (a69 I) (u6 I) (w7 I) (u7 I)) (k2_pay12 (a67 I) (a69 I) (u6 I) (w7 I) (u7 I))
    (k2_pay16 (a67 I) (a69 I) (u6 I) (w7 I) (u7 I) I.g I.t)
/-- The value `%156`: the same in the narrow format. -/
def v156 : FVec Ideal S512x1024 .bf16 := k2_pay1 (v154 I)
/-- The value `%164`: the loss's accumulator, one point added. -/
def v164 (a : Vec Ideal S8x128 .f32) : FVec Ideal S8x128 .f32 := k2_pay4 (v118 I) a
/-- The value `%168`: the gain's accumulator, one point added. -/
def v168 (a : Vec Ideal S1x1024 .f32) : FVec Ideal S1x1024 .f32 := k2_pay5 (v137 I) a

theorem v154_at (r : Fin 512) (k : Fin 1024) :
    v154 I (ix2 r k) = dTop (hI I r) (gI I) (dOut (hI I r) (gI I) (tI I r)) k := by
  unfold v154 k2_pay20; pointwise
  simp only [Fin.sum_univ_one, v89_at, v98_at, v101_at, dOut_at]
  rfl

theorem v156_at (r : Fin 512) (k : Fin 1024) :
    v156 I (ix2 r k) = dTop (hI I r) (gI I) (dOut (hI I r) (gI I) (tI I r)) k := by
  unfold v156 k2_pay1; pointwise; exact v154_at I r k

theorem zero5_at (i : Fin 8) (j : Fin 128) : k2_pay2 (F := Ideal) (ix2 i j) = 0 := by
  unfold k2_pay2; pointwise
theorem zero8_at (k : Fin 1024) : k2_pay3 (F := Ideal) (ix2 0 k) = 0 := by
  unfold k2_pay3; pointwise

theorem v164_at (a : Vec Ideal S8x128 .f32) (i : Fin 8) (j : Fin 128) :
    v164 I a (ix2 i j) = a (ix2 i j) + Gmlp.cHalf * ∑ r, rowLoss (hI I r) (gI I) (tI I r) := by
  unfold v164 k2_pay4; pointwise
  exact congrArg (_ + ·) (v118_at I)

theorem v168_at (a : Vec Ideal S1x1024 .f32) (k : Fin 1024) :
    v168 I a (ix2 0 k) = a (ix2 0 k) + ∑ r, Mlp.unit (hI I r) k * dOut (hI I r) (gI I) (tI I r) k := by
  unfold v168 k2_pay5; pointwise; rw [v137_at]

end Cert.Kernel5Ideal.Body

end
-- ==== Proof.HeadFinal.lean ====
/-
  What the other pipelines of the last layer leave in their output arrays, as functions of what their input arrays held when they
  began.
-/
module

public import proofs.«01_k».proof.Proof.HeadBody
public import Idealize.ShloMosaic.Lib.Pipeline.ValueKit

@[expose] public section

set_option maxRecDepth 16384

noncomputable section

namespace Cert.Kernel5Ideal.Body

open Cert.Kernel5Ideal Cert.Kernel5Ideal.Gen Idealize.ShloMosaic Idealize.ShloMosaic.TcCoe Idealize.SL.Sem Cert.Mlp Cert.Lay Cert.Head
open Idealize.ShloMosaic.Pipeline (Dat)

variable (V : (c : Dev nD) → (b : Ref sig .tc) → Buf (Elt Ideal) ((c : Thread nD τ).loc b))

/-- The index maps of the staged windows. -/
theorem idx0 : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0] :=
  (by decide +kernel : ∀ t : Fin grid0.N, _)
theorem idx1 : ∀ t : Fin cfg1.N, win1_0.index t = ![t.val, 0] ∧ win1_1.index t = ![0, 0, 0] ∧ win1_2.index t = ![t.val, 0] :=
  (by decide +kernel : ∀ t : Fin grid1.N, _)
theorem idx3 : ∀ t : Fin cfg3.N, win3_0.index t = ![0, 0] ∧ win3_1.index t = ![0, t.val] ∧ win3_2.index t = ![0, t.val] :=
  (by decide +kernel : ∀ t : Fin grid3.N, _)
theorem idx4 : ∀ t : Fin cfg4.N, win4_0.index t = ![t.val, 0] ∧ win4_1.index t = ![0, 0] ∧ win4_2.index t = ![t.val, 0] :=
  (by decide +kernel : ∀ t : Fin grid4.N, _)

/-- The arrays the pipelines leave, as functions of the arrays they take. -/
def fH3 (M : Vec Ideal S4096x1024 .bf16) (W : Vec Ideal S1024x1024 .bf16) (X : Vec Ideal S4096x1024 .f32) (b : Vec Ideal S1x1024 .f32)
    (r : Fin 4096) (k : Fin 1024) : EReal := (∑ j : Fin 1024, M (ix2 r j) * W (ix2 j k)) + X (ix2 r k) + b (ix2 0 k)
def fY3 (M : Vec Ideal S4096x1024 .bf16) (W : Vec Ideal S1024x1024 .bf16) (X : Vec Ideal S4096x1024 .f32) (b g : Vec Ideal S1x1024 .f32)
    (r : Fin 4096) (k : Fin 1024) : EReal := norm (fH3 M W X b r) (fun a => g (ix2 0 a)) k
def fUp (Y : Vec Ideal S4096x1024 .bf16) (W : Vec Ideal S8x1024x512 .bf16) (r : Fin 4096) (b : Fin 8) (j : Fin 512) : EReal :=
  ∑ k : Fin 1024, Y (ix2 r k) * W (ix3 b k j)
def fGOut (M D : Vec Ideal S4096x1024 .bf16) (j k : Fin 1024) : EReal := ∑ t : Fin 4096, M (ix2 t j) * D (ix2 t k)
def fDAttn (D : Vec Ideal S4096x1024 .bf16) (W : Vec Ideal S1024x1024 .bf16) (r : Fin 4096) (j : Fin 1024) : EReal :=
  ∑ k : Fin 1024, D (ix2 r k) * W (ix2 j k)

/-! ### Blocks of the input arrays -/

/-- A grid point's number. -/
def pt0 (t : Fin cfg0.N) : Fin 8 := ⟨t.val, t.isLt⟩
def pt1 (t : Fin cfg1.N) : Fin 8 := ⟨t.val, t.isLt⟩
def pt3 (t : Fin cfg3.N) : Fin 2 := ⟨t.val, t.isLt⟩
def pt4 (t : Fin cfg4.N) : Fin 8 := ⟨t.val, t.isLt⟩

/-- Entry `j` of block `b`, among 1024 in blocks of 512. -/
def colO (b : Fin 2) (j : Fin 512) : Fin 1024 := ⟨512 * b.val + j.val, by omega⟩

theorem blk0_0 (c : Dev nD) (t : Fin cfg0.N) (r : Fin 512) (k : Fin 1024) :
    (iblk0 V c 0 t : Vec Ideal S512x1024 .bf16) (ix2 r k) = (V c main_arg0 : Vec Ideal S4096x1024 .bf16) (ix2 (at512 (pt0 t) r) k) := by
  blk_ext! [iblk0, idx0 t, at512, pt0]
theorem blk0_1 (c : Dev nD) (t : Fin cfg0.N) (r : Fin 1024) (k : Fin 1024) :
    (iblk0 V c 1 t : Vec Ideal S1024x1024 .bf16) (ix2 r k) = (V c main_arg1 : Vec Ideal S1024x1024 .bf16) (ix2 r k) := by
  blk_ext! [iblk0, idx0 t]
theorem blk0_2 (c : Dev nD) (t : Fin cfg0.N) (r : Fin 512) (k : Fin 1024) :
    (iblk0 V c 2 t : Vec Ideal S512x1024 .f32) (ix2 r k) = (V c main_arg2 : Vec Ideal S4096x1024 .f32) (ix2 (at512 (pt0 t) r) k) := by
  blk_ext! [iblk0, idx0 t, at512, pt0]
theorem blk0_3 (c : Dev nD) (t : Fin cfg0.N) (k : Fin 1024) :
    (iblk0 V c 3 t : Vec Ideal S1x1024 .f32) (ix2 0 k) = (V c main_arg3 : Vec Ideal S1x1024 .f32) (ix2 0 k) := by
  blk_ext! [iblk0, idx0 t]
theorem blk0_4 (c : Dev nD) (t : Fin cfg0.N) (k : Fin 1024) :
    (iblk0 V c 4 t : Vec Ideal S1x1024 .f32) (ix2 0 k) = (V c main_arg4 : Vec Ideal S1x1024 .f32) (ix2 0 k) := by
  blk_ext! [iblk0, idx0 t]
theorem blk1_0 (c : Dev nD) (t : Fin cfg1.N) (r : Fin 512) (k : Fin 1024) :
    (iblk1 V c 0 t : Vec Ideal S512x1024 .bf16) (ix2 r k) = (V c main_v0_1 : Vec Ideal S4096x1024 .bf16) (ix2 (at512 (pt1 t) r) k) := by
  blk_ext! [iblk1, idx1 t, at512, pt1]
theorem blk1_1 (c : Dev nD) (t : Fin cfg1.N) (b : Fin 8) (r : Fin 1024) (k : Fin 512) :
    (iblk1 V c 1 t : Vec Ideal S8x1024x512 .bf16) (ix3 b r k) = (V c main_arg5 : Vec Ideal S8x1024x512 .bf16) (ix3 b r k) := by
  blk_ext! [iblk1, idx1 t]
theorem blk3_0 (c : Dev nD) (t : Fin cfg3.N) (r : Fin 4096) (k : Fin 1024) :
    (iblk3 V c 0 t : Vec Ideal S4096x1024 .bf16) (ix2 r k) = (V c main_arg0 : Vec Ideal S4096x1024 .bf16) (ix2 r k) := by
  blk_ext! [iblk3, idx3 t]
theorem blk3_1 (c : Dev nD) (t : Fin cfg3.N) (r : Fin 4096) (k : Fin 512) :
    (iblk3 V c 1 t : Vec Ideal S4096x512 .bf16) (ix2 r k) = (V c main_arg9 : Vec Ideal S4096x1024 .bf16) (ix2 r (colO (pt3 t) k)) := by
  blk_ext! [iblk3, idx3 t, colO, pt3]
theorem blk4_0 (c : Dev nD) (t : Fin cfg4.N) (r : Fin 512) (k : Fin 1024) :
    (iblk4 V c 0 t : Vec Ideal S512x1024 .bf16) (ix2 r k) = (V c main_arg9 : Vec Ideal S4096x1024 .bf16) (ix2 (at512 (pt4 t) r) k) := by
  blk_ext! [iblk4, idx4 t, at512, pt4]
theorem blk4_1 (c : Dev nD) (t : Fin cfg4.N) (r : Fin 1024) (k : Fin 1024) :
    (iblk4 V c 1 t : Vec Ideal S1024x1024 .bf16) (ix2 r k) = (V c main_arg1 : Vec Ideal S1024x1024 .bf16) (ix2 r k) := by
  blk_ext! [iblk4, idx4 t]

/-! ### What one point writes -/

theorem row0 (c : Dev nD) (t : Fin cfg0.N) (r : Fin 512) (k : Fin 1024) : pI (iblk0 V c 0 t) (iblk0 V c 1 t) (iblk0 V c 2 t) (iblk0 V c 3 t) r k
    = fH3 (V c main_arg0) (V c main_arg1) (V c main_arg2) (V c main_arg3) (at512 (pt0 t) r) k :=
  congrArg₂ (· + ·) (congrArg₂ (· + ·) (Finset.sum_congr rfl fun j _ => congrArg₂ (· * ·) (blk0_0 V c t r j) (blk0_1 V c t j k))
    (blk0_2 V c t r k)) (blk0_3 V c t k)
theorem point0_5 (c : Dev nD) (t : Fin cfg0.N) (y : S512x1024.Idx) : out0_5 (iblk0 V c 0 t) (iblk0 V c 1 t) (iblk0 V c 2 t) (iblk0 V c 3 t) (iblk0 V c 4 t) y
    = fH3 (V c main_arg0) (V c main_arg1) (V c main_arg2) (V c main_arg3) (at512 (pt0 t) (y 0)) (y 1) :=
  (congrArg (out0_5 (F := Ideal) (iblk0 V c 0 t) (iblk0 V c 1 t) (iblk0 V c 2 t) (iblk0 V c 3 t) (iblk0 V c 4 t)) (eq_ix2 y)).trans
    ((out0_5_at _ _ _ _ _ (y 0) (y 1)).trans (row0 V c t (y 0) (y 1)))
theorem point0_6 (c : Dev nD) (t : Fin cfg0.N) (y : S512x1024.Idx) : out0_6 (iblk0 V c 0 t) (iblk0 V c 1 t) (iblk0 V c 2 t) (iblk0 V c 3 t) (iblk0 V c 4 t) y
    = fY3 (V c main_arg0) (V c main_arg1) (V c main_arg2) (V c main_arg3) (V c main_arg4) (at512 (pt0 t) (y 0)) (y 1) :=
  (congrArg (out0_6 (F := Ideal) (iblk0 V c 0 t) (iblk0 V c 1 t) (iblk0 V c 2 t) (iblk0 V c 3 t) (iblk0 V c 4 t)) (eq_ix2 y)).trans
    ((out0_6_at _ _ _ _ _ (y 0) (y 1)).trans
    (congrArg₂ (fun p q => norm p q (y 1)) (funext fun a => row0 V c t (y 0) a) (funext fun a => blk0_4 V c t a)))
theorem point1 (c : Dev nD) (t : Fin cfg1.N) (y : S512x4096.Idx) : out1_2 (iblk1 V c 0 t) (iblk1 V c 1 t) y
    = fUp (V c main_v0_1) (V c main_arg5) (at512 (pt1 t) (y 0)) (blk (y 1)) (lane (y 1)) :=
  (out1_at _ _ y).trans (Finset.sum_congr rfl fun k _ => congrArg₂ (· * ·) (blk1_0 V c t (y 0) k) (blk1_1 V c t _ k _))
theorem point3 (c : Dev nD) (t : Fin cfg3.N) (y : S1024x512.Idx) : out3_2 (iblk3 V c 0 t) (iblk3 V c 1 t) y
    = fGOut (V c main_arg0) (V c main_arg9) (y 0) (colO (pt3 t) (y 1)) :=
  (congrArg (out3_2 (F := Ideal) (iblk3 V c 0 t) (iblk3 V c 1 t)) (eq_ix2 y)).trans ((out3_2_at _ _ (y 0) (y 1)).trans
    (Finset.sum_congr rfl fun r _ => congrArg₂ (· * ·) (blk3_0 V c t r (y 0)) (blk3_1 V c t r (y 1))))
theorem point4 (c : Dev nD) (t : Fin cfg4.N) (y : S512x1024.Idx) : out4_2 (iblk4 V c 0 t) (iblk4 V c 1 t) y
    = fDAttn (V c main_arg9) (V c main_arg1) (at512 (pt4 t) (y 0)) (y 1) :=
  (congrArg (out4_2 (F := Ideal) (iblk4 V c 0 t) (iblk4 V c 1 t)) (eq_ix2 y)).trans ((out4_2_at _ _ (y 0) (y 1)).trans
    (Finset.sum_congr rfl fun k _ => congrArg₂ (· * ·) (blk4_0 V c t (y 0) k) (blk4_1 V c t (y 1) k)))

/-! ### What the arrays hold at the end -/

theorem final0_5 (c : Dev nD) : (dat0 V c).arrAt 5 cfg0.N
    = fun y : S4096x1024.Idx => fH3 (V c main_arg0) (V c main_arg1) (V c main_arg2) (V c main_arg3) (y 0) (y 1) := by
  refine (dat0 V c).arrAt_eq_of_covers 5 _ (by decide +kernel) fun t hf y => ?_
  blk_simp
  rw [after0_5]
  refine (point0_5 V c t y).trans ?_
  refine congrArg₂ (fH3 (V c main_arg0) (V c main_arg1) (V c main_arg2) (V c main_arg3)) (Fin.ext ?_) (Fin.ext ?_)
  · blk_simp [idx0 t, at512, pt0]; try simp; try omega
  · blk_simp [idx0 t]

theorem final0_6 (c : Dev nD) : (dat0 V c).arrAt 6 cfg0.N
    = fun y : S4096x1024.Idx => fY3 (V c main_arg0) (V c main_arg1) (V c main_arg2) (V c main_arg3) (V c main_arg4) (y 0) (y 1) := by
  refine (dat0 V c).arrAt_eq_of_covers 6 _ (by decide +kernel) fun t hf y => ?_
  blk_simp
  rw [after0_6]
  refine (point0_6 V c t y).trans ?_
  refine congrArg₂ (fY3 (V c main_arg0) (V c main_arg1) (V c main_arg2) (V c main_arg3) (V c main_arg4)) (Fin.ext ?_) (Fin.ext ?_)
  · blk_simp [idx0 t, at512, pt0]; try simp; try omega
  · blk_simp [idx0 t]

theorem final1 (c : Dev nD) : (dat1 V c).arrAt 2 cfg1.N
    = fun y : S4096x4096.Idx => fUp (V c main_v0_1) (V c main_arg5) (y 0) (blk (y 1)) (lane (y 1)) := by
  refine (dat1 V c).arrAt_eq_of_covers 2 _ (by decide +kernel) fun t hf y => ?_
  blk_simp
  rw [after1_2]
  refine (point1 V c t y).trans ?_
  congr 1
  · apply Fin.ext; blk_simp [idx1 t, at512, pt1]; simp; try omega
  · congr 1; apply Fin.ext; blk_simp [idx1 t]
  · congr 1; apply Fin.ext; blk_simp [idx1 t]

theorem final3 (c : Dev nD) : (dat3 V c).arrAt 2 cfg3.N
    = fun y : S1024x1024.Idx => fGOut (V c main_arg0) (V c main_arg9) (y 0) (y 1) := by
  refine (dat3 V c).arrAt_eq_of_covers 2 _ (by decide +kernel) fun t hf y => ?_
  blk_simp
  rw [after3_2]
  refine (point3 V c t y).trans ?_
  refine congrArg₂ (fGOut (V c main_arg0) (V c main_arg9)) (Fin.ext ?_) (Fin.ext ?_)
  · blk_simp [idx3 t]
  · blk_simp [idx3 t, colO, pt3]; try simp; try omega

theorem final4 (c : Dev nD) : (dat4 V c).arrAt 2 cfg4.N
    = fun y : S4096x1024.Idx => fDAttn (V c main_arg9) (V c main_arg1) (y 0) (y 1) := by
  refine (dat4 V c).arrAt_eq_of_covers 2 _ (by decide +kernel) fun t hf y => ?_
  blk_simp
  rw [after4_2]
  refine (point4 V c t y).trans ?_
  refine congrArg₂ (fDAttn (V c main_arg9) (V c main_arg1)) (Fin.ext ?_) (Fin.ext ?_)
  · blk_simp [idx4 t, at512, pt4]; try simp; try omega
  · blk_simp [idx4 t]

end Cert.Kernel5Ideal.Body

end
-- ==== Proof.HeadOuts.lean ====
/-
  What the third kernel's body leaves in its four outputs' staging buffers at one grid point: the rows' cotangent in two
  formats, and two accumulators (zero before the first point) with the point's part added.
-/
module

public import proofs.«01_k».proof.Proof.HeadBody
public import Idealize.ShloMosaic.Lib.Tactic

@[expose] public section

set_option maxRecDepth 16384

noncomputable section

namespace Cert.Kernel5Ideal.Body

open Cert.Kernel5Ideal Cert.Kernel5Ideal.Gen Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

variable (I : In)

/-- The loss's accumulator at the first point. -/
theorem outA5 (c : Dev nD) (i : grid2.Coords) (a1 : Memref sig .tc .vmem S512x4096 .bf16) (h1 : a1.IsWhole) (a2 : Memref sig .tc .vmem S8x512x1024 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S8x128 .f32) (h6 : a6.IsWhole) (a7 : Memref sig .tc .vmem S512x1024 .f32) (h7 : a7.IsWhole) (a8 : Memref sig .tc .vmem S512x1024 .bf16) (h8 : a8.IsWhole) (a9 : Memref sig .tc .vmem S1x1024 .f32) (h9 : a9.IsWhole) (hc : cond2_0 i) :
    out2_A_5 c i a1 h1 a2 h2 a3 h3 a4 h4 a5 h5 a6 h6 a7 h7 a8 h8 a9 h9 hc I.up I.wd I.h I.g I.t = v164 I (k2_pay2 (F := Ideal)) := by
  unfold out2_A_5
  rw [View.read_writes_eq_canon _ _ _ (cover2_A_5 c i a1 h1 a2 h2 a3 h3 a4 h4 a5 h5 a6 h6 a7 h7 a8 h8 a9 h9 hc I.up I.wd I.h I.g I.t)]
  unfold kernelRun2_A
  dsimp only
  sl_unfold_words
  rw [View.canon_cons_unit_zero (S := S8x128) hz2, View.readCov_unit_zero (S := S8x128) _ hz2]
  simp only [View.readAt_eq_ld, h1.read_unread, h2.read_unread, h3.read_unread, h4.read_unread, h5.read_unread, h6.read_unread, h7.read_unread, h8.read_unread, h9.read_unread, View.ld_unit_zero (S := S512x1024) hz2, View.ld_unit_zero (S := S1x1024) hz2, View.ld_unit_zero (S := S8x128) hz2, shapeCast_self]
  rfl

/-- The rows' cotangent at the first point. -/
theorem outA6 (c : Dev nD) (i : grid2.Coords) (a1 : Memref sig .tc .vmem S512x4096 .bf16) (h1 : a1.IsWhole) (a2 : Memref sig .tc .vmem S8x512x1024 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S8x128 .f32) (h6 : a6.IsWhole) (a7 : Memref sig .tc .vmem S512x1024 .f32) (h7 : a7.IsWhole) (a8 : Memref sig .tc .vmem S512x1024 .bf16) (h8 : a8.IsWhole) (a9 : Memref sig .tc .vmem S1x1024 .f32) (h9 : a9.IsWhole) (hc : cond2_0 i) :
    out2_A_6 c i a1 h1 a2 h2 a3 h3 a4 h4 a5 h5 a6 h6 a7 h7 a8 h8 a9 h9 hc I.up I.wd I.h I.g I.t = v154 I := by
  unfold out2_A_6
  rw [View.read_writes_eq_canon _ _ _ (cover2_A_6 c i a1 h1 a2 h2 a3 h3 a4 h4 a5 h5 a6 h6 a7 h7 a8 h8 a9 h9 hc I.up I.wd I.h I.g I.t)]
  unfold kernelRun2_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, View.ld_unit_zero (S := S512x1024) hz2, View.ld_unit_zero (S := S1x1024) hz2, View.ld_unit_zero (S := S8x128) hz2, shapeCast_self]
  rfl

/-- The rows' cotangent in the narrow format at the first point. -/
theorem outA7 (c : Dev nD) (i : grid2.Coords) (a1 : Memref sig .tc .vmem S512x4096 .bf16) (h1 : a1.IsWhole) (a2 : Memref sig .tc .vmem S8x512x1024 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S8x128 .f32) (h6 : a6.IsWhole) (a7 : Memref sig .tc .vmem S512x1024 .f32) (h7 : a7.IsWhole) (a8 : Memref sig .tc .vmem S512x1024 .bf16) (h8 : a8.IsWhole) (a9 : Memref sig .tc .vmem S1x1024 .f32) (h9 : a9.IsWhole) (hc : cond2_0 i) :
    out2_A_7 c i a1 h1 a2 h2 a3 h3 a4 h4 a5 h5 a6 h6 a7 h7 a8 h8 a9 h9 hc I.up I.wd I.h I.g I.t = v156 I := by
  unfold out2_A_7
  rw [View.read_writes_eq_canon _ _ _ (cover2_A_7 c i a1 h1 a2 h2 a3 h3 a4 h4 a5 h5 a6 h6 a7 h7 a8 h8 a9 h9 hc I.up I.wd I.h I.g I.t)]
  unfold kernelRun2_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, View.ld_unit_zero (S := S512x1024) hz2, View.ld_unit_zero (S := S1x1024) hz2, View.ld_unit_zero (S := S8x128) hz2, shapeCast_self]
  rfl

/-- The gain's accumulator at the first point. -/
theorem outA8 (c : Dev nD) (i : grid2.Coords) (a1 : Memref sig .tc .vmem S512x4096 .bf16) (h1 : a1.IsWhole) (a2 : Memref sig .tc .vmem S8x512x1024 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S8x128 .f32) (h6 : a6.IsWhole) (a7 : Memref sig .tc .vmem S512x1024 .f32) (h7 : a7.IsWhole) (a8 : Memref sig .tc .vmem S512x1024 .bf16) (h8 : a8.IsWhole) (a9 : Memref sig .tc .vmem S1x1024 .f32) (h9 : a9.IsWhole) (hc : cond2_0 i) :
    out2_A_8 c i a1 h1 a2 h2 a3 h3 a4 h4 a5 h5 a6 h6 a7 h7 a8 h8 a9 h9 hc I.up I.wd I.h I.g I.t = v168 I (k2_pay3 (F := Ideal)) := by
  unfold out2_A_8
  rw [View.read_writes_eq_canon _ _ _ (cover2_A_8 c i a1 h1 a2 h2 a3 h3 a4 h4 a5 h5 a6 h6 a7 h7 a8 h8 a9 h9 hc I.up I.wd I.h I.g I.t)]
  unfold kernelRun2_A
  dsimp only
  sl_unfold_words
  rw [View.canon_cons_unit_zero (S := S1x1024) hz2, View.readCov_unit_zero (S := S1x1024) _ hz2]
  simp only [View.readAt_eq_ld, h1.read_unread, h2.read_unread, h3.read_unread, h4.read_unread, h5.read_unread, h6.read_unread, h7.read_unread, h8.read_unread, h9.read_unread, View.ld_unit_zero (S := S512x1024) hz2, View.ld_unit_zero (S := S1x1024) hz2, View.ld_unit_zero (S := S8x128) hz2, shapeCast_self]
  rfl

/-- The loss's accumulator at a later point. -/
theorem outB5 (c : Dev nD) (i : grid2.Coords) (a1 : Memref sig .tc .vmem S512x4096 .bf16) (h1 : a1.IsWhole) (a2 : Memref sig .tc .vmem S8x512x1024 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S8x128 .f32) (h6 : a6.IsWhole) (a7 : Memref sig .tc .vmem S512x1024 .f32) (h7 : a7.IsWhole) (a8 : Memref sig .tc .vmem S512x1024 .bf16) (h8 : a8.IsWhole) (a9 : Memref sig .tc .vmem S1x1024 .f32) (h9 : a9.IsWhole) (hc : ¬cond2_0 i) (o5 : Vec Ideal S8x128 .f32) (o8 : Vec Ideal S1x1024 .f32) :
    out2_B_5 c i a1 h1 a2 h2 a3 h3 a4 h4 a5 h5 a6 h6 a7 h7 a8 h8 a9 h9 hc I.up I.wd I.h I.g I.t o5 o8 = v164 I o5 := by
  unfold out2_B_5
  rw [View.read_writes_eq_canon _ _ _ (cover2_B_5 c i a1 h1 a2 h2 a3 h3 a4 h4 a5 h5 a6 h6 a7 h7 a8 h8 a9 h9 hc I.up I.wd I.h I.g I.t o5 o8)]
  unfold kernelRun2_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, View.ld_unit_zero (S := S512x1024) hz2, View.ld_unit_zero (S := S1x1024) hz2, View.ld_unit_zero (S := S8x128) hz2, shapeCast_self]
  rfl

/-- The rows' cotangent at a later point. -/
theorem outB6 (c : Dev nD) (i : grid2.Coords) (a1 : Memref sig .tc .vmem S512x4096 .bf16) (h1 : a1.IsWhole) (a2 : Memref sig .tc .vmem S8x512x1024 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S8x128 .f32) (h6 : a6.IsWhole) (a7 : Memref sig .tc .vmem S512x1024 .f32) (h7 : a7.IsWhole) (a8 : Memref sig .tc .vmem S512x1024 .bf16) (h8 : a8.IsWhole) (a9 : Memref sig .tc .vmem S1x1024 .f32) (h9 : a9.IsWhole) (hc : ¬cond2_0 i) (o5 : Vec Ideal S8x128 .f32) (o8 : Vec Ideal S1x1024 .f32) :
    out2_B_6 c i a1 h1 a2 h2 a3 h3 a4 h4 a5 h5 a6 h6 a7 h7 a8 h8 a9 h9 hc I.up I.wd I.h I.g I.t o5 o8 = v154 I := by
  unfold out2_B_6
  rw [View.read_writes_eq_canon _ _ _ (cover2_B_6 c i a1 h1 a2 h2 a3 h3 a4 h4 a5 h5 a6 h6 a7 h7 a8 h8 a9 h9 hc I.up I.wd I.h I.g I.t o5 o8)]
  unfold kernelRun2_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, View.ld_unit_zero (S := S512x1024) hz2, View.ld_unit_zero (S := S1x1024) hz2, View.ld_unit_zero (S := S8x128) hz2, shapeCast_self]
  rfl

/-- The rows' cotangent in the narrow format at a later point. -/
theorem outB7 (c : Dev nD) (i : grid2.Coords) (a1 : Memref sig .tc .vmem S512x4096 .bf16) (h1 : a1.IsWhole) (a2 : Memref sig .tc .vmem S8x512x1024 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S8x128 .f32) (h6 : a6.IsWhole) (a7 : Memref sig .tc .vmem S512x1024 .f32) (h7 : a7.IsWhole) (a8 : Memref sig .tc .vmem S512x1024 .bf16) (h8 : a8.IsWhole) (a9 : Memref sig .tc .vmem S1x1024 .f32) (h9 : a9.IsWhole) (hc : ¬cond2_0 i) (o5 : Vec Ideal S8x128 .f32) (o8 : Vec Ideal S1x1024 .f32) :
    out2_B_7 c i a1 h1 a2 h2 a3 h3 a4 h4 a5 h5 a6 h6 a7 h7 a8 h8 a9 h9 hc I.up I.wd I.h I.g I.t o5 o8 = v156 I := by
  unfold out2_B_7
  rw [View.read_writes_eq_canon _ _ _ (cover2_B_7 c i a1 h1 a2 h2 a3 h3 a4 h4 a5 h5 a6 h6 a7 h7 a8 h8 a9 h9 hc I.up I.wd I.h I.g I.t o5 o8)]
  unfold kernelRun2_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, View.ld_unit_zero (S := S512x1024) hz2, View.ld_unit_zero (S := S1x1024) hz2, View.ld_unit_zero (S := S8x128) hz2, shapeCast_self]
  rfl

/-- The gain's accumulator at a later point. -/
theorem outB8 (c : Dev nD) (i : grid2.Coords) (a1 : Memref sig .tc .vmem S512x4096 .bf16) (h1 : a1.IsWhole) (a2 : Memref sig .tc .vmem S8x512x1024 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S8x128 .f32) (h6 : a6.IsWhole) (a7 : Memref sig .tc .vmem S512x1024 .f32) (h7 : a7.IsWhole) (a8 : Memref sig .tc .vmem S512x1024 .bf16) (h8 : a8.IsWhole) (a9 : Memref sig .tc .vmem S1x1024 .f32) (h9 : a9.IsWhole) (hc : ¬cond2_0 i) (o5 : Vec Ideal S8x128 .f32) (o8 : Vec Ideal S1x1024 .f32) :
    out2_B_8 c i a1 h1 a2 h2 a3 h3 a4 h4 a5 h5 a6 h6 a7 h7 a8 h8 a9 h9 hc I.up I.wd I.h I.g I.t o5 o8 = v168 I o8 := by
  unfold out2_B_8
  rw [View.read_writes_eq_canon _ _ _ (cover2_B_8 c i a1 h1 a2 h2 a3 h3 a4 h4 a5 h5 a6 h6 a7 h7 a8 h8 a9 h9 hc I.up I.wd I.h I.g I.t o5 o8)]
  unfold kernelRun2_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, View.ld_unit_zero (S := S512x1024) hz2, View.ld_unit_zero (S := S1x1024) hz2, View.ld_unit_zero (S := S8x128) hz2, shapeCast_self]
  rfl

end Cert.Kernel5Ideal.Body

end
-- ==== Proof.HeadAcc.lean ====
/-
  What the third pipeline of the last layer leaves in its four output arrays: the rows' cotangent, twice, and two sums over all
  rows that eight grid points add up, the loss and the gain's cotangent.
-/
module

public import proofs.«01_k».proof.Proof.HeadOuts
public import Idealize.ShloMosaic.Lib.Pipeline.ValueKit

@[expose] public section

set_option maxRecDepth 16384

noncomputable section

namespace Cert.Kernel5Ideal.Body

open Cert.Kernel5Ideal Cert.Kernel5Ideal.Gen Idealize.ShloMosaic Idealize.ShloMosaic.TcCoe Idealize.SL.Sem Cert.Mlp Cert.Lay Cert.Head
open Idealize.ShloMosaic.Pipeline (Dat)

variable (V : (c : Dev nD) → (b : Ref sig .tc) → Buf (Elt Ideal) ((c : Thread nD τ).loc b))

/-- The index maps of the staged windows. -/
theorem idx2 : ∀ t : Fin cfg2.N, win2_0.index t = ![t.val, 0] ∧ win2_1.index t = ![0, 0, 0] ∧ win2_2.index t = ![t.val, 0]
    ∧ win2_3.index t = ![0, 0] ∧ win2_4.index t = ![t.val, 0] ∧ win2_6.index t = ![t.val, 0] ∧ win2_7.index t = ![t.val, 0] :=
  (by decide +kernel : ∀ t : Fin grid2.N, _)

/-- A grid point's number, below 8. -/
def pt2 (t : Fin cfg2.N) : Fin 8 := ⟨t.val, t.isLt⟩

/-- The arrays the pipeline leaves, as functions of the arrays it takes. -/
def fRows (U : Vec Ideal S4096x4096 .bf16) (W : Vec Ideal S8x512x1024 .bf16) (X : Vec Ideal S4096x1024 .f32) (r : Fin 4096)
    (k : Fin 1024) : EReal := X (ix2 r k) + ∑ b, ∑ j, reluSq (U (ix2 r (at512 b j))) * W (ix3 b j k)
def fRow (X : Vec Ideal S4096x1024 .f32) (r : Fin 4096) (k : Fin 1024) : EReal := X (ix2 r k)
def fGain (g : Vec Ideal S1x1024 .f32) (k : Fin 1024) : EReal := g (ix2 0 k)

/-- The input blocks of grid point `t`. -/
def inp (c : Dev nD) (t : Fin cfg2.N) : In := ⟨iblk2 V c 0 t, iblk2 V c 1 t, iblk2 V c 2 t, iblk2 V c 3 t, iblk2 V c 4 t⟩

/-- The rows after the MLP, from the arrays. -/
abbrev hAt (c : Dev nD) (r : Fin 4096) : Fin 1024 → EReal := fRows (V c main_v1) (V c main_arg6) (V c main_v0_0) r
/-- The cotangent of the scaled row, from the arrays. -/
abbrev dAt (c : Dev nD) (r : Fin 4096) : Fin 1024 → EReal := dOut (hAt V c r) (fGain (V c main_arg7)) (fRow (V c main_arg8) r)
/-- The row's cotangent. -/
abbrev rowAt (c : Dev nD) (r : Fin 4096) (k : Fin 1024) : EReal := dTop (hAt V c r) (fGain (V c main_arg7)) (dAt V c r) k
/-- One row's part of the gain's cotangent. -/
abbrev gainAt (c : Dev nD) (r : Fin 4096) (k : Fin 1024) : EReal := Mlp.unit (hAt V c r) k * dAt V c r k
/-- One row's part of twice the loss. -/
abbrev lossAt (c : Dev nD) (r : Fin 4096) : EReal := rowLoss (hAt V c r) (fGain (V c main_arg7)) (fRow (V c main_arg8) r)

theorem blk2_0 (c : Dev nD) (t : Fin cfg2.N) (r : Fin 512) (j : Fin 4096) :
    (iblk2 V c 0 t : Vec Ideal S512x4096 .bf16) (ix2 r j) = (V c main_v1 : Vec Ideal S4096x4096 .bf16) (ix2 (at512 (pt2 t) r) j) := by
  blk_ext! [iblk2, idx2 t, at512, pt2]
theorem blk2_1 (c : Dev nD) (t : Fin cfg2.N) (b : Fin 8) (j : Fin 512) (k : Fin 1024) :
    (iblk2 V c 1 t : Vec Ideal S8x512x1024 .bf16) (ix3 b j k) = (V c main_arg6 : Vec Ideal S8x512x1024 .bf16) (ix3 b j k) := by
  blk_ext! [iblk2, idx2 t]
theorem blk2_2 (c : Dev nD) (t : Fin cfg2.N) (r : Fin 512) (k : Fin 1024) :
    (iblk2 V c 2 t : Vec Ideal S512x1024 .f32) (ix2 r k) = (V c main_v0_0 : Vec Ideal S4096x1024 .f32) (ix2 (at512 (pt2 t) r) k) := by
  blk_ext! [iblk2, idx2 t, at512, pt2]
theorem blk2_3 (c : Dev nD) (t : Fin cfg2.N) (k : Fin 1024) :
    (iblk2 V c 3 t : Vec Ideal S1x1024 .f32) (ix2 0 k) = (V c main_arg7 : Vec Ideal S1x1024 .f32) (ix2 0 k) := by
  blk_ext! [iblk2, idx2 t]
theorem blk2_4 (c : Dev nD) (t : Fin cfg2.N) (r : Fin 512) (k : Fin 1024) :
    (iblk2 V c 4 t : Vec Ideal S512x1024 .f32) (ix2 r k) = (V c main_arg8 : Vec Ideal S4096x1024 .f32) (ix2 (at512 (pt2 t) r) k) := by
  blk_ext! [iblk2, idx2 t, at512, pt2]

theorem inp_h (c : Dev nD) (t : Fin cfg2.N) (r : Fin 512) : hI (inp V c t) r = hAt V c (at512 (pt2 t) r) :=
  funext fun k => congrArg₂ (· + ·) (blk2_2 V c t r k) (Finset.sum_congr rfl fun b _ => Finset.sum_congr rfl fun j _ =>
    congrArg₂ (fun u w => reluSq u * w) (blk2_0 V c t r (at512 b j)) (blk2_1 V c t b j k))
theorem inp_g (c : Dev nD) (t : Fin cfg2.N) : gI (inp V c t) = fGain (V c main_arg7) :=
  funext fun k => blk2_3 V c t k
theorem inp_t (c : Dev nD) (t : Fin cfg2.N) (r : Fin 512) : tI (inp V c t) r = fRow (V c main_arg8) (at512 (pt2 t) r) :=
  funext fun k => blk2_4 V c t r k

/-- A point's row, from the arrays. -/
theorem inp_row (c : Dev nD) (t : Fin cfg2.N) (r : Fin 512) (k : Fin 1024) :
    dTop (hI (inp V c t) r) (gI (inp V c t)) (dOut (hI (inp V c t) r) (gI (inp V c t)) (tI (inp V c t) r)) k
      = rowAt V c (at512 (pt2 t) r) k := by
  rw [inp_h, inp_g, inp_t]
theorem inp_gain (c : Dev nD) (t : Fin cfg2.N) (r : Fin 512) (k : Fin 1024) :
    Mlp.unit (hI (inp V c t) r) k * dOut (hI (inp V c t) r) (gI (inp V c t)) (tI (inp V c t) r) k
      = gainAt V c (at512 (pt2 t) r) k := by
  rw [inp_h, inp_g, inp_t]
theorem inp_loss (c : Dev nD) (t : Fin cfg2.N) (r : Fin 512) :
    rowLoss (hI (inp V c t) r) (gI (inp V c t)) (tI (inp V c t) r) = lossAt V c (at512 (pt2 t) r) := by
  rw [inp_h, inp_g, inp_t]

/-! ### The rows' cotangent -/

theorem outs6 (c : Dev nD) (t : Fin cfg2.N) (y : S512x1024.Idx) :
    (outsAt2 V c t.val t.isLt).2.1 y = rowAt V c (at512 (pt2 t) (y 0)) (y 1) := by
  have e : (outsAt2 V c t.val t.isLt).2.1 = v154 (inp V c t) := by
    by_cases h : t.val % 8 = 0
    · rw [outsAt2_A V c t h]; dsimp only; exact outA6 (inp V c t) ..
    · rw [outsAt2_B V c t h]; dsimp only; exact outB6 (inp V c t) ..
  rw [e]
  exact (congrArg (v154 (inp V c t)) (eq_ix2 y)).trans ((v154_at (inp V c t) (y 0) (y 1)).trans (inp_row V c t (y 0) (y 1)))

theorem outs7 (c : Dev nD) (t : Fin cfg2.N) (y : S512x1024.Idx) :
    (outsAt2 V c t.val t.isLt).2.2.1 y = rowAt V c (at512 (pt2 t) (y 0)) (y 1) := by
  have e : (outsAt2 V c t.val t.isLt).2.2.1 = v156 (inp V c t) := by
    by_cases h : t.val % 8 = 0
    · rw [outsAt2_A V c t h]; dsimp only; exact outA7 (inp V c t) ..
    · rw [outsAt2_B V c t h]; dsimp only; exact outB7 (inp V c t) ..
  rw [e]
  exact (congrArg (v156 (inp V c t)) (eq_ix2 y)).trans ((v156_at (inp V c t) (y 0) (y 1)).trans (inp_row V c t (y 0) (y 1)))

/-- The rows' cotangent. -/
theorem final2_6 (c : Dev nD) : (dat2 V c).arrAt 6 cfg2.N = fun y : S4096x1024.Idx => rowAt V c (y 0) (y 1) := by
  refine (dat2 V c).arrAt_eq_of_covers 6 _ (by decide +kernel) fun t hf y => ?_
  blk_simp
  rw [after2_6]
  refine (outs6 V c t y).trans ?_
  refine congrArg₂ (rowAt V c) (Fin.ext ?_) (Fin.ext ?_)
  · blk_simp [idx2 t, at512, pt2]; try simp; try omega
  · blk_simp [idx2 t]

/-- The rows' cotangent in the narrow format. -/
theorem final2_7 (c : Dev nD) : (dat2 V c).arrAt 7 cfg2.N = fun y : S4096x1024.Idx => rowAt V c (y 0) (y 1) := by
  refine (dat2 V c).arrAt_eq_of_covers 7 _ (by decide +kernel) fun t hf y => ?_
  blk_simp
  rw [after2_7]
  refine (outs7 V c t y).trans ?_
  refine congrArg₂ (rowAt V c) (Fin.ext ?_) (Fin.ext ?_)
  · blk_simp [idx2 t, at512, pt2]; try simp; try omega
  · blk_simp [idx2 t]

/-! ### The two sums -/

theorem first5 (c : Dev nD) (t : Fin cfg2.N) (h : t.val % 8 = 0) (i : Fin 8) (j : Fin 128) :
    (outsAt2 V c t.val t.isLt).1 (ix2 i j) = Gmlp.cHalf * ∑ r, lossAt V c (at512 (pt2 t) r) := by
  have e : (outsAt2 V c t.val t.isLt).1 = v164 (inp V c t) (k2_pay2 (F := Ideal)) := by
    rw [outsAt2_A V c t h]; dsimp only; exact outA5 (inp V c t) ..
  rw [e, v164_at, zero5_at, zero_add]
  exact congrArg (Gmlp.cHalf * ·) (Finset.sum_congr rfl fun r _ => inp_loss V c t r)

theorem next5 (c : Dev nD) (t : Fin cfg2.N) (h : ¬t.val % 8 = 0) (i : Fin 8) (j : Fin 128) :
    (outsAt2 V c t.val t.isLt).1 (ix2 i j)
      = (outsAt2 V c (t.val - 1) (Nat.lt_of_le_of_lt (Nat.sub_le _ _) t.isLt)).1 (ix2 i j) + Gmlp.cHalf * ∑ r, lossAt V c (at512 (pt2 t) r) := by
  have e : (outsAt2 V c t.val t.isLt).1 = v164 (inp V c t)
      (outsAt2 V c (t.val - 1) (Nat.lt_of_le_of_lt (Nat.sub_le _ _) t.isLt)).1 := by
    rw [outsAt2_B V c t h]; dsimp only; exact outB5 (inp V c t) ..
  rw [e, v164_at]
  exact congrArg (_ + ·) (congrArg (Gmlp.cHalf * ·) (Finset.sum_congr rfl fun r _ => inp_loss V c t r))

theorem sum5 (c : Dev nD) (i : Fin 8) (j : Fin 128) : ∀ (n : ℕ) (h : n < cfg2.N), (outsAt2 V c n h).1 (ix2 i j)
      = ∑ s : Fin (n + 1), Gmlp.cHalf * ∑ r, lossAt V c (at512 (pt2 ⟨s, Nat.lt_of_le_of_lt (Nat.le_of_lt_succ s.isLt) h⟩) r)
  | 0, h => by
    refine (first5 V c ⟨0, h⟩ rfl i j).trans ?_
    rw [Fin.sum_univ_one]; rfl
  | n + 1, h => by
    have hN : cfg2.N = 8 := N_2
    refine (next5 V c ⟨n + 1, h⟩ (by dsimp only; omega) i j).trans ?_
    refine .trans ?_ (Fin.sum_univ_castSucc _).symm
    exact congrArg (· + _) (sum5 c i j n (Nat.lt_of_succ_lt h))

theorem first8 (c : Dev nD) (t : Fin cfg2.N) (h : t.val % 8 = 0) (k : Fin 1024) :
    (outsAt2 V c t.val t.isLt).2.2.2 (ix2 0 k) = ∑ r, gainAt V c (at512 (pt2 t) r) k := by
  have e : (outsAt2 V c t.val t.isLt).2.2.2 = v168 (inp V c t) (k2_pay3 (F := Ideal)) := by
    rw [outsAt2_A V c t h]; dsimp only; exact outA8 (inp V c t) ..
  rw [e, v168_at, zero8_at, zero_add]
  exact Finset.sum_congr rfl fun r _ => inp_gain V c t r k

theorem next8 (c : Dev nD) (t : Fin cfg2.N) (h : ¬t.val % 8 = 0) (k : Fin 1024) :
    (outsAt2 V c t.val t.isLt).2.2.2 (ix2 0 k)
      = (outsAt2 V c (t.val - 1) (Nat.lt_of_le_of_lt (Nat.sub_le _ _) t.isLt)).2.2.2 (ix2 0 k) + ∑ r, gainAt V c (at512 (pt2 t) r) k := by
  have e : (outsAt2 V c t.val t.isLt).2.2.2 = v168 (inp V c t)
      (outsAt2 V c (t.val - 1) (Nat.lt_of_le_of_lt (Nat.sub_le _ _) t.isLt)).2.2.2 := by
    rw [outsAt2_B V c t h]; dsimp only; exact outB8 (inp V c t) ..
  rw [e, v168_at]
  exact congrArg (_ + ·) (Finset.sum_congr rfl fun r _ => inp_gain V c t r k)

theorem sum8 (c : Dev nD) (k : Fin 1024) : ∀ (n : ℕ) (h : n < cfg2.N), (outsAt2 V c n h).2.2.2 (ix2 0 k)
      = ∑ s : Fin (n + 1), ∑ r, gainAt V c (at512 (pt2 ⟨s, Nat.lt_of_le_of_lt (Nat.le_of_lt_succ s.isLt) h⟩) r) k
  | 0, h => by
    refine (first8 V c ⟨0, h⟩ rfl k).trans ?_
    rw [Fin.sum_univ_one]; rfl
  | n + 1, h => by
    have hN : cfg2.N = 8 := N_2
    refine (next8 V c ⟨n + 1, h⟩ (by dsimp only; omega) k).trans ?_
    refine .trans ?_ (Fin.sum_univ_castSucc _).symm
    exact congrArg (· + _) (sum8 c k n (Nat.lt_of_succ_lt h))

/-- The last grid point. -/
def lastPt : Fin cfg2.N := ⟨7, by rw [show cfg2.N = 8 from N_2]; norm_num⟩

/-- The sum over the points' rows is the sum over all rows. -/
theorem sum_pts (f : Fin 4096 → EReal) (t : Fin cfg2.N) (h : t.val = 7) :
    ∑ s : Fin (t.val + 1), ∑ r, f (at512 (pt2 ⟨s, Nat.lt_of_le_of_lt (Nat.le_of_lt_succ s.isLt) t.isLt⟩) r) = ∑ r, f r := by
  rw [sum_at512]
  obtain ⟨n, hn⟩ := t
  simp only at h
  subst h
  rfl
theorem half_pts (f : Fin 4096 → EReal) (t : Fin cfg2.N) (h : t.val = 7) :
    ∑ s : Fin (t.val + 1), Gmlp.cHalf * ∑ r, f (at512 (pt2 ⟨s, Nat.lt_of_le_of_lt (Nat.le_of_lt_succ s.isLt) t.isLt⟩) r)
      = Gmlp.cHalf * ∑ r, f r := by
  rw [← half_sum]
  obtain ⟨n, hn⟩ := t
  simp only at h
  subst h
  rfl

/-- The loss, at every entry. -/
theorem final2_5 (c : Dev nD) : (dat2 V c).arrAt 5 cfg2.N = fun y : S8x128.Idx => Gmlp.cHalf * ∑ r, lossAt V c r := by
  refine (dat2 V c).arrAt_eq_of_after_last 5 lastPt (by decide +kernel) _ fun j => ?_
  rw [after2_5]
  have hj : ∀ h : ∀ a, (j a).val < _, (fun a => ⟨j a, h a⟩ : S8x128.Idx) = ix2 (j 0) (j 1) := fun h => by
    funext a; fin_cases a <;> rfl
  refine (congrArg (outsAt2 V c lastPt.val lastPt.isLt).1 (hj _)).trans ((sum5 V c (j 0) (j 1) _ _).trans ?_)
  exact half_pts (fun r => lossAt V c r) lastPt rfl

/-- The gain's cotangent: the sum over all rows. -/
theorem final2_8 (c : Dev nD) : (dat2 V c).arrAt 8 cfg2.N = fun y : S1x1024.Idx => ∑ r, gainAt V c r (y 1) := by
  refine (dat2 V c).arrAt_eq_of_after_last 8 lastPt (by decide +kernel) _ fun j => ?_
  rw [after2_8]
  have hj : ∀ h : ∀ a, (j a).val < _, (fun a => ⟨j a, h a⟩ : S1x1024.Idx) = ix2 0 (j 1) := fun h => by
    funext a; fin_cases a
    · exact Fin.ext (by have := (j 0).isLt; simp at this ⊢)
    · rfl
  refine (congrArg (outsAt2 V c lastPt.val lastPt.isLt).2.2.2 (hj _)).trans ((sum8 V c (j 1) _ _).trans ?_)
  exact sum_pts (fun r => gainAt V c r (j 1)) lastPt rfl

end Cert.Kernel5Ideal.Body

end
-- ==== Proof.HeadChain.lean ====
/-
  What the run of the fifth program leaves in its result buffers, as functions of the arguments: each pipeline's arrays are read
  back through the pipelines before it.
-/
module

public import proofs.«01_k».proof.Proof.HeadRun
public import proofs.«01_k».proof.Proof.HeadFinal
public import proofs.«01_k».proof.Proof.HeadAcc

@[expose] public section

set_option maxRecDepth 16384

noncomputable section

namespace Cert.Kernel5Ideal.Body

open Cert.Kernel5Ideal Cert.Kernel5Ideal.Gen Idealize.ShloMosaic Idealize.ShloMosaic.TcCoe Idealize.SL.Sem Cert.Mlp

variable (m : (ℓ : Loc nD τ sig) → Buf (Elt Ideal) ℓ) (ρ : Dev nD → PrngReg)

/-- A device's arguments. -/
def args (c : Dev nD) : Head.Arg :=
  Head.argOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-! ### The output projection and the first weight's product -/

theorem h3_1 (c : Dev nD) : (V1 m ρ c main_v0_0 : Vec Ideal S4096x1024 .f32) = fun i : S4096x1024.Idx => Head.h3 (args m c) (i 0) (i 1) :=
  (W1_arr m ρ c 5).trans (final0_5 (V0 m ρ) c)
theorem y3_1 (c : Dev nD) : (V1 m ρ c main_v0_1 : Vec Ideal S4096x1024 .bf16) = fun i : S4096x1024.Idx => Head.y3 (args m c) (i 0) (i 1) :=
  (W1_arr m ρ c 6).trans (final0_6 (V0 m ρ) c)
theorem up_2 (c : Dev nD) : (V2 m ρ c main_v1 : Vec Ideal S4096x4096 .bf16)
    = fun i : S4096x4096.Idx => Head.up (args m c) (i 0) (blk (i 1)) (lane (i 1)) :=
  (W2_arr m ρ c 2).trans ((final1 (V1 m ρ) c).trans (funext fun i => Finset.sum_congr rfl fun k _ =>
    congrArg₂ (· * ·) (congrFun (y3_1 m ρ c) (ix2 (i 0) k)) (congrFun (W1_args m ρ c main_arg5 (by decide)) (ix3 (blk (i 1)) k (lane (i 1))))))
theorem h3_2 (c : Dev nD) : (V2 m ρ c main_v0_0 : Vec Ideal S4096x1024 .f32) = fun i : S4096x1024.Idx => Head.h3 (args m c) (i 0) (i 1) :=
  (W2_of m ρ c main_v0_0 (by decide)).trans (h3_1 m ρ c)
theorem up_at (c : Dev nD) (r : Fin 4096) (b : Fin 8) (j : Fin 512) :
    (V2 m ρ c main_v1 : Vec Ideal S4096x4096 .bf16) (ix2 r (at512 b j)) = Head.up (args m c) r b j :=
  (congrFun (up_2 m ρ c) (ix2 r (at512 b j))).trans
    (congrArg₂ (fun a d => Head.up (args m c) r a d) (blk_at512 b j) (lane_at512 b j))

/-! ### The rows after the MLP, the loss and its gradients -/

theorem rows_2 (c : Dev nD) (r : Fin 4096) : hAt (V2 m ρ) c r = Head.h4 (args m c) r :=
  funext fun k => congrArg₂ (· + ·) (congrFun (h3_2 m ρ c) (ix2 r k)) (Finset.sum_congr rfl fun b _ => Finset.sum_congr rfl fun j _ =>
    congrArg₂ (fun u w => Lay.reluSq u * w) (up_at m ρ c r b j) (congrFun (W2_args m ρ c main_arg6 (by decide)) (ix3 b j k)))
theorem g_2 (c : Dev nD) : fGain (V2 m ρ c main_arg7) = (args m c).gf :=
  funext fun k => congrFun (W2_args m ρ c main_arg7 (by decide)) (ix2 0 k)
theorem t_2 (c : Dev nD) (r : Fin 4096) : fRow (V2 m ρ c main_arg8) r = (args m c).t r :=
  funext fun k => congrFun (W2_args m ρ c main_arg8 (by decide)) (ix2 r k)
theorem row_2 (c : Dev nD) (r : Fin 4096) (k : Fin 1024) : rowAt (V2 m ρ) c r k = Head.dH4 (args m c) r k := by
  unfold rowAt dAt Head.dH4; rw [rows_2, g_2, t_2]
theorem gain_2 (c : Dev nD) (r : Fin 4096) (k : Fin 1024) : gainAt (V2 m ρ) c r k
    = Mlp.unit (Head.h4 (args m c) r) k * Head.dOut (Head.h4 (args m c) r) (args m c).gf ((args m c).t r) k := by
  unfold gainAt dAt; rw [rows_2, g_2, t_2]
theorem loss_2 (c : Dev nD) (r : Fin 4096) : lossAt (V2 m ρ) c r
    = Head.rowLoss (Head.h4 (args m c) r) (args m c).gf ((args m c).t r) := by
  unfold lossAt; rw [rows_2, g_2, t_2]

/-! ### The results at the end -/

theorem res0 (c : Dev nD) : (W5 m ρ c (Proc.devRef .tc main_v0_0) : Vec Ideal S4096x1024 .f32)
    = fun i : S4096x1024.Idx => Head.h3 (args m c) (i 0) (i 1) :=
  (W5_of m ρ c main_v0_0 (by decide)).trans ((W4_of m ρ c main_v0_0 (by decide)).trans ((W3_of m ρ c main_v0_0 (by decide)).trans (h3_2 m ρ c)))
theorem res1 (c : Dev nD) : (W5 m ρ c (Proc.devRef .tc main_v2_0) : Vec Ideal S8x128 .f32)
    = fun i : S8x128.Idx => Head.loss (args m c) :=
  (W5_of m ρ c main_v2_0 (by decide)).trans ((W4_of m ρ c main_v2_0 (by decide)).trans ((W3_arr m ρ c 5).trans ((final2_5 (V2 m ρ) c).trans
    (funext fun i => congrArg (Gmlp.cHalf * ·) (Finset.sum_congr rfl fun r _ => loss_2 m ρ c r)))))
theorem res2 (c : Dev nD) : (W5 m ρ c (Proc.devRef .tc main_v2_1) : Vec Ideal S4096x1024 .f32)
    = fun i : S4096x1024.Idx => Head.dH4 (args m c) (i 0) (i 1) :=
  (W5_of m ρ c main_v2_1 (by decide)).trans ((W4_of m ρ c main_v2_1 (by decide)).trans ((W3_arr m ρ c 6).trans
    ((final2_6 (V2 m ρ) c).trans (funext fun i => row_2 m ρ c (i 0) (i 1)))))
theorem res3 (c : Dev nD) : (W5 m ρ c (Proc.devRef .tc main_v2_2) : Vec Ideal S4096x1024 .bf16)
    = fun i : S4096x1024.Idx => Head.dH4 (args m c) (i 0) (i 1) :=
  (W5_of m ρ c main_v2_2 (by decide)).trans ((W4_of m ρ c main_v2_2 (by decide)).trans ((W3_arr m ρ c 7).trans
    ((final2_7 (V2 m ρ) c).trans (funext fun i => row_2 m ρ c (i 0) (i 1)))))
theorem res4 (c : Dev nD) : (W5 m ρ c (Proc.devRef .tc main_v2_3) : Vec Ideal S1x1024 .f32)
    = fun i : S1x1024.Idx => Head.dGain (args m c) (i 1) :=
  (W5_of m ρ c main_v2_3 (by decide)).trans ((W4_of m ρ c main_v2_3 (by decide)).trans ((W3_arr m ρ c 8).trans
    ((final2_8 (V2 m ρ) c).trans (funext fun i => Finset.sum_congr rfl fun r _ => gain_2 m ρ c r (i 1)))))
theorem res5 (c : Dev nD) : (W5 m ρ c (Proc.devRef .tc main_v3) : Vec Ideal S1024x1024 .bf16)
    = fun i : S1024x1024.Idx => Head.gOut (args m c) (i 0) (i 1) :=
  (W5_of m ρ c main_v3 (by decide)).trans ((W4_arr m ρ c 2).trans ((final3 (V3 m ρ) c).trans (funext fun i =>
    Finset.sum_congr rfl fun t _ => congrArg₂ (· * ·) (congrFun (W3_args m ρ c main_arg0 (by decide)) (ix2 t (i 0)))
      (congrFun (W3_args m ρ c main_arg9 (by decide)) (ix2 t (i 1))))))
theorem res6 (c : Dev nD) : (W5 m ρ c (Proc.devRef .tc main_v4) : Vec Ideal S4096x1024 .f32)
    = fun i : S4096x1024.Idx => Head.dAttn (args m c) (i 0) (i 1) :=
  (W5_arr m ρ c 2).trans ((final4 (V4 m ρ) c).trans (funext fun i => Finset.sum_congr rfl fun k _ =>
    congrArg₂ (· * ·) (congrFun (W4_args m ρ c main_arg9 (by decide)) (ix2 (i 0) k))
      (congrFun (W4_args m ρ c main_arg1 (by decide)) (ix2 (i 1) k))))

end Cert.Kernel5Ideal.Body

end
-- ==== Proof.HeadRef.lean ====
/-
  What the reference of the fifth program computes, read at an index, and its seven results as whole arrays.
-/
module

public import proofs.«01_k».proof.Proof.HeadSpec
public import proofs.«01_k».proof.Proof.Gen.Reference5Ideal.Read

@[expose] public section

set_option maxRecDepth 16384

noncomputable section

namespace Cert.Reference5Ideal.At

open Cert.Reference5Ideal Cert.Reference5Ideal.Gen Cert.Reference5Ideal.Read Idealize.ShloMosaic Cert.Mlp Cert.Gmlp Cert.Lay Cert.Head

variable (x0 : Vec Ideal S4096x1024 .bf16) (x1 : Vec Ideal S1024x1024 .bf16) (x2 : Vec Ideal S4096x1024 .f32) (x3 x4 : Vec Ideal S1x1024 .f32)
  (x5 : Vec Ideal S8x1024x512 .bf16) (x6 : Vec Ideal S8x512x1024 .bf16) (x7 : Vec Ideal S1x1024 .f32) (x8 : Vec Ideal S4096x1024 .f32)
  (x9 : Vec Ideal S4096x1024 .bf16)

/-! ### The weights by blocks, in the wide format -/

theorem v14_at (k : Fin 1024) (b : Fin 8) (j : Fin 512) : val_main_v14 x5 (ix2 k (at512 b j)) = x5 (ix3 b k j) := by
  unfold val_main_v14 val_main_v13 val_main_v12; pointwise
  exact congrArg₂ (fun a c => x5 (ix3 a k c)) (blk_at512 b j) (lane_at512 b j)
theorem v30_at (b : Fin 8) (j : Fin 512) (k : Fin 1024) : val_main_v30 x6 (ix2 (at512 b j) k) = x6 (ix3 b j k) := by
  unfold val_main_v30 val_main_v29; pointwise
  exact congrArg₂ (fun a c => x6 (ix3 a c k)) (blk_at512 b j) (lane_at512 b j)

/-! ### The output projection and its gradients -/

theorem v7_at (r : Fin 4096) (k : Fin 1024) : val_main_v7 x0 x1 x2 x3 (ix2 r k) = h3 (argOf x0 x1 x2 x3 x4 x5 x6 x7 x8 x9) r k := by
  unfold val_main_v7 val_main_v6 val_main_v5 val_main_v4 val_main_v3 val_main_v2 val_main_v1 val_main_v0; pointwise
  rw [← add_assoc]
  exact congrArg (· + _) (add_comm _ _)
theorem v91_at (j k : Fin 1024) : val_main_v91 x0 x9 (ix2 j k) = gOut (argOf x0 x1 x2 x3 x4 x5 x6 x7 x8 x9) j k := by
  unfold val_main_v91 val_main_v10 val_main_v9 val_main_v8 val_main_v0; pointwise
  exact Finset.sum_congr rfl fun t _ => mul_comm _ _
theorem v11_at (r : Fin 4096) (j : Fin 1024) : val_main_v11 x1 x9 (ix2 r j) = dAttn (argOf x0 x1 x2 x3 x4 x5 x6 x7 x8 x9) r j := by
  unfold val_main_v11 val_main_v8 val_main_v1; pointwise; rfl

/-! ### The MLP -/

theorem v28_at (r : Fin 4096) (k : Fin 1024) : val_main_v28 x0 x1 x2 x3 x4 (ix2 r k) = y3 (argOf x0 x1 x2 x3 x4 x5 x6 x7 x8 x9) r k := by
  unfold val_main_v28 val_main_v27 val_main_v26 val_main_v25 val_main_v24 val_main_v23 val_main_v22 val_main_v21 val_main_v20 val_main_v19 val_main_v18 val_main_v17 val_main_v16 val_main_v15 val_main_cst val_main_cst_0 val_main_cst_1
  pointwise
  simp only [v7_at x0 x1 x2 x3 x4 x5 x6 x7 x8 x9]; rfl
theorem v31_at (r : Fin 4096) (b : Fin 8) (j : Fin 512) :
    val_main_v31 x0 x1 x2 x3 x4 x5 (ix2 r (at512 b j)) = up (argOf x0 x1 x2 x3 x4 x5 x6 x7 x8 x9) r b j := by
  unfold val_main_v31; pointwise
  simp only [v28_at x0 x1 x2 x3 x4 x5 x6 x7 x8 x9, v14_at]; rfl
theorem v33_at (r : Fin 4096) (b : Fin 8) (j : Fin 512) :
    val_main_v33 x0 x1 x2 x3 x4 x5 (ix2 r (at512 b j)) = reluSq (up (argOf x0 x1 x2 x3 x4 x5 x6 x7 x8 x9) r b j) := by
  unfold val_main_v33 val_main_v32 val_main_call0_v0 val_main_call0_cst; pointwise
  rw [v31_at x0 x1 x2 x3 x4 x5 x6 x7 x8 x9]; rfl
theorem v35_at (r : Fin 4096) (k : Fin 1024) : val_main_v35 x0 x1 x2 x3 x4 x5 x6 (ix2 r k) = h4 (argOf x0 x1 x2 x3 x4 x5 x6 x7 x8 x9) r k := by
  unfold val_main_v35 val_main_v34; pointwise
  rw [v7_at x0 x1 x2 x3 x4 x5 x6 x7 x8 x9, sum_at512]
  refine congrArg (_ + ·) (Finset.sum_congr rfl fun b _ => ?_)
  simp only [v33_at x0 x1 x2 x3 x4 x5 x6 x7 x8 x9, v30_at]; rfl

/-! ### The loss -/

theorem v43_at (r : Fin 4096) : val_main_v43 x0 x1 x2 x3 x4 x5 x6 (ix2 r 0) = msq (h4 (argOf x0 x1 x2 x3 x4 x5 x6 x7 x8 x9) r) := by
  unfold val_main_v43 val_main_v42 val_main_v41 val_main_v40 val_main_v39 val_main_v38 val_main_v37 val_main_cst_2 val_main_cst_3 val_main_cst_4
  pointwise
  simp only [v35_at x0 x1 x2 x3 x4 x5 x6 x7 x8 x9]; rfl
theorem v44_at (r : Fin 4096) : val_main_v44 x0 x1 x2 x3 x4 x5 x6 (ix2 r 0) = rs (h4 (argOf x0 x1 x2 x3 x4 x5 x6 x7 x8 x9) r) := by
  unfold val_main_v44; pointwise
  rw [v43_at x0 x1 x2 x3 x4 x5 x6 x7 x8 x9]; rfl
theorem v47_at (r : Fin 4096) : val_main_v47 x0 x1 x2 x3 x4 x5 x6 (ix2 r 0) = cNegHalf * Ideal.div (rs (h4 (argOf x0 x1 x2 x3 x4 x5 x6 x7 x8 x9) r)) (msq (h4 (argOf x0 x1 x2 x3 x4 x5 x6 x7 x8 x9) r)) := by
  unfold val_main_v47 val_main_v46 val_main_v45 val_main_cst_5; pointwise
  rw [v43_at x0 x1 x2 x3 x4 x5 x6 x7 x8 x9, v44_at x0 x1 x2 x3 x4 x5 x6 x7 x8 x9]
theorem v49_at (r : Fin 4096) (k : Fin 1024) : val_main_v49 x0 x1 x2 x3 x4 x5 x6 (ix2 r k) = Mlp.unit (h4 (argOf x0 x1 x2 x3 x4 x5 x6 x7 x8 x9) r) k := by
  unfold val_main_v49 val_main_v48; pointwise
  rw [v35_at x0 x1 x2 x3 x4 x5 x6 x7 x8 x9, v44_at x0 x1 x2 x3 x4 x5 x6 x7 x8 x9]; rfl
theorem v53_at (r : Fin 4096) (k : Fin 1024) :
    val_main_v53 x0 x1 x2 x3 x4 x5 x6 x7 x8 (ix2 r k) = diff (h4 (argOf x0 x1 x2 x3 x4 x5 x6 x7 x8 x9) r) (argOf x0 x1 x2 x3 x4 x5 x6 x7 x8 x9).gf ((argOf x0 x1 x2 x3 x4 x5 x6 x7 x8 x9).t r) k := by
  unfold val_main_v53 val_main_v52 val_main_v51 val_main_v50 val_main_v36; pointwise
  rw [v49_at x0 x1 x2 x3 x4 x5 x6 x7 x8 x9]; rfl
theorem v59_at (r : Fin 4096) : val_main_v59 x0 x1 x2 x3 x4 x5 x6 x7 x8 (ix1 r) = rowLoss (h4 (argOf x0 x1 x2 x3 x4 x5 x6 x7 x8 x9) r) (argOf x0 x1 x2 x3 x4 x5 x6 x7 x8 x9).gf ((argOf x0 x1 x2 x3 x4 x5 x6 x7 x8 x9).t r) := by
  unfold val_main_v59 val_main_v58 val_main_v57 val_main_v54 val_main_cst_7 val_main_cst_8; pointwise
  simp only [v53_at x0 x1 x2 x3 x4 x5 x6 x7 x8 x9]; rfl
theorem v88_at (i : Fin 8) (j : Fin 128) : val_main_v88 x0 x1 x2 x3 x4 x5 x6 x7 x8 (ix2 i j) = loss (argOf x0 x1 x2 x3 x4 x5 x6 x7 x8 x9) := by
  unfold val_main_v88 val_main_v61 val_main_v60 val_main_cst_9 val_main_cst_10; pointwise
  simp only [v59_at x0 x1 x2 x3 x4 x5 x6 x7 x8 x9]; rfl

/-! ### The loss's gradients -/

theorem v67_at (r : Fin 4096) (k : Fin 1024) :
    val_main_v67 x0 x1 x2 x3 x4 x5 x6 x7 x8 (ix2 r k) = dOut (h4 (argOf x0 x1 x2 x3 x4 x5 x6 x7 x8 x9) r) (argOf x0 x1 x2 x3 x4 x5 x6 x7 x8 x9).gf ((argOf x0 x1 x2 x3 x4 x5 x6 x7 x8 x9).t r) k := by
  unfold val_main_v67 val_main_v66 val_main_v65 val_main_v64 val_main_v63 val_main_v62 val_main_v56 val_main_v55 val_main_cst_6 val_main_cst_11 val_main_cst_12 val_main_cst_13; pointwise
  rw [v53_at x0 x1 x2 x3 x4 x5 x6 x7 x8 x9]
  unfold dOut; simp
theorem v90_at (k : Fin 1024) : val_main_v90 x0 x1 x2 x3 x4 x5 x6 x7 x8 (ix2 0 k) = dGain (argOf x0 x1 x2 x3 x4 x5 x6 x7 x8 x9) k := by
  unfold val_main_v90 val_main_v73 val_main_v70 val_main_v69 val_main_v68 val_main_cst_14 val_main_cst_15; pointwise
  simp only [Fin.sum_univ_one, v49_at x0 x1 x2 x3 x4 x5 x6 x7 x8 x9, v67_at x0 x1 x2 x3 x4 x5 x6 x7 x8 x9]; rfl
theorem v72_at (r : Fin 4096) (k : Fin 1024) :
    val_main_v72 x0 x1 x2 x3 x4 x5 x6 x7 x8 (ix2 r k) = dOut (h4 (argOf x0 x1 x2 x3 x4 x5 x6 x7 x8 x9) r) (argOf x0 x1 x2 x3 x4 x5 x6 x7 x8 x9).gf ((argOf x0 x1 x2 x3 x4 x5 x6 x7 x8 x9).t r) k * (argOf x0 x1 x2 x3 x4 x5 x6 x7 x8 x9).gf k := by
  unfold val_main_v72 val_main_v71 val_main_v50 val_main_v36; pointwise
  rw [v67_at x0 x1 x2 x3 x4 x5 x6 x7 x8 x9]; rfl
theorem v83_at (r : Fin 4096) (k : Fin 1024) : val_main_v83 x0 x1 x2 x3 x4 x5 x6 x7 x8 (ix2 r k)
    = csq (h4 (argOf x0 x1 x2 x3 x4 x5 x6 x7 x8 x9) r) (argOf x0 x1 x2 x3 x4 x5 x6 x7 x8 x9).gf (dOut (h4 (argOf x0 x1 x2 x3 x4 x5 x6 x7 x8 x9) r) (argOf x0 x1 x2 x3 x4 x5 x6 x7 x8 x9).gf ((argOf x0 x1 x2 x3 x4 x5 x6 x7 x8 x9).t r)) := by
  unfold val_main_v83 val_main_v82 val_main_v81 val_main_v80 val_main_v79 val_main_v76 val_main_v75 val_main_v74 val_main_cst_16 val_main_cst_17 val_main_cst_18; pointwise
  simp only [Fin.sum_univ_one, v72_at x0 x1 x2 x3 x4 x5 x6 x7 x8 x9, v35_at x0 x1 x2 x3 x4 x5 x6 x7 x8 x9, v47_at x0 x1 x2 x3 x4 x5 x6 x7 x8 x9]; rfl
theorem v87_at (r : Fin 4096) (k : Fin 1024) : val_main_v87 x0 x1 x2 x3 x4 x5 x6 x7 x8 (ix2 r k) = dH4 (argOf x0 x1 x2 x3 x4 x5 x6 x7 x8 x9) r k := by
  unfold val_main_v87 val_main_v86 val_main_v85 val_main_v84 val_main_v78 val_main_v77; pointwise
  rw [v72_at x0 x1 x2 x3 x4 x5 x6 x7 x8 x9, v35_at x0 x1 x2 x3 x4 x5 x6 x7 x8 x9, v83_at x0 x1 x2 x3 x4 x5 x6 x7 x8 x9, v44_at x0 x1 x2 x3 x4 x5 x6 x7 x8 x9]; rfl
theorem v89_at (r : Fin 4096) (k : Fin 1024) : val_main_v89 x0 x1 x2 x3 x4 x5 x6 x7 x8 (ix2 r k) = dH4 (argOf x0 x1 x2 x3 x4 x5 x6 x7 x8 x9) r k := by
  unfold val_main_v89; pointwise
  exact v87_at x0 x1 x2 x3 x4 x5 x6 x7 x8 x9 r k

/-! ### The results as whole arrays -/

theorem v7_eq : val_main_v7 x0 x1 x2 x3 = fun i : S4096x1024.Idx => h3 (argOf x0 x1 x2 x3 x4 x5 x6 x7 x8 x9) (i 0) (i 1) :=
  funext fun i => (congrArg (val_main_v7 x0 x1 x2 x3) (eq_ix2 i)).trans (v7_at x0 x1 x2 x3 x4 x5 x6 x7 x8 x9 (i 0) (i 1))
theorem v88_eq : val_main_v88 x0 x1 x2 x3 x4 x5 x6 x7 x8 = fun i : S8x128.Idx => loss (argOf x0 x1 x2 x3 x4 x5 x6 x7 x8 x9) :=
  funext fun i => (congrArg (val_main_v88 x0 x1 x2 x3 x4 x5 x6 x7 x8) (eq_ix2 i)).trans (v88_at x0 x1 x2 x3 x4 x5 x6 x7 x8 x9 (i 0) (i 1))
theorem v87_eq : val_main_v87 x0 x1 x2 x3 x4 x5 x6 x7 x8 = fun i : S4096x1024.Idx => dH4 (argOf x0 x1 x2 x3 x4 x5 x6 x7 x8 x9) (i 0) (i 1) :=
  funext fun i => (congrArg (val_main_v87 x0 x1 x2 x3 x4 x5 x6 x7 x8) (eq_ix2 i)).trans (v87_at x0 x1 x2 x3 x4 x5 x6 x7 x8 x9 (i 0) (i 1))
theorem v89_eq : val_main_v89 x0 x1 x2 x3 x4 x5 x6 x7 x8 = fun i : S4096x1024.Idx => dH4 (argOf x0 x1 x2 x3 x4 x5 x6 x7 x8 x9) (i 0) (i 1) :=
  funext fun i => (congrArg (val_main_v89 x0 x1 x2 x3 x4 x5 x6 x7 x8) (eq_ix2 i)).trans (v89_at x0 x1 x2 x3 x4 x5 x6 x7 x8 x9 (i 0) (i 1))
theorem one0 (a : Fin 1) : a = 0 := Subsingleton.elim a 0
theorem v90_eq : val_main_v90 x0 x1 x2 x3 x4 x5 x6 x7 x8 = fun i : S1x1024.Idx => dGain (argOf x0 x1 x2 x3 x4 x5 x6 x7 x8 x9) (i 1) :=
  funext fun i => (congrArg (val_main_v90 x0 x1 x2 x3 x4 x5 x6 x7 x8) ((eq_ix2 i).trans
    (congrArg (fun a : Fin 1 => ix2 a (i 1)) (one0 (i 0))))).trans (v90_at x0 x1 x2 x3 x4 x5 x6 x7 x8 x9 (i 1))
theorem v91_eq : val_main_v91 x0 x9 = fun i : S1024x1024.Idx => gOut (argOf x0 x1 x2 x3 x4 x5 x6 x7 x8 x9) (i 0) (i 1) :=
  funext fun i => (congrArg (val_main_v91 x0 x9) (eq_ix2 i)).trans (v91_at x0 x1 x2 x3 x4 x5 x6 x7 x8 x9 (i 0) (i 1))
theorem v11_eq : val_main_v11 x1 x9 = fun i : S4096x1024.Idx => dAttn (argOf x0 x1 x2 x3 x4 x5 x6 x7 x8 x9) (i 0) (i 1) :=
  funext fun i => (congrArg (val_main_v11 x1 x9) (eq_ix2 i)).trans (v11_at x0 x1 x2 x3 x4 x5 x6 x7 x8 x9 (i 0) (i 1))

end Cert.Reference5Ideal.At

end
-- ==== Proof.QkvRun.lean ====
/-
  The run of an attention layer's input projection, backward, from the launch to the end: every buffer of the device ends at the
  contents that the fold over the host operations and the three pipelines names.
-/
module

public import proofs.«01_k».proof.Proof.Gen.Kernel6Ideal.Frame
public import Idealize.ShloMosaic.Lib.Pointwise

@[expose] public section

set_option maxRecDepth 16384

noncomputable section

namespace Cert.Kernel6Ideal.Body

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- Every weakly fair execution ends, faults nowhere, and leaves every buffer at the fold's last contents. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end Cert.Kernel6Ideal.Body

end
-- ==== Proof.QkvSpec.lean ====
/-
  The mathematics of an attention layer's input projection read backward, and of the hidden cotangent of the MLP before it, over
  extended reals and over plain coordinates. Both programs are read at these functions. No printed program is mentioned here.
-/
module

public import proofs.«01_k».proof.Proof.LaySpec

@[expose] public section

noncomputable section

namespace Cert.Qkv

open Idealize.ShloMosaic Cert.Mlp Cert.Lay

/-! ### A weight given as the halves of its blocks -/

/-- The whole weight. -/
def cat (a b : Fin 8 → Fin 256 → Fin 1024 → EReal) (n : Fin 8) (j : Fin 512) (k : Fin 1024) : EReal :=
  if h : j.val < 256 then a n ⟨j.val, h⟩ k else b n ⟨j.val - 256, by omega⟩ k

theorem cat_lo (a b : Fin 8 → Fin 256 → Fin 1024 → EReal) (n : Fin 8) (j : Fin 256) (k : Fin 1024) : cat a b n (lo j) k = a n j k :=
  dif_pos j.isLt
theorem cat_hi (a b : Fin 8 → Fin 256 → Fin 1024 → EReal) (n : Fin 8) (j : Fin 256) (k : Fin 1024) : cat a b n (hi j) k = b n j k :=
  (dif_neg (by show ¬256 + j.val < 256; omega)).trans (congrArg (fun i => b n i k) (Fin.ext (by show 256 + j.val - 256 = j.val; omega)))

/-- Every entry of a block is in its first or its second half. -/
theorem half_cases (j : Fin 512) : (∃ i, j = lo i) ∨ ∃ i, j = hi i := by
  by_cases h : j.val < 256
  · exact .inl ⟨⟨j.val, h⟩, rfl⟩
  · exact .inr ⟨⟨j.val - 256, by omega⟩, Fin.ext (by show j.val = 256 + (j.val - 256); omega)⟩

/-! ### The arguments and the results -/

/-- The arguments over plain coordinates: the projection's cotangent, the residual stream, the gain, the projection's weight, the
    cotangent that passes the layer by, the MLP's second weight (as the two halves of its blocks) and the MLP's hidden rows. -/
structure Arg where
  d : Fin 4096 → Fin 1280 → EReal
  h : Fin 4096 → Fin 1024 → EReal
  g : Fin 1024 → EReal
  w : Fin 1280 → Fin 1024 → EReal
  e : Fin 4096 → Fin 1024 → EReal
  wa : Fin 8 → Fin 256 → Fin 1024 → EReal
  wb : Fin 8 → Fin 256 → Fin 1024 → EReal
  up : Fin 4096 → Fin 4096 → EReal

/-- The arguments, as the arrays of either program. -/
def argOf (x0 : Vec Ideal ⟨2, ![4096, 1280]⟩ .f32) (x1 : Vec Ideal ⟨2, ![4096, 1024]⟩ .f32) (x2 : Vec Ideal ⟨2, ![1, 1024]⟩ .f32)
    (x3 : Vec Ideal ⟨2, ![1280, 1024]⟩ .bf16) (x4 : Vec Ideal ⟨2, ![4096, 1024]⟩ .f32) (x5 x6 : Vec Ideal ⟨3, ![8, 256, 1024]⟩ .bf16)
    (x7 : Vec Ideal ⟨2, ![4096, 4096]⟩ .bf16) : Arg :=
  ⟨fun r j => x0 (ix2 r j), fun r k => x1 (ix2 r k), fun k => x2 (ix2 0 k), fun j k => x3 (ix2 j k), fun r k => x4 (ix2 r k),
    fun b j k => x5 (ix3 b j k), fun b j k => x6 (ix3 b j k), fun r j => x7 (ix2 r j)⟩

variable (A : Arg)

/-- The normalised rows. -/
def y (r : Fin 4096) (k : Fin 1024) : EReal := norm (A.h r) A.g k
/-- The cotangent of the projection's weight. -/
def gW (j : Fin 1280) (k : Fin 1024) : EReal := ∑ t, A.d t j * y A t k
/-- The cotangent of its bias. -/
def gB (j : Fin 1280) : EReal := ∑ t, A.d t j
/-- The cotangent of the normalised rows. -/
def dY (r : Fin 4096) (k : Fin 1024) : EReal := ∑ j, A.d r j * A.w j k
/-- The cotangent of the residual stream. -/
def dH (r : Fin 4096) (k : Fin 1024) : EReal := dRow (A.h r) A.g (dY A r) (A.e r) k
/-- The cotangent of the gain. -/
def dGain (k : Fin 1024) : EReal := ∑ r, unit (A.h r) k * dY A r k
/-- The column sums of the residual stream's cotangent. -/
def colSum (k : Fin 1024) : EReal := ∑ r, dH A r k
/-- The cotangent of the MLP's hidden rows, at column `c`. -/
def dUp (r c : Fin 4096) : EReal := (∑ k, dH A r k * cat A.wa A.wb (blk c) (lane c) k) * (Gmlp.cTwo * max (A.up r c) 0)

end Cert.Qkv

end
-- ==== Proof.QkvBody.lean ====
/-
  The kernels of an attention layer's input projection read backward, and of the MLP's hidden cotangent, at one grid point, over
  the extended reals, read at an index.
-/
module

public import proofs.«01_k».proof.Proof.QkvSpec
public import proofs.«01_k».proof.Proof.Gen.Kernel6Ideal.Frame
public import Idealize.ShloMosaic.Lib.Pipeline.ValueKit

@[expose] public section

set_option maxRecDepth 16384

noncomputable section

namespace Cert.Kernel6Ideal.Body

open Cert.Kernel6Ideal Cert.Kernel6Ideal.Gen Idealize.ShloMosaic Cert.Mlp Cert.Lay Cert.Qkv

/-! ### The projection's weight and bias -/

/-- What one point of the first kernel writes. -/
theorem out0_2_at (x0 : Vec Ideal S4096x640 .f32) (x1 : Vec Ideal S4096x1024 .bf16) (j : Fin 640) (k : Fin 1024) :
    out0_2 x0 x1 (ix2 j k) = ∑ t, x0 (ix2 t j) * x1 (ix2 t k) := by
  unfold out0_2
  frame_out
  unfold_payloads; pointwise
theorem out0_3_at (x0 : Vec Ideal S4096x640 .f32) (x1 : Vec Ideal S4096x1024 .bf16) (j : Fin 640) :
    out0_3 x0 x1 (ix2 0 j) = ∑ t, x0 (ix2 t j) := by
  unfold out0_3
  frame_out
  unfold_payloads; pointwise

/-! ### The hidden cotangent -/

/-- The MLP's second weight, from the arrays of its halves. -/
def whole (x1 x2 : Vec Ideal S8x256x1024 .bf16) : Fin 8 → Fin 512 → Fin 1024 → EReal :=
  cat (fun b j k => x1 (ix3 b j k)) (fun b j k => x2 (ix3 b j k))

/-- Half a block of columns, at the array's index: the first half. -/
theorem lo_tile (x0 : Vec Ideal S512x1024 .bf16) (x1 x2 : Vec Ideal S8x256x1024 .bf16) (x3 : Vec Ideal S512x4096 .bf16) (y : S512x4096.Idx)
    (x : S512x256.Idx) (n q : ℕ) (hn : n < 8) (hq : q = 512 * n) (h0 : (y 0).val = (x 0).val) (h1 : (y 1).val = q + (x 1).val)
    (hc : q + (x 1).val < 4096) :
    (∑ k : Fin 1024, x0 (ix2 (x 0) k) * x1 (ix3 ⟨n, hn⟩ (x 1) k)) * (Gmlp.cTwo * max (x3 (ix2 (x 0) ⟨q + (x 1).val, hc⟩)) 0)
      = (∑ k, x0 (ix2 (y 0) k) * whole x1 x2 (blk (y 1)) (lane (y 1)) k) * (Gmlp.cTwo * max (x3 y) 0) := by
  have hx : (x 1).val < 256 := (x 1).isLt
  have e0 : (x 0 : Fin 512) = y 0 := Fin.ext h0.symm
  have e1 : (⟨n, hn⟩ : Fin 8) = blk (y 1) := Fin.ext (by show n = (y 1).val / 512; omega)
  have e2 : lo (x 1) = lane (y 1) := Fin.ext (by show (x 1).val = (y 1).val % 512; omega)
  have e3 : (⟨q + (x 1).val, hc⟩ : Fin 4096) = y 1 := Fin.ext h1.symm
  have ey : (ix2 (x 0) ⟨q + (x 1).val, hc⟩ : S512x4096.Idx) = y :=
    (congrArg₂ (fun (a : Fin 512) (b : Fin 4096) => (ix2 a b : S512x4096.Idx)) e0 e3).trans (eq_ix2 y).symm
  refine congrArg₂ (· * ·) (Finset.sum_congr rfl fun k _ => ?_) (congrArg (fun z => Gmlp.cTwo * max (x3 z) 0) ey)
  exact congrArg₂ (· * ·) (congrArg (fun a : Fin 512 => x0 (ix2 a k)) e0)
    ((cat_lo _ _ ⟨n, hn⟩ (x 1) k).symm.trans (congrArg₂ (fun a b => whole x1 x2 a b k) e1 e2))

/-- The second half. -/
theorem hi_tile (x0 : Vec Ideal S512x1024 .bf16) (x1 x2 : Vec Ideal S8x256x1024 .bf16) (x3 : Vec Ideal S512x4096 .bf16) (y : S512x4096.Idx)
    (x : S512x256.Idx) (n q : ℕ) (hn : n < 8) (hq : q = 512 * n + 256) (h0 : (y 0).val = (x 0).val) (h1 : (y 1).val = q + (x 1).val)
    (hc : q + (x 1).val < 4096) :
    (∑ k : Fin 1024, x0 (ix2 (x 0) k) * x2 (ix3 ⟨n, hn⟩ (x 1) k)) * (Gmlp.cTwo * max (x3 (ix2 (x 0) ⟨q + (x 1).val, hc⟩)) 0)
      = (∑ k, x0 (ix2 (y 0) k) * whole x1 x2 (blk (y 1)) (lane (y 1)) k) * (Gmlp.cTwo * max (x3 y) 0) := by
  have hx : (x 1).val < 256 := (x 1).isLt
  have e0 : (x 0 : Fin 512) = y 0 := Fin.ext h0.symm
  have e1 : (⟨n, hn⟩ : Fin 8) = blk (y 1) := Fin.ext (by show n = (y 1).val / 512; omega)
  have e2 : hi (x 1) = lane (y 1) := Fin.ext (by show 256 + (x 1).val = (y 1).val % 512; omega)
  have e3 : (⟨q + (x 1).val, hc⟩ : Fin 4096) = y 1 := Fin.ext h1.symm
  have ey : (ix2 (x 0) ⟨q + (x 1).val, hc⟩ : S512x4096.Idx) = y :=
    (congrArg₂ (fun (a : Fin 512) (b : Fin 4096) => (ix2 a b : S512x4096.Idx)) e0 e3).trans (eq_ix2 y).symm
  refine congrArg₂ (· * ·) (Finset.sum_congr rfl fun k _ => ?_) (congrArg (fun z => Gmlp.cTwo * max (x3 z) 0) ey)
  exact congrArg₂ (· * ·) (congrArg (fun a : Fin 512 => x0 (ix2 a k)) e0)
    ((cat_hi _ _ ⟨n, hn⟩ (x 1) k).symm.trans (congrArg₂ (fun a b => whole x1 x2 a b k) e1 e2))

/-- What one point of the third kernel writes. -/
theorem out2_at (x0 : Vec Ideal S512x1024 .bf16) (x1 x2 : Vec Ideal S8x256x1024 .bf16) (x3 : Vec Ideal S512x4096 .bf16) (y : S512x4096.Idx) :
    out2_4 x0 x1 x2 x3 y = (∑ k, x0 (ix2 (y 0) k) * whole x1 x2 (blk (y 1)) (lane (y 1)) k) * (Gmlp.cTwo * max (x3 y) 0) := by
  unfold_out out2_4
  canon_tiles x h
  · refine Eq.trans ?_ (hi_tile x0 x1 x2 x3 y x 7 3840 (by decide) rfl h0 (by omega) (by omega)); unfold_payloads; pointwise
  · refine Eq.trans ?_ (lo_tile x0 x1 x2 x3 y x 7 3584 (by decide) rfl h0 (by omega) (by omega)); unfold_payloads; pointwise
  · refine Eq.trans ?_ (hi_tile x0 x1 x2 x3 y x 6 3328 (by decide) rfl h0 (by omega) (by omega)); unfold_payloads; pointwise
  · refine Eq.trans ?_ (lo_tile x0 x1 x2 x3 y x 6 3072 (by decide) rfl h0 (by omega) (by omega)); unfold_payloads; pointwise
  · refine Eq.trans ?_ (hi_tile x0 x1 x2 x3 y x 5 2816 (by decide) rfl h0 (by omega) (by omega)); unfold_payloads; pointwise
  · refine Eq.trans ?_ (lo_tile x0 x1 x2 x3 y x 5 2560 (by decide) rfl h0 (by omega) (by omega)); unfold_payloads; pointwise
  · refine Eq.trans ?_ (hi_tile x0 x1 x2 x3 y x 4 2304 (by decide) rfl h0 (by omega) (by omega)); unfold_payloads; pointwise
  · refine Eq.trans ?_ (lo_tile x0 x1 x2 x3 y x 4 2048 (by decide) rfl h0 (by omega) (by omega)); unfold_payloads; pointwise
  · refine Eq.trans ?_ (hi_tile x0 x1 x2 x3 y x 3 1792 (by decide) rfl h0 (by omega) (by omega)); unfold_payloads; pointwise
  · refine Eq.trans ?_ (lo_tile x0 x1 x2 x3 y x 3 1536 (by decide) rfl h0 (by omega) (by omega)); unfold_payloads; pointwise
  · refine Eq.trans ?_ (hi_tile x0 x1 x2 x3 y x 2 1280 (by decide) rfl h0 (by omega) (by omega)); unfold_payloads; pointwise
  · refine Eq.trans ?_ (lo_tile x0 x1 x2 x3 y x 2 1024 (by decide) rfl h0 (by omega) (by omega)); unfold_payloads; pointwise
  · refine Eq.trans ?_ (hi_tile x0 x1 x2 x3 y x 1 768 (by decide) rfl h0 (by omega) (by omega)); unfold_payloads; pointwise
  · refine Eq.trans ?_ (lo_tile x0 x1 x2 x3 y x 1 512 (by decide) rfl h0 (by omega) (by omega)); unfold_payloads; pointwise
  · refine Eq.trans ?_ (hi_tile x0 x1 x2 x3 y x 0 256 (by decide) rfl h0 (by omega) (by omega)); unfold_payloads; pointwise
  · refine Eq.trans ?_ (lo_tile x0 x1 x2 x3 y x 0 0 (by decide) rfl h0 (by omega) (by omega)); unfold_payloads; pointwise

/-! ### The rows' cotangent -/

/-- The input blocks of one grid point of the second kernel. -/
structure In where
  d : Vec Ideal S512x1280 .f32
  w : Vec Ideal S1280x1024 .bf16
  h : Vec Ideal S512x1024 .f32
  g : Vec Ideal S1x1024 .f32
  e : Vec Ideal S512x1024 .f32

variable (I : In)

/-- The cotangent of the normalised rows, from a point's blocks. -/
def dyI (r : Fin 512) (k : Fin 1024) : EReal := ∑ j, I.d (ix2 r j) * I.w (ix2 j k)
/-- A row of the residual stream, the gain and a row of the cotangent that passes by. -/
def hI (r : Fin 512) (k : Fin 1024) : EReal := I.h (ix2 r k)
def gI (k : Fin 1024) : EReal := I.g (ix2 0 k)
def eI (r : Fin 512) (k : Fin 1024) : EReal := I.e (ix2 r k)

/-- The value `%3` of the kernel's body at one point. -/
theorem v3_at (r : Fin 512) (k : Fin 1024) : k1_pay7 I.d I.w (ix2 r k) = dyI I r k := by
  unfold k1_pay7; pointwise; rfl

/-- The value `%12`: the mean square with the literal added. -/
theorem v12_at (r : Fin 512) : k1_pay8 I.h (ix2 r 0) = msq (hI I r) := by
  unfold k1_pay8; pointwise; rfl

theorem v13_at (r : Fin 512) : k1_pay9 I.h (ix2 r 0) = rs (hI I r) := by
  unfold k1_pay9; pointwise; rw [v12_at]; rfl

/-- One point's part of the gain's cotangent. -/
theorem v21_at (k : Fin 1024) : k1_pay10 I.d I.w I.h (ix2 0 k) = ∑ r, unit (hI I r) k * dyI I r k := by
  unfold k1_pay10; pointwise; simp only [v3_at, v13_at]; rfl

theorem v38_at (r : Fin 512) (k : Fin 1024) : k1_pay11 I.d I.w I.h I.g (ix2 r k)
    = dyI I r k * gI I k * rs (hI I r) + hI I r k * csq (hI I r) (gI I) (dyI I r) + csq (hI I r) (gI I) (dyI I r) * hI I r k := by
  unfold k1_pay11; pointwise; simp only [Fin.sum_univ_one, v12_at, v13_at, v3_at]; rfl

/-- The value `%40` of the kernel's body at one point. -/
def v40 : FVec Ideal S512x1024 .f32 := k1_pay1 (k1_pay11 I.d I.w I.h I.g) I.e
/-- The value `%42`: the same in the narrow format. -/
def v42 : FVec Ideal S512x1024 .bf16 := k1_pay2 (k1_pay11 I.d I.w I.h I.g) I.e
/-- The value `%49`: the gain's accumulator, one point added. -/
def v49 (a : Vec Ideal S1x1024 .f32) : FVec Ideal S1x1024 .f32 := k1_pay5 (k1_pay10 I.d I.w I.h) a
/-- The value `%55`: the column sums' accumulator, one point added. -/
def v55 (a : Vec Ideal S1x1024 .f32) : FVec Ideal S1x1024 .f32 := k1_pay6 (k1_pay11 I.d I.w I.h I.g) I.e a

theorem v40_at (r : Fin 512) (k : Fin 1024) : v40 I (ix2 r k) = dRow (hI I r) (gI I) (dyI I r) (eI I r) k := by
  unfold v40 k1_pay1; pointwise; rw [v38_at]; rfl

theorem v42_at (r : Fin 512) (k : Fin 1024) : v42 I (ix2 r k) = dRow (hI I r) (gI I) (dyI I r) (eI I r) k := by
  unfold v42 k1_pay2; pointwise; exact v40_at I r k

theorem zero7_at (k : Fin 1024) : k1_pay3 (F := Ideal) (ix2 0 k) = 0 := by
  unfold k1_pay3; pointwise
theorem zero8_at (k : Fin 1024) : k1_pay4 (F := Ideal) (ix2 0 k) = 0 := by
  unfold k1_pay4; pointwise

theorem v49_at (a : Vec Ideal S1x1024 .f32) (k : Fin 1024) :
    v49 I a (ix2 0 k) = a (ix2 0 k) + ∑ r, unit (hI I r) k * dyI I r k := by
  unfold v49 k1_pay5; pointwise; rw [v21_at]

theorem v55_at (a : Vec Ideal S1x1024 .f32) (k : Fin 1024) :
    v55 I a (ix2 0 k) = a (ix2 0 k) + ∑ r, dRow (hI I r) (gI I) (dyI I r) (eI I r) k := by
  unfold v55 k1_pay6; pointwise
  exact congrArg (_ + ·) (Finset.sum_congr rfl fun r _ => v40_at I r k)

end Cert.Kernel6Ideal.Body

end
-- ==== Proof.QkvFinal.lean ====
/-
  What the first and the third pipeline of the input projection read backward leave in their output arrays, as functions of what
  their input arrays held when they began.
-/
module

public import proofs.«01_k».proof.Proof.QkvBody

@[expose] public section

set_option maxRecDepth 16384

noncomputable section

namespace Cert.Kernel6Ideal.Body

open Cert.Kernel6Ideal Cert.Kernel6Ideal.Gen Idealize.ShloMosaic Idealize.ShloMosaic.TcCoe Idealize.SL.Sem Cert.Mlp Cert.Lay Cert.Qkv
open Idealize.ShloMosaic.Pipeline (Dat)

variable (V : (c : Dev nD) → (b : Ref sig .tc) → Buf (Elt Ideal) ((c : Thread nD τ).loc b))

/-- The index maps of the staged windows. -/
theorem idx0 : ∀ t : Fin cfg0.N, win0_0.index t = ![0, t.val] ∧ win0_1.index t = ![0, 0] ∧ win0_2.index t = ![t.val, 0]
    ∧ win0_3.index t = ![0, t.val] :=
  (by decide +kernel : ∀ t : Fin grid0.N, _)
theorem idx2 : ∀ t : Fin cfg2.N, win2_0.index t = ![t.val, 0] ∧ win2_1.index t = ![0, 0, 0] ∧ win2_2.index t = ![0, 0, 0]
    ∧ win2_3.index t = ![t.val, 0] ∧ win2_4.index t = ![t.val, 0] :=
  (by decide +kernel : ∀ t : Fin grid2.N, _)

/-- The arrays the pipelines leave, as functions of the arrays they take. -/
def fW (D : Vec Ideal S4096x1280 .f32) (Y : Vec Ideal S4096x1024 .bf16) (j : Fin 1280) (k : Fin 1024) : EReal :=
  ∑ t : Fin 4096, D (ix2 t j) * Y (ix2 t k)
def fB (D : Vec Ideal S4096x1280 .f32) (j : Fin 1280) : EReal := ∑ t : Fin 4096, D (ix2 t j)
def fUp (D : Vec Ideal S4096x1024 .bf16) (Wa Wb : Vec Ideal S8x256x1024 .bf16) (U : Vec Ideal S4096x4096 .bf16) (r c : Fin 4096) : EReal :=
  (∑ k : Fin 1024, D (ix2 r k) * whole Wa Wb (blk c) (lane c) k) * (Gmlp.cTwo * max (U (ix2 r c)) 0)

/-! ### Blocks of the input arrays -/

/-- A grid point's number. -/
def pt0 (t : Fin cfg0.N) : Fin 2 := ⟨t.val, t.isLt⟩
def pt2 (t : Fin cfg2.N) : Fin 8 := ⟨t.val, t.isLt⟩

/-- Column `j` of block `b`, among 1280 in blocks of 640. -/
def col640 (b : Fin 2) (j : Fin 640) : Fin 1280 := ⟨640 * b.val + j.val, by omega⟩

theorem blk0_0 (c : Dev nD) (t : Fin cfg0.N) (r : Fin 4096) (j : Fin 640) :
    (iblk0 V c 0 t : Vec Ideal S4096x640 .f32) (ix2 r j) = (V c main_arg0 : Vec Ideal S4096x1280 .f32) (ix2 r (col640 (pt0 t) j)) := by
  blk_ext! [iblk0, idx0 t, col640, pt0]
theorem blk0_1 (c : Dev nD) (t : Fin cfg0.N) (r : Fin 4096) (k : Fin 1024) :
    (iblk0 V c 1 t : Vec Ideal S4096x1024 .bf16) (ix2 r k) = (V c main_v12 : Vec Ideal S4096x1024 .bf16) (ix2 r k) := by
  blk_ext! [iblk0, idx0 t]
theorem blk2_0 (c : Dev nD) (t : Fin cfg2.N) (r : Fin 512) (k : Fin 1024) :
    (iblk2 V c 0 t : Vec Ideal S512x1024 .bf16) (ix2 r k) = (V c main_v14_1 : Vec Ideal S4096x1024 .bf16) (ix2 (at512 (pt2 t) r) k) := by
  blk_ext! [iblk2, idx2 t, at512, pt2]
theorem blk2_1 (c : Dev nD) (t : Fin cfg2.N) (b : Fin 8) (j : Fin 256) (k : Fin 1024) :
    (iblk2 V c 1 t : Vec Ideal S8x256x1024 .bf16) (ix3 b j k) = (V c main_arg5 : Vec Ideal S8x256x1024 .bf16) (ix3 b j k) := by
  blk_ext! [iblk2, idx2 t]
theorem blk2_2 (c : Dev nD) (t : Fin cfg2.N) (b : Fin 8) (j : Fin 256) (k : Fin 1024) :
    (iblk2 V c 2 t : Vec Ideal S8x256x1024 .bf16) (ix3 b j k) = (V c main_arg6 : Vec Ideal S8x256x1024 .bf16) (ix3 b j k) := by
  blk_ext! [iblk2, idx2 t]
theorem blk2_3 (c : Dev nD) (t : Fin cfg2.N) (r : Fin 512) (j : Fin 4096) :
    (iblk2 V c 3 t : Vec Ideal S512x4096 .bf16) (ix2 r j) = (V c main_arg7 : Vec Ideal S4096x4096 .bf16) (ix2 (at512 (pt2 t) r) j) := by
  blk_ext! [iblk2, idx2 t, at512, pt2]

/-! ### What one point writes -/

theorem point0_2 (c : Dev nD) (t : Fin cfg0.N) (y : S640x1024.Idx) : out0_2 (iblk0 V c 0 t) (iblk0 V c 1 t) y
    = fW (V c main_arg0) (V c main_v12) (col640 (pt0 t) (y 0)) (y 1) :=
  (congrArg (out0_2 (F := Ideal) (iblk0 V c 0 t) (iblk0 V c 1 t)) (eq_ix2 y)).trans ((out0_2_at _ _ (y 0) (y 1)).trans
    (Finset.sum_congr rfl fun r _ => congrArg₂ (· * ·) (blk0_0 V c t r (y 0)) (blk0_1 V c t r (y 1))))
/-- The index of an axis of extent one. -/
theorem one0 (a : Fin 1) : a = 0 := Subsingleton.elim a 0
theorem point0_3 (c : Dev nD) (t : Fin cfg0.N) (y : S1x640.Idx) : out0_3 (iblk0 V c 0 t) (iblk0 V c 1 t) y
    = fB (V c main_arg0) (col640 (pt0 t) (y 1)) :=
  (congrArg (out0_3 (F := Ideal) (iblk0 V c 0 t) (iblk0 V c 1 t)) ((eq_ix2 y).trans (congrArg (fun a : Fin 1 => ix2 a (y 1)) (one0 (y 0))))).trans
    ((out0_3_at _ _ (y 1)).trans (Finset.sum_congr rfl fun r _ => blk0_0 V c t r (y 1)))
theorem whole2 (c : Dev nD) (t : Fin cfg2.N) : whole (iblk2 V c 1 t) (iblk2 V c 2 t) = whole (V c main_arg5) (V c main_arg6) :=
  congrArg₂ cat (funext fun b => funext fun j => funext fun k => blk2_1 V c t b j k)
    (funext fun b => funext fun j => funext fun k => blk2_2 V c t b j k)
theorem point2 (c : Dev nD) (t : Fin cfg2.N) (y : S512x4096.Idx) : out2_4 (iblk2 V c 0 t) (iblk2 V c 1 t) (iblk2 V c 2 t) (iblk2 V c 3 t) y
    = fUp (V c main_v14_1) (V c main_arg5) (V c main_arg6) (V c main_arg7) (at512 (pt2 t) (y 0)) (y 1) := by
  refine (out2_at _ _ _ _ y).trans ?_
  rw [whole2]
  exact congrArg₂ (· * ·) (Finset.sum_congr rfl fun k _ => congrArg (· * _) (blk2_0 V c t (y 0) k))
    (congrArg (fun z => Gmlp.cTwo * max z 0) ((congrArg (iblk2 V c 3 t : Vec Ideal S512x4096 .bf16) (eq_ix2 y)).trans (blk2_3 V c t (y 0) (y 1))))

/-! ### What the arrays hold at the end -/

/-- The first pipeline: the weight's cotangent. -/
theorem final0_2 (c : Dev nD) : (dat0 V c).arrAt 2 cfg0.N
    = fun y : S1280x1024.Idx => fW (V c main_arg0) (V c main_v12) (y 0) (y 1) := by
  refine (dat0 V c).arrAt_eq_of_covers 2 _ (by decide +kernel) fun t hf y => ?_
  blk_simp
  rw [after0_2]
  refine (point0_2 V c t y).trans ?_
  refine congrArg₂ (fW (V c main_arg0) (V c main_v12)) (Fin.ext ?_) (Fin.ext ?_)
  · blk_simp [idx0 t, col640, pt0]; try simp; try omega
  · blk_simp [idx0 t]

/-- The first pipeline: the bias's cotangent. -/
theorem final0_3 (c : Dev nD) : (dat0 V c).arrAt 3 cfg0.N = fun y : S1x1280.Idx => fB (V c main_arg0) (y 1) := by
  refine (dat0 V c).arrAt_eq_of_covers 3 _ (by decide +kernel) fun t hf y => ?_
  blk_simp
  rw [after0_3]
  refine (point0_3 V c t y).trans ?_
  refine congrArg (fB (V c main_arg0)) (Fin.ext ?_)
  blk_simp [idx0 t, col640, pt0]; try simp; try omega

/-- The third pipeline: the hidden cotangent. -/
theorem final2 (c : Dev nD) : (dat2 V c).arrAt 4 cfg2.N
    = fun y : S4096x4096.Idx => fUp (V c main_v14_1) (V c main_arg5) (V c main_arg6) (V c main_arg7) (y 0) (y 1) := by
  refine (dat2 V c).arrAt_eq_of_covers 4 _ (by decide +kernel) fun t hf y => ?_
  blk_simp
  rw [after2_4]
  refine (point2 V c t y).trans ?_
  refine congrArg₂ (fUp (V c main_v14_1) (V c main_arg5) (V c main_arg6) (V c main_arg7)) (Fin.ext ?_) (Fin.ext ?_)
  · blk_simp [idx2 t, at512, pt2]; try simp; try omega
  · blk_simp [idx2 t]

end Cert.Kernel6Ideal.Body

end
-- ==== Proof.QkvOuts.lean ====
/-
  What the second kernel's body leaves in its four outputs' staging buffers at one grid point: the rows' cotangent in two
  formats, and two accumulators (zero before the first point) with the point's part added.
-/
module

public import proofs.«01_k».proof.Proof.QkvBody
public import Idealize.ShloMosaic.Lib.Tactic

@[expose] public section

set_option maxRecDepth 16384

noncomputable section

namespace Cert.Kernel6Ideal.Body

open Cert.Kernel6Ideal Cert.Kernel6Ideal.Gen Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

variable (I : In)

/-- The rows' cotangent at the first point. -/
theorem outA5 (c : Dev nD) (i : grid1.Coords) (a1 : Memref sig .tc .vmem S512x1280 .f32) (h1 : a1.IsWhole) (a2 : Memref sig .tc .vmem S1280x1024 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole) (a9 : Memref sig .tc .vmem S1x1024 .f32) (h9 : a9.IsWhole) (hc : cond1_0 i) :
    out1_A_5 c i a1 h1 a2 h2 a3 h3 a4 h4 a5 h5 a6 h6 a7 h7 a8 h8 a9 h9 hc I.d I.w I.h I.g I.e = v40 I := by
  unfold out1_A_5
  rw [View.read_writes_eq_canon _ _ _ (cover1_A_5 c i a1 h1 a2 h2 a3 h3 a4 h4 a5 h5 a6 h6 a7 h7 a8 h8 a9 h9 hc I.d I.w I.h I.g I.e)]
  unfold kernelRun1_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, View.ld_unit_zero (S := S512x1280) hz2, View.ld_unit_zero (S := S1280x1024) hz2, View.ld_unit_zero (S := S512x1024) hz2, View.ld_unit_zero (S := S1x1024) hz2, shapeCast_self]
  rfl

/-- The rows' cotangent in the narrow format at the first point. -/
theorem outA6 (c : Dev nD) (i : grid1.Coords) (a1 : Memref sig .tc .vmem S512x1280 .f32) (h1 : a1.IsWhole) (a2 : Memref sig .tc .vmem S1280x1024 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole) (a9 : Memref sig .tc .vmem S1x1024 .f32) (h9 : a9.IsWhole) (hc : cond1_0 i) :
    out1_A_6 c i a1 h1 a2 h2 a3 h3 a4 h4 a5 h5 a6 h6 a7 h7 a8 h8 a9 h9 hc I.d I.w I.h I.g I.e = v42 I := by
  unfold out1_A_6
  rw [View.read_writes_eq_canon _ _ _ (cover1_A_6 c i a1 h1 a2 h2 a3 h3 a4 h4 a5 h5 a6 h6 a7 h7 a8 h8 a9 h9 hc I.d I.w I.h I.g I.e)]
  unfold kernelRun1_A
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, View.ld_unit_zero (S := S512x1280) hz2, View.ld_unit_zero (S := S1280x1024) hz2, View.ld_unit_zero (S := S512x1024) hz2, View.ld_unit_zero (S := S1x1024) hz2, shapeCast_self]
  rfl

/-- The gain's accumulator at the first point. -/
theorem outA7 (c : Dev nD) (i : grid1.Coords) (a1 : Memref sig .tc .vmem S512x1280 .f32) (h1 : a1.IsWhole) (a2 : Memref sig .tc .vmem S1280x1024 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole) (a9 : Memref sig .tc .vmem S1x1024 .f32) (h9 : a9.IsWhole) (hc : cond1_0 i) :
    out1_A_7 c i a1 h1 a2 h2 a3 h3 a4 h4 a5 h5 a6 h6 a7 h7 a8 h8 a9 h9 hc I.d I.w I.h I.g I.e = v49 I (k1_pay3 (F := Ideal)) := by
  unfold out1_A_7
  rw [View.read_writes_eq_canon _ _ _ (cover1_A_7 c i a1 h1 a2 h2 a3 h3 a4 h4 a5 h5 a6 h6 a7 h7 a8 h8 a9 h9 hc I.d I.w I.h I.g I.e)]
  unfold kernelRun1_A
  dsimp only
  sl_unfold_words
  rw [View.canon_cons_unit_zero (S := S1x1024) hz2, View.readCov_unit_zero (S := S1x1024) _ hz2]
  simp only [View.readAt_eq_ld, h1.read_unread, h2.read_unread, h3.read_unread, h4.read_unread, h5.read_unread, h6.read_unread, h7.read_unread, h8.read_unread, h9.read_unread, View.ld_unit_zero (S := S512x1280) hz2, View.ld_unit_zero (S := S1280x1024) hz2, View.ld_unit_zero (S := S512x1024) hz2, View.ld_unit_zero (S := S1x1024) hz2, shapeCast_self]
  rfl

/-- The column sums' accumulator at the first point. -/
theorem outA8 (c : Dev nD) (i : grid1.Coords) (a1 : Memref sig .tc .vmem S512x1280 .f32) (h1 : a1.IsWhole) (a2 : Memref sig .tc .vmem S1280x1024 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole) (a9 : Memref sig .tc .vmem S1x1024 .f32) (h9 : a9.IsWhole) (hc : cond1_0 i) :
    out1_A_8 c i a1 h1 a2 h2 a3 h3 a4 h4 a5 h5 a6 h6 a7 h7 a8 h8 a9 h9 hc I.d I.w I.h I.g I.e = v55 I (k1_pay4 (F := Ideal)) := by
  unfold out1_A_8
  rw [View.read_writes_eq_canon _ _ _ (cover1_A_8 c i a1 h1 a2 h2 a3 h3 a4 h4 a5 h5 a6 h6 a7 h7 a8 h8 a9 h9 hc I.d I.w I.h I.g I.e)]
  unfold kernelRun1_A
  dsimp only
  sl_unfold_words
  rw [View.canon_cons_unit_zero (S := S1x1024) hz2, View.readCov_unit_zero (S := S1x1024) _ hz2]
  simp only [View.readAt_eq_ld, h1.read_unread, h2.read_unread, h3.read_unread, h4.read_unread, h5.read_unread, h6.read_unread, h7.read_unread, h8.read_unread, h9.read_unread, View.ld_unit_zero (S := S512x1280) hz2, View.ld_unit_zero (S := S1280x1024) hz2, View.ld_unit_zero (S := S512x1024) hz2, View.ld_unit_zero (S := S1x1024) hz2, shapeCast_self]
  rfl

/-- The rows' cotangent at a later point. -/
theorem outB5 (c : Dev nD) (i : grid1.Coords) (a1 : Memref sig .tc .vmem S512x1280 .f32) (h1 : a1.IsWhole) (a2 : Memref sig .tc .vmem S1280x1024 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole) (a9 : Memref sig .tc .vmem S1x1024 .f32) (h9 : a9.IsWhole) (hc : ¬cond1_0 i) (o7 : Vec Ideal S1x1024 .f32) (o8 : Vec Ideal S1x1024 .f32) :
    out1_B_5 c i a1 h1 a2 h2 a3 h3 a4 h4 a5 h5 a6 h6 a7 h7 a8 h8 a9 h9 hc I.d I.w I.h I.g I.e o7 o8 = v40 I := by
  unfold out1_B_5
  rw [View.read_writes_eq_canon _ _ _ (cover1_B_5 c i a1 h1 a2 h2 a3 h3 a4 h4 a5 h5 a6 h6 a7 h7 a8 h8 a9 h9 hc I.d I.w I.h I.g I.e o7 o8)]
  unfold kernelRun1_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, View.ld_unit_zero (S := S512x1280) hz2, View.ld_unit_zero (S := S1280x1024) hz2, View.ld_unit_zero (S := S512x1024) hz2, View.ld_unit_zero (S := S1x1024) hz2, shapeCast_self]
  rfl

/-- The rows' cotangent in the narrow format at a later point. -/
theorem outB6 (c : Dev nD) (i : grid1.Coords) (a1 : Memref sig .tc .vmem S512x1280 .f32) (h1 : a1.IsWhole) (a2 : Memref sig .tc .vmem S1280x1024 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole) (a9 : Memref sig .tc .vmem S1x1024 .f32) (h9 : a9.IsWhole) (hc : ¬cond1_0 i) (o7 : Vec Ideal S1x1024 .f32) (o8 : Vec Ideal S1x1024 .f32) :
    out1_B_6 c i a1 h1 a2 h2 a3 h3 a4 h4 a5 h5 a6 h6 a7 h7 a8 h8 a9 h9 hc I.d I.w I.h I.g I.e o7 o8 = v42 I := by
  unfold out1_B_6
  rw [View.read_writes_eq_canon _ _ _ (cover1_B_6 c i a1 h1 a2 h2 a3 h3 a4 h4 a5 h5 a6 h6 a7 h7 a8 h8 a9 h9 hc I.d I.w I.h I.g I.e o7 o8)]
  unfold kernelRun1_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, View.ld_unit_zero (S := S512x1280) hz2, View.ld_unit_zero (S := S1280x1024) hz2, View.ld_unit_zero (S := S512x1024) hz2, View.ld_unit_zero (S := S1x1024) hz2, shapeCast_self]
  rfl

/-- The gain's accumulator at a later point. -/
theorem outB7 (c : Dev nD) (i : grid1.Coords) (a1 : Memref sig .tc .vmem S512x1280 .f32) (h1 : a1.IsWhole) (a2 : Memref sig .tc .vmem S1280x1024 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole) (a9 : Memref sig .tc .vmem S1x1024 .f32) (h9 : a9.IsWhole) (hc : ¬cond1_0 i) (o7 : Vec Ideal S1x1024 .f32) (o8 : Vec Ideal S1x1024 .f32) :
    out1_B_7 c i a1 h1 a2 h2 a3 h3 a4 h4 a5 h5 a6 h6 a7 h7 a8 h8 a9 h9 hc I.d I.w I.h I.g I.e o7 o8 = v49 I o7 := by
  unfold out1_B_7
  rw [View.read_writes_eq_canon _ _ _ (cover1_B_7 c i a1 h1 a2 h2 a3 h3 a4 h4 a5 h5 a6 h6 a7 h7 a8 h8 a9 h9 hc I.d I.w I.h I.g I.e o7 o8)]
  unfold kernelRun1_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, View.ld_unit_zero (S := S512x1280) hz2, View.ld_unit_zero (S := S1280x1024) hz2, View.ld_unit_zero (S := S512x1024) hz2, View.ld_unit_zero (S := S1x1024) hz2, shapeCast_self]
  rfl

/-- The column sums' accumulator at a later point. -/
theorem outB8 (c : Dev nD) (i : grid1.Coords) (a1 : Memref sig .tc .vmem S512x1280 .f32) (h1 : a1.IsWhole) (a2 : Memref sig .tc .vmem S1280x1024 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole) (a9 : Memref sig .tc .vmem S1x1024 .f32) (h9 : a9.IsWhole) (hc : ¬cond1_0 i) (o7 : Vec Ideal S1x1024 .f32) (o8 : Vec Ideal S1x1024 .f32) :
    out1_B_8 c i a1 h1 a2 h2 a3 h3 a4 h4 a5 h5 a6 h6 a7 h7 a8 h8 a9 h9 hc I.d I.w I.h I.g I.e o7 o8 = v55 I o8 := by
  unfold out1_B_8
  rw [View.read_writes_eq_canon _ _ _ (cover1_B_8 c i a1 h1 a2 h2 a3 h3 a4 h4 a5 h5 a6 h6 a7 h7 a8 h8 a9 h9 hc I.d I.w I.h I.g I.e o7 o8)]
  unfold kernelRun1_B
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, View.ld_unit_zero (S := S512x1280) hz2, View.ld_unit_zero (S := S1280x1024) hz2, View.ld_unit_zero (S := S512x1024) hz2, View.ld_unit_zero (S := S1x1024) hz2, shapeCast_self]
  rfl

end Cert.Kernel6Ideal.Body

end
-- ==== Proof.QkvAcc.lean ====
/-
  What the second pipeline of the input projection read backward leaves in its four output arrays: the rows' cotangent, twice, and two sums
  over all rows that eight grid points add up.
-/
module

public import proofs.«01_k».proof.Proof.QkvOuts
public import Idealize.ShloMosaic.Lib.Pipeline.ValueKit

@[expose] public section

set_option maxRecDepth 16384

noncomputable section

namespace Cert.Kernel6Ideal.Body

open Cert.Kernel6Ideal Cert.Kernel6Ideal.Gen Idealize.ShloMosaic Idealize.ShloMosaic.TcCoe Idealize.SL.Sem Cert.Mlp
open Idealize.ShloMosaic.Pipeline (Dat)

variable (V : (c : Dev nD) → (b : Ref sig .tc) → Buf (Elt Ideal) ((c : Thread nD τ).loc b))

/-- The index maps of the staged windows. -/
theorem idx1 : ∀ t : Fin cfg1.N, win1_0.index t = ![t.val, 0] ∧ win1_1.index t = ![0, 0] ∧ win1_2.index t = ![t.val, 0]
    ∧ win1_3.index t = ![0, 0] ∧ win1_4.index t = ![t.val, 0] ∧ win1_5.index t = ![t.val, 0] ∧ win1_6.index t = ![t.val, 0] :=
  (by decide +kernel : ∀ t : Fin grid1.N, _)

/-- A grid point's number, below 8. -/
def pt1 (t : Fin cfg1.N) : Fin 8 := ⟨t.val, t.isLt⟩

/-- The arrays the pipeline leaves, as functions of the arrays it takes. -/
def fDy (D : Vec Ideal S4096x1280 .f32) (W : Vec Ideal S1280x1024 .bf16) (r : Fin 4096) (k : Fin 1024) : EReal :=
  ∑ j : Fin 1280, D (ix2 r j) * W (ix2 j k)
def fRow (X : Vec Ideal S4096x1024 .f32) (r : Fin 4096) (k : Fin 1024) : EReal := X (ix2 r k)
def fGain (g : Vec Ideal S1x1024 .f32) (k : Fin 1024) : EReal := g (ix2 0 k)

/-- The input blocks of grid point `t`. -/
def inp (c : Dev nD) (t : Fin cfg1.N) : In := ⟨iblk1 V c 0 t, iblk1 V c 1 t, iblk1 V c 2 t, iblk1 V c 3 t, iblk1 V c 4 t⟩

/-- The row's cotangent, from the arrays. -/
abbrev rowAt (c : Dev nD) (r : Fin 4096) (k : Fin 1024) : EReal :=
  dRow (fRow (V c main_arg1) r) (fGain (V c main_arg2)) (fDy (V c main_arg0) (V c main_arg3) r) (fRow (V c main_arg4) r) k
/-- One row's part of the gain's cotangent, from the arrays. -/
abbrev gainAt (c : Dev nD) (r : Fin 4096) (k : Fin 1024) : EReal :=
  Mlp.unit (fRow (V c main_arg1) r) k * fDy (V c main_arg0) (V c main_arg3) r k

theorem blk1_0 (c : Dev nD) (t : Fin cfg1.N) (r : Fin 512) (j : Fin 1280) :
    (iblk1 V c 0 t : Vec Ideal S512x1280 .f32) (ix2 r j) = (V c main_arg0 : Vec Ideal S4096x1280 .f32) (ix2 (at512 (pt1 t) r) j) := by
  blk_ext! [iblk1, idx1 t, at512, pt1]
theorem blk1_1 (c : Dev nD) (t : Fin cfg1.N) (j : Fin 1280) (k : Fin 1024) :
    (iblk1 V c 1 t : Vec Ideal S1280x1024 .bf16) (ix2 j k) = (V c main_arg3 : Vec Ideal S1280x1024 .bf16) (ix2 j k) := by
  blk_ext! [iblk1, idx1 t]
theorem blk1_2 (c : Dev nD) (t : Fin cfg1.N) (r : Fin 512) (k : Fin 1024) :
    (iblk1 V c 2 t : Vec Ideal S512x1024 .f32) (ix2 r k) = (V c main_arg1 : Vec Ideal S4096x1024 .f32) (ix2 (at512 (pt1 t) r) k) := by
  blk_ext! [iblk1, idx1 t, at512, pt1]
theorem blk1_3 (c : Dev nD) (t : Fin cfg1.N) (k : Fin 1024) :
    (iblk1 V c 3 t : Vec Ideal S1x1024 .f32) (ix2 0 k) = (V c main_arg2 : Vec Ideal S1x1024 .f32) (ix2 0 k) := by
  blk_ext! [iblk1, idx1 t]
theorem blk1_4 (c : Dev nD) (t : Fin cfg1.N) (r : Fin 512) (k : Fin 1024) :
    (iblk1 V c 4 t : Vec Ideal S512x1024 .f32) (ix2 r k) = (V c main_arg4 : Vec Ideal S4096x1024 .f32) (ix2 (at512 (pt1 t) r) k) := by
  blk_ext! [iblk1, idx1 t, at512, pt1]

theorem inp_dy (c : Dev nD) (t : Fin cfg1.N) (r : Fin 512) : dyI (inp V c t) r = fDy (V c main_arg0) (V c main_arg3) (at512 (pt1 t) r) :=
  funext fun k => Finset.sum_congr rfl fun j _ => congrArg₂ (· * ·) (blk1_0 V c t r j) (blk1_1 V c t j k)
theorem inp_h (c : Dev nD) (t : Fin cfg1.N) (r : Fin 512) : hI (inp V c t) r = fRow (V c main_arg1) (at512 (pt1 t) r) :=
  funext fun k => blk1_2 V c t r k
theorem inp_g (c : Dev nD) (t : Fin cfg1.N) : gI (inp V c t) = fGain (V c main_arg2) :=
  funext fun k => blk1_3 V c t k
theorem inp_e (c : Dev nD) (t : Fin cfg1.N) (r : Fin 512) : eI (inp V c t) r = fRow (V c main_arg4) (at512 (pt1 t) r) :=
  funext fun k => blk1_4 V c t r k

/-- A point's row, from the arrays. -/
theorem inp_row (c : Dev nD) (t : Fin cfg1.N) (r : Fin 512) (k : Fin 1024) :
    dRow (hI (inp V c t) r) (gI (inp V c t)) (dyI (inp V c t) r) (eI (inp V c t) r) k = rowAt V c (at512 (pt1 t) r) k := by
  rw [inp_dy, inp_h, inp_g, inp_e]
theorem inp_gain (c : Dev nD) (t : Fin cfg1.N) (r : Fin 512) (k : Fin 1024) :
    Mlp.unit (hI (inp V c t) r) k * dyI (inp V c t) r k = gainAt V c (at512 (pt1 t) r) k := by
  rw [inp_dy, inp_h]

/-! ### The rows' cotangent -/

theorem outs5 (c : Dev nD) (t : Fin cfg1.N) (y : S512x1024.Idx) :
    (outsAt1 V c t.val t.isLt).1 y = rowAt V c (at512 (pt1 t) (y 0)) (y 1) := by
  have e : (outsAt1 V c t.val t.isLt).1 = v40 (inp V c t) := by
    by_cases h : t.val % 8 = 0
    · rw [outsAt1_A V c t h]; dsimp only; exact outA5 (inp V c t) ..
    · rw [outsAt1_B V c t h]; dsimp only; exact outB5 (inp V c t) ..
  rw [e]
  exact (congrArg (v40 (inp V c t)) (eq_ix2 y)).trans ((v40_at (inp V c t) (y 0) (y 1)).trans (inp_row V c t (y 0) (y 1)))

theorem outs6 (c : Dev nD) (t : Fin cfg1.N) (y : S512x1024.Idx) :
    (outsAt1 V c t.val t.isLt).2.1 y = rowAt V c (at512 (pt1 t) (y 0)) (y 1) := by
  have e : (outsAt1 V c t.val t.isLt).2.1 = v42 (inp V c t) := by
    by_cases h : t.val % 8 = 0
    · rw [outsAt1_A V c t h]; dsimp only; exact outA6 (inp V c t) ..
    · rw [outsAt1_B V c t h]; dsimp only; exact outB6 (inp V c t) ..
  rw [e]
  exact (congrArg (v42 (inp V c t)) (eq_ix2 y)).trans ((v42_at (inp V c t) (y 0) (y 1)).trans (inp_row V c t (y 0) (y 1)))

/-- The rows' cotangent. -/
theorem final1_5 (c : Dev nD) : (dat1 V c).arrAt 5 cfg1.N = fun y : S4096x1024.Idx => rowAt V c (y 0) (y 1) := by
  refine (dat1 V c).arrAt_eq_of_covers 5 _ (by decide +kernel) fun t hf y => ?_
  blk_simp
  rw [after1_5]
  refine (outs5 V c t y).trans ?_
  refine congrArg₂ (rowAt V c) (Fin.ext ?_) (Fin.ext ?_)
  · blk_simp [idx1 t, at512, pt1]; try simp; try omega
  · blk_simp [idx1 t]

/-- The rows' cotangent in the narrow format. -/
theorem final1_6 (c : Dev nD) : (dat1 V c).arrAt 6 cfg1.N = fun y : S4096x1024.Idx => rowAt V c (y 0) (y 1) := by
  refine (dat1 V c).arrAt_eq_of_covers 6 _ (by decide +kernel) fun t hf y => ?_
  blk_simp
  rw [after1_6]
  refine (outs6 V c t y).trans ?_
  refine congrArg₂ (rowAt V c) (Fin.ext ?_) (Fin.ext ?_)
  · blk_simp [idx1 t, at512, pt1]; try simp; try omega
  · blk_simp [idx1 t]

/-! ### The two sums -/

theorem first7 (c : Dev nD) (t : Fin cfg1.N) (h : t.val % 8 = 0) (k : Fin 1024) :
    (outsAt1 V c t.val t.isLt).2.2.1 (ix2 0 k) = ∑ r, gainAt V c (at512 (pt1 t) r) k := by
  have e : (outsAt1 V c t.val t.isLt).2.2.1
      = v49 (inp V c t) (k1_pay3 (F := Ideal)) := by
    rw [outsAt1_A V c t h]; dsimp only; exact outA7 (inp V c t) ..
  rw [e, v49_at, zero7_at, zero_add]
  exact Finset.sum_congr rfl fun r _ => inp_gain V c t r k

theorem next7 (c : Dev nD) (t : Fin cfg1.N) (h : ¬t.val % 8 = 0) (k : Fin 1024) :
    (outsAt1 V c t.val t.isLt).2.2.1 (ix2 0 k)
      = (outsAt1 V c (t.val - 1) (Nat.lt_of_le_of_lt (Nat.sub_le _ _) t.isLt)).2.2.1 (ix2 0 k) + ∑ r, gainAt V c (at512 (pt1 t) r) k := by
  have e : (outsAt1 V c t.val t.isLt).2.2.1 = v49 (inp V c t)
      (outsAt1 V c (t.val - 1) (Nat.lt_of_le_of_lt (Nat.sub_le _ _) t.isLt)).2.2.1 := by
    rw [outsAt1_B V c t h]; dsimp only; exact outB7 (inp V c t) ..
  rw [e, v49_at]
  exact congrArg (_ + ·) (Finset.sum_congr rfl fun r _ => inp_gain V c t r k)

theorem first8 (c : Dev nD) (t : Fin cfg1.N) (h : t.val % 8 = 0) (k : Fin 1024) :
    (outsAt1 V c t.val t.isLt).2.2.2 (ix2 0 k) = ∑ r, rowAt V c (at512 (pt1 t) r) k := by
  have e : (outsAt1 V c t.val t.isLt).2.2.2 = v55 (inp V c t) (k1_pay4 (F := Ideal)) := by
    rw [outsAt1_A V c t h]; dsimp only; exact outA8 (inp V c t) ..
  rw [e, v55_at, zero8_at, zero_add]
  exact Finset.sum_congr rfl fun r _ => inp_row V c t r k

theorem next8 (c : Dev nD) (t : Fin cfg1.N) (h : ¬t.val % 8 = 0) (k : Fin 1024) :
    (outsAt1 V c t.val t.isLt).2.2.2 (ix2 0 k)
      = (outsAt1 V c (t.val - 1) (Nat.lt_of_le_of_lt (Nat.sub_le _ _) t.isLt)).2.2.2 (ix2 0 k) + ∑ r, rowAt V c (at512 (pt1 t) r) k := by
  have e : (outsAt1 V c t.val t.isLt).2.2.2
      = v55 (inp V c t) (outsAt1 V c (t.val - 1) (Nat.lt_of_le_of_lt (Nat.sub_le _ _) t.isLt)).2.2.2 := by
    rw [outsAt1_B V c t h]; dsimp only; exact outB8 (inp V c t) ..
  rw [e, v55_at]
  exact congrArg (_ + ·) (Finset.sum_congr rfl fun r _ => inp_row V c t r k)

theorem sum7 (c : Dev nD) (k : Fin 1024) : ∀ (n : ℕ) (h : n < cfg1.N), (outsAt1 V c n h).2.2.1 (ix2 0 k)
      = ∑ s : Fin (n + 1), ∑ r, gainAt V c (at512 (pt1 ⟨s, Nat.lt_of_le_of_lt (Nat.le_of_lt_succ s.isLt) h⟩) r) k
  | 0, h => by
    refine (first7 V c ⟨0, h⟩ rfl k).trans ?_
    rw [Fin.sum_univ_one]; rfl
  | n + 1, h => by
    have hN : cfg1.N = 8 := N_1
    refine (next7 V c ⟨n + 1, h⟩ (by dsimp only; omega) k).trans ?_
    refine .trans ?_ (Fin.sum_univ_castSucc _).symm
    exact congrArg (· + _) (sum7 c k n (Nat.lt_of_succ_lt h))

theorem sum8 (c : Dev nD) (k : Fin 1024) : ∀ (n : ℕ) (h : n < cfg1.N), (outsAt1 V c n h).2.2.2 (ix2 0 k)
      = ∑ s : Fin (n + 1), ∑ r, rowAt V c (at512 (pt1 ⟨s, Nat.lt_of_le_of_lt (Nat.le_of_lt_succ s.isLt) h⟩) r) k
  | 0, h => by
    refine (first8 V c ⟨0, h⟩ rfl k).trans ?_
    rw [Fin.sum_univ_one]; rfl
  | n + 1, h => by
    have hN : cfg1.N = 8 := N_1
    refine (next8 V c ⟨n + 1, h⟩ (by dsimp only; omega) k).trans ?_
    refine .trans ?_ (Fin.sum_univ_castSucc _).symm
    exact congrArg (· + _) (sum8 c k n (Nat.lt_of_succ_lt h))

/-- The last grid point. -/
def lastPt : Fin cfg1.N := ⟨7, by rw [show cfg1.N = 8 from N_1]; norm_num⟩

/-- The sum over the points' rows is the sum over all rows. -/
theorem sum_pts (f : Fin 4096 → EReal) (t : Fin cfg1.N) (h : t.val = 7) :
    ∑ s : Fin (t.val + 1), ∑ r, f (at512 (pt1 ⟨s, Nat.lt_of_le_of_lt (Nat.le_of_lt_succ s.isLt) t.isLt⟩) r) = ∑ r, f r := by
  rw [sum_at512]
  obtain ⟨n, hn⟩ := t
  simp only at h
  subst h
  rfl

/-- The gain's cotangent: the sum over all rows. -/
theorem final1_7 (c : Dev nD) : (dat1 V c).arrAt 7 cfg1.N = fun y : S1x1024.Idx => ∑ r, gainAt V c r (y 1) := by
  refine (dat1 V c).arrAt_eq_of_after_last 7 lastPt (by decide +kernel) _ fun j => ?_
  rw [after1_7]
  have hj : ∀ h : ∀ a, (j a).val < _, (fun a => ⟨j a, h a⟩ : S1x1024.Idx) = ix2 0 (j 1) := fun h => by
    funext a; fin_cases a
    · exact Fin.ext (by have := (j 0).isLt; simp at this ⊢)
    · rfl
  refine (congrArg (outsAt1 V c lastPt.val lastPt.isLt).2.2.1 (hj _)).trans ((sum7 V c (j 1) _ _).trans ?_)
  exact sum_pts (fun r => gainAt V c r (j 1)) lastPt rfl

/-- The column sums: the sum over all rows. -/
theorem final1_8 (c : Dev nD) : (dat1 V c).arrAt 8 cfg1.N = fun y : S1x1024.Idx => ∑ r, rowAt V c r (y 1) := by
  refine (dat1 V c).arrAt_eq_of_after_last 8 lastPt (by decide +kernel) _ fun j => ?_
  rw [after1_8]
  have hj : ∀ h : ∀ a, (j a).val < _, (fun a => ⟨j a, h a⟩ : S1x1024.Idx) = ix2 0 (j 1) := fun h => by
    funext a; fin_cases a
    · exact Fin.ext (by have := (j 0).isLt; simp at this ⊢)
    · rfl
  refine (congrArg (outsAt1 V c lastPt.val lastPt.isLt).2.2.2 (hj _)).trans ((sum8 V c (j 1) _ _).trans ?_)
  exact sum_pts (fun r => rowAt V c r (j 1)) lastPt rfl

end Cert.Kernel6Ideal.Body

end
-- ==== Proof.QkvChain.lean ====
/-
  What the run of the input projection read backward leaves in its result buffers, as functions of the arguments: each
  pipeline's arrays are read back through the steps before it.
-/
module

public import proofs.«01_k».proof.Proof.QkvRun
public import proofs.«01_k».proof.Proof.QkvFinal
public import proofs.«01_k».proof.Proof.QkvAcc
public import Idealize.ShloMosaic.Lib.StableHlo.ReadAt

@[expose] public section

set_option maxRecDepth 16384

noncomputable section

namespace Cert.Kernel6Ideal.Body

open Cert.Kernel6Ideal Cert.Kernel6Ideal.Gen Idealize.ShloMosaic Idealize.ShloMosaic.TcCoe Idealize.SL.Sem Cert.Mlp

variable (m : (ℓ : Loc nD τ sig) → Buf (Elt Ideal) ℓ) (ρ : Dev nD → PrngReg)

/-- A device's arguments. -/
def args (c : Dev nD) : Qkv.Arg :=
  Qkv.argOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The normalised rows, after the host operations. -/
theorem y_at (c : Dev nD) (r : Fin 4096) (k : Fin 1024) : (V1 m ρ c main_v12 : Vec Ideal S4096x1024 .bf16) (ix2 r k) = Qkv.y (args m c) r k := by
  show (W1 m ρ c (Proc.devRef .tc main_v12) : Vec Ideal S4096x1024 .bf16) (ix2 r k) = _
  unfold W1
  after_reads_at
  rfl

/-! ### The projection's weight and bias -/

theorem gw2 (c : Dev nD) : (V2 m ρ c main_v13_0 : Vec Ideal S1280x1024 .bf16) = fun i : S1280x1024.Idx => Qkv.gW (args m c) (i 0) (i 1) :=
  (W2_arr m ρ c 2).trans ((final0_2 (V1 m ρ) c).trans (funext fun i => Finset.sum_congr rfl fun t _ =>
    congrArg₂ (· * ·) (congrFun (W1_args m ρ c main_arg0 (by decide)) (ix2 t (i 0))) (y_at m ρ c t (i 1))))
theorem gb2 (c : Dev nD) : (V2 m ρ c main_v13_1 : Vec Ideal S1x1280 .f32) = fun i : S1x1280.Idx => Qkv.gB (args m c) (i 1) :=
  (W2_arr m ρ c 3).trans ((final0_3 (V1 m ρ) c).trans (funext fun i => Finset.sum_congr rfl fun t _ =>
    congrFun (W1_args m ρ c main_arg0 (by decide)) (ix2 t (i 1))))

/-! ### The rows' cotangent and its sums -/

theorem dy2 (c : Dev nD) (r : Fin 4096) : fDy (V2 m ρ c main_arg0) (V2 m ρ c main_arg3) r = Qkv.dY (args m c) r :=
  funext fun k => Finset.sum_congr rfl fun j _ => congrArg₂ (· * ·)
    (congrFun (W2_args m ρ c main_arg0 (by decide)) (ix2 r j)) (congrFun (W2_args m ρ c main_arg3 (by decide)) (ix2 j k))
theorem h2 (c : Dev nD) (r : Fin 4096) : fRow (V2 m ρ c main_arg1) r = (args m c).h r :=
  funext fun k => congrFun (W2_args m ρ c main_arg1 (by decide)) (ix2 r k)
theorem g2 (c : Dev nD) : fGain (V2 m ρ c main_arg2) = (args m c).g :=
  funext fun k => congrFun (W2_args m ρ c main_arg2 (by decide)) (ix2 0 k)
theorem e2 (c : Dev nD) (r : Fin 4096) : fRow (V2 m ρ c main_arg4) r = (args m c).e r :=
  funext fun k => congrFun (W2_args m ρ c main_arg4 (by decide)) (ix2 r k)
theorem row2 (c : Dev nD) (r : Fin 4096) (k : Fin 1024) : rowAt (V2 m ρ) c r k = Qkv.dH (args m c) r k := by
  unfold rowAt Qkv.dH; rw [dy2, h2, g2, e2]
theorem gain2 (c : Dev nD) (r : Fin 4096) (k : Fin 1024) :
    gainAt (V2 m ρ) c r k = Mlp.unit ((args m c).h r) k * Qkv.dY (args m c) r k := by
  unfold gainAt; rw [dy2, h2]
theorem narrow3 (c : Dev nD) : (V3 m ρ c main_v14_1 : Vec Ideal S4096x1024 .bf16) = fun i : S4096x1024.Idx => Qkv.dH (args m c) (i 0) (i 1) :=
  (W3_arr m ρ c 6).trans ((final1_6 (V2 m ρ) c).trans (funext fun i => row2 m ρ c (i 0) (i 1)))

/-- The MLP's second weight. -/
theorem whole3 (c : Dev nD) : whole (V3 m ρ c main_arg5) (V3 m ρ c main_arg6) = Qkv.cat (args m c).wa (args m c).wb :=
  congrArg₂ Qkv.cat (funext fun b => funext fun j => funext fun k => congrFun (W3_args m ρ c main_arg5 (by decide)) (ix3 b j k))
    (funext fun b => funext fun j => funext fun k => congrFun (W3_args m ρ c main_arg6 (by decide)) (ix3 b j k))
theorem up3 (c : Dev nD) (r j : Fin 4096) :
    fUp (V3 m ρ c main_v14_1) (V3 m ρ c main_arg5) (V3 m ρ c main_arg6) (V3 m ρ c main_arg7) r j = Qkv.dUp (args m c) r j := by
  unfold fUp Qkv.dUp
  rw [whole3]
  exact congrArg₂ (· * ·) (Finset.sum_congr rfl fun k _ => congrArg (· * _) (congrFun (narrow3 m ρ c) (ix2 r k)))
    (congrArg (fun z => Gmlp.cTwo * max z 0) (congrFun (W3_args m ρ c main_arg7 (by decide)) (ix2 r j)))

/-! ### The results at the end -/

theorem res0 (c : Dev nD) : (W4 m ρ c (Proc.devRef .tc main_v13_0) : Vec Ideal S1280x1024 .bf16)
    = fun i : S1280x1024.Idx => Qkv.gW (args m c) (i 0) (i 1) :=
  (W4_of m ρ c main_v13_0 (by decide)).trans ((W3_of m ρ c main_v13_0 (by decide)).trans (gw2 m ρ c))
theorem res1 (c : Dev nD) : (W4 m ρ c (Proc.devRef .tc main_v13_1) : Vec Ideal S1x1280 .f32)
    = fun i : S1x1280.Idx => Qkv.gB (args m c) (i 1) :=
  (W4_of m ρ c main_v13_1 (by decide)).trans ((W3_of m ρ c main_v13_1 (by decide)).trans (gb2 m ρ c))
theorem res2 (c : Dev nD) : (W4 m ρ c (Proc.devRef .tc main_v14_0) : Vec Ideal S4096x1024 .f32)
    = fun i : S4096x1024.Idx => Qkv.dH (args m c) (i 0) (i 1) :=
  (W4_of m ρ c main_v14_0 (by decide)).trans ((W3_arr m ρ c 5).trans ((final1_5 (V2 m ρ) c).trans (funext fun i => row2 m ρ c (i 0) (i 1))))
theorem res3 (c : Dev nD) : (W4 m ρ c (Proc.devRef .tc main_v14_2) : Vec Ideal S1x1024 .f32)
    = fun i : S1x1024.Idx => Qkv.dGain (args m c) (i 1) :=
  (W4_of m ρ c main_v14_2 (by decide)).trans ((W3_arr m ρ c 7).trans ((final1_7 (V2 m ρ) c).trans
    (funext fun i => Finset.sum_congr rfl fun r _ => gain2 m ρ c r (i 1))))
theorem res4 (c : Dev nD) : (W4 m ρ c (Proc.devRef .tc main_v14_3) : Vec Ideal S1x1024 .f32)
    = fun i : S1x1024.Idx => Qkv.colSum (args m c) (i 1) :=
  (W4_of m ρ c main_v14_3 (by decide)).trans ((W3_arr m ρ c 8).trans ((final1_8 (V2 m ρ) c).trans
    (funext fun i => Finset.sum_congr rfl fun r _ => row2 m ρ c r (i 1))))
theorem res5 (c : Dev nD) : (W4 m ρ c (Proc.devRef .tc main_v15) : Vec Ideal S4096x4096 .bf16)
    = fun i : S4096x4096.Idx => Qkv.dUp (args m c) (i 0) (i 1) :=
  (W4_arr m ρ c 4).trans ((final2 (V3 m ρ) c).trans (funext fun i => up3 m ρ c (i 0) (i 1)))

end Cert.Kernel6Ideal.Body

end
-- ==== Proof.QkvRef.lean ====
/-
  What the reference's differentiation of an attention layer's input projection and of the MLP before it computes, read at an
  index, and its six results as whole arrays.
-/
module

public import proofs.«01_k».proof.Proof.QkvSpec
public import proofs.«01_k».proof.Proof.Gen.Reference6Ideal.Read
public import Idealize.ShloMosaic.Lib.Pipeline.Value

@[expose] public section

set_option maxRecDepth 16384

noncomputable section

namespace Cert.Reference6Ideal.At

open Cert.Reference6Ideal Cert.Reference6Ideal.Gen Cert.Reference6Ideal.Read Idealize.ShloMosaic Cert.Mlp Cert.Gmlp Cert.Lay Cert.Qkv

variable (x0 : Vec Ideal S4096x1280 .f32) (x1 : Vec Ideal S4096x1024 .f32) (x2 : Vec Ideal S1x1024 .f32) (x3 : Vec Ideal S1280x1024 .bf16)
  (x4 : Vec Ideal S4096x1024 .f32) (x5 x6 : Vec Ideal S8x256x1024 .bf16) (x7 : Vec Ideal S4096x4096 .bf16)

/-- A row of the residual stream, and the gain. -/
abbrev row (r : Fin 4096) : Fin 1024 → EReal := fun k => x1 (ix2 r k)
abbrev gain : Fin 1024 → EReal := fun k => x2 (ix2 0 k)

/-! ### The normalised rows -/

theorem v9_at (r : Fin 4096) : val_main_v9 x1 (ix2 r 0) = msq (row x1 r) := by
  unfold val_main_v9 val_main_v7 val_main_v5 val_main_v4 val_main_v3 val_main_cst_0 val_main_v6 val_main_cst_1 val_main_v8 val_main_cst_2
  pointwise
  rfl
theorem v10_at (r : Fin 4096) : val_main_v10 x1 (ix2 r 0) = rs (row x1 r) := by
  unfold val_main_v10; pointwise
  rw [v9_at]; rfl
theorem v13_at (r : Fin 4096) : val_main_v13 x1 (ix2 r 0) = cNegHalf * Ideal.div (rs (row x1 r)) (msq (row x1 r)) := by
  unfold val_main_v13 val_main_v12 val_main_cst_3 val_main_v11; pointwise
  rw [v10_at, v9_at]
theorem v15_at (r : Fin 4096) (k : Fin 1024) : val_main_v15 x1 (ix2 r k) = Mlp.unit (row x1 r) k := by
  unfold val_main_v15 val_main_v14; pointwise
  rw [v10_at]; rfl
theorem v18_at (r : Fin 4096) (k : Fin 1024) : val_main_v18 x1 x2 (ix2 r k) = norm (row x1 r) (gain x2) k := by
  unfold val_main_v18 val_main_v17 val_main_v16 val_main_v0; pointwise
  rw [v15_at]; rfl

/-! ### The projection's weight and bias -/

theorem v69_at (j : Fin 1280) (k : Fin 1024) : val_main_v69 x0 x1 x2 (ix2 j k) = gW (argOf x0 x1 x2 x3 x4 x5 x6 x7) j k := by
  unfold val_main_v69 val_main_v31 val_main_v29 val_main_v28 val_main_v24; pointwise
  simp only [v18_at]; rfl
theorem v70_at (j : Fin 1280) : val_main_v70 x0 (ix2 0 j) = gB (argOf x0 x1 x2 x3 x4 x5 x6 x7) j := by
  unfold val_main_v70 val_main_v27 val_main_cst_5 val_main_v26 val_main_v25 val_main_cst_4; pointwise
  rw [Fin.sum_univ_one]; rfl

/-! ### The rows' cotangent -/

theorem v30_at (r : Fin 4096) (k : Fin 1024) : val_main_v30 x0 x3 (ix2 r k) = dY (argOf x0 x1 x2 x3 x4 x5 x6 x7) r k := by
  unfold val_main_v30 val_main_v24 val_main_v19 val_main_v1; pointwise
  rfl
theorem v36_at (r : Fin 4096) (k : Fin 1024) : val_main_v36 x0 x2 x3 (ix2 r k) = dY (argOf x0 x1 x2 x3 x4 x5 x6 x7) r k * gain x2 k := by
  unfold val_main_v36 val_main_v35 val_main_v16 val_main_v0; pointwise
  rw [v30_at x0 x1 x2 x3 x4 x5 x6 x7]
theorem v47_at (r : Fin 4096) : val_main_v47 x0 x1 x2 x3 (ix1 r) = csq (row x1 r) (gain x2) (dY (argOf x0 x1 x2 x3 x4 x5 x6 x7) r) := by
  unfold val_main_v47 val_main_v46 val_main_v45 val_main_v44 val_main_v40 val_main_v39 val_main_v38 val_main_cst_8 val_main_cst_9 val_main_cst_10
  pointwise
  rw [Fin.sum_univ_one]; simp only [v36_at x0 x1 x2 x3 x4 x5 x6 x7]; rw [v13_at]; rfl
theorem v52_at (r : Fin 4096) (k : Fin 1024) : val_main_v52 x0 x1 x2 x3 x4 (ix2 r k) = dH (argOf x0 x1 x2 x3 x4 x5 x6 x7) r k := by
  unfold val_main_v52 val_main_v51 val_main_v50 val_main_v49 val_main_v48 val_main_v43 val_main_v42 val_main_v41
  pointwise
  rw [v36_at x0 x1 x2 x3 x4 x5 x6 x7, v10_at, v47_at x0 x1 x2 x3 x4 x5 x6 x7]
  exact dRow_eq (row x1 r) (gain x2) (dY (argOf x0 x1 x2 x3 x4 x5 x6 x7) r) ((argOf x0 x1 x2 x3 x4 x5 x6 x7).e r) k
theorem v71_at (k : Fin 1024) : val_main_v71 x0 x1 x3 (ix2 0 k) = dGain (argOf x0 x1 x2 x3 x4 x5 x6 x7) k := by
  unfold val_main_v71 val_main_v37 val_main_v34 val_main_v33 val_main_v32 val_main_cst_6 val_main_cst_7; pointwise
  rw [Fin.sum_univ_one]; simp only [v15_at, v30_at x0 x1 x2 x3 x4 x5 x6 x7]; rfl
theorem v73_at (k : Fin 1024) : val_main_v73 x0 x1 x2 x3 x4 (ix2 0 k) = colSum (argOf x0 x1 x2 x3 x4 x5 x6 x7) k := by
  unfold val_main_v73 val_main_v72 val_main_cst_15; pointwise
  simp only [v52_at x0 x1 x2 x3 x4 x5 x6 x7]; rfl

/-! ### The hidden cotangent -/

theorem v53_lo (b : Fin 8) (j : Fin 256) (k : Fin 1024) : val_main_v53 x5 x6 (ix3 b (lo j) k) = x5 (ix3 b j k) :=
  concatenate_pair_apply_left 1 x5 x6 concatenates_S8x256x1024_S8x256x1024_S8x512x1024_d1 _ rfl _ (fun a => by
    fin_cases a <;> rfl)
theorem v53_hi (b : Fin 8) (j : Fin 256) (k : Fin 1024) : val_main_v53 x5 x6 (ix3 b (hi j) k) = x6 (ix3 b j k) :=
  concatenate_pair_apply_right 1 x5 x6 concatenates_S8x256x1024_S8x256x1024_S8x512x1024_d1 _ rfl rfl _
    (fun a ha => by fin_cases a <;> first | rfl | exact absurd rfl ha) (by show j.val + 256 = 256 + j.val; omega)
theorem v53_at (b : Fin 8) (j : Fin 512) (k : Fin 1024) : val_main_v53 x5 x6 (ix3 b j k)
    = cat (fun b j k => x5 (ix3 b j k)) (fun b j k => x6 (ix3 b j k)) b j k := by
  obtain ⟨i, rfl⟩ | ⟨i, rfl⟩ := half_cases j
  · exact (v53_lo x5 x6 b i k).trans (cat_lo (fun b j k => x5 (ix3 b j k)) (fun b j k => x6 (ix3 b j k)) b i k).symm
  · exact (v53_hi x5 x6 b i k).trans (cat_hi (fun b j k => x5 (ix3 b j k)) (fun b j k => x6 (ix3 b j k)) b i k).symm
theorem v55_at (c : Fin 4096) (k : Fin 1024) : val_main_v55 x5 x6 (ix2 c k) = cat (argOf x0 x1 x2 x3 x4 x5 x6 x7).wa (argOf x0 x1 x2 x3 x4 x5 x6 x7).wb (blk c) (lane c) k := by
  unfold val_main_v55 val_main_v54; pointwise
  exact v53_at x5 x6 (blk c) (lane c) k
theorem v74_at (r c : Fin 4096) : val_main_v74 x0 x1 x2 x3 x4 x5 x6 x7 (ix2 r c) = dUp (argOf x0 x1 x2 x3 x4 x5 x6 x7) r c := by
  unfold val_main_v74 val_main_v68 val_main_v67 val_main_cst_14 val_main_v66 val_main_v65 val_main_v63 val_main_v62 val_main_cst_13
    val_main_v59 val_main_v58 val_main_cst_11 val_main_v57 val_main_v56 val_main_call0_v0 val_main_call0_cst
  pointwise
  simp only [v52_at x0 x1 x2 x3 x4 x5 x6 x7, v55_at x0 x1 x2 x3 x4 x5 x6 x7]
  exact gate _ _

/-! ### The results as whole arrays -/

/-- The index of an axis of extent one. -/
theorem one0 (a : Fin 1) : a = 0 := Subsingleton.elim a 0

theorem v69_eq : val_main_v69 x0 x1 x2 = fun i : S1280x1024.Idx => gW (argOf x0 x1 x2 x3 x4 x5 x6 x7) (i 0) (i 1) :=
  funext fun i => (congrArg (val_main_v69 x0 x1 x2) (eq_ix2 i)).trans (v69_at x0 x1 x2 x3 x4 x5 x6 x7 (i 0) (i 1))
theorem v70_eq : val_main_v70 x0 = fun i : S1x1280.Idx => gB (argOf x0 x1 x2 x3 x4 x5 x6 x7) (i 1) :=
  funext fun i => (congrArg (val_main_v70 x0) ((eq_ix2 i).trans (congrArg (fun a : Fin 1 => ix2 a (i 1)) (one0 (i 0))))).trans
    (v70_at x0 x1 x2 x3 x4 x5 x6 x7 (i 1))
theorem v52_eq : val_main_v52 x0 x1 x2 x3 x4 = fun i : S4096x1024.Idx => dH (argOf x0 x1 x2 x3 x4 x5 x6 x7) (i 0) (i 1) :=
  funext fun i => (congrArg (val_main_v52 x0 x1 x2 x3 x4) (eq_ix2 i)).trans (v52_at x0 x1 x2 x3 x4 x5 x6 x7 (i 0) (i 1))
theorem v71_eq : val_main_v71 x0 x1 x3 = fun i : S1x1024.Idx => dGain (argOf x0 x1 x2 x3 x4 x5 x6 x7) (i 1) :=
  funext fun i => (congrArg (val_main_v71 x0 x1 x3) ((eq_ix2 i).trans (congrArg (fun a : Fin 1 => ix2 a (i 1)) (one0 (i 0))))).trans
    (v71_at x0 x1 x2 x3 x4 x5 x6 x7 (i 1))
theorem v73_eq : val_main_v73 x0 x1 x2 x3 x4 = fun i : S1x1024.Idx => colSum (argOf x0 x1 x2 x3 x4 x5 x6 x7) (i 1) :=
  funext fun i => (congrArg (val_main_v73 x0 x1 x2 x3 x4) ((eq_ix2 i).trans (congrArg (fun a : Fin 1 => ix2 a (i 1)) (one0 (i 0))))).trans
    (v73_at x0 x1 x2 x3 x4 x5 x6 x7 (i 1))
theorem v74_eq : val_main_v74 x0 x1 x2 x3 x4 x5 x6 x7 = fun i : S4096x4096.Idx => dUp (argOf x0 x1 x2 x3 x4 x5 x6 x7) (i 0) (i 1) :=
  funext fun i => (congrArg (val_main_v74 x0 x1 x2 x3 x4 x5 x6 x7) (eq_ix2 i)).trans (v74_at x0 x1 x2 x3 x4 x5 x6 x7 (i 0) (i 1))

end Cert.Reference6Ideal.At

end
-- ==== Proof.MlpRef.lean ====
/-
  What the reference's differentiation of the layer's MLP computes, read at an index, and its six results as whole arrays.
-/
module

public import proofs.«01_k».proof.Proof.MlpArg
public import proofs.«01_k».proof.Proof.Gen.Reference2Ideal.Read

@[expose] public section

set_option maxRecDepth 16384

noncomputable section

namespace Cert.Reference2Ideal.At

open Cert.Reference2Ideal Cert.Reference2Ideal.Gen Cert.Reference2Ideal.Read Idealize.ShloMosaic Cert.Mlp Cert.Gmlp

variable (x0 : Vec Ideal S4096x1024 .f32) (x1 : Vec Ideal S1x1024 .f32) (x2 : Vec Ideal S8x1024x512 .bf16) (x3 : Vec Ideal S8x512x1024 .bf16)
  (x4 : Vec Ideal S4096x1024 .f32)

/-! ### The weights as matrices -/

theorem v2_at (k : Fin 1024) (b : Fin 8) (j : Fin 512) : val_main_v2 x2 (ix2 k (at512 b j)) = x2 (ix3 b k j) := by
  unfold val_main_v2 val_main_v1 val_main_v0; pointwise
  exact congrArg₂ (fun a c => x2 (ix3 a k c)) (blk_at512 b j) (lane_at512 b j)
theorem v5_at (b : Fin 8) (j : Fin 512) (k : Fin 1024) : val_main_v5 x3 (ix2 (at512 b j) k) = x3 (ix3 b j k) := by
  unfold val_main_v5 val_main_v4; pointwise
  exact congrArg₂ (fun a c => x3 (ix3 a c k)) (blk_at512 b j) (lane_at512 b j)
theorem v32_at (r : Fin 4096) (k : Fin 1024) : val_main_v32 x4 (ix2 r k) = x4 (ix2 r k) := by
  unfold val_main_v32; pointwise

/-! ### The normalised rows -/

theorem v12_at (r : Fin 4096) : val_main_v12 x0 (ix2 r 0) = msq ((argOf x0 x1 x2 x3 x4).h r) := by
  unfold val_main_v12 val_main_v10 val_main_v8 val_main_v7 val_main_v6 val_main_cst val_main_v9 val_main_cst_0 val_main_v11 val_main_cst_1
  pointwise
  rfl
theorem v13_at (r : Fin 4096) : val_main_v13 x0 (ix2 r 0) = rs ((argOf x0 x1 x2 x3 x4).h r) := by
  unfold val_main_v13; pointwise
  rw [v12_at x0 x1 x2 x3 x4]; rfl
theorem v16_at (r : Fin 4096) : val_main_v16 x0 (ix2 r 0)
    = cNegHalf * Ideal.div (rs ((argOf x0 x1 x2 x3 x4).h r)) (msq ((argOf x0 x1 x2 x3 x4).h r)) := by
  unfold val_main_v16 val_main_v15 val_main_cst_2 val_main_v14; pointwise
  rw [v13_at x0 x1 x2 x3 x4, v12_at x0 x1 x2 x3 x4]
theorem v18_at (r : Fin 4096) (k : Fin 1024) : val_main_v18 x0 (ix2 r k) = Mlp.unit ((argOf x0 x1 x2 x3 x4).h r) k := by
  unfold val_main_v18 val_main_v17; pointwise
  rw [v13_at x0 x1 x2 x3 x4]; rfl
theorem v21_at (r : Fin 4096) (k : Fin 1024) : val_main_v21 x0 x1 (ix2 r k) = norm ((argOf x0 x1 x2 x3 x4).h r) (argOf x0 x1 x2 x3 x4).g k := by
  unfold val_main_v21 val_main_v20 val_main_v19 val_main_v3; pointwise
  rw [v18_at x0 x1 x2 x3 x4]; rfl

/-! ### The hidden rows and their cotangent -/

theorem v22_at (r : Fin 4096) (b : Fin 8) (j : Fin 512) : val_main_v22 x0 x1 x2 (ix2 r (at512 b j)) = up (argOf x0 x1 x2 x3 x4) r b j := by
  unfold val_main_v22; pointwise
  simp only [v21_at x0 x1 x2 x3 x4, v2_at]; rfl
theorem v23_at (r : Fin 4096) (b : Fin 8) (j : Fin 512) : val_main_v23 x0 x1 x2 (ix2 r (at512 b j)) = act (argOf x0 x1 x2 x3 x4) r b j := by
  unfold val_main_v23 val_main_call0_v0 val_main_call0_cst; pointwise
  rw [v22_at x0 x1 x2 x3 x4]; rfl
theorem v38_at (r : Fin 4096) (b : Fin 8) (j : Fin 512) : val_main_v38 x0 x1 x2 x3 x4 (ix2 r (at512 b j)) = dup (argOf x0 x1 x2 x3 x4) r b j := by
  unfold val_main_v38 val_main_v25 val_main_v24 val_main_cst_3 val_main_v36 val_main_v35 val_main_v29 val_main_v28 val_main_cst_5 val_main_v37 val_main_cst_6
  pointwise
  rw [v22_at x0 x1 x2 x3 x4, v23_at x0 x1 x2 x3 x4]; simp only [v32_at, v5_at]; exact gate _ _
theorem v34_at (b : Fin 8) (j : Fin 512) (k : Fin 1024) : val_main_v34 x0 x1 x2 x4 (ix2 (at512 b j) k) = gDown (argOf x0 x1 x2 x3 x4) b j k := by
  unfold val_main_v34 val_main_v33 val_main_v27; pointwise
  simp only [v23_at x0 x1 x2 x3 x4, v32_at]; exact Finset.sum_congr rfl fun t _ => mul_comm _ _
theorem v40_at (b : Fin 8) (j : Fin 512) (k : Fin 1024) : val_main_v40 x0 x1 x2 x3 x4 (ix2 k (at512 b j)) = gUp (argOf x0 x1 x2 x3 x4) b k j := by
  unfold val_main_v40 val_main_v39; pointwise
  simp only [v38_at, v21_at x0 x1 x2 x3 x4]; exact Finset.sum_congr rfl fun t _ => mul_comm _ _
theorem v41_at (r : Fin 4096) (k : Fin 1024) : val_main_v41 x0 x1 x2 x3 x4 (ix2 r k) = dNorm (argOf x0 x1 x2 x3 x4) r k := by
  unfold val_main_v41; pointwise
  rw [sum_at512]; simp only [v38_at, v2_at]; rfl

/-! ### The rows' cotangent -/

theorem v46_at (r : Fin 4096) (k : Fin 1024) : val_main_v46 x0 x1 x2 x3 x4 (ix2 r k) = dNorm (argOf x0 x1 x2 x3 x4) r k * (argOf x0 x1 x2 x3 x4).g k := by
  unfold val_main_v46 val_main_v45 val_main_v19 val_main_v3; pointwise
  rw [v41_at]; rfl
theorem v57_at (r : Fin 4096) : val_main_v57 x0 x1 x2 x3 x4 (ix1 r) = csq ((argOf x0 x1 x2 x3 x4).h r) (argOf x0 x1 x2 x3 x4).g (dNorm (argOf x0 x1 x2 x3 x4) r) := by
  unfold val_main_v57 val_main_v56 val_main_v55 val_main_v54 val_main_v50 val_main_v49 val_main_v48 val_main_cst_9 val_main_cst_10 val_main_cst_11
  pointwise
  rw [Fin.sum_univ_one]; simp only [v46_at]; rw [v16_at x0 x1 x2 x3 x4]; rfl
theorem v62_at (r : Fin 4096) (k : Fin 1024) : val_main_v62 x0 x1 x2 x3 x4 (ix2 r k) = dH (argOf x0 x1 x2 x3 x4) r k := by
  unfold val_main_v62 val_main_v61 val_main_v60 val_main_v59 val_main_v58 val_main_v53 val_main_v52 val_main_v51
  pointwise
  rw [v46_at, v13_at x0 x1 x2 x3 x4, v57_at]; exact dRow_eq ((argOf x0 x1 x2 x3 x4).h r) (argOf x0 x1 x2 x3 x4).g (dNorm (argOf x0 x1 x2 x3 x4) r) ((argOf x0 x1 x2 x3 x4).dh r) k

/-! ### The results -/

theorem v66_at (k : Fin 1024) : val_main_v66 x0 x1 x2 x3 x4 (ix2 0 k) = dGain (argOf x0 x1 x2 x3 x4) k := by
  unfold val_main_v66 val_main_v47 val_main_v44 val_main_v43 val_main_v42 val_main_cst_7 val_main_cst_8; pointwise
  rw [Fin.sum_univ_one]; simp only [v18_at x0 x1 x2 x3 x4, v41_at]; rfl
theorem v65_at (b : Fin 8) (k : Fin 1024) (j : Fin 512) : val_main_v65 x0 x1 x2 x3 x4 (ix3 b k j) = gUp (argOf x0 x1 x2 x3 x4) b k j := by
  unfold val_main_v65 val_main_v64 val_main_v63; pointwise
  refine (congrArg (fun c => val_main_v40 x0 x1 x2 x3 x4 (ix2 k c)) (Fin.ext ?_)).trans (v40_at x0 x1 x2 x3 x4 b j k); simp only [at512]; omega
theorem v69_at (k : Fin 1024) : val_main_v69 x0 x1 x2 x3 x4 (ix2 0 k) = colSum (argOf x0 x1 x2 x3 x4) k := by
  unfold val_main_v69 val_main_v68 val_main_cst_12; pointwise
  simp only [v62_at]; rfl

/-! ### The results as whole arrays -/

/-- The index of an axis of extent one. -/
theorem one0 (a : Fin 1) : a = 0 := Subsingleton.elim a 0

theorem v62_eq : val_main_v62 x0 x1 x2 x3 x4 = fun y : S4096x1024.Idx => dH (argOf x0 x1 x2 x3 x4) (y 0) (y 1) :=
  funext fun y => (congrArg (val_main_v62 x0 x1 x2 x3 x4) (eq_ix2 y)).trans (v62_at x0 x1 x2 x3 x4 (y 0) (y 1))
theorem v66_eq : val_main_v66 x0 x1 x2 x3 x4 = fun y : S1x1024.Idx => dGain (argOf x0 x1 x2 x3 x4) (y 1) :=
  funext fun y => (congrArg (val_main_v66 x0 x1 x2 x3 x4) ((eq_ix2 y).trans (congrArg (fun a : Fin 1 => ix2 a (y 1)) (one0 (y 0))))).trans
    (v66_at x0 x1 x2 x3 x4 (y 1))
theorem v65_eq : val_main_v65 x0 x1 x2 x3 x4 = fun y : S8x1024x512.Idx => gUp (argOf x0 x1 x2 x3 x4) (y 0) (y 1) (y 2) :=
  funext fun y => (congrArg (val_main_v65 x0 x1 x2 x3 x4) (eq_ix3 y)).trans (v65_at x0 x1 x2 x3 x4 (y 0) (y 1) (y 2))
theorem v67_at (j : Fin 4096) (k : Fin 1024) : val_main_v67 x0 x1 x2 x4 (ix2 j k) = gDown (argOf x0 x1 x2 x3 x4) (blk j) (lane j) k := by
  have e := v34_at x0 x1 x2 x3 x4 (blk j) (lane j) k
  rw [at512_blk_lane] at e
  unfold val_main_v67; pointwise; exact e
theorem v67_eq : val_main_v67 x0 x1 x2 x4 = fun y : S4096x1024.Idx => gDown (argOf x0 x1 x2 x3 x4) (blk (y 0)) (lane (y 0)) (y 1) :=
  funext fun y => (congrArg (val_main_v67 x0 x1 x2 x4) (eq_ix2 y)).trans (v67_at x0 x1 x2 x3 x4 (y 0) (y 1))
theorem v69_eq : val_main_v69 x0 x1 x2 x3 x4 = fun y : S1x1024.Idx => colSum (argOf x0 x1 x2 x3 x4) (y 1) :=
  funext fun y => (congrArg (val_main_v69 x0 x1 x2 x3 x4) ((eq_ix2 y).trans (congrArg (fun a : Fin 1 => ix2 a (y 1)) (one0 (y 0))))).trans
    (v69_at x0 x1 x2 x3 x4 (y 1))
theorem v70_eq : val_main_v70 x0 x1 x2 x3 x4 = fun y : S4096x1024.Idx => dH (argOf x0 x1 x2 x3 x4) (y 0) (y 1) :=
  funext fun y => (congrFun (f := val_main_v70 x0 x1 x2 x3 x4) (g := val_main_v62 x0 x1 x2 x3 x4) (by unfold val_main_v70; rfl) y).trans
    (congrFun (v62_eq x0 x1 x2 x3 x4) y)

end Cert.Reference2Ideal.At

end
-- ==== Proof.GateBody.lean ====
/-
  The gating's forward kernel at one chunk, over the extended reals: what it stores, read at an index, is gelu of the first
  half times the mixed rows.
-/
module

public import proofs.«01_k».proof.Proof.Rows
public import proofs.«01_k».proof.Proof.Gen.Kernel7Ideal.Frame
public import Idealize.ShloMosaic.Lib.Pipeline.ValueKit

@[expose] public section

set_option maxRecDepth 16384

noncomputable section

namespace Cert.Kernel7Ideal.Body

open Cert.Kernel7Ideal Cert.Kernel7Ideal.Gen Idealize.ShloMosaic Cert.Gmlp

/-- The input blocks of one grid point. -/
structure In where
  u : Vec Ideal S128x1024 .f32
  v : Vec Ideal S128x1024 .f32
  g : Vec Ideal S1x1024 .f32
  b : Vec Ideal S1x1024 .f32
  w : Vec Ideal S8x128x128 .f32
  bs : Vec Ideal S8x128x1 .f32

/-- The blocks over plain coordinates; there is no cotangent. -/
def In.arg (I : In) : Arg where
  u r c := I.u (ix2 r c)
  v r c := I.v (ix2 r c)
  d _ _ := 0
  g c := I.g (ix2 0 c)
  b c := I.b (ix2 0 c)
  w g i j := I.w (ix3 g i j)
  bs g i := I.bs (ix3 g i 0)

variable (I : In)

/-- The values of the body at one point that several of its stretches read. -/
def v5 : FVec Ideal S8x128x128 .f32 := k0_pay2 I.w
def v7 : FVec Ideal S8x128x1 .f32 := k0_pay3 I.bs
def v20 : FVec Ideal S128x1024 .f32 := k0_pay4 I.u
def v33 : FVec Ideal S128x1024 .f32 := k0_pay5 I.v
def v35 : FVec Ideal S128x1 .f32 := k0_pay6 I.v
def v55 : FVec Ideal S128x1024 .f32 := k0_pay7 I.g I.b (v33 I) (v35 I)

theorem v5_at (g : Fin 8) (i j : Fin 128) : v5 I (ix3 g i j) = I.arg.w g i j := by
  unfold v5; unfold_payloads; pointwise; rfl

theorem v7_at (g : Fin 8) (i : Fin 128) : v7 I (ix3 g i 0) = I.arg.bs g i := by
  unfold v7; unfold_payloads; pointwise; rfl

/-- gelu of both halves. -/
theorem v20_at (r : Fin 128) (c : Fin 1024) : v20 I (ix2 r c) = gel (I.arg.u r c) := by
  unfold v20; unfold_payloads; pointwise; rfl

theorem v33_at (r : Fin 128) (c : Fin 1024) : v33 I (ix2 r c) = gv I.arg r c := by
  unfold v33; unfold_payloads; pointwise; rfl

/-- The sum of a row. -/
theorem v35_at (r : Fin 128) : v35 I (ix2 r 0) = ∑ c, gv I.arg r c := by
  unfold v35 k0_pay6; pointwise
  simp only [show ∀ x y, k0_pay5 I.v (ix2 x y) = v33 I (ix2 x y) from fun _ _ => rfl, v33_at]

/-- The layer norm. -/
theorem v55_at (r : Fin 128) (c : Fin 1024) : v55 I (ix2 r c) = nr I.arg r c := by
  unfold v55 k0_pay7; pointwise
  simp only [v33_at, v35_at]; rfl

/-- The diagonal's mask: set at and under the diagonal. -/
theorem mask_sel (i j : Fin 128) (x y : EReal) : Scalar.select (k0_pay8 (ix2 i j)) x y = if j ≤ i then x else y := by
  have h : k0_pay8 (ix2 i j) = if j ≤ i then 1#1 else 0#1 := by
    unfold k0_pay8; pointwise
    revert i j; decide +kernel
  rw [h]; split_ifs <;> rfl

/-- One entry of what is stored, in the kernel's order of factors. -/
def gate (A : Arg) (r : Fin 128) (c : Fin 1024) : EReal := gel (A.u r c) * mix A r c

/-- A group's columns of the result, from the masked weights, the layer norm, the bias and gelu. -/
theorem gate_col (A : Arg) (g : Fin 8) (i j : Fin 128) :
    gel (A.u i (col g j)) * ((∑ k, if k ≤ i then A.w g i k * nr A k (col g j) else 0) + A.bs g i) = gate A i (col g j) := by
  unfold gate mix; rw [grp_col]; simp only [wm, ite_mul, zero_mul]

theorem zero_col (j : Fin 128) (h : j.val < 1024) : (⟨j.val, h⟩ : Fin 1024) = col 0 j :=
  Fin.ext (by simp [col])

theorem g0_at (i j : Fin 128) : k0_pay9 I.g I.b (v5 I) (v7 I) (v20 I) (v33 I) (v35 I) (ix2 i j) = gate I.arg i (col 0 j) := by
  unfold k0_pay9; pointwise
  simp only [zero_col, show ∀ x y, k0_pay7 I.g I.b (v33 I) (v35 I) (ix2 x y) = v55 I (ix2 x y) from fun _ _ => rfl, mask_sel, v5_at, v7_at,
    v20_at, v55_at]
  exact gate_col I.arg 0 i j

theorem g1_at (i j : Fin 128) : k0_pay10 I.g I.b (v5 I) (v7 I) (v20 I) (v33 I) (v35 I) (ix2 i j) = gate I.arg i (col 1 j) := by
  unfold k0_pay10; pointwise
  simp only [show ∀ x y, k0_pay7 I.g I.b (v33 I) (v35 I) (ix2 x y) = v55 I (ix2 x y) from fun _ _ => rfl, mask_sel, v5_at, v7_at, v20_at,
    v55_at]
  exact gate_col I.arg 1 i j

theorem g2_at (i j : Fin 128) : k0_pay12 (v7 I) (v20 I) (v55 I) k0_pay8 (k0_pay11 (v5 I)) (ix2 i j) = gate I.arg i (col 2 j) := by
  unfold k0_pay12 k0_pay11; pointwise
  simp only [mask_sel, v5_at, v7_at, v20_at, v55_at]
  exact gate_col I.arg 2 i j

theorem g3_at (i j : Fin 128) : k0_pay13 (v5 I) (v7 I) (v20 I) (v55 I) k0_pay8 (ix2 i j) = gate I.arg i (col 3 j) := by
  unfold k0_pay13; pointwise
  simp only [mask_sel, v5_at, v7_at, v20_at, v55_at]
  exact gate_col I.arg 3 i j

theorem g4_at (i j : Fin 128) : k0_pay14 (v5 I) (v7 I) (v20 I) (v55 I) k0_pay8 (ix2 i j) = gate I.arg i (col 4 j) := by
  unfold k0_pay14; pointwise
  simp only [mask_sel, v5_at, v7_at, v20_at, v55_at]
  exact gate_col I.arg 4 i j

theorem g5_at (i j : Fin 128) : k0_pay15 (v5 I) (v55 I) k0_pay8 (ix2 i j)
    = ∑ k, if k ≤ i then I.arg.w 5 i k * nr I.arg k (col 5 j) else 0 := by
  unfold k0_pay15; pointwise
  simp only [mask_sel, v5_at, v55_at]
  rfl

theorem b5_at (i j : Fin 128) : k0_pay16 (v7 I) (ix2 i j) = I.arg.bs 5 i := by
  unfold k0_pay16; pointwise
  simp only [v7_at]

/-- The last two groups' columns, in the literals of the body. -/
theorem g6_eq (A : Arg) (i : Fin 128) (n : ℕ) (hn : n < 128) (h : 768 + n < 1024) :
    gel (A.u i ⟨768 + n, h⟩) * ((∑ k, if k ≤ i then A.w 6 i k * nr A k ⟨768 + n, h⟩ else 0) + A.bs 6 i) = gate A i ⟨768 + n, h⟩ :=
  gate_col A 6 i ⟨n, hn⟩
theorem g7_eq (A : Arg) (i : Fin 128) (n : ℕ) (h : 896 + n < 1024) :
    gel (A.u i ⟨896 + n, h⟩) * ((∑ k, if k ≤ i then A.w 7 i k * nr A k ⟨896 + n, h⟩ else 0) + A.bs 7 i) = gate A i ⟨896 + n, h⟩ :=
  gate_col A 7 i ⟨n, by omega⟩
/-- The sixth group's, which the body leaves in two parts. -/
theorem g5_eq (A : Arg) (i : Fin 128) (n : ℕ) (hn : n < 128) (h : 640 + n < 1024) :
    gel (A.u i ⟨640 + n, h⟩) * ((∑ k, if k ≤ i then A.w 5 i k * nr A k (col 5 ⟨n, hn⟩) else 0) + A.bs 5 i) = gate A i ⟨640 + n, h⟩ :=
  gate_col A 5 i ⟨n, hn⟩

/-- What the eight pieces side by side hold. -/
theorem cat_at (i : Fin 128) (c : Fin 1024) : k0_pay1 (v5 I) (v7 I) (v20 I) (v55 I) k0_pay8 (k0_pay9 I.g I.b (v5 I) (v7 I) (v20 I) (v33 I) (v35 I))
    (k0_pay10 I.g I.b (v5 I) (v7 I) (v20 I) (v33 I) (v35 I)) (k0_pay12 (v7 I) (v20 I) (v55 I) k0_pay8 (k0_pay11 (v5 I)))
    (k0_pay13 (v5 I) (v7 I) (v20 I) (v55 I) k0_pay8) (k0_pay14 (v5 I) (v7 I) (v20 I) (v55 I) k0_pay8)
    (k0_pay15 (v5 I) (v55 I) k0_pay8) (k0_pay16 (v7 I)) (ix2 i c) = gate I.arg i c := by
  unfold k0_pay1; pointwise
  simp only [g0_at, g1_at, g2_at, g3_at, g4_at, g5_at, b5_at, mask_sel, v5_at, v7_at, v20_at, v55_at, g7_eq]
  generalize I.arg = A
  have hc := c.isLt
  by_cases h0 : (c : ℕ) < 128
  · rw [dif_pos h0]; exact congrArg (gate A i) (Fin.ext (by simp only [col]; simp; try omega))
  rw [dif_neg h0]
  by_cases h1 : (c : ℕ) - 128 < 128
  · rw [dif_pos h1]; exact congrArg (gate A i) (Fin.ext (by simp only [col]; simp; try omega))
  rw [dif_neg h1]
  by_cases h2 : (c : ℕ) - 128 - 128 < 128
  · rw [dif_pos h2]; exact congrArg (gate A i) (Fin.ext (by simp only [col]; simp; try omega))
  rw [dif_neg h2]
  by_cases h3 : (c : ℕ) - 128 - 128 - 128 < 128
  · rw [dif_pos h3]; exact congrArg (gate A i) (Fin.ext (by simp only [col]; simp; try omega))
  rw [dif_neg h3]
  by_cases h4 : (c : ℕ) - 128 - 128 - 128 - 128 < 128
  · rw [dif_pos h4]; exact congrArg (gate A i) (Fin.ext (by simp only [col]; simp; try omega))
  rw [dif_neg h4]
  by_cases h5 : (c : ℕ) - 128 - 128 - 128 - 128 - 128 < 128
  · rw [dif_pos h5]; exact (g5_eq A i _ h5 _).trans (congrArg (gate A i) (Fin.ext (by simp only []; omega)))
  rw [dif_neg h5]
  by_cases h6 : (c : ℕ) - 128 - 128 - 128 - 128 - 128 - 128 < 128
  · rw [dif_pos h6]; exact (g6_eq A i _ h6 _).trans (congrArg (gate A i) (Fin.ext (by simp only []; omega)))
  rw [dif_neg h6]
  exact congrArg (gate A i) (Fin.ext (by simp only []; omega))

/-- What one point stores. -/
theorem out_at (i : Fin 128) (c : Fin 1024) : out0_6 I.u I.v I.g I.b I.w I.bs (ix2 i c) = gate I.arg i c := by
  unfold_out out0_6
  frame_out
  exact cat_at I i c

end Cert.Kernel7Ideal.Body

end
-- ==== Proof.GateFinal.lean ====
/-
  What the gating's forward kernel leaves in its result: the pipeline writes the left half of the columns of its array, a
  chunk per grid point, and the last host operation keeps that half.
-/
module

public import proofs.«01_k».proof.Proof.GateBody
public import Idealize.ShloMosaic.Lib.StableHlo.ReadAt

@[expose] public section

set_option maxRecDepth 16384

noncomputable section

namespace Cert.Kernel7Ideal.Body

open Cert.Kernel7Ideal Cert.Kernel7Ideal.Gen Idealize.ShloMosaic Idealize.ShloMosaic.TcCoe Idealize.SL.Sem Cert.Gmlp
open Idealize.ShloMosaic.Pipeline (Dat)

variable (m : (ℓ : Loc nD τ sig) → Buf (Elt Ideal) ℓ) (ρ : Dev nD → PrngReg)

/-- The input blocks of grid point `t`. -/
def chunk (c : Dev nD) (t : Fin cfg0.N) : In :=
  ⟨iblk m c 0 t, iblk m c 1 t, iblk m c 2 t, iblk m c 3 t, iblk m c 4 t, iblk m c 5 t⟩

/-- The index maps of the staged windows. -/
theorem idx : ∀ t : Fin cfg0.N, win0_0.index t = ![t.val, 0] ∧ win0_1.index t = ![t.val, 1] ∧ win0_2.index t = ![0, 0]
    ∧ win0_3.index t = ![0, 0] ∧ win0_4.index t = ![0, 0, 0] ∧ win0_5.index t = ![0, 0, 0] ∧ win0_6.index t = ![t.val, 0] :=
  (by decide +kernel : ∀ t : Fin grid0.N, _)

/-- A grid point's number, below 32. -/
def pt (t : Fin cfg0.N) : Fin 32 := ⟨t.val, t.isLt⟩

/-- The five argument arrays, cut into chunks; there is no cotangent. -/
abbrev args (c : Dev nD) (t : Fin 32) : Arg :=
  argOf (m ((c : Thread nD τ).loc main_arg0)) (fun _ => 0) (m ((c : Thread nD τ).loc main_arg1))
    (m ((c : Thread nD τ).loc main_arg2)) (m ((c : Thread nD τ).loc main_arg3)) (m ((c : Thread nD τ).loc main_arg4)) t

/-- The mixing weights and bias as the host leaves them: the arguments without their leading axis. -/
theorem v0_at (c : Dev nD) (g : Fin 8) (i j : Fin 128) :
    V m c main_v0 (ix3 g i j) = m ((c : Thread nD τ).loc main_arg3) (ix4 0 g i j) := by
  show (V0 m c (Proc.devRef .tc main_v0) : Vec Ideal S8x128x128 .f32) (ix3 g i j) = _
  unfold V0
  after_reads_at
theorem v2_at (c : Dev nD) (g : Fin 8) (i : Fin 128) :
    V m c main_v2 (ix3 g i 0) = m ((c : Thread nD τ).loc main_arg4) (ix3 0 g i) := by
  show (V0 m c (Proc.devRef .tc main_v2) : Vec Ideal S8x128x1 .f32) (ix3 g i 0) = _
  unfold V0
  after_reads_at

/-- The input blocks of a point are the chunk's arguments. -/
theorem chunk_arg (c : Dev nD) (t : Fin cfg0.N) : (chunk m c t).arg = args m c (pt t) := by
  unfold In.arg chunk args argOf
  dsimp only
  congr 1
  · funext r k; blk_ext! [iblk, V, idx t, row, lft, pt]
  · funext r k; blk_ext! [iblk, V, idx t, row, rgt, pt]
  · funext k; blk_ext! [iblk, V, idx t]
  · funext k; blk_ext! [iblk, V, idx t]
  · funext g i j
    refine Eq.trans ?_ (v0_at m c g i j)
    blk_ext! [iblk, idx t]
  · funext g i
    refine Eq.trans ?_ (v2_at m c g i)
    blk_ext! [iblk, idx t]

/-- The result at a row and a column. -/
def res (c : Dev nD) (i : S4096x1024.Idx) : EReal :=
  gel ((args m c ⟨(i 0).val / 128, by have := (i 0).isLt; simp at this; omega⟩).u ⟨(i 0).val % 128, Nat.mod_lt _ (by norm_num)⟩ (i 1))
    * mix (args m c ⟨(i 0).val / 128, by have := (i 0).isLt; simp at this; omega⟩) ⟨(i 0).val % 128, Nat.mod_lt _ (by norm_num)⟩ (i 1)

/-- What one point writes. -/
theorem point (c : Dev nD) (t : Fin cfg0.N) (y : S128x1024.Idx) :
    out0_6 (iblk m c 0 t) (iblk m c 1 t) (iblk m c 2 t) (iblk m c 3 t) (iblk m c 4 t) (iblk m c 5 t) y
      = gate (args m c (pt t)) (y 0) (y 1) :=
  (congrArg (out0_6 (F := Ideal) (iblk m c 0 t) (iblk m c 1 t) (iblk m c 2 t) (iblk m c 3 t) (iblk m c 4 t) (iblk m c 5 t)) (eq_ix2 y)).trans
    ((out_at (chunk m c t) (y 0) (y 1)).trans (congrArg (fun A => gate A (y 0) (y 1)) (chunk_arg m c t)))

/-- The array after the run, at the left half's columns. -/
theorem final (c : Dev nD) : (dats m 0 c).arrAt 6 cfg0.N = fun i : S4096x2048.Idx =>
    if (i 1).val / 1024 = 0 then res m c (ix2 (i 0) ⟨(i 1).val % 1024, Nat.mod_lt _ (by norm_num)⟩) else V m c main_v3 i := by
  refine (dats m 0 c).arrAt_eq_of_coversWhere 6 _ (fun β => β (1 : Fin _) = 0) (by decide +kernel) (fun t hf y => ?_) (fun j => Iff.rfl)
  blk_simp
  rw [after0_6]
  have h0 : (y 0).val < 128 := (y 0).isLt
  have h1 : (y 1).val < 1024 := (y 1).isLt
  refine (point m c t y).trans ?_
  unfold res gate
  congr 1
  · congr 1; congr 1
    · congr 1
      apply Fin.ext; blk_simp [idx t, pt]; simp; omega
    · apply Fin.ext; blk_simp [idx t]; simp; omega
    · apply Fin.ext; blk_simp [idx t]; simp; omega
  · congr 1
    · congr 1
      apply Fin.ext; blk_simp [idx t, pt]; simp; omega
    · apply Fin.ext; blk_simp [idx t]; simp; omega
    · apply Fin.ext; blk_simp [idx t]; simp; omega

/-- The host's slice of it. -/
theorem tail (c : Dev nD) : Pipeline.afterTail₀ cfgs (dats m) 0 (V0 m) [hostOps1] c main_v4 = res m c := by
  funext i
  unfold Pipeline.afterTail₀
  have e : (Pipeline.withArrays (cfgs 0).spec c (V0 m c) (fun w => (dats m 0 c).arrAt w (cfgs 0).N) (Proc.devRef .tc main_v3) : Vec Ideal S4096x2048 .bf16)
      = (dats m 0 c).arrAt 6 cfg0.N :=
    Pipeline.withArrays_arr_shared spec0 c (V0 m c) (fun w => (dats m 0 c).arrAt w (cfgs 0).N) ((dats m 0 c).arrAt_sharedIn sharedIn0 (V0 m c) (A_eq m c) _) 6
  rw [eq_ix2 i]
  after_reads_at
  refine (congrFun (e.trans (final m c)) _).trans ?_
  have h1 : (i 1).val < 1024 := (i 1).isLt
  rw [if_pos (by show (i 1).val / 1024 = 0; omega)]
  refine congrArg (res m c) (funext fun a => ?_)
  fin_cases a
  · rfl
  · exact Fin.ext (Nat.mod_eq_of_lt h1)

end Cert.Kernel7Ideal.Body

end
-- ==== Proof.GateRef.lean ====
/-
  The gating's forward reference read at an index: row `r` of chunk `t` of its result is gelu of the first half times the
  mixed rows of that chunk.
-/
module

public import proofs.«01_k».proof.Proof.Rows
public import proofs.«01_k».proof.Proof.Gen.Reference7Ideal.Read

@[expose] public section

set_option maxRecDepth 16384

noncomputable section

namespace Cert.Reference7Ideal.At

open Cert.Reference7Ideal Cert.Reference7Ideal.Gen Cert.Reference7Ideal.Read Idealize.ShloMosaic Cert.Gmlp

variable (X : Vec Ideal S4096x2048 .f32) (g b : Vec Ideal S1x1024 .f32) (w : Vec Ideal S1x8x128x128 .f32) (bs : Vec Ideal S1x8x128 .f32)

/-- The arguments of a chunk; there is no cotangent. -/
abbrev args (t : Fin 32) : Arg := argOf X (fun _ => 0) g b w bs t

/-- The two halves of the input. -/
theorem v1_at (R : Fin 4096) (c : Fin 1024) : val_main_v1 X (ix3 0 R c) = X (ix2 R (lft c)) := by
  unfold val_main_v1 val_main_v0; pointwise; rfl
theorem v2_at (R : Fin 4096) (c : Fin 1024) : val_main_v2 X (ix3 0 R c) = X (ix2 R (rgt c)) := by
  unfold val_main_v2 val_main_v0; pointwise; rfl

/-- gelu of the two halves. -/
theorem v19_at (R : Fin 4096) (c : Fin 1024) : val_main_v19 X (ix3 0 R c) = gel (X (ix2 R (lft c))) := by
  unfold val_main_v19 val_main_v18 val_main_v17 val_main_cst_2 val_main_v16 val_main_v15 val_main_cst_1 val_main_v14 val_main_v13 val_main_v12
    val_main_cst_0 val_main_v11 val_main_v10 val_main_v9 val_main_cst val_main_v8 val_main_v7
  pointwise; rw [v1_at]; exact gel_eq _
theorem v32_at (t : Fin 32) (r : Fin 128) (c : Fin 1024) : val_main_v32 X (ix3 0 (row t r) c) = gv (args X g b w bs t) r c := by
  unfold val_main_v32 val_main_v31 val_main_v30 val_main_cst_6 val_main_v29 val_main_v28 val_main_cst_5 val_main_v27 val_main_v26 val_main_v25
    val_main_cst_4 val_main_v24 val_main_v23 val_main_v22 val_main_cst_3 val_main_v21 val_main_v20
  pointwise; rw [v2_at]; exact gel_eq _

/-! ### The layer norm's rows -/

theorem v36_at (t : Fin 32) (r : Fin 128) : val_main_v36 X (ix3 0 (row t r) 0) = mean (gv (args X g b w bs t) r) := by
  unfold val_main_v36 val_main_v35 val_main_cst_8 val_main_v34 val_main_v33 val_main_cst_7
  pointwise; simp only [v32_at X g b w bs, zero_add]; rfl
theorem v38_at (t : Fin 32) (r : Fin 128) (c : Fin 1024) : val_main_v38 X (ix3 0 (row t r) c) = cen (gv (args X g b w bs t) r) c := by
  unfold val_main_v38 val_main_v37; pointwise; rw [v32_at X g b w bs, v36_at X g b w bs]; rfl
theorem v45_at (t : Fin 32) (r : Fin 128) (c : Fin 1024) : val_main_v45 X (ix3 0 (row t r) c) = cen (gv (args X g b w bs t) r) c := by
  unfold val_main_v45 val_main_v44; pointwise; rw [v32_at X g b w bs, v36_at X g b w bs]; rfl
theorem v48_at (t : Fin 32) (r : Fin 128) : val_main_v48 X (ix3 0 (row t r) 0) = rsd (gv (args X g b w bs t) r) := by
  unfold val_main_v48 val_main_v47 val_main_v46 val_main_cst_11 val_main_v43 val_main_v42 val_main_cst_10 val_main_v41 val_main_v40
    val_main_cst_9 val_main_v39
  pointwise; simp only [v38_at X g b w bs, zero_add]; rfl
theorem v56_at (t : Fin 32) (r : Fin 128) (c : Fin 1024) : val_main_v56 X g b (ix3 0 (row t r) c) = nr (args X g b w bs t) r c := by
  unfold val_main_v56 val_main_v55 val_main_v54 val_main_v53 val_main_v52 val_main_v51 val_main_v50 val_main_v49 val_main_v3 val_main_v4
  pointwise; rw [v45_at X g b w bs, v48_at X g b w bs]; rfl

/-! ### The mixing -/

theorem v57_at (t : Fin 32) (r : Fin 128) (h : Fin 8) (k : Fin 128) :
    val_main_v57 X g b (ix5 0 t r h k) = nr (args X g b w bs t) r (col h k) := by
  unfold val_main_v57; pointwise; rw [row_mk, col_mk, v56_at X g b w bs]

/-- The mask: the entries at and under the diagonal. -/
theorem mask_at (h : Fin 8) (i j : Fin 128) : val_main_call1_v1 (F := Ideal) (ix3 h i j) = if j ≤ i then 1#1 else 0#1 := by
  unfold val_main_call1_v1 val_main_v59 val_main_v58 val_main_c val_main_call0_v5 val_main_call0_c_0 val_main_call0_v4 val_main_call0_v3
    val_main_call0_v2 val_main_call0_v1 val_main_call0_c val_main_call0_v0
  pointwise
  revert i j; decide +kernel

theorem v60_at (t : Fin 32) (h : Fin 8) (i j : Fin 128) : val_main_v60 w (ix3 h i j) = wm (args X g b w bs t) h i j := by
  unfold val_main_v60; pointwise; rw [mask_at]; unfold val_main_v5 val_main_call1_v2 val_main_call1_v0 val_main_cst_12; pointwise
  unfold wm; split_ifs
  · rfl
  · exact Ideal.ofBits_zero_f32

/-- The mixed rows. -/
theorem v67_at (t : Fin 32) (r : Fin 128) (c : Fin 1024) :
    val_main_v67 X g b w bs (ix3 0 (row t r) c) = mix (args X g b w bs t) r c := by
  obtain ⟨h, k, rfl⟩ := col_surj c
  unfold val_main_v67 val_main_v66 val_main_v62 val_main_v61 val_main_v65 val_main_v64 val_main_v63 val_main_v6; pointwise
  simp only [row_div, row_mod, col_div, col_mod, v57_at X g b w bs, v60_at X g b w bs t, mul_comm (nr _ _ _)]
  unfold mix; rw [grp_col]
  rfl

/-- The result at row `r` of chunk `t`. -/
theorem v70_at (t : Fin 32) (r : Fin 128) (c : Fin 1024) :
    val_main_v70 X g b w bs (ix2 (row t r) c) = gel ((args X g b w bs t).u r c) * mix (args X g b w bs t) r c := by
  unfold val_main_v70 val_main_v69 val_main_v68; pointwise
  rw [v19_at, v67_at X g b w bs]; rfl

/-- The result as a function of the chunks' arguments. -/
theorem v70_eq : val_main_v70 X g b w bs = fun i : S4096x1024.Idx =>
    gel ((args X g b w bs ⟨(i 0).val / 128, by have := (i 0).isLt; simp at this; omega⟩).u ⟨(i 0).val % 128, Nat.mod_lt _ (by norm_num)⟩ (i 1))
      * mix (args X g b w bs ⟨(i 0).val / 128, by have := (i 0).isLt; simp at this; omega⟩) ⟨(i 0).val % 128, Nat.mod_lt _ (by norm_num)⟩ (i 1) := by
  funext i
  have e := v70_at X g b w bs ⟨(i 0).val / 128, by have : (i 0).val < 4096 := (i 0).isLt; omega⟩
    ⟨(i 0).val % 128, Nat.mod_lt _ (by norm_num)⟩ (i 1)
  rw [row_surj (i 0), ← eq_ix2 i] at e
  exact e

end Cert.Reference7Ideal.At

end
-- ==== Proof.AdamSpec.lean ====
/-
  The optimiser's update of one weight's element over the extended reals: the gradient from the four parts, the two moments,
  and the step. No printed program is mentioned here.
-/
module

public import Idealize.ShloMosaic.Lib.Pointwise

@[expose] public section

noncomputable section

namespace Cert.Adam

open Idealize.ShloMosaic

/-- The literals: the decay of each moment, what is left of one, the two bias corrections after ten steps, the number added to the
    root, the weight decay and minus the learning rate. -/
abbrev cB1 : EReal := Ideal.ofBits .f32 0x3F666666#32
abbrev cA1 : EReal := Ideal.ofBits .f32 0x3DCCCCCD#32
abbrev cB2 : EReal := Ideal.ofBits .f32 0x3F7FBE77#32
abbrev cA2 : EReal := Ideal.ofBits .f32 0x3A83126F#32
abbrev cM : EReal := Ideal.ofBits .f32 0x3F26BD02#32
abbrev cV : EReal := Ideal.ofBits .f32 0x3C231ACC#32
abbrev cEps : EReal := Ideal.ofBits .f32 0x322BCC77#32
abbrev cWd : EReal := Ideal.ofBits .f32 0x3C23D70A#32
abbrev cLr : EReal := Ideal.ofBits .f32 0xBA83126F#32

/-- The gradient: the sum of the four parts. -/
def grad (p : Fin 4 → EReal) : EReal := p 0 + p 1 + p 2 + p 3

/-- The first moment after the step. -/
def mom (m g : EReal) : EReal := cB1 * m + cA1 * g

/-- The second moment after the step. -/
def var (v g : EReal) : EReal := cB2 * v + cA2 * (g * g)

/-- The step, from the weight and the new moments. -/
def upd (w m v : EReal) : EReal := cLr * (Ideal.div (Ideal.div m cM) (Ideal.sqrt (Ideal.div v cV) + cEps) + cWd * w)

end Cert.Adam

end
-- ==== Proof.AdamBody.lean ====
/-
  The optimiser's update of the output projection's weight, over the extended reals: what the body stores into its four results,
  read at an index.
-/
module

public import proofs.«01_k».proof.Proof.AdamSpec
public import proofs.«01_k».proof.Proof.Gen.Kernel8Ideal.Frame
public import Idealize.ShloMosaic.Lib.Pipeline.ValueKit
public import Idealize.ShloMosaic.Lib.Tactic

@[expose] public section

set_option maxRecDepth 16384

noncomputable section

namespace Cert.Kernel8Ideal.Body

open Cert.Kernel8Ideal Cert.Kernel8Ideal.Gen Idealize.ShloMosaic Idealize.ShloMosaic.TcCoe Idealize.SL.Sem Cert.Adam

theorem hz3 : (![0, 0, 0] : Fin 3 → Nat) = fun _ => 0 := funext fun a => by fin_cases a <;> rfl

variable (x : Vec Ideal S4x256x1024 .bf16) (w m v : Vec Ideal S1x256x1024 .f32)

/-- The four parts at row `r` and column `k`. -/
def at4 (x : Vec Ideal S4x256x1024 .bf16) (r : Fin 256) (k : Fin 1024) : Fin 4 → EReal := fun s => x (ix3 s r k)

/-! ### The values of the body -/

theorem g_at (r : Fin 256) (k : Fin 1024) : k0_pay5 (View.ld x (Rect.unit (s := S4x256x1024) ![0, 0, 0] S1x256x1024.size inb_S4x256x1024_S1x256x1024_0_0_0)) (View.ld x (Rect.unit (s := S4x256x1024) ![1, 0, 0] S1x256x1024.size inb_S4x256x1024_S1x256x1024_1_0_0)) (View.ld x (Rect.unit (s := S4x256x1024) ![2, 0, 0] S1x256x1024.size inb_S4x256x1024_S1x256x1024_2_0_0)) (View.ld x (Rect.unit (s := S4x256x1024) ![3, 0, 0] S1x256x1024.size inb_S4x256x1024_S1x256x1024_3_0_0)) (ix2 r k) = grad (at4 x r k) := by
  unfold_payloads; pointwise; rfl

theorem m_at (r : Fin 256) (k : Fin 1024) : k0_pay6 (View.ld x (Rect.unit (s := S4x256x1024) ![0, 0, 0] S1x256x1024.size inb_S4x256x1024_S1x256x1024_0_0_0)) (View.ld x (Rect.unit (s := S4x256x1024) ![1, 0, 0] S1x256x1024.size inb_S4x256x1024_S1x256x1024_1_0_0)) (View.ld x (Rect.unit (s := S4x256x1024) ![2, 0, 0] S1x256x1024.size inb_S4x256x1024_S1x256x1024_2_0_0)) (View.ld x (Rect.unit (s := S4x256x1024) ![3, 0, 0] S1x256x1024.size inb_S4x256x1024_S1x256x1024_3_0_0)) m (ix2 r k) = mom (m (ix3 0 r k)) (grad (at4 x r k)) := by
  unfold k0_pay6; pointwise; rw [g_at x]; rfl

theorem v_at (r : Fin 256) (k : Fin 1024) : k0_pay7 (View.ld x (Rect.unit (s := S4x256x1024) ![0, 0, 0] S1x256x1024.size inb_S4x256x1024_S1x256x1024_0_0_0)) (View.ld x (Rect.unit (s := S4x256x1024) ![1, 0, 0] S1x256x1024.size inb_S4x256x1024_S1x256x1024_1_0_0)) (View.ld x (Rect.unit (s := S4x256x1024) ![2, 0, 0] S1x256x1024.size inb_S4x256x1024_S1x256x1024_2_0_0)) (View.ld x (Rect.unit (s := S4x256x1024) ![3, 0, 0] S1x256x1024.size inb_S4x256x1024_S1x256x1024_3_0_0)) v (ix2 r k) = var (v (ix3 0 r k)) (grad (at4 x r k)) := by
  unfold k0_pay7; pointwise; rw [g_at x]; rfl

/-! ### The results -/

/-- The gradient. -/
theorem out4_at (c : Dev nD) (i : grid0.Coords) (a2 : Memref sig .tc .vmem S4x256x1024 .bf16) (h2 : a2.IsWhole) (a3 : Memref sig .tc .vmem S1x256x1024 .f32) (h3 : a3.IsWhole) (a4 : Memref sig .tc .vmem S1x256x1024 .f32) (h4 : a4.IsWhole) (a5 : Memref sig .tc .vmem S1x256x1024 .f32) (h5 : a5.IsWhole) (a6 : Memref sig .tc .vmem S1x256x1024 .f32) (h6 : a6.IsWhole) (a7 : Memref sig .tc .vmem S1x256x1024 .f32) (h7 : a7.IsWhole) (a8 : Memref sig .tc .vmem S1x256x1024 .f32) (h8 : a8.IsWhole) (a9 : Memref sig .tc .vmem S1x256x1024 .f32) (h9 : a9.IsWhole) (hc : cond0_0 i) (r : Fin 256) (k : Fin 1024) :
    out0_A_4 c i a2 h2 a3 h3 a4 h4 a5 h5 a6 h6 a7 h7 a8 h8 a9 h9 hc x w m v (ix3 0 r k) = grad (at4 x r k) := by
  have e : out0_A_4 c i a2 h2 a3 h3 a4 h4 a5 h5 a6 h6 a7 h7 a8 h8 a9 h9 hc x w m v = k0_pay1 (k0_pay5 (View.ld x (Rect.unit (s := S4x256x1024) ![0, 0, 0] S1x256x1024.size inb_S4x256x1024_S1x256x1024_0_0_0)) (View.ld x (Rect.unit (s := S4x256x1024) ![1, 0, 0] S1x256x1024.size inb_S4x256x1024_S1x256x1024_1_0_0)) (View.ld x (Rect.unit (s := S4x256x1024) ![2, 0, 0] S1x256x1024.size inb_S4x256x1024_S1x256x1024_2_0_0)) (View.ld x (Rect.unit (s := S4x256x1024) ![3, 0, 0] S1x256x1024.size inb_S4x256x1024_S1x256x1024_3_0_0))) := by
    unfold out0_A_4
    rw [View.read_writes_eq_canon _ _ _ (cover0_A_4 c i a2 h2 a3 h3 a4 h4 a5 h5 a6 h6 a7 h7 a8 h8 a9 h9 hc x w m v)]
    unfold kernelRun0_A
    dsimp only
    sl_unfold_words
    rw [View.canon_cons_unit_zero (S := S1x256x1024) hz3]
    simp only [View.readAt_eq_ld, h2.read_unread, h3.read_unread, h4.read_unread, h5.read_unread, h6.read_unread, h7.read_unread, h8.read_unread, h9.read_unread, View.ld_unit_zero (S := S1x256x1024) hz3, shapeCast_self]
    try rfl
  rw [e]; unfold k0_pay1; pointwise; exact g_at x r k

/-- The step. -/
theorem out5_at (c : Dev nD) (i : grid0.Coords) (a2 : Memref sig .tc .vmem S4x256x1024 .bf16) (h2 : a2.IsWhole) (a3 : Memref sig .tc .vmem S1x256x1024 .f32) (h3 : a3.IsWhole) (a4 : Memref sig .tc .vmem S1x256x1024 .f32) (h4 : a4.IsWhole) (a5 : Memref sig .tc .vmem S1x256x1024 .f32) (h5 : a5.IsWhole) (a6 : Memref sig .tc .vmem S1x256x1024 .f32) (h6 : a6.IsWhole) (a7 : Memref sig .tc .vmem S1x256x1024 .f32) (h7 : a7.IsWhole) (a8 : Memref sig .tc .vmem S1x256x1024 .f32) (h8 : a8.IsWhole) (a9 : Memref sig .tc .vmem S1x256x1024 .f32) (h9 : a9.IsWhole) (hc : cond0_0 i) (r : Fin 256) (k : Fin 1024) :
    out0_A_5 c i a2 h2 a3 h3 a4 h4 a5 h5 a6 h6 a7 h7 a8 h8 a9 h9 hc x w m v (ix3 0 r k) = upd (w (ix3 0 r k)) (mom (m (ix3 0 r k)) (grad (at4 x r k))) (var (v (ix3 0 r k)) (grad (at4 x r k))) := by
  have e : out0_A_5 c i a2 h2 a3 h3 a4 h4 a5 h5 a6 h6 a7 h7 a8 h8 a9 h9 hc x w m v = k0_pay2 (k0_pay8 (View.ld x (Rect.unit (s := S4x256x1024) ![0, 0, 0] S1x256x1024.size inb_S4x256x1024_S1x256x1024_0_0_0)) (View.ld x (Rect.unit (s := S4x256x1024) ![1, 0, 0] S1x256x1024.size inb_S4x256x1024_S1x256x1024_1_0_0)) (View.ld x (Rect.unit (s := S4x256x1024) ![2, 0, 0] S1x256x1024.size inb_S4x256x1024_S1x256x1024_2_0_0)) (View.ld x (Rect.unit (s := S4x256x1024) ![3, 0, 0] S1x256x1024.size inb_S4x256x1024_S1x256x1024_3_0_0)) m) (k0_pay9 (View.ld x (Rect.unit (s := S4x256x1024) ![0, 0, 0] S1x256x1024.size inb_S4x256x1024_S1x256x1024_0_0_0)) (View.ld x (Rect.unit (s := S4x256x1024) ![1, 0, 0] S1x256x1024.size inb_S4x256x1024_S1x256x1024_1_0_0)) (View.ld x (Rect.unit (s := S4x256x1024) ![2, 0, 0] S1x256x1024.size inb_S4x256x1024_S1x256x1024_2_0_0)) (View.ld x (Rect.unit (s := S4x256x1024) ![3, 0, 0] S1x256x1024.size inb_S4x256x1024_S1x256x1024_3_0_0)) v) w := by
    unfold out0_A_5
    rw [View.read_writes_eq_canon _ _ _ (cover0_A_5 c i a2 h2 a3 h3 a4 h4 a5 h5 a6 h6 a7 h7 a8 h8 a9 h9 hc x w m v)]
    unfold kernelRun0_A
    dsimp only
    sl_unfold_words
    rw [View.canon_cons_unit_zero (S := S1x256x1024) hz3]
    simp only [View.readAt_eq_ld, h2.read_unread, h3.read_unread, h4.read_unread, h5.read_unread, h6.read_unread, h7.read_unread, h8.read_unread, h9.read_unread, View.ld_unit_zero (S := S1x256x1024) hz3, shapeCast_self]
    try rfl
  rw [e]; unfold k0_pay2; unfold k0_pay8 k0_pay9; pointwise; rw [m_at x, v_at x]; rfl

/-- The first moment. -/
theorem out6_at (c : Dev nD) (i : grid0.Coords) (a2 : Memref sig .tc .vmem S4x256x1024 .bf16) (h2 : a2.IsWhole) (a3 : Memref sig .tc .vmem S1x256x1024 .f32) (h3 : a3.IsWhole) (a4 : Memref sig .tc .vmem S1x256x1024 .f32) (h4 : a4.IsWhole) (a5 : Memref sig .tc .vmem S1x256x1024 .f32) (h5 : a5.IsWhole) (a6 : Memref sig .tc .vmem S1x256x1024 .f32) (h6 : a6.IsWhole) (a7 : Memref sig .tc .vmem S1x256x1024 .f32) (h7 : a7.IsWhole) (a8 : Memref sig .tc .vmem S1x256x1024 .f32) (h8 : a8.IsWhole) (a9 : Memref sig .tc .vmem S1x256x1024 .f32) (h9 : a9.IsWhole) (hc : cond0_0 i) (r : Fin 256) (k : Fin 1024) :
    out0_A_6 c i a2 h2 a3 h3 a4 h4 a5 h5 a6 h6 a7 h7 a8 h8 a9 h9 hc x w m v (ix3 0 r k) = mom (m (ix3 0 r k)) (grad (at4 x r k)) := by
  have e : out0_A_6 c i a2 h2 a3 h3 a4 h4 a5 h5 a6 h6 a7 h7 a8 h8 a9 h9 hc x w m v = k0_pay3 (k0_pay6 (View.ld x (Rect.unit (s := S4x256x1024) ![0, 0, 0] S1x256x1024.size inb_S4x256x1024_S1x256x1024_0_0_0)) (View.ld x (Rect.unit (s := S4x256x1024) ![1, 0, 0] S1x256x1024.size inb_S4x256x1024_S1x256x1024_1_0_0)) (View.ld x (Rect.unit (s := S4x256x1024) ![2, 0, 0] S1x256x1024.size inb_S4x256x1024_S1x256x1024_2_0_0)) (View.ld x (Rect.unit (s := S4x256x1024) ![3, 0, 0] S1x256x1024.size inb_S4x256x1024_S1x256x1024_3_0_0)) m) := by
    unfold out0_A_6
    rw [View.read_writes_eq_canon _ _ _ (cover0_A_6 c i a2 h2 a3 h3 a4 h4 a5 h5 a6 h6 a7 h7 a8 h8 a9 h9 hc x w m v)]
    unfold kernelRun0_A
    dsimp only
    sl_unfold_words
    rw [View.canon_cons_unit_zero (S := S1x256x1024) hz3]
    simp only [View.readAt_eq_ld, h2.read_unread, h3.read_unread, h4.read_unread, h5.read_unread, h6.read_unread, h7.read_unread, h8.read_unread, h9.read_unread, View.ld_unit_zero (S := S1x256x1024) hz3, shapeCast_self]
    try rfl
  rw [e]; unfold k0_pay3; pointwise; exact m_at x m r k

/-- The second moment. -/
theorem out7_at (c : Dev nD) (i : grid0.Coords) (a2 : Memref sig .tc .vmem S4x256x1024 .bf16) (h2 : a2.IsWhole) (a3 : Memref sig .tc .vmem S1x256x1024 .f32) (h3 : a3.IsWhole) (a4 : Memref sig .tc .vmem S1x256x1024 .f32) (h4 : a4.IsWhole) (a5 : Memref sig .tc .vmem S1x256x1024 .f32) (h5 : a5.IsWhole) (a6 : Memref sig .tc .vmem S1x256x1024 .f32) (h6 : a6.IsWhole) (a7 : Memref sig .tc .vmem S1x256x1024 .f32) (h7 : a7.IsWhole) (a8 : Memref sig .tc .vmem S1x256x1024 .f32) (h8 : a8.IsWhole) (a9 : Memref sig .tc .vmem S1x256x1024 .f32) (h9 : a9.IsWhole) (hc : cond0_0 i) (r : Fin 256) (k : Fin 1024) :
    out0_A_7 c i a2 h2 a3 h3 a4 h4 a5 h5 a6 h6 a7 h7 a8 h8 a9 h9 hc x w m v (ix3 0 r k) = var (v (ix3 0 r k)) (grad (at4 x r k)) := by
  have e : out0_A_7 c i a2 h2 a3 h3 a4 h4 a5 h5 a6 h6 a7 h7 a8 h8 a9 h9 hc x w m v = k0_pay4 (k0_pay7 (View.ld x (Rect.unit (s := S4x256x1024) ![0, 0, 0] S1x256x1024.size inb_S4x256x1024_S1x256x1024_0_0_0)) (View.ld x (Rect.unit (s := S4x256x1024) ![1, 0, 0] S1x256x1024.size inb_S4x256x1024_S1x256x1024_1_0_0)) (View.ld x (Rect.unit (s := S4x256x1024) ![2, 0, 0] S1x256x1024.size inb_S4x256x1024_S1x256x1024_2_0_0)) (View.ld x (Rect.unit (s := S4x256x1024) ![3, 0, 0] S1x256x1024.size inb_S4x256x1024_S1x256x1024_3_0_0)) v) := by
    unfold out0_A_7
    rw [View.read_writes_eq_canon _ _ _ (cover0_A_7 c i a2 h2 a3 h3 a4 h4 a5 h5 a6 h6 a7 h7 a8 h8 a9 h9 hc x w m v)]
    unfold kernelRun0_A
    dsimp only
    sl_unfold_words
    rw [View.canon_cons_unit_zero (S := S1x256x1024) hz3]
    simp only [View.readAt_eq_ld, h2.read_unread, h3.read_unread, h4.read_unread, h5.read_unread, h6.read_unread, h7.read_unread, h8.read_unread, h9.read_unread, View.ld_unit_zero (S := S1x256x1024) hz3, shapeCast_self]
    try rfl
  rw [e]; unfold k0_pay4; pointwise; exact v_at x v r k

end Cert.Kernel8Ideal.Body

end
-- ==== Proof.AdamFinal.lean ====
/-
  What the update of the output projection's weight leaves in its four arrays, as functions of the arrays it takes: the grid has
  one point, which writes every array whole.
-/
module

public import proofs.«01_k».proof.Proof.AdamBody

@[expose] public section

set_option maxRecDepth 16384

noncomputable section

namespace Cert.Kernel8Ideal.Body

open Cert.Kernel8Ideal Cert.Kernel8Ideal.Gen Idealize.ShloMosaic Idealize.ShloMosaic.TcCoe Idealize.SL.Sem Cert.Adam
open Idealize.ShloMosaic.Pipeline (Dat)

variable (m : (ℓ : Loc nD τ sig) → Buf (Elt Ideal) ℓ)

/-- The argument arrays. -/
abbrev parts (c : Dev nD) : Vec Ideal S4x256x1024 .bf16 := m ((c : Thread nD τ).loc main_arg0)
abbrev wt (c : Dev nD) : Vec Ideal S1x256x1024 .f32 := m ((c : Thread nD τ).loc main_arg1)
abbrev m1 (c : Dev nD) : Vec Ideal S1x256x1024 .f32 := m ((c : Thread nD τ).loc main_arg2)
abbrev m2 (c : Dev nD) : Vec Ideal S1x256x1024 .f32 := m ((c : Thread nD τ).loc main_arg3)

/-- The index maps of the staged windows. -/
theorem idx : ∀ t : Fin cfg0.N, win0_0.index t = ![0, 0, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0]
    ∧ win0_7.index t = ![0, 0, 0] :=
  (by decide +kernel : ∀ t : Fin grid0.N, _)

/-- The one point's blocks are the arguments. -/
theorem blk0 (c : Dev nD) (t : Fin cfg0.N) (r : Fin 256) (k : Fin 1024) : at4 (iblk m c 0 t) r k = at4 (parts m c) r k := by
  unfold at4; funext s; blk_ext! [iblk, V, idx t]
theorem blk1 (c : Dev nD) (t : Fin cfg0.N) (r : Fin 256) (k : Fin 1024) : (iblk m c 1 t : Vec Ideal S1x256x1024 .f32) (ix3 0 r k) = wt m c (ix3 0 r k) := by
  blk_ext! [iblk, V, idx t]
theorem blk2 (c : Dev nD) (t : Fin cfg0.N) (r : Fin 256) (k : Fin 1024) : (iblk m c 2 t : Vec Ideal S1x256x1024 .f32) (ix3 0 r k) = m1 m c (ix3 0 r k) := by
  blk_ext! [iblk, V, idx t]
theorem blk3 (c : Dev nD) (t : Fin cfg0.N) (r : Fin 256) (k : Fin 1024) : (iblk m c 3 t : Vec Ideal S1x256x1024 .f32) (ix3 0 r k) = m2 m c (ix3 0 r k) := by
  blk_ext! [iblk, V, idx t]

/-- The four results at row `r` and column `k`. -/
def fG (c : Dev nD) (r : Fin 256) (k : Fin 1024) : EReal := grad (at4 (parts m c) r k)
def fM (c : Dev nD) (r : Fin 256) (k : Fin 1024) : EReal := mom (m1 m c (ix3 0 r k)) (fG m c r k)
def fV (c : Dev nD) (r : Fin 256) (k : Fin 1024) : EReal := var (m2 m c (ix3 0 r k)) (fG m c r k)
def fD (c : Dev nD) (r : Fin 256) (k : Fin 1024) : EReal := upd (wt m c (ix3 0 r k)) (fM m c r k) (fV m c r k)

/-- An index into an array with one leading entry. -/
theorem ix_one (y : S1x256x1024.Idx) : ∃ (r : Fin 256) (k : Fin 1024), y = ix3 0 r k := by
  refine ⟨y 1, y 2, ?_⟩
  have h0 : (y 0).val < 1 := (y 0).isLt
  funext a; apply Fin.ext; fin_cases a
  · show (y 0).val = 0; omega
  · rfl
  · rfl

theorem point4 (c : Dev nD) (t : Fin cfg0.N) (y : S1x256x1024.Idx) : (outsAt0 m c t).1 y = fG m c (y 1) (y 2) := by
  obtain ⟨r, k, rfl⟩ := ix_one y
  unfold outsAt0
  dsimp only
  refine (out4_at (iblk m c 0 t) (iblk m c 1 t) (iblk m c 2 t) (iblk m c 3 t) c (grid0.coords t) _ _ _ _ _ _ _ _ _ _ _ _ _ _ _ _ (hcond0_0 t) r k).trans ?_
  rw [blk0]; rfl

theorem final4 (c : Dev nD) : (dats m 0 c).arrAt 4 cfg0.N = fun y : S1x256x1024.Idx => fG m c (y 1) (y 2) := by
  refine (dats m 0 c).arrAt_eq_of_covers 4 _ (by decide +kernel) fun t hf y => ?_
  blk_simp
  rw [after0_4]
  refine (point4 m c t y).trans ?_
  refine congrArg₂ (fG m c) (Fin.ext ?_) (Fin.ext ?_)
  · blk_simp [idx t]
  · blk_simp [idx t]

theorem point5 (c : Dev nD) (t : Fin cfg0.N) (y : S1x256x1024.Idx) : (outsAt0 m c t).2.1 y = fD m c (y 1) (y 2) := by
  obtain ⟨r, k, rfl⟩ := ix_one y
  unfold outsAt0
  dsimp only
  refine (out5_at (iblk m c 0 t) (iblk m c 1 t) (iblk m c 2 t) (iblk m c 3 t) c (grid0.coords t) _ _ _ _ _ _ _ _ _ _ _ _ _ _ _ _ (hcond0_0 t) r k).trans ?_
  rw [blk0, blk1, blk2, blk3]; rfl

theorem final5 (c : Dev nD) : (dats m 0 c).arrAt 5 cfg0.N = fun y : S1x256x1024.Idx => fD m c (y 1) (y 2) := by
  refine (dats m 0 c).arrAt_eq_of_covers 5 _ (by decide +kernel) fun t hf y => ?_
  blk_simp
  rw [after0_5]
  refine (point5 m c t y).trans ?_
  refine congrArg₂ (fD m c) (Fin.ext ?_) (Fin.ext ?_)
  · blk_simp [idx t]
  · blk_simp [idx t]

theorem point6 (c : Dev nD) (t : Fin cfg0.N) (y : S1x256x1024.Idx) : (outsAt0 m c t).2.2.1 y = fM m c (y 1) (y 2) := by
  obtain ⟨r, k, rfl⟩ := ix_one y
  unfold outsAt0
  dsimp only
  refine (out6_at (iblk m c 0 t) (iblk m c 1 t) (iblk m c 2 t) (iblk m c 3 t) c (grid0.coords t) _ _ _ _ _ _ _ _ _ _ _ _ _ _ _ _ (hcond0_0 t) r k).trans ?_
  rw [blk0, blk2]; rfl

theorem final6 (c : Dev nD) : (dats m 0 c).arrAt 6 cfg0.N = fun y : S1x256x1024.Idx => fM m c (y 1) (y 2) := by
  refine (dats m 0 c).arrAt_eq_of_covers 6 _ (by decide +kernel) fun t hf y => ?_
  blk_simp
  rw [after0_6]
  refine (point6 m c t y).trans ?_
  refine congrArg₂ (fM m c) (Fin.ext ?_) (Fin.ext ?_)
  · blk_simp [idx t]
  · blk_simp [idx t]

theorem point7 (c : Dev nD) (t : Fin cfg0.N) (y : S1x256x1024.Idx) : (outsAt0 m c t).2.2.2 y = fV m c (y 1) (y 2) := by
  obtain ⟨r, k, rfl⟩ := ix_one y
  unfold outsAt0
  dsimp only
  refine (out7_at (iblk m c 0 t) (iblk m c 1 t) (iblk m c 2 t) (iblk m c 3 t) c (grid0.coords t) _ _ _ _ _ _ _ _ _ _ _ _ _ _ _ _ (hcond0_0 t) r k).trans ?_
  rw [blk0, blk3]; rfl

theorem final7 (c : Dev nD) : (dats m 0 c).arrAt 7 cfg0.N = fun y : S1x256x1024.Idx => fV m c (y 1) (y 2) := by
  refine (dats m 0 c).arrAt_eq_of_covers 7 _ (by decide +kernel) fun t hf y => ?_
  blk_simp
  rw [after0_7]
  refine (point7 m c t y).trans ?_
  refine congrArg₂ (fV m c) (Fin.ext ?_) (Fin.ext ?_)
  · blk_simp [idx t]
  · blk_simp [idx t]

end Cert.Kernel8Ideal.Body

end
-- ==== Proof.AdamRef.lean ====
/-
  The plain update of the output projection's weight read at an index.
-/
module

public import proofs.«01_k».proof.Proof.AdamSpec
public import proofs.«01_k».proof.Proof.Gen.Reference8Ideal.Read

@[expose] public section

set_option maxRecDepth 16384

noncomputable section

namespace Cert.Reference8Ideal.At

open Cert.Reference8Ideal Cert.Reference8Ideal.Gen Cert.Reference8Ideal.Read Idealize.ShloMosaic Cert.Adam

variable (x : Vec Ideal S4x256x1024 .bf16) (w m v : Vec Ideal S1x256x1024 .f32)

/-- The four parts at row `r` and column `k`. -/
def at4 (x : Vec Ideal S4x256x1024 .bf16) (r : Fin 256) (k : Fin 1024) : Fin 4 → EReal := fun s => x (ix3 s r k)

theorem v2_at (r : Fin 256) (k : Fin 1024) : val_main_v2 x (ix3 0 r k) = grad (at4 x r k) := by
  unfold val_main_v2; pointwise
  rw [val_main_v1_apply, Fin.sum_univ_four]
  have e : val_main_cst (F := Ideal) (Shape.Idx.first h_S_) = 0 := Ideal.ofBits_zero_f32
  rw [e, zero_add]
  have hi : ∀ s, idx_main_v1 (ix2 r k) s = ix3 s r k := fun s => by funext a; fin_cases a <;> rfl
  rw [hi, hi, hi, hi]; rfl

theorem v7_at (r : Fin 256) (k : Fin 1024) : val_main_v7 x m (ix3 0 r k) = mom (m (ix3 0 r k)) (grad (at4 x r k)) := by
  unfold val_main_v7 val_main_v6 val_main_v5 val_main_cst_1 val_main_v4 val_main_v3 val_main_cst_0; pointwise
  rw [v2_at x]; rfl

theorem v13_at (r : Fin 256) (k : Fin 1024) : val_main_v13 x v (ix3 0 r k) = var (v (ix3 0 r k)) (grad (at4 x r k)) := by
  unfold val_main_v13 val_main_v12 val_main_v11 val_main_cst_3 val_main_v10 val_main_v9 val_main_v8 val_main_cst_2; pointwise
  rw [v2_at x]; rfl

theorem v26_at (r : Fin 256) (k : Fin 1024) : val_main_v26 x w m v (ix3 0 r k)
    = upd (w (ix3 0 r k)) (mom (m (ix3 0 r k)) (grad (at4 x r k))) (var (v (ix3 0 r k)) (grad (at4 x r k))) := by
  unfold val_main_v26 val_main_v25 val_main_cst_8 val_main_v24 val_main_v23 val_main_v22 val_main_cst_7 val_main_v21 val_main_v20
    val_main_v19 val_main_cst_6 val_main_v18 val_main_v17 val_main_v16 val_main_cst_5 val_main_v15 val_main_v14 val_main_cst_4; pointwise
  rw [v7_at x, v13_at x]; rfl

end Cert.Reference8Ideal.At

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Final
public import proofs.«01_k».proof.Proof.RefWhole
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.MlpChain
public import proofs.«01_k».proof.Proof.ProjChain
public import proofs.«01_k».proof.Proof.ProjRef
public import proofs.«01_k».proof.Proof.LayChain
public import proofs.«01_k».proof.Proof.LayRef
public import proofs.«01_k».proof.Proof.HeadChain
public import proofs.«01_k».proof.Proof.HeadRef
public import proofs.«01_k».proof.Proof.QkvChain
public import proofs.«01_k».proof.Proof.QkvRef
public import proofs.«01_k».proof.Proof.MlpRef
public import proofs.«01_k».proof.Proof.GateFinal
public import proofs.«01_k».proof.Proof.GateRef
public import proofs.«01_k».proof.Proof.AdamFinal
public import proofs.«01_k».proof.Proof.AdamRef
public import Idealize.ShloMosaic.Adequacy
public import Idealize.ShloMosaic.Init

@[expose] public section

noncomputable section

namespace Cert.Proof

open Idealize.ShloMosaic Idealize.SL.Sem Cert.Kernel

/-- The reference ends with its arguments as they were; it declares no semaphore, so every counter stays at zero. -/
theorem frame_reference : Cert.quiescent_ReferenceIdeal := fun m g _ =>
  (θ_run Cert.ReferenceIdeal.defs _ _).mono
    (fun r h => ⟨fun c => (h c).2.2.2.2.2, sem_eq_zero_of_no_sems (by decide) r.2⟩)
    (Cert.ReferenceIdeal.Value.run m g)

/-- From equal arguments, the kernel and the gradient by differentiation end with the same five arrays over the extended
    reals: those of the projected input, of the layer norm's scale and shift, of the mixing weights and of its bias. -/
theorem algebraic : Cert.algebraic_KernelIdeal_ReferenceIdeal := by
  intro m g m' g' _ hagree
  refine ⟨fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N,
    fun c => (Cert.KernelIdeal.Gen.dats m 0 c).arrAt 10 Cert.KernelIdeal.cfg0.N,
    fun c => (Cert.KernelIdeal.Gen.dats m 0 c).arrAt 11 Cert.KernelIdeal.cfg0.N,
    Cert.KernelIdeal.Value.run_blocks m g,
    (θ_run Cert.ReferenceIdeal.defs _ _).mono (fun r h c => ?_) (Cert.ReferenceIdeal.Value.run m' g')⟩
  obtain ⟨h0, h1, h2, h3, h4, hk⟩ := h c
  obtain ⟨a0, a1, a2, a3, a4, a5⟩ := hagree c
  have ea : Cert.Gmlp.argOf (m' (c.tc.loc Cert.ReferenceIdeal.main_arg0)) (m' (c.tc.loc Cert.ReferenceIdeal.main_arg1))
      (m' (c.tc.loc Cert.ReferenceIdeal.main_arg2)) (m' (c.tc.loc Cert.ReferenceIdeal.main_arg3))
      (m' (c.tc.loc Cert.ReferenceIdeal.main_arg4)) (m' (c.tc.loc Cert.ReferenceIdeal.main_arg5))
      = Cert.KernelIdeal.Chunk.args m c := by
    rw [a0, a1, a2, a3, a4, a5]
  refine ⟨(h0.trans (Cert.ReferenceIdeal.Read.val_main_v166_eq _)).trans ((Cert.ReferenceIdeal.At.v166_eq _ _ _ _ _ _).trans (Eq.trans ?_ (Cert.KernelIdeal.Chunk.final7 m c).symm)),
    (h1.trans (Cert.ReferenceIdeal.Read.val_main_v167_eq _)).trans ((Cert.ReferenceIdeal.At.v167_eq _ _
      (m' (c.tc.loc Cert.ReferenceIdeal.main_arg2)) (m' (c.tc.loc Cert.ReferenceIdeal.main_arg3)) _
      (m' (c.tc.loc Cert.ReferenceIdeal.main_arg5))).trans (Eq.trans ?_ (Cert.KernelIdeal.Chunk.final8 m c).symm)),
    (h2.trans (Cert.ReferenceIdeal.Read.val_main_v168_eq _)).trans ((Cert.ReferenceIdeal.At.v168_eq _ _
      (m' (c.tc.loc Cert.ReferenceIdeal.main_arg2)) (m' (c.tc.loc Cert.ReferenceIdeal.main_arg3)) _
      (m' (c.tc.loc Cert.ReferenceIdeal.main_arg5))).trans (Eq.trans ?_ (Cert.KernelIdeal.Chunk.final9 m c).symm)),
    (h3.trans (Cert.ReferenceIdeal.Read.val_main_v103_eq _)).trans ((Cert.ReferenceIdeal.At.v103_eq _ _ _ _
      (m' (c.tc.loc Cert.ReferenceIdeal.main_arg4)) (m' (c.tc.loc Cert.ReferenceIdeal.main_arg5))).trans (Eq.trans ?_ (Cert.KernelIdeal.Chunk.final10 m c).symm)),
    (h4.trans (Cert.ReferenceIdeal.Read.val_main_v169_eq _)).trans ((Cert.ReferenceIdeal.At.v169_eq _ _
      (m' (c.tc.loc Cert.ReferenceIdeal.main_arg2)) (m' (c.tc.loc Cert.ReferenceIdeal.main_arg3))
      (m' (c.tc.loc Cert.ReferenceIdeal.main_arg4)) (m' (c.tc.loc Cert.ReferenceIdeal.main_arg5))).trans (Eq.trans ?_ (Cert.KernelIdeal.Chunk.final11 m c).symm)), hk⟩
  · exact congrArg (fun A : Fin 32 → Cert.Gmlp.Arg => fun i : (⟨2, ![4096, 2048]⟩ : Shape).Idx =>
      Cert.Gmlp.dUV (A ⟨(i 0).val / 128, by have := (i 0).isLt; simp at this; omega⟩)
        ⟨(i 0).val % 128, Nat.mod_lt _ (by norm_num)⟩ (i 1)) ea
  · exact congrArg (fun A : Fin 32 → Cert.Gmlp.Arg => fun i : (⟨2, ![1, 1024]⟩ : Shape).Idx => ∑ t, Cert.Gmlp.dG (A t) (i 1)) ea
  · exact congrArg (fun A : Fin 32 → Cert.Gmlp.Arg => fun i : (⟨2, ![1, 1024]⟩ : Shape).Idx => ∑ t, Cert.Gmlp.dB (A t) (i 1)) ea
  · exact congrArg (fun A : Fin 32 → Cert.Gmlp.Arg => fun i : (⟨3, ![8, 128, 128]⟩ : Shape).Idx =>
      ∑ t, Cert.Gmlp.dW (A t) (i 0) (i 1) (i 2)) ea
  · exact congrArg (fun A : Fin 32 → Cert.Gmlp.Arg => fun i : (⟨3, ![8, 128, 1]⟩ : Shape).Idx =>
      ∑ t, Cert.Gmlp.dBs (A t) (i 0) (i 1)) ea

/-- The MLP's reference ends with its arguments as they were, and with every counter at zero. -/
theorem frame_reference2 : Cert.quiescent_Reference2Ideal := fun m g _ =>
  (θ_run Cert.Reference2Ideal.defs _ _).mono
    (fun r h => ⟨fun c => (h c).2.2.2.2.2.2, sem_eq_zero_of_no_sems (by decide) r.2⟩)
    (Cert.Reference2Ideal.Value.run m g)

/-- The arguments of the MLP's reference. -/
abbrev mlpArgs (m' : (ℓ : Loc Cert.Reference2Ideal.nD Cert.Reference2Ideal.τ Cert.Reference2Ideal.sig) → Buf (Elt Ideal) ℓ)
    (c : Dev Cert.Reference2Ideal.nD) : Cert.Mlp.Arg :=
  Cert.Mlp.argOf (m' (c.tc.loc Cert.Reference2Ideal.main_arg0)) (m' (c.tc.loc Cert.Reference2Ideal.main_arg1)) (m' (c.tc.loc Cert.Reference2Ideal.main_arg2)) (m' (c.tc.loc Cert.Reference2Ideal.main_arg3)) (m' (c.tc.loc Cert.Reference2Ideal.main_arg4))

/-- From equal arguments, the layer's MLP kernels and the gradient by differentiation end with the same six arrays over the
    extended reals: the cotangents of the residual stream, of the gain and of both weights, the column sums of the first, and the
    first in the narrow format. -/
theorem algebraic2 : Cert.algebraic_Kernel2Ideal_Reference2Ideal := by
  intro m g m' g' _ hagree
  refine ⟨fun c => Cert.Kernel2Ideal.Gen.W7 m g c (Proc.devRef .tc Cert.Kernel2Ideal.main_v18_0), fun c => Cert.Kernel2Ideal.Gen.W7 m g c (Proc.devRef .tc Cert.Kernel2Ideal.main_v18_2), fun c => Cert.Kernel2Ideal.Gen.W7 m g c (Proc.devRef .tc Cert.Kernel2Ideal.main_v17), fun c => Cert.Kernel2Ideal.Gen.W7 m g c (Proc.devRef .tc Cert.Kernel2Ideal.main_v16), fun c => Cert.Kernel2Ideal.Gen.W7 m g c (Proc.devRef .tc Cert.Kernel2Ideal.main_v18_3), fun c => Cert.Kernel2Ideal.Gen.W7 m g c (Proc.devRef .tc Cert.Kernel2Ideal.main_v18_1),
    (θ_run Cert.Kernel2Ideal.defs _ _).mono (fun r h c => ⟨
      h c (Proc.devRef .tc Cert.Kernel2Ideal.main_v18_0) (Cert.Kernel2Ideal.Gen.mem_uc Cert.Kernel2Ideal.main_v18_0 (by decide)),
      h c (Proc.devRef .tc Cert.Kernel2Ideal.main_v18_2) (Cert.Kernel2Ideal.Gen.mem_uc Cert.Kernel2Ideal.main_v18_2 (by decide)),
      h c (Proc.devRef .tc Cert.Kernel2Ideal.main_v17) (Cert.Kernel2Ideal.Gen.mem_uc Cert.Kernel2Ideal.main_v17 (by decide)),
      h c (Proc.devRef .tc Cert.Kernel2Ideal.main_v16) (Cert.Kernel2Ideal.Gen.mem_uc Cert.Kernel2Ideal.main_v16 (by decide)),
      h c (Proc.devRef .tc Cert.Kernel2Ideal.main_v18_3) (Cert.Kernel2Ideal.Gen.mem_uc Cert.Kernel2Ideal.main_v18_3 (by decide)),
      h c (Proc.devRef .tc Cert.Kernel2Ideal.main_v18_1) (Cert.Kernel2Ideal.Gen.mem_uc Cert.Kernel2Ideal.main_v18_1 (by decide)),
      (h c (Proc.devRef .tc Cert.Kernel2Ideal.main_arg0) (Cert.Kernel2Ideal.Gen.mem_uc Cert.Kernel2Ideal.main_arg0 (by decide))).trans (Cert.Kernel2Ideal.Gen.W7_main_arg0 m g c),
      (h c (Proc.devRef .tc Cert.Kernel2Ideal.main_arg1) (Cert.Kernel2Ideal.Gen.mem_uc Cert.Kernel2Ideal.main_arg1 (by decide))).trans (Cert.Kernel2Ideal.Gen.W7_main_arg1 m g c),
      (h c (Proc.devRef .tc Cert.Kernel2Ideal.main_arg2) (Cert.Kernel2Ideal.Gen.mem_uc Cert.Kernel2Ideal.main_arg2 (by decide))).trans (Cert.Kernel2Ideal.Gen.W7_main_arg2 m g c),
      (h c (Proc.devRef .tc Cert.Kernel2Ideal.main_arg3) (Cert.Kernel2Ideal.Gen.mem_uc Cert.Kernel2Ideal.main_arg3 (by decide))).trans (Cert.Kernel2Ideal.Gen.W7_main_arg3 m g c),
      (h c (Proc.devRef .tc Cert.Kernel2Ideal.main_arg4) (Cert.Kernel2Ideal.Gen.mem_uc Cert.Kernel2Ideal.main_arg4 (by decide))).trans (Cert.Kernel2Ideal.Gen.W7_main_arg4 m g c)⟩)
      (Cert.Kernel2Ideal.Body.run m g),
    (θ_run Cert.Reference2Ideal.defs _ _).mono (fun r h c => ?_) (Cert.Reference2Ideal.Value.run m' g')⟩
  obtain ⟨h0, h1, h2, h3, h4, h5, hk⟩ := h c
  obtain ⟨a0, a1, a2, a3, a4⟩ := hagree c
  have ea : mlpArgs m' c = Cert.Kernel2Ideal.Body.args m c := by
    unfold mlpArgs; rw [a0, a1, a2, a3, a4]; rfl
  exact ⟨
    (h0.trans (Cert.Reference2Ideal.Read.val_main_v62_eq _ c)).trans ((Cert.Reference2Ideal.At.v62_eq (m' (c.tc.loc Cert.Reference2Ideal.main_arg0)) (m' (c.tc.loc Cert.Reference2Ideal.main_arg1)) (m' (c.tc.loc Cert.Reference2Ideal.main_arg2)) (m' (c.tc.loc Cert.Reference2Ideal.main_arg3)) (m' (c.tc.loc Cert.Reference2Ideal.main_arg4))).trans
      (Eq.trans (congrArg (fun A : Cert.Mlp.Arg => fun y : (⟨2, ![4096, 1024]⟩ : Shape).Idx => Cert.Mlp.dH A (y 0) (y 1)) ea) (Cert.Kernel2Ideal.Body.res0 m g c).symm)),
    (h1.trans (Cert.Reference2Ideal.Read.val_main_v66_eq (m' (c.tc.loc Cert.Reference2Ideal.main_arg0)) (m' (c.tc.loc Cert.Reference2Ideal.main_arg1)) (m' (c.tc.loc Cert.Reference2Ideal.main_arg2)) (m' (c.tc.loc Cert.Reference2Ideal.main_arg3)) (m' (c.tc.loc Cert.Reference2Ideal.main_arg4)))).trans ((Cert.Reference2Ideal.At.v66_eq (m' (c.tc.loc Cert.Reference2Ideal.main_arg0)) (m' (c.tc.loc Cert.Reference2Ideal.main_arg1)) (m' (c.tc.loc Cert.Reference2Ideal.main_arg2)) (m' (c.tc.loc Cert.Reference2Ideal.main_arg3)) (m' (c.tc.loc Cert.Reference2Ideal.main_arg4))).trans
      (Eq.trans (congrArg (fun A : Cert.Mlp.Arg => fun y : (⟨2, ![1, 1024]⟩ : Shape).Idx => Cert.Mlp.dGain A (y 1)) ea) (Cert.Kernel2Ideal.Body.res1 m g c).symm)),
    (h2.trans (Cert.Reference2Ideal.Read.val_main_v65_eq (m' (c.tc.loc Cert.Reference2Ideal.main_arg0)) (m' (c.tc.loc Cert.Reference2Ideal.main_arg1)) (m' (c.tc.loc Cert.Reference2Ideal.main_arg2)) (m' (c.tc.loc Cert.Reference2Ideal.main_arg3)) (m' (c.tc.loc Cert.Reference2Ideal.main_arg4)))).trans ((Cert.Reference2Ideal.At.v65_eq (m' (c.tc.loc Cert.Reference2Ideal.main_arg0)) (m' (c.tc.loc Cert.Reference2Ideal.main_arg1)) (m' (c.tc.loc Cert.Reference2Ideal.main_arg2)) (m' (c.tc.loc Cert.Reference2Ideal.main_arg3)) (m' (c.tc.loc Cert.Reference2Ideal.main_arg4))).trans
      (Eq.trans (congrArg (fun A : Cert.Mlp.Arg => fun y : (⟨3, ![8, 1024, 512]⟩ : Shape).Idx => Cert.Mlp.gUp A (y 0) (y 1) (y 2)) ea) (Cert.Kernel2Ideal.Body.res2 m g c).symm)),
    (h3.trans (Cert.Reference2Ideal.Read.val_main_v67_eq (m' (c.tc.loc Cert.Reference2Ideal.main_arg0)) (m' (c.tc.loc Cert.Reference2Ideal.main_arg1)) (m' (c.tc.loc Cert.Reference2Ideal.main_arg2)) (m' (c.tc.loc Cert.Reference2Ideal.main_arg4)))).trans ((Cert.Reference2Ideal.At.v67_eq (m' (c.tc.loc Cert.Reference2Ideal.main_arg0)) (m' (c.tc.loc Cert.Reference2Ideal.main_arg1)) (m' (c.tc.loc Cert.Reference2Ideal.main_arg2)) (m' (c.tc.loc Cert.Reference2Ideal.main_arg3)) (m' (c.tc.loc Cert.Reference2Ideal.main_arg4))).trans
      (Eq.trans (congrArg (fun A : Cert.Mlp.Arg => fun y : (⟨2, ![4096, 1024]⟩ : Shape).Idx => Cert.Mlp.gDown A (Cert.Mlp.blk (y 0)) (Cert.Mlp.lane (y 0)) (y 1)) ea) (Cert.Kernel2Ideal.Body.res3 m g c).symm)),
    (h4.trans (Cert.Reference2Ideal.Read.val_main_v69_eq _ c)).trans ((Cert.Reference2Ideal.At.v69_eq (m' (c.tc.loc Cert.Reference2Ideal.main_arg0)) (m' (c.tc.loc Cert.Reference2Ideal.main_arg1)) (m' (c.tc.loc Cert.Reference2Ideal.main_arg2)) (m' (c.tc.loc Cert.Reference2Ideal.main_arg3)) (m' (c.tc.loc Cert.Reference2Ideal.main_arg4))).trans
      (Eq.trans (congrArg (fun A : Cert.Mlp.Arg => fun y : (⟨2, ![1, 1024]⟩ : Shape).Idx => Cert.Mlp.colSum A (y 1)) ea) (Cert.Kernel2Ideal.Body.res4 m g c).symm)),
    (h5.trans (Cert.Reference2Ideal.Read.val_main_v70_eq _ c)).trans ((Cert.Reference2Ideal.At.v70_eq (m' (c.tc.loc Cert.Reference2Ideal.main_arg0)) (m' (c.tc.loc Cert.Reference2Ideal.main_arg1)) (m' (c.tc.loc Cert.Reference2Ideal.main_arg2)) (m' (c.tc.loc Cert.Reference2Ideal.main_arg3)) (m' (c.tc.loc Cert.Reference2Ideal.main_arg4))).trans
      (Eq.trans (congrArg (fun A : Cert.Mlp.Arg => fun y : (⟨2, ![4096, 1024]⟩ : Shape).Idx => Cert.Mlp.dH A (y 0) (y 1)) ea) (Cert.Kernel2Ideal.Body.res5 m g c).symm)), hk⟩

/-- The projections' reference ends with its arguments as they were, and with every counter at zero. -/
theorem frame_reference3 : Cert.quiescent_Reference3Ideal := fun m g _ =>
  (θ_run Cert.Reference3Ideal.defs _ _).mono
    (fun r h => ⟨fun c => (h c).2.2.2.2.2.2.2.2.2, sem_eq_zero_of_no_sems (by decide) r.2⟩)
    (Cert.Reference3Ideal.Value.run m g)

/-- The arguments of the projections' reference. -/
abbrev projArgs (m' : (ℓ : Loc Cert.Reference3Ideal.nD Cert.Reference3Ideal.τ Cert.Reference3Ideal.sig) → Buf (Elt Ideal) ℓ)
    (c : Dev Cert.Reference3Ideal.nD) : Cert.Proj.Arg :=
  Cert.Proj.argOf (m' (c.tc.loc Cert.Reference3Ideal.main_arg0)) (m' (c.tc.loc Cert.Reference3Ideal.main_arg1)) (m' (c.tc.loc Cert.Reference3Ideal.main_arg2)) (m' (c.tc.loc Cert.Reference3Ideal.main_arg3)) (m' (c.tc.loc Cert.Reference3Ideal.main_arg4)) (m' (c.tc.loc Cert.Reference3Ideal.main_arg5)) (m' (c.tc.loc Cert.Reference3Ideal.main_arg6))

/-- From equal arguments, the projections' kernels and the gradient by differentiation end with the same nine arrays over the
    extended reals: the normalised rows, the two products, the cotangents of both weights, of the residual stream and of the gain,
    the column sums of the residual stream's cotangent, and that cotangent in the narrow format. -/
theorem algebraic3 : Cert.algebraic_Kernel3Ideal_Reference3Ideal := by
  intro m g m' g' _ hagree
  refine ⟨fun c => Cert.Kernel3Ideal.Gen.W6 m g c (Proc.devRef .tc Cert.Kernel3Ideal.main_v0_0), fun c => Cert.Kernel3Ideal.Gen.W6 m g c (Proc.devRef .tc Cert.Kernel3Ideal.main_v0_1), fun c => Cert.Kernel3Ideal.Gen.W6 m g c (Proc.devRef .tc Cert.Kernel3Ideal.main_v1), fun c => Cert.Kernel3Ideal.Gen.W6 m g c (Proc.devRef .tc Cert.Kernel3Ideal.main_v2), fun c => Cert.Kernel3Ideal.Gen.W6 m g c (Proc.devRef .tc Cert.Kernel3Ideal.main_v3), fun c => Cert.Kernel3Ideal.Gen.W6 m g c (Proc.devRef .tc Cert.Kernel3Ideal.main_v5_0), fun c => Cert.Kernel3Ideal.Gen.W6 m g c (Proc.devRef .tc Cert.Kernel3Ideal.main_v5_2), fun c => Cert.Kernel3Ideal.Gen.W6 m g c (Proc.devRef .tc Cert.Kernel3Ideal.main_v5_3), fun c => Cert.Kernel3Ideal.Gen.W6 m g c (Proc.devRef .tc Cert.Kernel3Ideal.main_v5_1),
    (θ_run Cert.Kernel3Ideal.defs _ _).mono (fun r h c => ⟨
      h c (Proc.devRef .tc Cert.Kernel3Ideal.main_v0_0) (Cert.Kernel3Ideal.Gen.mem_uc Cert.Kernel3Ideal.main_v0_0 (by decide)),
      h c (Proc.devRef .tc Cert.Kernel3Ideal.main_v0_1) (Cert.Kernel3Ideal.Gen.mem_uc Cert.Kernel3Ideal.main_v0_1 (by decide)),
      h c (Proc.devRef .tc Cert.Kernel3Ideal.main_v1) (Cert.Kernel3Ideal.Gen.mem_uc Cert.Kernel3Ideal.main_v1 (by decide)),
      h c (Proc.devRef .tc Cert.Kernel3Ideal.main_v2) (Cert.Kernel3Ideal.Gen.mem_uc Cert.Kernel3Ideal.main_v2 (by decide)),
      h c (Proc.devRef .tc Cert.Kernel3Ideal.main_v3) (Cert.Kernel3Ideal.Gen.mem_uc Cert.Kernel3Ideal.main_v3 (by decide)),
      h c (Proc.devRef .tc Cert.Kernel3Ideal.main_v5_0) (Cert.Kernel3Ideal.Gen.mem_uc Cert.Kernel3Ideal.main_v5_0 (by decide)),
      h c (Proc.devRef .tc Cert.Kernel3Ideal.main_v5_2) (Cert.Kernel3Ideal.Gen.mem_uc Cert.Kernel3Ideal.main_v5_2 (by decide)),
      h c (Proc.devRef .tc Cert.Kernel3Ideal.main_v5_3) (Cert.Kernel3Ideal.Gen.mem_uc Cert.Kernel3Ideal.main_v5_3 (by decide)),
      h c (Proc.devRef .tc Cert.Kernel3Ideal.main_v5_1) (Cert.Kernel3Ideal.Gen.mem_uc Cert.Kernel3Ideal.main_v5_1 (by decide)),
      (h c (Proc.devRef .tc Cert.Kernel3Ideal.main_arg0) (Cert.Kernel3Ideal.Gen.mem_uc Cert.Kernel3Ideal.main_arg0 (by decide))).trans (Cert.Kernel3Ideal.Gen.W6_main_arg0 m g c),
      (h c (Proc.devRef .tc Cert.Kernel3Ideal.main_arg1) (Cert.Kernel3Ideal.Gen.mem_uc Cert.Kernel3Ideal.main_arg1 (by decide))).trans (Cert.Kernel3Ideal.Gen.W6_main_arg1 m g c),
      (h c (Proc.devRef .tc Cert.Kernel3Ideal.main_arg2) (Cert.Kernel3Ideal.Gen.mem_uc Cert.Kernel3Ideal.main_arg2 (by decide))).trans (Cert.Kernel3Ideal.Gen.W6_main_arg2 m g c),
      (h c (Proc.devRef .tc Cert.Kernel3Ideal.main_arg3) (Cert.Kernel3Ideal.Gen.mem_uc Cert.Kernel3Ideal.main_arg3 (by decide))).trans (Cert.Kernel3Ideal.Gen.W6_main_arg3 m g c),
      (h c (Proc.devRef .tc Cert.Kernel3Ideal.main_arg4) (Cert.Kernel3Ideal.Gen.mem_uc Cert.Kernel3Ideal.main_arg4 (by decide))).trans (Cert.Kernel3Ideal.Gen.W6_main_arg4 m g c),
      (h c (Proc.devRef .tc Cert.Kernel3Ideal.main_arg5) (Cert.Kernel3Ideal.Gen.mem_uc Cert.Kernel3Ideal.main_arg5 (by decide))).trans (Cert.Kernel3Ideal.Gen.W6_main_arg5 m g c),
      (h c (Proc.devRef .tc Cert.Kernel3Ideal.main_arg6) (Cert.Kernel3Ideal.Gen.mem_uc Cert.Kernel3Ideal.main_arg6 (by decide))).trans (Cert.Kernel3Ideal.Gen.W6_main_arg6 m g c)⟩)
      (Cert.Kernel3Ideal.Body.run m g),
    (θ_run Cert.Reference3Ideal.defs _ _).mono (fun r h c => ?_) (Cert.Reference3Ideal.Value.run m' g')⟩
  obtain ⟨h0, h1, h2, h3, h4, h5, h6, h7, h8, hk⟩ := h c
  obtain ⟨a0, a1, a2, a3, a4, a5, a6⟩ := hagree c
  have ea : projArgs m' c = Cert.Kernel3Ideal.Body.args m c := by
    unfold projArgs; rw [a0, a1, a2, a3, a4, a5, a6]; rfl
  exact ⟨
    (h0.trans (Cert.Reference3Ideal.Read.val_main_v65_eq (m' (c.tc.loc Cert.Reference3Ideal.main_arg0)) (m' (c.tc.loc Cert.Reference3Ideal.main_arg1)))).trans ((Cert.Reference3Ideal.At.v65_eq (m' (c.tc.loc Cert.Reference3Ideal.main_arg0)) (m' (c.tc.loc Cert.Reference3Ideal.main_arg1)) (m' (c.tc.loc Cert.Reference3Ideal.main_arg2)) (m' (c.tc.loc Cert.Reference3Ideal.main_arg3)) (m' (c.tc.loc Cert.Reference3Ideal.main_arg4)) (m' (c.tc.loc Cert.Reference3Ideal.main_arg5)) (m' (c.tc.loc Cert.Reference3Ideal.main_arg6))).trans
      (Eq.trans (congrArg (fun A : Cert.Proj.Arg => fun i : (⟨2, ![4096, 1024]⟩ : Shape).Idx => Cert.Proj.y A (i 0) (i 1)) ea) (Cert.Kernel3Ideal.Body.res0 m g c).symm)),
    (h1.trans (Cert.Reference3Ideal.Read.val_main_v19_eq (m' (c.tc.loc Cert.Reference3Ideal.main_arg0)) (m' (c.tc.loc Cert.Reference3Ideal.main_arg1)) (m' (c.tc.loc Cert.Reference3Ideal.main_arg2)))).trans ((Cert.Reference3Ideal.At.v19_eq (m' (c.tc.loc Cert.Reference3Ideal.main_arg0)) (m' (c.tc.loc Cert.Reference3Ideal.main_arg1)) (m' (c.tc.loc Cert.Reference3Ideal.main_arg2)) (m' (c.tc.loc Cert.Reference3Ideal.main_arg3)) (m' (c.tc.loc Cert.Reference3Ideal.main_arg4)) (m' (c.tc.loc Cert.Reference3Ideal.main_arg5)) (m' (c.tc.loc Cert.Reference3Ideal.main_arg6))).trans
      (Eq.trans (congrArg (fun A : Cert.Proj.Arg => fun i : (⟨2, ![4096, 2048]⟩ : Shape).Idx => Cert.Proj.uv A (i 0) (i 1)) ea) (Cert.Kernel3Ideal.Body.res1 m g c).symm)),
    (h2.trans (Cert.Reference3Ideal.Read.val_main_v20_eq (m' (c.tc.loc Cert.Reference3Ideal.main_arg0)) (m' (c.tc.loc Cert.Reference3Ideal.main_arg1)) (m' (c.tc.loc Cert.Reference3Ideal.main_arg3)))).trans ((Cert.Reference3Ideal.At.v20_eq (m' (c.tc.loc Cert.Reference3Ideal.main_arg0)) (m' (c.tc.loc Cert.Reference3Ideal.main_arg1)) (m' (c.tc.loc Cert.Reference3Ideal.main_arg2)) (m' (c.tc.loc Cert.Reference3Ideal.main_arg3)) (m' (c.tc.loc Cert.Reference3Ideal.main_arg4)) (m' (c.tc.loc Cert.Reference3Ideal.main_arg5)) (m' (c.tc.loc Cert.Reference3Ideal.main_arg6))).trans
      (Eq.trans (congrArg (fun A : Cert.Proj.Arg => fun i : (⟨2, ![4096, 3200]⟩ : Shape).Idx => Cert.Proj.rest A (i 0) (i 1)) ea) (Cert.Kernel3Ideal.Body.res2 m g c).symm)),
    (h3.trans (Cert.Reference3Ideal.Read.val_main_v66_eq (m' (c.tc.loc Cert.Reference3Ideal.main_arg0)) (m' (c.tc.loc Cert.Reference3Ideal.main_arg1)) (m' (c.tc.loc Cert.Reference3Ideal.main_arg4)))).trans ((Cert.Reference3Ideal.At.v66_eq (m' (c.tc.loc Cert.Reference3Ideal.main_arg0)) (m' (c.tc.loc Cert.Reference3Ideal.main_arg1)) (m' (c.tc.loc Cert.Reference3Ideal.main_arg2)) (m' (c.tc.loc Cert.Reference3Ideal.main_arg3)) (m' (c.tc.loc Cert.Reference3Ideal.main_arg4)) (m' (c.tc.loc Cert.Reference3Ideal.main_arg5)) (m' (c.tc.loc Cert.Reference3Ideal.main_arg6))).trans
      (Eq.trans (congrArg (fun A : Cert.Proj.Arg => fun i : (⟨2, ![1024, 2048]⟩ : Shape).Idx => Cert.Proj.gU A (i 0) (i 1)) ea) (Cert.Kernel3Ideal.Body.res3 m g c).symm)),
    (h4.trans (Cert.Reference3Ideal.Read.val_main_v67_eq (m' (c.tc.loc Cert.Reference3Ideal.main_arg0)) (m' (c.tc.loc Cert.Reference3Ideal.main_arg1)) (m' (c.tc.loc Cert.Reference3Ideal.main_arg5)))).trans ((Cert.Reference3Ideal.At.v67_eq (m' (c.tc.loc Cert.Reference3Ideal.main_arg0)) (m' (c.tc.loc Cert.Reference3Ideal.main_arg1)) (m' (c.tc.loc Cert.Reference3Ideal.main_arg2)) (m' (c.tc.loc Cert.Reference3Ideal.main_arg3)) (m' (c.tc.loc Cert.Reference3Ideal.main_arg4)) (m' (c.tc.loc Cert.Reference3Ideal.main_arg5)) (m' (c.tc.loc Cert.Reference3Ideal.main_arg6))).trans
      (Eq.trans (congrArg (fun A : Cert.Proj.Arg => fun i : (⟨2, ![1024, 3200]⟩ : Shape).Idx => Cert.Proj.gR A (i 0) (i 1)) ea) (Cert.Kernel3Ideal.Body.res4 m g c).symm)),
    (h5.trans (Cert.Reference3Ideal.Read.val_main_v50_eq _ c)).trans ((Cert.Reference3Ideal.At.v50_eq (m' (c.tc.loc Cert.Reference3Ideal.main_arg0)) (m' (c.tc.loc Cert.Reference3Ideal.main_arg1)) (m' (c.tc.loc Cert.Reference3Ideal.main_arg2)) (m' (c.tc.loc Cert.Reference3Ideal.main_arg3)) (m' (c.tc.loc Cert.Reference3Ideal.main_arg4)) (m' (c.tc.loc Cert.Reference3Ideal.main_arg5)) (m' (c.tc.loc Cert.Reference3Ideal.main_arg6))).trans
      (Eq.trans (congrArg (fun A : Cert.Proj.Arg => fun i : (⟨2, ![4096, 1024]⟩ : Shape).Idx => Cert.Proj.dH A (i 0) (i 1)) ea) (Cert.Kernel3Ideal.Body.res5 m g c).symm)),
    (h6.trans (Cert.Reference3Ideal.Read.val_main_v68_eq (m' (c.tc.loc Cert.Reference3Ideal.main_arg0)) (m' (c.tc.loc Cert.Reference3Ideal.main_arg2)) (m' (c.tc.loc Cert.Reference3Ideal.main_arg3)) (m' (c.tc.loc Cert.Reference3Ideal.main_arg4)) (m' (c.tc.loc Cert.Reference3Ideal.main_arg5)))).trans ((Cert.Reference3Ideal.At.v68_eq (m' (c.tc.loc Cert.Reference3Ideal.main_arg0)) (m' (c.tc.loc Cert.Reference3Ideal.main_arg1)) (m' (c.tc.loc Cert.Reference3Ideal.main_arg2)) (m' (c.tc.loc Cert.Reference3Ideal.main_arg3)) (m' (c.tc.loc Cert.Reference3Ideal.main_arg4)) (m' (c.tc.loc Cert.Reference3Ideal.main_arg5)) (m' (c.tc.loc Cert.Reference3Ideal.main_arg6))).trans
      (Eq.trans (congrArg (fun A : Cert.Proj.Arg => fun i : (⟨2, ![1, 1024]⟩ : Shape).Idx => Cert.Proj.dGain A (i 1)) ea) (Cert.Kernel3Ideal.Body.res6 m g c).symm)),
    (h7.trans (Cert.Reference3Ideal.Read.val_main_v70_eq _ c)).trans ((Cert.Reference3Ideal.At.v70_eq (m' (c.tc.loc Cert.Reference3Ideal.main_arg0)) (m' (c.tc.loc Cert.Reference3Ideal.main_arg1)) (m' (c.tc.loc Cert.Reference3Ideal.main_arg2)) (m' (c.tc.loc Cert.Reference3Ideal.main_arg3)) (m' (c.tc.loc Cert.Reference3Ideal.main_arg4)) (m' (c.tc.loc Cert.Reference3Ideal.main_arg5)) (m' (c.tc.loc Cert.Reference3Ideal.main_arg6))).trans
      (Eq.trans (congrArg (fun A : Cert.Proj.Arg => fun i : (⟨2, ![1, 1024]⟩ : Shape).Idx => Cert.Proj.colSum A (i 1)) ea) (Cert.Kernel3Ideal.Body.res7 m g c).symm)),
    (h8.trans (Cert.Reference3Ideal.Read.val_main_v71_eq _ c)).trans ((Cert.Reference3Ideal.At.v71_eq (m' (c.tc.loc Cert.Reference3Ideal.main_arg0)) (m' (c.tc.loc Cert.Reference3Ideal.main_arg1)) (m' (c.tc.loc Cert.Reference3Ideal.main_arg2)) (m' (c.tc.loc Cert.Reference3Ideal.main_arg3)) (m' (c.tc.loc Cert.Reference3Ideal.main_arg4)) (m' (c.tc.loc Cert.Reference3Ideal.main_arg5)) (m' (c.tc.loc Cert.Reference3Ideal.main_arg6))).trans
      (Eq.trans (congrArg (fun A : Cert.Proj.Arg => fun i : (⟨2, ![4096, 1024]⟩ : Shape).Idx => Cert.Proj.dH A (i 0) (i 1)) ea) (Cert.Kernel3Ideal.Body.res8 m g c).symm)), hk⟩

/-- The reference of the output projection, the MLP and the next input projection ends with its arguments as they were, and with
    every counter at zero. -/
theorem frame_reference4 : Cert.quiescent_Reference4Ideal := fun m g _ =>
  (θ_run Cert.Reference4Ideal.defs _ _).mono
    (fun r h => ⟨fun c => (h c).2.2.2.2.2.2, sem_eq_zero_of_no_sems (by decide) r.2⟩)
    (Cert.Reference4Ideal.Value.run m g)

/-- The arguments of that reference. -/
abbrev layArgs (m' : (ℓ : Loc Cert.Reference4Ideal.nD Cert.Reference4Ideal.τ Cert.Reference4Ideal.sig) → Buf (Elt Ideal) ℓ)
    (c : Dev Cert.Reference4Ideal.nD) : Cert.Lay.Arg :=
  Cert.Lay.argOf (m' (c.tc.loc Cert.Reference4Ideal.main_arg0)) (m' (c.tc.loc Cert.Reference4Ideal.main_arg1)) (m' (c.tc.loc Cert.Reference4Ideal.main_arg2)) (m' (c.tc.loc Cert.Reference4Ideal.main_arg3)) (m' (c.tc.loc Cert.Reference4Ideal.main_arg4)) (m' (c.tc.loc Cert.Reference4Ideal.main_arg5)) (m' (c.tc.loc Cert.Reference4Ideal.main_arg6)) (m' (c.tc.loc Cert.Reference4Ideal.main_arg7)) (m' (c.tc.loc Cert.Reference4Ideal.main_arg8)) (m' (c.tc.loc Cert.Reference4Ideal.main_arg9)) (m' (c.tc.loc Cert.Reference4Ideal.main_arg10))

/-- From equal arguments, the kernels and the reference end with the same six arrays over the extended reals: the residual stream
    after the output projection and after the MLP, the latter's normalised rows, the next input projection, and the cotangents of
    the output projection's rows and weight. -/
theorem algebraic4 : Cert.algebraic_Kernel4Ideal_Reference4Ideal := by
  intro m g m' g' _ hagree
  refine ⟨fun c => Cert.Kernel4Ideal.Gen.W6 m g c (Proc.devRef .tc Cert.Kernel4Ideal.main_v0_0), fun c => Cert.Kernel4Ideal.Gen.W6 m g c (Proc.devRef .tc Cert.Kernel4Ideal.main_v2_0), fun c => Cert.Kernel4Ideal.Gen.W6 m g c (Proc.devRef .tc Cert.Kernel4Ideal.main_v2_1), fun c => Cert.Kernel4Ideal.Gen.W6 m g c (Proc.devRef .tc Cert.Kernel4Ideal.main_v3), fun c => Cert.Kernel4Ideal.Gen.W6 m g c (Proc.devRef .tc Cert.Kernel4Ideal.main_v4), fun c => Cert.Kernel4Ideal.Gen.W6 m g c (Proc.devRef .tc Cert.Kernel4Ideal.main_v5),
    (θ_run Cert.Kernel4Ideal.defs _ _).mono (fun r h c => ⟨
      h c (Proc.devRef .tc Cert.Kernel4Ideal.main_v0_0) (Cert.Kernel4Ideal.Gen.mem_uc Cert.Kernel4Ideal.main_v0_0 (by decide)),
      h c (Proc.devRef .tc Cert.Kernel4Ideal.main_v2_0) (Cert.Kernel4Ideal.Gen.mem_uc Cert.Kernel4Ideal.main_v2_0 (by decide)),
      h c (Proc.devRef .tc Cert.Kernel4Ideal.main_v2_1) (Cert.Kernel4Ideal.Gen.mem_uc Cert.Kernel4Ideal.main_v2_1 (by decide)),
      h c (Proc.devRef .tc Cert.Kernel4Ideal.main_v3) (Cert.Kernel4Ideal.Gen.mem_uc Cert.Kernel4Ideal.main_v3 (by decide)),
      h c (Proc.devRef .tc Cert.Kernel4Ideal.main_v4) (Cert.Kernel4Ideal.Gen.mem_uc Cert.Kernel4Ideal.main_v4 (by decide)),
      h c (Proc.devRef .tc Cert.Kernel4Ideal.main_v5) (Cert.Kernel4Ideal.Gen.mem_uc Cert.Kernel4Ideal.main_v5 (by decide)),
      (h c (Proc.devRef .tc Cert.Kernel4Ideal.main_arg0) (Cert.Kernel4Ideal.Gen.mem_uc Cert.Kernel4Ideal.main_arg0 (by decide))).trans (Cert.Kernel4Ideal.Gen.W6_main_arg0 m g c),
      (h c (Proc.devRef .tc Cert.Kernel4Ideal.main_arg1) (Cert.Kernel4Ideal.Gen.mem_uc Cert.Kernel4Ideal.main_arg1 (by decide))).trans (Cert.Kernel4Ideal.Gen.W6_main_arg1 m g c),
      (h c (Proc.devRef .tc Cert.Kernel4Ideal.main_arg2) (Cert.Kernel4Ideal.Gen.mem_uc Cert.Kernel4Ideal.main_arg2 (by decide))).trans (Cert.Kernel4Ideal.Gen.W6_main_arg2 m g c),
      (h c (Proc.devRef .tc Cert.Kernel4Ideal.main_arg3) (Cert.Kernel4Ideal.Gen.mem_uc Cert.Kernel4Ideal.main_arg3 (by decide))).trans (Cert.Kernel4Ideal.Gen.W6_main_arg3 m g c),
      (h c (Proc.devRef .tc Cert.Kernel4Ideal.main_arg4) (Cert.Kernel4Ideal.Gen.mem_uc Cert.Kernel4Ideal.main_arg4 (by decide))).trans (Cert.Kernel4Ideal.Gen.W6_main_arg4 m g c),
      (h c (Proc.devRef .tc Cert.Kernel4Ideal.main_arg5) (Cert.Kernel4Ideal.Gen.mem_uc Cert.Kernel4Ideal.main_arg5 (by decide))).trans (Cert.Kernel4Ideal.Gen.W6_main_arg5 m g c),
      (h c (Proc.devRef .tc Cert.Kernel4Ideal.main_arg6) (Cert.Kernel4Ideal.Gen.mem_uc Cert.Kernel4Ideal.main_arg6 (by decide))).trans (Cert.Kernel4Ideal.Gen.W6_main_arg6 m g c),
      (h c (Proc.devRef .tc Cert.Kernel4Ideal.main_arg7) (Cert.Kernel4Ideal.Gen.mem_uc Cert.Kernel4Ideal.main_arg7 (by decide))).trans (Cert.Kernel4Ideal.Gen.W6_main_arg7 m g c),
      (h c (Proc.devRef .tc Cert.Kernel4Ideal.main_arg8) (Cert.Kernel4Ideal.Gen.mem_uc Cert.Kernel4Ideal.main_arg8 (by decide))).trans (Cert.Kernel4Ideal.Gen.W6_main_arg8 m g c),
      (h c (Proc.devRef .tc Cert.Kernel4Ideal.main_arg9) (Cert.Kernel4Ideal.Gen.mem_uc Cert.Kernel4Ideal.main_arg9 (by decide))).trans (Cert.Kernel4Ideal.Gen.W6_main_arg9 m g c),
      (h c (Proc.devRef .tc Cert.Kernel4Ideal.main_arg10) (Cert.Kernel4Ideal.Gen.mem_uc Cert.Kernel4Ideal.main_arg10 (by decide))).trans (Cert.Kernel4Ideal.Gen.W6_main_arg10 m g c)⟩)
      (Cert.Kernel4Ideal.Body.run m g),
    (θ_run Cert.Reference4Ideal.defs _ _).mono (fun r h c => ?_) (Cert.Reference4Ideal.Value.run m' g')⟩
  obtain ⟨h0, h1, h2, h3, h4, h5, hk⟩ := h c
  obtain ⟨a0, a1, a2, a3, a4, a5, a6, a7, a8, a9, a10⟩ := hagree c
  have ea : layArgs m' c = Cert.Kernel4Ideal.Body.args m c := by
    unfold layArgs; rw [a0, a1, a2, a3, a4, a5, a6, a7, a8, a9, a10]; rfl
  exact ⟨
    (h0.trans (Cert.Reference4Ideal.Read.val_main_v3_eq (m' (c.tc.loc Cert.Reference4Ideal.main_arg0)) (m' (c.tc.loc Cert.Reference4Ideal.main_arg1)) (m' (c.tc.loc Cert.Reference4Ideal.main_arg2)))).trans ((Cert.Reference4Ideal.At.v3_eq (m' (c.tc.loc Cert.Reference4Ideal.main_arg0)) (m' (c.tc.loc Cert.Reference4Ideal.main_arg1)) (m' (c.tc.loc Cert.Reference4Ideal.main_arg2)) (m' (c.tc.loc Cert.Reference4Ideal.main_arg3)) (m' (c.tc.loc Cert.Reference4Ideal.main_arg4)) (m' (c.tc.loc Cert.Reference4Ideal.main_arg5)) (m' (c.tc.loc Cert.Reference4Ideal.main_arg6)) (m' (c.tc.loc Cert.Reference4Ideal.main_arg7)) (m' (c.tc.loc Cert.Reference4Ideal.main_arg8)) (m' (c.tc.loc Cert.Reference4Ideal.main_arg9)) (m' (c.tc.loc Cert.Reference4Ideal.main_arg10))).trans
      (Eq.trans (congrArg (fun A : Cert.Lay.Arg => fun i : (⟨2, ![4096, 1024]⟩ : Shape).Idx => Cert.Lay.h1 A (i 0) (i 1)) ea) (Cert.Kernel4Ideal.Body.res0 m g c).symm)),
    (h1.trans (Cert.Reference4Ideal.Read.val_main_v32_eq _ c)).trans ((Cert.Reference4Ideal.At.v32_eq (m' (c.tc.loc Cert.Reference4Ideal.main_arg0)) (m' (c.tc.loc Cert.Reference4Ideal.main_arg1)) (m' (c.tc.loc Cert.Reference4Ideal.main_arg2)) (m' (c.tc.loc Cert.Reference4Ideal.main_arg3)) (m' (c.tc.loc Cert.Reference4Ideal.main_arg4)) (m' (c.tc.loc Cert.Reference4Ideal.main_arg5)) (m' (c.tc.loc Cert.Reference4Ideal.main_arg6)) (m' (c.tc.loc Cert.Reference4Ideal.main_arg7)) (m' (c.tc.loc Cert.Reference4Ideal.main_arg8)) (m' (c.tc.loc Cert.Reference4Ideal.main_arg9)) (m' (c.tc.loc Cert.Reference4Ideal.main_arg10))).trans
      (Eq.trans (congrArg (fun A : Cert.Lay.Arg => fun i : (⟨2, ![4096, 1024]⟩ : Shape).Idx => Cert.Lay.h2 A (i 0) (i 1)) ea) (Cert.Kernel4Ideal.Body.res1 m g c).symm)),
    (h2.trans (Cert.Reference4Ideal.Read.val_main_v47_eq _ c)).trans ((Cert.Reference4Ideal.At.v47_eq (m' (c.tc.loc Cert.Reference4Ideal.main_arg0)) (m' (c.tc.loc Cert.Reference4Ideal.main_arg1)) (m' (c.tc.loc Cert.Reference4Ideal.main_arg2)) (m' (c.tc.loc Cert.Reference4Ideal.main_arg3)) (m' (c.tc.loc Cert.Reference4Ideal.main_arg4)) (m' (c.tc.loc Cert.Reference4Ideal.main_arg5)) (m' (c.tc.loc Cert.Reference4Ideal.main_arg6)) (m' (c.tc.loc Cert.Reference4Ideal.main_arg7)) (m' (c.tc.loc Cert.Reference4Ideal.main_arg8)) (m' (c.tc.loc Cert.Reference4Ideal.main_arg9)) (m' (c.tc.loc Cert.Reference4Ideal.main_arg10))).trans
      (Eq.trans (congrArg (fun A : Cert.Lay.Arg => fun i : (⟨2, ![4096, 1024]⟩ : Shape).Idx => Cert.Lay.y2 A (i 0) (i 1)) ea) (Cert.Kernel4Ideal.Body.res2 m g c).symm)),
    (h3.trans (Cert.Reference4Ideal.Read.val_main_v54_eq _ c)).trans ((Cert.Reference4Ideal.At.v54_eq (m' (c.tc.loc Cert.Reference4Ideal.main_arg0)) (m' (c.tc.loc Cert.Reference4Ideal.main_arg1)) (m' (c.tc.loc Cert.Reference4Ideal.main_arg2)) (m' (c.tc.loc Cert.Reference4Ideal.main_arg3)) (m' (c.tc.loc Cert.Reference4Ideal.main_arg4)) (m' (c.tc.loc Cert.Reference4Ideal.main_arg5)) (m' (c.tc.loc Cert.Reference4Ideal.main_arg6)) (m' (c.tc.loc Cert.Reference4Ideal.main_arg7)) (m' (c.tc.loc Cert.Reference4Ideal.main_arg8)) (m' (c.tc.loc Cert.Reference4Ideal.main_arg9)) (m' (c.tc.loc Cert.Reference4Ideal.main_arg10))).trans
      (Eq.trans (congrArg (fun A : Cert.Lay.Arg => fun i : (⟨2, ![4096, 1280]⟩ : Shape).Idx => Cert.Lay.qkv A (i 0) (i 1)) ea) (Cert.Kernel4Ideal.Body.res3 m g c).symm)),
    (h4.trans (Cert.Reference4Ideal.Read.val_main_v7_eq (m' (c.tc.loc Cert.Reference4Ideal.main_arg1)) (m' (c.tc.loc Cert.Reference4Ideal.main_arg10)))).trans ((Cert.Reference4Ideal.At.v7_eq (m' (c.tc.loc Cert.Reference4Ideal.main_arg0)) (m' (c.tc.loc Cert.Reference4Ideal.main_arg1)) (m' (c.tc.loc Cert.Reference4Ideal.main_arg2)) (m' (c.tc.loc Cert.Reference4Ideal.main_arg3)) (m' (c.tc.loc Cert.Reference4Ideal.main_arg4)) (m' (c.tc.loc Cert.Reference4Ideal.main_arg5)) (m' (c.tc.loc Cert.Reference4Ideal.main_arg6)) (m' (c.tc.loc Cert.Reference4Ideal.main_arg7)) (m' (c.tc.loc Cert.Reference4Ideal.main_arg8)) (m' (c.tc.loc Cert.Reference4Ideal.main_arg9)) (m' (c.tc.loc Cert.Reference4Ideal.main_arg10))).trans
      (Eq.trans (congrArg (fun A : Cert.Lay.Arg => fun i : (⟨2, ![4096, 2048]⟩ : Shape).Idx => Cert.Lay.dMix A (i 0) (i 1)) ea) (Cert.Kernel4Ideal.Body.res4 m g c).symm)),
    (h5.trans (Cert.Reference4Ideal.Read.val_main_v55_eq (m' (c.tc.loc Cert.Reference4Ideal.main_arg0)) (m' (c.tc.loc Cert.Reference4Ideal.main_arg10)))).trans ((Cert.Reference4Ideal.At.v55_eq (m' (c.tc.loc Cert.Reference4Ideal.main_arg0)) (m' (c.tc.loc Cert.Reference4Ideal.main_arg1)) (m' (c.tc.loc Cert.Reference4Ideal.main_arg2)) (m' (c.tc.loc Cert.Reference4Ideal.main_arg3)) (m' (c.tc.loc Cert.Reference4Ideal.main_arg4)) (m' (c.tc.loc Cert.Reference4Ideal.main_arg5)) (m' (c.tc.loc Cert.Reference4Ideal.main_arg6)) (m' (c.tc.loc Cert.Reference4Ideal.main_arg7)) (m' (c.tc.loc Cert.Reference4Ideal.main_arg8)) (m' (c.tc.loc Cert.Reference4Ideal.main_arg9)) (m' (c.tc.loc Cert.Reference4Ideal.main_arg10))).trans
      (Eq.trans (congrArg (fun A : Cert.Lay.Arg => fun i : (⟨2, ![2048, 1024]⟩ : Shape).Idx => Cert.Lay.gOut A (i 0) (i 1)) ea) (Cert.Kernel4Ideal.Body.res5 m g c).symm)), hk⟩

/-- The reference of layer 1's output projection and MLP with the loss ends with its arguments as they were, and with every counter
    at zero. -/
theorem frame_reference5 : Cert.quiescent_Reference5Ideal := fun m g _ =>
  (θ_run Cert.Reference5Ideal.defs _ _).mono
    (fun r h => ⟨fun c => (h c).2.2.2.2.2.2.2, sem_eq_zero_of_no_sems (by decide) r.2⟩)
    (Cert.Reference5Ideal.Value.run m g)

/-- The arguments of that reference. -/
abbrev headArgs (m' : (ℓ : Loc Cert.Reference5Ideal.nD Cert.Reference5Ideal.τ Cert.Reference5Ideal.sig) → Buf (Elt Ideal) ℓ)
    (c : Dev Cert.Reference5Ideal.nD) : Cert.Head.Arg :=
  Cert.Head.argOf (m' (c.tc.loc Cert.Reference5Ideal.main_arg0)) (m' (c.tc.loc Cert.Reference5Ideal.main_arg1)) (m' (c.tc.loc Cert.Reference5Ideal.main_arg2)) (m' (c.tc.loc Cert.Reference5Ideal.main_arg3)) (m' (c.tc.loc Cert.Reference5Ideal.main_arg4)) (m' (c.tc.loc Cert.Reference5Ideal.main_arg5)) (m' (c.tc.loc Cert.Reference5Ideal.main_arg6)) (m' (c.tc.loc Cert.Reference5Ideal.main_arg7)) (m' (c.tc.loc Cert.Reference5Ideal.main_arg8)) (m' (c.tc.loc Cert.Reference5Ideal.main_arg9))

/-- From equal arguments, the kernels and the reference end with the same seven arrays over the extended reals: the residual stream
    after the output projection, the loss, its gradient with respect to the last rows, twice, and to the last gain, and the gradients
    of the output projection's weight and rows. -/
theorem algebraic5 : Cert.algebraic_Kernel5Ideal_Reference5Ideal := by
  intro m g m' g' _ hagree
  refine ⟨fun c => Cert.Kernel5Ideal.Gen.W5 m g c (Proc.devRef .tc Cert.Kernel5Ideal.main_v0_0), fun c => Cert.Kernel5Ideal.Gen.W5 m g c (Proc.devRef .tc Cert.Kernel5Ideal.main_v2_0), fun c => Cert.Kernel5Ideal.Gen.W5 m g c (Proc.devRef .tc Cert.Kernel5Ideal.main_v2_1), fun c => Cert.Kernel5Ideal.Gen.W5 m g c (Proc.devRef .tc Cert.Kernel5Ideal.main_v2_2), fun c => Cert.Kernel5Ideal.Gen.W5 m g c (Proc.devRef .tc Cert.Kernel5Ideal.main_v2_3), fun c => Cert.Kernel5Ideal.Gen.W5 m g c (Proc.devRef .tc Cert.Kernel5Ideal.main_v3), fun c => Cert.Kernel5Ideal.Gen.W5 m g c (Proc.devRef .tc Cert.Kernel5Ideal.main_v4),
    (θ_run Cert.Kernel5Ideal.defs _ _).mono (fun r h c => ⟨
      h c (Proc.devRef .tc Cert.Kernel5Ideal.main_v0_0) (Cert.Kernel5Ideal.Gen.mem_uc Cert.Kernel5Ideal.main_v0_0 (by decide)),
      h c (Proc.devRef .tc Cert.Kernel5Ideal.main_v2_0) (Cert.Kernel5Ideal.Gen.mem_uc Cert.Kernel5Ideal.main_v2_0 (by decide)),
      h c (Proc.devRef .tc Cert.Kernel5Ideal.main_v2_1) (Cert.Kernel5Ideal.Gen.mem_uc Cert.Kernel5Ideal.main_v2_1 (by decide)),
      h c (Proc.devRef .tc Cert.Kernel5Ideal.main_v2_2) (Cert.Kernel5Ideal.Gen.mem_uc Cert.Kernel5Ideal.main_v2_2 (by decide)),
      h c (Proc.devRef .tc Cert.Kernel5Ideal.main_v2_3) (Cert.Kernel5Ideal.Gen.mem_uc Cert.Kernel5Ideal.main_v2_3 (by decide)),
      h c (Proc.devRef .tc Cert.Kernel5Ideal.main_v3) (Cert.Kernel5Ideal.Gen.mem_uc Cert.Kernel5Ideal.main_v3 (by decide)),
      h c (Proc.devRef .tc Cert.Kernel5Ideal.main_v4) (Cert.Kernel5Ideal.Gen.mem_uc Cert.Kernel5Ideal.main_v4 (by decide)),
      (h c (Proc.devRef .tc Cert.Kernel5Ideal.main_arg0) (Cert.Kernel5Ideal.Gen.mem_uc Cert.Kernel5Ideal.main_arg0 (by decide))).trans (Cert.Kernel5Ideal.Gen.W5_main_arg0 m g c),
      (h c (Proc.devRef .tc Cert.Kernel5Ideal.main_arg1) (Cert.Kernel5Ideal.Gen.mem_uc Cert.Kernel5Ideal.main_arg1 (by decide))).trans (Cert.Kernel5Ideal.Gen.W5_main_arg1 m g c),
      (h c (Proc.devRef .tc Cert.Kernel5Ideal.main_arg2) (Cert.Kernel5Ideal.Gen.mem_uc Cert.Kernel5Ideal.main_arg2 (by decide))).trans (Cert.Kernel5Ideal.Gen.W5_main_arg2 m g c),
      (h c (Proc.devRef .tc Cert.Kernel5Ideal.main_arg3) (Cert.Kernel5Ideal.Gen.mem_uc Cert.Kernel5Ideal.main_arg3 (by decide))).trans (Cert.Kernel5Ideal.Gen.W5_main_arg3 m g c),
      (h c (Proc.devRef .tc Cert.Kernel5Ideal.main_arg4) (Cert.Kernel5Ideal.Gen.mem_uc Cert.Kernel5Ideal.main_arg4 (by decide))).trans (Cert.Kernel5Ideal.Gen.W5_main_arg4 m g c),
      (h c (Proc.devRef .tc Cert.Kernel5Ideal.main_arg5) (Cert.Kernel5Ideal.Gen.mem_uc Cert.Kernel5Ideal.main_arg5 (by decide))).trans (Cert.Kernel5Ideal.Gen.W5_main_arg5 m g c),
      (h c (Proc.devRef .tc Cert.Kernel5Ideal.main_arg6) (Cert.Kernel5Ideal.Gen.mem_uc Cert.Kernel5Ideal.main_arg6 (by decide))).trans (Cert.Kernel5Ideal.Gen.W5_main_arg6 m g c),
      (h c (Proc.devRef .tc Cert.Kernel5Ideal.main_arg7) (Cert.Kernel5Ideal.Gen.mem_uc Cert.Kernel5Ideal.main_arg7 (by decide))).trans (Cert.Kernel5Ideal.Gen.W5_main_arg7 m g c),
      (h c (Proc.devRef .tc Cert.Kernel5Ideal.main_arg8) (Cert.Kernel5Ideal.Gen.mem_uc Cert.Kernel5Ideal.main_arg8 (by decide))).trans (Cert.Kernel5Ideal.Gen.W5_main_arg8 m g c),
      (h c (Proc.devRef .tc Cert.Kernel5Ideal.main_arg9) (Cert.Kernel5Ideal.Gen.mem_uc Cert.Kernel5Ideal.main_arg9 (by decide))).trans (Cert.Kernel5Ideal.Gen.W5_main_arg9 m g c)⟩)
      (Cert.Kernel5Ideal.Body.run m g),
    (θ_run Cert.Reference5Ideal.defs _ _).mono (fun r h c => ?_) (Cert.Reference5Ideal.Value.run m' g')⟩
  obtain ⟨h0, h1, h2, h3, h4, h5, h6, hk⟩ := h c
  obtain ⟨a0, a1, a2, a3, a4, a5, a6, a7, a8, a9⟩ := hagree c
  have ea : headArgs m' c = Cert.Kernel5Ideal.Body.args m c := by
    unfold headArgs; rw [a0, a1, a2, a3, a4, a5, a6, a7, a8, a9]; rfl
  exact ⟨
    (h0.trans (Cert.Reference5Ideal.Read.val_main_v7_eq _)).trans ((Cert.Reference5Ideal.At.v7_eq (m' (c.tc.loc Cert.Reference5Ideal.main_arg0)) (m' (c.tc.loc Cert.Reference5Ideal.main_arg1)) (m' (c.tc.loc Cert.Reference5Ideal.main_arg2)) (m' (c.tc.loc Cert.Reference5Ideal.main_arg3)) (m' (c.tc.loc Cert.Reference5Ideal.main_arg4)) (m' (c.tc.loc Cert.Reference5Ideal.main_arg5)) (m' (c.tc.loc Cert.Reference5Ideal.main_arg6)) (m' (c.tc.loc Cert.Reference5Ideal.main_arg7)) (m' (c.tc.loc Cert.Reference5Ideal.main_arg8)) (m' (c.tc.loc Cert.Reference5Ideal.main_arg9))).trans
      (Eq.trans (congrArg (fun A : Cert.Head.Arg => fun i : (⟨2, ![4096, 1024]⟩ : Shape).Idx => Cert.Head.h3 A (i 0) (i 1)) ea) (Cert.Kernel5Ideal.Body.res0 m g c).symm)),
    (h1.trans (Cert.Reference5Ideal.Read.val_main_v88_eq _)).trans ((Cert.Reference5Ideal.At.v88_eq (m' (c.tc.loc Cert.Reference5Ideal.main_arg0)) (m' (c.tc.loc Cert.Reference5Ideal.main_arg1)) (m' (c.tc.loc Cert.Reference5Ideal.main_arg2)) (m' (c.tc.loc Cert.Reference5Ideal.main_arg3)) (m' (c.tc.loc Cert.Reference5Ideal.main_arg4)) (m' (c.tc.loc Cert.Reference5Ideal.main_arg5)) (m' (c.tc.loc Cert.Reference5Ideal.main_arg6)) (m' (c.tc.loc Cert.Reference5Ideal.main_arg7)) (m' (c.tc.loc Cert.Reference5Ideal.main_arg8)) (m' (c.tc.loc Cert.Reference5Ideal.main_arg9))).trans
      (Eq.trans (congrArg (fun A : Cert.Head.Arg => fun i : (⟨2, ![8, 128]⟩ : Shape).Idx => Cert.Head.loss A) ea) (Cert.Kernel5Ideal.Body.res1 m g c).symm)),
    (h2.trans (Cert.Reference5Ideal.Read.val_main_v87_eq _)).trans ((Cert.Reference5Ideal.At.v87_eq (m' (c.tc.loc Cert.Reference5Ideal.main_arg0)) (m' (c.tc.loc Cert.Reference5Ideal.main_arg1)) (m' (c.tc.loc Cert.Reference5Ideal.main_arg2)) (m' (c.tc.loc Cert.Reference5Ideal.main_arg3)) (m' (c.tc.loc Cert.Reference5Ideal.main_arg4)) (m' (c.tc.loc Cert.Reference5Ideal.main_arg5)) (m' (c.tc.loc Cert.Reference5Ideal.main_arg6)) (m' (c.tc.loc Cert.Reference5Ideal.main_arg7)) (m' (c.tc.loc Cert.Reference5Ideal.main_arg8)) (m' (c.tc.loc Cert.Reference5Ideal.main_arg9))).trans
      (Eq.trans (congrArg (fun A : Cert.Head.Arg => fun i : (⟨2, ![4096, 1024]⟩ : Shape).Idx => Cert.Head.dH4 A (i 0) (i 1)) ea) (Cert.Kernel5Ideal.Body.res2 m g c).symm)),
    (h3.trans (Cert.Reference5Ideal.Read.val_main_v89_eq _)).trans ((Cert.Reference5Ideal.At.v89_eq (m' (c.tc.loc Cert.Reference5Ideal.main_arg0)) (m' (c.tc.loc Cert.Reference5Ideal.main_arg1)) (m' (c.tc.loc Cert.Reference5Ideal.main_arg2)) (m' (c.tc.loc Cert.Reference5Ideal.main_arg3)) (m' (c.tc.loc Cert.Reference5Ideal.main_arg4)) (m' (c.tc.loc Cert.Reference5Ideal.main_arg5)) (m' (c.tc.loc Cert.Reference5Ideal.main_arg6)) (m' (c.tc.loc Cert.Reference5Ideal.main_arg7)) (m' (c.tc.loc Cert.Reference5Ideal.main_arg8)) (m' (c.tc.loc Cert.Reference5Ideal.main_arg9))).trans
      (Eq.trans (congrArg (fun A : Cert.Head.Arg => fun i : (⟨2, ![4096, 1024]⟩ : Shape).Idx => Cert.Head.dH4 A (i 0) (i 1)) ea) (Cert.Kernel5Ideal.Body.res3 m g c).symm)),
    (h4.trans (Cert.Reference5Ideal.Read.val_main_v90_eq _)).trans ((Cert.Reference5Ideal.At.v90_eq (m' (c.tc.loc Cert.Reference5Ideal.main_arg0)) (m' (c.tc.loc Cert.Reference5Ideal.main_arg1)) (m' (c.tc.loc Cert.Reference5Ideal.main_arg2)) (m' (c.tc.loc Cert.Reference5Ideal.main_arg3)) (m' (c.tc.loc Cert.Reference5Ideal.main_arg4)) (m' (c.tc.loc Cert.Reference5Ideal.main_arg5)) (m' (c.tc.loc Cert.Reference5Ideal.main_arg6)) (m' (c.tc.loc Cert.Reference5Ideal.main_arg7)) (m' (c.tc.loc Cert.Reference5Ideal.main_arg8)) (m' (c.tc.loc Cert.Reference5Ideal.main_arg9))).trans
      (Eq.trans (congrArg (fun A : Cert.Head.Arg => fun i : (⟨2, ![1, 1024]⟩ : Shape).Idx => Cert.Head.dGain A (i 1)) ea) (Cert.Kernel5Ideal.Body.res4 m g c).symm)),
    (h5.trans (Cert.Reference5Ideal.Read.val_main_v91_eq _)).trans ((Cert.Reference5Ideal.At.v91_eq (m' (c.tc.loc Cert.Reference5Ideal.main_arg0)) (m' (c.tc.loc Cert.Reference5Ideal.main_arg1)) (m' (c.tc.loc Cert.Reference5Ideal.main_arg2)) (m' (c.tc.loc Cert.Reference5Ideal.main_arg3)) (m' (c.tc.loc Cert.Reference5Ideal.main_arg4)) (m' (c.tc.loc Cert.Reference5Ideal.main_arg5)) (m' (c.tc.loc Cert.Reference5Ideal.main_arg6)) (m' (c.tc.loc Cert.Reference5Ideal.main_arg7)) (m' (c.tc.loc Cert.Reference5Ideal.main_arg8)) (m' (c.tc.loc Cert.Reference5Ideal.main_arg9))).trans
      (Eq.trans (congrArg (fun A : Cert.Head.Arg => fun i : (⟨2, ![1024, 1024]⟩ : Shape).Idx => Cert.Head.gOut A (i 0) (i 1)) ea) (Cert.Kernel5Ideal.Body.res5 m g c).symm)),
    (h6.trans (Cert.Reference5Ideal.Read.val_main_v11_eq _)).trans ((Cert.Reference5Ideal.At.v11_eq (m' (c.tc.loc Cert.Reference5Ideal.main_arg0)) (m' (c.tc.loc Cert.Reference5Ideal.main_arg1)) (m' (c.tc.loc Cert.Reference5Ideal.main_arg2)) (m' (c.tc.loc Cert.Reference5Ideal.main_arg3)) (m' (c.tc.loc Cert.Reference5Ideal.main_arg4)) (m' (c.tc.loc Cert.Reference5Ideal.main_arg5)) (m' (c.tc.loc Cert.Reference5Ideal.main_arg6)) (m' (c.tc.loc Cert.Reference5Ideal.main_arg7)) (m' (c.tc.loc Cert.Reference5Ideal.main_arg8)) (m' (c.tc.loc Cert.Reference5Ideal.main_arg9))).trans
      (Eq.trans (congrArg (fun A : Cert.Head.Arg => fun i : (⟨2, ![4096, 1024]⟩ : Shape).Idx => Cert.Head.dAttn A (i 0) (i 1)) ea) (Cert.Kernel5Ideal.Body.res6 m g c).symm)), hk⟩

/-- The reference of the gradients of the attention's input projection ends with its arguments as they were, and with every counter
    at zero. -/
theorem frame_reference6 : Cert.quiescent_Reference6Ideal := fun m g _ =>
  (θ_run Cert.Reference6Ideal.defs _ _).mono
    (fun r h => ⟨fun c => (h c).2.2.2.2.2.2, sem_eq_zero_of_no_sems (by decide) r.2⟩)
    (Cert.Reference6Ideal.Value.run m g)

/-- The arguments of that reference. -/
abbrev qkvArgs (m' : (ℓ : Loc Cert.Reference6Ideal.nD Cert.Reference6Ideal.τ Cert.Reference6Ideal.sig) → Buf (Elt Ideal) ℓ)
    (c : Dev Cert.Reference6Ideal.nD) : Cert.Qkv.Arg :=
  Cert.Qkv.argOf (m' (c.tc.loc Cert.Reference6Ideal.main_arg0)) (m' (c.tc.loc Cert.Reference6Ideal.main_arg1)) (m' (c.tc.loc Cert.Reference6Ideal.main_arg2)) (m' (c.tc.loc Cert.Reference6Ideal.main_arg3)) (m' (c.tc.loc Cert.Reference6Ideal.main_arg4)) (m' (c.tc.loc Cert.Reference6Ideal.main_arg5)) (m' (c.tc.loc Cert.Reference6Ideal.main_arg6)) (m' (c.tc.loc Cert.Reference6Ideal.main_arg7))

/-- From equal arguments, the kernels and the reference end with the same six arrays over the extended reals: the gradients of the
    input projection's weight and bias, of the residual stream and of the norm's gain, the column sums of the residual stream's
    gradient, and the gradient of the hidden columns of layer 0's MLP. -/
theorem algebraic6 : Cert.algebraic_Kernel6Ideal_Reference6Ideal := by
  intro m g m' g' _ hagree
  refine ⟨fun c => Cert.Kernel6Ideal.Gen.W4 m g c (Proc.devRef .tc Cert.Kernel6Ideal.main_v13_0), fun c => Cert.Kernel6Ideal.Gen.W4 m g c (Proc.devRef .tc Cert.Kernel6Ideal.main_v13_1), fun c => Cert.Kernel6Ideal.Gen.W4 m g c (Proc.devRef .tc Cert.Kernel6Ideal.main_v14_0), fun c => Cert.Kernel6Ideal.Gen.W4 m g c (Proc.devRef .tc Cert.Kernel6Ideal.main_v14_2), fun c => Cert.Kernel6Ideal.Gen.W4 m g c (Proc.devRef .tc Cert.Kernel6Ideal.main_v14_3), fun c => Cert.Kernel6Ideal.Gen.W4 m g c (Proc.devRef .tc Cert.Kernel6Ideal.main_v15),
    (θ_run Cert.Kernel6Ideal.defs _ _).mono (fun r h c => ⟨
      h c (Proc.devRef .tc Cert.Kernel6Ideal.main_v13_0) (Cert.Kernel6Ideal.Gen.mem_uc Cert.Kernel6Ideal.main_v13_0 (by decide)),
      h c (Proc.devRef .tc Cert.Kernel6Ideal.main_v13_1) (Cert.Kernel6Ideal.Gen.mem_uc Cert.Kernel6Ideal.main_v13_1 (by decide)),
      h c (Proc.devRef .tc Cert.Kernel6Ideal.main_v14_0) (Cert.Kernel6Ideal.Gen.mem_uc Cert.Kernel6Ideal.main_v14_0 (by decide)),
      h c (Proc.devRef .tc Cert.Kernel6Ideal.main_v14_2) (Cert.Kernel6Ideal.Gen.mem_uc Cert.Kernel6Ideal.main_v14_2 (by decide)),
      h c (Proc.devRef .tc Cert.Kernel6Ideal.main_v14_3) (Cert.Kernel6Ideal.Gen.mem_uc Cert.Kernel6Ideal.main_v14_3 (by decide)),
      h c (Proc.devRef .tc Cert.Kernel6Ideal.main_v15) (Cert.Kernel6Ideal.Gen.mem_uc Cert.Kernel6Ideal.main_v15 (by decide)),
      (h c (Proc.devRef .tc Cert.Kernel6Ideal.main_arg0) (Cert.Kernel6Ideal.Gen.mem_uc Cert.Kernel6Ideal.main_arg0 (by decide))).trans (Cert.Kernel6Ideal.Gen.W4_main_arg0 m g c),
      (h c (Proc.devRef .tc Cert.Kernel6Ideal.main_arg1) (Cert.Kernel6Ideal.Gen.mem_uc Cert.Kernel6Ideal.main_arg1 (by decide))).trans (Cert.Kernel6Ideal.Gen.W4_main_arg1 m g c),
      (h c (Proc.devRef .tc Cert.Kernel6Ideal.main_arg2) (Cert.Kernel6Ideal.Gen.mem_uc Cert.Kernel6Ideal.main_arg2 (by decide))).trans (Cert.Kernel6Ideal.Gen.W4_main_arg2 m g c),
      (h c (Proc.devRef .tc Cert.Kernel6Ideal.main_arg3) (Cert.Kernel6Ideal.Gen.mem_uc Cert.Kernel6Ideal.main_arg3 (by decide))).trans (Cert.Kernel6Ideal.Gen.W4_main_arg3 m g c),
      (h c (Proc.devRef .tc Cert.Kernel6Ideal.main_arg4) (Cert.Kernel6Ideal.Gen.mem_uc Cert.Kernel6Ideal.main_arg4 (by decide))).trans (Cert.Kernel6Ideal.Gen.W4_main_arg4 m g c),
      (h c (Proc.devRef .tc Cert.Kernel6Ideal.main_arg5) (Cert.Kernel6Ideal.Gen.mem_uc Cert.Kernel6Ideal.main_arg5 (by decide))).trans (Cert.Kernel6Ideal.Gen.W4_main_arg5 m g c),
      (h c (Proc.devRef .tc Cert.Kernel6Ideal.main_arg6) (Cert.Kernel6Ideal.Gen.mem_uc Cert.Kernel6Ideal.main_arg6 (by decide))).trans (Cert.Kernel6Ideal.Gen.W4_main_arg6 m g c),
      (h c (Proc.devRef .tc Cert.Kernel6Ideal.main_arg7) (Cert.Kernel6Ideal.Gen.mem_uc Cert.Kernel6Ideal.main_arg7 (by decide))).trans (Cert.Kernel6Ideal.Gen.W4_main_arg7 m g c)⟩)
      (Cert.Kernel6Ideal.Body.run m g),
    (θ_run Cert.Reference6Ideal.defs _ _).mono (fun r h c => ?_) (Cert.Reference6Ideal.Value.run m' g')⟩
  obtain ⟨h0, h1, h2, h3, h4, h5, hk⟩ := h c
  obtain ⟨a0, a1, a2, a3, a4, a5, a6, a7⟩ := hagree c
  have ea : qkvArgs m' c = Cert.Kernel6Ideal.Body.args m c := by
    unfold qkvArgs; rw [a0, a1, a2, a3, a4, a5, a6, a7]; rfl
  exact ⟨
    (h0.trans (Cert.Reference6Ideal.Read.val_main_v69_eq (m' (c.tc.loc Cert.Reference6Ideal.main_arg0)) (m' (c.tc.loc Cert.Reference6Ideal.main_arg1)) (m' (c.tc.loc Cert.Reference6Ideal.main_arg2)))).trans ((Cert.Reference6Ideal.At.v69_eq (m' (c.tc.loc Cert.Reference6Ideal.main_arg0)) (m' (c.tc.loc Cert.Reference6Ideal.main_arg1)) (m' (c.tc.loc Cert.Reference6Ideal.main_arg2)) (m' (c.tc.loc Cert.Reference6Ideal.main_arg3)) (m' (c.tc.loc Cert.Reference6Ideal.main_arg4)) (m' (c.tc.loc Cert.Reference6Ideal.main_arg5)) (m' (c.tc.loc Cert.Reference6Ideal.main_arg6)) (m' (c.tc.loc Cert.Reference6Ideal.main_arg7))).trans
      (Eq.trans (congrArg (fun A : Cert.Qkv.Arg => fun i : (⟨2, ![1280, 1024]⟩ : Shape).Idx => Cert.Qkv.gW A (i 0) (i 1)) ea) (Cert.Kernel6Ideal.Body.res0 m g c).symm)),
    (h1.trans (Cert.Reference6Ideal.Read.val_main_v70_eq (m' (c.tc.loc Cert.Reference6Ideal.main_arg0)))).trans ((Cert.Reference6Ideal.At.v70_eq (m' (c.tc.loc Cert.Reference6Ideal.main_arg0)) (m' (c.tc.loc Cert.Reference6Ideal.main_arg1)) (m' (c.tc.loc Cert.Reference6Ideal.main_arg2)) (m' (c.tc.loc Cert.Reference6Ideal.main_arg3)) (m' (c.tc.loc Cert.Reference6Ideal.main_arg4)) (m' (c.tc.loc Cert.Reference6Ideal.main_arg5)) (m' (c.tc.loc Cert.Reference6Ideal.main_arg6)) (m' (c.tc.loc Cert.Reference6Ideal.main_arg7))).trans
      (Eq.trans (congrArg (fun A : Cert.Qkv.Arg => fun i : (⟨2, ![1, 1280]⟩ : Shape).Idx => Cert.Qkv.gB A (i 1)) ea) (Cert.Kernel6Ideal.Body.res1 m g c).symm)),
    (h2.trans (Cert.Reference6Ideal.Read.val_main_v52_eq _ c)).trans ((Cert.Reference6Ideal.At.v52_eq (m' (c.tc.loc Cert.Reference6Ideal.main_arg0)) (m' (c.tc.loc Cert.Reference6Ideal.main_arg1)) (m' (c.tc.loc Cert.Reference6Ideal.main_arg2)) (m' (c.tc.loc Cert.Reference6Ideal.main_arg3)) (m' (c.tc.loc Cert.Reference6Ideal.main_arg4)) (m' (c.tc.loc Cert.Reference6Ideal.main_arg5)) (m' (c.tc.loc Cert.Reference6Ideal.main_arg6)) (m' (c.tc.loc Cert.Reference6Ideal.main_arg7))).trans
      (Eq.trans (congrArg (fun A : Cert.Qkv.Arg => fun i : (⟨2, ![4096, 1024]⟩ : Shape).Idx => Cert.Qkv.dH A (i 0) (i 1)) ea) (Cert.Kernel6Ideal.Body.res2 m g c).symm)),
    (h3.trans (Cert.Reference6Ideal.Read.val_main_v71_eq (m' (c.tc.loc Cert.Reference6Ideal.main_arg0)) (m' (c.tc.loc Cert.Reference6Ideal.main_arg1)) (m' (c.tc.loc Cert.Reference6Ideal.main_arg3)))).trans ((Cert.Reference6Ideal.At.v71_eq (m' (c.tc.loc Cert.Reference6Ideal.main_arg0)) (m' (c.tc.loc Cert.Reference6Ideal.main_arg1)) (m' (c.tc.loc Cert.Reference6Ideal.main_arg2)) (m' (c.tc.loc Cert.Reference6Ideal.main_arg3)) (m' (c.tc.loc Cert.Reference6Ideal.main_arg4)) (m' (c.tc.loc Cert.Reference6Ideal.main_arg5)) (m' (c.tc.loc Cert.Reference6Ideal.main_arg6)) (m' (c.tc.loc Cert.Reference6Ideal.main_arg7))).trans
      (Eq.trans (congrArg (fun A : Cert.Qkv.Arg => fun i : (⟨2, ![1, 1024]⟩ : Shape).Idx => Cert.Qkv.dGain A (i 1)) ea) (Cert.Kernel6Ideal.Body.res3 m g c).symm)),
    (h4.trans (Cert.Reference6Ideal.Read.val_main_v73_eq _ c)).trans ((Cert.Reference6Ideal.At.v73_eq (m' (c.tc.loc Cert.Reference6Ideal.main_arg0)) (m' (c.tc.loc Cert.Reference6Ideal.main_arg1)) (m' (c.tc.loc Cert.Reference6Ideal.main_arg2)) (m' (c.tc.loc Cert.Reference6Ideal.main_arg3)) (m' (c.tc.loc Cert.Reference6Ideal.main_arg4)) (m' (c.tc.loc Cert.Reference6Ideal.main_arg5)) (m' (c.tc.loc Cert.Reference6Ideal.main_arg6)) (m' (c.tc.loc Cert.Reference6Ideal.main_arg7))).trans
      (Eq.trans (congrArg (fun A : Cert.Qkv.Arg => fun i : (⟨2, ![1, 1024]⟩ : Shape).Idx => Cert.Qkv.colSum A (i 1)) ea) (Cert.Kernel6Ideal.Body.res4 m g c).symm)),
    (h5.trans (Cert.Reference6Ideal.Read.val_main_v74_eq _ c)).trans ((Cert.Reference6Ideal.At.v74_eq (m' (c.tc.loc Cert.Reference6Ideal.main_arg0)) (m' (c.tc.loc Cert.Reference6Ideal.main_arg1)) (m' (c.tc.loc Cert.Reference6Ideal.main_arg2)) (m' (c.tc.loc Cert.Reference6Ideal.main_arg3)) (m' (c.tc.loc Cert.Reference6Ideal.main_arg4)) (m' (c.tc.loc Cert.Reference6Ideal.main_arg5)) (m' (c.tc.loc Cert.Reference6Ideal.main_arg6)) (m' (c.tc.loc Cert.Reference6Ideal.main_arg7))).trans
      (Eq.trans (congrArg (fun A : Cert.Qkv.Arg => fun i : (⟨2, ![4096, 4096]⟩ : Shape).Idx => Cert.Qkv.dUp A (i 0) (i 1)) ea) (Cert.Kernel6Ideal.Body.res5 m g c).symm)), hk⟩

/-- The gating's forward reference ends with its arguments as they were, and with every counter at zero. -/
theorem frame_reference7 : Cert.quiescent_Reference7Ideal := fun m g _ =>
  (θ_run Cert.Reference7Ideal.defs _ _).mono
    (fun r h => ⟨fun c => (h c).2, sem_eq_zero_of_no_sems (by decide) r.2⟩)
    (Cert.Reference7Ideal.Value.run m g)

/-- From equal arguments, the kernel's gating and the plain one end with the same array over the extended reals. -/
theorem algebraic7 : Cert.algebraic_Kernel7Ideal_Reference7Ideal := by
  intro m g m' g' _ hagree
  refine ⟨fun c => Cert.Kernel7Ideal.Body.res m c,
    (θ_run Cert.Kernel7Ideal.defs _ _).mono (fun r h c => ⟨?_, h.2 c⟩)
      (θ_run_and (Cert.Kernel7Ideal.Gen.run_main m g) (Cert.Kernel7Ideal.Gen.unchanged m g)),
    (θ_run Cert.Reference7Ideal.defs _ _).mono (fun r h c => ⟨?_, (h c).2⟩) (Cert.Reference7Ideal.Value.run m' g')⟩
  · exact ((h.1 c).2 Cert.Kernel7Ideal.main_v4 (Pipeline.mem_restRefs_of Cert.Kernel7Ideal.main_v4 (by decide) (by decide))).trans
      (Cert.Kernel7Ideal.Body.tail m c)
  · obtain ⟨a0, a1, a2, a3, a4⟩ := hagree c
    have ea : Cert.Gmlp.argOf (m' (c.tc.loc Cert.Reference7Ideal.main_arg0)) (fun _ => 0) (m' (c.tc.loc Cert.Reference7Ideal.main_arg1))
        (m' (c.tc.loc Cert.Reference7Ideal.main_arg2)) (m' (c.tc.loc Cert.Reference7Ideal.main_arg3))
        (m' (c.tc.loc Cert.Reference7Ideal.main_arg4)) = Cert.Kernel7Ideal.Body.args m c := by
      rw [a0, a1, a2, a3, a4]
    refine ((h c).1.trans (Cert.Reference7Ideal.Read.val_main_v70_eq _ _)).trans ((Cert.Reference7Ideal.At.v70_eq _ _ _ _ _).trans ?_)
    exact congrArg (fun A : Fin 32 → Cert.Gmlp.Arg => fun i : (⟨2, ![4096, 1024]⟩ : Shape).Idx =>
      Cert.Gmlp.gel ((A ⟨(i 0).val / 128, by have := (i 0).isLt; simp at this; omega⟩).u ⟨(i 0).val % 128, Nat.mod_lt _ (by norm_num)⟩ (i 1))
        * Cert.Gmlp.mix (A ⟨(i 0).val / 128, by have := (i 0).isLt; simp at this; omega⟩) ⟨(i 0).val % 128, Nat.mod_lt _ (by norm_num)⟩ (i 1)) ea

/-- The reference of the weight's update ends with its arguments as they were, and with every counter at zero. -/
theorem frame_reference8 : Cert.quiescent_Reference8Ideal := fun m g _ =>
  (θ_run Cert.Reference8Ideal.defs _ _).mono
    (fun r h => ⟨fun c => (h c).2.2.2.2, sem_eq_zero_of_no_sems (by decide) r.2⟩)
    (Cert.Reference8Ideal.Value.run m g)

/-- From equal arguments, the kernel's update of the weight and the plain one end with the same four arrays over the extended
    reals: the gradient, the step and the two moments. -/
theorem algebraic8 : Cert.algebraic_Kernel8Ideal_Reference8Ideal := by
  intro m g m' g' _ hagree
  refine ⟨fun c => (Cert.Kernel8Ideal.Gen.dats m 0 c).arrAt 4 Cert.Kernel8Ideal.cfg0.N,
    fun c => (Cert.Kernel8Ideal.Gen.dats m 0 c).arrAt 5 Cert.Kernel8Ideal.cfg0.N,
    fun c => (Cert.Kernel8Ideal.Gen.dats m 0 c).arrAt 6 Cert.Kernel8Ideal.cfg0.N,
    fun c => (Cert.Kernel8Ideal.Gen.dats m 0 c).arrAt 7 Cert.Kernel8Ideal.cfg0.N,
    (θ_run Cert.Kernel8Ideal.defs _ _).mono (fun r h c => ⟨(h.1 c).1 4, (h.1 c).1 5, (h.1 c).1 6, (h.1 c).1 7, h.2 c⟩)
      (θ_run_and (Cert.Kernel8Ideal.Gen.run_main m g) (Cert.Kernel8Ideal.Gen.unchanged m g)),
    (θ_run Cert.Reference8Ideal.defs _ _).mono (fun r h c => ?_) (Cert.Reference8Ideal.Value.run m' g')⟩
  obtain ⟨h0, h1, h2, h3, hk⟩ := h c
  obtain ⟨a0, a1, a2, a3⟩ := hagree c
  refine ⟨(h0.trans (Cert.Reference8Ideal.Read.val_main_v2_eq _)).trans (Eq.trans ?_ (Cert.Kernel8Ideal.Body.final4 m c).symm),
    (h1.trans (Cert.Reference8Ideal.Read.val_main_v26_eq _ _ _ _)).trans (Eq.trans ?_ (Cert.Kernel8Ideal.Body.final5 m c).symm),
    (h2.trans (Cert.Reference8Ideal.Read.val_main_v7_eq _ _)).trans (Eq.trans ?_ (Cert.Kernel8Ideal.Body.final6 m c).symm),
    (h3.trans (Cert.Reference8Ideal.Read.val_main_v13_eq _ _)).trans (Eq.trans ?_ (Cert.Kernel8Ideal.Body.final7 m c).symm), hk⟩
  · rw [a0]; funext y; obtain ⟨r, k, rfl⟩ := Cert.Kernel8Ideal.Body.ix_one y
    exact Cert.Reference8Ideal.At.v2_at _ r k
  · rw [a0, a1, a2, a3]; funext y; obtain ⟨r, k, rfl⟩ := Cert.Kernel8Ideal.Body.ix_one y
    exact Cert.Reference8Ideal.At.v26_at _ _ _ _ r k
  · rw [a0, a2]; funext y; obtain ⟨r, k, rfl⟩ := Cert.Kernel8Ideal.Body.ix_one y
    exact Cert.Reference8Ideal.At.v7_at _ _ r k
  · rw [a0, a3]; funext y; obtain ⟨r, k, rfl⟩ := Cert.Kernel8Ideal.Body.ix_one y
    exact Cert.Reference8Ideal.At.v13_at _ _ r k

/-- All the claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  fun m g _ => Cert.Kernel.Gen.frame m g, fun m g _ => Cert.KernelIdeal.Gen.frame m g, frame_reference,
  fun m g _ => Cert.Kernel2.Gen.frame m g, fun m g _ => Cert.Kernel2Ideal.Gen.frame m g, frame_reference2,
  fun m g _ => Cert.Kernel3.Gen.frame m g, fun m g _ => Cert.Kernel3Ideal.Gen.frame m g, frame_reference3,
  fun m g _ => Cert.Kernel4.Gen.frame m g, fun m g _ => Cert.Kernel4Ideal.Gen.frame m g, frame_reference4,
  fun m g _ => Cert.Kernel5.Gen.frame m g, fun m g _ => Cert.Kernel5Ideal.Gen.frame m g, frame_reference5,
  fun m g _ => Cert.Kernel6.Gen.frame m g, fun m g _ => Cert.Kernel6Ideal.Gen.frame m g, frame_reference6,
  fun m g _ => Cert.Kernel7.Gen.frame m g, fun m g _ => Cert.Kernel7Ideal.Gen.frame m g, frame_reference7,
  fun m g _ => Cert.Kernel8.Gen.frame m g, fun m g _ => Cert.Kernel8Ideal.Gen.frame m g, frame_reference8,
  trivial, algebraic, trivial, algebraic2, trivial, algebraic3, trivial, algebraic4,
  trivial, algebraic5, trivial, algebraic6, trivial, algebraic7, trivial, algebraic8⟩

end Cert.Proof

end
